-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_MlpDu (m : (ℓ : Loc Cert.MlpDu.nD Cert.MlpDu.τ Cert.MlpDu.sig) → Buf (Elt Bits) ℓ) : Prop :=
  True

def Pre_MlpDuIdeal (m : (ℓ : Loc Cert.MlpDuIdeal.nD Cert.MlpDuIdeal.τ Cert.MlpDuIdeal.sig) → Buf (Elt Ideal) ℓ) : Prop :=
  True

def Pre_MlpDuReferenceIdeal (m : (ℓ : Loc Cert.MlpDuReferenceIdeal.nD Cert.MlpDuReferenceIdeal.τ Cert.MlpDuReferenceIdeal.sig) → Buf (Elt Ideal) ℓ) : Prop :=
  True

def Pre_MlpDh (m : (ℓ : Loc Cert.MlpDh.nD Cert.MlpDh.τ Cert.MlpDh.sig) → Buf (Elt Bits) ℓ) : Prop :=
  True

def Pre_MlpDhIdeal (m : (ℓ : Loc Cert.MlpDhIdeal.nD Cert.MlpDhIdeal.τ Cert.MlpDhIdeal.sig) → Buf (Elt Ideal) ℓ) : Prop :=
  True

def Pre_MlpDhReferenceIdeal (m : (ℓ : Loc Cert.MlpDhReferenceIdeal.nD Cert.MlpDhReferenceIdeal.τ Cert.MlpDhReferenceIdeal.sig) → Buf (Elt Ideal) ℓ) : Prop :=
  True

def Pre_MlpDwOne (m : (ℓ : Loc Cert.MlpDwOne.nD Cert.MlpDwOne.τ Cert.MlpDwOne.sig) → Buf (Elt Bits) ℓ) : Prop :=
  True

def Pre_MlpDwOneIdeal (m : (ℓ : Loc Cert.MlpDwOneIdeal.nD Cert.MlpDwOneIdeal.τ Cert.MlpDwOneIdeal.sig) → Buf (Elt Ideal) ℓ) : Prop :=
  True

def Pre_MlpDwOneReferenceIdeal (m : (ℓ : Loc Cert.MlpDwOneReferenceIdeal.nD Cert.MlpDwOneReferenceIdeal.τ Cert.MlpDwOneReferenceIdeal.sig) → Buf (Elt Ideal) ℓ) : Prop :=
  True

def Pre_MlpDwTwo (m : (ℓ : Loc Cert.MlpDwTwo.nD Cert.MlpDwTwo.τ Cert.MlpDwTwo.sig) → Buf (Elt Bits) ℓ) : Prop :=
  True

def Pre_MlpDwTwoIdeal (m : (ℓ : Loc Cert.MlpDwTwoIdeal.nD Cert.MlpDwTwoIdeal.τ Cert.MlpDwTwoIdeal.sig) → Buf (Elt Ideal) ℓ) : Prop :=
  True

def Pre_MlpDwTwoReferenceIdeal (m : (ℓ : Loc Cert.MlpDwTwoReferenceIdeal.nD Cert.MlpDwTwoReferenceIdeal.τ Cert.MlpDwTwoReferenceIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpReferenceIdeal (m : (ℓ : Loc Cert.MlpUpReferenceIdeal.nD Cert.MlpUpReferenceIdeal.τ Cert.MlpUpReferenceIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_MixDo (m : (ℓ : Loc Cert.MixDo.nD Cert.MixDo.τ Cert.MixDo.sig) → Buf (Elt Bits) ℓ) : Prop :=
  True

def Pre_MixDoIdeal (m : (ℓ : Loc Cert.MixDoIdeal.nD Cert.MixDoIdeal.τ Cert.MixDoIdeal.sig) → Buf (Elt Ideal) ℓ) : Prop :=
  True

def Pre_MixDoReferenceIdeal (m : (ℓ : Loc Cert.MixDoReferenceIdeal.nD Cert.MixDoReferenceIdeal.τ Cert.MixDoReferenceIdeal.sig) → Buf (Elt Ideal) ℓ) : Prop :=
  True

def Pre_MixDwOut (m : (ℓ : Loc Cert.MixDwOut.nD Cert.MixDwOut.τ Cert.MixDwOut.sig) → Buf (Elt Bits) ℓ) : Prop :=
  True

def Pre_MixDwOutIdeal (m : (ℓ : Loc Cert.MixDwOutIdeal.nD Cert.MixDwOutIdeal.τ Cert.MixDwOutIdeal.sig) → Buf (Elt Ideal) ℓ) : Prop :=
  True

def Pre_MixDwOutReferenceIdeal (m : (ℓ : Loc Cert.MixDwOutReferenceIdeal.nD Cert.MixDwOutReferenceIdeal.τ Cert.MixDwOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_SbDh (m : (ℓ : Loc Cert.SbDh.nD Cert.SbDh.τ Cert.SbDh.sig) → Buf (Elt Bits) ℓ) : Prop :=
  True

def Pre_SbDhIdeal (m : (ℓ : Loc Cert.SbDhIdeal.nD Cert.SbDhIdeal.τ Cert.SbDhIdeal.sig) → Buf (Elt Ideal) ℓ) : Prop :=
  True

def Pre_SbDhReferenceIdeal (m : (ℓ : Loc Cert.SbDhReferenceIdeal.nD Cert.SbDhReferenceIdeal.τ Cert.SbDhReferenceIdeal.sig) → Buf (Elt Ideal) ℓ) : Prop :=
  True

def Pre_SbDwIn (m : (ℓ : Loc Cert.SbDwIn.nD Cert.SbDwIn.τ Cert.SbDwIn.sig) → Buf (Elt Bits) ℓ) : Prop :=
  True

def Pre_SbDwInIdeal (m : (ℓ : Loc Cert.SbDwInIdeal.nD Cert.SbDwInIdeal.τ Cert.SbDwInIdeal.sig) → Buf (Elt Ideal) ℓ) : Prop :=
  True

def Pre_SbDwInReferenceIdeal (m : (ℓ : Loc Cert.SbDwInReferenceIdeal.nD Cert.SbDwInReferenceIdeal.τ Cert.SbDwInReferenceIdeal.sig) → Buf (Elt Ideal) ℓ) : Prop :=
  True

def Pre_SbProj (m : (ℓ : Loc Cert.SbProj.nD Cert.SbProj.τ Cert.SbProj.sig) → Buf (Elt Bits) ℓ) : Prop :=
  True

def Pre_SbProjIdeal (m : (ℓ : Loc Cert.SbProjIdeal.nD Cert.SbProjIdeal.τ Cert.SbProjIdeal.sig) → Buf (Elt Ideal) ℓ) : Prop :=
  True

def Pre_SbProjReferenceIdeal (m : (ℓ : Loc Cert.SbProjReferenceIdeal.nD Cert.SbProjReferenceIdeal.τ Cert.SbProjReferenceIdeal.sig) → Buf (Elt Ideal) ℓ) : Prop :=
  True

def Pre_FoxDh (m : (ℓ : Loc Cert.FoxDh.nD Cert.FoxDh.τ Cert.FoxDh.sig) → Buf (Elt Bits) ℓ) : Prop :=
  True

def Pre_FoxDhIdeal (m : (ℓ : Loc Cert.FoxDhIdeal.nD Cert.FoxDhIdeal.τ Cert.FoxDhIdeal.sig) → Buf (Elt Ideal) ℓ) : Prop :=
  True

def Pre_FoxDhReferenceIdeal (m : (ℓ : Loc Cert.FoxDhReferenceIdeal.nD Cert.FoxDhReferenceIdeal.τ Cert.FoxDhReferenceIdeal.sig) → Buf (Elt Ideal) ℓ) : Prop :=
  True

def Pre_FoxDwIn (m : (ℓ : Loc Cert.FoxDwIn.nD Cert.FoxDwIn.τ Cert.FoxDwIn.sig) → Buf (Elt Bits) ℓ) : Prop :=
  True

def Pre_FoxDwInIdeal (m : (ℓ : Loc Cert.FoxDwInIdeal.nD Cert.FoxDwInIdeal.τ Cert.FoxDwInIdeal.sig) → Buf (Elt Ideal) ℓ) : Prop :=
  True

def Pre_FoxDwInReferenceIdeal (m : (ℓ : Loc Cert.FoxDwInReferenceIdeal.nD Cert.FoxDwInReferenceIdeal.τ Cert.FoxDwInReferenceIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjReferenceIdeal (m : (ℓ : Loc Cert.FoxProjReferenceIdeal.nD Cert.FoxProjReferenceIdeal.τ Cert.FoxProjReferenceIdeal.sig) → Buf (Elt Ideal) ℓ) : Prop :=
  True

def Pre_MlaDh (m : (ℓ : Loc Cert.MlaDh.nD Cert.MlaDh.τ Cert.MlaDh.sig) → Buf (Elt Bits) ℓ) : Prop :=
  True

def Pre_MlaDhIdeal (m : (ℓ : Loc Cert.MlaDhIdeal.nD Cert.MlaDhIdeal.τ Cert.MlaDhIdeal.sig) → Buf (Elt Ideal) ℓ) : Prop :=
  True

def Pre_MlaDhReferenceIdeal (m : (ℓ : Loc Cert.MlaDhReferenceIdeal.nD Cert.MlaDhReferenceIdeal.τ Cert.MlaDhReferenceIdeal.sig) → Buf (Elt Ideal) ℓ) : Prop :=
  True

def Pre_MlaDwIn (m : (ℓ : Loc Cert.MlaDwIn.nD Cert.MlaDwIn.τ Cert.MlaDwIn.sig) → Buf (Elt Bits) ℓ) : Prop :=
  True

def Pre_MlaDwInIdeal (m : (ℓ : Loc Cert.MlaDwInIdeal.nD Cert.MlaDwInIdeal.τ Cert.MlaDwInIdeal.sig) → Buf (Elt Ideal) ℓ) : Prop :=
  True

def Pre_MlaDwInReferenceIdeal (m : (ℓ : Loc Cert.MlaDwInReferenceIdeal.nD Cert.MlaDwInReferenceIdeal.τ Cert.MlaDwInReferenceIdeal.sig) → Buf (Elt Ideal) ℓ) : Prop :=
  True

def Pre_MlaDown (m : (ℓ : Loc Cert.MlaDown.nD Cert.MlaDown.τ Cert.MlaDown.sig) → Buf (Elt Bits) ℓ) : Prop :=
  True

def Pre_MlaDownIdeal (m : (ℓ : Loc Cert.MlaDownIdeal.nD Cert.MlaDownIdeal.τ Cert.MlaDownIdeal.sig) → Buf (Elt Ideal) ℓ) : Prop :=
  True

def Pre_MlaDownReferenceIdeal (m : (ℓ : Loc Cert.MlaDownReferenceIdeal.nD Cert.MlaDownReferenceIdeal.τ Cert.MlaDownReferenceIdeal.sig) → Buf (Elt Ideal) ℓ) : Prop :=
  True

def Pre_MlaDcQ (m : (ℓ : Loc Cert.MlaDcQ.nD Cert.MlaDcQ.τ Cert.MlaDcQ.sig) → Buf (Elt Bits) ℓ) : Prop :=
  True

def Pre_MlaDcQIdeal (m : (ℓ : Loc Cert.MlaDcQIdeal.nD Cert.MlaDcQIdeal.τ Cert.MlaDcQIdeal.sig) → Buf (Elt Ideal) ℓ) : Prop :=
  True

def Pre_MlaDcQReferenceIdeal (m : (ℓ : Loc Cert.MlaDcQReferenceIdeal.nD Cert.MlaDcQReferenceIdeal.τ Cert.MlaDcQReferenceIdeal.sig) → Buf (Elt Ideal) ℓ) : Prop :=
  True

def Pre_MlaDwUq (m : (ℓ : Loc Cert.MlaDwUq.nD Cert.MlaDwUq.τ Cert.MlaDwUq.sig) → Buf (Elt Bits) ℓ) : Prop :=
  True

def Pre_MlaDwUqIdeal (m : (ℓ : Loc Cert.MlaDwUqIdeal.nD Cert.MlaDwUqIdeal.τ Cert.MlaDwUqIdeal.sig) → Buf (Elt Ideal) ℓ) : Prop :=
  True

def Pre_MlaDwUqReferenceIdeal (m : (ℓ : Loc Cert.MlaDwUqReferenceIdeal.nD Cert.MlaDwUqReferenceIdeal.τ Cert.MlaDwUqReferenceIdeal.sig) → Buf (Elt Ideal) ℓ) : Prop :=
  True

def Pre_MlaUq (m : (ℓ : Loc Cert.MlaUq.nD Cert.MlaUq.τ Cert.MlaUq.sig) → Buf (Elt Bits) ℓ) : Prop :=
  True

def Pre_MlaUqIdeal (m : (ℓ : Loc Cert.MlaUqIdeal.nD Cert.MlaUqIdeal.τ Cert.MlaUqIdeal.sig) → Buf (Elt Ideal) ℓ) : Prop :=
  True

def Pre_MlaUqReferenceIdeal (m : (ℓ : Loc Cert.MlaUqReferenceIdeal.nD Cert.MlaUqReferenceIdeal.τ Cert.MlaUqReferenceIdeal.sig) → Buf (Elt Ideal) ℓ) : Prop :=
  True

def Pre_MlaDcKv (m : (ℓ : Loc Cert.MlaDcKv.nD Cert.MlaDcKv.τ Cert.MlaDcKv.sig) → Buf (Elt Bits) ℓ) : Prop :=
  True

def Pre_MlaDcKvIdeal (m : (ℓ : Loc Cert.MlaDcKvIdeal.nD Cert.MlaDcKvIdeal.τ Cert.MlaDcKvIdeal.sig) → Buf (Elt Ideal) ℓ) : Prop :=
  True

def Pre_MlaDcKvReferenceIdeal (m : (ℓ : Loc Cert.MlaDcKvReferenceIdeal.nD Cert.MlaDcKvReferenceIdeal.τ Cert.MlaDcKvReferenceIdeal.sig) → Buf (Elt Ideal) ℓ) : Prop :=
  True

def Pre_MlaDwUkv (m : (ℓ : Loc Cert.MlaDwUkv.nD Cert.MlaDwUkv.τ Cert.MlaDwUkv.sig) → Buf (Elt Bits) ℓ) : Prop :=
  True

def Pre_MlaDwUkvIdeal (m : (ℓ : Loc Cert.MlaDwUkvIdeal.nD Cert.MlaDwUkvIdeal.τ Cert.MlaDwUkvIdeal.sig) → Buf (Elt Ideal) ℓ) : Prop :=
  True

def Pre_MlaDwUkvReferenceIdeal (m : (ℓ : Loc Cert.MlaDwUkvReferenceIdeal.nD Cert.MlaDwUkvReferenceIdeal.τ Cert.MlaDwUkvReferenceIdeal.sig) → Buf (Elt Ideal) ℓ) : Prop :=
  True

def Pre_MlaUkv (m : (ℓ : Loc Cert.MlaUkv.nD Cert.MlaUkv.τ Cert.MlaUkv.sig) → Buf (Elt Bits) ℓ) : Prop :=
  True

def Pre_MlaUkvIdeal (m : (ℓ : Loc Cert.MlaUkvIdeal.nD Cert.MlaUkvIdeal.τ Cert.MlaUkvIdeal.sig) → Buf (Elt Ideal) ℓ) : Prop :=
  True

def Pre_MlaUkvReferenceIdeal (m : (ℓ : Loc Cert.MlaUkvReferenceIdeal.nD Cert.MlaUkvReferenceIdeal.τ Cert.MlaUkvReferenceIdeal.sig) → Buf (Elt Ideal) ℓ) : Prop :=
  True

def Pre_StepNorm (m : (ℓ : Loc Cert.StepNorm.nD Cert.StepNorm.τ Cert.StepNorm.sig) → Buf (Elt Bits) ℓ) : Prop :=
  True

def Pre_StepNormIdeal (m : (ℓ : Loc Cert.StepNormIdeal.nD Cert.StepNormIdeal.τ Cert.StepNormIdeal.sig) → Buf (Elt Ideal) ℓ) : Prop :=
  True

def Pre_StepNormReferenceIdeal (m : (ℓ : Loc Cert.StepNormReferenceIdeal.nD Cert.StepNormReferenceIdeal.τ Cert.StepNormReferenceIdeal.sig) → Buf (Elt Ideal) ℓ) : Prop :=
  True

def Pre_StepBias (m : (ℓ : Loc Cert.StepBias.nD Cert.StepBias.τ Cert.StepBias.sig) → Buf (Elt Bits) ℓ) : Prop :=
  True

def Pre_StepBiasIdeal (m : (ℓ : Loc Cert.StepBiasIdeal.nD Cert.StepBiasIdeal.τ Cert.StepBiasIdeal.sig) → Buf (Elt Ideal) ℓ) : Prop :=
  True

def Pre_StepBiasReferenceIdeal (m : (ℓ : Loc Cert.StepBiasReferenceIdeal.nD Cert.StepBiasReferenceIdeal.τ Cert.StepBiasReferenceIdeal.sig) → Buf (Elt Ideal) ℓ) : Prop :=
  True

def Pre_StepGain (m : (ℓ : Loc Cert.StepGain.nD Cert.StepGain.τ Cert.StepGain.sig) → Buf (Elt Bits) ℓ) : Prop :=
  True

def Pre_StepGainIdeal (m : (ℓ : Loc Cert.StepGainIdeal.nD Cert.StepGainIdeal.τ Cert.StepGainIdeal.sig) → Buf (Elt Ideal) ℓ) : Prop :=
  True

def Pre_StepGainReferenceIdeal (m : (ℓ : Loc Cert.StepGainReferenceIdeal.nD Cert.StepGainReferenceIdeal.τ Cert.StepGainReferenceIdeal.sig) → Buf (Elt Ideal) ℓ) : Prop :=
  True

def Pre_StepRank (m : (ℓ : Loc Cert.StepRank.nD Cert.StepRank.τ Cert.StepRank.sig) → Buf (Elt Bits) ℓ) : Prop :=
  True

def Pre_StepRankIdeal (m : (ℓ : Loc Cert.StepRankIdeal.nD Cert.StepRankIdeal.τ Cert.StepRankIdeal.sig) → Buf (Elt Ideal) ℓ) : Prop :=
  True

def Pre_StepRankReferenceIdeal (m : (ℓ : Loc Cert.StepRankReferenceIdeal.nD Cert.StepRankReferenceIdeal.τ Cert.StepRankReferenceIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutReferenceIdeal (m : (ℓ : Loc Cert.StepOutReferenceIdeal.nD Cert.StepOutReferenceIdeal.τ Cert.StepOutReferenceIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInReferenceIdeal (m : (ℓ : Loc Cert.StepInReferenceIdeal.nD Cert.StepInReferenceIdeal.τ Cert.StepInReferenceIdeal.sig) → Buf (Elt Ideal) ℓ) : Prop :=
  True

def Pre_StepUq (m : (ℓ : Loc Cert.StepUq.nD Cert.StepUq.τ Cert.StepUq.sig) → Buf (Elt Bits) ℓ) : Prop :=
  True

def Pre_StepUqIdeal (m : (ℓ : Loc Cert.StepUqIdeal.nD Cert.StepUqIdeal.τ Cert.StepUqIdeal.sig) → Buf (Elt Ideal) ℓ) : Prop :=
  True

def Pre_StepUqReferenceIdeal (m : (ℓ : Loc Cert.StepUqReferenceIdeal.nD Cert.StepUqReferenceIdeal.τ Cert.StepUqReferenceIdeal.sig) → Buf (Elt Ideal) ℓ) : Prop :=
  True

def Pre_StepUkv (m : (ℓ : Loc Cert.StepUkv.nD Cert.StepUkv.τ Cert.StepUkv.sig) → Buf (Elt Bits) ℓ) : Prop :=
  True

def Pre_StepUkvIdeal (m : (ℓ : Loc Cert.StepUkvIdeal.nD Cert.StepUkvIdeal.τ Cert.StepUkvIdeal.sig) → Buf (Elt Ideal) ℓ) : Prop :=
  True

def Pre_StepUkvReferenceIdeal (m : (ℓ : Loc Cert.StepUkvReferenceIdeal.nD Cert.StepUkvReferenceIdeal.τ Cert.StepUkvReferenceIdeal.sig) → Buf (Elt Ideal) ℓ) : Prop :=
  True

def Pre_StepFox (m : (ℓ : Loc Cert.StepFox.nD Cert.StepFox.τ Cert.StepFox.sig) → Buf (Elt Bits) ℓ) : Prop :=
  True

def Pre_StepFoxIdeal (m : (ℓ : Loc Cert.StepFoxIdeal.nD Cert.StepFoxIdeal.τ Cert.StepFoxIdeal.sig) → Buf (Elt Ideal) ℓ) : Prop :=
  True

def Pre_StepFoxReferenceIdeal (m : (ℓ : Loc Cert.StepFoxReferenceIdeal.nD Cert.StepFoxReferenceIdeal.τ Cert.StepFoxReferenceIdeal.sig) → Buf (Elt Ideal) ℓ) : Prop :=
  True

def Pre_StepSbInLast (m : (ℓ : Loc Cert.StepSbInLast.nD Cert.StepSbInLast.τ Cert.StepSbInLast.sig) → Buf (Elt Bits) ℓ) : Prop :=
  True

def Pre_StepSbInLastIdeal (m : (ℓ : Loc Cert.StepSbInLastIdeal.nD Cert.StepSbInLastIdeal.τ Cert.StepSbInLastIdeal.sig) → Buf (Elt Ideal) ℓ) : Prop :=
  True

def Pre_StepSbInLastReferenceIdeal (m : (ℓ : Loc Cert.StepSbInLastReferenceIdeal.nD Cert.StepSbInLastReferenceIdeal.τ Cert.StepSbInLastReferenceIdeal.sig) → Buf (Elt Ideal) ℓ) : Prop :=
  True

def Pre_StepSbInFirst (m : (ℓ : Loc Cert.StepSbInFirst.nD Cert.StepSbInFirst.τ Cert.StepSbInFirst.sig) → Buf (Elt Bits) ℓ) : Prop :=
  True

def Pre_StepSbInFirstIdeal (m : (ℓ : Loc Cert.StepSbInFirstIdeal.nD Cert.StepSbInFirstIdeal.τ Cert.StepSbInFirstIdeal.sig) → Buf (Elt Ideal) ℓ) : Prop :=
  True

def Pre_StepSbInFirstReferenceIdeal (m : (ℓ : Loc Cert.StepSbInFirstReferenceIdeal.nD Cert.StepSbInFirstReferenceIdeal.τ Cert.StepSbInFirstReferenceIdeal.sig) → Buf (Elt Ideal) ℓ) : Prop :=
  True

def Pre_StepSbOutLast (m : (ℓ : Loc Cert.StepSbOutLast.nD Cert.StepSbOutLast.τ Cert.StepSbOutLast.sig) → Buf (Elt Bits) ℓ) : Prop :=
  True

def Pre_StepSbOutLastIdeal (m : (ℓ : Loc Cert.StepSbOutLastIdeal.nD Cert.StepSbOutLastIdeal.τ Cert.StepSbOutLastIdeal.sig) → Buf (Elt Ideal) ℓ) : Prop :=
  True

def Pre_StepSbOutLastReferenceIdeal (m : (ℓ : Loc Cert.StepSbOutLastReferenceIdeal.nD Cert.StepSbOutLastReferenceIdeal.τ Cert.StepSbOutLastReferenceIdeal.sig) → Buf (Elt Ideal) ℓ) : Prop :=
  True

def Pre_StepSbOutFirst (m : (ℓ : Loc Cert.StepSbOutFirst.nD Cert.StepSbOutFirst.τ Cert.StepSbOutFirst.sig) → Buf (Elt Bits) ℓ) : Prop :=
  True

def Pre_StepSbOutFirstIdeal (m : (ℓ : Loc Cert.StepSbOutFirstIdeal.nD Cert.StepSbOutFirstIdeal.τ Cert.StepSbOutFirstIdeal.sig) → Buf (Elt Ideal) ℓ) : Prop :=
  True

def Pre_StepSbOutFirstReferenceIdeal (m : (ℓ : Loc Cert.StepSbOutFirstReferenceIdeal.nD Cert.StepSbOutFirstReferenceIdeal.τ Cert.StepSbOutFirstReferenceIdeal.sig) → Buf (Elt Ideal) ℓ) : Prop :=
  True

def Pre_StepMlpLast (m : (ℓ : Loc Cert.StepMlpLast.nD Cert.StepMlpLast.τ Cert.StepMlpLast.sig) → Buf (Elt Bits) ℓ) : Prop :=
  True

def Pre_StepMlpLastIdeal (m : (ℓ : Loc Cert.StepMlpLastIdeal.nD Cert.StepMlpLastIdeal.τ Cert.StepMlpLastIdeal.sig) → Buf (Elt Ideal) ℓ) : Prop :=
  True

def Pre_StepMlpLastReferenceIdeal (m : (ℓ : Loc Cert.StepMlpLastReferenceIdeal.nD Cert.StepMlpLastReferenceIdeal.τ Cert.StepMlpLastReferenceIdeal.sig) → Buf (Elt Ideal) ℓ) : Prop :=
  True

def Pre_StepMlpThird (m : (ℓ : Loc Cert.StepMlpThird.nD Cert.StepMlpThird.τ Cert.StepMlpThird.sig) → Buf (Elt Bits) ℓ) : Prop :=
  True

def Pre_StepMlpThirdIdeal (m : (ℓ : Loc Cert.StepMlpThirdIdeal.nD Cert.StepMlpThirdIdeal.τ Cert.StepMlpThirdIdeal.sig) → Buf (Elt Ideal) ℓ) : Prop :=
  True

def Pre_StepMlpThirdReferenceIdeal (m : (ℓ : Loc Cert.StepMlpThirdReferenceIdeal.nD Cert.StepMlpThirdReferenceIdeal.τ Cert.StepMlpThirdReferenceIdeal.sig) → Buf (Elt Ideal) ℓ) : Prop :=
  True

def Pre_StepMlpSecond (m : (ℓ : Loc Cert.StepMlpSecond.nD Cert.StepMlpSecond.τ Cert.StepMlpSecond.sig) → Buf (Elt Bits) ℓ) : Prop :=
  True

def Pre_StepMlpSecondIdeal (m : (ℓ : Loc Cert.StepMlpSecondIdeal.nD Cert.StepMlpSecondIdeal.τ Cert.StepMlpSecondIdeal.sig) → Buf (Elt Ideal) ℓ) : Prop :=
  True

def Pre_StepMlpSecondReferenceIdeal (m : (ℓ : Loc Cert.StepMlpSecondReferenceIdeal.nD Cert.StepMlpSecondReferenceIdeal.τ Cert.StepMlpSecondReferenceIdeal.sig) → Buf (Elt Ideal) ℓ) : Prop :=
  True

def Pre_StepMlpFirst (m : (ℓ : Loc Cert.StepMlpFirst.nD Cert.StepMlpFirst.τ Cert.StepMlpFirst.sig) → Buf (Elt Bits) ℓ) : Prop :=
  True

def Pre_StepMlpFirstIdeal (m : (ℓ : Loc Cert.StepMlpFirstIdeal.nD Cert.StepMlpFirstIdeal.τ Cert.StepMlpFirstIdeal.sig) → Buf (Elt Ideal) ℓ) : Prop :=
  True

def Pre_StepMlpFirstReferenceIdeal (m : (ℓ : Loc Cert.StepMlpFirstReferenceIdeal.nD Cert.StepMlpFirstReferenceIdeal.τ Cert.StepMlpFirstReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_MlpDu [hMlpDu : Cert.MlpDu.Facts] : Prop :=
  ∀ (m : (ℓ : Loc Cert.MlpDu.nD Cert.MlpDu.τ Cert.MlpDu.sig) → Buf (Elt Bits) ℓ) (g : Dev Cert.MlpDu.nD → PrngReg), Pre_MlpDu m →
    θ_run (Cert.MlpDu.defs (F := Bits)) (onTc (τ := Cert.MlpDu.τ) (Cert.MlpDu.main (F := Bits))) ⟨m, fun _ => 0, g⟩ (fun r => (∀ c : Dev Cert.MlpDu.nD,
      r.2.mem ((c.tc : Thread Cert.MlpDu.nD Cert.MlpDu.τ).loc Cert.MlpDu.main_arg0) = m ((c.tc : Thread Cert.MlpDu.nD Cert.MlpDu.τ).loc Cert.MlpDu.main_arg0)
      ∧ r.2.mem ((c.tc : Thread Cert.MlpDu.nD Cert.MlpDu.τ).loc Cert.MlpDu.main_arg1) = m ((c.tc : Thread Cert.MlpDu.nD Cert.MlpDu.τ).loc Cert.MlpDu.main_arg1)
      ∧ r.2.mem ((c.tc : Thread Cert.MlpDu.nD Cert.MlpDu.τ).loc Cert.MlpDu.main_arg2) = m ((c.tc : Thread Cert.MlpDu.nD Cert.MlpDu.τ).loc Cert.MlpDu.main_arg2))
      ∧ r.2.sem = fun _ => 0)

def quiescent_MlpDuIdeal [hMlpDuIdeal : Cert.MlpDuIdeal.Facts] : Prop :=
  ∀ (m : (ℓ : Loc Cert.MlpDuIdeal.nD Cert.MlpDuIdeal.τ Cert.MlpDuIdeal.sig) → Buf (Elt Ideal) ℓ) (g : Dev Cert.MlpDuIdeal.nD → PrngReg), Pre_MlpDuIdeal m →
    θ_run (Cert.MlpDuIdeal.defs (F := Ideal)) (onTc (τ := Cert.MlpDuIdeal.τ) (Cert.MlpDuIdeal.main (F := Ideal))) ⟨m, fun _ => 0, g⟩ (fun r => (∀ c : Dev Cert.MlpDuIdeal.nD,
      r.2.mem ((c.tc : Thread Cert.MlpDuIdeal.nD Cert.MlpDuIdeal.τ).loc Cert.MlpDuIdeal.main_arg0) = m ((c.tc : Thread Cert.MlpDuIdeal.nD Cert.MlpDuIdeal.τ).loc Cert.MlpDuIdeal.main_arg0)
      ∧ r.2.mem ((c.tc : Thread Cert.MlpDuIdeal.nD Cert.MlpDuIdeal.τ).loc Cert.MlpDuIdeal.main_arg1) = m ((c.tc : Thread Cert.MlpDuIdeal.nD Cert.MlpDuIdeal.τ).loc Cert.MlpDuIdeal.main_arg1)
      ∧ r.2.mem ((c.tc : Thread Cert.MlpDuIdeal.nD Cert.MlpDuIdeal.τ).loc Cert.MlpDuIdeal.main_arg2) = m ((c.tc : Thread Cert.MlpDuIdeal.nD Cert.MlpDuIdeal.τ).loc Cert.MlpDuIdeal.main_arg2))
      ∧ r.2.sem = fun _ => 0)

def quiescent_MlpDuReferenceIdeal [hMlpDuReferenceIdeal : Cert.MlpDuReferenceIdeal.Facts] : Prop :=
  ∀ (m : (ℓ : Loc Cert.MlpDuReferenceIdeal.nD Cert.MlpDuReferenceIdeal.τ Cert.MlpDuReferenceIdeal.sig) → Buf (Elt Ideal) ℓ) (g : Dev Cert.MlpDuReferenceIdeal.nD → PrngReg), Pre_MlpDuReferenceIdeal m →
    θ_run (Cert.MlpDuReferenceIdeal.defs (F := Ideal)) (onTc (τ := Cert.MlpDuReferenceIdeal.τ) (Cert.MlpDuReferenceIdeal.main (F := Ideal))) ⟨m, fun _ => 0, g⟩ (fun r => (∀ c : Dev Cert.MlpDuReferenceIdeal.nD,
      r.2.mem ((c.tc : Thread Cert.MlpDuReferenceIdeal.nD Cert.MlpDuReferenceIdeal.τ).loc Cert.MlpDuReferenceIdeal.main_arg0) = m ((c.tc : Thread Cert.MlpDuReferenceIdeal.nD Cert.MlpDuReferenceIdeal.τ).loc Cert.MlpDuReferenceIdeal.main_arg0)
      ∧ r.2.mem ((c.tc : Thread Cert.MlpDuReferenceIdeal.nD Cert.MlpDuReferenceIdeal.τ).loc Cert.MlpDuReferenceIdeal.main_arg1) = m ((c.tc : Thread Cert.MlpDuReferenceIdeal.nD Cert.MlpDuReferenceIdeal.τ).loc Cert.MlpDuReferenceIdeal.main_arg1)
      ∧ r.2.mem ((c.tc : Thread Cert.MlpDuReferenceIdeal.nD Cert.MlpDuReferenceIdeal.τ).loc Cert.MlpDuReferenceIdeal.main_arg2) = m ((c.tc : Thread Cert.MlpDuReferenceIdeal.nD Cert.MlpDuReferenceIdeal.τ).loc Cert.MlpDuReferenceIdeal.main_arg2))
      ∧ r.2.sem = fun _ => 0)

def quiescent_MlpDh [hMlpDh : Cert.MlpDh.Facts] : Prop :=
  ∀ (m : (ℓ : Loc Cert.MlpDh.nD Cert.MlpDh.τ Cert.MlpDh.sig) → Buf (Elt Bits) ℓ) (g : Dev Cert.MlpDh.nD → PrngReg), Pre_MlpDh m →
    θ_run (Cert.MlpDh.defs (F := Bits)) (onTc (τ := Cert.MlpDh.τ) (Cert.MlpDh.main (F := Bits))) ⟨m, fun _ => 0, g⟩ (fun r => (∀ c : Dev Cert.MlpDh.nD,
      r.2.mem ((c.tc : Thread Cert.MlpDh.nD Cert.MlpDh.τ).loc Cert.MlpDh.main_arg0) = m ((c.tc : Thread Cert.MlpDh.nD Cert.MlpDh.τ).loc Cert.MlpDh.main_arg0)
      ∧ r.2.mem ((c.tc : Thread Cert.MlpDh.nD Cert.MlpDh.τ).loc Cert.MlpDh.main_arg1) = m ((c.tc : Thread Cert.MlpDh.nD Cert.MlpDh.τ).loc Cert.MlpDh.main_arg1)
      ∧ r.2.mem ((c.tc : Thread Cert.MlpDh.nD Cert.MlpDh.τ).loc Cert.MlpDh.main_arg2) = m ((c.tc : Thread Cert.MlpDh.nD Cert.MlpDh.τ).loc Cert.MlpDh.main_arg2))
      ∧ r.2.sem = fun _ => 0)

def quiescent_MlpDhIdeal [hMlpDhIdeal : Cert.MlpDhIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg), Pre_MlpDhIdeal m →
    θ_run (Cert.MlpDhIdeal.defs (F := Ideal)) (onTc (τ := Cert.MlpDhIdeal.τ) (Cert.MlpDhIdeal.main (F := Ideal))) ⟨m, fun _ => 0, g⟩ (fun r => (∀ c : Dev Cert.MlpDhIdeal.nD,
      r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
      ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1)
      ∧ r.2.mem ((c.tc : Thread Cert.MlpDhIdeal.nD Cert.MlpDhIdeal.τ).loc Cert.MlpDhIdeal.main_arg2) = m ((c.tc : Thread Cert.MlpDhIdeal.nD Cert.MlpDhIdeal.τ).loc Cert.MlpDhIdeal.main_arg2))
      ∧ r.2.sem = fun _ => 0)

def quiescent_MlpDhReferenceIdeal [hMlpDhReferenceIdeal : Cert.MlpDhReferenceIdeal.Facts] : Prop :=
  ∀ (m : (ℓ : Loc Cert.MlpDhReferenceIdeal.nD Cert.MlpDhReferenceIdeal.τ Cert.MlpDhReferenceIdeal.sig) → Buf (Elt Ideal) ℓ) (g : Dev Cert.MlpDhReferenceIdeal.nD → PrngReg), Pre_MlpDhReferenceIdeal m →
    θ_run (Cert.MlpDhReferenceIdeal.defs (F := Ideal)) (onTc (τ := Cert.MlpDhReferenceIdeal.τ) (Cert.MlpDhReferenceIdeal.main (F := Ideal))) ⟨m, fun _ => 0, g⟩ (fun r => (∀ c : Dev Cert.MlpDhReferenceIdeal.nD,
      r.2.mem ((c.tc : Thread Cert.MlpDhReferenceIdeal.nD Cert.MlpDhReferenceIdeal.τ).loc Cert.MlpDhReferenceIdeal.main_arg0) = m ((c.tc : Thread Cert.MlpDhReferenceIdeal.nD Cert.MlpDhReferenceIdeal.τ).loc Cert.MlpDhReferenceIdeal.main_arg0)
      ∧ r.2.mem ((c.tc : Thread Cert.MlpDhReferenceIdeal.nD Cert.MlpDhReferenceIdeal.τ).loc Cert.MlpDhReferenceIdeal.main_arg1) = m ((c.tc : Thread Cert.MlpDhReferenceIdeal.nD Cert.MlpDhReferenceIdeal.τ).loc Cert.MlpDhReferenceIdeal.main_arg1)
      ∧ r.2.mem ((c.tc : Thread Cert.MlpDhReferenceIdeal.nD Cert.MlpDhReferenceIdeal.τ).loc Cert.MlpDhReferenceIdeal.main_arg2) = m ((c.tc : Thread Cert.MlpDhReferenceIdeal.nD Cert.MlpDhReferenceIdeal.τ).loc Cert.MlpDhReferenceIdeal.main_arg2))
      ∧ r.2.sem = fun _ => 0)

def quiescent_MlpDwOne [hMlpDwOne : Cert.MlpDwOne.Facts] : Prop :=
  ∀ (m : (ℓ : Loc Cert.MlpDwOne.nD Cert.MlpDwOne.τ Cert.MlpDwOne.sig) → Buf (Elt Bits) ℓ) (g : Dev Cert.MlpDwOne.nD → PrngReg), Pre_MlpDwOne m →
    θ_run (Cert.MlpDwOne.defs (F := Bits)) (onTc (τ := Cert.MlpDwOne.τ) (Cert.MlpDwOne.main (F := Bits))) ⟨m, fun _ => 0, g⟩ (fun r => (∀ c : Dev Cert.MlpDwOne.nD,
      r.2.mem ((c.tc : Thread Cert.MlpDwOne.nD Cert.MlpDwOne.τ).loc Cert.MlpDwOne.main_arg0) = m ((c.tc : Thread Cert.MlpDwOne.nD Cert.MlpDwOne.τ).loc Cert.MlpDwOne.main_arg0)
      ∧ r.2.mem ((c.tc : Thread Cert.MlpDwOne.nD Cert.MlpDwOne.τ).loc Cert.MlpDwOne.main_arg1) = m ((c.tc : Thread Cert.MlpDwOne.nD Cert.MlpDwOne.τ).loc Cert.MlpDwOne.main_arg1)
      ∧ r.2.mem ((c.tc : Thread Cert.MlpDwOne.nD Cert.MlpDwOne.τ).loc Cert.MlpDwOne.main_arg2) = m ((c.tc : Thread Cert.MlpDwOne.nD Cert.MlpDwOne.τ).loc Cert.MlpDwOne.main_arg2))
      ∧ r.2.sem = fun _ => 0)

def quiescent_MlpDwOneIdeal [hMlpDwOneIdeal : Cert.MlpDwOneIdeal.Facts] : Prop :=
  ∀ (m : (ℓ : Loc Cert.MlpDwOneIdeal.nD Cert.MlpDwOneIdeal.τ Cert.MlpDwOneIdeal.sig) → Buf (Elt Ideal) ℓ) (g : Dev Cert.MlpDwOneIdeal.nD → PrngReg), Pre_MlpDwOneIdeal m →
    θ_run (Cert.MlpDwOneIdeal.defs (F := Ideal)) (onTc (τ := Cert.MlpDwOneIdeal.τ) (Cert.MlpDwOneIdeal.main (F := Ideal))) ⟨m, fun _ => 0, g⟩ (fun r => (∀ c : Dev Cert.MlpDwOneIdeal.nD,
      r.2.mem ((c.tc : Thread Cert.MlpDwOneIdeal.nD Cert.MlpDwOneIdeal.τ).loc Cert.MlpDwOneIdeal.main_arg0) = m ((c.tc : Thread Cert.MlpDwOneIdeal.nD Cert.MlpDwOneIdeal.τ).loc Cert.MlpDwOneIdeal.main_arg0)
      ∧ r.2.mem ((c.tc : Thread Cert.MlpDwOneIdeal.nD Cert.MlpDwOneIdeal.τ).loc Cert.MlpDwOneIdeal.main_arg1) = m ((c.tc : Thread Cert.MlpDwOneIdeal.nD Cert.MlpDwOneIdeal.τ).loc Cert.MlpDwOneIdeal.main_arg1)
      ∧ r.2.mem ((c.tc : Thread Cert.MlpDwOneIdeal.nD Cert.MlpDwOneIdeal.τ).loc Cert.MlpDwOneIdeal.main_arg2) = m ((c.tc : Thread Cert.MlpDwOneIdeal.nD Cert.MlpDwOneIdeal.τ).loc Cert.MlpDwOneIdeal.main_arg2))
      ∧ r.2.sem = fun _ => 0)

def quiescent_MlpDwOneReferenceIdeal [hMlpDwOneReferenceIdeal : Cert.MlpDwOneReferenceIdeal.Facts] : Prop :=
  ∀ (m : (ℓ : Loc Cert.MlpDwOneReferenceIdeal.nD Cert.MlpDwOneReferenceIdeal.τ Cert.MlpDwOneReferenceIdeal.sig) → Buf (Elt Ideal) ℓ) (g : Dev Cert.MlpDwOneReferenceIdeal.nD → PrngReg), Pre_MlpDwOneReferenceIdeal m →
    θ_run (Cert.MlpDwOneReferenceIdeal.defs (F := Ideal)) (onTc (τ := Cert.MlpDwOneReferenceIdeal.τ) (Cert.MlpDwOneReferenceIdeal.main (F := Ideal))) ⟨m, fun _ => 0, g⟩ (fun r => (∀ c : Dev Cert.MlpDwOneReferenceIdeal.nD,
      r.2.mem ((c.tc : Thread Cert.MlpDwOneReferenceIdeal.nD Cert.MlpDwOneReferenceIdeal.τ).loc Cert.MlpDwOneReferenceIdeal.main_arg0) = m ((c.tc : Thread Cert.MlpDwOneReferenceIdeal.nD Cert.MlpDwOneReferenceIdeal.τ).loc Cert.MlpDwOneReferenceIdeal.main_arg0)
      ∧ r.2.mem ((c.tc : Thread Cert.MlpDwOneReferenceIdeal.nD Cert.MlpDwOneReferenceIdeal.τ).loc Cert.MlpDwOneReferenceIdeal.main_arg1) = m ((c.tc : Thread Cert.MlpDwOneReferenceIdeal.nD Cert.MlpDwOneReferenceIdeal.τ).loc Cert.MlpDwOneReferenceIdeal.main_arg1)
      ∧ r.2.mem ((c.tc : Thread Cert.MlpDwOneReferenceIdeal.nD Cert.MlpDwOneReferenceIdeal.τ).loc Cert.MlpDwOneReferenceIdeal.main_arg2) = m ((c.tc : Thread Cert.MlpDwOneReferenceIdeal.nD Cert.MlpDwOneReferenceIdeal.τ).loc Cert.MlpDwOneReferenceIdeal.main_arg2))
      ∧ r.2.sem = fun _ => 0)

def quiescent_MlpDwTwo [hMlpDwTwo : Cert.MlpDwTwo.Facts] : Prop :=
  ∀ (m : (ℓ : Loc Cert.MlpDwTwo.nD Cert.MlpDwTwo.τ Cert.MlpDwTwo.sig) → Buf (Elt Bits) ℓ) (g : Dev Cert.MlpDwTwo.nD → PrngReg), Pre_MlpDwTwo m →
    θ_run (Cert.MlpDwTwo.defs (F := Bits)) (onTc (τ := Cert.MlpDwTwo.τ) (Cert.MlpDwTwo.main (F := Bits))) ⟨m, fun _ => 0, g⟩ (fun r => (∀ c : Dev Cert.MlpDwTwo.nD,
      r.2.mem ((c.tc : Thread Cert.MlpDwTwo.nD Cert.MlpDwTwo.τ).loc Cert.MlpDwTwo.main_arg0) = m ((c.tc : Thread Cert.MlpDwTwo.nD Cert.MlpDwTwo.τ).loc Cert.MlpDwTwo.main_arg0)
      ∧ r.2.mem ((c.tc : Thread Cert.MlpDwTwo.nD Cert.MlpDwTwo.τ).loc Cert.MlpDwTwo.main_arg1) = m ((c.tc : Thread Cert.MlpDwTwo.nD Cert.MlpDwTwo.τ).loc Cert.MlpDwTwo.main_arg1)
      ∧ r.2.mem ((c.tc : Thread Cert.MlpDwTwo.nD Cert.MlpDwTwo.τ).loc Cert.MlpDwTwo.main_arg2) = m ((c.tc : Thread Cert.MlpDwTwo.nD Cert.MlpDwTwo.τ).loc Cert.MlpDwTwo.main_arg2))
      ∧ r.2.sem = fun _ => 0)

def quiescent_MlpDwTwoIdeal [hMlpDwTwoIdeal : Cert.MlpDwTwoIdeal.Facts] : Prop :=
  ∀ (m : (ℓ : Loc Cert.MlpDwTwoIdeal.nD Cert.MlpDwTwoIdeal.τ Cert.MlpDwTwoIdeal.sig) → Buf (Elt Ideal) ℓ) (g : Dev Cert.MlpDwTwoIdeal.nD → PrngReg), Pre_MlpDwTwoIdeal m →
    θ_run (Cert.MlpDwTwoIdeal.defs (F := Ideal)) (onTc (τ := Cert.MlpDwTwoIdeal.τ) (Cert.MlpDwTwoIdeal.main (F := Ideal))) ⟨m, fun _ => 0, g⟩ (fun r => (∀ c : Dev Cert.MlpDwTwoIdeal.nD,
      r.2.mem ((c.tc : Thread Cert.MlpDwTwoIdeal.nD Cert.MlpDwTwoIdeal.τ).loc Cert.MlpDwTwoIdeal.main_arg0) = m ((c.tc : Thread Cert.MlpDwTwoIdeal.nD Cert.MlpDwTwoIdeal.τ).loc Cert.MlpDwTwoIdeal.main_arg0)
      ∧ r.2.mem ((c.tc : Thread Cert.MlpDwTwoIdeal.nD Cert.MlpDwTwoIdeal.τ).loc Cert.MlpDwTwoIdeal.main_arg1) = m ((c.tc : Thread Cert.MlpDwTwoIdeal.nD Cert.MlpDwTwoIdeal.τ).loc Cert.MlpDwTwoIdeal.main_arg1)
      ∧ r.2.mem ((c.tc : Thread Cert.MlpDwTwoIdeal.nD Cert.MlpDwTwoIdeal.τ).loc Cert.MlpDwTwoIdeal.main_arg2) = m ((c.tc : Thread Cert.MlpDwTwoIdeal.nD Cert.MlpDwTwoIdeal.τ).loc Cert.MlpDwTwoIdeal.main_arg2))
      ∧ r.2.sem = fun _ => 0)

def quiescent_MlpDwTwoReferenceIdeal [hMlpDwTwoReferenceIdeal : Cert.MlpDwTwoReferenceIdeal.Facts] : Prop :=
  ∀ (m : (ℓ : Loc Cert.MlpDwTwoReferenceIdeal.nD Cert.MlpDwTwoReferenceIdeal.τ Cert.MlpDwTwoReferenceIdeal.sig) → Buf (Elt Ideal) ℓ) (g : Dev Cert.MlpDwTwoReferenceIdeal.nD → PrngReg), Pre_MlpDwTwoReferenceIdeal m →
    θ_run (Cert.MlpDwTwoReferenceIdeal.defs (F := Ideal)) (onTc (τ := Cert.MlpDwTwoReferenceIdeal.τ) (Cert.MlpDwTwoReferenceIdeal.main (F := Ideal))) ⟨m, fun _ => 0, g⟩ (fun r => (∀ c : Dev Cert.MlpDwTwoReferenceIdeal.nD,
      r.2.mem ((c.tc : Thread Cert.MlpDwTwoReferenceIdeal.nD Cert.MlpDwTwoReferenceIdeal.τ).loc Cert.MlpDwTwoReferenceIdeal.main_arg0) = m ((c.tc : Thread Cert.MlpDwTwoReferenceIdeal.nD Cert.MlpDwTwoReferenceIdeal.τ).loc Cert.MlpDwTwoReferenceIdeal.main_arg0)
      ∧ r.2.mem ((c.tc : Thread Cert.MlpDwTwoReferenceIdeal.nD Cert.MlpDwTwoReferenceIdeal.τ).loc Cert.MlpDwTwoReferenceIdeal.main_arg1) = m ((c.tc : Thread Cert.MlpDwTwoReferenceIdeal.nD Cert.MlpDwTwoReferenceIdeal.τ).loc Cert.MlpDwTwoReferenceIdeal.main_arg1)
      ∧ r.2.mem ((c.tc : Thread Cert.MlpDwTwoReferenceIdeal.nD Cert.MlpDwTwoReferenceIdeal.τ).loc Cert.MlpDwTwoReferenceIdeal.main_arg2) = m ((c.tc : Thread Cert.MlpDwTwoReferenceIdeal.nD Cert.MlpDwTwoReferenceIdeal.τ).loc Cert.MlpDwTwoReferenceIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpReferenceIdeal [hMlpUpReferenceIdeal : Cert.MlpUpReferenceIdeal.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1)
      ∧ r.2.mem ((c.tc : Thread Cert.MlpDownReferenceIdeal.nD Cert.MlpDownReferenceIdeal.τ).loc Cert.MlpDownReferenceIdeal.main_arg2) = m ((c.tc : Thread Cert.MlpDownReferenceIdeal.nD Cert.MlpDownReferenceIdeal.τ).loc Cert.MlpDownReferenceIdeal.main_arg2))
      ∧ r.2.sem = fun _ => 0)

def quiescent_MixDo [hMixDo : Cert.MixDo.Facts] : Prop :=
  ∀ (m : (ℓ : Loc Cert.MixDo.nD Cert.MixDo.τ Cert.MixDo.sig) → Buf (Elt Bits) ℓ) (g : Dev Cert.MixDo.nD → PrngReg), Pre_MixDo m →
    θ_run (Cert.MixDo.defs (F := Bits)) (onTc (τ := Cert.MixDo.τ) (Cert.MixDo.main (F := Bits))) ⟨m, fun _ => 0, g⟩ (fun r => (∀ c : Dev Cert.MixDo.nD,
      r.2.mem ((c.tc : Thread Cert.MixDo.nD Cert.MixDo.τ).loc Cert.MixDo.main_arg0) = m ((c.tc : Thread Cert.MixDo.nD Cert.MixDo.τ).loc Cert.MixDo.main_arg0)
      ∧ r.2.mem ((c.tc : Thread Cert.MixDo.nD Cert.MixDo.τ).loc Cert.MixDo.main_arg1) = m ((c.tc : Thread Cert.MixDo.nD Cert.MixDo.τ).loc Cert.MixDo.main_arg1)
      ∧ r.2.mem ((c.tc : Thread Cert.MixDo.nD Cert.MixDo.τ).loc Cert.MixDo.main_arg2) = m ((c.tc : Thread Cert.MixDo.nD Cert.MixDo.τ).loc Cert.MixDo.main_arg2))
      ∧ r.2.sem = fun _ => 0)

def quiescent_MixDoIdeal [hMixDoIdeal : Cert.MixDoIdeal.Facts] : Prop :=
  ∀ (m : (ℓ : Loc Cert.MixDoIdeal.nD Cert.MixDoIdeal.τ Cert.MixDoIdeal.sig) → Buf (Elt Ideal) ℓ) (g : Dev Cert.MixDoIdeal.nD → PrngReg), Pre_MixDoIdeal m →
    θ_run (Cert.MixDoIdeal.defs (F := Ideal)) (onTc (τ := Cert.MixDoIdeal.τ) (Cert.MixDoIdeal.main (F := Ideal))) ⟨m, fun _ => 0, g⟩ (fun r => (∀ c : Dev Cert.MixDoIdeal.nD,
      r.2.mem ((c.tc : Thread Cert.MixDoIdeal.nD Cert.MixDoIdeal.τ).loc Cert.MixDoIdeal.main_arg0) = m ((c.tc : Thread Cert.MixDoIdeal.nD Cert.MixDoIdeal.τ).loc Cert.MixDoIdeal.main_arg0)
      ∧ r.2.mem ((c.tc : Thread Cert.MixDoIdeal.nD Cert.MixDoIdeal.τ).loc Cert.MixDoIdeal.main_arg1) = m ((c.tc : Thread Cert.MixDoIdeal.nD Cert.MixDoIdeal.τ).loc Cert.MixDoIdeal.main_arg1)
      ∧ r.2.mem ((c.tc : Thread Cert.MixDoIdeal.nD Cert.MixDoIdeal.τ).loc Cert.MixDoIdeal.main_arg2) = m ((c.tc : Thread Cert.MixDoIdeal.nD Cert.MixDoIdeal.τ).loc Cert.MixDoIdeal.main_arg2))
      ∧ r.2.sem = fun _ => 0)

def quiescent_MixDoReferenceIdeal [hMixDoReferenceIdeal : Cert.MixDoReferenceIdeal.Facts] : Prop :=
  ∀ (m : (ℓ : Loc Cert.MixDoReferenceIdeal.nD Cert.MixDoReferenceIdeal.τ Cert.MixDoReferenceIdeal.sig) → Buf (Elt Ideal) ℓ) (g : Dev Cert.MixDoReferenceIdeal.nD → PrngReg), Pre_MixDoReferenceIdeal m →
    θ_run (Cert.MixDoReferenceIdeal.defs (F := Ideal)) (onTc (τ := Cert.MixDoReferenceIdeal.τ) (Cert.MixDoReferenceIdeal.main (F := Ideal))) ⟨m, fun _ => 0, g⟩ (fun r => (∀ c : Dev Cert.MixDoReferenceIdeal.nD,
      r.2.mem ((c.tc : Thread Cert.MixDoReferenceIdeal.nD Cert.MixDoReferenceIdeal.τ).loc Cert.MixDoReferenceIdeal.main_arg0) = m ((c.tc : Thread Cert.MixDoReferenceIdeal.nD Cert.MixDoReferenceIdeal.τ).loc Cert.MixDoReferenceIdeal.main_arg0)
      ∧ r.2.mem ((c.tc : Thread Cert.MixDoReferenceIdeal.nD Cert.MixDoReferenceIdeal.τ).loc Cert.MixDoReferenceIdeal.main_arg1) = m ((c.tc : Thread Cert.MixDoReferenceIdeal.nD Cert.MixDoReferenceIdeal.τ).loc Cert.MixDoReferenceIdeal.main_arg1)
      ∧ r.2.mem ((c.tc : Thread Cert.MixDoReferenceIdeal.nD Cert.MixDoReferenceIdeal.τ).loc Cert.MixDoReferenceIdeal.main_arg2) = m ((c.tc : Thread Cert.MixDoReferenceIdeal.nD Cert.MixDoReferenceIdeal.τ).loc Cert.MixDoReferenceIdeal.main_arg2))
      ∧ r.2.sem = fun _ => 0)

def quiescent_MixDwOut [hMixDwOut : Cert.MixDwOut.Facts] : Prop :=
  ∀ (m : (ℓ : Loc Cert.MixDwOut.nD Cert.MixDwOut.τ Cert.MixDwOut.sig) → Buf (Elt Bits) ℓ) (g : Dev Cert.MixDwOut.nD → PrngReg), Pre_MixDwOut m →
    θ_run (Cert.MixDwOut.defs (F := Bits)) (onTc (τ := Cert.MixDwOut.τ) (Cert.MixDwOut.main (F := Bits))) ⟨m, fun _ => 0, g⟩ (fun r => (∀ c : Dev Cert.MixDwOut.nD,
      r.2.mem ((c.tc : Thread Cert.MixDwOut.nD Cert.MixDwOut.τ).loc Cert.MixDwOut.main_arg0) = m ((c.tc : Thread Cert.MixDwOut.nD Cert.MixDwOut.τ).loc Cert.MixDwOut.main_arg0)
      ∧ r.2.mem ((c.tc : Thread Cert.MixDwOut.nD Cert.MixDwOut.τ).loc Cert.MixDwOut.main_arg1) = m ((c.tc : Thread Cert.MixDwOut.nD Cert.MixDwOut.τ).loc Cert.MixDwOut.main_arg1)
      ∧ r.2.mem ((c.tc : Thread Cert.MixDwOut.nD Cert.MixDwOut.τ).loc Cert.MixDwOut.main_arg2) = m ((c.tc : Thread Cert.MixDwOut.nD Cert.MixDwOut.τ).loc Cert.MixDwOut.main_arg2))
      ∧ r.2.sem = fun _ => 0)

def quiescent_MixDwOutIdeal [hMixDwOutIdeal : Cert.MixDwOutIdeal.Facts] : Prop :=
  ∀ (m : (ℓ : Loc Cert.MixDwOutIdeal.nD Cert.MixDwOutIdeal.τ Cert.MixDwOutIdeal.sig) → Buf (Elt Ideal) ℓ) (g : Dev Cert.MixDwOutIdeal.nD → PrngReg), Pre_MixDwOutIdeal m →
    θ_run (Cert.MixDwOutIdeal.defs (F := Ideal)) (onTc (τ := Cert.MixDwOutIdeal.τ) (Cert.MixDwOutIdeal.main (F := Ideal))) ⟨m, fun _ => 0, g⟩ (fun r => (∀ c : Dev Cert.MixDwOutIdeal.nD,
      r.2.mem ((c.tc : Thread Cert.MixDwOutIdeal.nD Cert.MixDwOutIdeal.τ).loc Cert.MixDwOutIdeal.main_arg0) = m ((c.tc : Thread Cert.MixDwOutIdeal.nD Cert.MixDwOutIdeal.τ).loc Cert.MixDwOutIdeal.main_arg0)
      ∧ r.2.mem ((c.tc : Thread Cert.MixDwOutIdeal.nD Cert.MixDwOutIdeal.τ).loc Cert.MixDwOutIdeal.main_arg1) = m ((c.tc : Thread Cert.MixDwOutIdeal.nD Cert.MixDwOutIdeal.τ).loc Cert.MixDwOutIdeal.main_arg1)
      ∧ r.2.mem ((c.tc : Thread Cert.MixDwOutIdeal.nD Cert.MixDwOutIdeal.τ).loc Cert.MixDwOutIdeal.main_arg2) = m ((c.tc : Thread Cert.MixDwOutIdeal.nD Cert.MixDwOutIdeal.τ).loc Cert.MixDwOutIdeal.main_arg2))
      ∧ r.2.sem = fun _ => 0)

def quiescent_MixDwOutReferenceIdeal [hMixDwOutReferenceIdeal : Cert.MixDwOutReferenceIdeal.Facts] : Prop :=
  ∀ (m : (ℓ : Loc Cert.MixDwOutReferenceIdeal.nD Cert.MixDwOutReferenceIdeal.τ Cert.MixDwOutReferenceIdeal.sig) → Buf (Elt Ideal) ℓ) (g : Dev Cert.MixDwOutReferenceIdeal.nD → PrngReg), Pre_MixDwOutReferenceIdeal m →
    θ_run (Cert.MixDwOutReferenceIdeal.defs (F := Ideal)) (onTc (τ := Cert.MixDwOutReferenceIdeal.τ) (Cert.MixDwOutReferenceIdeal.main (F := Ideal))) ⟨m, fun _ => 0, g⟩ (fun r => (∀ c : Dev Cert.MixDwOutReferenceIdeal.nD,
      r.2.mem ((c.tc : Thread Cert.MixDwOutReferenceIdeal.nD Cert.MixDwOutReferenceIdeal.τ).loc Cert.MixDwOutReferenceIdeal.main_arg0) = m ((c.tc : Thread Cert.MixDwOutReferenceIdeal.nD Cert.MixDwOutReferenceIdeal.τ).loc Cert.MixDwOutReferenceIdeal.main_arg0)
      ∧ r.2.mem ((c.tc : Thread Cert.MixDwOutReferenceIdeal.nD Cert.MixDwOutReferenceIdeal.τ).loc Cert.MixDwOutReferenceIdeal.main_arg1) = m ((c.tc : Thread Cert.MixDwOutReferenceIdeal.nD Cert.MixDwOutReferenceIdeal.τ).loc Cert.MixDwOutReferenceIdeal.main_arg1)
      ∧ r.2.mem ((c.tc : Thread Cert.MixDwOutReferenceIdeal.nD Cert.MixDwOutReferenceIdeal.τ).loc Cert.MixDwOutReferenceIdeal.main_arg2) = m ((c.tc : Thread Cert.MixDwOutReferenceIdeal.nD Cert.MixDwOutReferenceIdeal.τ).loc Cert.MixDwOutReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2))
      ∧ r.2.sem = fun _ => 0)

def quiescent_SbDh [hSbDh : Cert.SbDh.Facts] : Prop :=
  ∀ (m : (ℓ : Loc Cert.SbDh.nD Cert.SbDh.τ Cert.SbDh.sig) → Buf (Elt Bits) ℓ) (g : Dev Cert.SbDh.nD → PrngReg), Pre_SbDh m →
    θ_run (Cert.SbDh.defs (F := Bits)) (onTc (τ := Cert.SbDh.τ) (Cert.SbDh.main (F := Bits))) ⟨m, fun _ => 0, g⟩ (fun r => (∀ c : Dev Cert.SbDh.nD,
      r.2.mem ((c.tc : Thread Cert.SbDh.nD Cert.SbDh.τ).loc Cert.SbDh.main_arg0) = m ((c.tc : Thread Cert.SbDh.nD Cert.SbDh.τ).loc Cert.SbDh.main_arg0)
      ∧ r.2.mem ((c.tc : Thread Cert.SbDh.nD Cert.SbDh.τ).loc Cert.SbDh.main_arg1) = m ((c.tc : Thread Cert.SbDh.nD Cert.SbDh.τ).loc Cert.SbDh.main_arg1)
      ∧ r.2.mem ((c.tc : Thread Cert.SbDh.nD Cert.SbDh.τ).loc Cert.SbDh.main_arg2) = m ((c.tc : Thread Cert.SbDh.nD Cert.SbDh.τ).loc Cert.SbDh.main_arg2))
      ∧ r.2.sem = fun _ => 0)

def quiescent_SbDhIdeal [hSbDhIdeal : Cert.SbDhIdeal.Facts] : Prop :=
  ∀ (m : (ℓ : Loc Cert.SbDhIdeal.nD Cert.SbDhIdeal.τ Cert.SbDhIdeal.sig) → Buf (Elt Ideal) ℓ) (g : Dev Cert.SbDhIdeal.nD → PrngReg), Pre_SbDhIdeal m →
    θ_run (Cert.SbDhIdeal.defs (F := Ideal)) (onTc (τ := Cert.SbDhIdeal.τ) (Cert.SbDhIdeal.main (F := Ideal))) ⟨m, fun _ => 0, g⟩ (fun r => (∀ c : Dev Cert.SbDhIdeal.nD,
      r.2.mem ((c.tc : Thread Cert.SbDhIdeal.nD Cert.SbDhIdeal.τ).loc Cert.SbDhIdeal.main_arg0) = m ((c.tc : Thread Cert.SbDhIdeal.nD Cert.SbDhIdeal.τ).loc Cert.SbDhIdeal.main_arg0)
      ∧ r.2.mem ((c.tc : Thread Cert.SbDhIdeal.nD Cert.SbDhIdeal.τ).loc Cert.SbDhIdeal.main_arg1) = m ((c.tc : Thread Cert.SbDhIdeal.nD Cert.SbDhIdeal.τ).loc Cert.SbDhIdeal.main_arg1)
      ∧ r.2.mem ((c.tc : Thread Cert.SbDhIdeal.nD Cert.SbDhIdeal.τ).loc Cert.SbDhIdeal.main_arg2) = m ((c.tc : Thread Cert.SbDhIdeal.nD Cert.SbDhIdeal.τ).loc Cert.SbDhIdeal.main_arg2))
      ∧ r.2.sem = fun _ => 0)

def quiescent_SbDhReferenceIdeal [hSbDhReferenceIdeal : Cert.SbDhReferenceIdeal.Facts] : Prop :=
  ∀ (m : (ℓ : Loc Cert.SbDhReferenceIdeal.nD Cert.SbDhReferenceIdeal.τ Cert.SbDhReferenceIdeal.sig) → Buf (Elt Ideal) ℓ) (g : Dev Cert.SbDhReferenceIdeal.nD → PrngReg), Pre_SbDhReferenceIdeal m →
    θ_run (Cert.SbDhReferenceIdeal.defs (F := Ideal)) (onTc (τ := Cert.SbDhReferenceIdeal.τ) (Cert.SbDhReferenceIdeal.main (F := Ideal))) ⟨m, fun _ => 0, g⟩ (fun r => (∀ c : Dev Cert.SbDhReferenceIdeal.nD,
      r.2.mem ((c.tc : Thread Cert.SbDhReferenceIdeal.nD Cert.SbDhReferenceIdeal.τ).loc Cert.SbDhReferenceIdeal.main_arg0) = m ((c.tc : Thread Cert.SbDhReferenceIdeal.nD Cert.SbDhReferenceIdeal.τ).loc Cert.SbDhReferenceIdeal.main_arg0)
      ∧ r.2.mem ((c.tc : Thread Cert.SbDhReferenceIdeal.nD Cert.SbDhReferenceIdeal.τ).loc Cert.SbDhReferenceIdeal.main_arg1) = m ((c.tc : Thread Cert.SbDhReferenceIdeal.nD Cert.SbDhReferenceIdeal.τ).loc Cert.SbDhReferenceIdeal.main_arg1)
      ∧ r.2.mem ((c.tc : Thread Cert.SbDhReferenceIdeal.nD Cert.SbDhReferenceIdeal.τ).loc Cert.SbDhReferenceIdeal.main_arg2) = m ((c.tc : Thread Cert.SbDhReferenceIdeal.nD Cert.SbDhReferenceIdeal.τ).loc Cert.SbDhReferenceIdeal.main_arg2))
      ∧ r.2.sem = fun _ => 0)

def quiescent_SbDwIn [hSbDwIn : Cert.SbDwIn.Facts] : Prop :=
  ∀ (m : (ℓ : Loc Cert.SbDwIn.nD Cert.SbDwIn.τ Cert.SbDwIn.sig) → Buf (Elt Bits) ℓ) (g : Dev Cert.SbDwIn.nD → PrngReg), Pre_SbDwIn m →
    θ_run (Cert.SbDwIn.defs (F := Bits)) (onTc (τ := Cert.SbDwIn.τ) (Cert.SbDwIn.main (F := Bits))) ⟨m, fun _ => 0, g⟩ (fun r => (∀ c : Dev Cert.SbDwIn.nD,
      r.2.mem ((c.tc : Thread Cert.SbDwIn.nD Cert.SbDwIn.τ).loc Cert.SbDwIn.main_arg0) = m ((c.tc : Thread Cert.SbDwIn.nD Cert.SbDwIn.τ).loc Cert.SbDwIn.main_arg0)
      ∧ r.2.mem ((c.tc : Thread Cert.SbDwIn.nD Cert.SbDwIn.τ).loc Cert.SbDwIn.main_arg1) = m ((c.tc : Thread Cert.SbDwIn.nD Cert.SbDwIn.τ).loc Cert.SbDwIn.main_arg1)
      ∧ r.2.mem ((c.tc : Thread Cert.SbDwIn.nD Cert.SbDwIn.τ).loc Cert.SbDwIn.main_arg2) = m ((c.tc : Thread Cert.SbDwIn.nD Cert.SbDwIn.τ).loc Cert.SbDwIn.main_arg2))
      ∧ r.2.sem = fun _ => 0)

def quiescent_SbDwInIdeal [hSbDwInIdeal : Cert.SbDwInIdeal.Facts] : Prop :=
  ∀ (m : (ℓ : Loc Cert.SbDwInIdeal.nD Cert.SbDwInIdeal.τ Cert.SbDwInIdeal.sig) → Buf (Elt Ideal) ℓ) (g : Dev Cert.SbDwInIdeal.nD → PrngReg), Pre_SbDwInIdeal m →
    θ_run (Cert.SbDwInIdeal.defs (F := Ideal)) (onTc (τ := Cert.SbDwInIdeal.τ) (Cert.SbDwInIdeal.main (F := Ideal))) ⟨m, fun _ => 0, g⟩ (fun r => (∀ c : Dev Cert.SbDwInIdeal.nD,
      r.2.mem ((c.tc : Thread Cert.SbDwInIdeal.nD Cert.SbDwInIdeal.τ).loc Cert.SbDwInIdeal.main_arg0) = m ((c.tc : Thread Cert.SbDwInIdeal.nD Cert.SbDwInIdeal.τ).loc Cert.SbDwInIdeal.main_arg0)
      ∧ r.2.mem ((c.tc : Thread Cert.SbDwInIdeal.nD Cert.SbDwInIdeal.τ).loc Cert.SbDwInIdeal.main_arg1) = m ((c.tc : Thread Cert.SbDwInIdeal.nD Cert.SbDwInIdeal.τ).loc Cert.SbDwInIdeal.main_arg1)
      ∧ r.2.mem ((c.tc : Thread Cert.SbDwInIdeal.nD Cert.SbDwInIdeal.τ).loc Cert.SbDwInIdeal.main_arg2) = m ((c.tc : Thread Cert.SbDwInIdeal.nD Cert.SbDwInIdeal.τ).loc Cert.SbDwInIdeal.main_arg2))
      ∧ r.2.sem = fun _ => 0)

def quiescent_SbDwInReferenceIdeal [hSbDwInReferenceIdeal : Cert.SbDwInReferenceIdeal.Facts] : Prop :=
  ∀ (m : (ℓ : Loc Cert.SbDwInReferenceIdeal.nD Cert.SbDwInReferenceIdeal.τ Cert.SbDwInReferenceIdeal.sig) → Buf (Elt Ideal) ℓ) (g : Dev Cert.SbDwInReferenceIdeal.nD → PrngReg), Pre_SbDwInReferenceIdeal m →
    θ_run (Cert.SbDwInReferenceIdeal.defs (F := Ideal)) (onTc (τ := Cert.SbDwInReferenceIdeal.τ) (Cert.SbDwInReferenceIdeal.main (F := Ideal))) ⟨m, fun _ => 0, g⟩ (fun r => (∀ c : Dev Cert.SbDwInReferenceIdeal.nD,
      r.2.mem ((c.tc : Thread Cert.SbDwInReferenceIdeal.nD Cert.SbDwInReferenceIdeal.τ).loc Cert.SbDwInReferenceIdeal.main_arg0) = m ((c.tc : Thread Cert.SbDwInReferenceIdeal.nD Cert.SbDwInReferenceIdeal.τ).loc Cert.SbDwInReferenceIdeal.main_arg0)
      ∧ r.2.mem ((c.tc : Thread Cert.SbDwInReferenceIdeal.nD Cert.SbDwInReferenceIdeal.τ).loc Cert.SbDwInReferenceIdeal.main_arg1) = m ((c.tc : Thread Cert.SbDwInReferenceIdeal.nD Cert.SbDwInReferenceIdeal.τ).loc Cert.SbDwInReferenceIdeal.main_arg1)
      ∧ r.2.mem ((c.tc : Thread Cert.SbDwInReferenceIdeal.nD Cert.SbDwInReferenceIdeal.τ).loc Cert.SbDwInReferenceIdeal.main_arg2) = m ((c.tc : Thread Cert.SbDwInReferenceIdeal.nD Cert.SbDwInReferenceIdeal.τ).loc Cert.SbDwInReferenceIdeal.main_arg2))
      ∧ r.2.sem = fun _ => 0)

def quiescent_SbProj [hSbProj : Cert.SbProj.Facts] : Prop :=
  ∀ (m : (ℓ : Loc Cert.SbProj.nD Cert.SbProj.τ Cert.SbProj.sig) → Buf (Elt Bits) ℓ) (g : Dev Cert.SbProj.nD → PrngReg), Pre_SbProj m →
    θ_run (Cert.SbProj.defs (F := Bits)) (onTc (τ := Cert.SbProj.τ) (Cert.SbProj.main (F := Bits))) ⟨m, fun _ => 0, g⟩ (fun r => (∀ c : Dev Cert.SbProj.nD,
      r.2.mem ((c.tc : Thread Cert.SbProj.nD Cert.SbProj.τ).loc Cert.SbProj.main_arg0) = m ((c.tc : Thread Cert.SbProj.nD Cert.SbProj.τ).loc Cert.SbProj.main_arg0)
      ∧ r.2.mem ((c.tc : Thread Cert.SbProj.nD Cert.SbProj.τ).loc Cert.SbProj.main_arg1) = m ((c.tc : Thread Cert.SbProj.nD Cert.SbProj.τ).loc Cert.SbProj.main_arg1))
      ∧ r.2.sem = fun _ => 0)

def quiescent_SbProjIdeal [hSbProjIdeal : Cert.SbProjIdeal.Facts] : Prop :=
  ∀ (m : (ℓ : Loc Cert.SbProjIdeal.nD Cert.SbProjIdeal.τ Cert.SbProjIdeal.sig) → Buf (Elt Ideal) ℓ) (g : Dev Cert.SbProjIdeal.nD → PrngReg), Pre_SbProjIdeal m →
    θ_run (Cert.SbProjIdeal.defs (F := Ideal)) (onTc (τ := Cert.SbProjIdeal.τ) (Cert.SbProjIdeal.main (F := Ideal))) ⟨m, fun _ => 0, g⟩ (fun r => (∀ c : Dev Cert.SbProjIdeal.nD,
      r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
      ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1))
      ∧ r.2.sem = fun _ => 0)

def quiescent_SbProjReferenceIdeal [hSbProjReferenceIdeal : Cert.SbProjReferenceIdeal.Facts] : Prop :=
  ∀ (m : (ℓ : Loc Cert.SbProjReferenceIdeal.nD Cert.SbProjReferenceIdeal.τ Cert.SbProjReferenceIdeal.sig) → Buf (Elt Ideal) ℓ) (g : Dev Cert.SbProjReferenceIdeal.nD → PrngReg), Pre_SbProjReferenceIdeal m →
    θ_run (Cert.SbProjReferenceIdeal.defs (F := Ideal)) (onTc (τ := Cert.SbProjReferenceIdeal.τ) (Cert.SbProjReferenceIdeal.main (F := Ideal))) ⟨m, fun _ => 0, g⟩ (fun r => (∀ c : Dev Cert.SbProjReferenceIdeal.nD,
      r.2.mem ((c.tc : Thread Cert.SbProjReferenceIdeal.nD Cert.SbProjReferenceIdeal.τ).loc Cert.SbProjReferenceIdeal.main_arg0) = m ((c.tc : Thread Cert.SbProjReferenceIdeal.nD Cert.SbProjReferenceIdeal.τ).loc Cert.SbProjReferenceIdeal.main_arg0)
      ∧ r.2.mem ((c.tc : Thread Cert.SbProjReferenceIdeal.nD Cert.SbProjReferenceIdeal.τ).loc Cert.SbProjReferenceIdeal.main_arg1) = m ((c.tc : Thread Cert.SbProjReferenceIdeal.nD Cert.SbProjReferenceIdeal.τ).loc Cert.SbProjReferenceIdeal.main_arg1))
      ∧ r.2.sem = fun _ => 0)

def quiescent_FoxDh [hFoxDh : Cert.FoxDh.Facts] : Prop :=
  ∀ (m : (ℓ : Loc Cert.FoxDh.nD Cert.FoxDh.τ Cert.FoxDh.sig) → Buf (Elt Bits) ℓ) (g : Dev Cert.FoxDh.nD → PrngReg), Pre_FoxDh m →
    θ_run (Cert.FoxDh.defs (F := Bits)) (onTc (τ := Cert.FoxDh.τ) (Cert.FoxDh.main (F := Bits))) ⟨m, fun _ => 0, g⟩ (fun r => (∀ c : Dev Cert.FoxDh.nD,
      r.2.mem ((c.tc : Thread Cert.FoxDh.nD Cert.FoxDh.τ).loc Cert.FoxDh.main_arg0) = m ((c.tc : Thread Cert.FoxDh.nD Cert.FoxDh.τ).loc Cert.FoxDh.main_arg0)
      ∧ r.2.mem ((c.tc : Thread Cert.FoxDh.nD Cert.FoxDh.τ).loc Cert.FoxDh.main_arg1) = m ((c.tc : Thread Cert.FoxDh.nD Cert.FoxDh.τ).loc Cert.FoxDh.main_arg1)
      ∧ r.2.mem ((c.tc : Thread Cert.FoxDh.nD Cert.FoxDh.τ).loc Cert.FoxDh.main_arg2) = m ((c.tc : Thread Cert.FoxDh.nD Cert.FoxDh.τ).loc Cert.FoxDh.main_arg2))
      ∧ r.2.sem = fun _ => 0)

def quiescent_FoxDhIdeal [hFoxDhIdeal : Cert.FoxDhIdeal.Facts] : Prop :=
  ∀ (m : (ℓ : Loc Cert.FoxDhIdeal.nD Cert.FoxDhIdeal.τ Cert.FoxDhIdeal.sig) → Buf (Elt Ideal) ℓ) (g : Dev Cert.FoxDhIdeal.nD → PrngReg), Pre_FoxDhIdeal m →
    θ_run (Cert.FoxDhIdeal.defs (F := Ideal)) (onTc (τ := Cert.FoxDhIdeal.τ) (Cert.FoxDhIdeal.main (F := Ideal))) ⟨m, fun _ => 0, g⟩ (fun r => (∀ c : Dev Cert.FoxDhIdeal.nD,
      r.2.mem ((c.tc : Thread Cert.FoxDhIdeal.nD Cert.FoxDhIdeal.τ).loc Cert.FoxDhIdeal.main_arg0) = m ((c.tc : Thread Cert.FoxDhIdeal.nD Cert.FoxDhIdeal.τ).loc Cert.FoxDhIdeal.main_arg0)
      ∧ r.2.mem ((c.tc : Thread Cert.FoxDhIdeal.nD Cert.FoxDhIdeal.τ).loc Cert.FoxDhIdeal.main_arg1) = m ((c.tc : Thread Cert.FoxDhIdeal.nD Cert.FoxDhIdeal.τ).loc Cert.FoxDhIdeal.main_arg1)
      ∧ r.2.mem ((c.tc : Thread Cert.FoxDhIdeal.nD Cert.FoxDhIdeal.τ).loc Cert.FoxDhIdeal.main_arg2) = m ((c.tc : Thread Cert.FoxDhIdeal.nD Cert.FoxDhIdeal.τ).loc Cert.FoxDhIdeal.main_arg2))
      ∧ r.2.sem = fun _ => 0)

def quiescent_FoxDhReferenceIdeal [hFoxDhReferenceIdeal : Cert.FoxDhReferenceIdeal.Facts] : Prop :=
  ∀ (m : (ℓ : Loc Cert.FoxDhReferenceIdeal.nD Cert.FoxDhReferenceIdeal.τ Cert.FoxDhReferenceIdeal.sig) → Buf (Elt Ideal) ℓ) (g : Dev Cert.FoxDhReferenceIdeal.nD → PrngReg), Pre_FoxDhReferenceIdeal m →
    θ_run (Cert.FoxDhReferenceIdeal.defs (F := Ideal)) (onTc (τ := Cert.FoxDhReferenceIdeal.τ) (Cert.FoxDhReferenceIdeal.main (F := Ideal))) ⟨m, fun _ => 0, g⟩ (fun r => (∀ c : Dev Cert.FoxDhReferenceIdeal.nD,
      r.2.mem ((c.tc : Thread Cert.FoxDhReferenceIdeal.nD Cert.FoxDhReferenceIdeal.τ).loc Cert.FoxDhReferenceIdeal.main_arg0) = m ((c.tc : Thread Cert.FoxDhReferenceIdeal.nD Cert.FoxDhReferenceIdeal.τ).loc Cert.FoxDhReferenceIdeal.main_arg0)
      ∧ r.2.mem ((c.tc : Thread Cert.FoxDhReferenceIdeal.nD Cert.FoxDhReferenceIdeal.τ).loc Cert.FoxDhReferenceIdeal.main_arg1) = m ((c.tc : Thread Cert.FoxDhReferenceIdeal.nD Cert.FoxDhReferenceIdeal.τ).loc Cert.FoxDhReferenceIdeal.main_arg1)
      ∧ r.2.mem ((c.tc : Thread Cert.FoxDhReferenceIdeal.nD Cert.FoxDhReferenceIdeal.τ).loc Cert.FoxDhReferenceIdeal.main_arg2) = m ((c.tc : Thread Cert.FoxDhReferenceIdeal.nD Cert.FoxDhReferenceIdeal.τ).loc Cert.FoxDhReferenceIdeal.main_arg2))
      ∧ r.2.sem = fun _ => 0)

def quiescent_FoxDwIn [hFoxDwIn : Cert.FoxDwIn.Facts] : Prop :=
  ∀ (m : (ℓ : Loc Cert.FoxDwIn.nD Cert.FoxDwIn.τ Cert.FoxDwIn.sig) → Buf (Elt Bits) ℓ) (g : Dev Cert.FoxDwIn.nD → PrngReg), Pre_FoxDwIn m →
    θ_run (Cert.FoxDwIn.defs (F := Bits)) (onTc (τ := Cert.FoxDwIn.τ) (Cert.FoxDwIn.main (F := Bits))) ⟨m, fun _ => 0, g⟩ (fun r => (∀ c : Dev Cert.FoxDwIn.nD,
      r.2.mem ((c.tc : Thread Cert.FoxDwIn.nD Cert.FoxDwIn.τ).loc Cert.FoxDwIn.main_arg0) = m ((c.tc : Thread Cert.FoxDwIn.nD Cert.FoxDwIn.τ).loc Cert.FoxDwIn.main_arg0)
      ∧ r.2.mem ((c.tc : Thread Cert.FoxDwIn.nD Cert.FoxDwIn.τ).loc Cert.FoxDwIn.main_arg1) = m ((c.tc : Thread Cert.FoxDwIn.nD Cert.FoxDwIn.τ).loc Cert.FoxDwIn.main_arg1)
      ∧ r.2.mem ((c.tc : Thread Cert.FoxDwIn.nD Cert.FoxDwIn.τ).loc Cert.FoxDwIn.main_arg2) = m ((c.tc : Thread Cert.FoxDwIn.nD Cert.FoxDwIn.τ).loc Cert.FoxDwIn.main_arg2))
      ∧ r.2.sem = fun _ => 0)

def quiescent_FoxDwInIdeal [hFoxDwInIdeal : Cert.FoxDwInIdeal.Facts] : Prop :=
  ∀ (m : (ℓ : Loc Cert.FoxDwInIdeal.nD Cert.FoxDwInIdeal.τ Cert.FoxDwInIdeal.sig) → Buf (Elt Ideal) ℓ) (g : Dev Cert.FoxDwInIdeal.nD → PrngReg), Pre_FoxDwInIdeal m →
    θ_run (Cert.FoxDwInIdeal.defs (F := Ideal)) (onTc (τ := Cert.FoxDwInIdeal.τ) (Cert.FoxDwInIdeal.main (F := Ideal))) ⟨m, fun _ => 0, g⟩ (fun r => (∀ c : Dev Cert.FoxDwInIdeal.nD,
      r.2.mem ((c.tc : Thread Cert.FoxDwInIdeal.nD Cert.FoxDwInIdeal.τ).loc Cert.FoxDwInIdeal.main_arg0) = m ((c.tc : Thread Cert.FoxDwInIdeal.nD Cert.FoxDwInIdeal.τ).loc Cert.FoxDwInIdeal.main_arg0)
      ∧ r.2.mem ((c.tc : Thread Cert.FoxDwInIdeal.nD Cert.FoxDwInIdeal.τ).loc Cert.FoxDwInIdeal.main_arg1) = m ((c.tc : Thread Cert.FoxDwInIdeal.nD Cert.FoxDwInIdeal.τ).loc Cert.FoxDwInIdeal.main_arg1)
      ∧ r.2.mem ((c.tc : Thread Cert.FoxDwInIdeal.nD Cert.FoxDwInIdeal.τ).loc Cert.FoxDwInIdeal.main_arg2) = m ((c.tc : Thread Cert.FoxDwInIdeal.nD Cert.FoxDwInIdeal.τ).loc Cert.FoxDwInIdeal.main_arg2))
      ∧ r.2.sem = fun _ => 0)

def quiescent_FoxDwInReferenceIdeal [hFoxDwInReferenceIdeal : Cert.FoxDwInReferenceIdeal.Facts] : Prop :=
  ∀ (m : (ℓ : Loc Cert.FoxDwInReferenceIdeal.nD Cert.FoxDwInReferenceIdeal.τ Cert.FoxDwInReferenceIdeal.sig) → Buf (Elt Ideal) ℓ) (g : Dev Cert.FoxDwInReferenceIdeal.nD → PrngReg), Pre_FoxDwInReferenceIdeal m →
    θ_run (Cert.FoxDwInReferenceIdeal.defs (F := Ideal)) (onTc (τ := Cert.FoxDwInReferenceIdeal.τ) (Cert.FoxDwInReferenceIdeal.main (F := Ideal))) ⟨m, fun _ => 0, g⟩ (fun r => (∀ c : Dev Cert.FoxDwInReferenceIdeal.nD,
      r.2.mem ((c.tc : Thread Cert.FoxDwInReferenceIdeal.nD Cert.FoxDwInReferenceIdeal.τ).loc Cert.FoxDwInReferenceIdeal.main_arg0) = m ((c.tc : Thread Cert.FoxDwInReferenceIdeal.nD Cert.FoxDwInReferenceIdeal.τ).loc Cert.FoxDwInReferenceIdeal.main_arg0)
      ∧ r.2.mem ((c.tc : Thread Cert.FoxDwInReferenceIdeal.nD Cert.FoxDwInReferenceIdeal.τ).loc Cert.FoxDwInReferenceIdeal.main_arg1) = m ((c.tc : Thread Cert.FoxDwInReferenceIdeal.nD Cert.FoxDwInReferenceIdeal.τ).loc Cert.FoxDwInReferenceIdeal.main_arg1)
      ∧ r.2.mem ((c.tc : Thread Cert.FoxDwInReferenceIdeal.nD Cert.FoxDwInReferenceIdeal.τ).loc Cert.FoxDwInReferenceIdeal.main_arg2) = m ((c.tc : Thread Cert.FoxDwInReferenceIdeal.nD Cert.FoxDwInReferenceIdeal.τ).loc Cert.FoxDwInReferenceIdeal.main_arg2))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ r.2.sem = fun _ => 0)

def quiescent_FoxProjReferenceIdeal [hFoxProjReferenceIdeal : Cert.FoxProjReferenceIdeal.Facts] : Prop :=
  ∀ (m : (ℓ : Loc Cert.FoxProjReferenceIdeal.nD Cert.FoxProjReferenceIdeal.τ Cert.FoxProjReferenceIdeal.sig) → Buf (Elt Ideal) ℓ) (g : Dev Cert.FoxProjReferenceIdeal.nD → PrngReg), Pre_FoxProjReferenceIdeal m →
    θ_run (Cert.FoxProjReferenceIdeal.defs (F := Ideal)) (onTc (τ := Cert.FoxProjReferenceIdeal.τ) (Cert.FoxProjReferenceIdeal.main (F := Ideal))) ⟨m, fun _ => 0, g⟩ (fun r => (∀ c : Dev Cert.FoxProjReferenceIdeal.nD,
      r.2.mem ((c.tc : Thread Cert.FoxProjReferenceIdeal.nD Cert.FoxProjReferenceIdeal.τ).loc Cert.FoxProjReferenceIdeal.main_arg0) = m ((c.tc : Thread Cert.FoxProjReferenceIdeal.nD Cert.FoxProjReferenceIdeal.τ).loc Cert.FoxProjReferenceIdeal.main_arg0)
      ∧ r.2.mem ((c.tc : Thread Cert.FoxProjReferenceIdeal.nD Cert.FoxProjReferenceIdeal.τ).loc Cert.FoxProjReferenceIdeal.main_arg1) = m ((c.tc : Thread Cert.FoxProjReferenceIdeal.nD Cert.FoxProjReferenceIdeal.τ).loc Cert.FoxProjReferenceIdeal.main_arg1))
      ∧ r.2.sem = fun _ => 0)

def quiescent_MlaDh [hMlaDh : Cert.MlaDh.Facts] : Prop :=
  ∀ (m : (ℓ : Loc Cert.MlaDh.nD Cert.MlaDh.τ Cert.MlaDh.sig) → Buf (Elt Bits) ℓ) (g : Dev Cert.MlaDh.nD → PrngReg), Pre_MlaDh m →
    θ_run (Cert.MlaDh.defs (F := Bits)) (onTc (τ := Cert.MlaDh.τ) (Cert.MlaDh.main (F := Bits))) ⟨m, fun _ => 0, g⟩ (fun r => (∀ c : Dev Cert.MlaDh.nD,
      r.2.mem ((c.tc : Thread Cert.MlaDh.nD Cert.MlaDh.τ).loc Cert.MlaDh.main_arg0) = m ((c.tc : Thread Cert.MlaDh.nD Cert.MlaDh.τ).loc Cert.MlaDh.main_arg0)
      ∧ r.2.mem ((c.tc : Thread Cert.MlaDh.nD Cert.MlaDh.τ).loc Cert.MlaDh.main_arg1) = m ((c.tc : Thread Cert.MlaDh.nD Cert.MlaDh.τ).loc Cert.MlaDh.main_arg1)
      ∧ r.2.mem ((c.tc : Thread Cert.MlaDh.nD Cert.MlaDh.τ).loc Cert.MlaDh.main_arg2) = m ((c.tc : Thread Cert.MlaDh.nD Cert.MlaDh.τ).loc Cert.MlaDh.main_arg2))
      ∧ r.2.sem = fun _ => 0)

def quiescent_MlaDhIdeal [hMlaDhIdeal : Cert.MlaDhIdeal.Facts] : Prop :=
  ∀ (m : (ℓ : Loc Cert.MlaDhIdeal.nD Cert.MlaDhIdeal.τ Cert.MlaDhIdeal.sig) → Buf (Elt Ideal) ℓ) (g : Dev Cert.MlaDhIdeal.nD → PrngReg), Pre_MlaDhIdeal m →
    θ_run (Cert.MlaDhIdeal.defs (F := Ideal)) (onTc (τ := Cert.MlaDhIdeal.τ) (Cert.MlaDhIdeal.main (F := Ideal))) ⟨m, fun _ => 0, g⟩ (fun r => (∀ c : Dev Cert.MlaDhIdeal.nD,
      r.2.mem ((c.tc : Thread Cert.MlaDhIdeal.nD Cert.MlaDhIdeal.τ).loc Cert.MlaDhIdeal.main_arg0) = m ((c.tc : Thread Cert.MlaDhIdeal.nD Cert.MlaDhIdeal.τ).loc Cert.MlaDhIdeal.main_arg0)
      ∧ r.2.mem ((c.tc : Thread Cert.MlaDhIdeal.nD Cert.MlaDhIdeal.τ).loc Cert.MlaDhIdeal.main_arg1) = m ((c.tc : Thread Cert.MlaDhIdeal.nD Cert.MlaDhIdeal.τ).loc Cert.MlaDhIdeal.main_arg1)
      ∧ r.2.mem ((c.tc : Thread Cert.MlaDhIdeal.nD Cert.MlaDhIdeal.τ).loc Cert.MlaDhIdeal.main_arg2) = m ((c.tc : Thread Cert.MlaDhIdeal.nD Cert.MlaDhIdeal.τ).loc Cert.MlaDhIdeal.main_arg2))
      ∧ r.2.sem = fun _ => 0)

def quiescent_MlaDhReferenceIdeal [hMlaDhReferenceIdeal : Cert.MlaDhReferenceIdeal.Facts] : Prop :=
  ∀ (m : (ℓ : Loc Cert.MlaDhReferenceIdeal.nD Cert.MlaDhReferenceIdeal.τ Cert.MlaDhReferenceIdeal.sig) → Buf (Elt Ideal) ℓ) (g : Dev Cert.MlaDhReferenceIdeal.nD → PrngReg), Pre_MlaDhReferenceIdeal m →
    θ_run (Cert.MlaDhReferenceIdeal.defs (F := Ideal)) (onTc (τ := Cert.MlaDhReferenceIdeal.τ) (Cert.MlaDhReferenceIdeal.main (F := Ideal))) ⟨m, fun _ => 0, g⟩ (fun r => (∀ c : Dev Cert.MlaDhReferenceIdeal.nD,
      r.2.mem ((c.tc : Thread Cert.MlaDhReferenceIdeal.nD Cert.MlaDhReferenceIdeal.τ).loc Cert.MlaDhReferenceIdeal.main_arg0) = m ((c.tc : Thread Cert.MlaDhReferenceIdeal.nD Cert.MlaDhReferenceIdeal.τ).loc Cert.MlaDhReferenceIdeal.main_arg0)
      ∧ r.2.mem ((c.tc : Thread Cert.MlaDhReferenceIdeal.nD Cert.MlaDhReferenceIdeal.τ).loc Cert.MlaDhReferenceIdeal.main_arg1) = m ((c.tc : Thread Cert.MlaDhReferenceIdeal.nD Cert.MlaDhReferenceIdeal.τ).loc Cert.MlaDhReferenceIdeal.main_arg1)
      ∧ r.2.mem ((c.tc : Thread Cert.MlaDhReferenceIdeal.nD Cert.MlaDhReferenceIdeal.τ).loc Cert.MlaDhReferenceIdeal.main_arg2) = m ((c.tc : Thread Cert.MlaDhReferenceIdeal.nD Cert.MlaDhReferenceIdeal.τ).loc Cert.MlaDhReferenceIdeal.main_arg2))
      ∧ r.2.sem = fun _ => 0)

def quiescent_MlaDwIn [hMlaDwIn : Cert.MlaDwIn.Facts] : Prop :=
  ∀ (m : (ℓ : Loc Cert.MlaDwIn.nD Cert.MlaDwIn.τ Cert.MlaDwIn.sig) → Buf (Elt Bits) ℓ) (g : Dev Cert.MlaDwIn.nD → PrngReg), Pre_MlaDwIn m →
    θ_run (Cert.MlaDwIn.defs (F := Bits)) (onTc (τ := Cert.MlaDwIn.τ) (Cert.MlaDwIn.main (F := Bits))) ⟨m, fun _ => 0, g⟩ (fun r => (∀ c : Dev Cert.MlaDwIn.nD,
      r.2.mem ((c.tc : Thread Cert.MlaDwIn.nD Cert.MlaDwIn.τ).loc Cert.MlaDwIn.main_arg0) = m ((c.tc : Thread Cert.MlaDwIn.nD Cert.MlaDwIn.τ).loc Cert.MlaDwIn.main_arg0)
      ∧ r.2.mem ((c.tc : Thread Cert.MlaDwIn.nD Cert.MlaDwIn.τ).loc Cert.MlaDwIn.main_arg1) = m ((c.tc : Thread Cert.MlaDwIn.nD Cert.MlaDwIn.τ).loc Cert.MlaDwIn.main_arg1)
      ∧ r.2.mem ((c.tc : Thread Cert.MlaDwIn.nD Cert.MlaDwIn.τ).loc Cert.MlaDwIn.main_arg2) = m ((c.tc : Thread Cert.MlaDwIn.nD Cert.MlaDwIn.τ).loc Cert.MlaDwIn.main_arg2))
      ∧ r.2.sem = fun _ => 0)

def quiescent_MlaDwInIdeal [hMlaDwInIdeal : Cert.MlaDwInIdeal.Facts] : Prop :=
  ∀ (m : (ℓ : Loc Cert.MlaDwInIdeal.nD Cert.MlaDwInIdeal.τ Cert.MlaDwInIdeal.sig) → Buf (Elt Ideal) ℓ) (g : Dev Cert.MlaDwInIdeal.nD → PrngReg), Pre_MlaDwInIdeal m →
    θ_run (Cert.MlaDwInIdeal.defs (F := Ideal)) (onTc (τ := Cert.MlaDwInIdeal.τ) (Cert.MlaDwInIdeal.main (F := Ideal))) ⟨m, fun _ => 0, g⟩ (fun r => (∀ c : Dev Cert.MlaDwInIdeal.nD,
      r.2.mem ((c.tc : Thread Cert.MlaDwInIdeal.nD Cert.MlaDwInIdeal.τ).loc Cert.MlaDwInIdeal.main_arg0) = m ((c.tc : Thread Cert.MlaDwInIdeal.nD Cert.MlaDwInIdeal.τ).loc Cert.MlaDwInIdeal.main_arg0)
      ∧ r.2.mem ((c.tc : Thread Cert.MlaDwInIdeal.nD Cert.MlaDwInIdeal.τ).loc Cert.MlaDwInIdeal.main_arg1) = m ((c.tc : Thread Cert.MlaDwInIdeal.nD Cert.MlaDwInIdeal.τ).loc Cert.MlaDwInIdeal.main_arg1)
      ∧ r.2.mem ((c.tc : Thread Cert.MlaDwInIdeal.nD Cert.MlaDwInIdeal.τ).loc Cert.MlaDwInIdeal.main_arg2) = m ((c.tc : Thread Cert.MlaDwInIdeal.nD Cert.MlaDwInIdeal.τ).loc Cert.MlaDwInIdeal.main_arg2))
      ∧ r.2.sem = fun _ => 0)

def quiescent_MlaDwInReferenceIdeal [hMlaDwInReferenceIdeal : Cert.MlaDwInReferenceIdeal.Facts] : Prop :=
  ∀ (m : (ℓ : Loc Cert.MlaDwInReferenceIdeal.nD Cert.MlaDwInReferenceIdeal.τ Cert.MlaDwInReferenceIdeal.sig) → Buf (Elt Ideal) ℓ) (g : Dev Cert.MlaDwInReferenceIdeal.nD → PrngReg), Pre_MlaDwInReferenceIdeal m →
    θ_run (Cert.MlaDwInReferenceIdeal.defs (F := Ideal)) (onTc (τ := Cert.MlaDwInReferenceIdeal.τ) (Cert.MlaDwInReferenceIdeal.main (F := Ideal))) ⟨m, fun _ => 0, g⟩ (fun r => (∀ c : Dev Cert.MlaDwInReferenceIdeal.nD,
      r.2.mem ((c.tc : Thread Cert.MlaDwInReferenceIdeal.nD Cert.MlaDwInReferenceIdeal.τ).loc Cert.MlaDwInReferenceIdeal.main_arg0) = m ((c.tc : Thread Cert.MlaDwInReferenceIdeal.nD Cert.MlaDwInReferenceIdeal.τ).loc Cert.MlaDwInReferenceIdeal.main_arg0)
      ∧ r.2.mem ((c.tc : Thread Cert.MlaDwInReferenceIdeal.nD Cert.MlaDwInReferenceIdeal.τ).loc Cert.MlaDwInReferenceIdeal.main_arg1) = m ((c.tc : Thread Cert.MlaDwInReferenceIdeal.nD Cert.MlaDwInReferenceIdeal.τ).loc Cert.MlaDwInReferenceIdeal.main_arg1)
      ∧ r.2.mem ((c.tc : Thread Cert.MlaDwInReferenceIdeal.nD Cert.MlaDwInReferenceIdeal.τ).loc Cert.MlaDwInReferenceIdeal.main_arg2) = m ((c.tc : Thread Cert.MlaDwInReferenceIdeal.nD Cert.MlaDwInReferenceIdeal.τ).loc Cert.MlaDwInReferenceIdeal.main_arg2))
      ∧ r.2.sem = fun _ => 0)

def quiescent_MlaDown [hMlaDown : Cert.MlaDown.Facts] : Prop :=
  ∀ (m : (ℓ : Loc Cert.MlaDown.nD Cert.MlaDown.τ Cert.MlaDown.sig) → Buf (Elt Bits) ℓ) (g : Dev Cert.MlaDown.nD → PrngReg), Pre_MlaDown m →
    θ_run (Cert.MlaDown.defs (F := Bits)) (onTc (τ := Cert.MlaDown.τ) (Cert.MlaDown.main (F := Bits))) ⟨m, fun _ => 0, g⟩ (fun r => (∀ c : Dev Cert.MlaDown.nD,
      r.2.mem ((c.tc : Thread Cert.MlaDown.nD Cert.MlaDown.τ).loc Cert.MlaDown.main_arg0) = m ((c.tc : Thread Cert.MlaDown.nD Cert.MlaDown.τ).loc Cert.MlaDown.main_arg0)
      ∧ r.2.mem ((c.tc : Thread Cert.MlaDown.nD Cert.MlaDown.τ).loc Cert.MlaDown.main_arg1) = m ((c.tc : Thread Cert.MlaDown.nD Cert.MlaDown.τ).loc Cert.MlaDown.main_arg1))
      ∧ r.2.sem = fun _ => 0)

def quiescent_MlaDownIdeal [hMlaDownIdeal : Cert.MlaDownIdeal.Facts] : Prop :=
  ∀ (m : (ℓ : Loc Cert.MlaDownIdeal.nD Cert.MlaDownIdeal.τ Cert.MlaDownIdeal.sig) → Buf (Elt Ideal) ℓ) (g : Dev Cert.MlaDownIdeal.nD → PrngReg), Pre_MlaDownIdeal m →
    θ_run (Cert.MlaDownIdeal.defs (F := Ideal)) (onTc (τ := Cert.MlaDownIdeal.τ) (Cert.MlaDownIdeal.main (F := Ideal))) ⟨m, fun _ => 0, g⟩ (fun r => (∀ c : Dev Cert.MlaDownIdeal.nD,
      r.2.mem ((c.tc : Thread Cert.MlaDownIdeal.nD Cert.MlaDownIdeal.τ).loc Cert.MlaDownIdeal.main_arg0) = m ((c.tc : Thread Cert.MlaDownIdeal.nD Cert.MlaDownIdeal.τ).loc Cert.MlaDownIdeal.main_arg0)
      ∧ r.2.mem ((c.tc : Thread Cert.MlaDownIdeal.nD Cert.MlaDownIdeal.τ).loc Cert.MlaDownIdeal.main_arg1) = m ((c.tc : Thread Cert.MlaDownIdeal.nD Cert.MlaDownIdeal.τ).loc Cert.MlaDownIdeal.main_arg1))
      ∧ r.2.sem = fun _ => 0)

def quiescent_MlaDownReferenceIdeal [hMlaDownReferenceIdeal : Cert.MlaDownReferenceIdeal.Facts] : Prop :=
  ∀ (m : (ℓ : Loc Cert.MlaDownReferenceIdeal.nD Cert.MlaDownReferenceIdeal.τ Cert.MlaDownReferenceIdeal.sig) → Buf (Elt Ideal) ℓ) (g : Dev Cert.MlaDownReferenceIdeal.nD → PrngReg), Pre_MlaDownReferenceIdeal m →
    θ_run (Cert.MlaDownReferenceIdeal.defs (F := Ideal)) (onTc (τ := Cert.MlaDownReferenceIdeal.τ) (Cert.MlaDownReferenceIdeal.main (F := Ideal))) ⟨m, fun _ => 0, g⟩ (fun r => (∀ c : Dev Cert.MlaDownReferenceIdeal.nD,
      r.2.mem ((c.tc : Thread Cert.MlaDownReferenceIdeal.nD Cert.MlaDownReferenceIdeal.τ).loc Cert.MlaDownReferenceIdeal.main_arg0) = m ((c.tc : Thread Cert.MlaDownReferenceIdeal.nD Cert.MlaDownReferenceIdeal.τ).loc Cert.MlaDownReferenceIdeal.main_arg0)
      ∧ r.2.mem ((c.tc : Thread Cert.MlaDownReferenceIdeal.nD Cert.MlaDownReferenceIdeal.τ).loc Cert.MlaDownReferenceIdeal.main_arg1) = m ((c.tc : Thread Cert.MlaDownReferenceIdeal.nD Cert.MlaDownReferenceIdeal.τ).loc Cert.MlaDownReferenceIdeal.main_arg1))
      ∧ r.2.sem = fun _ => 0)

def quiescent_MlaDcQ [hMlaDcQ : Cert.MlaDcQ.Facts] : Prop :=
  ∀ (m : (ℓ : Loc Cert.MlaDcQ.nD Cert.MlaDcQ.τ Cert.MlaDcQ.sig) → Buf (Elt Bits) ℓ) (g : Dev Cert.MlaDcQ.nD → PrngReg), Pre_MlaDcQ m →
    θ_run (Cert.MlaDcQ.defs (F := Bits)) (onTc (τ := Cert.MlaDcQ.τ) (Cert.MlaDcQ.main (F := Bits))) ⟨m, fun _ => 0, g⟩ (fun r => (∀ c : Dev Cert.MlaDcQ.nD,
      r.2.mem ((c.tc : Thread Cert.MlaDcQ.nD Cert.MlaDcQ.τ).loc Cert.MlaDcQ.main_arg0) = m ((c.tc : Thread Cert.MlaDcQ.nD Cert.MlaDcQ.τ).loc Cert.MlaDcQ.main_arg0)
      ∧ r.2.mem ((c.tc : Thread Cert.MlaDcQ.nD Cert.MlaDcQ.τ).loc Cert.MlaDcQ.main_arg1) = m ((c.tc : Thread Cert.MlaDcQ.nD Cert.MlaDcQ.τ).loc Cert.MlaDcQ.main_arg1)
      ∧ r.2.mem ((c.tc : Thread Cert.MlaDcQ.nD Cert.MlaDcQ.τ).loc Cert.MlaDcQ.main_arg2) = m ((c.tc : Thread Cert.MlaDcQ.nD Cert.MlaDcQ.τ).loc Cert.MlaDcQ.main_arg2))
      ∧ r.2.sem = fun _ => 0)

def quiescent_MlaDcQIdeal [hMlaDcQIdeal : Cert.MlaDcQIdeal.Facts] : Prop :=
  ∀ (m : (ℓ : Loc Cert.MlaDcQIdeal.nD Cert.MlaDcQIdeal.τ Cert.MlaDcQIdeal.sig) → Buf (Elt Ideal) ℓ) (g : Dev Cert.MlaDcQIdeal.nD → PrngReg), Pre_MlaDcQIdeal m →
    θ_run (Cert.MlaDcQIdeal.defs (F := Ideal)) (onTc (τ := Cert.MlaDcQIdeal.τ) (Cert.MlaDcQIdeal.main (F := Ideal))) ⟨m, fun _ => 0, g⟩ (fun r => (∀ c : Dev Cert.MlaDcQIdeal.nD,
      r.2.mem ((c.tc : Thread Cert.MlaDcQIdeal.nD Cert.MlaDcQIdeal.τ).loc Cert.MlaDcQIdeal.main_arg0) = m ((c.tc : Thread Cert.MlaDcQIdeal.nD Cert.MlaDcQIdeal.τ).loc Cert.MlaDcQIdeal.main_arg0)
      ∧ r.2.mem ((c.tc : Thread Cert.MlaDcQIdeal.nD Cert.MlaDcQIdeal.τ).loc Cert.MlaDcQIdeal.main_arg1) = m ((c.tc : Thread Cert.MlaDcQIdeal.nD Cert.MlaDcQIdeal.τ).loc Cert.MlaDcQIdeal.main_arg1)
      ∧ r.2.mem ((c.tc : Thread Cert.MlaDcQIdeal.nD Cert.MlaDcQIdeal.τ).loc Cert.MlaDcQIdeal.main_arg2) = m ((c.tc : Thread Cert.MlaDcQIdeal.nD Cert.MlaDcQIdeal.τ).loc Cert.MlaDcQIdeal.main_arg2))
      ∧ r.2.sem = fun _ => 0)

def quiescent_MlaDcQReferenceIdeal [hMlaDcQReferenceIdeal : Cert.MlaDcQReferenceIdeal.Facts] : Prop :=
  ∀ (m : (ℓ : Loc Cert.MlaDcQReferenceIdeal.nD Cert.MlaDcQReferenceIdeal.τ Cert.MlaDcQReferenceIdeal.sig) → Buf (Elt Ideal) ℓ) (g : Dev Cert.MlaDcQReferenceIdeal.nD → PrngReg), Pre_MlaDcQReferenceIdeal m →
    θ_run (Cert.MlaDcQReferenceIdeal.defs (F := Ideal)) (onTc (τ := Cert.MlaDcQReferenceIdeal.τ) (Cert.MlaDcQReferenceIdeal.main (F := Ideal))) ⟨m, fun _ => 0, g⟩ (fun r => (∀ c : Dev Cert.MlaDcQReferenceIdeal.nD,
      r.2.mem ((c.tc : Thread Cert.MlaDcQReferenceIdeal.nD Cert.MlaDcQReferenceIdeal.τ).loc Cert.MlaDcQReferenceIdeal.main_arg0) = m ((c.tc : Thread Cert.MlaDcQReferenceIdeal.nD Cert.MlaDcQReferenceIdeal.τ).loc Cert.MlaDcQReferenceIdeal.main_arg0)
      ∧ r.2.mem ((c.tc : Thread Cert.MlaDcQReferenceIdeal.nD Cert.MlaDcQReferenceIdeal.τ).loc Cert.MlaDcQReferenceIdeal.main_arg1) = m ((c.tc : Thread Cert.MlaDcQReferenceIdeal.nD Cert.MlaDcQReferenceIdeal.τ).loc Cert.MlaDcQReferenceIdeal.main_arg1)
      ∧ r.2.mem ((c.tc : Thread Cert.MlaDcQReferenceIdeal.nD Cert.MlaDcQReferenceIdeal.τ).loc Cert.MlaDcQReferenceIdeal.main_arg2) = m ((c.tc : Thread Cert.MlaDcQReferenceIdeal.nD Cert.MlaDcQReferenceIdeal.τ).loc Cert.MlaDcQReferenceIdeal.main_arg2))
      ∧ r.2.sem = fun _ => 0)

def quiescent_MlaDwUq [hMlaDwUq : Cert.MlaDwUq.Facts] : Prop :=
  ∀ (m : (ℓ : Loc Cert.MlaDwUq.nD Cert.MlaDwUq.τ Cert.MlaDwUq.sig) → Buf (Elt Bits) ℓ) (g : Dev Cert.MlaDwUq.nD → PrngReg), Pre_MlaDwUq m →
    θ_run (Cert.MlaDwUq.defs (F := Bits)) (onTc (τ := Cert.MlaDwUq.τ) (Cert.MlaDwUq.main (F := Bits))) ⟨m, fun _ => 0, g⟩ (fun r => (∀ c : Dev Cert.MlaDwUq.nD,
      r.2.mem ((c.tc : Thread Cert.MlaDwUq.nD Cert.MlaDwUq.τ).loc Cert.MlaDwUq.main_arg0) = m ((c.tc : Thread Cert.MlaDwUq.nD Cert.MlaDwUq.τ).loc Cert.MlaDwUq.main_arg0)
      ∧ r.2.mem ((c.tc : Thread Cert.MlaDwUq.nD Cert.MlaDwUq.τ).loc Cert.MlaDwUq.main_arg1) = m ((c.tc : Thread Cert.MlaDwUq.nD Cert.MlaDwUq.τ).loc Cert.MlaDwUq.main_arg1)
      ∧ r.2.mem ((c.tc : Thread Cert.MlaDwUq.nD Cert.MlaDwUq.τ).loc Cert.MlaDwUq.main_arg2) = m ((c.tc : Thread Cert.MlaDwUq.nD Cert.MlaDwUq.τ).loc Cert.MlaDwUq.main_arg2))
      ∧ r.2.sem = fun _ => 0)

def quiescent_MlaDwUqIdeal [hMlaDwUqIdeal : Cert.MlaDwUqIdeal.Facts] : Prop :=
  ∀ (m : (ℓ : Loc Cert.MlaDwUqIdeal.nD Cert.MlaDwUqIdeal.τ Cert.MlaDwUqIdeal.sig) → Buf (Elt Ideal) ℓ) (g : Dev Cert.MlaDwUqIdeal.nD → PrngReg), Pre_MlaDwUqIdeal m →
    θ_run (Cert.MlaDwUqIdeal.defs (F := Ideal)) (onTc (τ := Cert.MlaDwUqIdeal.τ) (Cert.MlaDwUqIdeal.main (F := Ideal))) ⟨m, fun _ => 0, g⟩ (fun r => (∀ c : Dev Cert.MlaDwUqIdeal.nD,
      r.2.mem ((c.tc : Thread Cert.MlaDwUqIdeal.nD Cert.MlaDwUqIdeal.τ).loc Cert.MlaDwUqIdeal.main_arg0) = m ((c.tc : Thread Cert.MlaDwUqIdeal.nD Cert.MlaDwUqIdeal.τ).loc Cert.MlaDwUqIdeal.main_arg0)
      ∧ r.2.mem ((c.tc : Thread Cert.MlaDwUqIdeal.nD Cert.MlaDwUqIdeal.τ).loc Cert.MlaDwUqIdeal.main_arg1) = m ((c.tc : Thread Cert.MlaDwUqIdeal.nD Cert.MlaDwUqIdeal.τ).loc Cert.MlaDwUqIdeal.main_arg1)
      ∧ r.2.mem ((c.tc : Thread Cert.MlaDwUqIdeal.nD Cert.MlaDwUqIdeal.τ).loc Cert.MlaDwUqIdeal.main_arg2) = m ((c.tc : Thread Cert.MlaDwUqIdeal.nD Cert.MlaDwUqIdeal.τ).loc Cert.MlaDwUqIdeal.main_arg2))
      ∧ r.2.sem = fun _ => 0)

def quiescent_MlaDwUqReferenceIdeal [hMlaDwUqReferenceIdeal : Cert.MlaDwUqReferenceIdeal.Facts] : Prop :=
  ∀ (m : (ℓ : Loc Cert.MlaDwUqReferenceIdeal.nD Cert.MlaDwUqReferenceIdeal.τ Cert.MlaDwUqReferenceIdeal.sig) → Buf (Elt Ideal) ℓ) (g : Dev Cert.MlaDwUqReferenceIdeal.nD → PrngReg), Pre_MlaDwUqReferenceIdeal m →
    θ_run (Cert.MlaDwUqReferenceIdeal.defs (F := Ideal)) (onTc (τ := Cert.MlaDwUqReferenceIdeal.τ) (Cert.MlaDwUqReferenceIdeal.main (F := Ideal))) ⟨m, fun _ => 0, g⟩ (fun r => (∀ c : Dev Cert.MlaDwUqReferenceIdeal.nD,
      r.2.mem ((c.tc : Thread Cert.MlaDwUqReferenceIdeal.nD Cert.MlaDwUqReferenceIdeal.τ).loc Cert.MlaDwUqReferenceIdeal.main_arg0) = m ((c.tc : Thread Cert.MlaDwUqReferenceIdeal.nD Cert.MlaDwUqReferenceIdeal.τ).loc Cert.MlaDwUqReferenceIdeal.main_arg0)
      ∧ r.2.mem ((c.tc : Thread Cert.MlaDwUqReferenceIdeal.nD Cert.MlaDwUqReferenceIdeal.τ).loc Cert.MlaDwUqReferenceIdeal.main_arg1) = m ((c.tc : Thread Cert.MlaDwUqReferenceIdeal.nD Cert.MlaDwUqReferenceIdeal.τ).loc Cert.MlaDwUqReferenceIdeal.main_arg1)
      ∧ r.2.mem ((c.tc : Thread Cert.MlaDwUqReferenceIdeal.nD Cert.MlaDwUqReferenceIdeal.τ).loc Cert.MlaDwUqReferenceIdeal.main_arg2) = m ((c.tc : Thread Cert.MlaDwUqReferenceIdeal.nD Cert.MlaDwUqReferenceIdeal.τ).loc Cert.MlaDwUqReferenceIdeal.main_arg2))
      ∧ r.2.sem = fun _ => 0)

def quiescent_MlaUq [hMlaUq : Cert.MlaUq.Facts] : Prop :=
  ∀ (m : (ℓ : Loc Cert.MlaUq.nD Cert.MlaUq.τ Cert.MlaUq.sig) → Buf (Elt Bits) ℓ) (g : Dev Cert.MlaUq.nD → PrngReg), Pre_MlaUq m →
    θ_run (Cert.MlaUq.defs (F := Bits)) (onTc (τ := Cert.MlaUq.τ) (Cert.MlaUq.main (F := Bits))) ⟨m, fun _ => 0, g⟩ (fun r => (∀ c : Dev Cert.MlaUq.nD,
      r.2.mem ((c.tc : Thread Cert.MlaUq.nD Cert.MlaUq.τ).loc Cert.MlaUq.main_arg0) = m ((c.tc : Thread Cert.MlaUq.nD Cert.MlaUq.τ).loc Cert.MlaUq.main_arg0)
      ∧ r.2.mem ((c.tc : Thread Cert.MlaUq.nD Cert.MlaUq.τ).loc Cert.MlaUq.main_arg1) = m ((c.tc : Thread Cert.MlaUq.nD Cert.MlaUq.τ).loc Cert.MlaUq.main_arg1))
      ∧ r.2.sem = fun _ => 0)

def quiescent_MlaUqIdeal [hMlaUqIdeal : Cert.MlaUqIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg), Pre_MlaUqIdeal m →
    θ_run (Cert.MlaUqIdeal.defs (F := Ideal)) (onTc (τ := Cert.MlaUqIdeal.τ) (Cert.MlaUqIdeal.main (F := Ideal))) ⟨m, fun _ => 0, g⟩ (fun r => (∀ c : Dev Cert.MlaUqIdeal.nD,
      r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
      ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ r.2.sem = fun _ => 0)

def quiescent_MlaUqReferenceIdeal [hMlaUqReferenceIdeal : Cert.MlaUqReferenceIdeal.Facts] : Prop :=
  ∀ (m : (ℓ : Loc Cert.MlaUqReferenceIdeal.nD Cert.MlaUqReferenceIdeal.τ Cert.MlaUqReferenceIdeal.sig) → Buf (Elt Ideal) ℓ) (g : Dev Cert.MlaUqReferenceIdeal.nD → PrngReg), Pre_MlaUqReferenceIdeal m →
    θ_run (Cert.MlaUqReferenceIdeal.defs (F := Ideal)) (onTc (τ := Cert.MlaUqReferenceIdeal.τ) (Cert.MlaUqReferenceIdeal.main (F := Ideal))) ⟨m, fun _ => 0, g⟩ (fun r => (∀ c : Dev Cert.MlaUqReferenceIdeal.nD,
      r.2.mem ((c.tc : Thread Cert.MlaUqReferenceIdeal.nD Cert.MlaUqReferenceIdeal.τ).loc Cert.MlaUqReferenceIdeal.main_arg0) = m ((c.tc : Thread Cert.MlaUqReferenceIdeal.nD Cert.MlaUqReferenceIdeal.τ).loc Cert.MlaUqReferenceIdeal.main_arg0)
      ∧ r.2.mem ((c.tc : Thread Cert.MlaUqReferenceIdeal.nD Cert.MlaUqReferenceIdeal.τ).loc Cert.MlaUqReferenceIdeal.main_arg1) = m ((c.tc : Thread Cert.MlaUqReferenceIdeal.nD Cert.MlaUqReferenceIdeal.τ).loc Cert.MlaUqReferenceIdeal.main_arg1))
      ∧ r.2.sem = fun _ => 0)

def quiescent_MlaDcKv [hMlaDcKv : Cert.MlaDcKv.Facts] : Prop :=
  ∀ (m : (ℓ : Loc Cert.MlaDcKv.nD Cert.MlaDcKv.τ Cert.MlaDcKv.sig) → Buf (Elt Bits) ℓ) (g : Dev Cert.MlaDcKv.nD → PrngReg), Pre_MlaDcKv m →
    θ_run (Cert.MlaDcKv.defs (F := Bits)) (onTc (τ := Cert.MlaDcKv.τ) (Cert.MlaDcKv.main (F := Bits))) ⟨m, fun _ => 0, g⟩ (fun r => (∀ c : Dev Cert.MlaDcKv.nD,
      r.2.mem ((c.tc : Thread Cert.MlaDcKv.nD Cert.MlaDcKv.τ).loc Cert.MlaDcKv.main_arg0) = m ((c.tc : Thread Cert.MlaDcKv.nD Cert.MlaDcKv.τ).loc Cert.MlaDcKv.main_arg0)
      ∧ r.2.mem ((c.tc : Thread Cert.MlaDcKv.nD Cert.MlaDcKv.τ).loc Cert.MlaDcKv.main_arg1) = m ((c.tc : Thread Cert.MlaDcKv.nD Cert.MlaDcKv.τ).loc Cert.MlaDcKv.main_arg1)
      ∧ r.2.mem ((c.tc : Thread Cert.MlaDcKv.nD Cert.MlaDcKv.τ).loc Cert.MlaDcKv.main_arg2) = m ((c.tc : Thread Cert.MlaDcKv.nD Cert.MlaDcKv.τ).loc Cert.MlaDcKv.main_arg2))
      ∧ r.2.sem = fun _ => 0)

def quiescent_MlaDcKvIdeal [hMlaDcKvIdeal : Cert.MlaDcKvIdeal.Facts] : Prop :=
  ∀ (m : (ℓ : Loc Cert.MlaDcKvIdeal.nD Cert.MlaDcKvIdeal.τ Cert.MlaDcKvIdeal.sig) → Buf (Elt Ideal) ℓ) (g : Dev Cert.MlaDcKvIdeal.nD → PrngReg), Pre_MlaDcKvIdeal m →
    θ_run (Cert.MlaDcKvIdeal.defs (F := Ideal)) (onTc (τ := Cert.MlaDcKvIdeal.τ) (Cert.MlaDcKvIdeal.main (F := Ideal))) ⟨m, fun _ => 0, g⟩ (fun r => (∀ c : Dev Cert.MlaDcKvIdeal.nD,
      r.2.mem ((c.tc : Thread Cert.MlaDcKvIdeal.nD Cert.MlaDcKvIdeal.τ).loc Cert.MlaDcKvIdeal.main_arg0) = m ((c.tc : Thread Cert.MlaDcKvIdeal.nD Cert.MlaDcKvIdeal.τ).loc Cert.MlaDcKvIdeal.main_arg0)
      ∧ r.2.mem ((c.tc : Thread Cert.MlaDcKvIdeal.nD Cert.MlaDcKvIdeal.τ).loc Cert.MlaDcKvIdeal.main_arg1) = m ((c.tc : Thread Cert.MlaDcKvIdeal.nD Cert.MlaDcKvIdeal.τ).loc Cert.MlaDcKvIdeal.main_arg1)
      ∧ r.2.mem ((c.tc : Thread Cert.MlaDcKvIdeal.nD Cert.MlaDcKvIdeal.τ).loc Cert.MlaDcKvIdeal.main_arg2) = m ((c.tc : Thread Cert.MlaDcKvIdeal.nD Cert.MlaDcKvIdeal.τ).loc Cert.MlaDcKvIdeal.main_arg2))
      ∧ r.2.sem = fun _ => 0)

def quiescent_MlaDcKvReferenceIdeal [hMlaDcKvReferenceIdeal : Cert.MlaDcKvReferenceIdeal.Facts] : Prop :=
  ∀ (m : (ℓ : Loc Cert.MlaDcKvReferenceIdeal.nD Cert.MlaDcKvReferenceIdeal.τ Cert.MlaDcKvReferenceIdeal.sig) → Buf (Elt Ideal) ℓ) (g : Dev Cert.MlaDcKvReferenceIdeal.nD → PrngReg), Pre_MlaDcKvReferenceIdeal m →
    θ_run (Cert.MlaDcKvReferenceIdeal.defs (F := Ideal)) (onTc (τ := Cert.MlaDcKvReferenceIdeal.τ) (Cert.MlaDcKvReferenceIdeal.main (F := Ideal))) ⟨m, fun _ => 0, g⟩ (fun r => (∀ c : Dev Cert.MlaDcKvReferenceIdeal.nD,
      r.2.mem ((c.tc : Thread Cert.MlaDcKvReferenceIdeal.nD Cert.MlaDcKvReferenceIdeal.τ).loc Cert.MlaDcKvReferenceIdeal.main_arg0) = m ((c.tc : Thread Cert.MlaDcKvReferenceIdeal.nD Cert.MlaDcKvReferenceIdeal.τ).loc Cert.MlaDcKvReferenceIdeal.main_arg0)
      ∧ r.2.mem ((c.tc : Thread Cert.MlaDcKvReferenceIdeal.nD Cert.MlaDcKvReferenceIdeal.τ).loc Cert.MlaDcKvReferenceIdeal.main_arg1) = m ((c.tc : Thread Cert.MlaDcKvReferenceIdeal.nD Cert.MlaDcKvReferenceIdeal.τ).loc Cert.MlaDcKvReferenceIdeal.main_arg1)
      ∧ r.2.mem ((c.tc : Thread Cert.MlaDcKvReferenceIdeal.nD Cert.MlaDcKvReferenceIdeal.τ).loc Cert.MlaDcKvReferenceIdeal.main_arg2) = m ((c.tc : Thread Cert.MlaDcKvReferenceIdeal.nD Cert.MlaDcKvReferenceIdeal.τ).loc Cert.MlaDcKvReferenceIdeal.main_arg2))
      ∧ r.2.sem = fun _ => 0)

def quiescent_MlaDwUkv [hMlaDwUkv : Cert.MlaDwUkv.Facts] : Prop :=
  ∀ (m : (ℓ : Loc Cert.MlaDwUkv.nD Cert.MlaDwUkv.τ Cert.MlaDwUkv.sig) → Buf (Elt Bits) ℓ) (g : Dev Cert.MlaDwUkv.nD → PrngReg), Pre_MlaDwUkv m →
    θ_run (Cert.MlaDwUkv.defs (F := Bits)) (onTc (τ := Cert.MlaDwUkv.τ) (Cert.MlaDwUkv.main (F := Bits))) ⟨m, fun _ => 0, g⟩ (fun r => (∀ c : Dev Cert.MlaDwUkv.nD,
      r.2.mem ((c.tc : Thread Cert.MlaDwUkv.nD Cert.MlaDwUkv.τ).loc Cert.MlaDwUkv.main_arg0) = m ((c.tc : Thread Cert.MlaDwUkv.nD Cert.MlaDwUkv.τ).loc Cert.MlaDwUkv.main_arg0)
      ∧ r.2.mem ((c.tc : Thread Cert.MlaDwUkv.nD Cert.MlaDwUkv.τ).loc Cert.MlaDwUkv.main_arg1) = m ((c.tc : Thread Cert.MlaDwUkv.nD Cert.MlaDwUkv.τ).loc Cert.MlaDwUkv.main_arg1)
      ∧ r.2.mem ((c.tc : Thread Cert.MlaDwUkv.nD Cert.MlaDwUkv.τ).loc Cert.MlaDwUkv.main_arg2) = m ((c.tc : Thread Cert.MlaDwUkv.nD Cert.MlaDwUkv.τ).loc Cert.MlaDwUkv.main_arg2))
      ∧ r.2.sem = fun _ => 0)

def quiescent_MlaDwUkvIdeal [hMlaDwUkvIdeal : Cert.MlaDwUkvIdeal.Facts] : Prop :=
  ∀ (m : (ℓ : Loc Cert.MlaDwUkvIdeal.nD Cert.MlaDwUkvIdeal.τ Cert.MlaDwUkvIdeal.sig) → Buf (Elt Ideal) ℓ) (g : Dev Cert.MlaDwUkvIdeal.nD → PrngReg), Pre_MlaDwUkvIdeal m →
    θ_run (Cert.MlaDwUkvIdeal.defs (F := Ideal)) (onTc (τ := Cert.MlaDwUkvIdeal.τ) (Cert.MlaDwUkvIdeal.main (F := Ideal))) ⟨m, fun _ => 0, g⟩ (fun r => (∀ c : Dev Cert.MlaDwUkvIdeal.nD,
      r.2.mem ((c.tc : Thread Cert.MlaDwUkvIdeal.nD Cert.MlaDwUkvIdeal.τ).loc Cert.MlaDwUkvIdeal.main_arg0) = m ((c.tc : Thread Cert.MlaDwUkvIdeal.nD Cert.MlaDwUkvIdeal.τ).loc Cert.MlaDwUkvIdeal.main_arg0)
      ∧ r.2.mem ((c.tc : Thread Cert.MlaDwUkvIdeal.nD Cert.MlaDwUkvIdeal.τ).loc Cert.MlaDwUkvIdeal.main_arg1) = m ((c.tc : Thread Cert.MlaDwUkvIdeal.nD Cert.MlaDwUkvIdeal.τ).loc Cert.MlaDwUkvIdeal.main_arg1)
      ∧ r.2.mem ((c.tc : Thread Cert.MlaDwUkvIdeal.nD Cert.MlaDwUkvIdeal.τ).loc Cert.MlaDwUkvIdeal.main_arg2) = m ((c.tc : Thread Cert.MlaDwUkvIdeal.nD Cert.MlaDwUkvIdeal.τ).loc Cert.MlaDwUkvIdeal.main_arg2))
      ∧ r.2.sem = fun _ => 0)

def quiescent_MlaDwUkvReferenceIdeal [hMlaDwUkvReferenceIdeal : Cert.MlaDwUkvReferenceIdeal.Facts] : Prop :=
  ∀ (m : (ℓ : Loc Cert.MlaDwUkvReferenceIdeal.nD Cert.MlaDwUkvReferenceIdeal.τ Cert.MlaDwUkvReferenceIdeal.sig) → Buf (Elt Ideal) ℓ) (g : Dev Cert.MlaDwUkvReferenceIdeal.nD → PrngReg), Pre_MlaDwUkvReferenceIdeal m →
    θ_run (Cert.MlaDwUkvReferenceIdeal.defs (F := Ideal)) (onTc (τ := Cert.MlaDwUkvReferenceIdeal.τ) (Cert.MlaDwUkvReferenceIdeal.main (F := Ideal))) ⟨m, fun _ => 0, g⟩ (fun r => (∀ c : Dev Cert.MlaDwUkvReferenceIdeal.nD,
      r.2.mem ((c.tc : Thread Cert.MlaDwUkvReferenceIdeal.nD Cert.MlaDwUkvReferenceIdeal.τ).loc Cert.MlaDwUkvReferenceIdeal.main_arg0) = m ((c.tc : Thread Cert.MlaDwUkvReferenceIdeal.nD Cert.MlaDwUkvReferenceIdeal.τ).loc Cert.MlaDwUkvReferenceIdeal.main_arg0)
      ∧ r.2.mem ((c.tc : Thread Cert.MlaDwUkvReferenceIdeal.nD Cert.MlaDwUkvReferenceIdeal.τ).loc Cert.MlaDwUkvReferenceIdeal.main_arg1) = m ((c.tc : Thread Cert.MlaDwUkvReferenceIdeal.nD Cert.MlaDwUkvReferenceIdeal.τ).loc Cert.MlaDwUkvReferenceIdeal.main_arg1)
      ∧ r.2.mem ((c.tc : Thread Cert.MlaDwUkvReferenceIdeal.nD Cert.MlaDwUkvReferenceIdeal.τ).loc Cert.MlaDwUkvReferenceIdeal.main_arg2) = m ((c.tc : Thread Cert.MlaDwUkvReferenceIdeal.nD Cert.MlaDwUkvReferenceIdeal.τ).loc Cert.MlaDwUkvReferenceIdeal.main_arg2))
      ∧ r.2.sem = fun _ => 0)

def quiescent_MlaUkv [hMlaUkv : Cert.MlaUkv.Facts] : Prop :=
  ∀ (m : (ℓ : Loc Cert.MlaUkv.nD Cert.MlaUkv.τ Cert.MlaUkv.sig) → Buf (Elt Bits) ℓ) (g : Dev Cert.MlaUkv.nD → PrngReg), Pre_MlaUkv m →
    θ_run (Cert.MlaUkv.defs (F := Bits)) (onTc (τ := Cert.MlaUkv.τ) (Cert.MlaUkv.main (F := Bits))) ⟨m, fun _ => 0, g⟩ (fun r => (∀ c : Dev Cert.MlaUkv.nD,
      r.2.mem ((c.tc : Thread Cert.MlaUkv.nD Cert.MlaUkv.τ).loc Cert.MlaUkv.main_arg0) = m ((c.tc : Thread Cert.MlaUkv.nD Cert.MlaUkv.τ).loc Cert.MlaUkv.main_arg0)
      ∧ r.2.mem ((c.tc : Thread Cert.MlaUkv.nD Cert.MlaUkv.τ).loc Cert.MlaUkv.main_arg1) = m ((c.tc : Thread Cert.MlaUkv.nD Cert.MlaUkv.τ).loc Cert.MlaUkv.main_arg1))
      ∧ r.2.sem = fun _ => 0)

def quiescent_MlaUkvIdeal [hMlaUkvIdeal : Cert.MlaUkvIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg), Pre_MlaUkvIdeal m →
    θ_run (Cert.MlaUkvIdeal.defs (F := Ideal)) (onTc (τ := Cert.MlaUkvIdeal.τ) (Cert.MlaUkvIdeal.main (F := Ideal))) ⟨m, fun _ => 0, g⟩ (fun r => (∀ c : Dev Cert.MlaUkvIdeal.nD,
      r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
      ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ r.2.sem = fun _ => 0)

def quiescent_MlaUkvReferenceIdeal [hMlaUkvReferenceIdeal : Cert.MlaUkvReferenceIdeal.Facts] : Prop :=
  ∀ (m : (ℓ : Loc Cert.MlaUkvReferenceIdeal.nD Cert.MlaUkvReferenceIdeal.τ Cert.MlaUkvReferenceIdeal.sig) → Buf (Elt Ideal) ℓ) (g : Dev Cert.MlaUkvReferenceIdeal.nD → PrngReg), Pre_MlaUkvReferenceIdeal m →
    θ_run (Cert.MlaUkvReferenceIdeal.defs (F := Ideal)) (onTc (τ := Cert.MlaUkvReferenceIdeal.τ) (Cert.MlaUkvReferenceIdeal.main (F := Ideal))) ⟨m, fun _ => 0, g⟩ (fun r => (∀ c : Dev Cert.MlaUkvReferenceIdeal.nD,
      r.2.mem ((c.tc : Thread Cert.MlaUkvReferenceIdeal.nD Cert.MlaUkvReferenceIdeal.τ).loc Cert.MlaUkvReferenceIdeal.main_arg0) = m ((c.tc : Thread Cert.MlaUkvReferenceIdeal.nD Cert.MlaUkvReferenceIdeal.τ).loc Cert.MlaUkvReferenceIdeal.main_arg0)
      ∧ r.2.mem ((c.tc : Thread Cert.MlaUkvReferenceIdeal.nD Cert.MlaUkvReferenceIdeal.τ).loc Cert.MlaUkvReferenceIdeal.main_arg1) = m ((c.tc : Thread Cert.MlaUkvReferenceIdeal.nD Cert.MlaUkvReferenceIdeal.τ).loc Cert.MlaUkvReferenceIdeal.main_arg1))
      ∧ r.2.sem = fun _ => 0)

def quiescent_StepNorm [hStepNorm : Cert.StepNorm.Facts] : Prop :=
  ∀ (m : (ℓ : Loc Cert.StepNorm.nD Cert.StepNorm.τ Cert.StepNorm.sig) → Buf (Elt Bits) ℓ) (g : Dev Cert.StepNorm.nD → PrngReg), Pre_StepNorm m →
    θ_run (Cert.StepNorm.defs (F := Bits)) (onTc (τ := Cert.StepNorm.τ) (Cert.StepNorm.main (F := Bits))) ⟨m, fun _ => 0, g⟩ (fun r => (∀ c : Dev Cert.StepNorm.nD,
      r.2.mem ((c.tc : Thread Cert.StepNorm.nD Cert.StepNorm.τ).loc Cert.StepNorm.main_arg0) = m ((c.tc : Thread Cert.StepNorm.nD Cert.StepNorm.τ).loc Cert.StepNorm.main_arg0)
      ∧ r.2.mem ((c.tc : Thread Cert.StepNorm.nD Cert.StepNorm.τ).loc Cert.StepNorm.main_arg1) = m ((c.tc : Thread Cert.StepNorm.nD Cert.StepNorm.τ).loc Cert.StepNorm.main_arg1)
      ∧ r.2.mem ((c.tc : Thread Cert.StepNorm.nD Cert.StepNorm.τ).loc Cert.StepNorm.main_arg2) = m ((c.tc : Thread Cert.StepNorm.nD Cert.StepNorm.τ).loc Cert.StepNorm.main_arg2)
      ∧ r.2.mem ((c.tc : Thread Cert.StepNorm.nD Cert.StepNorm.τ).loc Cert.StepNorm.main_arg3) = m ((c.tc : Thread Cert.StepNorm.nD Cert.StepNorm.τ).loc Cert.StepNorm.main_arg3))
      ∧ r.2.sem = fun _ => 0)

def quiescent_StepNormIdeal [hStepNormIdeal : Cert.StepNormIdeal.Facts] : Prop :=
  ∀ (m : (ℓ : Loc Cert.StepNormIdeal.nD Cert.StepNormIdeal.τ Cert.StepNormIdeal.sig) → Buf (Elt Ideal) ℓ) (g : Dev Cert.StepNormIdeal.nD → PrngReg), Pre_StepNormIdeal m →
    θ_run (Cert.StepNormIdeal.defs (F := Ideal)) (onTc (τ := Cert.StepNormIdeal.τ) (Cert.StepNormIdeal.main (F := Ideal))) ⟨m, fun _ => 0, g⟩ (fun r => (∀ c : Dev Cert.StepNormIdeal.nD,
      r.2.mem ((c.tc : Thread Cert.StepNormIdeal.nD Cert.StepNormIdeal.τ).loc Cert.StepNormIdeal.main_arg0) = m ((c.tc : Thread Cert.StepNormIdeal.nD Cert.StepNormIdeal.τ).loc Cert.StepNormIdeal.main_arg0)
      ∧ r.2.mem ((c.tc : Thread Cert.StepNormIdeal.nD Cert.StepNormIdeal.τ).loc Cert.StepNormIdeal.main_arg1) = m ((c.tc : Thread Cert.StepNormIdeal.nD Cert.StepNormIdeal.τ).loc Cert.StepNormIdeal.main_arg1)
      ∧ r.2.mem ((c.tc : Thread Cert.StepNormIdeal.nD Cert.StepNormIdeal.τ).loc Cert.StepNormIdeal.main_arg2) = m ((c.tc : Thread Cert.StepNormIdeal.nD Cert.StepNormIdeal.τ).loc Cert.StepNormIdeal.main_arg2)
      ∧ r.2.mem ((c.tc : Thread Cert.StepNormIdeal.nD Cert.StepNormIdeal.τ).loc Cert.StepNormIdeal.main_arg3) = m ((c.tc : Thread Cert.StepNormIdeal.nD Cert.StepNormIdeal.τ).loc Cert.StepNormIdeal.main_arg3))
      ∧ r.2.sem = fun _ => 0)

def quiescent_StepNormReferenceIdeal [hStepNormReferenceIdeal : Cert.StepNormReferenceIdeal.Facts] : Prop :=
  ∀ (m : (ℓ : Loc Cert.StepNormReferenceIdeal.nD Cert.StepNormReferenceIdeal.τ Cert.StepNormReferenceIdeal.sig) → Buf (Elt Ideal) ℓ) (g : Dev Cert.StepNormReferenceIdeal.nD → PrngReg), Pre_StepNormReferenceIdeal m →
    θ_run (Cert.StepNormReferenceIdeal.defs (F := Ideal)) (onTc (τ := Cert.StepNormReferenceIdeal.τ) (Cert.StepNormReferenceIdeal.main (F := Ideal))) ⟨m, fun _ => 0, g⟩ (fun r => (∀ c : Dev Cert.StepNormReferenceIdeal.nD,
      r.2.mem ((c.tc : Thread Cert.StepNormReferenceIdeal.nD Cert.StepNormReferenceIdeal.τ).loc Cert.StepNormReferenceIdeal.main_arg0) = m ((c.tc : Thread Cert.StepNormReferenceIdeal.nD Cert.StepNormReferenceIdeal.τ).loc Cert.StepNormReferenceIdeal.main_arg0)
      ∧ r.2.mem ((c.tc : Thread Cert.StepNormReferenceIdeal.nD Cert.StepNormReferenceIdeal.τ).loc Cert.StepNormReferenceIdeal.main_arg1) = m ((c.tc : Thread Cert.StepNormReferenceIdeal.nD Cert.StepNormReferenceIdeal.τ).loc Cert.StepNormReferenceIdeal.main_arg1)
      ∧ r.2.mem ((c.tc : Thread Cert.StepNormReferenceIdeal.nD Cert.StepNormReferenceIdeal.τ).loc Cert.StepNormReferenceIdeal.main_arg2) = m ((c.tc : Thread Cert.StepNormReferenceIdeal.nD Cert.StepNormReferenceIdeal.τ).loc Cert.StepNormReferenceIdeal.main_arg2)
      ∧ r.2.mem ((c.tc : Thread Cert.StepNormReferenceIdeal.nD Cert.StepNormReferenceIdeal.τ).loc Cert.StepNormReferenceIdeal.main_arg3) = m ((c.tc : Thread Cert.StepNormReferenceIdeal.nD Cert.StepNormReferenceIdeal.τ).loc Cert.StepNormReferenceIdeal.main_arg3))
      ∧ r.2.sem = fun _ => 0)

def quiescent_StepBias [hStepBias : Cert.StepBias.Facts] : Prop :=
  ∀ (m : (ℓ : Loc Cert.StepBias.nD Cert.StepBias.τ Cert.StepBias.sig) → Buf (Elt Bits) ℓ) (g : Dev Cert.StepBias.nD → PrngReg), Pre_StepBias m →
    θ_run (Cert.StepBias.defs (F := Bits)) (onTc (τ := Cert.StepBias.τ) (Cert.StepBias.main (F := Bits))) ⟨m, fun _ => 0, g⟩ (fun r => (∀ c : Dev Cert.StepBias.nD,
      r.2.mem ((c.tc : Thread Cert.StepBias.nD Cert.StepBias.τ).loc Cert.StepBias.main_arg0) = m ((c.tc : Thread Cert.StepBias.nD Cert.StepBias.τ).loc Cert.StepBias.main_arg0)
      ∧ r.2.mem ((c.tc : Thread Cert.StepBias.nD Cert.StepBias.τ).loc Cert.StepBias.main_arg1) = m ((c.tc : Thread Cert.StepBias.nD Cert.StepBias.τ).loc Cert.StepBias.main_arg1)
      ∧ r.2.mem ((c.tc : Thread Cert.StepBias.nD Cert.StepBias.τ).loc Cert.StepBias.main_arg2) = m ((c.tc : Thread Cert.StepBias.nD Cert.StepBias.τ).loc Cert.StepBias.main_arg2)
      ∧ r.2.mem ((c.tc : Thread Cert.StepBias.nD Cert.StepBias.τ).loc Cert.StepBias.main_arg3) = m ((c.tc : Thread Cert.StepBias.nD Cert.StepBias.τ).loc Cert.StepBias.main_arg3))
      ∧ r.2.sem = fun _ => 0)

def quiescent_StepBiasIdeal [hStepBiasIdeal : Cert.StepBiasIdeal.Facts] : Prop :=
  ∀ (m : (ℓ : Loc Cert.StepBiasIdeal.nD Cert.StepBiasIdeal.τ Cert.StepBiasIdeal.sig) → Buf (Elt Ideal) ℓ) (g : Dev Cert.StepBiasIdeal.nD → PrngReg), Pre_StepBiasIdeal m →
    θ_run (Cert.StepBiasIdeal.defs (F := Ideal)) (onTc (τ := Cert.StepBiasIdeal.τ) (Cert.StepBiasIdeal.main (F := Ideal))) ⟨m, fun _ => 0, g⟩ (fun r => (∀ c : Dev Cert.StepBiasIdeal.nD,
      r.2.mem ((c.tc : Thread Cert.StepBiasIdeal.nD Cert.StepBiasIdeal.τ).loc Cert.StepBiasIdeal.main_arg0) = m ((c.tc : Thread Cert.StepBiasIdeal.nD Cert.StepBiasIdeal.τ).loc Cert.StepBiasIdeal.main_arg0)
      ∧ r.2.mem ((c.tc : Thread Cert.StepBiasIdeal.nD Cert.StepBiasIdeal.τ).loc Cert.StepBiasIdeal.main_arg1) = m ((c.tc : Thread Cert.StepBiasIdeal.nD Cert.StepBiasIdeal.τ).loc Cert.StepBiasIdeal.main_arg1)
      ∧ r.2.mem ((c.tc : Thread Cert.StepBiasIdeal.nD Cert.StepBiasIdeal.τ).loc Cert.StepBiasIdeal.main_arg2) = m ((c.tc : Thread Cert.StepBiasIdeal.nD Cert.StepBiasIdeal.τ).loc Cert.StepBiasIdeal.main_arg2)
      ∧ r.2.mem ((c.tc : Thread Cert.StepBiasIdeal.nD Cert.StepBiasIdeal.τ).loc Cert.StepBiasIdeal.main_arg3) = m ((c.tc : Thread Cert.StepBiasIdeal.nD Cert.StepBiasIdeal.τ).loc Cert.StepBiasIdeal.main_arg3))
      ∧ r.2.sem = fun _ => 0)

def quiescent_StepBiasReferenceIdeal [hStepBiasReferenceIdeal : Cert.StepBiasReferenceIdeal.Facts] : Prop :=
  ∀ (m : (ℓ : Loc Cert.StepBiasReferenceIdeal.nD Cert.StepBiasReferenceIdeal.τ Cert.StepBiasReferenceIdeal.sig) → Buf (Elt Ideal) ℓ) (g : Dev Cert.StepBiasReferenceIdeal.nD → PrngReg), Pre_StepBiasReferenceIdeal m →
    θ_run (Cert.StepBiasReferenceIdeal.defs (F := Ideal)) (onTc (τ := Cert.StepBiasReferenceIdeal.τ) (Cert.StepBiasReferenceIdeal.main (F := Ideal))) ⟨m, fun _ => 0, g⟩ (fun r => (∀ c : Dev Cert.StepBiasReferenceIdeal.nD,
      r.2.mem ((c.tc : Thread Cert.StepBiasReferenceIdeal.nD Cert.StepBiasReferenceIdeal.τ).loc Cert.StepBiasReferenceIdeal.main_arg0) = m ((c.tc : Thread Cert.StepBiasReferenceIdeal.nD Cert.StepBiasReferenceIdeal.τ).loc Cert.StepBiasReferenceIdeal.main_arg0)
      ∧ r.2.mem ((c.tc : Thread Cert.StepBiasReferenceIdeal.nD Cert.StepBiasReferenceIdeal.τ).loc Cert.StepBiasReferenceIdeal.main_arg1) = m ((c.tc : Thread Cert.StepBiasReferenceIdeal.nD Cert.StepBiasReferenceIdeal.τ).loc Cert.StepBiasReferenceIdeal.main_arg1)
      ∧ r.2.mem ((c.tc : Thread Cert.StepBiasReferenceIdeal.nD Cert.StepBiasReferenceIdeal.τ).loc Cert.StepBiasReferenceIdeal.main_arg2) = m ((c.tc : Thread Cert.StepBiasReferenceIdeal.nD Cert.StepBiasReferenceIdeal.τ).loc Cert.StepBiasReferenceIdeal.main_arg2)
      ∧ r.2.mem ((c.tc : Thread Cert.StepBiasReferenceIdeal.nD Cert.StepBiasReferenceIdeal.τ).loc Cert.StepBiasReferenceIdeal.main_arg3) = m ((c.tc : Thread Cert.StepBiasReferenceIdeal.nD Cert.StepBiasReferenceIdeal.τ).loc Cert.StepBiasReferenceIdeal.main_arg3))
      ∧ r.2.sem = fun _ => 0)

def quiescent_StepGain [hStepGain : Cert.StepGain.Facts] : Prop :=
  ∀ (m : (ℓ : Loc Cert.StepGain.nD Cert.StepGain.τ Cert.StepGain.sig) → Buf (Elt Bits) ℓ) (g : Dev Cert.StepGain.nD → PrngReg), Pre_StepGain m →
    θ_run (Cert.StepGain.defs (F := Bits)) (onTc (τ := Cert.StepGain.τ) (Cert.StepGain.main (F := Bits))) ⟨m, fun _ => 0, g⟩ (fun r => (∀ c : Dev Cert.StepGain.nD,
      r.2.mem ((c.tc : Thread Cert.StepGain.nD Cert.StepGain.τ).loc Cert.StepGain.main_arg0) = m ((c.tc : Thread Cert.StepGain.nD Cert.StepGain.τ).loc Cert.StepGain.main_arg0)
      ∧ r.2.mem ((c.tc : Thread Cert.StepGain.nD Cert.StepGain.τ).loc Cert.StepGain.main_arg1) = m ((c.tc : Thread Cert.StepGain.nD Cert.StepGain.τ).loc Cert.StepGain.main_arg1)
      ∧ r.2.mem ((c.tc : Thread Cert.StepGain.nD Cert.StepGain.τ).loc Cert.StepGain.main_arg2) = m ((c.tc : Thread Cert.StepGain.nD Cert.StepGain.τ).loc Cert.StepGain.main_arg2)
      ∧ r.2.mem ((c.tc : Thread Cert.StepGain.nD Cert.StepGain.τ).loc Cert.StepGain.main_arg3) = m ((c.tc : Thread Cert.StepGain.nD Cert.StepGain.τ).loc Cert.StepGain.main_arg3))
      ∧ r.2.sem = fun _ => 0)

def quiescent_StepGainIdeal [hStepGainIdeal : Cert.StepGainIdeal.Facts] : Prop :=
  ∀ (m : (ℓ : Loc Cert.StepGainIdeal.nD Cert.StepGainIdeal.τ Cert.StepGainIdeal.sig) → Buf (Elt Ideal) ℓ) (g : Dev Cert.StepGainIdeal.nD → PrngReg), Pre_StepGainIdeal m →
    θ_run (Cert.StepGainIdeal.defs (F := Ideal)) (onTc (τ := Cert.StepGainIdeal.τ) (Cert.StepGainIdeal.main (F := Ideal))) ⟨m, fun _ => 0, g⟩ (fun r => (∀ c : Dev Cert.StepGainIdeal.nD,
      r.2.mem ((c.tc : Thread Cert.StepGainIdeal.nD Cert.StepGainIdeal.τ).loc Cert.StepGainIdeal.main_arg0) = m ((c.tc : Thread Cert.StepGainIdeal.nD Cert.StepGainIdeal.τ).loc Cert.StepGainIdeal.main_arg0)
      ∧ r.2.mem ((c.tc : Thread Cert.StepGainIdeal.nD Cert.StepGainIdeal.τ).loc Cert.StepGainIdeal.main_arg1) = m ((c.tc : Thread Cert.StepGainIdeal.nD Cert.StepGainIdeal.τ).loc Cert.StepGainIdeal.main_arg1)
      ∧ r.2.mem ((c.tc : Thread Cert.StepGainIdeal.nD Cert.StepGainIdeal.τ).loc Cert.StepGainIdeal.main_arg2) = m ((c.tc : Thread Cert.StepGainIdeal.nD Cert.StepGainIdeal.τ).loc Cert.StepGainIdeal.main_arg2)
      ∧ r.2.mem ((c.tc : Thread Cert.StepGainIdeal.nD Cert.StepGainIdeal.τ).loc Cert.StepGainIdeal.main_arg3) = m ((c.tc : Thread Cert.StepGainIdeal.nD Cert.StepGainIdeal.τ).loc Cert.StepGainIdeal.main_arg3))
      ∧ r.2.sem = fun _ => 0)

def quiescent_StepGainReferenceIdeal [hStepGainReferenceIdeal : Cert.StepGainReferenceIdeal.Facts] : Prop :=
  ∀ (m : (ℓ : Loc Cert.StepGainReferenceIdeal.nD Cert.StepGainReferenceIdeal.τ Cert.StepGainReferenceIdeal.sig) → Buf (Elt Ideal) ℓ) (g : Dev Cert.StepGainReferenceIdeal.nD → PrngReg), Pre_StepGainReferenceIdeal m →
    θ_run (Cert.StepGainReferenceIdeal.defs (F := Ideal)) (onTc (τ := Cert.StepGainReferenceIdeal.τ) (Cert.StepGainReferenceIdeal.main (F := Ideal))) ⟨m, fun _ => 0, g⟩ (fun r => (∀ c : Dev Cert.StepGainReferenceIdeal.nD,
      r.2.mem ((c.tc : Thread Cert.StepGainReferenceIdeal.nD Cert.StepGainReferenceIdeal.τ).loc Cert.StepGainReferenceIdeal.main_arg0) = m ((c.tc : Thread Cert.StepGainReferenceIdeal.nD Cert.StepGainReferenceIdeal.τ).loc Cert.StepGainReferenceIdeal.main_arg0)
      ∧ r.2.mem ((c.tc : Thread Cert.StepGainReferenceIdeal.nD Cert.StepGainReferenceIdeal.τ).loc Cert.StepGainReferenceIdeal.main_arg1) = m ((c.tc : Thread Cert.StepGainReferenceIdeal.nD Cert.StepGainReferenceIdeal.τ).loc Cert.StepGainReferenceIdeal.main_arg1)
      ∧ r.2.mem ((c.tc : Thread Cert.StepGainReferenceIdeal.nD Cert.StepGainReferenceIdeal.τ).loc Cert.StepGainReferenceIdeal.main_arg2) = m ((c.tc : Thread Cert.StepGainReferenceIdeal.nD Cert.StepGainReferenceIdeal.τ).loc Cert.StepGainReferenceIdeal.main_arg2)
      ∧ r.2.mem ((c.tc : Thread Cert.StepGainReferenceIdeal.nD Cert.StepGainReferenceIdeal.τ).loc Cert.StepGainReferenceIdeal.main_arg3) = m ((c.tc : Thread Cert.StepGainReferenceIdeal.nD Cert.StepGainReferenceIdeal.τ).loc Cert.StepGainReferenceIdeal.main_arg3))
      ∧ r.2.sem = fun _ => 0)

def quiescent_StepRank [hStepRank : Cert.StepRank.Facts] : Prop :=
  ∀ (m : (ℓ : Loc Cert.StepRank.nD Cert.StepRank.τ Cert.StepRank.sig) → Buf (Elt Bits) ℓ) (g : Dev Cert.StepRank.nD → PrngReg), Pre_StepRank m →
    θ_run (Cert.StepRank.defs (F := Bits)) (onTc (τ := Cert.StepRank.τ) (Cert.StepRank.main (F := Bits))) ⟨m, fun _ => 0, g⟩ (fun r => (∀ c : Dev Cert.StepRank.nD,
      r.2.mem ((c.tc : Thread Cert.StepRank.nD Cert.StepRank.τ).loc Cert.StepRank.main_arg0) = m ((c.tc : Thread Cert.StepRank.nD Cert.StepRank.τ).loc Cert.StepRank.main_arg0)
      ∧ r.2.mem ((c.tc : Thread Cert.StepRank.nD Cert.StepRank.τ).loc Cert.StepRank.main_arg1) = m ((c.tc : Thread Cert.StepRank.nD Cert.StepRank.τ).loc Cert.StepRank.main_arg1)
      ∧ r.2.mem ((c.tc : Thread Cert.StepRank.nD Cert.StepRank.τ).loc Cert.StepRank.main_arg2) = m ((c.tc : Thread Cert.StepRank.nD Cert.StepRank.τ).loc Cert.StepRank.main_arg2)
      ∧ r.2.mem ((c.tc : Thread Cert.StepRank.nD Cert.StepRank.τ).loc Cert.StepRank.main_arg3) = m ((c.tc : Thread Cert.StepRank.nD Cert.StepRank.τ).loc Cert.StepRank.main_arg3))
      ∧ r.2.sem = fun _ => 0)

def quiescent_StepRankIdeal [hStepRankIdeal : Cert.StepRankIdeal.Facts] : Prop :=
  ∀ (m : (ℓ : Loc Cert.StepRankIdeal.nD Cert.StepRankIdeal.τ Cert.StepRankIdeal.sig) → Buf (Elt Ideal) ℓ) (g : Dev Cert.StepRankIdeal.nD → PrngReg), Pre_StepRankIdeal m →
    θ_run (Cert.StepRankIdeal.defs (F := Ideal)) (onTc (τ := Cert.StepRankIdeal.τ) (Cert.StepRankIdeal.main (F := Ideal))) ⟨m, fun _ => 0, g⟩ (fun r => (∀ c : Dev Cert.StepRankIdeal.nD,
      r.2.mem ((c.tc : Thread Cert.StepRankIdeal.nD Cert.StepRankIdeal.τ).loc Cert.StepRankIdeal.main_arg0) = m ((c.tc : Thread Cert.StepRankIdeal.nD Cert.StepRankIdeal.τ).loc Cert.StepRankIdeal.main_arg0)
      ∧ r.2.mem ((c.tc : Thread Cert.StepRankIdeal.nD Cert.StepRankIdeal.τ).loc Cert.StepRankIdeal.main_arg1) = m ((c.tc : Thread Cert.StepRankIdeal.nD Cert.StepRankIdeal.τ).loc Cert.StepRankIdeal.main_arg1)
      ∧ r.2.mem ((c.tc : Thread Cert.StepRankIdeal.nD Cert.StepRankIdeal.τ).loc Cert.StepRankIdeal.main_arg2) = m ((c.tc : Thread Cert.StepRankIdeal.nD Cert.StepRankIdeal.τ).loc Cert.StepRankIdeal.main_arg2)
      ∧ r.2.mem ((c.tc : Thread Cert.StepRankIdeal.nD Cert.StepRankIdeal.τ).loc Cert.StepRankIdeal.main_arg3) = m ((c.tc : Thread Cert.StepRankIdeal.nD Cert.StepRankIdeal.τ).loc Cert.StepRankIdeal.main_arg3))
      ∧ r.2.sem = fun _ => 0)

def quiescent_StepRankReferenceIdeal [hStepRankReferenceIdeal : Cert.StepRankReferenceIdeal.Facts] : Prop :=
  ∀ (m : (ℓ : Loc Cert.StepRankReferenceIdeal.nD Cert.StepRankReferenceIdeal.τ Cert.StepRankReferenceIdeal.sig) → Buf (Elt Ideal) ℓ) (g : Dev Cert.StepRankReferenceIdeal.nD → PrngReg), Pre_StepRankReferenceIdeal m →
    θ_run (Cert.StepRankReferenceIdeal.defs (F := Ideal)) (onTc (τ := Cert.StepRankReferenceIdeal.τ) (Cert.StepRankReferenceIdeal.main (F := Ideal))) ⟨m, fun _ => 0, g⟩ (fun r => (∀ c : Dev Cert.StepRankReferenceIdeal.nD,
      r.2.mem ((c.tc : Thread Cert.StepRankReferenceIdeal.nD Cert.StepRankReferenceIdeal.τ).loc Cert.StepRankReferenceIdeal.main_arg0) = m ((c.tc : Thread Cert.StepRankReferenceIdeal.nD Cert.StepRankReferenceIdeal.τ).loc Cert.StepRankReferenceIdeal.main_arg0)
      ∧ r.2.mem ((c.tc : Thread Cert.StepRankReferenceIdeal.nD Cert.StepRankReferenceIdeal.τ).loc Cert.StepRankReferenceIdeal.main_arg1) = m ((c.tc : Thread Cert.StepRankReferenceIdeal.nD Cert.StepRankReferenceIdeal.τ).loc Cert.StepRankReferenceIdeal.main_arg1)
      ∧ r.2.mem ((c.tc : Thread Cert.StepRankReferenceIdeal.nD Cert.StepRankReferenceIdeal.τ).loc Cert.StepRankReferenceIdeal.main_arg2) = m ((c.tc : Thread Cert.StepRankReferenceIdeal.nD Cert.StepRankReferenceIdeal.τ).loc Cert.StepRankReferenceIdeal.main_arg2)
      ∧ r.2.mem ((c.tc : Thread Cert.StepRankReferenceIdeal.nD Cert.StepRankReferenceIdeal.τ).loc Cert.StepRankReferenceIdeal.main_arg3) = m ((c.tc : Thread Cert.StepRankReferenceIdeal.nD Cert.StepRankReferenceIdeal.τ).loc Cert.StepRankReferenceIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3)
      ∧ r.2.mem ((c.tc : Thread Cert.StepOut.nD Cert.StepOut.τ).loc Cert.StepOut.main_arg4) = m ((c.tc : Thread Cert.StepOut.nD Cert.StepOut.τ).loc Cert.StepOut.main_arg4)
      ∧ r.2.mem ((c.tc : Thread Cert.StepOut.nD Cert.StepOut.τ).loc Cert.StepOut.main_arg5) = m ((c.tc : Thread Cert.StepOut.nD Cert.StepOut.τ).loc Cert.StepOut.main_arg5))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
      ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
      ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3)
      ∧ r.2.mem ((c.tc : Thread Cert.StepOutReferenceIdeal.nD Cert.StepOutReferenceIdeal.τ).loc Cert.StepOutReferenceIdeal.main_arg4) = m ((c.tc : Thread Cert.StepOutReferenceIdeal.nD Cert.StepOutReferenceIdeal.τ).loc Cert.StepOutReferenceIdeal.main_arg4)
      ∧ r.2.mem ((c.tc : Thread Cert.StepOutReferenceIdeal.nD Cert.StepOutReferenceIdeal.τ).loc Cert.StepOutReferenceIdeal.main_arg5) = m ((c.tc : Thread Cert.StepOutReferenceIdeal.nD Cert.StepOutReferenceIdeal.τ).loc Cert.StepOutReferenceIdeal.main_arg5))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3)
      ∧ r.2.mem ((c.tc : Thread Cert.StepIn.nD Cert.StepIn.τ).loc Cert.StepIn.main_arg4) = m ((c.tc : Thread Cert.StepIn.nD Cert.StepIn.τ).loc Cert.StepIn.main_arg4)
      ∧ r.2.mem ((c.tc : Thread Cert.StepIn.nD Cert.StepIn.τ).loc Cert.StepIn.main_arg5) = m ((c.tc : Thread Cert.StepIn.nD Cert.StepIn.τ).loc Cert.StepIn.main_arg5))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
      ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
      ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ r.2.sem = fun _ => 0)

def quiescent_StepInReferenceIdeal [hStepInReferenceIdeal : Cert.StepInReferenceIdeal.Facts] : Prop :=
  ∀ (m : (ℓ : Loc Cert.StepInReferenceIdeal.nD Cert.StepInReferenceIdeal.τ Cert.StepInReferenceIdeal.sig) → Buf (Elt Ideal) ℓ) (g : Dev Cert.StepInReferenceIdeal.nD → PrngReg), Pre_StepInReferenceIdeal m →
    θ_run (Cert.StepInReferenceIdeal.defs (F := Ideal)) (onTc (τ := Cert.StepInReferenceIdeal.τ) (Cert.StepInReferenceIdeal.main (F := Ideal))) ⟨m, fun _ => 0, g⟩ (fun r => (∀ c : Dev Cert.StepInReferenceIdeal.nD,
      r.2.mem ((c.tc : Thread Cert.StepInReferenceIdeal.nD Cert.StepInReferenceIdeal.τ).loc Cert.StepInReferenceIdeal.main_arg0) = m ((c.tc : Thread Cert.StepInReferenceIdeal.nD Cert.StepInReferenceIdeal.τ).loc Cert.StepInReferenceIdeal.main_arg0)
      ∧ r.2.mem ((c.tc : Thread Cert.StepInReferenceIdeal.nD Cert.StepInReferenceIdeal.τ).loc Cert.StepInReferenceIdeal.main_arg1) = m ((c.tc : Thread Cert.StepInReferenceIdeal.nD Cert.StepInReferenceIdeal.τ).loc Cert.StepInReferenceIdeal.main_arg1)
      ∧ r.2.mem ((c.tc : Thread Cert.StepInReferenceIdeal.nD Cert.StepInReferenceIdeal.τ).loc Cert.StepInReferenceIdeal.main_arg2) = m ((c.tc : Thread Cert.StepInReferenceIdeal.nD Cert.StepInReferenceIdeal.τ).loc Cert.StepInReferenceIdeal.main_arg2)
      ∧ r.2.mem ((c.tc : Thread Cert.StepInReferenceIdeal.nD Cert.StepInReferenceIdeal.τ).loc Cert.StepInReferenceIdeal.main_arg3) = m ((c.tc : Thread Cert.StepInReferenceIdeal.nD Cert.StepInReferenceIdeal.τ).loc Cert.StepInReferenceIdeal.main_arg3)
      ∧ r.2.mem ((c.tc : Thread Cert.StepInReferenceIdeal.nD Cert.StepInReferenceIdeal.τ).loc Cert.StepInReferenceIdeal.main_arg4) = m ((c.tc : Thread Cert.StepInReferenceIdeal.nD Cert.StepInReferenceIdeal.τ).loc Cert.StepInReferenceIdeal.main_arg4)
      ∧ r.2.mem ((c.tc : Thread Cert.StepInReferenceIdeal.nD Cert.StepInReferenceIdeal.τ).loc Cert.StepInReferenceIdeal.main_arg5) = m ((c.tc : Thread Cert.StepInReferenceIdeal.nD Cert.StepInReferenceIdeal.τ).loc Cert.StepInReferenceIdeal.main_arg5))
      ∧ r.2.sem = fun _ => 0)

def quiescent_StepUq [hStepUq : Cert.StepUq.Facts] : Prop :=
  ∀ (m : (ℓ : Loc Cert.StepUq.nD Cert.StepUq.τ Cert.StepUq.sig) → Buf (Elt Bits) ℓ) (g : Dev Cert.StepUq.nD → PrngReg), Pre_StepUq m →
    θ_run (Cert.StepUq.defs (F := Bits)) (onTc (τ := Cert.StepUq.τ) (Cert.StepUq.main (F := Bits))) ⟨m, fun _ => 0, g⟩ (fun r => (∀ c : Dev Cert.StepUq.nD,
      r.2.mem ((c.tc : Thread Cert.StepUq.nD Cert.StepUq.τ).loc Cert.StepUq.main_arg0) = m ((c.tc : Thread Cert.StepUq.nD Cert.StepUq.τ).loc Cert.StepUq.main_arg0)
      ∧ r.2.mem ((c.tc : Thread Cert.StepUq.nD Cert.StepUq.τ).loc Cert.StepUq.main_arg1) = m ((c.tc : Thread Cert.StepUq.nD Cert.StepUq.τ).loc Cert.StepUq.main_arg1)
      ∧ r.2.mem ((c.tc : Thread Cert.StepUq.nD Cert.StepUq.τ).loc Cert.StepUq.main_arg2) = m ((c.tc : Thread Cert.StepUq.nD Cert.StepUq.τ).loc Cert.StepUq.main_arg2)
      ∧ r.2.mem ((c.tc : Thread Cert.StepUq.nD Cert.StepUq.τ).loc Cert.StepUq.main_arg3) = m ((c.tc : Thread Cert.StepUq.nD Cert.StepUq.τ).loc Cert.StepUq.main_arg3)
      ∧ r.2.mem ((c.tc : Thread Cert.StepUq.nD Cert.StepUq.τ).loc Cert.StepUq.main_arg4) = m ((c.tc : Thread Cert.StepUq.nD Cert.StepUq.τ).loc Cert.StepUq.main_arg4)
      ∧ r.2.mem ((c.tc : Thread Cert.StepUq.nD Cert.StepUq.τ).loc Cert.StepUq.main_arg5) = m ((c.tc : Thread Cert.StepUq.nD Cert.StepUq.τ).loc Cert.StepUq.main_arg5))
      ∧ r.2.sem = fun _ => 0)

def quiescent_StepUqIdeal [hStepUqIdeal : Cert.StepUqIdeal.Facts] : Prop :=
  ∀ (m : (ℓ : Loc Cert.StepUqIdeal.nD Cert.StepUqIdeal.τ Cert.StepUqIdeal.sig) → Buf (Elt Ideal) ℓ) (g : Dev Cert.StepUqIdeal.nD → PrngReg), Pre_StepUqIdeal m →
    θ_run (Cert.StepUqIdeal.defs (F := Ideal)) (onTc (τ := Cert.StepUqIdeal.τ) (Cert.StepUqIdeal.main (F := Ideal))) ⟨m, fun _ => 0, g⟩ (fun r => (∀ c : Dev Cert.StepUqIdeal.nD,
      r.2.mem ((c.tc : Thread Cert.StepUqIdeal.nD Cert.StepUqIdeal.τ).loc Cert.StepUqIdeal.main_arg0) = m ((c.tc : Thread Cert.StepUqIdeal.nD Cert.StepUqIdeal.τ).loc Cert.StepUqIdeal.main_arg0)
      ∧ r.2.mem ((c.tc : Thread Cert.StepUqIdeal.nD Cert.StepUqIdeal.τ).loc Cert.StepUqIdeal.main_arg1) = m ((c.tc : Thread Cert.StepUqIdeal.nD Cert.StepUqIdeal.τ).loc Cert.StepUqIdeal.main_arg1)
      ∧ r.2.mem ((c.tc : Thread Cert.StepUqIdeal.nD Cert.StepUqIdeal.τ).loc Cert.StepUqIdeal.main_arg2) = m ((c.tc : Thread Cert.StepUqIdeal.nD Cert.StepUqIdeal.τ).loc Cert.StepUqIdeal.main_arg2)
      ∧ r.2.mem ((c.tc : Thread Cert.StepUqIdeal.nD Cert.StepUqIdeal.τ).loc Cert.StepUqIdeal.main_arg3) = m ((c.tc : Thread Cert.StepUqIdeal.nD Cert.StepUqIdeal.τ).loc Cert.StepUqIdeal.main_arg3)
      ∧ r.2.mem ((c.tc : Thread Cert.StepUqIdeal.nD Cert.StepUqIdeal.τ).loc Cert.StepUqIdeal.main_arg4) = m ((c.tc : Thread Cert.StepUqIdeal.nD Cert.StepUqIdeal.τ).loc Cert.StepUqIdeal.main_arg4)
      ∧ r.2.mem ((c.tc : Thread Cert.StepUqIdeal.nD Cert.StepUqIdeal.τ).loc Cert.StepUqIdeal.main_arg5) = m ((c.tc : Thread Cert.StepUqIdeal.nD Cert.StepUqIdeal.τ).loc Cert.StepUqIdeal.main_arg5))
      ∧ r.2.sem = fun _ => 0)

def quiescent_StepUqReferenceIdeal [hStepUqReferenceIdeal : Cert.StepUqReferenceIdeal.Facts] : Prop :=
  ∀ (m : (ℓ : Loc Cert.StepUqReferenceIdeal.nD Cert.StepUqReferenceIdeal.τ Cert.StepUqReferenceIdeal.sig) → Buf (Elt Ideal) ℓ) (g : Dev Cert.StepUqReferenceIdeal.nD → PrngReg), Pre_StepUqReferenceIdeal m →
    θ_run (Cert.StepUqReferenceIdeal.defs (F := Ideal)) (onTc (τ := Cert.StepUqReferenceIdeal.τ) (Cert.StepUqReferenceIdeal.main (F := Ideal))) ⟨m, fun _ => 0, g⟩ (fun r => (∀ c : Dev Cert.StepUqReferenceIdeal.nD,
      r.2.mem ((c.tc : Thread Cert.StepUqReferenceIdeal.nD Cert.StepUqReferenceIdeal.τ).loc Cert.StepUqReferenceIdeal.main_arg0) = m ((c.tc : Thread Cert.StepUqReferenceIdeal.nD Cert.StepUqReferenceIdeal.τ).loc Cert.StepUqReferenceIdeal.main_arg0)
      ∧ r.2.mem ((c.tc : Thread Cert.StepUqReferenceIdeal.nD Cert.StepUqReferenceIdeal.τ).loc Cert.StepUqReferenceIdeal.main_arg1) = m ((c.tc : Thread Cert.StepUqReferenceIdeal.nD Cert.StepUqReferenceIdeal.τ).loc Cert.StepUqReferenceIdeal.main_arg1)
      ∧ r.2.mem ((c.tc : Thread Cert.StepUqReferenceIdeal.nD Cert.StepUqReferenceIdeal.τ).loc Cert.StepUqReferenceIdeal.main_arg2) = m ((c.tc : Thread Cert.StepUqReferenceIdeal.nD Cert.StepUqReferenceIdeal.τ).loc Cert.StepUqReferenceIdeal.main_arg2)
      ∧ r.2.mem ((c.tc : Thread Cert.StepUqReferenceIdeal.nD Cert.StepUqReferenceIdeal.τ).loc Cert.StepUqReferenceIdeal.main_arg3) = m ((c.tc : Thread Cert.StepUqReferenceIdeal.nD Cert.StepUqReferenceIdeal.τ).loc Cert.StepUqReferenceIdeal.main_arg3)
      ∧ r.2.mem ((c.tc : Thread Cert.StepUqReferenceIdeal.nD Cert.StepUqReferenceIdeal.τ).loc Cert.StepUqReferenceIdeal.main_arg4) = m ((c.tc : Thread Cert.StepUqReferenceIdeal.nD Cert.StepUqReferenceIdeal.τ).loc Cert.StepUqReferenceIdeal.main_arg4)
      ∧ r.2.mem ((c.tc : Thread Cert.StepUqReferenceIdeal.nD Cert.StepUqReferenceIdeal.τ).loc Cert.StepUqReferenceIdeal.main_arg5) = m ((c.tc : Thread Cert.StepUqReferenceIdeal.nD Cert.StepUqReferenceIdeal.τ).loc Cert.StepUqReferenceIdeal.main_arg5))
      ∧ r.2.sem = fun _ => 0)

def quiescent_StepUkv [hStepUkv : Cert.StepUkv.Facts] : Prop :=
  ∀ (m : (ℓ : Loc Cert.StepUkv.nD Cert.StepUkv.τ Cert.StepUkv.sig) → Buf (Elt Bits) ℓ) (g : Dev Cert.StepUkv.nD → PrngReg), Pre_StepUkv m →
    θ_run (Cert.StepUkv.defs (F := Bits)) (onTc (τ := Cert.StepUkv.τ) (Cert.StepUkv.main (F := Bits))) ⟨m, fun _ => 0, g⟩ (fun r => (∀ c : Dev Cert.StepUkv.nD,
      r.2.mem ((c.tc : Thread Cert.StepUkv.nD Cert.StepUkv.τ).loc Cert.StepUkv.main_arg0) = m ((c.tc : Thread Cert.StepUkv.nD Cert.StepUkv.τ).loc Cert.StepUkv.main_arg0)
      ∧ r.2.mem ((c.tc : Thread Cert.StepUkv.nD Cert.StepUkv.τ).loc Cert.StepUkv.main_arg1) = m ((c.tc : Thread Cert.StepUkv.nD Cert.StepUkv.τ).loc Cert.StepUkv.main_arg1)
      ∧ r.2.mem ((c.tc : Thread Cert.StepUkv.nD Cert.StepUkv.τ).loc Cert.StepUkv.main_arg2) = m ((c.tc : Thread Cert.StepUkv.nD Cert.StepUkv.τ).loc Cert.StepUkv.main_arg2)
      ∧ r.2.mem ((c.tc : Thread Cert.StepUkv.nD Cert.StepUkv.τ).loc Cert.StepUkv.main_arg3) = m ((c.tc : Thread Cert.StepUkv.nD Cert.StepUkv.τ).loc Cert.StepUkv.main_arg3)
      ∧ r.2.mem ((c.tc : Thread Cert.StepUkv.nD Cert.StepUkv.τ).loc Cert.StepUkv.main_arg4) = m ((c.tc : Thread Cert.StepUkv.nD Cert.StepUkv.τ).loc Cert.StepUkv.main_arg4)
      ∧ r.2.mem ((c.tc : Thread Cert.StepUkv.nD Cert.StepUkv.τ).loc Cert.StepUkv.main_arg5) = m ((c.tc : Thread Cert.StepUkv.nD Cert.StepUkv.τ).loc Cert.StepUkv.main_arg5))
      ∧ r.2.sem = fun _ => 0)

def quiescent_StepUkvIdeal [hStepUkvIdeal : Cert.StepUkvIdeal.Facts] : Prop :=
  ∀ (m : (ℓ : Loc Cert.StepUkvIdeal.nD Cert.StepUkvIdeal.τ Cert.StepUkvIdeal.sig) → Buf (Elt Ideal) ℓ) (g : Dev Cert.StepUkvIdeal.nD → PrngReg), Pre_StepUkvIdeal m →
    θ_run (Cert.StepUkvIdeal.defs (F := Ideal)) (onTc (τ := Cert.StepUkvIdeal.τ) (Cert.StepUkvIdeal.main (F := Ideal))) ⟨m, fun _ => 0, g⟩ (fun r => (∀ c : Dev Cert.StepUkvIdeal.nD,
      r.2.mem ((c.tc : Thread Cert.StepUkvIdeal.nD Cert.StepUkvIdeal.τ).loc Cert.StepUkvIdeal.main_arg0) = m ((c.tc : Thread Cert.StepUkvIdeal.nD Cert.StepUkvIdeal.τ).loc Cert.StepUkvIdeal.main_arg0)
      ∧ r.2.mem ((c.tc : Thread Cert.StepUkvIdeal.nD Cert.StepUkvIdeal.τ).loc Cert.StepUkvIdeal.main_arg1) = m ((c.tc : Thread Cert.StepUkvIdeal.nD Cert.StepUkvIdeal.τ).loc Cert.StepUkvIdeal.main_arg1)
      ∧ r.2.mem ((c.tc : Thread Cert.StepUkvIdeal.nD Cert.StepUkvIdeal.τ).loc Cert.StepUkvIdeal.main_arg2) = m ((c.tc : Thread Cert.StepUkvIdeal.nD Cert.StepUkvIdeal.τ).loc Cert.StepUkvIdeal.main_arg2)
      ∧ r.2.mem ((c.tc : Thread Cert.StepUkvIdeal.nD Cert.StepUkvIdeal.τ).loc Cert.StepUkvIdeal.main_arg3) = m ((c.tc : Thread Cert.StepUkvIdeal.nD Cert.StepUkvIdeal.τ).loc Cert.StepUkvIdeal.main_arg3)
      ∧ r.2.mem ((c.tc : Thread Cert.StepUkvIdeal.nD Cert.StepUkvIdeal.τ).loc Cert.StepUkvIdeal.main_arg4) = m ((c.tc : Thread Cert.StepUkvIdeal.nD Cert.StepUkvIdeal.τ).loc Cert.StepUkvIdeal.main_arg4)
      ∧ r.2.mem ((c.tc : Thread Cert.StepUkvIdeal.nD Cert.StepUkvIdeal.τ).loc Cert.StepUkvIdeal.main_arg5) = m ((c.tc : Thread Cert.StepUkvIdeal.nD Cert.StepUkvIdeal.τ).loc Cert.StepUkvIdeal.main_arg5))
      ∧ r.2.sem = fun _ => 0)

def quiescent_StepUkvReferenceIdeal [hStepUkvReferenceIdeal : Cert.StepUkvReferenceIdeal.Facts] : Prop :=
  ∀ (m : (ℓ : Loc Cert.StepUkvReferenceIdeal.nD Cert.StepUkvReferenceIdeal.τ Cert.StepUkvReferenceIdeal.sig) → Buf (Elt Ideal) ℓ) (g : Dev Cert.StepUkvReferenceIdeal.nD → PrngReg), Pre_StepUkvReferenceIdeal m →
    θ_run (Cert.StepUkvReferenceIdeal.defs (F := Ideal)) (onTc (τ := Cert.StepUkvReferenceIdeal.τ) (Cert.StepUkvReferenceIdeal.main (F := Ideal))) ⟨m, fun _ => 0, g⟩ (fun r => (∀ c : Dev Cert.StepUkvReferenceIdeal.nD,
      r.2.mem ((c.tc : Thread Cert.StepUkvReferenceIdeal.nD Cert.StepUkvReferenceIdeal.τ).loc Cert.StepUkvReferenceIdeal.main_arg0) = m ((c.tc : Thread Cert.StepUkvReferenceIdeal.nD Cert.StepUkvReferenceIdeal.τ).loc Cert.StepUkvReferenceIdeal.main_arg0)
      ∧ r.2.mem ((c.tc : Thread Cert.StepUkvReferenceIdeal.nD Cert.StepUkvReferenceIdeal.τ).loc Cert.StepUkvReferenceIdeal.main_arg1) = m ((c.tc : Thread Cert.StepUkvReferenceIdeal.nD Cert.StepUkvReferenceIdeal.τ).loc Cert.StepUkvReferenceIdeal.main_arg1)
      ∧ r.2.mem ((c.tc : Thread Cert.StepUkvReferenceIdeal.nD Cert.StepUkvReferenceIdeal.τ).loc Cert.StepUkvReferenceIdeal.main_arg2) = m ((c.tc : Thread Cert.StepUkvReferenceIdeal.nD Cert.StepUkvReferenceIdeal.τ).loc Cert.StepUkvReferenceIdeal.main_arg2)
      ∧ r.2.mem ((c.tc : Thread Cert.StepUkvReferenceIdeal.nD Cert.StepUkvReferenceIdeal.τ).loc Cert.StepUkvReferenceIdeal.main_arg3) = m ((c.tc : Thread Cert.StepUkvReferenceIdeal.nD Cert.StepUkvReferenceIdeal.τ).loc Cert.StepUkvReferenceIdeal.main_arg3)
      ∧ r.2.mem ((c.tc : Thread Cert.StepUkvReferenceIdeal.nD Cert.StepUkvReferenceIdeal.τ).loc Cert.StepUkvReferenceIdeal.main_arg4) = m ((c.tc : Thread Cert.StepUkvReferenceIdeal.nD Cert.StepUkvReferenceIdeal.τ).loc Cert.StepUkvReferenceIdeal.main_arg4)
      ∧ r.2.mem ((c.tc : Thread Cert.StepUkvReferenceIdeal.nD Cert.StepUkvReferenceIdeal.τ).loc Cert.StepUkvReferenceIdeal.main_arg5) = m ((c.tc : Thread Cert.StepUkvReferenceIdeal.nD Cert.StepUkvReferenceIdeal.τ).loc Cert.StepUkvReferenceIdeal.main_arg5))
      ∧ r.2.sem = fun _ => 0)

def quiescent_StepFox [hStepFox : Cert.StepFox.Facts] : Prop :=
  ∀ (m : (ℓ : Loc Cert.StepFox.nD Cert.StepFox.τ Cert.StepFox.sig) → Buf (Elt Bits) ℓ) (g : Dev Cert.StepFox.nD → PrngReg), Pre_StepFox m →
    θ_run (Cert.StepFox.defs (F := Bits)) (onTc (τ := Cert.StepFox.τ) (Cert.StepFox.main (F := Bits))) ⟨m, fun _ => 0, g⟩ (fun r => (∀ c : Dev Cert.StepFox.nD,
      r.2.mem ((c.tc : Thread Cert.StepFox.nD Cert.StepFox.τ).loc Cert.StepFox.main_arg0) = m ((c.tc : Thread Cert.StepFox.nD Cert.StepFox.τ).loc Cert.StepFox.main_arg0)
      ∧ r.2.mem ((c.tc : Thread Cert.StepFox.nD Cert.StepFox.τ).loc Cert.StepFox.main_arg1) = m ((c.tc : Thread Cert.StepFox.nD Cert.StepFox.τ).loc Cert.StepFox.main_arg1)
      ∧ r.2.mem ((c.tc : Thread Cert.StepFox.nD Cert.StepFox.τ).loc Cert.StepFox.main_arg2) = m ((c.tc : Thread Cert.StepFox.nD Cert.StepFox.τ).loc Cert.StepFox.main_arg2)
      ∧ r.2.mem ((c.tc : Thread Cert.StepFox.nD Cert.StepFox.τ).loc Cert.StepFox.main_arg3) = m ((c.tc : Thread Cert.StepFox.nD Cert.StepFox.τ).loc Cert.StepFox.main_arg3)
      ∧ r.2.mem ((c.tc : Thread Cert.StepFox.nD Cert.StepFox.τ).loc Cert.StepFox.main_arg4) = m ((c.tc : Thread Cert.StepFox.nD Cert.StepFox.τ).loc Cert.StepFox.main_arg4)
      ∧ r.2.mem ((c.tc : Thread Cert.StepFox.nD Cert.StepFox.τ).loc Cert.StepFox.main_arg5) = m ((c.tc : Thread Cert.StepFox.nD Cert.StepFox.τ).loc Cert.StepFox.main_arg5))
      ∧ r.2.sem = fun _ => 0)

def quiescent_StepFoxIdeal [hStepFoxIdeal : Cert.StepFoxIdeal.Facts] : Prop :=
  ∀ (m : (ℓ : Loc Cert.StepFoxIdeal.nD Cert.StepFoxIdeal.τ Cert.StepFoxIdeal.sig) → Buf (Elt Ideal) ℓ) (g : Dev Cert.StepFoxIdeal.nD → PrngReg), Pre_StepFoxIdeal m →
    θ_run (Cert.StepFoxIdeal.defs (F := Ideal)) (onTc (τ := Cert.StepFoxIdeal.τ) (Cert.StepFoxIdeal.main (F := Ideal))) ⟨m, fun _ => 0, g⟩ (fun r => (∀ c : Dev Cert.StepFoxIdeal.nD,
      r.2.mem ((c.tc : Thread Cert.StepFoxIdeal.nD Cert.StepFoxIdeal.τ).loc Cert.StepFoxIdeal.main_arg0) = m ((c.tc : Thread Cert.StepFoxIdeal.nD Cert.StepFoxIdeal.τ).loc Cert.StepFoxIdeal.main_arg0)
      ∧ r.2.mem ((c.tc : Thread Cert.StepFoxIdeal.nD Cert.StepFoxIdeal.τ).loc Cert.StepFoxIdeal.main_arg1) = m ((c.tc : Thread Cert.StepFoxIdeal.nD Cert.StepFoxIdeal.τ).loc Cert.StepFoxIdeal.main_arg1)
      ∧ r.2.mem ((c.tc : Thread Cert.StepFoxIdeal.nD Cert.StepFoxIdeal.τ).loc Cert.StepFoxIdeal.main_arg2) = m ((c.tc : Thread Cert.StepFoxIdeal.nD Cert.StepFoxIdeal.τ).loc Cert.StepFoxIdeal.main_arg2)
      ∧ r.2.mem ((c.tc : Thread Cert.StepFoxIdeal.nD Cert.StepFoxIdeal.τ).loc Cert.StepFoxIdeal.main_arg3) = m ((c.tc : Thread Cert.StepFoxIdeal.nD Cert.StepFoxIdeal.τ).loc Cert.StepFoxIdeal.main_arg3)
      ∧ r.2.mem ((c.tc : Thread Cert.StepFoxIdeal.nD Cert.StepFoxIdeal.τ).loc Cert.StepFoxIdeal.main_arg4) = m ((c.tc : Thread Cert.StepFoxIdeal.nD Cert.StepFoxIdeal.τ).loc Cert.StepFoxIdeal.main_arg4)
      ∧ r.2.mem ((c.tc : Thread Cert.StepFoxIdeal.nD Cert.StepFoxIdeal.τ).loc Cert.StepFoxIdeal.main_arg5) = m ((c.tc : Thread Cert.StepFoxIdeal.nD Cert.StepFoxIdeal.τ).loc Cert.StepFoxIdeal.main_arg5))
      ∧ r.2.sem = fun _ => 0)

def quiescent_StepFoxReferenceIdeal [hStepFoxReferenceIdeal : Cert.StepFoxReferenceIdeal.Facts] : Prop :=
  ∀ (m : (ℓ : Loc Cert.StepFoxReferenceIdeal.nD Cert.StepFoxReferenceIdeal.τ Cert.StepFoxReferenceIdeal.sig) → Buf (Elt Ideal) ℓ) (g : Dev Cert.StepFoxReferenceIdeal.nD → PrngReg), Pre_StepFoxReferenceIdeal m →
    θ_run (Cert.StepFoxReferenceIdeal.defs (F := Ideal)) (onTc (τ := Cert.StepFoxReferenceIdeal.τ) (Cert.StepFoxReferenceIdeal.main (F := Ideal))) ⟨m, fun _ => 0, g⟩ (fun r => (∀ c : Dev Cert.StepFoxReferenceIdeal.nD,
      r.2.mem ((c.tc : Thread Cert.StepFoxReferenceIdeal.nD Cert.StepFoxReferenceIdeal.τ).loc Cert.StepFoxReferenceIdeal.main_arg0) = m ((c.tc : Thread Cert.StepFoxReferenceIdeal.nD Cert.StepFoxReferenceIdeal.τ).loc Cert.StepFoxReferenceIdeal.main_arg0)
      ∧ r.2.mem ((c.tc : Thread Cert.StepFoxReferenceIdeal.nD Cert.StepFoxReferenceIdeal.τ).loc Cert.StepFoxReferenceIdeal.main_arg1) = m ((c.tc : Thread Cert.StepFoxReferenceIdeal.nD Cert.StepFoxReferenceIdeal.τ).loc Cert.StepFoxReferenceIdeal.main_arg1)
      ∧ r.2.mem ((c.tc : Thread Cert.StepFoxReferenceIdeal.nD Cert.StepFoxReferenceIdeal.τ).loc Cert.StepFoxReferenceIdeal.main_arg2) = m ((c.tc : Thread Cert.StepFoxReferenceIdeal.nD Cert.StepFoxReferenceIdeal.τ).loc Cert.StepFoxReferenceIdeal.main_arg2)
      ∧ r.2.mem ((c.tc : Thread Cert.StepFoxReferenceIdeal.nD Cert.StepFoxReferenceIdeal.τ).loc Cert.StepFoxReferenceIdeal.main_arg3) = m ((c.tc : Thread Cert.StepFoxReferenceIdeal.nD Cert.StepFoxReferenceIdeal.τ).loc Cert.StepFoxReferenceIdeal.main_arg3)
      ∧ r.2.mem ((c.tc : Thread Cert.StepFoxReferenceIdeal.nD Cert.StepFoxReferenceIdeal.τ).loc Cert.StepFoxReferenceIdeal.main_arg4) = m ((c.tc : Thread Cert.StepFoxReferenceIdeal.nD Cert.StepFoxReferenceIdeal.τ).loc Cert.StepFoxReferenceIdeal.main_arg4)
      ∧ r.2.mem ((c.tc : Thread Cert.StepFoxReferenceIdeal.nD Cert.StepFoxReferenceIdeal.τ).loc Cert.StepFoxReferenceIdeal.main_arg5) = m ((c.tc : Thread Cert.StepFoxReferenceIdeal.nD Cert.StepFoxReferenceIdeal.τ).loc Cert.StepFoxReferenceIdeal.main_arg5))
      ∧ r.2.sem = fun _ => 0)

def quiescent_StepSbInLast [hStepSbInLast : Cert.StepSbInLast.Facts] : Prop :=
  ∀ (m : (ℓ : Loc Cert.StepSbInLast.nD Cert.StepSbInLast.τ Cert.StepSbInLast.sig) → Buf (Elt Bits) ℓ) (g : Dev Cert.StepSbInLast.nD → PrngReg), Pre_StepSbInLast m →
    θ_run (Cert.StepSbInLast.defs (F := Bits)) (onTc (τ := Cert.StepSbInLast.τ) (Cert.StepSbInLast.main (F := Bits))) ⟨m, fun _ => 0, g⟩ (fun r => (∀ c : Dev Cert.StepSbInLast.nD,
      r.2.mem ((c.tc : Thread Cert.StepSbInLast.nD Cert.StepSbInLast.τ).loc Cert.StepSbInLast.main_arg0) = m ((c.tc : Thread Cert.StepSbInLast.nD Cert.StepSbInLast.τ).loc Cert.StepSbInLast.main_arg0)
      ∧ r.2.mem ((c.tc : Thread Cert.StepSbInLast.nD Cert.StepSbInLast.τ).loc Cert.StepSbInLast.main_arg1) = m ((c.tc : Thread Cert.StepSbInLast.nD Cert.StepSbInLast.τ).loc Cert.StepSbInLast.main_arg1)
      ∧ r.2.mem ((c.tc : Thread Cert.StepSbInLast.nD Cert.StepSbInLast.τ).loc Cert.StepSbInLast.main_arg2) = m ((c.tc : Thread Cert.StepSbInLast.nD Cert.StepSbInLast.τ).loc Cert.StepSbInLast.main_arg2)
      ∧ r.2.mem ((c.tc : Thread Cert.StepSbInLast.nD Cert.StepSbInLast.τ).loc Cert.StepSbInLast.main_arg3) = m ((c.tc : Thread Cert.StepSbInLast.nD Cert.StepSbInLast.τ).loc Cert.StepSbInLast.main_arg3)
      ∧ r.2.mem ((c.tc : Thread Cert.StepSbInLast.nD Cert.StepSbInLast.τ).loc Cert.StepSbInLast.main_arg4) = m ((c.tc : Thread Cert.StepSbInLast.nD Cert.StepSbInLast.τ).loc Cert.StepSbInLast.main_arg4)
      ∧ r.2.mem ((c.tc : Thread Cert.StepSbInLast.nD Cert.StepSbInLast.τ).loc Cert.StepSbInLast.main_arg5) = m ((c.tc : Thread Cert.StepSbInLast.nD Cert.StepSbInLast.τ).loc Cert.StepSbInLast.main_arg5))
      ∧ r.2.sem = fun _ => 0)

def quiescent_StepSbInLastIdeal [hStepSbInLastIdeal : Cert.StepSbInLastIdeal.Facts] : Prop :=
  ∀ (m : (ℓ : Loc Cert.StepSbInLastIdeal.nD Cert.StepSbInLastIdeal.τ Cert.StepSbInLastIdeal.sig) → Buf (Elt Ideal) ℓ) (g : Dev Cert.StepSbInLastIdeal.nD → PrngReg), Pre_StepSbInLastIdeal m →
    θ_run (Cert.StepSbInLastIdeal.defs (F := Ideal)) (onTc (τ := Cert.StepSbInLastIdeal.τ) (Cert.StepSbInLastIdeal.main (F := Ideal))) ⟨m, fun _ => 0, g⟩ (fun r => (∀ c : Dev Cert.StepSbInLastIdeal.nD,
      r.2.mem ((c.tc : Thread Cert.StepSbInLastIdeal.nD Cert.StepSbInLastIdeal.τ).loc Cert.StepSbInLastIdeal.main_arg0) = m ((c.tc : Thread Cert.StepSbInLastIdeal.nD Cert.StepSbInLastIdeal.τ).loc Cert.StepSbInLastIdeal.main_arg0)
      ∧ r.2.mem ((c.tc : Thread Cert.StepSbInLastIdeal.nD Cert.StepSbInLastIdeal.τ).loc Cert.StepSbInLastIdeal.main_arg1) = m ((c.tc : Thread Cert.StepSbInLastIdeal.nD Cert.StepSbInLastIdeal.τ).loc Cert.StepSbInLastIdeal.main_arg1)
      ∧ r.2.mem ((c.tc : Thread Cert.StepSbInLastIdeal.nD Cert.StepSbInLastIdeal.τ).loc Cert.StepSbInLastIdeal.main_arg2) = m ((c.tc : Thread Cert.StepSbInLastIdeal.nD Cert.StepSbInLastIdeal.τ).loc Cert.StepSbInLastIdeal.main_arg2)
      ∧ r.2.mem ((c.tc : Thread Cert.StepSbInLastIdeal.nD Cert.StepSbInLastIdeal.τ).loc Cert.StepSbInLastIdeal.main_arg3) = m ((c.tc : Thread Cert.StepSbInLastIdeal.nD Cert.StepSbInLastIdeal.τ).loc Cert.StepSbInLastIdeal.main_arg3)
      ∧ r.2.mem ((c.tc : Thread Cert.StepSbInLastIdeal.nD Cert.StepSbInLastIdeal.τ).loc Cert.StepSbInLastIdeal.main_arg4) = m ((c.tc : Thread Cert.StepSbInLastIdeal.nD Cert.StepSbInLastIdeal.τ).loc Cert.StepSbInLastIdeal.main_arg4)
      ∧ r.2.mem ((c.tc : Thread Cert.StepSbInLastIdeal.nD Cert.StepSbInLastIdeal.τ).loc Cert.StepSbInLastIdeal.main_arg5) = m ((c.tc : Thread Cert.StepSbInLastIdeal.nD Cert.StepSbInLastIdeal.τ).loc Cert.StepSbInLastIdeal.main_arg5))
      ∧ r.2.sem = fun _ => 0)

def quiescent_StepSbInLastReferenceIdeal [hStepSbInLastReferenceIdeal : Cert.StepSbInLastReferenceIdeal.Facts] : Prop :=
  ∀ (m : (ℓ : Loc Cert.StepSbInLastReferenceIdeal.nD Cert.StepSbInLastReferenceIdeal.τ Cert.StepSbInLastReferenceIdeal.sig) → Buf (Elt Ideal) ℓ) (g : Dev Cert.StepSbInLastReferenceIdeal.nD → PrngReg), Pre_StepSbInLastReferenceIdeal m →
    θ_run (Cert.StepSbInLastReferenceIdeal.defs (F := Ideal)) (onTc (τ := Cert.StepSbInLastReferenceIdeal.τ) (Cert.StepSbInLastReferenceIdeal.main (F := Ideal))) ⟨m, fun _ => 0, g⟩ (fun r => (∀ c : Dev Cert.StepSbInLastReferenceIdeal.nD,
      r.2.mem ((c.tc : Thread Cert.StepSbInLastReferenceIdeal.nD Cert.StepSbInLastReferenceIdeal.τ).loc Cert.StepSbInLastReferenceIdeal.main_arg0) = m ((c.tc : Thread Cert.StepSbInLastReferenceIdeal.nD Cert.StepSbInLastReferenceIdeal.τ).loc Cert.StepSbInLastReferenceIdeal.main_arg0)
      ∧ r.2.mem ((c.tc : Thread Cert.StepSbInLastReferenceIdeal.nD Cert.StepSbInLastReferenceIdeal.τ).loc Cert.StepSbInLastReferenceIdeal.main_arg1) = m ((c.tc : Thread Cert.StepSbInLastReferenceIdeal.nD Cert.StepSbInLastReferenceIdeal.τ).loc Cert.StepSbInLastReferenceIdeal.main_arg1)
      ∧ r.2.mem ((c.tc : Thread Cert.StepSbInLastReferenceIdeal.nD Cert.StepSbInLastReferenceIdeal.τ).loc Cert.StepSbInLastReferenceIdeal.main_arg2) = m ((c.tc : Thread Cert.StepSbInLastReferenceIdeal.nD Cert.StepSbInLastReferenceIdeal.τ).loc Cert.StepSbInLastReferenceIdeal.main_arg2)
      ∧ r.2.mem ((c.tc : Thread Cert.StepSbInLastReferenceIdeal.nD Cert.StepSbInLastReferenceIdeal.τ).loc Cert.StepSbInLastReferenceIdeal.main_arg3) = m ((c.tc : Thread Cert.StepSbInLastReferenceIdeal.nD Cert.StepSbInLastReferenceIdeal.τ).loc Cert.StepSbInLastReferenceIdeal.main_arg3)
      ∧ r.2.mem ((c.tc : Thread Cert.StepSbInLastReferenceIdeal.nD Cert.StepSbInLastReferenceIdeal.τ).loc Cert.StepSbInLastReferenceIdeal.main_arg4) = m ((c.tc : Thread Cert.StepSbInLastReferenceIdeal.nD Cert.StepSbInLastReferenceIdeal.τ).loc Cert.StepSbInLastReferenceIdeal.main_arg4)
      ∧ r.2.mem ((c.tc : Thread Cert.StepSbInLastReferenceIdeal.nD Cert.StepSbInLastReferenceIdeal.τ).loc Cert.StepSbInLastReferenceIdeal.main_arg5) = m ((c.tc : Thread Cert.StepSbInLastReferenceIdeal.nD Cert.StepSbInLastReferenceIdeal.τ).loc Cert.StepSbInLastReferenceIdeal.main_arg5))
      ∧ r.2.sem = fun _ => 0)

def quiescent_StepSbInFirst [hStepSbInFirst : Cert.StepSbInFirst.Facts] : Prop :=
  ∀ (m : (ℓ : Loc Cert.StepSbInFirst.nD Cert.StepSbInFirst.τ Cert.StepSbInFirst.sig) → Buf (Elt Bits) ℓ) (g : Dev Cert.StepSbInFirst.nD → PrngReg), Pre_StepSbInFirst m →
    θ_run (Cert.StepSbInFirst.defs (F := Bits)) (onTc (τ := Cert.StepSbInFirst.τ) (Cert.StepSbInFirst.main (F := Bits))) ⟨m, fun _ => 0, g⟩ (fun r => (∀ c : Dev Cert.StepSbInFirst.nD,
      r.2.mem ((c.tc : Thread Cert.StepSbInFirst.nD Cert.StepSbInFirst.τ).loc Cert.StepSbInFirst.main_arg0) = m ((c.tc : Thread Cert.StepSbInFirst.nD Cert.StepSbInFirst.τ).loc Cert.StepSbInFirst.main_arg0)
      ∧ r.2.mem ((c.tc : Thread Cert.StepSbInFirst.nD Cert.StepSbInFirst.τ).loc Cert.StepSbInFirst.main_arg1) = m ((c.tc : Thread Cert.StepSbInFirst.nD Cert.StepSbInFirst.τ).loc Cert.StepSbInFirst.main_arg1)
      ∧ r.2.mem ((c.tc : Thread Cert.StepSbInFirst.nD Cert.StepSbInFirst.τ).loc Cert.StepSbInFirst.main_arg2) = m ((c.tc : Thread Cert.StepSbInFirst.nD Cert.StepSbInFirst.τ).loc Cert.StepSbInFirst.main_arg2)
      ∧ r.2.mem ((c.tc : Thread Cert.StepSbInFirst.nD Cert.StepSbInFirst.τ).loc Cert.StepSbInFirst.main_arg3) = m ((c.tc : Thread Cert.StepSbInFirst.nD Cert.StepSbInFirst.τ).loc Cert.StepSbInFirst.main_arg3)
      ∧ r.2.mem ((c.tc : Thread Cert.StepSbInFirst.nD Cert.StepSbInFirst.τ).loc Cert.StepSbInFirst.main_arg4) = m ((c.tc : Thread Cert.StepSbInFirst.nD Cert.StepSbInFirst.τ).loc Cert.StepSbInFirst.main_arg4)
      ∧ r.2.mem ((c.tc : Thread Cert.StepSbInFirst.nD Cert.StepSbInFirst.τ).loc Cert.StepSbInFirst.main_arg5) = m ((c.tc : Thread Cert.StepSbInFirst.nD Cert.StepSbInFirst.τ).loc Cert.StepSbInFirst.main_arg5)
      ∧ r.2.mem ((c.tc : Thread Cert.StepSbInFirst.nD Cert.StepSbInFirst.τ).loc Cert.StepSbInFirst.main_arg6) = m ((c.tc : Thread Cert.StepSbInFirst.nD Cert.StepSbInFirst.τ).loc Cert.StepSbInFirst.main_arg6)
      ∧ r.2.mem ((c.tc : Thread Cert.StepSbInFirst.nD Cert.StepSbInFirst.τ).loc Cert.StepSbInFirst.main_arg7) = m ((c.tc : Thread Cert.StepSbInFirst.nD Cert.StepSbInFirst.τ).loc Cert.StepSbInFirst.main_arg7)
      ∧ r.2.mem ((c.tc : Thread Cert.StepSbInFirst.nD Cert.StepSbInFirst.τ).loc Cert.StepSbInFirst.main_arg8) = m ((c.tc : Thread Cert.StepSbInFirst.nD Cert.StepSbInFirst.τ).loc Cert.StepSbInFirst.main_arg8)
      ∧ r.2.mem ((c.tc : Thread Cert.StepSbInFirst.nD Cert.StepSbInFirst.τ).loc Cert.StepSbInFirst.main_arg9) = m ((c.tc : Thread Cert.StepSbInFirst.nD Cert.StepSbInFirst.τ).loc Cert.StepSbInFirst.main_arg9))
      ∧ r.2.sem = fun _ => 0)

def quiescent_StepSbInFirstIdeal [hStepSbInFirstIdeal : Cert.StepSbInFirstIdeal.Facts] : Prop :=
  ∀ (m : (ℓ : Loc Cert.StepSbInFirstIdeal.nD Cert.StepSbInFirstIdeal.τ Cert.StepSbInFirstIdeal.sig) → Buf (Elt Ideal) ℓ) (g : Dev Cert.StepSbInFirstIdeal.nD → PrngReg), Pre_StepSbInFirstIdeal m →
    θ_run (Cert.StepSbInFirstIdeal.defs (F := Ideal)) (onTc (τ := Cert.StepSbInFirstIdeal.τ) (Cert.StepSbInFirstIdeal.main (F := Ideal))) ⟨m, fun _ => 0, g⟩ (fun r => (∀ c : Dev Cert.StepSbInFirstIdeal.nD,
      r.2.mem ((c.tc : Thread Cert.StepSbInFirstIdeal.nD Cert.StepSbInFirstIdeal.τ).loc Cert.StepSbInFirstIdeal.main_arg0) = m ((c.tc : Thread Cert.StepSbInFirstIdeal.nD Cert.StepSbInFirstIdeal.τ).loc Cert.StepSbInFirstIdeal.main_arg0)
      ∧ r.2.mem ((c.tc : Thread Cert.StepSbInFirstIdeal.nD Cert.StepSbInFirstIdeal.τ).loc Cert.StepSbInFirstIdeal.main_arg1) = m ((c.tc : Thread Cert.StepSbInFirstIdeal.nD Cert.StepSbInFirstIdeal.τ).loc Cert.StepSbInFirstIdeal.main_arg1)
      ∧ r.2.mem ((c.tc : Thread Cert.StepSbInFirstIdeal.nD Cert.StepSbInFirstIdeal.τ).loc Cert.StepSbInFirstIdeal.main_arg2) = m ((c.tc : Thread Cert.StepSbInFirstIdeal.nD Cert.StepSbInFirstIdeal.τ).loc Cert.StepSbInFirstIdeal.main_arg2)
      ∧ r.2.mem ((c.tc : Thread Cert.StepSbInFirstIdeal.nD Cert.StepSbInFirstIdeal.τ).loc Cert.StepSbInFirstIdeal.main_arg3) = m ((c.tc : Thread Cert.StepSbInFirstIdeal.nD Cert.StepSbInFirstIdeal.τ).loc Cert.StepSbInFirstIdeal.main_arg3)
      ∧ r.2.mem ((c.tc : Thread Cert.StepSbInFirstIdeal.nD Cert.StepSbInFirstIdeal.τ).loc Cert.StepSbInFirstIdeal.main_arg4) = m ((c.tc : Thread Cert.StepSbInFirstIdeal.nD Cert.StepSbInFirstIdeal.τ).loc Cert.StepSbInFirstIdeal.main_arg4)
      ∧ r.2.mem ((c.tc : Thread Cert.StepSbInFirstIdeal.nD Cert.StepSbInFirstIdeal.τ).loc Cert.StepSbInFirstIdeal.main_arg5) = m ((c.tc : Thread Cert.StepSbInFirstIdeal.nD Cert.StepSbInFirstIdeal.τ).loc Cert.StepSbInFirstIdeal.main_arg5)
      ∧ r.2.mem ((c.tc : Thread Cert.StepSbInFirstIdeal.nD Cert.StepSbInFirstIdeal.τ).loc Cert.StepSbInFirstIdeal.main_arg6) = m ((c.tc : Thread Cert.StepSbInFirstIdeal.nD Cert.StepSbInFirstIdeal.τ).loc Cert.StepSbInFirstIdeal.main_arg6)
      ∧ r.2.mem ((c.tc : Thread Cert.StepSbInFirstIdeal.nD Cert.StepSbInFirstIdeal.τ).loc Cert.StepSbInFirstIdeal.main_arg7) = m ((c.tc : Thread Cert.StepSbInFirstIdeal.nD Cert.StepSbInFirstIdeal.τ).loc Cert.StepSbInFirstIdeal.main_arg7)
      ∧ r.2.mem ((c.tc : Thread Cert.StepSbInFirstIdeal.nD Cert.StepSbInFirstIdeal.τ).loc Cert.StepSbInFirstIdeal.main_arg8) = m ((c.tc : Thread Cert.StepSbInFirstIdeal.nD Cert.StepSbInFirstIdeal.τ).loc Cert.StepSbInFirstIdeal.main_arg8)
      ∧ r.2.mem ((c.tc : Thread Cert.StepSbInFirstIdeal.nD Cert.StepSbInFirstIdeal.τ).loc Cert.StepSbInFirstIdeal.main_arg9) = m ((c.tc : Thread Cert.StepSbInFirstIdeal.nD Cert.StepSbInFirstIdeal.τ).loc Cert.StepSbInFirstIdeal.main_arg9))
      ∧ r.2.sem = fun _ => 0)

def quiescent_StepSbInFirstReferenceIdeal [hStepSbInFirstReferenceIdeal : Cert.StepSbInFirstReferenceIdeal.Facts] : Prop :=
  ∀ (m : (ℓ : Loc Cert.StepSbInFirstReferenceIdeal.nD Cert.StepSbInFirstReferenceIdeal.τ Cert.StepSbInFirstReferenceIdeal.sig) → Buf (Elt Ideal) ℓ) (g : Dev Cert.StepSbInFirstReferenceIdeal.nD → PrngReg), Pre_StepSbInFirstReferenceIdeal m →
    θ_run (Cert.StepSbInFirstReferenceIdeal.defs (F := Ideal)) (onTc (τ := Cert.StepSbInFirstReferenceIdeal.τ) (Cert.StepSbInFirstReferenceIdeal.main (F := Ideal))) ⟨m, fun _ => 0, g⟩ (fun r => (∀ c : Dev Cert.StepSbInFirstReferenceIdeal.nD,
      r.2.mem ((c.tc : Thread Cert.StepSbInFirstReferenceIdeal.nD Cert.StepSbInFirstReferenceIdeal.τ).loc Cert.StepSbInFirstReferenceIdeal.main_arg0) = m ((c.tc : Thread Cert.StepSbInFirstReferenceIdeal.nD Cert.StepSbInFirstReferenceIdeal.τ).loc Cert.StepSbInFirstReferenceIdeal.main_arg0)
      ∧ r.2.mem ((c.tc : Thread Cert.StepSbInFirstReferenceIdeal.nD Cert.StepSbInFirstReferenceIdeal.τ).loc Cert.StepSbInFirstReferenceIdeal.main_arg1) = m ((c.tc : Thread Cert.StepSbInFirstReferenceIdeal.nD Cert.StepSbInFirstReferenceIdeal.τ).loc Cert.StepSbInFirstReferenceIdeal.main_arg1)
      ∧ r.2.mem ((c.tc : Thread Cert.StepSbInFirstReferenceIdeal.nD Cert.StepSbInFirstReferenceIdeal.τ).loc Cert.StepSbInFirstReferenceIdeal.main_arg2) = m ((c.tc : Thread Cert.StepSbInFirstReferenceIdeal.nD Cert.StepSbInFirstReferenceIdeal.τ).loc Cert.StepSbInFirstReferenceIdeal.main_arg2)
      ∧ r.2.mem ((c.tc : Thread Cert.StepSbInFirstReferenceIdeal.nD Cert.StepSbInFirstReferenceIdeal.τ).loc Cert.StepSbInFirstReferenceIdeal.main_arg3) = m ((c.tc : Thread Cert.StepSbInFirstReferenceIdeal.nD Cert.StepSbInFirstReferenceIdeal.τ).loc Cert.StepSbInFirstReferenceIdeal.main_arg3)
      ∧ r.2.mem ((c.tc : Thread Cert.StepSbInFirstReferenceIdeal.nD Cert.StepSbInFirstReferenceIdeal.τ).loc Cert.StepSbInFirstReferenceIdeal.main_arg4) = m ((c.tc : Thread Cert.StepSbInFirstReferenceIdeal.nD Cert.StepSbInFirstReferenceIdeal.τ).loc Cert.StepSbInFirstReferenceIdeal.main_arg4)
      ∧ r.2.mem ((c.tc : Thread Cert.StepSbInFirstReferenceIdeal.nD Cert.StepSbInFirstReferenceIdeal.τ).loc Cert.StepSbInFirstReferenceIdeal.main_arg5) = m ((c.tc : Thread Cert.StepSbInFirstReferenceIdeal.nD Cert.StepSbInFirstReferenceIdeal.τ).loc Cert.StepSbInFirstReferenceIdeal.main_arg5)
      ∧ r.2.mem ((c.tc : Thread Cert.StepSbInFirstReferenceIdeal.nD Cert.StepSbInFirstReferenceIdeal.τ).loc Cert.StepSbInFirstReferenceIdeal.main_arg6) = m ((c.tc : Thread Cert.StepSbInFirstReferenceIdeal.nD Cert.StepSbInFirstReferenceIdeal.τ).loc Cert.StepSbInFirstReferenceIdeal.main_arg6)
      ∧ r.2.mem ((c.tc : Thread Cert.StepSbInFirstReferenceIdeal.nD Cert.StepSbInFirstReferenceIdeal.τ).loc Cert.StepSbInFirstReferenceIdeal.main_arg7) = m ((c.tc : Thread Cert.StepSbInFirstReferenceIdeal.nD Cert.StepSbInFirstReferenceIdeal.τ).loc Cert.StepSbInFirstReferenceIdeal.main_arg7)
      ∧ r.2.mem ((c.tc : Thread Cert.StepSbInFirstReferenceIdeal.nD Cert.StepSbInFirstReferenceIdeal.τ).loc Cert.StepSbInFirstReferenceIdeal.main_arg8) = m ((c.tc : Thread Cert.StepSbInFirstReferenceIdeal.nD Cert.StepSbInFirstReferenceIdeal.τ).loc Cert.StepSbInFirstReferenceIdeal.main_arg8)
      ∧ r.2.mem ((c.tc : Thread Cert.StepSbInFirstReferenceIdeal.nD Cert.StepSbInFirstReferenceIdeal.τ).loc Cert.StepSbInFirstReferenceIdeal.main_arg9) = m ((c.tc : Thread Cert.StepSbInFirstReferenceIdeal.nD Cert.StepSbInFirstReferenceIdeal.τ).loc Cert.StepSbInFirstReferenceIdeal.main_arg9))
      ∧ r.2.sem = fun _ => 0)

def quiescent_StepSbOutLast [hStepSbOutLast : Cert.StepSbOutLast.Facts] : Prop :=
  ∀ (m : (ℓ : Loc Cert.StepSbOutLast.nD Cert.StepSbOutLast.τ Cert.StepSbOutLast.sig) → Buf (Elt Bits) ℓ) (g : Dev Cert.StepSbOutLast.nD → PrngReg), Pre_StepSbOutLast m →
    θ_run (Cert.StepSbOutLast.defs (F := Bits)) (onTc (τ := Cert.StepSbOutLast.τ) (Cert.StepSbOutLast.main (F := Bits))) ⟨m, fun _ => 0, g⟩ (fun r => (∀ c : Dev Cert.StepSbOutLast.nD,
      r.2.mem ((c.tc : Thread Cert.StepSbOutLast.nD Cert.StepSbOutLast.τ).loc Cert.StepSbOutLast.main_arg0) = m ((c.tc : Thread Cert.StepSbOutLast.nD Cert.StepSbOutLast.τ).loc Cert.StepSbOutLast.main_arg0)
      ∧ r.2.mem ((c.tc : Thread Cert.StepSbOutLast.nD Cert.StepSbOutLast.τ).loc Cert.StepSbOutLast.main_arg1) = m ((c.tc : Thread Cert.StepSbOutLast.nD Cert.StepSbOutLast.τ).loc Cert.StepSbOutLast.main_arg1)
      ∧ r.2.mem ((c.tc : Thread Cert.StepSbOutLast.nD Cert.StepSbOutLast.τ).loc Cert.StepSbOutLast.main_arg2) = m ((c.tc : Thread Cert.StepSbOutLast.nD Cert.StepSbOutLast.τ).loc Cert.StepSbOutLast.main_arg2)
      ∧ r.2.mem ((c.tc : Thread Cert.StepSbOutLast.nD Cert.StepSbOutLast.τ).loc Cert.StepSbOutLast.main_arg3) = m ((c.tc : Thread Cert.StepSbOutLast.nD Cert.StepSbOutLast.τ).loc Cert.StepSbOutLast.main_arg3)
      ∧ r.2.mem ((c.tc : Thread Cert.StepSbOutLast.nD Cert.StepSbOutLast.τ).loc Cert.StepSbOutLast.main_arg4) = m ((c.tc : Thread Cert.StepSbOutLast.nD Cert.StepSbOutLast.τ).loc Cert.StepSbOutLast.main_arg4)
      ∧ r.2.mem ((c.tc : Thread Cert.StepSbOutLast.nD Cert.StepSbOutLast.τ).loc Cert.StepSbOutLast.main_arg5) = m ((c.tc : Thread Cert.StepSbOutLast.nD Cert.StepSbOutLast.τ).loc Cert.StepSbOutLast.main_arg5))
      ∧ r.2.sem = fun _ => 0)

def quiescent_StepSbOutLastIdeal [hStepSbOutLastIdeal : Cert.StepSbOutLastIdeal.Facts] : Prop :=
  ∀ (m : (ℓ : Loc Cert.StepSbOutLastIdeal.nD Cert.StepSbOutLastIdeal.τ Cert.StepSbOutLastIdeal.sig) → Buf (Elt Ideal) ℓ) (g : Dev Cert.StepSbOutLastIdeal.nD → PrngReg), Pre_StepSbOutLastIdeal m →
    θ_run (Cert.StepSbOutLastIdeal.defs (F := Ideal)) (onTc (τ := Cert.StepSbOutLastIdeal.τ) (Cert.StepSbOutLastIdeal.main (F := Ideal))) ⟨m, fun _ => 0, g⟩ (fun r => (∀ c : Dev Cert.StepSbOutLastIdeal.nD,
      r.2.mem ((c.tc : Thread Cert.StepSbOutLastIdeal.nD Cert.StepSbOutLastIdeal.τ).loc Cert.StepSbOutLastIdeal.main_arg0) = m ((c.tc : Thread Cert.StepSbOutLastIdeal.nD Cert.StepSbOutLastIdeal.τ).loc Cert.StepSbOutLastIdeal.main_arg0)
      ∧ r.2.mem ((c.tc : Thread Cert.StepSbOutLastIdeal.nD Cert.StepSbOutLastIdeal.τ).loc Cert.StepSbOutLastIdeal.main_arg1) = m ((c.tc : Thread Cert.StepSbOutLastIdeal.nD Cert.StepSbOutLastIdeal.τ).loc Cert.StepSbOutLastIdeal.main_arg1)
      ∧ r.2.mem ((c.tc : Thread Cert.StepSbOutLastIdeal.nD Cert.StepSbOutLastIdeal.τ).loc Cert.StepSbOutLastIdeal.main_arg2) = m ((c.tc : Thread Cert.StepSbOutLastIdeal.nD Cert.StepSbOutLastIdeal.τ).loc Cert.StepSbOutLastIdeal.main_arg2)
      ∧ r.2.mem ((c.tc : Thread Cert.StepSbOutLastIdeal.nD Cert.StepSbOutLastIdeal.τ).loc Cert.StepSbOutLastIdeal.main_arg3) = m ((c.tc : Thread Cert.StepSbOutLastIdeal.nD Cert.StepSbOutLastIdeal.τ).loc Cert.StepSbOutLastIdeal.main_arg3)
      ∧ r.2.mem ((c.tc : Thread Cert.StepSbOutLastIdeal.nD Cert.StepSbOutLastIdeal.τ).loc Cert.StepSbOutLastIdeal.main_arg4) = m ((c.tc : Thread Cert.StepSbOutLastIdeal.nD Cert.StepSbOutLastIdeal.τ).loc Cert.StepSbOutLastIdeal.main_arg4)
      ∧ r.2.mem ((c.tc : Thread Cert.StepSbOutLastIdeal.nD Cert.StepSbOutLastIdeal.τ).loc Cert.StepSbOutLastIdeal.main_arg5) = m ((c.tc : Thread Cert.StepSbOutLastIdeal.nD Cert.StepSbOutLastIdeal.τ).loc Cert.StepSbOutLastIdeal.main_arg5))
      ∧ r.2.sem = fun _ => 0)

def quiescent_StepSbOutLastReferenceIdeal [hStepSbOutLastReferenceIdeal : Cert.StepSbOutLastReferenceIdeal.Facts] : Prop :=
  ∀ (m : (ℓ : Loc Cert.StepSbOutLastReferenceIdeal.nD Cert.StepSbOutLastReferenceIdeal.τ Cert.StepSbOutLastReferenceIdeal.sig) → Buf (Elt Ideal) ℓ) (g : Dev Cert.StepSbOutLastReferenceIdeal.nD → PrngReg), Pre_StepSbOutLastReferenceIdeal m →
    θ_run (Cert.StepSbOutLastReferenceIdeal.defs (F := Ideal)) (onTc (τ := Cert.StepSbOutLastReferenceIdeal.τ) (Cert.StepSbOutLastReferenceIdeal.main (F := Ideal))) ⟨m, fun _ => 0, g⟩ (fun r => (∀ c : Dev Cert.StepSbOutLastReferenceIdeal.nD,
      r.2.mem ((c.tc : Thread Cert.StepSbOutLastReferenceIdeal.nD Cert.StepSbOutLastReferenceIdeal.τ).loc Cert.StepSbOutLastReferenceIdeal.main_arg0) = m ((c.tc : Thread Cert.StepSbOutLastReferenceIdeal.nD Cert.StepSbOutLastReferenceIdeal.τ).loc Cert.StepSbOutLastReferenceIdeal.main_arg0)
      ∧ r.2.mem ((c.tc : Thread Cert.StepSbOutLastReferenceIdeal.nD Cert.StepSbOutLastReferenceIdeal.τ).loc Cert.StepSbOutLastReferenceIdeal.main_arg1) = m ((c.tc : Thread Cert.StepSbOutLastReferenceIdeal.nD Cert.StepSbOutLastReferenceIdeal.τ).loc Cert.StepSbOutLastReferenceIdeal.main_arg1)
      ∧ r.2.mem ((c.tc : Thread Cert.StepSbOutLastReferenceIdeal.nD Cert.StepSbOutLastReferenceIdeal.τ).loc Cert.StepSbOutLastReferenceIdeal.main_arg2) = m ((c.tc : Thread Cert.StepSbOutLastReferenceIdeal.nD Cert.StepSbOutLastReferenceIdeal.τ).loc Cert.StepSbOutLastReferenceIdeal.main_arg2)
      ∧ r.2.mem ((c.tc : Thread Cert.StepSbOutLastReferenceIdeal.nD Cert.StepSbOutLastReferenceIdeal.τ).loc Cert.StepSbOutLastReferenceIdeal.main_arg3) = m ((c.tc : Thread Cert.StepSbOutLastReferenceIdeal.nD Cert.StepSbOutLastReferenceIdeal.τ).loc Cert.StepSbOutLastReferenceIdeal.main_arg3)
      ∧ r.2.mem ((c.tc : Thread Cert.StepSbOutLastReferenceIdeal.nD Cert.StepSbOutLastReferenceIdeal.τ).loc Cert.StepSbOutLastReferenceIdeal.main_arg4) = m ((c.tc : Thread Cert.StepSbOutLastReferenceIdeal.nD Cert.StepSbOutLastReferenceIdeal.τ).loc Cert.StepSbOutLastReferenceIdeal.main_arg4)
      ∧ r.2.mem ((c.tc : Thread Cert.StepSbOutLastReferenceIdeal.nD Cert.StepSbOutLastReferenceIdeal.τ).loc Cert.StepSbOutLastReferenceIdeal.main_arg5) = m ((c.tc : Thread Cert.StepSbOutLastReferenceIdeal.nD Cert.StepSbOutLastReferenceIdeal.τ).loc Cert.StepSbOutLastReferenceIdeal.main_arg5))
      ∧ r.2.sem = fun _ => 0)

def quiescent_StepSbOutFirst [hStepSbOutFirst : Cert.StepSbOutFirst.Facts] : Prop :=
  ∀ (m : (ℓ : Loc Cert.StepSbOutFirst.nD Cert.StepSbOutFirst.τ Cert.StepSbOutFirst.sig) → Buf (Elt Bits) ℓ) (g : Dev Cert.StepSbOutFirst.nD → PrngReg), Pre_StepSbOutFirst m →
    θ_run (Cert.StepSbOutFirst.defs (F := Bits)) (onTc (τ := Cert.StepSbOutFirst.τ) (Cert.StepSbOutFirst.main (F := Bits))) ⟨m, fun _ => 0, g⟩ (fun r => (∀ c : Dev Cert.StepSbOutFirst.nD,
      r.2.mem ((c.tc : Thread Cert.StepSbOutFirst.nD Cert.StepSbOutFirst.τ).loc Cert.StepSbOutFirst.main_arg0) = m ((c.tc : Thread Cert.StepSbOutFirst.nD Cert.StepSbOutFirst.τ).loc Cert.StepSbOutFirst.main_arg0)
      ∧ r.2.mem ((c.tc : Thread Cert.StepSbOutFirst.nD Cert.StepSbOutFirst.τ).loc Cert.StepSbOutFirst.main_arg1) = m ((c.tc : Thread Cert.StepSbOutFirst.nD Cert.StepSbOutFirst.τ).loc Cert.StepSbOutFirst.main_arg1)
      ∧ r.2.mem ((c.tc : Thread Cert.StepSbOutFirst.nD Cert.StepSbOutFirst.τ).loc Cert.StepSbOutFirst.main_arg2) = m ((c.tc : Thread Cert.StepSbOutFirst.nD Cert.StepSbOutFirst.τ).loc Cert.StepSbOutFirst.main_arg2)
      ∧ r.2.mem ((c.tc : Thread Cert.StepSbOutFirst.nD Cert.StepSbOutFirst.τ).loc Cert.StepSbOutFirst.main_arg3) = m ((c.tc : Thread Cert.StepSbOutFirst.nD Cert.StepSbOutFirst.τ).loc Cert.StepSbOutFirst.main_arg3)
      ∧ r.2.mem ((c.tc : Thread Cert.StepSbOutFirst.nD Cert.StepSbOutFirst.τ).loc Cert.StepSbOutFirst.main_arg4) = m ((c.tc : Thread Cert.StepSbOutFirst.nD Cert.StepSbOutFirst.τ).loc Cert.StepSbOutFirst.main_arg4)
      ∧ r.2.mem ((c.tc : Thread Cert.StepSbOutFirst.nD Cert.StepSbOutFirst.τ).loc Cert.StepSbOutFirst.main_arg5) = m ((c.tc : Thread Cert.StepSbOutFirst.nD Cert.StepSbOutFirst.τ).loc Cert.StepSbOutFirst.main_arg5)
      ∧ r.2.mem ((c.tc : Thread Cert.StepSbOutFirst.nD Cert.StepSbOutFirst.τ).loc Cert.StepSbOutFirst.main_arg6) = m ((c.tc : Thread Cert.StepSbOutFirst.nD Cert.StepSbOutFirst.τ).loc Cert.StepSbOutFirst.main_arg6)
      ∧ r.2.mem ((c.tc : Thread Cert.StepSbOutFirst.nD Cert.StepSbOutFirst.τ).loc Cert.StepSbOutFirst.main_arg7) = m ((c.tc : Thread Cert.StepSbOutFirst.nD Cert.StepSbOutFirst.τ).loc Cert.StepSbOutFirst.main_arg7)
      ∧ r.2.mem ((c.tc : Thread Cert.StepSbOutFirst.nD Cert.StepSbOutFirst.τ).loc Cert.StepSbOutFirst.main_arg8) = m ((c.tc : Thread Cert.StepSbOutFirst.nD Cert.StepSbOutFirst.τ).loc Cert.StepSbOutFirst.main_arg8)
      ∧ r.2.mem ((c.tc : Thread Cert.StepSbOutFirst.nD Cert.StepSbOutFirst.τ).loc Cert.StepSbOutFirst.main_arg9) = m ((c.tc : Thread Cert.StepSbOutFirst.nD Cert.StepSbOutFirst.τ).loc Cert.StepSbOutFirst.main_arg9))
      ∧ r.2.sem = fun _ => 0)

def quiescent_StepSbOutFirstIdeal [hStepSbOutFirstIdeal : Cert.StepSbOutFirstIdeal.Facts] : Prop :=
  ∀ (m : (ℓ : Loc Cert.StepSbOutFirstIdeal.nD Cert.StepSbOutFirstIdeal.τ Cert.StepSbOutFirstIdeal.sig) → Buf (Elt Ideal) ℓ) (g : Dev Cert.StepSbOutFirstIdeal.nD → PrngReg), Pre_StepSbOutFirstIdeal m →
    θ_run (Cert.StepSbOutFirstIdeal.defs (F := Ideal)) (onTc (τ := Cert.StepSbOutFirstIdeal.τ) (Cert.StepSbOutFirstIdeal.main (F := Ideal))) ⟨m, fun _ => 0, g⟩ (fun r => (∀ c : Dev Cert.StepSbOutFirstIdeal.nD,
      r.2.mem ((c.tc : Thread Cert.StepSbOutFirstIdeal.nD Cert.StepSbOutFirstIdeal.τ).loc Cert.StepSbOutFirstIdeal.main_arg0) = m ((c.tc : Thread Cert.StepSbOutFirstIdeal.nD Cert.StepSbOutFirstIdeal.τ).loc Cert.StepSbOutFirstIdeal.main_arg0)
      ∧ r.2.mem ((c.tc : Thread Cert.StepSbOutFirstIdeal.nD Cert.StepSbOutFirstIdeal.τ).loc Cert.StepSbOutFirstIdeal.main_arg1) = m ((c.tc : Thread Cert.StepSbOutFirstIdeal.nD Cert.StepSbOutFirstIdeal.τ).loc Cert.StepSbOutFirstIdeal.main_arg1)
      ∧ r.2.mem ((c.tc : Thread Cert.StepSbOutFirstIdeal.nD Cert.StepSbOutFirstIdeal.τ).loc Cert.StepSbOutFirstIdeal.main_arg2) = m ((c.tc : Thread Cert.StepSbOutFirstIdeal.nD Cert.StepSbOutFirstIdeal.τ).loc Cert.StepSbOutFirstIdeal.main_arg2)
      ∧ r.2.mem ((c.tc : Thread Cert.StepSbOutFirstIdeal.nD Cert.StepSbOutFirstIdeal.τ).loc Cert.StepSbOutFirstIdeal.main_arg3) = m ((c.tc : Thread Cert.StepSbOutFirstIdeal.nD Cert.StepSbOutFirstIdeal.τ).loc Cert.StepSbOutFirstIdeal.main_arg3)
      ∧ r.2.mem ((c.tc : Thread Cert.StepSbOutFirstIdeal.nD Cert.StepSbOutFirstIdeal.τ).loc Cert.StepSbOutFirstIdeal.main_arg4) = m ((c.tc : Thread Cert.StepSbOutFirstIdeal.nD Cert.StepSbOutFirstIdeal.τ).loc Cert.StepSbOutFirstIdeal.main_arg4)
      ∧ r.2.mem ((c.tc : Thread Cert.StepSbOutFirstIdeal.nD Cert.StepSbOutFirstIdeal.τ).loc Cert.StepSbOutFirstIdeal.main_arg5) = m ((c.tc : Thread Cert.StepSbOutFirstIdeal.nD Cert.StepSbOutFirstIdeal.τ).loc Cert.StepSbOutFirstIdeal.main_arg5)
      ∧ r.2.mem ((c.tc : Thread Cert.StepSbOutFirstIdeal.nD Cert.StepSbOutFirstIdeal.τ).loc Cert.StepSbOutFirstIdeal.main_arg6) = m ((c.tc : Thread Cert.StepSbOutFirstIdeal.nD Cert.StepSbOutFirstIdeal.τ).loc Cert.StepSbOutFirstIdeal.main_arg6)
      ∧ r.2.mem ((c.tc : Thread Cert.StepSbOutFirstIdeal.nD Cert.StepSbOutFirstIdeal.τ).loc Cert.StepSbOutFirstIdeal.main_arg7) = m ((c.tc : Thread Cert.StepSbOutFirstIdeal.nD Cert.StepSbOutFirstIdeal.τ).loc Cert.StepSbOutFirstIdeal.main_arg7)
      ∧ r.2.mem ((c.tc : Thread Cert.StepSbOutFirstIdeal.nD Cert.StepSbOutFirstIdeal.τ).loc Cert.StepSbOutFirstIdeal.main_arg8) = m ((c.tc : Thread Cert.StepSbOutFirstIdeal.nD Cert.StepSbOutFirstIdeal.τ).loc Cert.StepSbOutFirstIdeal.main_arg8)
      ∧ r.2.mem ((c.tc : Thread Cert.StepSbOutFirstIdeal.nD Cert.StepSbOutFirstIdeal.τ).loc Cert.StepSbOutFirstIdeal.main_arg9) = m ((c.tc : Thread Cert.StepSbOutFirstIdeal.nD Cert.StepSbOutFirstIdeal.τ).loc Cert.StepSbOutFirstIdeal.main_arg9))
      ∧ r.2.sem = fun _ => 0)

def quiescent_StepSbOutFirstReferenceIdeal [hStepSbOutFirstReferenceIdeal : Cert.StepSbOutFirstReferenceIdeal.Facts] : Prop :=
  ∀ (m : (ℓ : Loc Cert.StepSbOutFirstReferenceIdeal.nD Cert.StepSbOutFirstReferenceIdeal.τ Cert.StepSbOutFirstReferenceIdeal.sig) → Buf (Elt Ideal) ℓ) (g : Dev Cert.StepSbOutFirstReferenceIdeal.nD → PrngReg), Pre_StepSbOutFirstReferenceIdeal m →
    θ_run (Cert.StepSbOutFirstReferenceIdeal.defs (F := Ideal)) (onTc (τ := Cert.StepSbOutFirstReferenceIdeal.τ) (Cert.StepSbOutFirstReferenceIdeal.main (F := Ideal))) ⟨m, fun _ => 0, g⟩ (fun r => (∀ c : Dev Cert.StepSbOutFirstReferenceIdeal.nD,
      r.2.mem ((c.tc : Thread Cert.StepSbOutFirstReferenceIdeal.nD Cert.StepSbOutFirstReferenceIdeal.τ).loc Cert.StepSbOutFirstReferenceIdeal.main_arg0) = m ((c.tc : Thread Cert.StepSbOutFirstReferenceIdeal.nD Cert.StepSbOutFirstReferenceIdeal.τ).loc Cert.StepSbOutFirstReferenceIdeal.main_arg0)
      ∧ r.2.mem ((c.tc : Thread Cert.StepSbOutFirstReferenceIdeal.nD Cert.StepSbOutFirstReferenceIdeal.τ).loc Cert.StepSbOutFirstReferenceIdeal.main_arg1) = m ((c.tc : Thread Cert.StepSbOutFirstReferenceIdeal.nD Cert.StepSbOutFirstReferenceIdeal.τ).loc Cert.StepSbOutFirstReferenceIdeal.main_arg1)
      ∧ r.2.mem ((c.tc : Thread Cert.StepSbOutFirstReferenceIdeal.nD Cert.StepSbOutFirstReferenceIdeal.τ).loc Cert.StepSbOutFirstReferenceIdeal.main_arg2) = m ((c.tc : Thread Cert.StepSbOutFirstReferenceIdeal.nD Cert.StepSbOutFirstReferenceIdeal.τ).loc Cert.StepSbOutFirstReferenceIdeal.main_arg2)
      ∧ r.2.mem ((c.tc : Thread Cert.StepSbOutFirstReferenceIdeal.nD Cert.StepSbOutFirstReferenceIdeal.τ).loc Cert.StepSbOutFirstReferenceIdeal.main_arg3) = m ((c.tc : Thread Cert.StepSbOutFirstReferenceIdeal.nD Cert.StepSbOutFirstReferenceIdeal.τ).loc Cert.StepSbOutFirstReferenceIdeal.main_arg3)
      ∧ r.2.mem ((c.tc : Thread Cert.StepSbOutFirstReferenceIdeal.nD Cert.StepSbOutFirstReferenceIdeal.τ).loc Cert.StepSbOutFirstReferenceIdeal.main_arg4) = m ((c.tc : Thread Cert.StepSbOutFirstReferenceIdeal.nD Cert.StepSbOutFirstReferenceIdeal.τ).loc Cert.StepSbOutFirstReferenceIdeal.main_arg4)
      ∧ r.2.mem ((c.tc : Thread Cert.StepSbOutFirstReferenceIdeal.nD Cert.StepSbOutFirstReferenceIdeal.τ).loc Cert.StepSbOutFirstReferenceIdeal.main_arg5) = m ((c.tc : Thread Cert.StepSbOutFirstReferenceIdeal.nD Cert.StepSbOutFirstReferenceIdeal.τ).loc Cert.StepSbOutFirstReferenceIdeal.main_arg5)
      ∧ r.2.mem ((c.tc : Thread Cert.StepSbOutFirstReferenceIdeal.nD Cert.StepSbOutFirstReferenceIdeal.τ).loc Cert.StepSbOutFirstReferenceIdeal.main_arg6) = m ((c.tc : Thread Cert.StepSbOutFirstReferenceIdeal.nD Cert.StepSbOutFirstReferenceIdeal.τ).loc Cert.StepSbOutFirstReferenceIdeal.main_arg6)
      ∧ r.2.mem ((c.tc : Thread Cert.StepSbOutFirstReferenceIdeal.nD Cert.StepSbOutFirstReferenceIdeal.τ).loc Cert.StepSbOutFirstReferenceIdeal.main_arg7) = m ((c.tc : Thread Cert.StepSbOutFirstReferenceIdeal.nD Cert.StepSbOutFirstReferenceIdeal.τ).loc Cert.StepSbOutFirstReferenceIdeal.main_arg7)
      ∧ r.2.mem ((c.tc : Thread Cert.StepSbOutFirstReferenceIdeal.nD Cert.StepSbOutFirstReferenceIdeal.τ).loc Cert.StepSbOutFirstReferenceIdeal.main_arg8) = m ((c.tc : Thread Cert.StepSbOutFirstReferenceIdeal.nD Cert.StepSbOutFirstReferenceIdeal.τ).loc Cert.StepSbOutFirstReferenceIdeal.main_arg8)
      ∧ r.2.mem ((c.tc : Thread Cert.StepSbOutFirstReferenceIdeal.nD Cert.StepSbOutFirstReferenceIdeal.τ).loc Cert.StepSbOutFirstReferenceIdeal.main_arg9) = m ((c.tc : Thread Cert.StepSbOutFirstReferenceIdeal.nD Cert.StepSbOutFirstReferenceIdeal.τ).loc Cert.StepSbOutFirstReferenceIdeal.main_arg9))
      ∧ r.2.sem = fun _ => 0)

def quiescent_StepMlpLast [hStepMlpLast : Cert.StepMlpLast.Facts] : Prop :=
  ∀ (m : (ℓ : Loc Cert.StepMlpLast.nD Cert.StepMlpLast.τ Cert.StepMlpLast.sig) → Buf (Elt Bits) ℓ) (g : Dev Cert.StepMlpLast.nD → PrngReg), Pre_StepMlpLast m →
    θ_run (Cert.StepMlpLast.defs (F := Bits)) (onTc (τ := Cert.StepMlpLast.τ) (Cert.StepMlpLast.main (F := Bits))) ⟨m, fun _ => 0, g⟩ (fun r => (∀ c : Dev Cert.StepMlpLast.nD,
      r.2.mem ((c.tc : Thread Cert.StepMlpLast.nD Cert.StepMlpLast.τ).loc Cert.StepMlpLast.main_arg0) = m ((c.tc : Thread Cert.StepMlpLast.nD Cert.StepMlpLast.τ).loc Cert.StepMlpLast.main_arg0)
      ∧ r.2.mem ((c.tc : Thread Cert.StepMlpLast.nD Cert.StepMlpLast.τ).loc Cert.StepMlpLast.main_arg1) = m ((c.tc : Thread Cert.StepMlpLast.nD Cert.StepMlpLast.τ).loc Cert.StepMlpLast.main_arg1)
      ∧ r.2.mem ((c.tc : Thread Cert.StepMlpLast.nD Cert.StepMlpLast.τ).loc Cert.StepMlpLast.main_arg2) = m ((c.tc : Thread Cert.StepMlpLast.nD Cert.StepMlpLast.τ).loc Cert.StepMlpLast.main_arg2)
      ∧ r.2.mem ((c.tc : Thread Cert.StepMlpLast.nD Cert.StepMlpLast.τ).loc Cert.StepMlpLast.main_arg3) = m ((c.tc : Thread Cert.StepMlpLast.nD Cert.StepMlpLast.τ).loc Cert.StepMlpLast.main_arg3)
      ∧ r.2.mem ((c.tc : Thread Cert.StepMlpLast.nD Cert.StepMlpLast.τ).loc Cert.StepMlpLast.main_arg4) = m ((c.tc : Thread Cert.StepMlpLast.nD Cert.StepMlpLast.τ).loc Cert.StepMlpLast.main_arg4)
      ∧ r.2.mem ((c.tc : Thread Cert.StepMlpLast.nD Cert.StepMlpLast.τ).loc Cert.StepMlpLast.main_arg5) = m ((c.tc : Thread Cert.StepMlpLast.nD Cert.StepMlpLast.τ).loc Cert.StepMlpLast.main_arg5))
      ∧ r.2.sem = fun _ => 0)

def quiescent_StepMlpLastIdeal [hStepMlpLastIdeal : Cert.StepMlpLastIdeal.Facts] : Prop :=
  ∀ (m : (ℓ : Loc Cert.StepMlpLastIdeal.nD Cert.StepMlpLastIdeal.τ Cert.StepMlpLastIdeal.sig) → Buf (Elt Ideal) ℓ) (g : Dev Cert.StepMlpLastIdeal.nD → PrngReg), Pre_StepMlpLastIdeal m →
    θ_run (Cert.StepMlpLastIdeal.defs (F := Ideal)) (onTc (τ := Cert.StepMlpLastIdeal.τ) (Cert.StepMlpLastIdeal.main (F := Ideal))) ⟨m, fun _ => 0, g⟩ (fun r => (∀ c : Dev Cert.StepMlpLastIdeal.nD,
      r.2.mem ((c.tc : Thread Cert.StepMlpLastIdeal.nD Cert.StepMlpLastIdeal.τ).loc Cert.StepMlpLastIdeal.main_arg0) = m ((c.tc : Thread Cert.StepMlpLastIdeal.nD Cert.StepMlpLastIdeal.τ).loc Cert.StepMlpLastIdeal.main_arg0)
      ∧ r.2.mem ((c.tc : Thread Cert.StepMlpLastIdeal.nD Cert.StepMlpLastIdeal.τ).loc Cert.StepMlpLastIdeal.main_arg1) = m ((c.tc : Thread Cert.StepMlpLastIdeal.nD Cert.StepMlpLastIdeal.τ).loc Cert.StepMlpLastIdeal.main_arg1)
      ∧ r.2.mem ((c.tc : Thread Cert.StepMlpLastIdeal.nD Cert.StepMlpLastIdeal.τ).loc Cert.StepMlpLastIdeal.main_arg2) = m ((c.tc : Thread Cert.StepMlpLastIdeal.nD Cert.StepMlpLastIdeal.τ).loc Cert.StepMlpLastIdeal.main_arg2)
      ∧ r.2.mem ((c.tc : Thread Cert.StepMlpLastIdeal.nD Cert.StepMlpLastIdeal.τ).loc Cert.StepMlpLastIdeal.main_arg3) = m ((c.tc : Thread Cert.StepMlpLastIdeal.nD Cert.StepMlpLastIdeal.τ).loc Cert.StepMlpLastIdeal.main_arg3)
      ∧ r.2.mem ((c.tc : Thread Cert.StepMlpLastIdeal.nD Cert.StepMlpLastIdeal.τ).loc Cert.StepMlpLastIdeal.main_arg4) = m ((c.tc : Thread Cert.StepMlpLastIdeal.nD Cert.StepMlpLastIdeal.τ).loc Cert.StepMlpLastIdeal.main_arg4)
      ∧ r.2.mem ((c.tc : Thread Cert.StepMlpLastIdeal.nD Cert.StepMlpLastIdeal.τ).loc Cert.StepMlpLastIdeal.main_arg5) = m ((c.tc : Thread Cert.StepMlpLastIdeal.nD Cert.StepMlpLastIdeal.τ).loc Cert.StepMlpLastIdeal.main_arg5))
      ∧ r.2.sem = fun _ => 0)

def quiescent_StepMlpLastReferenceIdeal [hStepMlpLastReferenceIdeal : Cert.StepMlpLastReferenceIdeal.Facts] : Prop :=
  ∀ (m : (ℓ : Loc Cert.StepMlpLastReferenceIdeal.nD Cert.StepMlpLastReferenceIdeal.τ Cert.StepMlpLastReferenceIdeal.sig) → Buf (Elt Ideal) ℓ) (g : Dev Cert.StepMlpLastReferenceIdeal.nD → PrngReg), Pre_StepMlpLastReferenceIdeal m →
    θ_run (Cert.StepMlpLastReferenceIdeal.defs (F := Ideal)) (onTc (τ := Cert.StepMlpLastReferenceIdeal.τ) (Cert.StepMlpLastReferenceIdeal.main (F := Ideal))) ⟨m, fun _ => 0, g⟩ (fun r => (∀ c : Dev Cert.StepMlpLastReferenceIdeal.nD,
      r.2.mem ((c.tc : Thread Cert.StepMlpLastReferenceIdeal.nD Cert.StepMlpLastReferenceIdeal.τ).loc Cert.StepMlpLastReferenceIdeal.main_arg0) = m ((c.tc : Thread Cert.StepMlpLastReferenceIdeal.nD Cert.StepMlpLastReferenceIdeal.τ).loc Cert.StepMlpLastReferenceIdeal.main_arg0)
      ∧ r.2.mem ((c.tc : Thread Cert.StepMlpLastReferenceIdeal.nD Cert.StepMlpLastReferenceIdeal.τ).loc Cert.StepMlpLastReferenceIdeal.main_arg1) = m ((c.tc : Thread Cert.StepMlpLastReferenceIdeal.nD Cert.StepMlpLastReferenceIdeal.τ).loc Cert.StepMlpLastReferenceIdeal.main_arg1)
      ∧ r.2.mem ((c.tc : Thread Cert.StepMlpLastReferenceIdeal.nD Cert.StepMlpLastReferenceIdeal.τ).loc Cert.StepMlpLastReferenceIdeal.main_arg2) = m ((c.tc : Thread Cert.StepMlpLastReferenceIdeal.nD Cert.StepMlpLastReferenceIdeal.τ).loc Cert.StepMlpLastReferenceIdeal.main_arg2)
      ∧ r.2.mem ((c.tc : Thread Cert.StepMlpLastReferenceIdeal.nD Cert.StepMlpLastReferenceIdeal.τ).loc Cert.StepMlpLastReferenceIdeal.main_arg3) = m ((c.tc : Thread Cert.StepMlpLastReferenceIdeal.nD Cert.StepMlpLastReferenceIdeal.τ).loc Cert.StepMlpLastReferenceIdeal.main_arg3)
      ∧ r.2.mem ((c.tc : Thread Cert.StepMlpLastReferenceIdeal.nD Cert.StepMlpLastReferenceIdeal.τ).loc Cert.StepMlpLastReferenceIdeal.main_arg4) = m ((c.tc : Thread Cert.StepMlpLastReferenceIdeal.nD Cert.StepMlpLastReferenceIdeal.τ).loc Cert.StepMlpLastReferenceIdeal.main_arg4)
      ∧ r.2.mem ((c.tc : Thread Cert.StepMlpLastReferenceIdeal.nD Cert.StepMlpLastReferenceIdeal.τ).loc Cert.StepMlpLastReferenceIdeal.main_arg5) = m ((c.tc : Thread Cert.StepMlpLastReferenceIdeal.nD Cert.StepMlpLastReferenceIdeal.τ).loc Cert.StepMlpLastReferenceIdeal.main_arg5))
      ∧ r.2.sem = fun _ => 0)

def quiescent_StepMlpThird [hStepMlpThird : Cert.StepMlpThird.Facts] : Prop :=
  ∀ (m : (ℓ : Loc Cert.StepMlpThird.nD Cert.StepMlpThird.τ Cert.StepMlpThird.sig) → Buf (Elt Bits) ℓ) (g : Dev Cert.StepMlpThird.nD → PrngReg), Pre_StepMlpThird m →
    θ_run (Cert.StepMlpThird.defs (F := Bits)) (onTc (τ := Cert.StepMlpThird.τ) (Cert.StepMlpThird.main (F := Bits))) ⟨m, fun _ => 0, g⟩ (fun r => (∀ c : Dev Cert.StepMlpThird.nD,
      r.2.mem ((c.tc : Thread Cert.StepMlpThird.nD Cert.StepMlpThird.τ).loc Cert.StepMlpThird.main_arg0) = m ((c.tc : Thread Cert.StepMlpThird.nD Cert.StepMlpThird.τ).loc Cert.StepMlpThird.main_arg0)
      ∧ r.2.mem ((c.tc : Thread Cert.StepMlpThird.nD Cert.StepMlpThird.τ).loc Cert.StepMlpThird.main_arg1) = m ((c.tc : Thread Cert.StepMlpThird.nD Cert.StepMlpThird.τ).loc Cert.StepMlpThird.main_arg1)
      ∧ r.2.mem ((c.tc : Thread Cert.StepMlpThird.nD Cert.StepMlpThird.τ).loc Cert.StepMlpThird.main_arg2) = m ((c.tc : Thread Cert.StepMlpThird.nD Cert.StepMlpThird.τ).loc Cert.StepMlpThird.main_arg2)
      ∧ r.2.mem ((c.tc : Thread Cert.StepMlpThird.nD Cert.StepMlpThird.τ).loc Cert.StepMlpThird.main_arg3) = m ((c.tc : Thread Cert.StepMlpThird.nD Cert.StepMlpThird.τ).loc Cert.StepMlpThird.main_arg3)
      ∧ r.2.mem ((c.tc : Thread Cert.StepMlpThird.nD Cert.StepMlpThird.τ).loc Cert.StepMlpThird.main_arg4) = m ((c.tc : Thread Cert.StepMlpThird.nD Cert.StepMlpThird.τ).loc Cert.StepMlpThird.main_arg4)
      ∧ r.2.mem ((c.tc : Thread Cert.StepMlpThird.nD Cert.StepMlpThird.τ).loc Cert.StepMlpThird.main_arg5) = m ((c.tc : Thread Cert.StepMlpThird.nD Cert.StepMlpThird.τ).loc Cert.StepMlpThird.main_arg5)
      ∧ r.2.mem ((c.tc : Thread Cert.StepMlpThird.nD Cert.StepMlpThird.τ).loc Cert.StepMlpThird.main_arg6) = m ((c.tc : Thread Cert.StepMlpThird.nD Cert.StepMlpThird.τ).loc Cert.StepMlpThird.main_arg6)
      ∧ r.2.mem ((c.tc : Thread Cert.StepMlpThird.nD Cert.StepMlpThird.τ).loc Cert.StepMlpThird.main_arg7) = m ((c.tc : Thread Cert.StepMlpThird.nD Cert.StepMlpThird.τ).loc Cert.StepMlpThird.main_arg7)
      ∧ r.2.mem ((c.tc : Thread Cert.StepMlpThird.nD Cert.StepMlpThird.τ).loc Cert.StepMlpThird.main_arg8) = m ((c.tc : Thread Cert.StepMlpThird.nD Cert.StepMlpThird.τ).loc Cert.StepMlpThird.main_arg8)
      ∧ r.2.mem ((c.tc : Thread Cert.StepMlpThird.nD Cert.StepMlpThird.τ).loc Cert.StepMlpThird.main_arg9) = m ((c.tc : Thread Cert.StepMlpThird.nD Cert.StepMlpThird.τ).loc Cert.StepMlpThird.main_arg9))
      ∧ r.2.sem = fun _ => 0)

def quiescent_StepMlpThirdIdeal [hStepMlpThirdIdeal : Cert.StepMlpThirdIdeal.Facts] : Prop :=
  ∀ (m : (ℓ : Loc Cert.StepMlpThirdIdeal.nD Cert.StepMlpThirdIdeal.τ Cert.StepMlpThirdIdeal.sig) → Buf (Elt Ideal) ℓ) (g : Dev Cert.StepMlpThirdIdeal.nD → PrngReg), Pre_StepMlpThirdIdeal m →
    θ_run (Cert.StepMlpThirdIdeal.defs (F := Ideal)) (onTc (τ := Cert.StepMlpThirdIdeal.τ) (Cert.StepMlpThirdIdeal.main (F := Ideal))) ⟨m, fun _ => 0, g⟩ (fun r => (∀ c : Dev Cert.StepMlpThirdIdeal.nD,
      r.2.mem ((c.tc : Thread Cert.StepMlpThirdIdeal.nD Cert.StepMlpThirdIdeal.τ).loc Cert.StepMlpThirdIdeal.main_arg0) = m ((c.tc : Thread Cert.StepMlpThirdIdeal.nD Cert.StepMlpThirdIdeal.τ).loc Cert.StepMlpThirdIdeal.main_arg0)
      ∧ r.2.mem ((c.tc : Thread Cert.StepMlpThirdIdeal.nD Cert.StepMlpThirdIdeal.τ).loc Cert.StepMlpThirdIdeal.main_arg1) = m ((c.tc : Thread Cert.StepMlpThirdIdeal.nD Cert.StepMlpThirdIdeal.τ).loc Cert.StepMlpThirdIdeal.main_arg1)
      ∧ r.2.mem ((c.tc : Thread Cert.StepMlpThirdIdeal.nD Cert.StepMlpThirdIdeal.τ).loc Cert.StepMlpThirdIdeal.main_arg2) = m ((c.tc : Thread Cert.StepMlpThirdIdeal.nD Cert.StepMlpThirdIdeal.τ).loc Cert.StepMlpThirdIdeal.main_arg2)
      ∧ r.2.mem ((c.tc : Thread Cert.StepMlpThirdIdeal.nD Cert.StepMlpThirdIdeal.τ).loc Cert.StepMlpThirdIdeal.main_arg3) = m ((c.tc : Thread Cert.StepMlpThirdIdeal.nD Cert.StepMlpThirdIdeal.τ).loc Cert.StepMlpThirdIdeal.main_arg3)
      ∧ r.2.mem ((c.tc : Thread Cert.StepMlpThirdIdeal.nD Cert.StepMlpThirdIdeal.τ).loc Cert.StepMlpThirdIdeal.main_arg4) = m ((c.tc : Thread Cert.StepMlpThirdIdeal.nD Cert.StepMlpThirdIdeal.τ).loc Cert.StepMlpThirdIdeal.main_arg4)
      ∧ r.2.mem ((c.tc : Thread Cert.StepMlpThirdIdeal.nD Cert.StepMlpThirdIdeal.τ).loc Cert.StepMlpThirdIdeal.main_arg5) = m ((c.tc : Thread Cert.StepMlpThirdIdeal.nD Cert.StepMlpThirdIdeal.τ).loc Cert.StepMlpThirdIdeal.main_arg5)
      ∧ r.2.mem ((c.tc : Thread Cert.StepMlpThirdIdeal.nD Cert.StepMlpThirdIdeal.τ).loc Cert.StepMlpThirdIdeal.main_arg6) = m ((c.tc : Thread Cert.StepMlpThirdIdeal.nD Cert.StepMlpThirdIdeal.τ).loc Cert.StepMlpThirdIdeal.main_arg6)
      ∧ r.2.mem ((c.tc : Thread Cert.StepMlpThirdIdeal.nD Cert.StepMlpThirdIdeal.τ).loc Cert.StepMlpThirdIdeal.main_arg7) = m ((c.tc : Thread Cert.StepMlpThirdIdeal.nD Cert.StepMlpThirdIdeal.τ).loc Cert.StepMlpThirdIdeal.main_arg7)
      ∧ r.2.mem ((c.tc : Thread Cert.StepMlpThirdIdeal.nD Cert.StepMlpThirdIdeal.τ).loc Cert.StepMlpThirdIdeal.main_arg8) = m ((c.tc : Thread Cert.StepMlpThirdIdeal.nD Cert.StepMlpThirdIdeal.τ).loc Cert.StepMlpThirdIdeal.main_arg8)
      ∧ r.2.mem ((c.tc : Thread Cert.StepMlpThirdIdeal.nD Cert.StepMlpThirdIdeal.τ).loc Cert.StepMlpThirdIdeal.main_arg9) = m ((c.tc : Thread Cert.StepMlpThirdIdeal.nD Cert.StepMlpThirdIdeal.τ).loc Cert.StepMlpThirdIdeal.main_arg9))
      ∧ r.2.sem = fun _ => 0)

def quiescent_StepMlpThirdReferenceIdeal [hStepMlpThirdReferenceIdeal : Cert.StepMlpThirdReferenceIdeal.Facts] : Prop :=
  ∀ (m : (ℓ : Loc Cert.StepMlpThirdReferenceIdeal.nD Cert.StepMlpThirdReferenceIdeal.τ Cert.StepMlpThirdReferenceIdeal.sig) → Buf (Elt Ideal) ℓ) (g : Dev Cert.StepMlpThirdReferenceIdeal.nD → PrngReg), Pre_StepMlpThirdReferenceIdeal m →
    θ_run (Cert.StepMlpThirdReferenceIdeal.defs (F := Ideal)) (onTc (τ := Cert.StepMlpThirdReferenceIdeal.τ) (Cert.StepMlpThirdReferenceIdeal.main (F := Ideal))) ⟨m, fun _ => 0, g⟩ (fun r => (∀ c : Dev Cert.StepMlpThirdReferenceIdeal.nD,
      r.2.mem ((c.tc : Thread Cert.StepMlpThirdReferenceIdeal.nD Cert.StepMlpThirdReferenceIdeal.τ).loc Cert.StepMlpThirdReferenceIdeal.main_arg0) = m ((c.tc : Thread Cert.StepMlpThirdReferenceIdeal.nD Cert.StepMlpThirdReferenceIdeal.τ).loc Cert.StepMlpThirdReferenceIdeal.main_arg0)
      ∧ r.2.mem ((c.tc : Thread Cert.StepMlpThirdReferenceIdeal.nD Cert.StepMlpThirdReferenceIdeal.τ).loc Cert.StepMlpThirdReferenceIdeal.main_arg1) = m ((c.tc : Thread Cert.StepMlpThirdReferenceIdeal.nD Cert.StepMlpThirdReferenceIdeal.τ).loc Cert.StepMlpThirdReferenceIdeal.main_arg1)
      ∧ r.2.mem ((c.tc : Thread Cert.StepMlpThirdReferenceIdeal.nD Cert.StepMlpThirdReferenceIdeal.τ).loc Cert.StepMlpThirdReferenceIdeal.main_arg2) = m ((c.tc : Thread Cert.StepMlpThirdReferenceIdeal.nD Cert.StepMlpThirdReferenceIdeal.τ).loc Cert.StepMlpThirdReferenceIdeal.main_arg2)
      ∧ r.2.mem ((c.tc : Thread Cert.StepMlpThirdReferenceIdeal.nD Cert.StepMlpThirdReferenceIdeal.τ).loc Cert.StepMlpThirdReferenceIdeal.main_arg3) = m ((c.tc : Thread Cert.StepMlpThirdReferenceIdeal.nD Cert.StepMlpThirdReferenceIdeal.τ).loc Cert.StepMlpThirdReferenceIdeal.main_arg3)
      ∧ r.2.mem ((c.tc : Thread Cert.StepMlpThirdReferenceIdeal.nD Cert.StepMlpThirdReferenceIdeal.τ).loc Cert.StepMlpThirdReferenceIdeal.main_arg4) = m ((c.tc : Thread Cert.StepMlpThirdReferenceIdeal.nD Cert.StepMlpThirdReferenceIdeal.τ).loc Cert.StepMlpThirdReferenceIdeal.main_arg4)
      ∧ r.2.mem ((c.tc : Thread Cert.StepMlpThirdReferenceIdeal.nD Cert.StepMlpThirdReferenceIdeal.τ).loc Cert.StepMlpThirdReferenceIdeal.main_arg5) = m ((c.tc : Thread Cert.StepMlpThirdReferenceIdeal.nD Cert.StepMlpThirdReferenceIdeal.τ).loc Cert.StepMlpThirdReferenceIdeal.main_arg5)
      ∧ r.2.mem ((c.tc : Thread Cert.StepMlpThirdReferenceIdeal.nD Cert.StepMlpThirdReferenceIdeal.τ).loc Cert.StepMlpThirdReferenceIdeal.main_arg6) = m ((c.tc : Thread Cert.StepMlpThirdReferenceIdeal.nD Cert.StepMlpThirdReferenceIdeal.τ).loc Cert.StepMlpThirdReferenceIdeal.main_arg6)
      ∧ r.2.mem ((c.tc : Thread Cert.StepMlpThirdReferenceIdeal.nD Cert.StepMlpThirdReferenceIdeal.τ).loc Cert.StepMlpThirdReferenceIdeal.main_arg7) = m ((c.tc : Thread Cert.StepMlpThirdReferenceIdeal.nD Cert.StepMlpThirdReferenceIdeal.τ).loc Cert.StepMlpThirdReferenceIdeal.main_arg7)
      ∧ r.2.mem ((c.tc : Thread Cert.StepMlpThirdReferenceIdeal.nD Cert.StepMlpThirdReferenceIdeal.τ).loc Cert.StepMlpThirdReferenceIdeal.main_arg8) = m ((c.tc : Thread Cert.StepMlpThirdReferenceIdeal.nD Cert.StepMlpThirdReferenceIdeal.τ).loc Cert.StepMlpThirdReferenceIdeal.main_arg8)
      ∧ r.2.mem ((c.tc : Thread Cert.StepMlpThirdReferenceIdeal.nD Cert.StepMlpThirdReferenceIdeal.τ).loc Cert.StepMlpThirdReferenceIdeal.main_arg9) = m ((c.tc : Thread Cert.StepMlpThirdReferenceIdeal.nD Cert.StepMlpThirdReferenceIdeal.τ).loc Cert.StepMlpThirdReferenceIdeal.main_arg9))
      ∧ r.2.sem = fun _ => 0)

def quiescent_StepMlpSecond [hStepMlpSecond : Cert.StepMlpSecond.Facts] : Prop :=
  ∀ (m : (ℓ : Loc Cert.StepMlpSecond.nD Cert.StepMlpSecond.τ Cert.StepMlpSecond.sig) → Buf (Elt Bits) ℓ) (g : Dev Cert.StepMlpSecond.nD → PrngReg), Pre_StepMlpSecond m →
    θ_run (Cert.StepMlpSecond.defs (F := Bits)) (onTc (τ := Cert.StepMlpSecond.τ) (Cert.StepMlpSecond.main (F := Bits))) ⟨m, fun _ => 0, g⟩ (fun r => (∀ c : Dev Cert.StepMlpSecond.nD,
      r.2.mem ((c.tc : Thread Cert.StepMlpSecond.nD Cert.StepMlpSecond.τ).loc Cert.StepMlpSecond.main_arg0) = m ((c.tc : Thread Cert.StepMlpSecond.nD Cert.StepMlpSecond.τ).loc Cert.StepMlpSecond.main_arg0)
      ∧ r.2.mem ((c.tc : Thread Cert.StepMlpSecond.nD Cert.StepMlpSecond.τ).loc Cert.StepMlpSecond.main_arg1) = m ((c.tc : Thread Cert.StepMlpSecond.nD Cert.StepMlpSecond.τ).loc Cert.StepMlpSecond.main_arg1)
      ∧ r.2.mem ((c.tc : Thread Cert.StepMlpSecond.nD Cert.StepMlpSecond.τ).loc Cert.StepMlpSecond.main_arg2) = m ((c.tc : Thread Cert.StepMlpSecond.nD Cert.StepMlpSecond.τ).loc Cert.StepMlpSecond.main_arg2)
      ∧ r.2.mem ((c.tc : Thread Cert.StepMlpSecond.nD Cert.StepMlpSecond.τ).loc Cert.StepMlpSecond.main_arg3) = m ((c.tc : Thread Cert.StepMlpSecond.nD Cert.StepMlpSecond.τ).loc Cert.StepMlpSecond.main_arg3)
      ∧ r.2.mem ((c.tc : Thread Cert.StepMlpSecond.nD Cert.StepMlpSecond.τ).loc Cert.StepMlpSecond.main_arg4) = m ((c.tc : Thread Cert.StepMlpSecond.nD Cert.StepMlpSecond.τ).loc Cert.StepMlpSecond.main_arg4)
      ∧ r.2.mem ((c.tc : Thread Cert.StepMlpSecond.nD Cert.StepMlpSecond.τ).loc Cert.StepMlpSecond.main_arg5) = m ((c.tc : Thread Cert.StepMlpSecond.nD Cert.StepMlpSecond.τ).loc Cert.StepMlpSecond.main_arg5)
      ∧ r.2.mem ((c.tc : Thread Cert.StepMlpSecond.nD Cert.StepMlpSecond.τ).loc Cert.StepMlpSecond.main_arg6) = m ((c.tc : Thread Cert.StepMlpSecond.nD Cert.StepMlpSecond.τ).loc Cert.StepMlpSecond.main_arg6)
      ∧ r.2.mem ((c.tc : Thread Cert.StepMlpSecond.nD Cert.StepMlpSecond.τ).loc Cert.StepMlpSecond.main_arg7) = m ((c.tc : Thread Cert.StepMlpSecond.nD Cert.StepMlpSecond.τ).loc Cert.StepMlpSecond.main_arg7)
      ∧ r.2.mem ((c.tc : Thread Cert.StepMlpSecond.nD Cert.StepMlpSecond.τ).loc Cert.StepMlpSecond.main_arg8) = m ((c.tc : Thread Cert.StepMlpSecond.nD Cert.StepMlpSecond.τ).loc Cert.StepMlpSecond.main_arg8)
      ∧ r.2.mem ((c.tc : Thread Cert.StepMlpSecond.nD Cert.StepMlpSecond.τ).loc Cert.StepMlpSecond.main_arg9) = m ((c.tc : Thread Cert.StepMlpSecond.nD Cert.StepMlpSecond.τ).loc Cert.StepMlpSecond.main_arg9))
      ∧ r.2.sem = fun _ => 0)

def quiescent_StepMlpSecondIdeal [hStepMlpSecondIdeal : Cert.StepMlpSecondIdeal.Facts] : Prop :=
  ∀ (m : (ℓ : Loc Cert.StepMlpSecondIdeal.nD Cert.StepMlpSecondIdeal.τ Cert.StepMlpSecondIdeal.sig) → Buf (Elt Ideal) ℓ) (g : Dev Cert.StepMlpSecondIdeal.nD → PrngReg), Pre_StepMlpSecondIdeal m →
    θ_run (Cert.StepMlpSecondIdeal.defs (F := Ideal)) (onTc (τ := Cert.StepMlpSecondIdeal.τ) (Cert.StepMlpSecondIdeal.main (F := Ideal))) ⟨m, fun _ => 0, g⟩ (fun r => (∀ c : Dev Cert.StepMlpSecondIdeal.nD,
      r.2.mem ((c.tc : Thread Cert.StepMlpSecondIdeal.nD Cert.StepMlpSecondIdeal.τ).loc Cert.StepMlpSecondIdeal.main_arg0) = m ((c.tc : Thread Cert.StepMlpSecondIdeal.nD Cert.StepMlpSecondIdeal.τ).loc Cert.StepMlpSecondIdeal.main_arg0)
      ∧ r.2.mem ((c.tc : Thread Cert.StepMlpSecondIdeal.nD Cert.StepMlpSecondIdeal.τ).loc Cert.StepMlpSecondIdeal.main_arg1) = m ((c.tc : Thread Cert.StepMlpSecondIdeal.nD Cert.StepMlpSecondIdeal.τ).loc Cert.StepMlpSecondIdeal.main_arg1)
      ∧ r.2.mem ((c.tc : Thread Cert.StepMlpSecondIdeal.nD Cert.StepMlpSecondIdeal.τ).loc Cert.StepMlpSecondIdeal.main_arg2) = m ((c.tc : Thread Cert.StepMlpSecondIdeal.nD Cert.StepMlpSecondIdeal.τ).loc Cert.StepMlpSecondIdeal.main_arg2)
      ∧ r.2.mem ((c.tc : Thread Cert.StepMlpSecondIdeal.nD Cert.StepMlpSecondIdeal.τ).loc Cert.StepMlpSecondIdeal.main_arg3) = m ((c.tc : Thread Cert.StepMlpSecondIdeal.nD Cert.StepMlpSecondIdeal.τ).loc Cert.StepMlpSecondIdeal.main_arg3)
      ∧ r.2.mem ((c.tc : Thread Cert.StepMlpSecondIdeal.nD Cert.StepMlpSecondIdeal.τ).loc Cert.StepMlpSecondIdeal.main_arg4) = m ((c.tc : Thread Cert.StepMlpSecondIdeal.nD Cert.StepMlpSecondIdeal.τ).loc Cert.StepMlpSecondIdeal.main_arg4)
      ∧ r.2.mem ((c.tc : Thread Cert.StepMlpSecondIdeal.nD Cert.StepMlpSecondIdeal.τ).loc Cert.StepMlpSecondIdeal.main_arg5) = m ((c.tc : Thread Cert.StepMlpSecondIdeal.nD Cert.StepMlpSecondIdeal.τ).loc Cert.StepMlpSecondIdeal.main_arg5)
      ∧ r.2.mem ((c.tc : Thread Cert.StepMlpSecondIdeal.nD Cert.StepMlpSecondIdeal.τ).loc Cert.StepMlpSecondIdeal.main_arg6) = m ((c.tc : Thread Cert.StepMlpSecondIdeal.nD Cert.StepMlpSecondIdeal.τ).loc Cert.StepMlpSecondIdeal.main_arg6)
      ∧ r.2.mem ((c.tc : Thread Cert.StepMlpSecondIdeal.nD Cert.StepMlpSecondIdeal.τ).loc Cert.StepMlpSecondIdeal.main_arg7) = m ((c.tc : Thread Cert.StepMlpSecondIdeal.nD Cert.StepMlpSecondIdeal.τ).loc Cert.StepMlpSecondIdeal.main_arg7)
      ∧ r.2.mem ((c.tc : Thread Cert.StepMlpSecondIdeal.nD Cert.StepMlpSecondIdeal.τ).loc Cert.StepMlpSecondIdeal.main_arg8) = m ((c.tc : Thread Cert.StepMlpSecondIdeal.nD Cert.StepMlpSecondIdeal.τ).loc Cert.StepMlpSecondIdeal.main_arg8)
      ∧ r.2.mem ((c.tc : Thread Cert.StepMlpSecondIdeal.nD Cert.StepMlpSecondIdeal.τ).loc Cert.StepMlpSecondIdeal.main_arg9) = m ((c.tc : Thread Cert.StepMlpSecondIdeal.nD Cert.StepMlpSecondIdeal.τ).loc Cert.StepMlpSecondIdeal.main_arg9))
      ∧ r.2.sem = fun _ => 0)

def quiescent_StepMlpSecondReferenceIdeal [hStepMlpSecondReferenceIdeal : Cert.StepMlpSecondReferenceIdeal.Facts] : Prop :=
  ∀ (m : (ℓ : Loc Cert.StepMlpSecondReferenceIdeal.nD Cert.StepMlpSecondReferenceIdeal.τ Cert.StepMlpSecondReferenceIdeal.sig) → Buf (Elt Ideal) ℓ) (g : Dev Cert.StepMlpSecondReferenceIdeal.nD → PrngReg), Pre_StepMlpSecondReferenceIdeal m →
    θ_run (Cert.StepMlpSecondReferenceIdeal.defs (F := Ideal)) (onTc (τ := Cert.StepMlpSecondReferenceIdeal.τ) (Cert.StepMlpSecondReferenceIdeal.main (F := Ideal))) ⟨m, fun _ => 0, g⟩ (fun r => (∀ c : Dev Cert.StepMlpSecondReferenceIdeal.nD,
      r.2.mem ((c.tc : Thread Cert.StepMlpSecondReferenceIdeal.nD Cert.StepMlpSecondReferenceIdeal.τ).loc Cert.StepMlpSecondReferenceIdeal.main_arg0) = m ((c.tc : Thread Cert.StepMlpSecondReferenceIdeal.nD Cert.StepMlpSecondReferenceIdeal.τ).loc Cert.StepMlpSecondReferenceIdeal.main_arg0)
      ∧ r.2.mem ((c.tc : Thread Cert.StepMlpSecondReferenceIdeal.nD Cert.StepMlpSecondReferenceIdeal.τ).loc Cert.StepMlpSecondReferenceIdeal.main_arg1) = m ((c.tc : Thread Cert.StepMlpSecondReferenceIdeal.nD Cert.StepMlpSecondReferenceIdeal.τ).loc Cert.StepMlpSecondReferenceIdeal.main_arg1)
      ∧ r.2.mem ((c.tc : Thread Cert.StepMlpSecondReferenceIdeal.nD Cert.StepMlpSecondReferenceIdeal.τ).loc Cert.StepMlpSecondReferenceIdeal.main_arg2) = m ((c.tc : Thread Cert.StepMlpSecondReferenceIdeal.nD Cert.StepMlpSecondReferenceIdeal.τ).loc Cert.StepMlpSecondReferenceIdeal.main_arg2)
      ∧ r.2.mem ((c.tc : Thread Cert.StepMlpSecondReferenceIdeal.nD Cert.StepMlpSecondReferenceIdeal.τ).loc Cert.StepMlpSecondReferenceIdeal.main_arg3) = m ((c.tc : Thread Cert.StepMlpSecondReferenceIdeal.nD Cert.StepMlpSecondReferenceIdeal.τ).loc Cert.StepMlpSecondReferenceIdeal.main_arg3)
      ∧ r.2.mem ((c.tc : Thread Cert.StepMlpSecondReferenceIdeal.nD Cert.StepMlpSecondReferenceIdeal.τ).loc Cert.StepMlpSecondReferenceIdeal.main_arg4) = m ((c.tc : Thread Cert.StepMlpSecondReferenceIdeal.nD Cert.StepMlpSecondReferenceIdeal.τ).loc Cert.StepMlpSecondReferenceIdeal.main_arg4)
      ∧ r.2.mem ((c.tc : Thread Cert.StepMlpSecondReferenceIdeal.nD Cert.StepMlpSecondReferenceIdeal.τ).loc Cert.StepMlpSecondReferenceIdeal.main_arg5) = m ((c.tc : Thread Cert.StepMlpSecondReferenceIdeal.nD Cert.StepMlpSecondReferenceIdeal.τ).loc Cert.StepMlpSecondReferenceIdeal.main_arg5)
      ∧ r.2.mem ((c.tc : Thread Cert.StepMlpSecondReferenceIdeal.nD Cert.StepMlpSecondReferenceIdeal.τ).loc Cert.StepMlpSecondReferenceIdeal.main_arg6) = m ((c.tc : Thread Cert.StepMlpSecondReferenceIdeal.nD Cert.StepMlpSecondReferenceIdeal.τ).loc Cert.StepMlpSecondReferenceIdeal.main_arg6)
      ∧ r.2.mem ((c.tc : Thread Cert.StepMlpSecondReferenceIdeal.nD Cert.StepMlpSecondReferenceIdeal.τ).loc Cert.StepMlpSecondReferenceIdeal.main_arg7) = m ((c.tc : Thread Cert.StepMlpSecondReferenceIdeal.nD Cert.StepMlpSecondReferenceIdeal.τ).loc Cert.StepMlpSecondReferenceIdeal.main_arg7)
      ∧ r.2.mem ((c.tc : Thread Cert.StepMlpSecondReferenceIdeal.nD Cert.StepMlpSecondReferenceIdeal.τ).loc Cert.StepMlpSecondReferenceIdeal.main_arg8) = m ((c.tc : Thread Cert.StepMlpSecondReferenceIdeal.nD Cert.StepMlpSecondReferenceIdeal.τ).loc Cert.StepMlpSecondReferenceIdeal.main_arg8)
      ∧ r.2.mem ((c.tc : Thread Cert.StepMlpSecondReferenceIdeal.nD Cert.StepMlpSecondReferenceIdeal.τ).loc Cert.StepMlpSecondReferenceIdeal.main_arg9) = m ((c.tc : Thread Cert.StepMlpSecondReferenceIdeal.nD Cert.StepMlpSecondReferenceIdeal.τ).loc Cert.StepMlpSecondReferenceIdeal.main_arg9))
      ∧ r.2.sem = fun _ => 0)

def quiescent_StepMlpFirst [hStepMlpFirst : Cert.StepMlpFirst.Facts] : Prop :=
  ∀ (m : (ℓ : Loc Cert.StepMlpFirst.nD Cert.StepMlpFirst.τ Cert.StepMlpFirst.sig) → Buf (Elt Bits) ℓ) (g : Dev Cert.StepMlpFirst.nD → PrngReg), Pre_StepMlpFirst m →
    θ_run (Cert.StepMlpFirst.defs (F := Bits)) (onTc (τ := Cert.StepMlpFirst.τ) (Cert.StepMlpFirst.main (F := Bits))) ⟨m, fun _ => 0, g⟩ (fun r => (∀ c : Dev Cert.StepMlpFirst.nD,
      r.2.mem ((c.tc : Thread Cert.StepMlpFirst.nD Cert.StepMlpFirst.τ).loc Cert.StepMlpFirst.main_arg0) = m ((c.tc : Thread Cert.StepMlpFirst.nD Cert.StepMlpFirst.τ).loc Cert.StepMlpFirst.main_arg0)
      ∧ r.2.mem ((c.tc : Thread Cert.StepMlpFirst.nD Cert.StepMlpFirst.τ).loc Cert.StepMlpFirst.main_arg1) = m ((c.tc : Thread Cert.StepMlpFirst.nD Cert.StepMlpFirst.τ).loc Cert.StepMlpFirst.main_arg1)
      ∧ r.2.mem ((c.tc : Thread Cert.StepMlpFirst.nD Cert.StepMlpFirst.τ).loc Cert.StepMlpFirst.main_arg2) = m ((c.tc : Thread Cert.StepMlpFirst.nD Cert.StepMlpFirst.τ).loc Cert.StepMlpFirst.main_arg2)
      ∧ r.2.mem ((c.tc : Thread Cert.StepMlpFirst.nD Cert.StepMlpFirst.τ).loc Cert.StepMlpFirst.main_arg3) = m ((c.tc : Thread Cert.StepMlpFirst.nD Cert.StepMlpFirst.τ).loc Cert.StepMlpFirst.main_arg3)
      ∧ r.2.mem ((c.tc : Thread Cert.StepMlpFirst.nD Cert.StepMlpFirst.τ).loc Cert.StepMlpFirst.main_arg4) = m ((c.tc : Thread Cert.StepMlpFirst.nD Cert.StepMlpFirst.τ).loc Cert.StepMlpFirst.main_arg4)
      ∧ r.2.mem ((c.tc : Thread Cert.StepMlpFirst.nD Cert.StepMlpFirst.τ).loc Cert.StepMlpFirst.main_arg5) = m ((c.tc : Thread Cert.StepMlpFirst.nD Cert.StepMlpFirst.τ).loc Cert.StepMlpFirst.main_arg5)
      ∧ r.2.mem ((c.tc : Thread Cert.StepMlpFirst.nD Cert.StepMlpFirst.τ).loc Cert.StepMlpFirst.main_arg6) = m ((c.tc : Thread Cert.StepMlpFirst.nD Cert.StepMlpFirst.τ).loc Cert.StepMlpFirst.main_arg6)
      ∧ r.2.mem ((c.tc : Thread Cert.StepMlpFirst.nD Cert.StepMlpFirst.τ).loc Cert.StepMlpFirst.main_arg7) = m ((c.tc : Thread Cert.StepMlpFirst.nD Cert.StepMlpFirst.τ).loc Cert.StepMlpFirst.main_arg7)
      ∧ r.2.mem ((c.tc : Thread Cert.StepMlpFirst.nD Cert.StepMlpFirst.τ).loc Cert.StepMlpFirst.main_arg8) = m ((c.tc : Thread Cert.StepMlpFirst.nD Cert.StepMlpFirst.τ).loc Cert.StepMlpFirst.main_arg8)
      ∧ r.2.mem ((c.tc : Thread Cert.StepMlpFirst.nD Cert.StepMlpFirst.τ).loc Cert.StepMlpFirst.main_arg9) = m ((c.tc : Thread Cert.StepMlpFirst.nD Cert.StepMlpFirst.τ).loc Cert.StepMlpFirst.main_arg9))
      ∧ r.2.sem = fun _ => 0)

def quiescent_StepMlpFirstIdeal [hStepMlpFirstIdeal : Cert.StepMlpFirstIdeal.Facts] : Prop :=
  ∀ (m : (ℓ : Loc Cert.StepMlpFirstIdeal.nD Cert.StepMlpFirstIdeal.τ Cert.StepMlpFirstIdeal.sig) → Buf (Elt Ideal) ℓ) (g : Dev Cert.StepMlpFirstIdeal.nD → PrngReg), Pre_StepMlpFirstIdeal m →
    θ_run (Cert.StepMlpFirstIdeal.defs (F := Ideal)) (onTc (τ := Cert.StepMlpFirstIdeal.τ) (Cert.StepMlpFirstIdeal.main (F := Ideal))) ⟨m, fun _ => 0, g⟩ (fun r => (∀ c : Dev Cert.StepMlpFirstIdeal.nD,
      r.2.mem ((c.tc : Thread Cert.StepMlpFirstIdeal.nD Cert.StepMlpFirstIdeal.τ).loc Cert.StepMlpFirstIdeal.main_arg0) = m ((c.tc : Thread Cert.StepMlpFirstIdeal.nD Cert.StepMlpFirstIdeal.τ).loc Cert.StepMlpFirstIdeal.main_arg0)
      ∧ r.2.mem ((c.tc : Thread Cert.StepMlpFirstIdeal.nD Cert.StepMlpFirstIdeal.τ).loc Cert.StepMlpFirstIdeal.main_arg1) = m ((c.tc : Thread Cert.StepMlpFirstIdeal.nD Cert.StepMlpFirstIdeal.τ).loc Cert.StepMlpFirstIdeal.main_arg1)
      ∧ r.2.mem ((c.tc : Thread Cert.StepMlpFirstIdeal.nD Cert.StepMlpFirstIdeal.τ).loc Cert.StepMlpFirstIdeal.main_arg2) = m ((c.tc : Thread Cert.StepMlpFirstIdeal.nD Cert.StepMlpFirstIdeal.τ).loc Cert.StepMlpFirstIdeal.main_arg2)
      ∧ r.2.mem ((c.tc : Thread Cert.StepMlpFirstIdeal.nD Cert.StepMlpFirstIdeal.τ).loc Cert.StepMlpFirstIdeal.main_arg3) = m ((c.tc : Thread Cert.StepMlpFirstIdeal.nD Cert.StepMlpFirstIdeal.τ).loc Cert.StepMlpFirstIdeal.main_arg3)
      ∧ r.2.mem ((c.tc : Thread Cert.StepMlpFirstIdeal.nD Cert.StepMlpFirstIdeal.τ).loc Cert.StepMlpFirstIdeal.main_arg4) = m ((c.tc : Thread Cert.StepMlpFirstIdeal.nD Cert.StepMlpFirstIdeal.τ).loc Cert.StepMlpFirstIdeal.main_arg4)
      ∧ r.2.mem ((c.tc : Thread Cert.StepMlpFirstIdeal.nD Cert.StepMlpFirstIdeal.τ).loc Cert.StepMlpFirstIdeal.main_arg5) = m ((c.tc : Thread Cert.StepMlpFirstIdeal.nD Cert.StepMlpFirstIdeal.τ).loc Cert.StepMlpFirstIdeal.main_arg5)
      ∧ r.2.mem ((c.tc : Thread Cert.StepMlpFirstIdeal.nD Cert.StepMlpFirstIdeal.τ).loc Cert.StepMlpFirstIdeal.main_arg6) = m ((c.tc : Thread Cert.StepMlpFirstIdeal.nD Cert.StepMlpFirstIdeal.τ).loc Cert.StepMlpFirstIdeal.main_arg6)
      ∧ r.2.mem ((c.tc : Thread Cert.StepMlpFirstIdeal.nD Cert.StepMlpFirstIdeal.τ).loc Cert.StepMlpFirstIdeal.main_arg7) = m ((c.tc : Thread Cert.StepMlpFirstIdeal.nD Cert.StepMlpFirstIdeal.τ).loc Cert.StepMlpFirstIdeal.main_arg7)
      ∧ r.2.mem ((c.tc : Thread Cert.StepMlpFirstIdeal.nD Cert.StepMlpFirstIdeal.τ).loc Cert.StepMlpFirstIdeal.main_arg8) = m ((c.tc : Thread Cert.StepMlpFirstIdeal.nD Cert.StepMlpFirstIdeal.τ).loc Cert.StepMlpFirstIdeal.main_arg8)
      ∧ r.2.mem ((c.tc : Thread Cert.StepMlpFirstIdeal.nD Cert.StepMlpFirstIdeal.τ).loc Cert.StepMlpFirstIdeal.main_arg9) = m ((c.tc : Thread Cert.StepMlpFirstIdeal.nD Cert.StepMlpFirstIdeal.τ).loc Cert.StepMlpFirstIdeal.main_arg9))
      ∧ r.2.sem = fun _ => 0)

def quiescent_StepMlpFirstReferenceIdeal [hStepMlpFirstReferenceIdeal : Cert.StepMlpFirstReferenceIdeal.Facts] : Prop :=
  ∀ (m : (ℓ : Loc Cert.StepMlpFirstReferenceIdeal.nD Cert.StepMlpFirstReferenceIdeal.τ Cert.StepMlpFirstReferenceIdeal.sig) → Buf (Elt Ideal) ℓ) (g : Dev Cert.StepMlpFirstReferenceIdeal.nD → PrngReg), Pre_StepMlpFirstReferenceIdeal m →
    θ_run (Cert.StepMlpFirstReferenceIdeal.defs (F := Ideal)) (onTc (τ := Cert.StepMlpFirstReferenceIdeal.τ) (Cert.StepMlpFirstReferenceIdeal.main (F := Ideal))) ⟨m, fun _ => 0, g⟩ (fun r => (∀ c : Dev Cert.StepMlpFirstReferenceIdeal.nD,
      r.2.mem ((c.tc : Thread Cert.StepMlpFirstReferenceIdeal.nD Cert.StepMlpFirstReferenceIdeal.τ).loc Cert.StepMlpFirstReferenceIdeal.main_arg0) = m ((c.tc : Thread Cert.StepMlpFirstReferenceIdeal.nD Cert.StepMlpFirstReferenceIdeal.τ).loc Cert.StepMlpFirstReferenceIdeal.main_arg0)
      ∧ r.2.mem ((c.tc : Thread Cert.StepMlpFirstReferenceIdeal.nD Cert.StepMlpFirstReferenceIdeal.τ).loc Cert.StepMlpFirstReferenceIdeal.main_arg1) = m ((c.tc : Thread Cert.StepMlpFirstReferenceIdeal.nD Cert.StepMlpFirstReferenceIdeal.τ).loc Cert.StepMlpFirstReferenceIdeal.main_arg1)
      ∧ r.2.mem ((c.tc : Thread Cert.StepMlpFirstReferenceIdeal.nD Cert.StepMlpFirstReferenceIdeal.τ).loc Cert.StepMlpFirstReferenceIdeal.main_arg2) = m ((c.tc : Thread Cert.StepMlpFirstReferenceIdeal.nD Cert.StepMlpFirstReferenceIdeal.τ).loc Cert.StepMlpFirstReferenceIdeal.main_arg2)
      ∧ r.2.mem ((c.tc : Thread Cert.StepMlpFirstReferenceIdeal.nD Cert.StepMlpFirstReferenceIdeal.τ).loc Cert.StepMlpFirstReferenceIdeal.main_arg3) = m ((c.tc : Thread Cert.StepMlpFirstReferenceIdeal.nD Cert.StepMlpFirstReferenceIdeal.τ).loc Cert.StepMlpFirstReferenceIdeal.main_arg3)
      ∧ r.2.mem ((c.tc : Thread Cert.StepMlpFirstReferenceIdeal.nD Cert.StepMlpFirstReferenceIdeal.τ).loc Cert.StepMlpFirstReferenceIdeal.main_arg4) = m ((c.tc : Thread Cert.StepMlpFirstReferenceIdeal.nD Cert.StepMlpFirstReferenceIdeal.τ).loc Cert.StepMlpFirstReferenceIdeal.main_arg4)
      ∧ r.2.mem ((c.tc : Thread Cert.StepMlpFirstReferenceIdeal.nD Cert.StepMlpFirstReferenceIdeal.τ).loc Cert.StepMlpFirstReferenceIdeal.main_arg5) = m ((c.tc : Thread Cert.StepMlpFirstReferenceIdeal.nD Cert.StepMlpFirstReferenceIdeal.τ).loc Cert.StepMlpFirstReferenceIdeal.main_arg5)
      ∧ r.2.mem ((c.tc : Thread Cert.StepMlpFirstReferenceIdeal.nD Cert.StepMlpFirstReferenceIdeal.τ).loc Cert.StepMlpFirstReferenceIdeal.main_arg6) = m ((c.tc : Thread Cert.StepMlpFirstReferenceIdeal.nD Cert.StepMlpFirstReferenceIdeal.τ).loc Cert.StepMlpFirstReferenceIdeal.main_arg6)
      ∧ r.2.mem ((c.tc : Thread Cert.StepMlpFirstReferenceIdeal.nD Cert.StepMlpFirstReferenceIdeal.τ).loc Cert.StepMlpFirstReferenceIdeal.main_arg7) = m ((c.tc : Thread Cert.StepMlpFirstReferenceIdeal.nD Cert.StepMlpFirstReferenceIdeal.τ).loc Cert.StepMlpFirstReferenceIdeal.main_arg7)
      ∧ r.2.mem ((c.tc : Thread Cert.StepMlpFirstReferenceIdeal.nD Cert.StepMlpFirstReferenceIdeal.τ).loc Cert.StepMlpFirstReferenceIdeal.main_arg8) = m ((c.tc : Thread Cert.StepMlpFirstReferenceIdeal.nD Cert.StepMlpFirstReferenceIdeal.τ).loc Cert.StepMlpFirstReferenceIdeal.main_arg8)
      ∧ r.2.mem ((c.tc : Thread Cert.StepMlpFirstReferenceIdeal.nD Cert.StepMlpFirstReferenceIdeal.τ).loc Cert.StepMlpFirstReferenceIdeal.main_arg9) = m ((c.tc : Thread Cert.StepMlpFirstReferenceIdeal.nD Cert.StepMlpFirstReferenceIdeal.τ).loc Cert.StepMlpFirstReferenceIdeal.main_arg9))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_MlpDu_MlpDuIdeal : Prop :=
  True

def algebraic_MlpDuIdeal_MlpDuReferenceIdeal [hMlpDuIdeal : Cert.MlpDuIdeal.Facts] [hMlpDuReferenceIdeal : Cert.MlpDuReferenceIdeal.Facts] : Prop :=
  ∀ (m : (ℓ : Loc Cert.MlpDuIdeal.nD Cert.MlpDuIdeal.τ Cert.MlpDuIdeal.sig) → Buf (Elt Ideal) ℓ) (g : Dev Cert.MlpDuIdeal.nD → PrngReg)
    (m' : (ℓ : Loc Cert.MlpDuReferenceIdeal.nD Cert.MlpDuReferenceIdeal.τ Cert.MlpDuReferenceIdeal.sig) → Buf (Elt Ideal) ℓ) (g' : Dev Cert.MlpDuReferenceIdeal.nD → PrngReg), Pre_MlpDuIdeal m →
    (∀ c : Dev Cert.MlpDuIdeal.nD,
      m' ((c.tc : Thread Cert.MlpDuReferenceIdeal.nD Cert.MlpDuReferenceIdeal.τ).loc Cert.MlpDuReferenceIdeal.main_arg0) = m ((c.tc : Thread Cert.MlpDuIdeal.nD Cert.MlpDuIdeal.τ).loc Cert.MlpDuIdeal.main_arg0)
      ∧ m' ((c.tc : Thread Cert.MlpDuReferenceIdeal.nD Cert.MlpDuReferenceIdeal.τ).loc Cert.MlpDuReferenceIdeal.main_arg1) = m ((c.tc : Thread Cert.MlpDuIdeal.nD Cert.MlpDuIdeal.τ).loc Cert.MlpDuIdeal.main_arg1)
      ∧ m' ((c.tc : Thread Cert.MlpDuReferenceIdeal.nD Cert.MlpDuReferenceIdeal.τ).loc Cert.MlpDuReferenceIdeal.main_arg2) = m ((c.tc : Thread Cert.MlpDuIdeal.nD Cert.MlpDuIdeal.τ).loc Cert.MlpDuIdeal.main_arg2)) →
    ∃ (v0 : (c : Dev Cert.MlpDuIdeal.nD) → Buf (Elt Ideal) ((c.tc : Thread Cert.MlpDuIdeal.nD Cert.MlpDuIdeal.τ).loc Cert.MlpDuIdeal.main_v1)),
      θ_run (Cert.MlpDuIdeal.defs (F := Ideal)) (onTc (τ := Cert.MlpDuIdeal.τ) (Cert.MlpDuIdeal.main (F := Ideal))) ⟨m, fun _ => 0, g⟩ (fun r => ∀ c : Dev Cert.MlpDuIdeal.nD,
          r.2.mem ((c.tc : Thread Cert.MlpDuIdeal.nD Cert.MlpDuIdeal.τ).loc Cert.MlpDuIdeal.main_v1) = v0 c
          ∧ r.2.mem ((c.tc : Thread Cert.MlpDuIdeal.nD Cert.MlpDuIdeal.τ).loc Cert.MlpDuIdeal.main_arg0) = m ((c.tc : Thread Cert.MlpDuIdeal.nD Cert.MlpDuIdeal.τ).loc Cert.MlpDuIdeal.main_arg0)
          ∧ r.2.mem ((c.tc : Thread Cert.MlpDuIdeal.nD Cert.MlpDuIdeal.τ).loc Cert.MlpDuIdeal.main_arg1) = m ((c.tc : Thread Cert.MlpDuIdeal.nD Cert.MlpDuIdeal.τ).loc Cert.MlpDuIdeal.main_arg1)
          ∧ r.2.mem ((c.tc : Thread Cert.MlpDuIdeal.nD Cert.MlpDuIdeal.τ).loc Cert.MlpDuIdeal.main_arg2) = m ((c.tc : Thread Cert.MlpDuIdeal.nD Cert.MlpDuIdeal.τ).loc Cert.MlpDuIdeal.main_arg2))
      ∧ θ_run (Cert.MlpDuReferenceIdeal.defs (F := Ideal)) (onTc (τ := Cert.MlpDuReferenceIdeal.τ) (Cert.MlpDuReferenceIdeal.main (F := Ideal))) ⟨m', fun _ => 0, g'⟩ (fun r => ∀ c : Dev Cert.MlpDuReferenceIdeal.nD,
          r.2.mem ((c.tc : Thread Cert.MlpDuReferenceIdeal.nD Cert.MlpDuReferenceIdeal.τ).loc Cert.MlpDuReferenceIdeal.main_v14) = v0 c
          ∧ r.2.mem ((c.tc : Thread Cert.MlpDuReferenceIdeal.nD Cert.MlpDuReferenceIdeal.τ).loc Cert.MlpDuReferenceIdeal.main_arg0) = m' ((c.tc : Thread Cert.MlpDuReferenceIdeal.nD Cert.MlpDuReferenceIdeal.τ).loc Cert.MlpDuReferenceIdeal.main_arg0)
          ∧ r.2.mem ((c.tc : Thread Cert.MlpDuReferenceIdeal.nD Cert.MlpDuReferenceIdeal.τ).loc Cert.MlpDuReferenceIdeal.main_arg1) = m' ((c.tc : Thread Cert.MlpDuReferenceIdeal.nD Cert.MlpDuReferenceIdeal.τ).loc Cert.MlpDuReferenceIdeal.main_arg1)
          ∧ r.2.mem ((c.tc : Thread Cert.MlpDuReferenceIdeal.nD Cert.MlpDuReferenceIdeal.τ).loc Cert.MlpDuReferenceIdeal.main_arg2) = m' ((c.tc : Thread Cert.MlpDuReferenceIdeal.nD Cert.MlpDuReferenceIdeal.τ).loc Cert.MlpDuReferenceIdeal.main_arg2))

def preserves_MlpDh_MlpDhIdeal : Prop :=
  True

def algebraic_MlpDhIdeal_MlpDhReferenceIdeal [hMlpDhIdeal : Cert.MlpDhIdeal.Facts] [hMlpDhReferenceIdeal : Cert.MlpDhReferenceIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg)
    (m' : (ℓ : Loc Cert.MlpDhReferenceIdeal.nD Cert.MlpDhReferenceIdeal.τ Cert.MlpDhReferenceIdeal.sig) → Buf (Elt Ideal) ℓ) (g' : Dev Cert.MlpDhReferenceIdeal.nD → PrngReg), Pre_MlpDhIdeal m →
    (∀ c : Dev Cert.MlpDhIdeal.nD,
      m' ((c.tc : Thread Cert.MlpDhReferenceIdeal.nD Cert.MlpDhReferenceIdeal.τ).loc Cert.MlpDhReferenceIdeal.main_arg0) = m ((c.tc : Thread Cert.MlpDhIdeal.nD Cert.MlpDhIdeal.τ).loc Cert.MlpDhIdeal.main_arg0)
      ∧ m' ((c.tc : Thread Cert.MlpDhReferenceIdeal.nD Cert.MlpDhReferenceIdeal.τ).loc Cert.MlpDhReferenceIdeal.main_arg1) = m ((c.tc : Thread Cert.MlpDhIdeal.nD Cert.MlpDhIdeal.τ).loc Cert.MlpDhIdeal.main_arg1)
      ∧ m' ((c.tc : Thread Cert.MlpDhReferenceIdeal.nD Cert.MlpDhReferenceIdeal.τ).loc Cert.MlpDhReferenceIdeal.main_arg2) = m ((c.tc : Thread Cert.MlpDhIdeal.nD Cert.MlpDhIdeal.τ).loc Cert.MlpDhIdeal.main_arg2)) →
    ∃ (v0 : (c : Dev Cert.MlpDhIdeal.nD) → Buf (Elt Ideal) ((c.tc : Thread Cert.MlpDhIdeal.nD Cert.MlpDhIdeal.τ).loc Cert.MlpDhIdeal.main_v2)),
      θ_run (Cert.MlpDhIdeal.defs (F := Ideal)) (onTc (τ := Cert.MlpDhIdeal.τ) (Cert.MlpDhIdeal.main (F := Ideal))) ⟨m, fun _ => 0, g⟩ (fun r => ∀ c : Dev Cert.MlpDhIdeal.nD,
          r.2.mem ((c.tc : Thread Cert.MlpDhIdeal.nD Cert.MlpDhIdeal.τ).loc Cert.MlpDhIdeal.main_v2) = v0 c
          ∧ r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
          ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1)
          ∧ r.2.mem ((c.tc : Thread Cert.MlpDhIdeal.nD Cert.MlpDhIdeal.τ).loc Cert.MlpDhIdeal.main_arg2) = m ((c.tc : Thread Cert.MlpDhIdeal.nD Cert.MlpDhIdeal.τ).loc Cert.MlpDhIdeal.main_arg2))
      ∧ θ_run (Cert.MlpDhReferenceIdeal.defs (F := Ideal)) (onTc (τ := Cert.MlpDhReferenceIdeal.τ) (Cert.MlpDhReferenceIdeal.main (F := Ideal))) ⟨m', fun _ => 0, g'⟩ (fun r => ∀ c : Dev Cert.MlpDhReferenceIdeal.nD,
          r.2.mem ((c.tc : Thread Cert.MlpDhReferenceIdeal.nD Cert.MlpDhReferenceIdeal.τ).loc Cert.MlpDhReferenceIdeal.main_v4) = v0 c
          ∧ r.2.mem ((c.tc : Thread Cert.MlpDhReferenceIdeal.nD Cert.MlpDhReferenceIdeal.τ).loc Cert.MlpDhReferenceIdeal.main_arg0) = m' ((c.tc : Thread Cert.MlpDhReferenceIdeal.nD Cert.MlpDhReferenceIdeal.τ).loc Cert.MlpDhReferenceIdeal.main_arg0)
          ∧ r.2.mem ((c.tc : Thread Cert.MlpDhReferenceIdeal.nD Cert.MlpDhReferenceIdeal.τ).loc Cert.MlpDhReferenceIdeal.main_arg1) = m' ((c.tc : Thread Cert.MlpDhReferenceIdeal.nD Cert.MlpDhReferenceIdeal.τ).loc Cert.MlpDhReferenceIdeal.main_arg1)
          ∧ r.2.mem ((c.tc : Thread Cert.MlpDhReferenceIdeal.nD Cert.MlpDhReferenceIdeal.τ).loc Cert.MlpDhReferenceIdeal.main_arg2) = m' ((c.tc : Thread Cert.MlpDhReferenceIdeal.nD Cert.MlpDhReferenceIdeal.τ).loc Cert.MlpDhReferenceIdeal.main_arg2))

def preserves_MlpDwOne_MlpDwOneIdeal : Prop :=
  True

def algebraic_MlpDwOneIdeal_MlpDwOneReferenceIdeal [hMlpDwOneIdeal : Cert.MlpDwOneIdeal.Facts] [hMlpDwOneReferenceIdeal : Cert.MlpDwOneReferenceIdeal.Facts] : Prop :=
  ∀ (m : (ℓ : Loc Cert.MlpDwOneIdeal.nD Cert.MlpDwOneIdeal.τ Cert.MlpDwOneIdeal.sig) → Buf (Elt Ideal) ℓ) (g : Dev Cert.MlpDwOneIdeal.nD → PrngReg)
    (m' : (ℓ : Loc Cert.MlpDwOneReferenceIdeal.nD Cert.MlpDwOneReferenceIdeal.τ Cert.MlpDwOneReferenceIdeal.sig) → Buf (Elt Ideal) ℓ) (g' : Dev Cert.MlpDwOneReferenceIdeal.nD → PrngReg), Pre_MlpDwOneIdeal m →
    (∀ c : Dev Cert.MlpDwOneIdeal.nD,
      m' ((c.tc : Thread Cert.MlpDwOneReferenceIdeal.nD Cert.MlpDwOneReferenceIdeal.τ).loc Cert.MlpDwOneReferenceIdeal.main_arg0) = m ((c.tc : Thread Cert.MlpDwOneIdeal.nD Cert.MlpDwOneIdeal.τ).loc Cert.MlpDwOneIdeal.main_arg0)
      ∧ m' ((c.tc : Thread Cert.MlpDwOneReferenceIdeal.nD Cert.MlpDwOneReferenceIdeal.τ).loc Cert.MlpDwOneReferenceIdeal.main_arg1) = m ((c.tc : Thread Cert.MlpDwOneIdeal.nD Cert.MlpDwOneIdeal.τ).loc Cert.MlpDwOneIdeal.main_arg1)
      ∧ m' ((c.tc : Thread Cert.MlpDwOneReferenceIdeal.nD Cert.MlpDwOneReferenceIdeal.τ).loc Cert.MlpDwOneReferenceIdeal.main_arg2) = m ((c.tc : Thread Cert.MlpDwOneIdeal.nD Cert.MlpDwOneIdeal.τ).loc Cert.MlpDwOneIdeal.main_arg2)) →
    ∃ (v0 : (c : Dev Cert.MlpDwOneIdeal.nD) → Buf (Elt Ideal) ((c.tc : Thread Cert.MlpDwOneIdeal.nD Cert.MlpDwOneIdeal.τ).loc Cert.MlpDwOneIdeal.main_v0)),
      θ_run (Cert.MlpDwOneIdeal.defs (F := Ideal)) (onTc (τ := Cert.MlpDwOneIdeal.τ) (Cert.MlpDwOneIdeal.main (F := Ideal))) ⟨m, fun _ => 0, g⟩ (fun r => ∀ c : Dev Cert.MlpDwOneIdeal.nD,
          r.2.mem ((c.tc : Thread Cert.MlpDwOneIdeal.nD Cert.MlpDwOneIdeal.τ).loc Cert.MlpDwOneIdeal.main_v0) = v0 c
          ∧ r.2.mem ((c.tc : Thread Cert.MlpDwOneIdeal.nD Cert.MlpDwOneIdeal.τ).loc Cert.MlpDwOneIdeal.main_arg0) = m ((c.tc : Thread Cert.MlpDwOneIdeal.nD Cert.MlpDwOneIdeal.τ).loc Cert.MlpDwOneIdeal.main_arg0)
          ∧ r.2.mem ((c.tc : Thread Cert.MlpDwOneIdeal.nD Cert.MlpDwOneIdeal.τ).loc Cert.MlpDwOneIdeal.main_arg1) = m ((c.tc : Thread Cert.MlpDwOneIdeal.nD Cert.MlpDwOneIdeal.τ).loc Cert.MlpDwOneIdeal.main_arg1)
          ∧ r.2.mem ((c.tc : Thread Cert.MlpDwOneIdeal.nD Cert.MlpDwOneIdeal.τ).loc Cert.MlpDwOneIdeal.main_arg2) = m ((c.tc : Thread Cert.MlpDwOneIdeal.nD Cert.MlpDwOneIdeal.τ).loc Cert.MlpDwOneIdeal.main_arg2))
      ∧ θ_run (Cert.MlpDwOneReferenceIdeal.defs (F := Ideal)) (onTc (τ := Cert.MlpDwOneReferenceIdeal.τ) (Cert.MlpDwOneReferenceIdeal.main (F := Ideal))) ⟨m', fun _ => 0, g'⟩ (fun r => ∀ c : Dev Cert.MlpDwOneReferenceIdeal.nD,
          r.2.mem ((c.tc : Thread Cert.MlpDwOneReferenceIdeal.nD Cert.MlpDwOneReferenceIdeal.τ).loc Cert.MlpDwOneReferenceIdeal.main_v8) = v0 c
          ∧ r.2.mem ((c.tc : Thread Cert.MlpDwOneReferenceIdeal.nD Cert.MlpDwOneReferenceIdeal.τ).loc Cert.MlpDwOneReferenceIdeal.main_arg0) = m' ((c.tc : Thread Cert.MlpDwOneReferenceIdeal.nD Cert.MlpDwOneReferenceIdeal.τ).loc Cert.MlpDwOneReferenceIdeal.main_arg0)
          ∧ r.2.mem ((c.tc : Thread Cert.MlpDwOneReferenceIdeal.nD Cert.MlpDwOneReferenceIdeal.τ).loc Cert.MlpDwOneReferenceIdeal.main_arg1) = m' ((c.tc : Thread Cert.MlpDwOneReferenceIdeal.nD Cert.MlpDwOneReferenceIdeal.τ).loc Cert.MlpDwOneReferenceIdeal.main_arg1)
          ∧ r.2.mem ((c.tc : Thread Cert.MlpDwOneReferenceIdeal.nD Cert.MlpDwOneReferenceIdeal.τ).loc Cert.MlpDwOneReferenceIdeal.main_arg2) = m' ((c.tc : Thread Cert.MlpDwOneReferenceIdeal.nD Cert.MlpDwOneReferenceIdeal.τ).loc Cert.MlpDwOneReferenceIdeal.main_arg2))

def preserves_MlpDwTwo_MlpDwTwoIdeal : Prop :=
  True

def algebraic_MlpDwTwoIdeal_MlpDwTwoReferenceIdeal [hMlpDwTwoIdeal : Cert.MlpDwTwoIdeal.Facts] [hMlpDwTwoReferenceIdeal : Cert.MlpDwTwoReferenceIdeal.Facts] : Prop :=
  ∀ (m : (ℓ : Loc Cert.MlpDwTwoIdeal.nD Cert.MlpDwTwoIdeal.τ Cert.MlpDwTwoIdeal.sig) → Buf (Elt Ideal) ℓ) (g : Dev Cert.MlpDwTwoIdeal.nD → PrngReg)
    (m' : (ℓ : Loc Cert.MlpDwTwoReferenceIdeal.nD Cert.MlpDwTwoReferenceIdeal.τ Cert.MlpDwTwoReferenceIdeal.sig) → Buf (Elt Ideal) ℓ) (g' : Dev Cert.MlpDwTwoReferenceIdeal.nD → PrngReg), Pre_MlpDwTwoIdeal m →
    (∀ c : Dev Cert.MlpDwTwoIdeal.nD,
      m' ((c.tc : Thread Cert.MlpDwTwoReferenceIdeal.nD Cert.MlpDwTwoReferenceIdeal.τ).loc Cert.MlpDwTwoReferenceIdeal.main_arg0) = m ((c.tc : Thread Cert.MlpDwTwoIdeal.nD Cert.MlpDwTwoIdeal.τ).loc Cert.MlpDwTwoIdeal.main_arg0)
      ∧ m' ((c.tc : Thread Cert.MlpDwTwoReferenceIdeal.nD Cert.MlpDwTwoReferenceIdeal.τ).loc Cert.MlpDwTwoReferenceIdeal.main_arg1) = m ((c.tc : Thread Cert.MlpDwTwoIdeal.nD Cert.MlpDwTwoIdeal.τ).loc Cert.MlpDwTwoIdeal.main_arg1)
      ∧ m' ((c.tc : Thread Cert.MlpDwTwoReferenceIdeal.nD Cert.MlpDwTwoReferenceIdeal.τ).loc Cert.MlpDwTwoReferenceIdeal.main_arg2) = m ((c.tc : Thread Cert.MlpDwTwoIdeal.nD Cert.MlpDwTwoIdeal.τ).loc Cert.MlpDwTwoIdeal.main_arg2)) →
    ∃ (v0 : (c : Dev Cert.MlpDwTwoIdeal.nD) → Buf (Elt Ideal) ((c.tc : Thread Cert.MlpDwTwoIdeal.nD Cert.MlpDwTwoIdeal.τ).loc Cert.MlpDwTwoIdeal.main_v0)),
      θ_run (Cert.MlpDwTwoIdeal.defs (F := Ideal)) (onTc (τ := Cert.MlpDwTwoIdeal.τ) (Cert.MlpDwTwoIdeal.main (F := Ideal))) ⟨m, fun _ => 0, g⟩ (fun r => ∀ c : Dev Cert.MlpDwTwoIdeal.nD,
          r.2.mem ((c.tc : Thread Cert.MlpDwTwoIdeal.nD Cert.MlpDwTwoIdeal.τ).loc Cert.MlpDwTwoIdeal.main_v0) = v0 c
          ∧ r.2.mem ((c.tc : Thread Cert.MlpDwTwoIdeal.nD Cert.MlpDwTwoIdeal.τ).loc Cert.MlpDwTwoIdeal.main_arg0) = m ((c.tc : Thread Cert.MlpDwTwoIdeal.nD Cert.MlpDwTwoIdeal.τ).loc Cert.MlpDwTwoIdeal.main_arg0)
          ∧ r.2.mem ((c.tc : Thread Cert.MlpDwTwoIdeal.nD Cert.MlpDwTwoIdeal.τ).loc Cert.MlpDwTwoIdeal.main_arg1) = m ((c.tc : Thread Cert.MlpDwTwoIdeal.nD Cert.MlpDwTwoIdeal.τ).loc Cert.MlpDwTwoIdeal.main_arg1)
          ∧ r.2.mem ((c.tc : Thread Cert.MlpDwTwoIdeal.nD Cert.MlpDwTwoIdeal.τ).loc Cert.MlpDwTwoIdeal.main_arg2) = m ((c.tc : Thread Cert.MlpDwTwoIdeal.nD Cert.MlpDwTwoIdeal.τ).loc Cert.MlpDwTwoIdeal.main_arg2))
      ∧ θ_run (Cert.MlpDwTwoReferenceIdeal.defs (F := Ideal)) (onTc (τ := Cert.MlpDwTwoReferenceIdeal.τ) (Cert.MlpDwTwoReferenceIdeal.main (F := Ideal))) ⟨m', fun _ => 0, g'⟩ (fun r => ∀ c : Dev Cert.MlpDwTwoReferenceIdeal.nD,
          r.2.mem ((c.tc : Thread Cert.MlpDwTwoReferenceIdeal.nD Cert.MlpDwTwoReferenceIdeal.τ).loc Cert.MlpDwTwoReferenceIdeal.main_v6) = v0 c
          ∧ r.2.mem ((c.tc : Thread Cert.MlpDwTwoReferenceIdeal.nD Cert.MlpDwTwoReferenceIdeal.τ).loc Cert.MlpDwTwoReferenceIdeal.main_arg0) = m' ((c.tc : Thread Cert.MlpDwTwoReferenceIdeal.nD Cert.MlpDwTwoReferenceIdeal.τ).loc Cert.MlpDwTwoReferenceIdeal.main_arg0)
          ∧ r.2.mem ((c.tc : Thread Cert.MlpDwTwoReferenceIdeal.nD Cert.MlpDwTwoReferenceIdeal.τ).loc Cert.MlpDwTwoReferenceIdeal.main_arg1) = m' ((c.tc : Thread Cert.MlpDwTwoReferenceIdeal.nD Cert.MlpDwTwoReferenceIdeal.τ).loc Cert.MlpDwTwoReferenceIdeal.main_arg1)
          ∧ r.2.mem ((c.tc : Thread Cert.MlpDwTwoReferenceIdeal.nD Cert.MlpDwTwoReferenceIdeal.τ).loc Cert.MlpDwTwoReferenceIdeal.main_arg2) = m' ((c.tc : Thread Cert.MlpDwTwoReferenceIdeal.nD Cert.MlpDwTwoReferenceIdeal.τ).loc Cert.MlpDwTwoReferenceIdeal.main_arg2))

def preserves_MlpUp_MlpUpIdeal : Prop :=
  True

def algebraic_MlpUpIdeal_MlpUpReferenceIdeal [hMlpUpIdeal : Cert.MlpUpIdeal.Facts] [hMlpUpReferenceIdeal : Cert.MlpUpReferenceIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpReferenceIdeal.nD Cert.MlpUpReferenceIdeal.τ Cert.MlpUpReferenceIdeal.sig) → Buf (Elt Ideal) ℓ) (g' : Dev Cert.MlpUpReferenceIdeal.nD → PrngReg), Pre_MlpUpIdeal m →
    (∀ c : Dev Cert.MlpUpIdeal.nD,
      m' ((c.tc : Thread Cert.MlpUpReferenceIdeal.nD Cert.MlpUpReferenceIdeal.τ).loc Cert.MlpUpReferenceIdeal.main_arg0) = m ((c.tc : Thread Cert.MlpUpIdeal.nD Cert.MlpUpIdeal.τ).loc Cert.MlpUpIdeal.main_arg0)
      ∧ m' ((c.tc : Thread Cert.MlpUpReferenceIdeal.nD Cert.MlpUpReferenceIdeal.τ).loc Cert.MlpUpReferenceIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2_0)) (v1 : (c : Dev Cert.MlpUpIdeal.nD) → Buf (Elt Ideal) ((c.tc : Thread Cert.MlpUpIdeal.nD Cert.MlpUpIdeal.τ).loc Cert.MlpUpIdeal.main_v2_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2_0) = v0 c
          ∧ r.2.mem ((c.tc : Thread Cert.MlpUpIdeal.nD Cert.MlpUpIdeal.τ).loc Cert.MlpUpIdeal.main_v2_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpReferenceIdeal.defs (F := Ideal)) (onTc (τ := Cert.MlpUpReferenceIdeal.τ) (Cert.MlpUpReferenceIdeal.main (F := Ideal))) ⟨m', fun _ => 0, g'⟩ (fun r => ∀ c : Dev Cert.MlpUpReferenceIdeal.nD,
          r.2.mem ((c.tc : Thread Cert.MlpUpReferenceIdeal.nD Cert.MlpUpReferenceIdeal.τ).loc Cert.MlpUpReferenceIdeal.main_v5) = v0 c
          ∧ r.2.mem ((c.tc : Thread Cert.MlpUpReferenceIdeal.nD Cert.MlpUpReferenceIdeal.τ).loc Cert.MlpUpReferenceIdeal.main_v6) = v1 c
          ∧ r.2.mem ((c.tc : Thread Cert.MlpUpReferenceIdeal.nD Cert.MlpUpReferenceIdeal.τ).loc Cert.MlpUpReferenceIdeal.main_arg0) = m' ((c.tc : Thread Cert.MlpUpReferenceIdeal.nD Cert.MlpUpReferenceIdeal.τ).loc Cert.MlpUpReferenceIdeal.main_arg0)
          ∧ r.2.mem ((c.tc : Thread Cert.MlpUpReferenceIdeal.nD Cert.MlpUpReferenceIdeal.τ).loc Cert.MlpUpReferenceIdeal.main_arg1) = m' ((c.tc : Thread Cert.MlpUpReferenceIdeal.nD Cert.MlpUpReferenceIdeal.τ).loc Cert.MlpUpReferenceIdeal.main_arg1))

def preserves_MlpDown_MlpDownIdeal : Prop :=
  True

def algebraic_MlpDownIdeal_MlpDownReferenceIdeal [hMlpDownIdeal : Cert.MlpDownIdeal.Facts] [hMlpDownReferenceIdeal : Cert.MlpDownReferenceIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownIdeal m →
    (∀ c : Dev Cert.MlpDownIdeal.nD,
      m' ((c.tc : Thread Cert.MlpDownReferenceIdeal.nD Cert.MlpDownReferenceIdeal.τ).loc Cert.MlpDownReferenceIdeal.main_arg0) = m ((c.tc : Thread Cert.MlpDownIdeal.nD Cert.MlpDownIdeal.τ).loc Cert.MlpDownIdeal.main_arg0)
      ∧ m' ((c.tc : Thread Cert.MlpDownReferenceIdeal.nD Cert.MlpDownReferenceIdeal.τ).loc Cert.MlpDownReferenceIdeal.main_arg1) = m ((c.tc : Thread Cert.MlpDownIdeal.nD Cert.MlpDownIdeal.τ).loc Cert.MlpDownIdeal.main_arg1)
      ∧ m' ((c.tc : Thread Cert.MlpDownReferenceIdeal.nD Cert.MlpDownReferenceIdeal.τ).loc Cert.MlpDownReferenceIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v3) = v0 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1)
          ∧ r.2.mem ((c.tc : Thread Cert.MlpDownReferenceIdeal.nD Cert.MlpDownReferenceIdeal.τ).loc Cert.MlpDownReferenceIdeal.main_arg2) = m' ((c.tc : Thread Cert.MlpDownReferenceIdeal.nD Cert.MlpDownReferenceIdeal.τ).loc Cert.MlpDownReferenceIdeal.main_arg2))

def preserves_MixDo_MixDoIdeal : Prop :=
  True

def algebraic_MixDoIdeal_MixDoReferenceIdeal [hMixDoIdeal : Cert.MixDoIdeal.Facts] [hMixDoReferenceIdeal : Cert.MixDoReferenceIdeal.Facts] : Prop :=
  ∀ (m : (ℓ : Loc Cert.MixDoIdeal.nD Cert.MixDoIdeal.τ Cert.MixDoIdeal.sig) → Buf (Elt Ideal) ℓ) (g : Dev Cert.MixDoIdeal.nD → PrngReg)
    (m' : (ℓ : Loc Cert.MixDoReferenceIdeal.nD Cert.MixDoReferenceIdeal.τ Cert.MixDoReferenceIdeal.sig) → Buf (Elt Ideal) ℓ) (g' : Dev Cert.MixDoReferenceIdeal.nD → PrngReg), Pre_MixDoIdeal m →
    (∀ c : Dev Cert.MixDoIdeal.nD,
      m' ((c.tc : Thread Cert.MixDoReferenceIdeal.nD Cert.MixDoReferenceIdeal.τ).loc Cert.MixDoReferenceIdeal.main_arg0) = m ((c.tc : Thread Cert.MixDoIdeal.nD Cert.MixDoIdeal.τ).loc Cert.MixDoIdeal.main_arg0)
      ∧ m' ((c.tc : Thread Cert.MixDoReferenceIdeal.nD Cert.MixDoReferenceIdeal.τ).loc Cert.MixDoReferenceIdeal.main_arg1) = m ((c.tc : Thread Cert.MixDoIdeal.nD Cert.MixDoIdeal.τ).loc Cert.MixDoIdeal.main_arg1)
      ∧ m' ((c.tc : Thread Cert.MixDoReferenceIdeal.nD Cert.MixDoReferenceIdeal.τ).loc Cert.MixDoReferenceIdeal.main_arg2) = m ((c.tc : Thread Cert.MixDoIdeal.nD Cert.MixDoIdeal.τ).loc Cert.MixDoIdeal.main_arg2)) →
    ∃ (v0 : (c : Dev Cert.MixDoIdeal.nD) → Buf (Elt Ideal) ((c.tc : Thread Cert.MixDoIdeal.nD Cert.MixDoIdeal.τ).loc Cert.MixDoIdeal.main_v0)),
      θ_run (Cert.MixDoIdeal.defs (F := Ideal)) (onTc (τ := Cert.MixDoIdeal.τ) (Cert.MixDoIdeal.main (F := Ideal))) ⟨m, fun _ => 0, g⟩ (fun r => ∀ c : Dev Cert.MixDoIdeal.nD,
          r.2.mem ((c.tc : Thread Cert.MixDoIdeal.nD Cert.MixDoIdeal.τ).loc Cert.MixDoIdeal.main_v0) = v0 c
          ∧ r.2.mem ((c.tc : Thread Cert.MixDoIdeal.nD Cert.MixDoIdeal.τ).loc Cert.MixDoIdeal.main_arg0) = m ((c.tc : Thread Cert.MixDoIdeal.nD Cert.MixDoIdeal.τ).loc Cert.MixDoIdeal.main_arg0)
          ∧ r.2.mem ((c.tc : Thread Cert.MixDoIdeal.nD Cert.MixDoIdeal.τ).loc Cert.MixDoIdeal.main_arg1) = m ((c.tc : Thread Cert.MixDoIdeal.nD Cert.MixDoIdeal.τ).loc Cert.MixDoIdeal.main_arg1)
          ∧ r.2.mem ((c.tc : Thread Cert.MixDoIdeal.nD Cert.MixDoIdeal.τ).loc Cert.MixDoIdeal.main_arg2) = m ((c.tc : Thread Cert.MixDoIdeal.nD Cert.MixDoIdeal.τ).loc Cert.MixDoIdeal.main_arg2))
      ∧ θ_run (Cert.MixDoReferenceIdeal.defs (F := Ideal)) (onTc (τ := Cert.MixDoReferenceIdeal.τ) (Cert.MixDoReferenceIdeal.main (F := Ideal))) ⟨m', fun _ => 0, g'⟩ (fun r => ∀ c : Dev Cert.MixDoReferenceIdeal.nD,
          r.2.mem ((c.tc : Thread Cert.MixDoReferenceIdeal.nD Cert.MixDoReferenceIdeal.τ).loc Cert.MixDoReferenceIdeal.main_v5) = v0 c
          ∧ r.2.mem ((c.tc : Thread Cert.MixDoReferenceIdeal.nD Cert.MixDoReferenceIdeal.τ).loc Cert.MixDoReferenceIdeal.main_arg0) = m' ((c.tc : Thread Cert.MixDoReferenceIdeal.nD Cert.MixDoReferenceIdeal.τ).loc Cert.MixDoReferenceIdeal.main_arg0)
          ∧ r.2.mem ((c.tc : Thread Cert.MixDoReferenceIdeal.nD Cert.MixDoReferenceIdeal.τ).loc Cert.MixDoReferenceIdeal.main_arg1) = m' ((c.tc : Thread Cert.MixDoReferenceIdeal.nD Cert.MixDoReferenceIdeal.τ).loc Cert.MixDoReferenceIdeal.main_arg1)
          ∧ r.2.mem ((c.tc : Thread Cert.MixDoReferenceIdeal.nD Cert.MixDoReferenceIdeal.τ).loc Cert.MixDoReferenceIdeal.main_arg2) = m' ((c.tc : Thread Cert.MixDoReferenceIdeal.nD Cert.MixDoReferenceIdeal.τ).loc Cert.MixDoReferenceIdeal.main_arg2))

def preserves_MixDwOut_MixDwOutIdeal : Prop :=
  True

def algebraic_MixDwOutIdeal_MixDwOutReferenceIdeal [hMixDwOutIdeal : Cert.MixDwOutIdeal.Facts] [hMixDwOutReferenceIdeal : Cert.MixDwOutReferenceIdeal.Facts] : Prop :=
  ∀ (m : (ℓ : Loc Cert.MixDwOutIdeal.nD Cert.MixDwOutIdeal.τ Cert.MixDwOutIdeal.sig) → Buf (Elt Ideal) ℓ) (g : Dev Cert.MixDwOutIdeal.nD → PrngReg)
    (m' : (ℓ : Loc Cert.MixDwOutReferenceIdeal.nD Cert.MixDwOutReferenceIdeal.τ Cert.MixDwOutReferenceIdeal.sig) → Buf (Elt Ideal) ℓ) (g' : Dev Cert.MixDwOutReferenceIdeal.nD → PrngReg), Pre_MixDwOutIdeal m →
    (∀ c : Dev Cert.MixDwOutIdeal.nD,
      m' ((c.tc : Thread Cert.MixDwOutReferenceIdeal.nD Cert.MixDwOutReferenceIdeal.τ).loc Cert.MixDwOutReferenceIdeal.main_arg0) = m ((c.tc : Thread Cert.MixDwOutIdeal.nD Cert.MixDwOutIdeal.τ).loc Cert.MixDwOutIdeal.main_arg0)
      ∧ m' ((c.tc : Thread Cert.MixDwOutReferenceIdeal.nD Cert.MixDwOutReferenceIdeal.τ).loc Cert.MixDwOutReferenceIdeal.main_arg1) = m ((c.tc : Thread Cert.MixDwOutIdeal.nD Cert.MixDwOutIdeal.τ).loc Cert.MixDwOutIdeal.main_arg1)
      ∧ m' ((c.tc : Thread Cert.MixDwOutReferenceIdeal.nD Cert.MixDwOutReferenceIdeal.τ).loc Cert.MixDwOutReferenceIdeal.main_arg2) = m ((c.tc : Thread Cert.MixDwOutIdeal.nD Cert.MixDwOutIdeal.τ).loc Cert.MixDwOutIdeal.main_arg2)) →
    ∃ (v0 : (c : Dev Cert.MixDwOutIdeal.nD) → Buf (Elt Ideal) ((c.tc : Thread Cert.MixDwOutIdeal.nD Cert.MixDwOutIdeal.τ).loc Cert.MixDwOutIdeal.main_v0)),
      θ_run (Cert.MixDwOutIdeal.defs (F := Ideal)) (onTc (τ := Cert.MixDwOutIdeal.τ) (Cert.MixDwOutIdeal.main (F := Ideal))) ⟨m, fun _ => 0, g⟩ (fun r => ∀ c : Dev Cert.MixDwOutIdeal.nD,
          r.2.mem ((c.tc : Thread Cert.MixDwOutIdeal.nD Cert.MixDwOutIdeal.τ).loc Cert.MixDwOutIdeal.main_v0) = v0 c
          ∧ r.2.mem ((c.tc : Thread Cert.MixDwOutIdeal.nD Cert.MixDwOutIdeal.τ).loc Cert.MixDwOutIdeal.main_arg0) = m ((c.tc : Thread Cert.MixDwOutIdeal.nD Cert.MixDwOutIdeal.τ).loc Cert.MixDwOutIdeal.main_arg0)
          ∧ r.2.mem ((c.tc : Thread Cert.MixDwOutIdeal.nD Cert.MixDwOutIdeal.τ).loc Cert.MixDwOutIdeal.main_arg1) = m ((c.tc : Thread Cert.MixDwOutIdeal.nD Cert.MixDwOutIdeal.τ).loc Cert.MixDwOutIdeal.main_arg1)
          ∧ r.2.mem ((c.tc : Thread Cert.MixDwOutIdeal.nD Cert.MixDwOutIdeal.τ).loc Cert.MixDwOutIdeal.main_arg2) = m ((c.tc : Thread Cert.MixDwOutIdeal.nD Cert.MixDwOutIdeal.τ).loc Cert.MixDwOutIdeal.main_arg2))
      ∧ θ_run (Cert.MixDwOutReferenceIdeal.defs (F := Ideal)) (onTc (τ := Cert.MixDwOutReferenceIdeal.τ) (Cert.MixDwOutReferenceIdeal.main (F := Ideal))) ⟨m', fun _ => 0, g'⟩ (fun r => ∀ c : Dev Cert.MixDwOutReferenceIdeal.nD,
          r.2.mem ((c.tc : Thread Cert.MixDwOutReferenceIdeal.nD Cert.MixDwOutReferenceIdeal.τ).loc Cert.MixDwOutReferenceIdeal.main_v6) = v0 c
          ∧ r.2.mem ((c.tc : Thread Cert.MixDwOutReferenceIdeal.nD Cert.MixDwOutReferenceIdeal.τ).loc Cert.MixDwOutReferenceIdeal.main_arg0) = m' ((c.tc : Thread Cert.MixDwOutReferenceIdeal.nD Cert.MixDwOutReferenceIdeal.τ).loc Cert.MixDwOutReferenceIdeal.main_arg0)
          ∧ r.2.mem ((c.tc : Thread Cert.MixDwOutReferenceIdeal.nD Cert.MixDwOutReferenceIdeal.τ).loc Cert.MixDwOutReferenceIdeal.main_arg1) = m' ((c.tc : Thread Cert.MixDwOutReferenceIdeal.nD Cert.MixDwOutReferenceIdeal.τ).loc Cert.MixDwOutReferenceIdeal.main_arg1)
          ∧ r.2.mem ((c.tc : Thread Cert.MixDwOutReferenceIdeal.nD Cert.MixDwOutReferenceIdeal.τ).loc Cert.MixDwOutReferenceIdeal.main_arg2) = m' ((c.tc : Thread Cert.MixDwOutReferenceIdeal.nD Cert.MixDwOutReferenceIdeal.τ).loc Cert.MixDwOutReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v3) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2))

def preserves_SbDh_SbDhIdeal : Prop :=
  True

def algebraic_SbDhIdeal_SbDhReferenceIdeal [hSbDhIdeal : Cert.SbDhIdeal.Facts] [hSbDhReferenceIdeal : Cert.SbDhReferenceIdeal.Facts] : Prop :=
  ∀ (m : (ℓ : Loc Cert.SbDhIdeal.nD Cert.SbDhIdeal.τ Cert.SbDhIdeal.sig) → Buf (Elt Ideal) ℓ) (g : Dev Cert.SbDhIdeal.nD → PrngReg)
    (m' : (ℓ : Loc Cert.SbDhReferenceIdeal.nD Cert.SbDhReferenceIdeal.τ Cert.SbDhReferenceIdeal.sig) → Buf (Elt Ideal) ℓ) (g' : Dev Cert.SbDhReferenceIdeal.nD → PrngReg), Pre_SbDhIdeal m →
    (∀ c : Dev Cert.SbDhIdeal.nD,
      m' ((c.tc : Thread Cert.SbDhReferenceIdeal.nD Cert.SbDhReferenceIdeal.τ).loc Cert.SbDhReferenceIdeal.main_arg0) = m ((c.tc : Thread Cert.SbDhIdeal.nD Cert.SbDhIdeal.τ).loc Cert.SbDhIdeal.main_arg0)
      ∧ m' ((c.tc : Thread Cert.SbDhReferenceIdeal.nD Cert.SbDhReferenceIdeal.τ).loc Cert.SbDhReferenceIdeal.main_arg1) = m ((c.tc : Thread Cert.SbDhIdeal.nD Cert.SbDhIdeal.τ).loc Cert.SbDhIdeal.main_arg1)
      ∧ m' ((c.tc : Thread Cert.SbDhReferenceIdeal.nD Cert.SbDhReferenceIdeal.τ).loc Cert.SbDhReferenceIdeal.main_arg2) = m ((c.tc : Thread Cert.SbDhIdeal.nD Cert.SbDhIdeal.τ).loc Cert.SbDhIdeal.main_arg2)) →
    ∃ (v0 : (c : Dev Cert.SbDhIdeal.nD) → Buf (Elt Ideal) ((c.tc : Thread Cert.SbDhIdeal.nD Cert.SbDhIdeal.τ).loc Cert.SbDhIdeal.main_v2)),
      θ_run (Cert.SbDhIdeal.defs (F := Ideal)) (onTc (τ := Cert.SbDhIdeal.τ) (Cert.SbDhIdeal.main (F := Ideal))) ⟨m, fun _ => 0, g⟩ (fun r => ∀ c : Dev Cert.SbDhIdeal.nD,
          r.2.mem ((c.tc : Thread Cert.SbDhIdeal.nD Cert.SbDhIdeal.τ).loc Cert.SbDhIdeal.main_v2) = v0 c
          ∧ r.2.mem ((c.tc : Thread Cert.SbDhIdeal.nD Cert.SbDhIdeal.τ).loc Cert.SbDhIdeal.main_arg0) = m ((c.tc : Thread Cert.SbDhIdeal.nD Cert.SbDhIdeal.τ).loc Cert.SbDhIdeal.main_arg0)
          ∧ r.2.mem ((c.tc : Thread Cert.SbDhIdeal.nD Cert.SbDhIdeal.τ).loc Cert.SbDhIdeal.main_arg1) = m ((c.tc : Thread Cert.SbDhIdeal.nD Cert.SbDhIdeal.τ).loc Cert.SbDhIdeal.main_arg1)
          ∧ r.2.mem ((c.tc : Thread Cert.SbDhIdeal.nD Cert.SbDhIdeal.τ).loc Cert.SbDhIdeal.main_arg2) = m ((c.tc : Thread Cert.SbDhIdeal.nD Cert.SbDhIdeal.τ).loc Cert.SbDhIdeal.main_arg2))
      ∧ θ_run (Cert.SbDhReferenceIdeal.defs (F := Ideal)) (onTc (τ := Cert.SbDhReferenceIdeal.τ) (Cert.SbDhReferenceIdeal.main (F := Ideal))) ⟨m', fun _ => 0, g'⟩ (fun r => ∀ c : Dev Cert.SbDhReferenceIdeal.nD,
          r.2.mem ((c.tc : Thread Cert.SbDhReferenceIdeal.nD Cert.SbDhReferenceIdeal.τ).loc Cert.SbDhReferenceIdeal.main_v4) = v0 c
          ∧ r.2.mem ((c.tc : Thread Cert.SbDhReferenceIdeal.nD Cert.SbDhReferenceIdeal.τ).loc Cert.SbDhReferenceIdeal.main_arg0) = m' ((c.tc : Thread Cert.SbDhReferenceIdeal.nD Cert.SbDhReferenceIdeal.τ).loc Cert.SbDhReferenceIdeal.main_arg0)
          ∧ r.2.mem ((c.tc : Thread Cert.SbDhReferenceIdeal.nD Cert.SbDhReferenceIdeal.τ).loc Cert.SbDhReferenceIdeal.main_arg1) = m' ((c.tc : Thread Cert.SbDhReferenceIdeal.nD Cert.SbDhReferenceIdeal.τ).loc Cert.SbDhReferenceIdeal.main_arg1)
          ∧ r.2.mem ((c.tc : Thread Cert.SbDhReferenceIdeal.nD Cert.SbDhReferenceIdeal.τ).loc Cert.SbDhReferenceIdeal.main_arg2) = m' ((c.tc : Thread Cert.SbDhReferenceIdeal.nD Cert.SbDhReferenceIdeal.τ).loc Cert.SbDhReferenceIdeal.main_arg2))

def preserves_SbDwIn_SbDwInIdeal : Prop :=
  True

def algebraic_SbDwInIdeal_SbDwInReferenceIdeal [hSbDwInIdeal : Cert.SbDwInIdeal.Facts] [hSbDwInReferenceIdeal : Cert.SbDwInReferenceIdeal.Facts] : Prop :=
  ∀ (m : (ℓ : Loc Cert.SbDwInIdeal.nD Cert.SbDwInIdeal.τ Cert.SbDwInIdeal.sig) → Buf (Elt Ideal) ℓ) (g : Dev Cert.SbDwInIdeal.nD → PrngReg)
    (m' : (ℓ : Loc Cert.SbDwInReferenceIdeal.nD Cert.SbDwInReferenceIdeal.τ Cert.SbDwInReferenceIdeal.sig) → Buf (Elt Ideal) ℓ) (g' : Dev Cert.SbDwInReferenceIdeal.nD → PrngReg), Pre_SbDwInIdeal m →
    (∀ c : Dev Cert.SbDwInIdeal.nD,
      m' ((c.tc : Thread Cert.SbDwInReferenceIdeal.nD Cert.SbDwInReferenceIdeal.τ).loc Cert.SbDwInReferenceIdeal.main_arg0) = m ((c.tc : Thread Cert.SbDwInIdeal.nD Cert.SbDwInIdeal.τ).loc Cert.SbDwInIdeal.main_arg0)
      ∧ m' ((c.tc : Thread Cert.SbDwInReferenceIdeal.nD Cert.SbDwInReferenceIdeal.τ).loc Cert.SbDwInReferenceIdeal.main_arg1) = m ((c.tc : Thread Cert.SbDwInIdeal.nD Cert.SbDwInIdeal.τ).loc Cert.SbDwInIdeal.main_arg1)
      ∧ m' ((c.tc : Thread Cert.SbDwInReferenceIdeal.nD Cert.SbDwInReferenceIdeal.τ).loc Cert.SbDwInReferenceIdeal.main_arg2) = m ((c.tc : Thread Cert.SbDwInIdeal.nD Cert.SbDwInIdeal.τ).loc Cert.SbDwInIdeal.main_arg2)) →
    ∃ (v0 : (c : Dev Cert.SbDwInIdeal.nD) → Buf (Elt Ideal) ((c.tc : Thread Cert.SbDwInIdeal.nD Cert.SbDwInIdeal.τ).loc Cert.SbDwInIdeal.main_v0)),
      θ_run (Cert.SbDwInIdeal.defs (F := Ideal)) (onTc (τ := Cert.SbDwInIdeal.τ) (Cert.SbDwInIdeal.main (F := Ideal))) ⟨m, fun _ => 0, g⟩ (fun r => ∀ c : Dev Cert.SbDwInIdeal.nD,
          r.2.mem ((c.tc : Thread Cert.SbDwInIdeal.nD Cert.SbDwInIdeal.τ).loc Cert.SbDwInIdeal.main_v0) = v0 c
          ∧ r.2.mem ((c.tc : Thread Cert.SbDwInIdeal.nD Cert.SbDwInIdeal.τ).loc Cert.SbDwInIdeal.main_arg0) = m ((c.tc : Thread Cert.SbDwInIdeal.nD Cert.SbDwInIdeal.τ).loc Cert.SbDwInIdeal.main_arg0)
          ∧ r.2.mem ((c.tc : Thread Cert.SbDwInIdeal.nD Cert.SbDwInIdeal.τ).loc Cert.SbDwInIdeal.main_arg1) = m ((c.tc : Thread Cert.SbDwInIdeal.nD Cert.SbDwInIdeal.τ).loc Cert.SbDwInIdeal.main_arg1)
          ∧ r.2.mem ((c.tc : Thread Cert.SbDwInIdeal.nD Cert.SbDwInIdeal.τ).loc Cert.SbDwInIdeal.main_arg2) = m ((c.tc : Thread Cert.SbDwInIdeal.nD Cert.SbDwInIdeal.τ).loc Cert.SbDwInIdeal.main_arg2))
      ∧ θ_run (Cert.SbDwInReferenceIdeal.defs (F := Ideal)) (onTc (τ := Cert.SbDwInReferenceIdeal.τ) (Cert.SbDwInReferenceIdeal.main (F := Ideal))) ⟨m', fun _ => 0, g'⟩ (fun r => ∀ c : Dev Cert.SbDwInReferenceIdeal.nD,
          r.2.mem ((c.tc : Thread Cert.SbDwInReferenceIdeal.nD Cert.SbDwInReferenceIdeal.τ).loc Cert.SbDwInReferenceIdeal.main_v8) = v0 c
          ∧ r.2.mem ((c.tc : Thread Cert.SbDwInReferenceIdeal.nD Cert.SbDwInReferenceIdeal.τ).loc Cert.SbDwInReferenceIdeal.main_arg0) = m' ((c.tc : Thread Cert.SbDwInReferenceIdeal.nD Cert.SbDwInReferenceIdeal.τ).loc Cert.SbDwInReferenceIdeal.main_arg0)
          ∧ r.2.mem ((c.tc : Thread Cert.SbDwInReferenceIdeal.nD Cert.SbDwInReferenceIdeal.τ).loc Cert.SbDwInReferenceIdeal.main_arg1) = m' ((c.tc : Thread Cert.SbDwInReferenceIdeal.nD Cert.SbDwInReferenceIdeal.τ).loc Cert.SbDwInReferenceIdeal.main_arg1)
          ∧ r.2.mem ((c.tc : Thread Cert.SbDwInReferenceIdeal.nD Cert.SbDwInReferenceIdeal.τ).loc Cert.SbDwInReferenceIdeal.main_arg2) = m' ((c.tc : Thread Cert.SbDwInReferenceIdeal.nD Cert.SbDwInReferenceIdeal.τ).loc Cert.SbDwInReferenceIdeal.main_arg2))

def preserves_SbProj_SbProjIdeal : Prop :=
  True

def algebraic_SbProjIdeal_SbProjReferenceIdeal [hSbProjIdeal : Cert.SbProjIdeal.Facts] [hSbProjReferenceIdeal : Cert.SbProjReferenceIdeal.Facts] : Prop :=
  ∀ (m : (ℓ : Loc Cert.SbProjIdeal.nD Cert.SbProjIdeal.τ Cert.SbProjIdeal.sig) → Buf (Elt Ideal) ℓ) (g : Dev Cert.SbProjIdeal.nD → PrngReg)
    (m' : (ℓ : Loc Cert.SbProjReferenceIdeal.nD Cert.SbProjReferenceIdeal.τ Cert.SbProjReferenceIdeal.sig) → Buf (Elt Ideal) ℓ) (g' : Dev Cert.SbProjReferenceIdeal.nD → PrngReg), Pre_SbProjIdeal m →
    (∀ c : Dev Cert.SbProjIdeal.nD,
      m' ((c.tc : Thread Cert.SbProjReferenceIdeal.nD Cert.SbProjReferenceIdeal.τ).loc Cert.SbProjReferenceIdeal.main_arg0) = m ((c.tc : Thread Cert.SbProjIdeal.nD Cert.SbProjIdeal.τ).loc Cert.SbProjIdeal.main_arg0)
      ∧ m' ((c.tc : Thread Cert.SbProjReferenceIdeal.nD Cert.SbProjReferenceIdeal.τ).loc Cert.SbProjReferenceIdeal.main_arg1) = m ((c.tc : Thread Cert.SbProjIdeal.nD Cert.SbProjIdeal.τ).loc Cert.SbProjIdeal.main_arg1)) →
    ∃ (v0 : (c : Dev Cert.SbProjIdeal.nD) → Buf (Elt Ideal) ((c.tc : Thread Cert.SbProjIdeal.nD Cert.SbProjIdeal.τ).loc Cert.SbProjIdeal.main_v2)),
      θ_run (Cert.SbProjIdeal.defs (F := Ideal)) (onTc (τ := Cert.SbProjIdeal.τ) (Cert.SbProjIdeal.main (F := Ideal))) ⟨m, fun _ => 0, g⟩ (fun r => ∀ c : Dev Cert.SbProjIdeal.nD,
          r.2.mem ((c.tc : Thread Cert.SbProjIdeal.nD Cert.SbProjIdeal.τ).loc Cert.SbProjIdeal.main_v2) = v0 c
          ∧ r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
          ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1))
      ∧ θ_run (Cert.SbProjReferenceIdeal.defs (F := Ideal)) (onTc (τ := Cert.SbProjReferenceIdeal.τ) (Cert.SbProjReferenceIdeal.main (F := Ideal))) ⟨m', fun _ => 0, g'⟩ (fun r => ∀ c : Dev Cert.SbProjReferenceIdeal.nD,
          r.2.mem ((c.tc : Thread Cert.SbProjReferenceIdeal.nD Cert.SbProjReferenceIdeal.τ).loc Cert.SbProjReferenceIdeal.main_v3) = v0 c
          ∧ r.2.mem ((c.tc : Thread Cert.SbProjReferenceIdeal.nD Cert.SbProjReferenceIdeal.τ).loc Cert.SbProjReferenceIdeal.main_arg0) = m' ((c.tc : Thread Cert.SbProjReferenceIdeal.nD Cert.SbProjReferenceIdeal.τ).loc Cert.SbProjReferenceIdeal.main_arg0)
          ∧ r.2.mem ((c.tc : Thread Cert.SbProjReferenceIdeal.nD Cert.SbProjReferenceIdeal.τ).loc Cert.SbProjReferenceIdeal.main_arg1) = m' ((c.tc : Thread Cert.SbProjReferenceIdeal.nD Cert.SbProjReferenceIdeal.τ).loc Cert.SbProjReferenceIdeal.main_arg1))

def preserves_FoxDh_FoxDhIdeal : Prop :=
  True

def algebraic_FoxDhIdeal_FoxDhReferenceIdeal [hFoxDhIdeal : Cert.FoxDhIdeal.Facts] [hFoxDhReferenceIdeal : Cert.FoxDhReferenceIdeal.Facts] : Prop :=
  ∀ (m : (ℓ : Loc Cert.FoxDhIdeal.nD Cert.FoxDhIdeal.τ Cert.FoxDhIdeal.sig) → Buf (Elt Ideal) ℓ) (g : Dev Cert.FoxDhIdeal.nD → PrngReg)
    (m' : (ℓ : Loc Cert.FoxDhReferenceIdeal.nD Cert.FoxDhReferenceIdeal.τ Cert.FoxDhReferenceIdeal.sig) → Buf (Elt Ideal) ℓ) (g' : Dev Cert.FoxDhReferenceIdeal.nD → PrngReg), Pre_FoxDhIdeal m →
    (∀ c : Dev Cert.FoxDhIdeal.nD,
      m' ((c.tc : Thread Cert.FoxDhReferenceIdeal.nD Cert.FoxDhReferenceIdeal.τ).loc Cert.FoxDhReferenceIdeal.main_arg0) = m ((c.tc : Thread Cert.FoxDhIdeal.nD Cert.FoxDhIdeal.τ).loc Cert.FoxDhIdeal.main_arg0)
      ∧ m' ((c.tc : Thread Cert.FoxDhReferenceIdeal.nD Cert.FoxDhReferenceIdeal.τ).loc Cert.FoxDhReferenceIdeal.main_arg1) = m ((c.tc : Thread Cert.FoxDhIdeal.nD Cert.FoxDhIdeal.τ).loc Cert.FoxDhIdeal.main_arg1)
      ∧ m' ((c.tc : Thread Cert.FoxDhReferenceIdeal.nD Cert.FoxDhReferenceIdeal.τ).loc Cert.FoxDhReferenceIdeal.main_arg2) = m ((c.tc : Thread Cert.FoxDhIdeal.nD Cert.FoxDhIdeal.τ).loc Cert.FoxDhIdeal.main_arg2)) →
    ∃ (v0 : (c : Dev Cert.FoxDhIdeal.nD) → Buf (Elt Ideal) ((c.tc : Thread Cert.FoxDhIdeal.nD Cert.FoxDhIdeal.τ).loc Cert.FoxDhIdeal.main_v0)),
      θ_run (Cert.FoxDhIdeal.defs (F := Ideal)) (onTc (τ := Cert.FoxDhIdeal.τ) (Cert.FoxDhIdeal.main (F := Ideal))) ⟨m, fun _ => 0, g⟩ (fun r => ∀ c : Dev Cert.FoxDhIdeal.nD,
          r.2.mem ((c.tc : Thread Cert.FoxDhIdeal.nD Cert.FoxDhIdeal.τ).loc Cert.FoxDhIdeal.main_v0) = v0 c
          ∧ r.2.mem ((c.tc : Thread Cert.FoxDhIdeal.nD Cert.FoxDhIdeal.τ).loc Cert.FoxDhIdeal.main_arg0) = m ((c.tc : Thread Cert.FoxDhIdeal.nD Cert.FoxDhIdeal.τ).loc Cert.FoxDhIdeal.main_arg0)
          ∧ r.2.mem ((c.tc : Thread Cert.FoxDhIdeal.nD Cert.FoxDhIdeal.τ).loc Cert.FoxDhIdeal.main_arg1) = m ((c.tc : Thread Cert.FoxDhIdeal.nD Cert.FoxDhIdeal.τ).loc Cert.FoxDhIdeal.main_arg1)
          ∧ r.2.mem ((c.tc : Thread Cert.FoxDhIdeal.nD Cert.FoxDhIdeal.τ).loc Cert.FoxDhIdeal.main_arg2) = m ((c.tc : Thread Cert.FoxDhIdeal.nD Cert.FoxDhIdeal.τ).loc Cert.FoxDhIdeal.main_arg2))
      ∧ θ_run (Cert.FoxDhReferenceIdeal.defs (F := Ideal)) (onTc (τ := Cert.FoxDhReferenceIdeal.τ) (Cert.FoxDhReferenceIdeal.main (F := Ideal))) ⟨m', fun _ => 0, g'⟩ (fun r => ∀ c : Dev Cert.FoxDhReferenceIdeal.nD,
          r.2.mem ((c.tc : Thread Cert.FoxDhReferenceIdeal.nD Cert.FoxDhReferenceIdeal.τ).loc Cert.FoxDhReferenceIdeal.main_v4) = v0 c
          ∧ r.2.mem ((c.tc : Thread Cert.FoxDhReferenceIdeal.nD Cert.FoxDhReferenceIdeal.τ).loc Cert.FoxDhReferenceIdeal.main_arg0) = m' ((c.tc : Thread Cert.FoxDhReferenceIdeal.nD Cert.FoxDhReferenceIdeal.τ).loc Cert.FoxDhReferenceIdeal.main_arg0)
          ∧ r.2.mem ((c.tc : Thread Cert.FoxDhReferenceIdeal.nD Cert.FoxDhReferenceIdeal.τ).loc Cert.FoxDhReferenceIdeal.main_arg1) = m' ((c.tc : Thread Cert.FoxDhReferenceIdeal.nD Cert.FoxDhReferenceIdeal.τ).loc Cert.FoxDhReferenceIdeal.main_arg1)
          ∧ r.2.mem ((c.tc : Thread Cert.FoxDhReferenceIdeal.nD Cert.FoxDhReferenceIdeal.τ).loc Cert.FoxDhReferenceIdeal.main_arg2) = m' ((c.tc : Thread Cert.FoxDhReferenceIdeal.nD Cert.FoxDhReferenceIdeal.τ).loc Cert.FoxDhReferenceIdeal.main_arg2))

def preserves_FoxDwIn_FoxDwInIdeal : Prop :=
  True

def algebraic_FoxDwInIdeal_FoxDwInReferenceIdeal [hFoxDwInIdeal : Cert.FoxDwInIdeal.Facts] [hFoxDwInReferenceIdeal : Cert.FoxDwInReferenceIdeal.Facts] : Prop :=
  ∀ (m : (ℓ : Loc Cert.FoxDwInIdeal.nD Cert.FoxDwInIdeal.τ Cert.FoxDwInIdeal.sig) → Buf (Elt Ideal) ℓ) (g : Dev Cert.FoxDwInIdeal.nD → PrngReg)
    (m' : (ℓ : Loc Cert.FoxDwInReferenceIdeal.nD Cert.FoxDwInReferenceIdeal.τ Cert.FoxDwInReferenceIdeal.sig) → Buf (Elt Ideal) ℓ) (g' : Dev Cert.FoxDwInReferenceIdeal.nD → PrngReg), Pre_FoxDwInIdeal m →
    (∀ c : Dev Cert.FoxDwInIdeal.nD,
      m' ((c.tc : Thread Cert.FoxDwInReferenceIdeal.nD Cert.FoxDwInReferenceIdeal.τ).loc Cert.FoxDwInReferenceIdeal.main_arg0) = m ((c.tc : Thread Cert.FoxDwInIdeal.nD Cert.FoxDwInIdeal.τ).loc Cert.FoxDwInIdeal.main_arg0)
      ∧ m' ((c.tc : Thread Cert.FoxDwInReferenceIdeal.nD Cert.FoxDwInReferenceIdeal.τ).loc Cert.FoxDwInReferenceIdeal.main_arg1) = m ((c.tc : Thread Cert.FoxDwInIdeal.nD Cert.FoxDwInIdeal.τ).loc Cert.FoxDwInIdeal.main_arg1)
      ∧ m' ((c.tc : Thread Cert.FoxDwInReferenceIdeal.nD Cert.FoxDwInReferenceIdeal.τ).loc Cert.FoxDwInReferenceIdeal.main_arg2) = m ((c.tc : Thread Cert.FoxDwInIdeal.nD Cert.FoxDwInIdeal.τ).loc Cert.FoxDwInIdeal.main_arg2)) →
    ∃ (v0 : (c : Dev Cert.FoxDwInIdeal.nD) → Buf (Elt Ideal) ((c.tc : Thread Cert.FoxDwInIdeal.nD Cert.FoxDwInIdeal.τ).loc Cert.FoxDwInIdeal.main_v0)),
      θ_run (Cert.FoxDwInIdeal.defs (F := Ideal)) (onTc (τ := Cert.FoxDwInIdeal.τ) (Cert.FoxDwInIdeal.main (F := Ideal))) ⟨m, fun _ => 0, g⟩ (fun r => ∀ c : Dev Cert.FoxDwInIdeal.nD,
          r.2.mem ((c.tc : Thread Cert.FoxDwInIdeal.nD Cert.FoxDwInIdeal.τ).loc Cert.FoxDwInIdeal.main_v0) = v0 c
          ∧ r.2.mem ((c.tc : Thread Cert.FoxDwInIdeal.nD Cert.FoxDwInIdeal.τ).loc Cert.FoxDwInIdeal.main_arg0) = m ((c.tc : Thread Cert.FoxDwInIdeal.nD Cert.FoxDwInIdeal.τ).loc Cert.FoxDwInIdeal.main_arg0)
          ∧ r.2.mem ((c.tc : Thread Cert.FoxDwInIdeal.nD Cert.FoxDwInIdeal.τ).loc Cert.FoxDwInIdeal.main_arg1) = m ((c.tc : Thread Cert.FoxDwInIdeal.nD Cert.FoxDwInIdeal.τ).loc Cert.FoxDwInIdeal.main_arg1)
          ∧ r.2.mem ((c.tc : Thread Cert.FoxDwInIdeal.nD Cert.FoxDwInIdeal.τ).loc Cert.FoxDwInIdeal.main_arg2) = m ((c.tc : Thread Cert.FoxDwInIdeal.nD Cert.FoxDwInIdeal.τ).loc Cert.FoxDwInIdeal.main_arg2))
      ∧ θ_run (Cert.FoxDwInReferenceIdeal.defs (F := Ideal)) (onTc (τ := Cert.FoxDwInReferenceIdeal.τ) (Cert.FoxDwInReferenceIdeal.main (F := Ideal))) ⟨m', fun _ => 0, g'⟩ (fun r => ∀ c : Dev Cert.FoxDwInReferenceIdeal.nD,
          r.2.mem ((c.tc : Thread Cert.FoxDwInReferenceIdeal.nD Cert.FoxDwInReferenceIdeal.τ).loc Cert.FoxDwInReferenceIdeal.main_v6) = v0 c
          ∧ r.2.mem ((c.tc : Thread Cert.FoxDwInReferenceIdeal.nD Cert.FoxDwInReferenceIdeal.τ).loc Cert.FoxDwInReferenceIdeal.main_arg0) = m' ((c.tc : Thread Cert.FoxDwInReferenceIdeal.nD Cert.FoxDwInReferenceIdeal.τ).loc Cert.FoxDwInReferenceIdeal.main_arg0)
          ∧ r.2.mem ((c.tc : Thread Cert.FoxDwInReferenceIdeal.nD Cert.FoxDwInReferenceIdeal.τ).loc Cert.FoxDwInReferenceIdeal.main_arg1) = m' ((c.tc : Thread Cert.FoxDwInReferenceIdeal.nD Cert.FoxDwInReferenceIdeal.τ).loc Cert.FoxDwInReferenceIdeal.main_arg1)
          ∧ r.2.mem ((c.tc : Thread Cert.FoxDwInReferenceIdeal.nD Cert.FoxDwInReferenceIdeal.τ).loc Cert.FoxDwInReferenceIdeal.main_arg2) = m' ((c.tc : Thread Cert.FoxDwInReferenceIdeal.nD Cert.FoxDwInReferenceIdeal.τ).loc Cert.FoxDwInReferenceIdeal.main_arg2))

def preserves_FoxProj_FoxProjIdeal : Prop :=
  True

def algebraic_FoxProjIdeal_FoxProjReferenceIdeal [hFoxProjIdeal : Cert.FoxProjIdeal.Facts] [hFoxProjReferenceIdeal : Cert.FoxProjReferenceIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjReferenceIdeal.nD Cert.FoxProjReferenceIdeal.τ Cert.FoxProjReferenceIdeal.sig) → Buf (Elt Ideal) ℓ) (g' : Dev Cert.FoxProjReferenceIdeal.nD → PrngReg), Pre_FoxProjIdeal m →
    (∀ c : Dev Cert.FoxProjIdeal.nD,
      m' ((c.tc : Thread Cert.FoxProjReferenceIdeal.nD Cert.FoxProjReferenceIdeal.τ).loc Cert.FoxProjReferenceIdeal.main_arg0) = m ((c.tc : Thread Cert.FoxProjIdeal.nD Cert.FoxProjIdeal.τ).loc Cert.FoxProjIdeal.main_arg0)
      ∧ m' ((c.tc : Thread Cert.FoxProjReferenceIdeal.nD Cert.FoxProjReferenceIdeal.τ).loc Cert.FoxProjReferenceIdeal.main_arg1) = m ((c.tc : Thread Cert.FoxProjIdeal.nD Cert.FoxProjIdeal.τ).loc Cert.FoxProjIdeal.main_arg1)) →
    ∃ (v0 : (c : Dev Cert.FoxProjIdeal.nD) → Buf (Elt Ideal) ((c.tc : Thread Cert.FoxProjIdeal.nD Cert.FoxProjIdeal.τ).loc Cert.FoxProjIdeal.main_v0)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v0) = v0 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ θ_run (Cert.FoxProjReferenceIdeal.defs (F := Ideal)) (onTc (τ := Cert.FoxProjReferenceIdeal.τ) (Cert.FoxProjReferenceIdeal.main (F := Ideal))) ⟨m', fun _ => 0, g'⟩ (fun r => ∀ c : Dev Cert.FoxProjReferenceIdeal.nD,
          r.2.mem ((c.tc : Thread Cert.FoxProjReferenceIdeal.nD Cert.FoxProjReferenceIdeal.τ).loc Cert.FoxProjReferenceIdeal.main_v2) = v0 c
          ∧ r.2.mem ((c.tc : Thread Cert.FoxProjReferenceIdeal.nD Cert.FoxProjReferenceIdeal.τ).loc Cert.FoxProjReferenceIdeal.main_arg0) = m' ((c.tc : Thread Cert.FoxProjReferenceIdeal.nD Cert.FoxProjReferenceIdeal.τ).loc Cert.FoxProjReferenceIdeal.main_arg0)
          ∧ r.2.mem ((c.tc : Thread Cert.FoxProjReferenceIdeal.nD Cert.FoxProjReferenceIdeal.τ).loc Cert.FoxProjReferenceIdeal.main_arg1) = m' ((c.tc : Thread Cert.FoxProjReferenceIdeal.nD Cert.FoxProjReferenceIdeal.τ).loc Cert.FoxProjReferenceIdeal.main_arg1))

def preserves_MlaDh_MlaDhIdeal : Prop :=
  True

def algebraic_MlaDhIdeal_MlaDhReferenceIdeal [hMlaDhIdeal : Cert.MlaDhIdeal.Facts] [hMlaDhReferenceIdeal : Cert.MlaDhReferenceIdeal.Facts] : Prop :=
  ∀ (m : (ℓ : Loc Cert.MlaDhIdeal.nD Cert.MlaDhIdeal.τ Cert.MlaDhIdeal.sig) → Buf (Elt Ideal) ℓ) (g : Dev Cert.MlaDhIdeal.nD → PrngReg)
    (m' : (ℓ : Loc Cert.MlaDhReferenceIdeal.nD Cert.MlaDhReferenceIdeal.τ Cert.MlaDhReferenceIdeal.sig) → Buf (Elt Ideal) ℓ) (g' : Dev Cert.MlaDhReferenceIdeal.nD → PrngReg), Pre_MlaDhIdeal m →
    (∀ c : Dev Cert.MlaDhIdeal.nD,
      m' ((c.tc : Thread Cert.MlaDhReferenceIdeal.nD Cert.MlaDhReferenceIdeal.τ).loc Cert.MlaDhReferenceIdeal.main_arg0) = m ((c.tc : Thread Cert.MlaDhIdeal.nD Cert.MlaDhIdeal.τ).loc Cert.MlaDhIdeal.main_arg0)
      ∧ m' ((c.tc : Thread Cert.MlaDhReferenceIdeal.nD Cert.MlaDhReferenceIdeal.τ).loc Cert.MlaDhReferenceIdeal.main_arg1) = m ((c.tc : Thread Cert.MlaDhIdeal.nD Cert.MlaDhIdeal.τ).loc Cert.MlaDhIdeal.main_arg1)
      ∧ m' ((c.tc : Thread Cert.MlaDhReferenceIdeal.nD Cert.MlaDhReferenceIdeal.τ).loc Cert.MlaDhReferenceIdeal.main_arg2) = m ((c.tc : Thread Cert.MlaDhIdeal.nD Cert.MlaDhIdeal.τ).loc Cert.MlaDhIdeal.main_arg2)) →
    ∃ (v0 : (c : Dev Cert.MlaDhIdeal.nD) → Buf (Elt Ideal) ((c.tc : Thread Cert.MlaDhIdeal.nD Cert.MlaDhIdeal.τ).loc Cert.MlaDhIdeal.main_v0)),
      θ_run (Cert.MlaDhIdeal.defs (F := Ideal)) (onTc (τ := Cert.MlaDhIdeal.τ) (Cert.MlaDhIdeal.main (F := Ideal))) ⟨m, fun _ => 0, g⟩ (fun r => ∀ c : Dev Cert.MlaDhIdeal.nD,
          r.2.mem ((c.tc : Thread Cert.MlaDhIdeal.nD Cert.MlaDhIdeal.τ).loc Cert.MlaDhIdeal.main_v0) = v0 c
          ∧ r.2.mem ((c.tc : Thread Cert.MlaDhIdeal.nD Cert.MlaDhIdeal.τ).loc Cert.MlaDhIdeal.main_arg0) = m ((c.tc : Thread Cert.MlaDhIdeal.nD Cert.MlaDhIdeal.τ).loc Cert.MlaDhIdeal.main_arg0)
          ∧ r.2.mem ((c.tc : Thread Cert.MlaDhIdeal.nD Cert.MlaDhIdeal.τ).loc Cert.MlaDhIdeal.main_arg1) = m ((c.tc : Thread Cert.MlaDhIdeal.nD Cert.MlaDhIdeal.τ).loc Cert.MlaDhIdeal.main_arg1)
          ∧ r.2.mem ((c.tc : Thread Cert.MlaDhIdeal.nD Cert.MlaDhIdeal.τ).loc Cert.MlaDhIdeal.main_arg2) = m ((c.tc : Thread Cert.MlaDhIdeal.nD Cert.MlaDhIdeal.τ).loc Cert.MlaDhIdeal.main_arg2))
      ∧ θ_run (Cert.MlaDhReferenceIdeal.defs (F := Ideal)) (onTc (τ := Cert.MlaDhReferenceIdeal.τ) (Cert.MlaDhReferenceIdeal.main (F := Ideal))) ⟨m', fun _ => 0, g'⟩ (fun r => ∀ c : Dev Cert.MlaDhReferenceIdeal.nD,
          r.2.mem ((c.tc : Thread Cert.MlaDhReferenceIdeal.nD Cert.MlaDhReferenceIdeal.τ).loc Cert.MlaDhReferenceIdeal.main_v4) = v0 c
          ∧ r.2.mem ((c.tc : Thread Cert.MlaDhReferenceIdeal.nD Cert.MlaDhReferenceIdeal.τ).loc Cert.MlaDhReferenceIdeal.main_arg0) = m' ((c.tc : Thread Cert.MlaDhReferenceIdeal.nD Cert.MlaDhReferenceIdeal.τ).loc Cert.MlaDhReferenceIdeal.main_arg0)
          ∧ r.2.mem ((c.tc : Thread Cert.MlaDhReferenceIdeal.nD Cert.MlaDhReferenceIdeal.τ).loc Cert.MlaDhReferenceIdeal.main_arg1) = m' ((c.tc : Thread Cert.MlaDhReferenceIdeal.nD Cert.MlaDhReferenceIdeal.τ).loc Cert.MlaDhReferenceIdeal.main_arg1)
          ∧ r.2.mem ((c.tc : Thread Cert.MlaDhReferenceIdeal.nD Cert.MlaDhReferenceIdeal.τ).loc Cert.MlaDhReferenceIdeal.main_arg2) = m' ((c.tc : Thread Cert.MlaDhReferenceIdeal.nD Cert.MlaDhReferenceIdeal.τ).loc Cert.MlaDhReferenceIdeal.main_arg2))

def preserves_MlaDwIn_MlaDwInIdeal : Prop :=
  True

def algebraic_MlaDwInIdeal_MlaDwInReferenceIdeal [hMlaDwInIdeal : Cert.MlaDwInIdeal.Facts] [hMlaDwInReferenceIdeal : Cert.MlaDwInReferenceIdeal.Facts] : Prop :=
  ∀ (m : (ℓ : Loc Cert.MlaDwInIdeal.nD Cert.MlaDwInIdeal.τ Cert.MlaDwInIdeal.sig) → Buf (Elt Ideal) ℓ) (g : Dev Cert.MlaDwInIdeal.nD → PrngReg)
    (m' : (ℓ : Loc Cert.MlaDwInReferenceIdeal.nD Cert.MlaDwInReferenceIdeal.τ Cert.MlaDwInReferenceIdeal.sig) → Buf (Elt Ideal) ℓ) (g' : Dev Cert.MlaDwInReferenceIdeal.nD → PrngReg), Pre_MlaDwInIdeal m →
    (∀ c : Dev Cert.MlaDwInIdeal.nD,
      m' ((c.tc : Thread Cert.MlaDwInReferenceIdeal.nD Cert.MlaDwInReferenceIdeal.τ).loc Cert.MlaDwInReferenceIdeal.main_arg0) = m ((c.tc : Thread Cert.MlaDwInIdeal.nD Cert.MlaDwInIdeal.τ).loc Cert.MlaDwInIdeal.main_arg0)
      ∧ m' ((c.tc : Thread Cert.MlaDwInReferenceIdeal.nD Cert.MlaDwInReferenceIdeal.τ).loc Cert.MlaDwInReferenceIdeal.main_arg1) = m ((c.tc : Thread Cert.MlaDwInIdeal.nD Cert.MlaDwInIdeal.τ).loc Cert.MlaDwInIdeal.main_arg1)
      ∧ m' ((c.tc : Thread Cert.MlaDwInReferenceIdeal.nD Cert.MlaDwInReferenceIdeal.τ).loc Cert.MlaDwInReferenceIdeal.main_arg2) = m ((c.tc : Thread Cert.MlaDwInIdeal.nD Cert.MlaDwInIdeal.τ).loc Cert.MlaDwInIdeal.main_arg2)) →
    ∃ (v0 : (c : Dev Cert.MlaDwInIdeal.nD) → Buf (Elt Ideal) ((c.tc : Thread Cert.MlaDwInIdeal.nD Cert.MlaDwInIdeal.τ).loc Cert.MlaDwInIdeal.main_v0)),
      θ_run (Cert.MlaDwInIdeal.defs (F := Ideal)) (onTc (τ := Cert.MlaDwInIdeal.τ) (Cert.MlaDwInIdeal.main (F := Ideal))) ⟨m, fun _ => 0, g⟩ (fun r => ∀ c : Dev Cert.MlaDwInIdeal.nD,
          r.2.mem ((c.tc : Thread Cert.MlaDwInIdeal.nD Cert.MlaDwInIdeal.τ).loc Cert.MlaDwInIdeal.main_v0) = v0 c
          ∧ r.2.mem ((c.tc : Thread Cert.MlaDwInIdeal.nD Cert.MlaDwInIdeal.τ).loc Cert.MlaDwInIdeal.main_arg0) = m ((c.tc : Thread Cert.MlaDwInIdeal.nD Cert.MlaDwInIdeal.τ).loc Cert.MlaDwInIdeal.main_arg0)
          ∧ r.2.mem ((c.tc : Thread Cert.MlaDwInIdeal.nD Cert.MlaDwInIdeal.τ).loc Cert.MlaDwInIdeal.main_arg1) = m ((c.tc : Thread Cert.MlaDwInIdeal.nD Cert.MlaDwInIdeal.τ).loc Cert.MlaDwInIdeal.main_arg1)
          ∧ r.2.mem ((c.tc : Thread Cert.MlaDwInIdeal.nD Cert.MlaDwInIdeal.τ).loc Cert.MlaDwInIdeal.main_arg2) = m ((c.tc : Thread Cert.MlaDwInIdeal.nD Cert.MlaDwInIdeal.τ).loc Cert.MlaDwInIdeal.main_arg2))
      ∧ θ_run (Cert.MlaDwInReferenceIdeal.defs (F := Ideal)) (onTc (τ := Cert.MlaDwInReferenceIdeal.τ) (Cert.MlaDwInReferenceIdeal.main (F := Ideal))) ⟨m', fun _ => 0, g'⟩ (fun r => ∀ c : Dev Cert.MlaDwInReferenceIdeal.nD,
          r.2.mem ((c.tc : Thread Cert.MlaDwInReferenceIdeal.nD Cert.MlaDwInReferenceIdeal.τ).loc Cert.MlaDwInReferenceIdeal.main_v6) = v0 c
          ∧ r.2.mem ((c.tc : Thread Cert.MlaDwInReferenceIdeal.nD Cert.MlaDwInReferenceIdeal.τ).loc Cert.MlaDwInReferenceIdeal.main_arg0) = m' ((c.tc : Thread Cert.MlaDwInReferenceIdeal.nD Cert.MlaDwInReferenceIdeal.τ).loc Cert.MlaDwInReferenceIdeal.main_arg0)
          ∧ r.2.mem ((c.tc : Thread Cert.MlaDwInReferenceIdeal.nD Cert.MlaDwInReferenceIdeal.τ).loc Cert.MlaDwInReferenceIdeal.main_arg1) = m' ((c.tc : Thread Cert.MlaDwInReferenceIdeal.nD Cert.MlaDwInReferenceIdeal.τ).loc Cert.MlaDwInReferenceIdeal.main_arg1)
          ∧ r.2.mem ((c.tc : Thread Cert.MlaDwInReferenceIdeal.nD Cert.MlaDwInReferenceIdeal.τ).loc Cert.MlaDwInReferenceIdeal.main_arg2) = m' ((c.tc : Thread Cert.MlaDwInReferenceIdeal.nD Cert.MlaDwInReferenceIdeal.τ).loc Cert.MlaDwInReferenceIdeal.main_arg2))

def preserves_MlaDown_MlaDownIdeal : Prop :=
  True

def algebraic_MlaDownIdeal_MlaDownReferenceIdeal [hMlaDownIdeal : Cert.MlaDownIdeal.Facts] [hMlaDownReferenceIdeal : Cert.MlaDownReferenceIdeal.Facts] : Prop :=
  ∀ (m : (ℓ : Loc Cert.MlaDownIdeal.nD Cert.MlaDownIdeal.τ Cert.MlaDownIdeal.sig) → Buf (Elt Ideal) ℓ) (g : Dev Cert.MlaDownIdeal.nD → PrngReg)
    (m' : (ℓ : Loc Cert.MlaDownReferenceIdeal.nD Cert.MlaDownReferenceIdeal.τ Cert.MlaDownReferenceIdeal.sig) → Buf (Elt Ideal) ℓ) (g' : Dev Cert.MlaDownReferenceIdeal.nD → PrngReg), Pre_MlaDownIdeal m →
    (∀ c : Dev Cert.MlaDownIdeal.nD,
      m' ((c.tc : Thread Cert.MlaDownReferenceIdeal.nD Cert.MlaDownReferenceIdeal.τ).loc Cert.MlaDownReferenceIdeal.main_arg0) = m ((c.tc : Thread Cert.MlaDownIdeal.nD Cert.MlaDownIdeal.τ).loc Cert.MlaDownIdeal.main_arg0)
      ∧ m' ((c.tc : Thread Cert.MlaDownReferenceIdeal.nD Cert.MlaDownReferenceIdeal.τ).loc Cert.MlaDownReferenceIdeal.main_arg1) = m ((c.tc : Thread Cert.MlaDownIdeal.nD Cert.MlaDownIdeal.τ).loc Cert.MlaDownIdeal.main_arg1)) →
    ∃ (v0 : (c : Dev Cert.MlaDownIdeal.nD) → Buf (Elt Ideal) ((c.tc : Thread Cert.MlaDownIdeal.nD Cert.MlaDownIdeal.τ).loc Cert.MlaDownIdeal.main_v0)),
      θ_run (Cert.MlaDownIdeal.defs (F := Ideal)) (onTc (τ := Cert.MlaDownIdeal.τ) (Cert.MlaDownIdeal.main (F := Ideal))) ⟨m, fun _ => 0, g⟩ (fun r => ∀ c : Dev Cert.MlaDownIdeal.nD,
          r.2.mem ((c.tc : Thread Cert.MlaDownIdeal.nD Cert.MlaDownIdeal.τ).loc Cert.MlaDownIdeal.main_v0) = v0 c
          ∧ r.2.mem ((c.tc : Thread Cert.MlaDownIdeal.nD Cert.MlaDownIdeal.τ).loc Cert.MlaDownIdeal.main_arg0) = m ((c.tc : Thread Cert.MlaDownIdeal.nD Cert.MlaDownIdeal.τ).loc Cert.MlaDownIdeal.main_arg0)
          ∧ r.2.mem ((c.tc : Thread Cert.MlaDownIdeal.nD Cert.MlaDownIdeal.τ).loc Cert.MlaDownIdeal.main_arg1) = m ((c.tc : Thread Cert.MlaDownIdeal.nD Cert.MlaDownIdeal.τ).loc Cert.MlaDownIdeal.main_arg1))
      ∧ θ_run (Cert.MlaDownReferenceIdeal.defs (F := Ideal)) (onTc (τ := Cert.MlaDownReferenceIdeal.τ) (Cert.MlaDownReferenceIdeal.main (F := Ideal))) ⟨m', fun _ => 0, g'⟩ (fun r => ∀ c : Dev Cert.MlaDownReferenceIdeal.nD,
          r.2.mem ((c.tc : Thread Cert.MlaDownReferenceIdeal.nD Cert.MlaDownReferenceIdeal.τ).loc Cert.MlaDownReferenceIdeal.main_v2) = v0 c
          ∧ r.2.mem ((c.tc : Thread Cert.MlaDownReferenceIdeal.nD Cert.MlaDownReferenceIdeal.τ).loc Cert.MlaDownReferenceIdeal.main_arg0) = m' ((c.tc : Thread Cert.MlaDownReferenceIdeal.nD Cert.MlaDownReferenceIdeal.τ).loc Cert.MlaDownReferenceIdeal.main_arg0)
          ∧ r.2.mem ((c.tc : Thread Cert.MlaDownReferenceIdeal.nD Cert.MlaDownReferenceIdeal.τ).loc Cert.MlaDownReferenceIdeal.main_arg1) = m' ((c.tc : Thread Cert.MlaDownReferenceIdeal.nD Cert.MlaDownReferenceIdeal.τ).loc Cert.MlaDownReferenceIdeal.main_arg1))

def preserves_MlaDcQ_MlaDcQIdeal : Prop :=
  True

def algebraic_MlaDcQIdeal_MlaDcQReferenceIdeal [hMlaDcQIdeal : Cert.MlaDcQIdeal.Facts] [hMlaDcQReferenceIdeal : Cert.MlaDcQReferenceIdeal.Facts] : Prop :=
  ∀ (m : (ℓ : Loc Cert.MlaDcQIdeal.nD Cert.MlaDcQIdeal.τ Cert.MlaDcQIdeal.sig) → Buf (Elt Ideal) ℓ) (g : Dev Cert.MlaDcQIdeal.nD → PrngReg)
    (m' : (ℓ : Loc Cert.MlaDcQReferenceIdeal.nD Cert.MlaDcQReferenceIdeal.τ Cert.MlaDcQReferenceIdeal.sig) → Buf (Elt Ideal) ℓ) (g' : Dev Cert.MlaDcQReferenceIdeal.nD → PrngReg), Pre_MlaDcQIdeal m →
    (∀ c : Dev Cert.MlaDcQIdeal.nD,
      m' ((c.tc : Thread Cert.MlaDcQReferenceIdeal.nD Cert.MlaDcQReferenceIdeal.τ).loc Cert.MlaDcQReferenceIdeal.main_arg0) = m ((c.tc : Thread Cert.MlaDcQIdeal.nD Cert.MlaDcQIdeal.τ).loc Cert.MlaDcQIdeal.main_arg0)
      ∧ m' ((c.tc : Thread Cert.MlaDcQReferenceIdeal.nD Cert.MlaDcQReferenceIdeal.τ).loc Cert.MlaDcQReferenceIdeal.main_arg1) = m ((c.tc : Thread Cert.MlaDcQIdeal.nD Cert.MlaDcQIdeal.τ).loc Cert.MlaDcQIdeal.main_arg1)
      ∧ m' ((c.tc : Thread Cert.MlaDcQReferenceIdeal.nD Cert.MlaDcQReferenceIdeal.τ).loc Cert.MlaDcQReferenceIdeal.main_arg2) = m ((c.tc : Thread Cert.MlaDcQIdeal.nD Cert.MlaDcQIdeal.τ).loc Cert.MlaDcQIdeal.main_arg2)) →
    ∃ (v0 : (c : Dev Cert.MlaDcQIdeal.nD) → Buf (Elt Ideal) ((c.tc : Thread Cert.MlaDcQIdeal.nD Cert.MlaDcQIdeal.τ).loc Cert.MlaDcQIdeal.main_v2)),
      θ_run (Cert.MlaDcQIdeal.defs (F := Ideal)) (onTc (τ := Cert.MlaDcQIdeal.τ) (Cert.MlaDcQIdeal.main (F := Ideal))) ⟨m, fun _ => 0, g⟩ (fun r => ∀ c : Dev Cert.MlaDcQIdeal.nD,
          r.2.mem ((c.tc : Thread Cert.MlaDcQIdeal.nD Cert.MlaDcQIdeal.τ).loc Cert.MlaDcQIdeal.main_v2) = v0 c
          ∧ r.2.mem ((c.tc : Thread Cert.MlaDcQIdeal.nD Cert.MlaDcQIdeal.τ).loc Cert.MlaDcQIdeal.main_arg0) = m ((c.tc : Thread Cert.MlaDcQIdeal.nD Cert.MlaDcQIdeal.τ).loc Cert.MlaDcQIdeal.main_arg0)
          ∧ r.2.mem ((c.tc : Thread Cert.MlaDcQIdeal.nD Cert.MlaDcQIdeal.τ).loc Cert.MlaDcQIdeal.main_arg1) = m ((c.tc : Thread Cert.MlaDcQIdeal.nD Cert.MlaDcQIdeal.τ).loc Cert.MlaDcQIdeal.main_arg1)
          ∧ r.2.mem ((c.tc : Thread Cert.MlaDcQIdeal.nD Cert.MlaDcQIdeal.τ).loc Cert.MlaDcQIdeal.main_arg2) = m ((c.tc : Thread Cert.MlaDcQIdeal.nD Cert.MlaDcQIdeal.τ).loc Cert.MlaDcQIdeal.main_arg2))
      ∧ θ_run (Cert.MlaDcQReferenceIdeal.defs (F := Ideal)) (onTc (τ := Cert.MlaDcQReferenceIdeal.τ) (Cert.MlaDcQReferenceIdeal.main (F := Ideal))) ⟨m', fun _ => 0, g'⟩ (fun r => ∀ c : Dev Cert.MlaDcQReferenceIdeal.nD,
          r.2.mem ((c.tc : Thread Cert.MlaDcQReferenceIdeal.nD Cert.MlaDcQReferenceIdeal.τ).loc Cert.MlaDcQReferenceIdeal.main_v4) = v0 c
          ∧ r.2.mem ((c.tc : Thread Cert.MlaDcQReferenceIdeal.nD Cert.MlaDcQReferenceIdeal.τ).loc Cert.MlaDcQReferenceIdeal.main_arg0) = m' ((c.tc : Thread Cert.MlaDcQReferenceIdeal.nD Cert.MlaDcQReferenceIdeal.τ).loc Cert.MlaDcQReferenceIdeal.main_arg0)
          ∧ r.2.mem ((c.tc : Thread Cert.MlaDcQReferenceIdeal.nD Cert.MlaDcQReferenceIdeal.τ).loc Cert.MlaDcQReferenceIdeal.main_arg1) = m' ((c.tc : Thread Cert.MlaDcQReferenceIdeal.nD Cert.MlaDcQReferenceIdeal.τ).loc Cert.MlaDcQReferenceIdeal.main_arg1)
          ∧ r.2.mem ((c.tc : Thread Cert.MlaDcQReferenceIdeal.nD Cert.MlaDcQReferenceIdeal.τ).loc Cert.MlaDcQReferenceIdeal.main_arg2) = m' ((c.tc : Thread Cert.MlaDcQReferenceIdeal.nD Cert.MlaDcQReferenceIdeal.τ).loc Cert.MlaDcQReferenceIdeal.main_arg2))

def preserves_MlaDwUq_MlaDwUqIdeal : Prop :=
  True

def algebraic_MlaDwUqIdeal_MlaDwUqReferenceIdeal [hMlaDwUqIdeal : Cert.MlaDwUqIdeal.Facts] [hMlaDwUqReferenceIdeal : Cert.MlaDwUqReferenceIdeal.Facts] : Prop :=
  ∀ (m : (ℓ : Loc Cert.MlaDwUqIdeal.nD Cert.MlaDwUqIdeal.τ Cert.MlaDwUqIdeal.sig) → Buf (Elt Ideal) ℓ) (g : Dev Cert.MlaDwUqIdeal.nD → PrngReg)
    (m' : (ℓ : Loc Cert.MlaDwUqReferenceIdeal.nD Cert.MlaDwUqReferenceIdeal.τ Cert.MlaDwUqReferenceIdeal.sig) → Buf (Elt Ideal) ℓ) (g' : Dev Cert.MlaDwUqReferenceIdeal.nD → PrngReg), Pre_MlaDwUqIdeal m →
    (∀ c : Dev Cert.MlaDwUqIdeal.nD,
      m' ((c.tc : Thread Cert.MlaDwUqReferenceIdeal.nD Cert.MlaDwUqReferenceIdeal.τ).loc Cert.MlaDwUqReferenceIdeal.main_arg0) = m ((c.tc : Thread Cert.MlaDwUqIdeal.nD Cert.MlaDwUqIdeal.τ).loc Cert.MlaDwUqIdeal.main_arg0)
      ∧ m' ((c.tc : Thread Cert.MlaDwUqReferenceIdeal.nD Cert.MlaDwUqReferenceIdeal.τ).loc Cert.MlaDwUqReferenceIdeal.main_arg1) = m ((c.tc : Thread Cert.MlaDwUqIdeal.nD Cert.MlaDwUqIdeal.τ).loc Cert.MlaDwUqIdeal.main_arg1)
      ∧ m' ((c.tc : Thread Cert.MlaDwUqReferenceIdeal.nD Cert.MlaDwUqReferenceIdeal.τ).loc Cert.MlaDwUqReferenceIdeal.main_arg2) = m ((c.tc : Thread Cert.MlaDwUqIdeal.nD Cert.MlaDwUqIdeal.τ).loc Cert.MlaDwUqIdeal.main_arg2)) →
    ∃ (v0 : (c : Dev Cert.MlaDwUqIdeal.nD) → Buf (Elt Ideal) ((c.tc : Thread Cert.MlaDwUqIdeal.nD Cert.MlaDwUqIdeal.τ).loc Cert.MlaDwUqIdeal.main_v0)),
      θ_run (Cert.MlaDwUqIdeal.defs (F := Ideal)) (onTc (τ := Cert.MlaDwUqIdeal.τ) (Cert.MlaDwUqIdeal.main (F := Ideal))) ⟨m, fun _ => 0, g⟩ (fun r => ∀ c : Dev Cert.MlaDwUqIdeal.nD,
          r.2.mem ((c.tc : Thread Cert.MlaDwUqIdeal.nD Cert.MlaDwUqIdeal.τ).loc Cert.MlaDwUqIdeal.main_v0) = v0 c
          ∧ r.2.mem ((c.tc : Thread Cert.MlaDwUqIdeal.nD Cert.MlaDwUqIdeal.τ).loc Cert.MlaDwUqIdeal.main_arg0) = m ((c.tc : Thread Cert.MlaDwUqIdeal.nD Cert.MlaDwUqIdeal.τ).loc Cert.MlaDwUqIdeal.main_arg0)
          ∧ r.2.mem ((c.tc : Thread Cert.MlaDwUqIdeal.nD Cert.MlaDwUqIdeal.τ).loc Cert.MlaDwUqIdeal.main_arg1) = m ((c.tc : Thread Cert.MlaDwUqIdeal.nD Cert.MlaDwUqIdeal.τ).loc Cert.MlaDwUqIdeal.main_arg1)
          ∧ r.2.mem ((c.tc : Thread Cert.MlaDwUqIdeal.nD Cert.MlaDwUqIdeal.τ).loc Cert.MlaDwUqIdeal.main_arg2) = m ((c.tc : Thread Cert.MlaDwUqIdeal.nD Cert.MlaDwUqIdeal.τ).loc Cert.MlaDwUqIdeal.main_arg2))
      ∧ θ_run (Cert.MlaDwUqReferenceIdeal.defs (F := Ideal)) (onTc (τ := Cert.MlaDwUqReferenceIdeal.τ) (Cert.MlaDwUqReferenceIdeal.main (F := Ideal))) ⟨m', fun _ => 0, g'⟩ (fun r => ∀ c : Dev Cert.MlaDwUqReferenceIdeal.nD,
          r.2.mem ((c.tc : Thread Cert.MlaDwUqReferenceIdeal.nD Cert.MlaDwUqReferenceIdeal.τ).loc Cert.MlaDwUqReferenceIdeal.main_v8) = v0 c
          ∧ r.2.mem ((c.tc : Thread Cert.MlaDwUqReferenceIdeal.nD Cert.MlaDwUqReferenceIdeal.τ).loc Cert.MlaDwUqReferenceIdeal.main_arg0) = m' ((c.tc : Thread Cert.MlaDwUqReferenceIdeal.nD Cert.MlaDwUqReferenceIdeal.τ).loc Cert.MlaDwUqReferenceIdeal.main_arg0)
          ∧ r.2.mem ((c.tc : Thread Cert.MlaDwUqReferenceIdeal.nD Cert.MlaDwUqReferenceIdeal.τ).loc Cert.MlaDwUqReferenceIdeal.main_arg1) = m' ((c.tc : Thread Cert.MlaDwUqReferenceIdeal.nD Cert.MlaDwUqReferenceIdeal.τ).loc Cert.MlaDwUqReferenceIdeal.main_arg1)
          ∧ r.2.mem ((c.tc : Thread Cert.MlaDwUqReferenceIdeal.nD Cert.MlaDwUqReferenceIdeal.τ).loc Cert.MlaDwUqReferenceIdeal.main_arg2) = m' ((c.tc : Thread Cert.MlaDwUqReferenceIdeal.nD Cert.MlaDwUqReferenceIdeal.τ).loc Cert.MlaDwUqReferenceIdeal.main_arg2))

def preserves_MlaUq_MlaUqIdeal : Prop :=
  True

def algebraic_MlaUqIdeal_MlaUqReferenceIdeal [hMlaUqIdeal : Cert.MlaUqIdeal.Facts] [hMlaUqReferenceIdeal : Cert.MlaUqReferenceIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg)
    (m' : (ℓ : Loc Cert.MlaUqReferenceIdeal.nD Cert.MlaUqReferenceIdeal.τ Cert.MlaUqReferenceIdeal.sig) → Buf (Elt Ideal) ℓ) (g' : Dev Cert.MlaUqReferenceIdeal.nD → PrngReg), Pre_MlaUqIdeal m →
    (∀ c : Dev Cert.MlaUqIdeal.nD,
      m' ((c.tc : Thread Cert.MlaUqReferenceIdeal.nD Cert.MlaUqReferenceIdeal.τ).loc Cert.MlaUqReferenceIdeal.main_arg0) = m ((c.tc : Thread Cert.MlaUqIdeal.nD Cert.MlaUqIdeal.τ).loc Cert.MlaUqIdeal.main_arg0)
      ∧ m' ((c.tc : Thread Cert.MlaUqReferenceIdeal.nD Cert.MlaUqReferenceIdeal.τ).loc Cert.MlaUqReferenceIdeal.main_arg1) = m ((c.tc : Thread Cert.MlaUqIdeal.nD Cert.MlaUqIdeal.τ).loc Cert.MlaUqIdeal.main_arg1)) →
    ∃ (v0 : (c : Dev Cert.MlaUqIdeal.nD) → Buf (Elt Ideal) ((c.tc : Thread Cert.MlaUqIdeal.nD Cert.MlaUqIdeal.τ).loc Cert.MlaUqIdeal.main_v2)),
      θ_run (Cert.MlaUqIdeal.defs (F := Ideal)) (onTc (τ := Cert.MlaUqIdeal.τ) (Cert.MlaUqIdeal.main (F := Ideal))) ⟨m, fun _ => 0, g⟩ (fun r => ∀ c : Dev Cert.MlaUqIdeal.nD,
          r.2.mem ((c.tc : Thread Cert.MlaUqIdeal.nD Cert.MlaUqIdeal.τ).loc Cert.MlaUqIdeal.main_v2) = v0 c
          ∧ r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
          ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ θ_run (Cert.MlaUqReferenceIdeal.defs (F := Ideal)) (onTc (τ := Cert.MlaUqReferenceIdeal.τ) (Cert.MlaUqReferenceIdeal.main (F := Ideal))) ⟨m', fun _ => 0, g'⟩ (fun r => ∀ c : Dev Cert.MlaUqReferenceIdeal.nD,
          r.2.mem ((c.tc : Thread Cert.MlaUqReferenceIdeal.nD Cert.MlaUqReferenceIdeal.τ).loc Cert.MlaUqReferenceIdeal.main_v2) = v0 c
          ∧ r.2.mem ((c.tc : Thread Cert.MlaUqReferenceIdeal.nD Cert.MlaUqReferenceIdeal.τ).loc Cert.MlaUqReferenceIdeal.main_arg0) = m' ((c.tc : Thread Cert.MlaUqReferenceIdeal.nD Cert.MlaUqReferenceIdeal.τ).loc Cert.MlaUqReferenceIdeal.main_arg0)
          ∧ r.2.mem ((c.tc : Thread Cert.MlaUqReferenceIdeal.nD Cert.MlaUqReferenceIdeal.τ).loc Cert.MlaUqReferenceIdeal.main_arg1) = m' ((c.tc : Thread Cert.MlaUqReferenceIdeal.nD Cert.MlaUqReferenceIdeal.τ).loc Cert.MlaUqReferenceIdeal.main_arg1))

def preserves_MlaDcKv_MlaDcKvIdeal : Prop :=
  True

def algebraic_MlaDcKvIdeal_MlaDcKvReferenceIdeal [hMlaDcKvIdeal : Cert.MlaDcKvIdeal.Facts] [hMlaDcKvReferenceIdeal : Cert.MlaDcKvReferenceIdeal.Facts] : Prop :=
  ∀ (m : (ℓ : Loc Cert.MlaDcKvIdeal.nD Cert.MlaDcKvIdeal.τ Cert.MlaDcKvIdeal.sig) → Buf (Elt Ideal) ℓ) (g : Dev Cert.MlaDcKvIdeal.nD → PrngReg)
    (m' : (ℓ : Loc Cert.MlaDcKvReferenceIdeal.nD Cert.MlaDcKvReferenceIdeal.τ Cert.MlaDcKvReferenceIdeal.sig) → Buf (Elt Ideal) ℓ) (g' : Dev Cert.MlaDcKvReferenceIdeal.nD → PrngReg), Pre_MlaDcKvIdeal m →
    (∀ c : Dev Cert.MlaDcKvIdeal.nD,
      m' ((c.tc : Thread Cert.MlaDcKvReferenceIdeal.nD Cert.MlaDcKvReferenceIdeal.τ).loc Cert.MlaDcKvReferenceIdeal.main_arg0) = m ((c.tc : Thread Cert.MlaDcKvIdeal.nD Cert.MlaDcKvIdeal.τ).loc Cert.MlaDcKvIdeal.main_arg0)
      ∧ m' ((c.tc : Thread Cert.MlaDcKvReferenceIdeal.nD Cert.MlaDcKvReferenceIdeal.τ).loc Cert.MlaDcKvReferenceIdeal.main_arg1) = m ((c.tc : Thread Cert.MlaDcKvIdeal.nD Cert.MlaDcKvIdeal.τ).loc Cert.MlaDcKvIdeal.main_arg1)
      ∧ m' ((c.tc : Thread Cert.MlaDcKvReferenceIdeal.nD Cert.MlaDcKvReferenceIdeal.τ).loc Cert.MlaDcKvReferenceIdeal.main_arg2) = m ((c.tc : Thread Cert.MlaDcKvIdeal.nD Cert.MlaDcKvIdeal.τ).loc Cert.MlaDcKvIdeal.main_arg2)) →
    ∃ (v0 : (c : Dev Cert.MlaDcKvIdeal.nD) → Buf (Elt Ideal) ((c.tc : Thread Cert.MlaDcKvIdeal.nD Cert.MlaDcKvIdeal.τ).loc Cert.MlaDcKvIdeal.main_v2)),
      θ_run (Cert.MlaDcKvIdeal.defs (F := Ideal)) (onTc (τ := Cert.MlaDcKvIdeal.τ) (Cert.MlaDcKvIdeal.main (F := Ideal))) ⟨m, fun _ => 0, g⟩ (fun r => ∀ c : Dev Cert.MlaDcKvIdeal.nD,
          r.2.mem ((c.tc : Thread Cert.MlaDcKvIdeal.nD Cert.MlaDcKvIdeal.τ).loc Cert.MlaDcKvIdeal.main_v2) = v0 c
          ∧ r.2.mem ((c.tc : Thread Cert.MlaDcKvIdeal.nD Cert.MlaDcKvIdeal.τ).loc Cert.MlaDcKvIdeal.main_arg0) = m ((c.tc : Thread Cert.MlaDcKvIdeal.nD Cert.MlaDcKvIdeal.τ).loc Cert.MlaDcKvIdeal.main_arg0)
          ∧ r.2.mem ((c.tc : Thread Cert.MlaDcKvIdeal.nD Cert.MlaDcKvIdeal.τ).loc Cert.MlaDcKvIdeal.main_arg1) = m ((c.tc : Thread Cert.MlaDcKvIdeal.nD Cert.MlaDcKvIdeal.τ).loc Cert.MlaDcKvIdeal.main_arg1)
          ∧ r.2.mem ((c.tc : Thread Cert.MlaDcKvIdeal.nD Cert.MlaDcKvIdeal.τ).loc Cert.MlaDcKvIdeal.main_arg2) = m ((c.tc : Thread Cert.MlaDcKvIdeal.nD Cert.MlaDcKvIdeal.τ).loc Cert.MlaDcKvIdeal.main_arg2))
      ∧ θ_run (Cert.MlaDcKvReferenceIdeal.defs (F := Ideal)) (onTc (τ := Cert.MlaDcKvReferenceIdeal.τ) (Cert.MlaDcKvReferenceIdeal.main (F := Ideal))) ⟨m', fun _ => 0, g'⟩ (fun r => ∀ c : Dev Cert.MlaDcKvReferenceIdeal.nD,
          r.2.mem ((c.tc : Thread Cert.MlaDcKvReferenceIdeal.nD Cert.MlaDcKvReferenceIdeal.τ).loc Cert.MlaDcKvReferenceIdeal.main_v4) = v0 c
          ∧ r.2.mem ((c.tc : Thread Cert.MlaDcKvReferenceIdeal.nD Cert.MlaDcKvReferenceIdeal.τ).loc Cert.MlaDcKvReferenceIdeal.main_arg0) = m' ((c.tc : Thread Cert.MlaDcKvReferenceIdeal.nD Cert.MlaDcKvReferenceIdeal.τ).loc Cert.MlaDcKvReferenceIdeal.main_arg0)
          ∧ r.2.mem ((c.tc : Thread Cert.MlaDcKvReferenceIdeal.nD Cert.MlaDcKvReferenceIdeal.τ).loc Cert.MlaDcKvReferenceIdeal.main_arg1) = m' ((c.tc : Thread Cert.MlaDcKvReferenceIdeal.nD Cert.MlaDcKvReferenceIdeal.τ).loc Cert.MlaDcKvReferenceIdeal.main_arg1)
          ∧ r.2.mem ((c.tc : Thread Cert.MlaDcKvReferenceIdeal.nD Cert.MlaDcKvReferenceIdeal.τ).loc Cert.MlaDcKvReferenceIdeal.main_arg2) = m' ((c.tc : Thread Cert.MlaDcKvReferenceIdeal.nD Cert.MlaDcKvReferenceIdeal.τ).loc Cert.MlaDcKvReferenceIdeal.main_arg2))

def preserves_MlaDwUkv_MlaDwUkvIdeal : Prop :=
  True

def algebraic_MlaDwUkvIdeal_MlaDwUkvReferenceIdeal [hMlaDwUkvIdeal : Cert.MlaDwUkvIdeal.Facts] [hMlaDwUkvReferenceIdeal : Cert.MlaDwUkvReferenceIdeal.Facts] : Prop :=
  ∀ (m : (ℓ : Loc Cert.MlaDwUkvIdeal.nD Cert.MlaDwUkvIdeal.τ Cert.MlaDwUkvIdeal.sig) → Buf (Elt Ideal) ℓ) (g : Dev Cert.MlaDwUkvIdeal.nD → PrngReg)
    (m' : (ℓ : Loc Cert.MlaDwUkvReferenceIdeal.nD Cert.MlaDwUkvReferenceIdeal.τ Cert.MlaDwUkvReferenceIdeal.sig) → Buf (Elt Ideal) ℓ) (g' : Dev Cert.MlaDwUkvReferenceIdeal.nD → PrngReg), Pre_MlaDwUkvIdeal m →
    (∀ c : Dev Cert.MlaDwUkvIdeal.nD,
      m' ((c.tc : Thread Cert.MlaDwUkvReferenceIdeal.nD Cert.MlaDwUkvReferenceIdeal.τ).loc Cert.MlaDwUkvReferenceIdeal.main_arg0) = m ((c.tc : Thread Cert.MlaDwUkvIdeal.nD Cert.MlaDwUkvIdeal.τ).loc Cert.MlaDwUkvIdeal.main_arg0)
      ∧ m' ((c.tc : Thread Cert.MlaDwUkvReferenceIdeal.nD Cert.MlaDwUkvReferenceIdeal.τ).loc Cert.MlaDwUkvReferenceIdeal.main_arg1) = m ((c.tc : Thread Cert.MlaDwUkvIdeal.nD Cert.MlaDwUkvIdeal.τ).loc Cert.MlaDwUkvIdeal.main_arg1)
      ∧ m' ((c.tc : Thread Cert.MlaDwUkvReferenceIdeal.nD Cert.MlaDwUkvReferenceIdeal.τ).loc Cert.MlaDwUkvReferenceIdeal.main_arg2) = m ((c.tc : Thread Cert.MlaDwUkvIdeal.nD Cert.MlaDwUkvIdeal.τ).loc Cert.MlaDwUkvIdeal.main_arg2)) →
    ∃ (v0 : (c : Dev Cert.MlaDwUkvIdeal.nD) → Buf (Elt Ideal) ((c.tc : Thread Cert.MlaDwUkvIdeal.nD Cert.MlaDwUkvIdeal.τ).loc Cert.MlaDwUkvIdeal.main_v0)),
      θ_run (Cert.MlaDwUkvIdeal.defs (F := Ideal)) (onTc (τ := Cert.MlaDwUkvIdeal.τ) (Cert.MlaDwUkvIdeal.main (F := Ideal))) ⟨m, fun _ => 0, g⟩ (fun r => ∀ c : Dev Cert.MlaDwUkvIdeal.nD,
          r.2.mem ((c.tc : Thread Cert.MlaDwUkvIdeal.nD Cert.MlaDwUkvIdeal.τ).loc Cert.MlaDwUkvIdeal.main_v0) = v0 c
          ∧ r.2.mem ((c.tc : Thread Cert.MlaDwUkvIdeal.nD Cert.MlaDwUkvIdeal.τ).loc Cert.MlaDwUkvIdeal.main_arg0) = m ((c.tc : Thread Cert.MlaDwUkvIdeal.nD Cert.MlaDwUkvIdeal.τ).loc Cert.MlaDwUkvIdeal.main_arg0)
          ∧ r.2.mem ((c.tc : Thread Cert.MlaDwUkvIdeal.nD Cert.MlaDwUkvIdeal.τ).loc Cert.MlaDwUkvIdeal.main_arg1) = m ((c.tc : Thread Cert.MlaDwUkvIdeal.nD Cert.MlaDwUkvIdeal.τ).loc Cert.MlaDwUkvIdeal.main_arg1)
          ∧ r.2.mem ((c.tc : Thread Cert.MlaDwUkvIdeal.nD Cert.MlaDwUkvIdeal.τ).loc Cert.MlaDwUkvIdeal.main_arg2) = m ((c.tc : Thread Cert.MlaDwUkvIdeal.nD Cert.MlaDwUkvIdeal.τ).loc Cert.MlaDwUkvIdeal.main_arg2))
      ∧ θ_run (Cert.MlaDwUkvReferenceIdeal.defs (F := Ideal)) (onTc (τ := Cert.MlaDwUkvReferenceIdeal.τ) (Cert.MlaDwUkvReferenceIdeal.main (F := Ideal))) ⟨m', fun _ => 0, g'⟩ (fun r => ∀ c : Dev Cert.MlaDwUkvReferenceIdeal.nD,
          r.2.mem ((c.tc : Thread Cert.MlaDwUkvReferenceIdeal.nD Cert.MlaDwUkvReferenceIdeal.τ).loc Cert.MlaDwUkvReferenceIdeal.main_v8) = v0 c
          ∧ r.2.mem ((c.tc : Thread Cert.MlaDwUkvReferenceIdeal.nD Cert.MlaDwUkvReferenceIdeal.τ).loc Cert.MlaDwUkvReferenceIdeal.main_arg0) = m' ((c.tc : Thread Cert.MlaDwUkvReferenceIdeal.nD Cert.MlaDwUkvReferenceIdeal.τ).loc Cert.MlaDwUkvReferenceIdeal.main_arg0)
          ∧ r.2.mem ((c.tc : Thread Cert.MlaDwUkvReferenceIdeal.nD Cert.MlaDwUkvReferenceIdeal.τ).loc Cert.MlaDwUkvReferenceIdeal.main_arg1) = m' ((c.tc : Thread Cert.MlaDwUkvReferenceIdeal.nD Cert.MlaDwUkvReferenceIdeal.τ).loc Cert.MlaDwUkvReferenceIdeal.main_arg1)
          ∧ r.2.mem ((c.tc : Thread Cert.MlaDwUkvReferenceIdeal.nD Cert.MlaDwUkvReferenceIdeal.τ).loc Cert.MlaDwUkvReferenceIdeal.main_arg2) = m' ((c.tc : Thread Cert.MlaDwUkvReferenceIdeal.nD Cert.MlaDwUkvReferenceIdeal.τ).loc Cert.MlaDwUkvReferenceIdeal.main_arg2))

def preserves_MlaUkv_MlaUkvIdeal : Prop :=
  True

def algebraic_MlaUkvIdeal_MlaUkvReferenceIdeal [hMlaUkvIdeal : Cert.MlaUkvIdeal.Facts] [hMlaUkvReferenceIdeal : Cert.MlaUkvReferenceIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg)
    (m' : (ℓ : Loc Cert.MlaUkvReferenceIdeal.nD Cert.MlaUkvReferenceIdeal.τ Cert.MlaUkvReferenceIdeal.sig) → Buf (Elt Ideal) ℓ) (g' : Dev Cert.MlaUkvReferenceIdeal.nD → PrngReg), Pre_MlaUkvIdeal m →
    (∀ c : Dev Cert.MlaUkvIdeal.nD,
      m' ((c.tc : Thread Cert.MlaUkvReferenceIdeal.nD Cert.MlaUkvReferenceIdeal.τ).loc Cert.MlaUkvReferenceIdeal.main_arg0) = m ((c.tc : Thread Cert.MlaUkvIdeal.nD Cert.MlaUkvIdeal.τ).loc Cert.MlaUkvIdeal.main_arg0)
      ∧ m' ((c.tc : Thread Cert.MlaUkvReferenceIdeal.nD Cert.MlaUkvReferenceIdeal.τ).loc Cert.MlaUkvReferenceIdeal.main_arg1) = m ((c.tc : Thread Cert.MlaUkvIdeal.nD Cert.MlaUkvIdeal.τ).loc Cert.MlaUkvIdeal.main_arg1)) →
    ∃ (v0 : (c : Dev Cert.MlaUkvIdeal.nD) → Buf (Elt Ideal) ((c.tc : Thread Cert.MlaUkvIdeal.nD Cert.MlaUkvIdeal.τ).loc Cert.MlaUkvIdeal.main_v2)),
      θ_run (Cert.MlaUkvIdeal.defs (F := Ideal)) (onTc (τ := Cert.MlaUkvIdeal.τ) (Cert.MlaUkvIdeal.main (F := Ideal))) ⟨m, fun _ => 0, g⟩ (fun r => ∀ c : Dev Cert.MlaUkvIdeal.nD,
          r.2.mem ((c.tc : Thread Cert.MlaUkvIdeal.nD Cert.MlaUkvIdeal.τ).loc Cert.MlaUkvIdeal.main_v2) = v0 c
          ∧ r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
          ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ θ_run (Cert.MlaUkvReferenceIdeal.defs (F := Ideal)) (onTc (τ := Cert.MlaUkvReferenceIdeal.τ) (Cert.MlaUkvReferenceIdeal.main (F := Ideal))) ⟨m', fun _ => 0, g'⟩ (fun r => ∀ c : Dev Cert.MlaUkvReferenceIdeal.nD,
          r.2.mem ((c.tc : Thread Cert.MlaUkvReferenceIdeal.nD Cert.MlaUkvReferenceIdeal.τ).loc Cert.MlaUkvReferenceIdeal.main_v2) = v0 c
          ∧ r.2.mem ((c.tc : Thread Cert.MlaUkvReferenceIdeal.nD Cert.MlaUkvReferenceIdeal.τ).loc Cert.MlaUkvReferenceIdeal.main_arg0) = m' ((c.tc : Thread Cert.MlaUkvReferenceIdeal.nD Cert.MlaUkvReferenceIdeal.τ).loc Cert.MlaUkvReferenceIdeal.main_arg0)
          ∧ r.2.mem ((c.tc : Thread Cert.MlaUkvReferenceIdeal.nD Cert.MlaUkvReferenceIdeal.τ).loc Cert.MlaUkvReferenceIdeal.main_arg1) = m' ((c.tc : Thread Cert.MlaUkvReferenceIdeal.nD Cert.MlaUkvReferenceIdeal.τ).loc Cert.MlaUkvReferenceIdeal.main_arg1))

def preserves_StepNorm_StepNormIdeal : Prop :=
  True

def algebraic_StepNormIdeal_StepNormReferenceIdeal [hStepNormIdeal : Cert.StepNormIdeal.Facts] [hStepNormReferenceIdeal : Cert.StepNormReferenceIdeal.Facts] : Prop :=
  ∀ (m : (ℓ : Loc Cert.StepNormIdeal.nD Cert.StepNormIdeal.τ Cert.StepNormIdeal.sig) → Buf (Elt Ideal) ℓ) (g : Dev Cert.StepNormIdeal.nD → PrngReg)
    (m' : (ℓ : Loc Cert.StepNormReferenceIdeal.nD Cert.StepNormReferenceIdeal.τ Cert.StepNormReferenceIdeal.sig) → Buf (Elt Ideal) ℓ) (g' : Dev Cert.StepNormReferenceIdeal.nD → PrngReg), Pre_StepNormIdeal m →
    (∀ c : Dev Cert.StepNormIdeal.nD,
      m' ((c.tc : Thread Cert.StepNormReferenceIdeal.nD Cert.StepNormReferenceIdeal.τ).loc Cert.StepNormReferenceIdeal.main_arg0) = m ((c.tc : Thread Cert.StepNormIdeal.nD Cert.StepNormIdeal.τ).loc Cert.StepNormIdeal.main_arg0)
      ∧ m' ((c.tc : Thread Cert.StepNormReferenceIdeal.nD Cert.StepNormReferenceIdeal.τ).loc Cert.StepNormReferenceIdeal.main_arg1) = m ((c.tc : Thread Cert.StepNormIdeal.nD Cert.StepNormIdeal.τ).loc Cert.StepNormIdeal.main_arg1)
      ∧ m' ((c.tc : Thread Cert.StepNormReferenceIdeal.nD Cert.StepNormReferenceIdeal.τ).loc Cert.StepNormReferenceIdeal.main_arg2) = m ((c.tc : Thread Cert.StepNormIdeal.nD Cert.StepNormIdeal.τ).loc Cert.StepNormIdeal.main_arg2)
      ∧ m' ((c.tc : Thread Cert.StepNormReferenceIdeal.nD Cert.StepNormReferenceIdeal.τ).loc Cert.StepNormReferenceIdeal.main_arg3) = m ((c.tc : Thread Cert.StepNormIdeal.nD Cert.StepNormIdeal.τ).loc Cert.StepNormIdeal.main_arg3)) →
    ∃ (v0 : (c : Dev Cert.StepNormIdeal.nD) → Buf (Elt Ideal) ((c.tc : Thread Cert.StepNormIdeal.nD Cert.StepNormIdeal.τ).loc Cert.StepNormIdeal.main_v0_0)) (v1 : (c : Dev Cert.StepNormIdeal.nD) → Buf (Elt Ideal) ((c.tc : Thread Cert.StepNormIdeal.nD Cert.StepNormIdeal.τ).loc Cert.StepNormIdeal.main_v0_1)) (v2 : (c : Dev Cert.StepNormIdeal.nD) → Buf (Elt Ideal) ((c.tc : Thread Cert.StepNormIdeal.nD Cert.StepNormIdeal.τ).loc Cert.StepNormIdeal.main_v0_2)),
      θ_run (Cert.StepNormIdeal.defs (F := Ideal)) (onTc (τ := Cert.StepNormIdeal.τ) (Cert.StepNormIdeal.main (F := Ideal))) ⟨m, fun _ => 0, g⟩ (fun r => ∀ c : Dev Cert.StepNormIdeal.nD,
          r.2.mem ((c.tc : Thread Cert.StepNormIdeal.nD Cert.StepNormIdeal.τ).loc Cert.StepNormIdeal.main_v0_0) = v0 c
          ∧ r.2.mem ((c.tc : Thread Cert.StepNormIdeal.nD Cert.StepNormIdeal.τ).loc Cert.StepNormIdeal.main_v0_1) = v1 c
          ∧ r.2.mem ((c.tc : Thread Cert.StepNormIdeal.nD Cert.StepNormIdeal.τ).loc Cert.StepNormIdeal.main_v0_2) = v2 c
          ∧ r.2.mem ((c.tc : Thread Cert.StepNormIdeal.nD Cert.StepNormIdeal.τ).loc Cert.StepNormIdeal.main_arg0) = m ((c.tc : Thread Cert.StepNormIdeal.nD Cert.StepNormIdeal.τ).loc Cert.StepNormIdeal.main_arg0)
          ∧ r.2.mem ((c.tc : Thread Cert.StepNormIdeal.nD Cert.StepNormIdeal.τ).loc Cert.StepNormIdeal.main_arg1) = m ((c.tc : Thread Cert.StepNormIdeal.nD Cert.StepNormIdeal.τ).loc Cert.StepNormIdeal.main_arg1)
          ∧ r.2.mem ((c.tc : Thread Cert.StepNormIdeal.nD Cert.StepNormIdeal.τ).loc Cert.StepNormIdeal.main_arg2) = m ((c.tc : Thread Cert.StepNormIdeal.nD Cert.StepNormIdeal.τ).loc Cert.StepNormIdeal.main_arg2)
          ∧ r.2.mem ((c.tc : Thread Cert.StepNormIdeal.nD Cert.StepNormIdeal.τ).loc Cert.StepNormIdeal.main_arg3) = m ((c.tc : Thread Cert.StepNormIdeal.nD Cert.StepNormIdeal.τ).loc Cert.StepNormIdeal.main_arg3))
      ∧ θ_run (Cert.StepNormReferenceIdeal.defs (F := Ideal)) (onTc (τ := Cert.StepNormReferenceIdeal.τ) (Cert.StepNormReferenceIdeal.main (F := Ideal))) ⟨m', fun _ => 0, g'⟩ (fun r => ∀ c : Dev Cert.StepNormReferenceIdeal.nD,
          r.2.mem ((c.tc : Thread Cert.StepNormReferenceIdeal.nD Cert.StepNormReferenceIdeal.τ).loc Cert.StepNormReferenceIdeal.main_v23) = v0 c
          ∧ r.2.mem ((c.tc : Thread Cert.StepNormReferenceIdeal.nD Cert.StepNormReferenceIdeal.τ).loc Cert.StepNormReferenceIdeal.main_v4) = v1 c
          ∧ r.2.mem ((c.tc : Thread Cert.StepNormReferenceIdeal.nD Cert.StepNormReferenceIdeal.τ).loc Cert.StepNormReferenceIdeal.main_v10) = v2 c
          ∧ r.2.mem ((c.tc : Thread Cert.StepNormReferenceIdeal.nD Cert.StepNormReferenceIdeal.τ).loc Cert.StepNormReferenceIdeal.main_arg0) = m' ((c.tc : Thread Cert.StepNormReferenceIdeal.nD Cert.StepNormReferenceIdeal.τ).loc Cert.StepNormReferenceIdeal.main_arg0)
          ∧ r.2.mem ((c.tc : Thread Cert.StepNormReferenceIdeal.nD Cert.StepNormReferenceIdeal.τ).loc Cert.StepNormReferenceIdeal.main_arg1) = m' ((c.tc : Thread Cert.StepNormReferenceIdeal.nD Cert.StepNormReferenceIdeal.τ).loc Cert.StepNormReferenceIdeal.main_arg1)
          ∧ r.2.mem ((c.tc : Thread Cert.StepNormReferenceIdeal.nD Cert.StepNormReferenceIdeal.τ).loc Cert.StepNormReferenceIdeal.main_arg2) = m' ((c.tc : Thread Cert.StepNormReferenceIdeal.nD Cert.StepNormReferenceIdeal.τ).loc Cert.StepNormReferenceIdeal.main_arg2)
          ∧ r.2.mem ((c.tc : Thread Cert.StepNormReferenceIdeal.nD Cert.StepNormReferenceIdeal.τ).loc Cert.StepNormReferenceIdeal.main_arg3) = m' ((c.tc : Thread Cert.StepNormReferenceIdeal.nD Cert.StepNormReferenceIdeal.τ).loc Cert.StepNormReferenceIdeal.main_arg3))

def preserves_StepBias_StepBiasIdeal : Prop :=
  True

def algebraic_StepBiasIdeal_StepBiasReferenceIdeal [hStepBiasIdeal : Cert.StepBiasIdeal.Facts] [hStepBiasReferenceIdeal : Cert.StepBiasReferenceIdeal.Facts] : Prop :=
  ∀ (m : (ℓ : Loc Cert.StepBiasIdeal.nD Cert.StepBiasIdeal.τ Cert.StepBiasIdeal.sig) → Buf (Elt Ideal) ℓ) (g : Dev Cert.StepBiasIdeal.nD → PrngReg)
    (m' : (ℓ : Loc Cert.StepBiasReferenceIdeal.nD Cert.StepBiasReferenceIdeal.τ Cert.StepBiasReferenceIdeal.sig) → Buf (Elt Ideal) ℓ) (g' : Dev Cert.StepBiasReferenceIdeal.nD → PrngReg), Pre_StepBiasIdeal m →
    (∀ c : Dev Cert.StepBiasIdeal.nD,
      m' ((c.tc : Thread Cert.StepBiasReferenceIdeal.nD Cert.StepBiasReferenceIdeal.τ).loc Cert.StepBiasReferenceIdeal.main_arg0) = m ((c.tc : Thread Cert.StepBiasIdeal.nD Cert.StepBiasIdeal.τ).loc Cert.StepBiasIdeal.main_arg0)
      ∧ m' ((c.tc : Thread Cert.StepBiasReferenceIdeal.nD Cert.StepBiasReferenceIdeal.τ).loc Cert.StepBiasReferenceIdeal.main_arg1) = m ((c.tc : Thread Cert.StepBiasIdeal.nD Cert.StepBiasIdeal.τ).loc Cert.StepBiasIdeal.main_arg1)
      ∧ m' ((c.tc : Thread Cert.StepBiasReferenceIdeal.nD Cert.StepBiasReferenceIdeal.τ).loc Cert.StepBiasReferenceIdeal.main_arg2) = m ((c.tc : Thread Cert.StepBiasIdeal.nD Cert.StepBiasIdeal.τ).loc Cert.StepBiasIdeal.main_arg2)
      ∧ m' ((c.tc : Thread Cert.StepBiasReferenceIdeal.nD Cert.StepBiasReferenceIdeal.τ).loc Cert.StepBiasReferenceIdeal.main_arg3) = m ((c.tc : Thread Cert.StepBiasIdeal.nD Cert.StepBiasIdeal.τ).loc Cert.StepBiasIdeal.main_arg3)) →
    ∃ (v0 : (c : Dev Cert.StepBiasIdeal.nD) → Buf (Elt Ideal) ((c.tc : Thread Cert.StepBiasIdeal.nD Cert.StepBiasIdeal.τ).loc Cert.StepBiasIdeal.main_v0_0)) (v1 : (c : Dev Cert.StepBiasIdeal.nD) → Buf (Elt Ideal) ((c.tc : Thread Cert.StepBiasIdeal.nD Cert.StepBiasIdeal.τ).loc Cert.StepBiasIdeal.main_v0_1)) (v2 : (c : Dev Cert.StepBiasIdeal.nD) → Buf (Elt Ideal) ((c.tc : Thread Cert.StepBiasIdeal.nD Cert.StepBiasIdeal.τ).loc Cert.StepBiasIdeal.main_v0_2)),
      θ_run (Cert.StepBiasIdeal.defs (F := Ideal)) (onTc (τ := Cert.StepBiasIdeal.τ) (Cert.StepBiasIdeal.main (F := Ideal))) ⟨m, fun _ => 0, g⟩ (fun r => ∀ c : Dev Cert.StepBiasIdeal.nD,
          r.2.mem ((c.tc : Thread Cert.StepBiasIdeal.nD Cert.StepBiasIdeal.τ).loc Cert.StepBiasIdeal.main_v0_0) = v0 c
          ∧ r.2.mem ((c.tc : Thread Cert.StepBiasIdeal.nD Cert.StepBiasIdeal.τ).loc Cert.StepBiasIdeal.main_v0_1) = v1 c
          ∧ r.2.mem ((c.tc : Thread Cert.StepBiasIdeal.nD Cert.StepBiasIdeal.τ).loc Cert.StepBiasIdeal.main_v0_2) = v2 c
          ∧ r.2.mem ((c.tc : Thread Cert.StepBiasIdeal.nD Cert.StepBiasIdeal.τ).loc Cert.StepBiasIdeal.main_arg0) = m ((c.tc : Thread Cert.StepBiasIdeal.nD Cert.StepBiasIdeal.τ).loc Cert.StepBiasIdeal.main_arg0)
          ∧ r.2.mem ((c.tc : Thread Cert.StepBiasIdeal.nD Cert.StepBiasIdeal.τ).loc Cert.StepBiasIdeal.main_arg1) = m ((c.tc : Thread Cert.StepBiasIdeal.nD Cert.StepBiasIdeal.τ).loc Cert.StepBiasIdeal.main_arg1)
          ∧ r.2.mem ((c.tc : Thread Cert.StepBiasIdeal.nD Cert.StepBiasIdeal.τ).loc Cert.StepBiasIdeal.main_arg2) = m ((c.tc : Thread Cert.StepBiasIdeal.nD Cert.StepBiasIdeal.τ).loc Cert.StepBiasIdeal.main_arg2)
          ∧ r.2.mem ((c.tc : Thread Cert.StepBiasIdeal.nD Cert.StepBiasIdeal.τ).loc Cert.StepBiasIdeal.main_arg3) = m ((c.tc : Thread Cert.StepBiasIdeal.nD Cert.StepBiasIdeal.τ).loc Cert.StepBiasIdeal.main_arg3))
      ∧ θ_run (Cert.StepBiasReferenceIdeal.defs (F := Ideal)) (onTc (τ := Cert.StepBiasReferenceIdeal.τ) (Cert.StepBiasReferenceIdeal.main (F := Ideal))) ⟨m', fun _ => 0, g'⟩ (fun r => ∀ c : Dev Cert.StepBiasReferenceIdeal.nD,
          r.2.mem ((c.tc : Thread Cert.StepBiasReferenceIdeal.nD Cert.StepBiasReferenceIdeal.τ).loc Cert.StepBiasReferenceIdeal.main_v23) = v0 c
          ∧ r.2.mem ((c.tc : Thread Cert.StepBiasReferenceIdeal.nD Cert.StepBiasReferenceIdeal.τ).loc Cert.StepBiasReferenceIdeal.main_v4) = v1 c
          ∧ r.2.mem ((c.tc : Thread Cert.StepBiasReferenceIdeal.nD Cert.StepBiasReferenceIdeal.τ).loc Cert.StepBiasReferenceIdeal.main_v10) = v2 c
          ∧ r.2.mem ((c.tc : Thread Cert.StepBiasReferenceIdeal.nD Cert.StepBiasReferenceIdeal.τ).loc Cert.StepBiasReferenceIdeal.main_arg0) = m' ((c.tc : Thread Cert.StepBiasReferenceIdeal.nD Cert.StepBiasReferenceIdeal.τ).loc Cert.StepBiasReferenceIdeal.main_arg0)
          ∧ r.2.mem ((c.tc : Thread Cert.StepBiasReferenceIdeal.nD Cert.StepBiasReferenceIdeal.τ).loc Cert.StepBiasReferenceIdeal.main_arg1) = m' ((c.tc : Thread Cert.StepBiasReferenceIdeal.nD Cert.StepBiasReferenceIdeal.τ).loc Cert.StepBiasReferenceIdeal.main_arg1)
          ∧ r.2.mem ((c.tc : Thread Cert.StepBiasReferenceIdeal.nD Cert.StepBiasReferenceIdeal.τ).loc Cert.StepBiasReferenceIdeal.main_arg2) = m' ((c.tc : Thread Cert.StepBiasReferenceIdeal.nD Cert.StepBiasReferenceIdeal.τ).loc Cert.StepBiasReferenceIdeal.main_arg2)
          ∧ r.2.mem ((c.tc : Thread Cert.StepBiasReferenceIdeal.nD Cert.StepBiasReferenceIdeal.τ).loc Cert.StepBiasReferenceIdeal.main_arg3) = m' ((c.tc : Thread Cert.StepBiasReferenceIdeal.nD Cert.StepBiasReferenceIdeal.τ).loc Cert.StepBiasReferenceIdeal.main_arg3))

def preserves_StepGain_StepGainIdeal : Prop :=
  True

def algebraic_StepGainIdeal_StepGainReferenceIdeal [hStepGainIdeal : Cert.StepGainIdeal.Facts] [hStepGainReferenceIdeal : Cert.StepGainReferenceIdeal.Facts] : Prop :=
  ∀ (m : (ℓ : Loc Cert.StepGainIdeal.nD Cert.StepGainIdeal.τ Cert.StepGainIdeal.sig) → Buf (Elt Ideal) ℓ) (g : Dev Cert.StepGainIdeal.nD → PrngReg)
    (m' : (ℓ : Loc Cert.StepGainReferenceIdeal.nD Cert.StepGainReferenceIdeal.τ Cert.StepGainReferenceIdeal.sig) → Buf (Elt Ideal) ℓ) (g' : Dev Cert.StepGainReferenceIdeal.nD → PrngReg), Pre_StepGainIdeal m →
    (∀ c : Dev Cert.StepGainIdeal.nD,
      m' ((c.tc : Thread Cert.StepGainReferenceIdeal.nD Cert.StepGainReferenceIdeal.τ).loc Cert.StepGainReferenceIdeal.main_arg0) = m ((c.tc : Thread Cert.StepGainIdeal.nD Cert.StepGainIdeal.τ).loc Cert.StepGainIdeal.main_arg0)
      ∧ m' ((c.tc : Thread Cert.StepGainReferenceIdeal.nD Cert.StepGainReferenceIdeal.τ).loc Cert.StepGainReferenceIdeal.main_arg1) = m ((c.tc : Thread Cert.StepGainIdeal.nD Cert.StepGainIdeal.τ).loc Cert.StepGainIdeal.main_arg1)
      ∧ m' ((c.tc : Thread Cert.StepGainReferenceIdeal.nD Cert.StepGainReferenceIdeal.τ).loc Cert.StepGainReferenceIdeal.main_arg2) = m ((c.tc : Thread Cert.StepGainIdeal.nD Cert.StepGainIdeal.τ).loc Cert.StepGainIdeal.main_arg2)
      ∧ m' ((c.tc : Thread Cert.StepGainReferenceIdeal.nD Cert.StepGainReferenceIdeal.τ).loc Cert.StepGainReferenceIdeal.main_arg3) = m ((c.tc : Thread Cert.StepGainIdeal.nD Cert.StepGainIdeal.τ).loc Cert.StepGainIdeal.main_arg3)) →
    ∃ (v0 : (c : Dev Cert.StepGainIdeal.nD) → Buf (Elt Ideal) ((c.tc : Thread Cert.StepGainIdeal.nD Cert.StepGainIdeal.τ).loc Cert.StepGainIdeal.main_v0_0)) (v1 : (c : Dev Cert.StepGainIdeal.nD) → Buf (Elt Ideal) ((c.tc : Thread Cert.StepGainIdeal.nD Cert.StepGainIdeal.τ).loc Cert.StepGainIdeal.main_v0_1)) (v2 : (c : Dev Cert.StepGainIdeal.nD) → Buf (Elt Ideal) ((c.tc : Thread Cert.StepGainIdeal.nD Cert.StepGainIdeal.τ).loc Cert.StepGainIdeal.main_v0_2)),
      θ_run (Cert.StepGainIdeal.defs (F := Ideal)) (onTc (τ := Cert.StepGainIdeal.τ) (Cert.StepGainIdeal.main (F := Ideal))) ⟨m, fun _ => 0, g⟩ (fun r => ∀ c : Dev Cert.StepGainIdeal.nD,
          r.2.mem ((c.tc : Thread Cert.StepGainIdeal.nD Cert.StepGainIdeal.τ).loc Cert.StepGainIdeal.main_v0_0) = v0 c
          ∧ r.2.mem ((c.tc : Thread Cert.StepGainIdeal.nD Cert.StepGainIdeal.τ).loc Cert.StepGainIdeal.main_v0_1) = v1 c
          ∧ r.2.mem ((c.tc : Thread Cert.StepGainIdeal.nD Cert.StepGainIdeal.τ).loc Cert.StepGainIdeal.main_v0_2) = v2 c
          ∧ r.2.mem ((c.tc : Thread Cert.StepGainIdeal.nD Cert.StepGainIdeal.τ).loc Cert.StepGainIdeal.main_arg0) = m ((c.tc : Thread Cert.StepGainIdeal.nD Cert.StepGainIdeal.τ).loc Cert.StepGainIdeal.main_arg0)
          ∧ r.2.mem ((c.tc : Thread Cert.StepGainIdeal.nD Cert.StepGainIdeal.τ).loc Cert.StepGainIdeal.main_arg1) = m ((c.tc : Thread Cert.StepGainIdeal.nD Cert.StepGainIdeal.τ).loc Cert.StepGainIdeal.main_arg1)
          ∧ r.2.mem ((c.tc : Thread Cert.StepGainIdeal.nD Cert.StepGainIdeal.τ).loc Cert.StepGainIdeal.main_arg2) = m ((c.tc : Thread Cert.StepGainIdeal.nD Cert.StepGainIdeal.τ).loc Cert.StepGainIdeal.main_arg2)
          ∧ r.2.mem ((c.tc : Thread Cert.StepGainIdeal.nD Cert.StepGainIdeal.τ).loc Cert.StepGainIdeal.main_arg3) = m ((c.tc : Thread Cert.StepGainIdeal.nD Cert.StepGainIdeal.τ).loc Cert.StepGainIdeal.main_arg3))
      ∧ θ_run (Cert.StepGainReferenceIdeal.defs (F := Ideal)) (onTc (τ := Cert.StepGainReferenceIdeal.τ) (Cert.StepGainReferenceIdeal.main (F := Ideal))) ⟨m', fun _ => 0, g'⟩ (fun r => ∀ c : Dev Cert.StepGainReferenceIdeal.nD,
          r.2.mem ((c.tc : Thread Cert.StepGainReferenceIdeal.nD Cert.StepGainReferenceIdeal.τ).loc Cert.StepGainReferenceIdeal.main_v23) = v0 c
          ∧ r.2.mem ((c.tc : Thread Cert.StepGainReferenceIdeal.nD Cert.StepGainReferenceIdeal.τ).loc Cert.StepGainReferenceIdeal.main_v4) = v1 c
          ∧ r.2.mem ((c.tc : Thread Cert.StepGainReferenceIdeal.nD Cert.StepGainReferenceIdeal.τ).loc Cert.StepGainReferenceIdeal.main_v10) = v2 c
          ∧ r.2.mem ((c.tc : Thread Cert.StepGainReferenceIdeal.nD Cert.StepGainReferenceIdeal.τ).loc Cert.StepGainReferenceIdeal.main_arg0) = m' ((c.tc : Thread Cert.StepGainReferenceIdeal.nD Cert.StepGainReferenceIdeal.τ).loc Cert.StepGainReferenceIdeal.main_arg0)
          ∧ r.2.mem ((c.tc : Thread Cert.StepGainReferenceIdeal.nD Cert.StepGainReferenceIdeal.τ).loc Cert.StepGainReferenceIdeal.main_arg1) = m' ((c.tc : Thread Cert.StepGainReferenceIdeal.nD Cert.StepGainReferenceIdeal.τ).loc Cert.StepGainReferenceIdeal.main_arg1)
          ∧ r.2.mem ((c.tc : Thread Cert.StepGainReferenceIdeal.nD Cert.StepGainReferenceIdeal.τ).loc Cert.StepGainReferenceIdeal.main_arg2) = m' ((c.tc : Thread Cert.StepGainReferenceIdeal.nD Cert.StepGainReferenceIdeal.τ).loc Cert.StepGainReferenceIdeal.main_arg2)
          ∧ r.2.mem ((c.tc : Thread Cert.StepGainReferenceIdeal.nD Cert.StepGainReferenceIdeal.τ).loc Cert.StepGainReferenceIdeal.main_arg3) = m' ((c.tc : Thread Cert.StepGainReferenceIdeal.nD Cert.StepGainReferenceIdeal.τ).loc Cert.StepGainReferenceIdeal.main_arg3))

def preserves_StepRank_StepRankIdeal : Prop :=
  True

def algebraic_StepRankIdeal_StepRankReferenceIdeal [hStepRankIdeal : Cert.StepRankIdeal.Facts] [hStepRankReferenceIdeal : Cert.StepRankReferenceIdeal.Facts] : Prop :=
  ∀ (m : (ℓ : Loc Cert.StepRankIdeal.nD Cert.StepRankIdeal.τ Cert.StepRankIdeal.sig) → Buf (Elt Ideal) ℓ) (g : Dev Cert.StepRankIdeal.nD → PrngReg)
    (m' : (ℓ : Loc Cert.StepRankReferenceIdeal.nD Cert.StepRankReferenceIdeal.τ Cert.StepRankReferenceIdeal.sig) → Buf (Elt Ideal) ℓ) (g' : Dev Cert.StepRankReferenceIdeal.nD → PrngReg), Pre_StepRankIdeal m →
    (∀ c : Dev Cert.StepRankIdeal.nD,
      m' ((c.tc : Thread Cert.StepRankReferenceIdeal.nD Cert.StepRankReferenceIdeal.τ).loc Cert.StepRankReferenceIdeal.main_arg0) = m ((c.tc : Thread Cert.StepRankIdeal.nD Cert.StepRankIdeal.τ).loc Cert.StepRankIdeal.main_arg0)
      ∧ m' ((c.tc : Thread Cert.StepRankReferenceIdeal.nD Cert.StepRankReferenceIdeal.τ).loc Cert.StepRankReferenceIdeal.main_arg1) = m ((c.tc : Thread Cert.StepRankIdeal.nD Cert.StepRankIdeal.τ).loc Cert.StepRankIdeal.main_arg1)
      ∧ m' ((c.tc : Thread Cert.StepRankReferenceIdeal.nD Cert.StepRankReferenceIdeal.τ).loc Cert.StepRankReferenceIdeal.main_arg2) = m ((c.tc : Thread Cert.StepRankIdeal.nD Cert.StepRankIdeal.τ).loc Cert.StepRankIdeal.main_arg2)
      ∧ m' ((c.tc : Thread Cert.StepRankReferenceIdeal.nD Cert.StepRankReferenceIdeal.τ).loc Cert.StepRankReferenceIdeal.main_arg3) = m ((c.tc : Thread Cert.StepRankIdeal.nD Cert.StepRankIdeal.τ).loc Cert.StepRankIdeal.main_arg3)) →
    ∃ (v0 : (c : Dev Cert.StepRankIdeal.nD) → Buf (Elt Ideal) ((c.tc : Thread Cert.StepRankIdeal.nD Cert.StepRankIdeal.τ).loc Cert.StepRankIdeal.main_v0_0)) (v1 : (c : Dev Cert.StepRankIdeal.nD) → Buf (Elt Ideal) ((c.tc : Thread Cert.StepRankIdeal.nD Cert.StepRankIdeal.τ).loc Cert.StepRankIdeal.main_v0_1)) (v2 : (c : Dev Cert.StepRankIdeal.nD) → Buf (Elt Ideal) ((c.tc : Thread Cert.StepRankIdeal.nD Cert.StepRankIdeal.τ).loc Cert.StepRankIdeal.main_v0_2)),
      θ_run (Cert.StepRankIdeal.defs (F := Ideal)) (onTc (τ := Cert.StepRankIdeal.τ) (Cert.StepRankIdeal.main (F := Ideal))) ⟨m, fun _ => 0, g⟩ (fun r => ∀ c : Dev Cert.StepRankIdeal.nD,
          r.2.mem ((c.tc : Thread Cert.StepRankIdeal.nD Cert.StepRankIdeal.τ).loc Cert.StepRankIdeal.main_v0_0) = v0 c
          ∧ r.2.mem ((c.tc : Thread Cert.StepRankIdeal.nD Cert.StepRankIdeal.τ).loc Cert.StepRankIdeal.main_v0_1) = v1 c
          ∧ r.2.mem ((c.tc : Thread Cert.StepRankIdeal.nD Cert.StepRankIdeal.τ).loc Cert.StepRankIdeal.main_v0_2) = v2 c
          ∧ r.2.mem ((c.tc : Thread Cert.StepRankIdeal.nD Cert.StepRankIdeal.τ).loc Cert.StepRankIdeal.main_arg0) = m ((c.tc : Thread Cert.StepRankIdeal.nD Cert.StepRankIdeal.τ).loc Cert.StepRankIdeal.main_arg0)
          ∧ r.2.mem ((c.tc : Thread Cert.StepRankIdeal.nD Cert.StepRankIdeal.τ).loc Cert.StepRankIdeal.main_arg1) = m ((c.tc : Thread Cert.StepRankIdeal.nD Cert.StepRankIdeal.τ).loc Cert.StepRankIdeal.main_arg1)
          ∧ r.2.mem ((c.tc : Thread Cert.StepRankIdeal.nD Cert.StepRankIdeal.τ).loc Cert.StepRankIdeal.main_arg2) = m ((c.tc : Thread Cert.StepRankIdeal.nD Cert.StepRankIdeal.τ).loc Cert.StepRankIdeal.main_arg2)
          ∧ r.2.mem ((c.tc : Thread Cert.StepRankIdeal.nD Cert.StepRankIdeal.τ).loc Cert.StepRankIdeal.main_arg3) = m ((c.tc : Thread Cert.StepRankIdeal.nD Cert.StepRankIdeal.τ).loc Cert.StepRankIdeal.main_arg3))
      ∧ θ_run (Cert.StepRankReferenceIdeal.defs (F := Ideal)) (onTc (τ := Cert.StepRankReferenceIdeal.τ) (Cert.StepRankReferenceIdeal.main (F := Ideal))) ⟨m', fun _ => 0, g'⟩ (fun r => ∀ c : Dev Cert.StepRankReferenceIdeal.nD,
          r.2.mem ((c.tc : Thread Cert.StepRankReferenceIdeal.nD Cert.StepRankReferenceIdeal.τ).loc Cert.StepRankReferenceIdeal.main_v23) = v0 c
          ∧ r.2.mem ((c.tc : Thread Cert.StepRankReferenceIdeal.nD Cert.StepRankReferenceIdeal.τ).loc Cert.StepRankReferenceIdeal.main_v4) = v1 c
          ∧ r.2.mem ((c.tc : Thread Cert.StepRankReferenceIdeal.nD Cert.StepRankReferenceIdeal.τ).loc Cert.StepRankReferenceIdeal.main_v10) = v2 c
          ∧ r.2.mem ((c.tc : Thread Cert.StepRankReferenceIdeal.nD Cert.StepRankReferenceIdeal.τ).loc Cert.StepRankReferenceIdeal.main_arg0) = m' ((c.tc : Thread Cert.StepRankReferenceIdeal.nD Cert.StepRankReferenceIdeal.τ).loc Cert.StepRankReferenceIdeal.main_arg0)
          ∧ r.2.mem ((c.tc : Thread Cert.StepRankReferenceIdeal.nD Cert.StepRankReferenceIdeal.τ).loc Cert.StepRankReferenceIdeal.main_arg1) = m' ((c.tc : Thread Cert.StepRankReferenceIdeal.nD Cert.StepRankReferenceIdeal.τ).loc Cert.StepRankReferenceIdeal.main_arg1)
          ∧ r.2.mem ((c.tc : Thread Cert.StepRankReferenceIdeal.nD Cert.StepRankReferenceIdeal.τ).loc Cert.StepRankReferenceIdeal.main_arg2) = m' ((c.tc : Thread Cert.StepRankReferenceIdeal.nD Cert.StepRankReferenceIdeal.τ).loc Cert.StepRankReferenceIdeal.main_arg2)
          ∧ r.2.mem ((c.tc : Thread Cert.StepRankReferenceIdeal.nD Cert.StepRankReferenceIdeal.τ).loc Cert.StepRankReferenceIdeal.main_arg3) = m' ((c.tc : Thread Cert.StepRankReferenceIdeal.nD Cert.StepRankReferenceIdeal.τ).loc Cert.StepRankReferenceIdeal.main_arg3))

def preserves_StepOut_StepOutIdeal : Prop :=
  True

def algebraic_StepOutIdeal_StepOutReferenceIdeal [hStepOutIdeal : Cert.StepOutIdeal.Facts] [hStepOutReferenceIdeal : Cert.StepOutReferenceIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutIdeal m →
    (∀ c : Dev Cert.StepOutIdeal.nD,
      m' ((c.tc : Thread Cert.StepOutReferenceIdeal.nD Cert.StepOutReferenceIdeal.τ).loc Cert.StepOutReferenceIdeal.main_arg0) = m ((c.tc : Thread Cert.StepOutIdeal.nD Cert.StepOutIdeal.τ).loc Cert.StepOutIdeal.main_arg0)
      ∧ m' ((c.tc : Thread Cert.StepOutReferenceIdeal.nD Cert.StepOutReferenceIdeal.τ).loc Cert.StepOutReferenceIdeal.main_arg1) = m ((c.tc : Thread Cert.StepOutIdeal.nD Cert.StepOutIdeal.τ).loc Cert.StepOutIdeal.main_arg1)
      ∧ m' ((c.tc : Thread Cert.StepOutReferenceIdeal.nD Cert.StepOutReferenceIdeal.τ).loc Cert.StepOutReferenceIdeal.main_arg2) = m ((c.tc : Thread Cert.StepOutIdeal.nD Cert.StepOutIdeal.τ).loc Cert.StepOutIdeal.main_arg2)
      ∧ m' ((c.tc : Thread Cert.StepOutReferenceIdeal.nD Cert.StepOutReferenceIdeal.τ).loc Cert.StepOutReferenceIdeal.main_arg3) = m ((c.tc : Thread Cert.StepOutIdeal.nD Cert.StepOutIdeal.τ).loc Cert.StepOutIdeal.main_arg3)
      ∧ m' ((c.tc : Thread Cert.StepOutReferenceIdeal.nD Cert.StepOutReferenceIdeal.τ).loc Cert.StepOutReferenceIdeal.main_arg4) = m ((c.tc : Thread Cert.StepOutIdeal.nD Cert.StepOutIdeal.τ).loc Cert.StepOutIdeal.main_arg4)
      ∧ m' ((c.tc : Thread Cert.StepOutReferenceIdeal.nD Cert.StepOutReferenceIdeal.τ).loc Cert.StepOutReferenceIdeal.main_arg5) = m ((c.tc : Thread Cert.StepOutIdeal.nD Cert.StepOutIdeal.τ).loc Cert.StepOutIdeal.main_arg5)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
          ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4)
          ∧ r.2.mem ((c.tc : Thread Cert.StepOutIdeal.nD Cert.StepOutIdeal.τ).loc Cert.StepOutIdeal.main_arg5) = m ((c.tc : Thread Cert.StepOutIdeal.nD Cert.StepOutIdeal.τ).loc Cert.StepOutIdeal.main_arg5))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v7) = v0 c
          ∧ r.2.mem ((c.tc : Thread Cert.StepOutReferenceIdeal.nD Cert.StepOutReferenceIdeal.τ).loc Cert.StepOutReferenceIdeal.main_v31) = v1 c
          ∧ r.2.mem ((c.tc : Thread Cert.StepOutReferenceIdeal.nD Cert.StepOutReferenceIdeal.τ).loc Cert.StepOutReferenceIdeal.main_v12) = v2 c
          ∧ r.2.mem ((c.tc : Thread Cert.StepOutReferenceIdeal.nD Cert.StepOutReferenceIdeal.τ).loc Cert.StepOutReferenceIdeal.main_v18) = v3 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3)
          ∧ r.2.mem ((c.tc : Thread Cert.StepOutReferenceIdeal.nD Cert.StepOutReferenceIdeal.τ).loc Cert.StepOutReferenceIdeal.main_arg4) = m' ((c.tc : Thread Cert.StepOutReferenceIdeal.nD Cert.StepOutReferenceIdeal.τ).loc Cert.StepOutReferenceIdeal.main_arg4)
          ∧ r.2.mem ((c.tc : Thread Cert.StepOutReferenceIdeal.nD Cert.StepOutReferenceIdeal.τ).loc Cert.StepOutReferenceIdeal.main_arg5) = m' ((c.tc : Thread Cert.StepOutReferenceIdeal.nD Cert.StepOutReferenceIdeal.τ).loc Cert.StepOutReferenceIdeal.main_arg5))

def preserves_StepIn_StepInIdeal : Prop :=
  True

def algebraic_StepInIdeal_StepInReferenceIdeal [hStepInIdeal : Cert.StepInIdeal.Facts] [hStepInReferenceIdeal : Cert.StepInReferenceIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInReferenceIdeal.nD Cert.StepInReferenceIdeal.τ Cert.StepInReferenceIdeal.sig) → Buf (Elt Ideal) ℓ) (g' : Dev Cert.StepInReferenceIdeal.nD → PrngReg), Pre_StepInIdeal m →
    (∀ c : Dev Cert.StepInIdeal.nD,
      m' ((c.tc : Thread Cert.StepInReferenceIdeal.nD Cert.StepInReferenceIdeal.τ).loc Cert.StepInReferenceIdeal.main_arg0) = m ((c.tc : Thread Cert.StepInIdeal.nD Cert.StepInIdeal.τ).loc Cert.StepInIdeal.main_arg0)
      ∧ m' ((c.tc : Thread Cert.StepInReferenceIdeal.nD Cert.StepInReferenceIdeal.τ).loc Cert.StepInReferenceIdeal.main_arg1) = m ((c.tc : Thread Cert.StepInIdeal.nD Cert.StepInIdeal.τ).loc Cert.StepInIdeal.main_arg1)
      ∧ m' ((c.tc : Thread Cert.StepInReferenceIdeal.nD Cert.StepInReferenceIdeal.τ).loc Cert.StepInReferenceIdeal.main_arg2) = m ((c.tc : Thread Cert.StepInIdeal.nD Cert.StepInIdeal.τ).loc Cert.StepInIdeal.main_arg2)
      ∧ m' ((c.tc : Thread Cert.StepInReferenceIdeal.nD Cert.StepInReferenceIdeal.τ).loc Cert.StepInReferenceIdeal.main_arg3) = m ((c.tc : Thread Cert.StepInIdeal.nD Cert.StepInIdeal.τ).loc Cert.StepInIdeal.main_arg3)
      ∧ m' ((c.tc : Thread Cert.StepInReferenceIdeal.nD Cert.StepInReferenceIdeal.τ).loc Cert.StepInReferenceIdeal.main_arg4) = m ((c.tc : Thread Cert.StepInIdeal.nD Cert.StepInIdeal.τ).loc Cert.StepInIdeal.main_arg4)
      ∧ m' ((c.tc : Thread Cert.StepInReferenceIdeal.nD Cert.StepInReferenceIdeal.τ).loc Cert.StepInReferenceIdeal.main_arg5) = m ((c.tc : Thread Cert.StepInIdeal.nD Cert.StepInIdeal.τ).loc Cert.StepInIdeal.main_arg5)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)) (v3 : (c : Dev Cert.StepInIdeal.nD) → Buf (Elt Ideal) ((c.tc : Thread Cert.StepInIdeal.nD Cert.StepInIdeal.τ).loc Cert.StepInIdeal.main_v0_3)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_v0_3) = v3 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3)
          ∧ r.2.mem ((c.tc : Thread Cert.StepInIdeal.nD Cert.StepInIdeal.τ).loc Cert.StepInIdeal.main_arg4) = m ((c.tc : Thread Cert.StepInIdeal.nD Cert.StepInIdeal.τ).loc Cert.StepInIdeal.main_arg4)
          ∧ r.2.mem ((c.tc : Thread Cert.StepInIdeal.nD Cert.StepInIdeal.τ).loc Cert.StepInIdeal.main_arg5) = m ((c.tc : Thread Cert.StepInIdeal.nD Cert.StepInIdeal.τ).loc Cert.StepInIdeal.main_arg5))
      ∧ θ_run (Cert.StepInReferenceIdeal.defs (F := Ideal)) (onTc (τ := Cert.StepInReferenceIdeal.τ) (Cert.StepInReferenceIdeal.main (F := Ideal))) ⟨m', fun _ => 0, g'⟩ (fun r => ∀ c : Dev Cert.StepInReferenceIdeal.nD,
          r.2.mem ((c.tc : Thread Cert.StepInReferenceIdeal.nD Cert.StepInReferenceIdeal.τ).loc Cert.StepInReferenceIdeal.main_v7) = v0 c
          ∧ r.2.mem ((c.tc : Thread Cert.StepInReferenceIdeal.nD Cert.StepInReferenceIdeal.τ).loc Cert.StepInReferenceIdeal.main_v31) = v1 c
          ∧ r.2.mem ((c.tc : Thread Cert.StepInReferenceIdeal.nD Cert.StepInReferenceIdeal.τ).loc Cert.StepInReferenceIdeal.main_v12) = v2 c
          ∧ r.2.mem ((c.tc : Thread Cert.StepInReferenceIdeal.nD Cert.StepInReferenceIdeal.τ).loc Cert.StepInReferenceIdeal.main_v18) = v3 c
          ∧ r.2.mem ((c.tc : Thread Cert.StepInReferenceIdeal.nD Cert.StepInReferenceIdeal.τ).loc Cert.StepInReferenceIdeal.main_arg0) = m' ((c.tc : Thread Cert.StepInReferenceIdeal.nD Cert.StepInReferenceIdeal.τ).loc Cert.StepInReferenceIdeal.main_arg0)
          ∧ r.2.mem ((c.tc : Thread Cert.StepInReferenceIdeal.nD Cert.StepInReferenceIdeal.τ).loc Cert.StepInReferenceIdeal.main_arg1) = m' ((c.tc : Thread Cert.StepInReferenceIdeal.nD Cert.StepInReferenceIdeal.τ).loc Cert.StepInReferenceIdeal.main_arg1)
          ∧ r.2.mem ((c.tc : Thread Cert.StepInReferenceIdeal.nD Cert.StepInReferenceIdeal.τ).loc Cert.StepInReferenceIdeal.main_arg2) = m' ((c.tc : Thread Cert.StepInReferenceIdeal.nD Cert.StepInReferenceIdeal.τ).loc Cert.StepInReferenceIdeal.main_arg2)
          ∧ r.2.mem ((c.tc : Thread Cert.StepInReferenceIdeal.nD Cert.StepInReferenceIdeal.τ).loc Cert.StepInReferenceIdeal.main_arg3) = m' ((c.tc : Thread Cert.StepInReferenceIdeal.nD Cert.StepInReferenceIdeal.τ).loc Cert.StepInReferenceIdeal.main_arg3)
          ∧ r.2.mem ((c.tc : Thread Cert.StepInReferenceIdeal.nD Cert.StepInReferenceIdeal.τ).loc Cert.StepInReferenceIdeal.main_arg4) = m' ((c.tc : Thread Cert.StepInReferenceIdeal.nD Cert.StepInReferenceIdeal.τ).loc Cert.StepInReferenceIdeal.main_arg4)
          ∧ r.2.mem ((c.tc : Thread Cert.StepInReferenceIdeal.nD Cert.StepInReferenceIdeal.τ).loc Cert.StepInReferenceIdeal.main_arg5) = m' ((c.tc : Thread Cert.StepInReferenceIdeal.nD Cert.StepInReferenceIdeal.τ).loc Cert.StepInReferenceIdeal.main_arg5))

def preserves_StepUq_StepUqIdeal : Prop :=
  True

def algebraic_StepUqIdeal_StepUqReferenceIdeal [hStepUqIdeal : Cert.StepUqIdeal.Facts] [hStepUqReferenceIdeal : Cert.StepUqReferenceIdeal.Facts] : Prop :=
  ∀ (m : (ℓ : Loc Cert.StepUqIdeal.nD Cert.StepUqIdeal.τ Cert.StepUqIdeal.sig) → Buf (Elt Ideal) ℓ) (g : Dev Cert.StepUqIdeal.nD → PrngReg)
    (m' : (ℓ : Loc Cert.StepUqReferenceIdeal.nD Cert.StepUqReferenceIdeal.τ Cert.StepUqReferenceIdeal.sig) → Buf (Elt Ideal) ℓ) (g' : Dev Cert.StepUqReferenceIdeal.nD → PrngReg), Pre_StepUqIdeal m →
    (∀ c : Dev Cert.StepUqIdeal.nD,
      m' ((c.tc : Thread Cert.StepUqReferenceIdeal.nD Cert.StepUqReferenceIdeal.τ).loc Cert.StepUqReferenceIdeal.main_arg0) = m ((c.tc : Thread Cert.StepUqIdeal.nD Cert.StepUqIdeal.τ).loc Cert.StepUqIdeal.main_arg0)
      ∧ m' ((c.tc : Thread Cert.StepUqReferenceIdeal.nD Cert.StepUqReferenceIdeal.τ).loc Cert.StepUqReferenceIdeal.main_arg1) = m ((c.tc : Thread Cert.StepUqIdeal.nD Cert.StepUqIdeal.τ).loc Cert.StepUqIdeal.main_arg1)
      ∧ m' ((c.tc : Thread Cert.StepUqReferenceIdeal.nD Cert.StepUqReferenceIdeal.τ).loc Cert.StepUqReferenceIdeal.main_arg2) = m ((c.tc : Thread Cert.StepUqIdeal.nD Cert.StepUqIdeal.τ).loc Cert.StepUqIdeal.main_arg2)
      ∧ m' ((c.tc : Thread Cert.StepUqReferenceIdeal.nD Cert.StepUqReferenceIdeal.τ).loc Cert.StepUqReferenceIdeal.main_arg3) = m ((c.tc : Thread Cert.StepUqIdeal.nD Cert.StepUqIdeal.τ).loc Cert.StepUqIdeal.main_arg3)
      ∧ m' ((c.tc : Thread Cert.StepUqReferenceIdeal.nD Cert.StepUqReferenceIdeal.τ).loc Cert.StepUqReferenceIdeal.main_arg4) = m ((c.tc : Thread Cert.StepUqIdeal.nD Cert.StepUqIdeal.τ).loc Cert.StepUqIdeal.main_arg4)
      ∧ m' ((c.tc : Thread Cert.StepUqReferenceIdeal.nD Cert.StepUqReferenceIdeal.τ).loc Cert.StepUqReferenceIdeal.main_arg5) = m ((c.tc : Thread Cert.StepUqIdeal.nD Cert.StepUqIdeal.τ).loc Cert.StepUqIdeal.main_arg5)) →
    ∃ (v0 : (c : Dev Cert.StepUqIdeal.nD) → Buf (Elt Ideal) ((c.tc : Thread Cert.StepUqIdeal.nD Cert.StepUqIdeal.τ).loc Cert.StepUqIdeal.main_v0_0)) (v1 : (c : Dev Cert.StepUqIdeal.nD) → Buf (Elt Ideal) ((c.tc : Thread Cert.StepUqIdeal.nD Cert.StepUqIdeal.τ).loc Cert.StepUqIdeal.main_v0_1)) (v2 : (c : Dev Cert.StepUqIdeal.nD) → Buf (Elt Ideal) ((c.tc : Thread Cert.StepUqIdeal.nD Cert.StepUqIdeal.τ).loc Cert.StepUqIdeal.main_v0_2)) (v3 : (c : Dev Cert.StepUqIdeal.nD) → Buf (Elt Ideal) ((c.tc : Thread Cert.StepUqIdeal.nD Cert.StepUqIdeal.τ).loc Cert.StepUqIdeal.main_v0_3)),
      θ_run (Cert.StepUqIdeal.defs (F := Ideal)) (onTc (τ := Cert.StepUqIdeal.τ) (Cert.StepUqIdeal.main (F := Ideal))) ⟨m, fun _ => 0, g⟩ (fun r => ∀ c : Dev Cert.StepUqIdeal.nD,
          r.2.mem ((c.tc : Thread Cert.StepUqIdeal.nD Cert.StepUqIdeal.τ).loc Cert.StepUqIdeal.main_v0_0) = v0 c
          ∧ r.2.mem ((c.tc : Thread Cert.StepUqIdeal.nD Cert.StepUqIdeal.τ).loc Cert.StepUqIdeal.main_v0_1) = v1 c
          ∧ r.2.mem ((c.tc : Thread Cert.StepUqIdeal.nD Cert.StepUqIdeal.τ).loc Cert.StepUqIdeal.main_v0_2) = v2 c
          ∧ r.2.mem ((c.tc : Thread Cert.StepUqIdeal.nD Cert.StepUqIdeal.τ).loc Cert.StepUqIdeal.main_v0_3) = v3 c
          ∧ r.2.mem ((c.tc : Thread Cert.StepUqIdeal.nD Cert.StepUqIdeal.τ).loc Cert.StepUqIdeal.main_arg0) = m ((c.tc : Thread Cert.StepUqIdeal.nD Cert.StepUqIdeal.τ).loc Cert.StepUqIdeal.main_arg0)
          ∧ r.2.mem ((c.tc : Thread Cert.StepUqIdeal.nD Cert.StepUqIdeal.τ).loc Cert.StepUqIdeal.main_arg1) = m ((c.tc : Thread Cert.StepUqIdeal.nD Cert.StepUqIdeal.τ).loc Cert.StepUqIdeal.main_arg1)
          ∧ r.2.mem ((c.tc : Thread Cert.StepUqIdeal.nD Cert.StepUqIdeal.τ).loc Cert.StepUqIdeal.main_arg2) = m ((c.tc : Thread Cert.StepUqIdeal.nD Cert.StepUqIdeal.τ).loc Cert.StepUqIdeal.main_arg2)
          ∧ r.2.mem ((c.tc : Thread Cert.StepUqIdeal.nD Cert.StepUqIdeal.τ).loc Cert.StepUqIdeal.main_arg3) = m ((c.tc : Thread Cert.StepUqIdeal.nD Cert.StepUqIdeal.τ).loc Cert.StepUqIdeal.main_arg3)
          ∧ r.2.mem ((c.tc : Thread Cert.StepUqIdeal.nD Cert.StepUqIdeal.τ).loc Cert.StepUqIdeal.main_arg4) = m ((c.tc : Thread Cert.StepUqIdeal.nD Cert.StepUqIdeal.τ).loc Cert.StepUqIdeal.main_arg4)
          ∧ r.2.mem ((c.tc : Thread Cert.StepUqIdeal.nD Cert.StepUqIdeal.τ).loc Cert.StepUqIdeal.main_arg5) = m ((c.tc : Thread Cert.StepUqIdeal.nD Cert.StepUqIdeal.τ).loc Cert.StepUqIdeal.main_arg5))
      ∧ θ_run (Cert.StepUqReferenceIdeal.defs (F := Ideal)) (onTc (τ := Cert.StepUqReferenceIdeal.τ) (Cert.StepUqReferenceIdeal.main (F := Ideal))) ⟨m', fun _ => 0, g'⟩ (fun r => ∀ c : Dev Cert.StepUqReferenceIdeal.nD,
          r.2.mem ((c.tc : Thread Cert.StepUqReferenceIdeal.nD Cert.StepUqReferenceIdeal.τ).loc Cert.StepUqReferenceIdeal.main_v7) = v0 c
          ∧ r.2.mem ((c.tc : Thread Cert.StepUqReferenceIdeal.nD Cert.StepUqReferenceIdeal.τ).loc Cert.StepUqReferenceIdeal.main_v31) = v1 c
          ∧ r.2.mem ((c.tc : Thread Cert.StepUqReferenceIdeal.nD Cert.StepUqReferenceIdeal.τ).loc Cert.StepUqReferenceIdeal.main_v12) = v2 c
          ∧ r.2.mem ((c.tc : Thread Cert.StepUqReferenceIdeal.nD Cert.StepUqReferenceIdeal.τ).loc Cert.StepUqReferenceIdeal.main_v18) = v3 c
          ∧ r.2.mem ((c.tc : Thread Cert.StepUqReferenceIdeal.nD Cert.StepUqReferenceIdeal.τ).loc Cert.StepUqReferenceIdeal.main_arg0) = m' ((c.tc : Thread Cert.StepUqReferenceIdeal.nD Cert.StepUqReferenceIdeal.τ).loc Cert.StepUqReferenceIdeal.main_arg0)
          ∧ r.2.mem ((c.tc : Thread Cert.StepUqReferenceIdeal.nD Cert.StepUqReferenceIdeal.τ).loc Cert.StepUqReferenceIdeal.main_arg1) = m' ((c.tc : Thread Cert.StepUqReferenceIdeal.nD Cert.StepUqReferenceIdeal.τ).loc Cert.StepUqReferenceIdeal.main_arg1)
          ∧ r.2.mem ((c.tc : Thread Cert.StepUqReferenceIdeal.nD Cert.StepUqReferenceIdeal.τ).loc Cert.StepUqReferenceIdeal.main_arg2) = m' ((c.tc : Thread Cert.StepUqReferenceIdeal.nD Cert.StepUqReferenceIdeal.τ).loc Cert.StepUqReferenceIdeal.main_arg2)
          ∧ r.2.mem ((c.tc : Thread Cert.StepUqReferenceIdeal.nD Cert.StepUqReferenceIdeal.τ).loc Cert.StepUqReferenceIdeal.main_arg3) = m' ((c.tc : Thread Cert.StepUqReferenceIdeal.nD Cert.StepUqReferenceIdeal.τ).loc Cert.StepUqReferenceIdeal.main_arg3)
          ∧ r.2.mem ((c.tc : Thread Cert.StepUqReferenceIdeal.nD Cert.StepUqReferenceIdeal.τ).loc Cert.StepUqReferenceIdeal.main_arg4) = m' ((c.tc : Thread Cert.StepUqReferenceIdeal.nD Cert.StepUqReferenceIdeal.τ).loc Cert.StepUqReferenceIdeal.main_arg4)
          ∧ r.2.mem ((c.tc : Thread Cert.StepUqReferenceIdeal.nD Cert.StepUqReferenceIdeal.τ).loc Cert.StepUqReferenceIdeal.main_arg5) = m' ((c.tc : Thread Cert.StepUqReferenceIdeal.nD Cert.StepUqReferenceIdeal.τ).loc Cert.StepUqReferenceIdeal.main_arg5))

def preserves_StepUkv_StepUkvIdeal : Prop :=
  True

def algebraic_StepUkvIdeal_StepUkvReferenceIdeal [hStepUkvIdeal : Cert.StepUkvIdeal.Facts] [hStepUkvReferenceIdeal : Cert.StepUkvReferenceIdeal.Facts] : Prop :=
  ∀ (m : (ℓ : Loc Cert.StepUkvIdeal.nD Cert.StepUkvIdeal.τ Cert.StepUkvIdeal.sig) → Buf (Elt Ideal) ℓ) (g : Dev Cert.StepUkvIdeal.nD → PrngReg)
    (m' : (ℓ : Loc Cert.StepUkvReferenceIdeal.nD Cert.StepUkvReferenceIdeal.τ Cert.StepUkvReferenceIdeal.sig) → Buf (Elt Ideal) ℓ) (g' : Dev Cert.StepUkvReferenceIdeal.nD → PrngReg), Pre_StepUkvIdeal m →
    (∀ c : Dev Cert.StepUkvIdeal.nD,
      m' ((c.tc : Thread Cert.StepUkvReferenceIdeal.nD Cert.StepUkvReferenceIdeal.τ).loc Cert.StepUkvReferenceIdeal.main_arg0) = m ((c.tc : Thread Cert.StepUkvIdeal.nD Cert.StepUkvIdeal.τ).loc Cert.StepUkvIdeal.main_arg0)
      ∧ m' ((c.tc : Thread Cert.StepUkvReferenceIdeal.nD Cert.StepUkvReferenceIdeal.τ).loc Cert.StepUkvReferenceIdeal.main_arg1) = m ((c.tc : Thread Cert.StepUkvIdeal.nD Cert.StepUkvIdeal.τ).loc Cert.StepUkvIdeal.main_arg1)
      ∧ m' ((c.tc : Thread Cert.StepUkvReferenceIdeal.nD Cert.StepUkvReferenceIdeal.τ).loc Cert.StepUkvReferenceIdeal.main_arg2) = m ((c.tc : Thread Cert.StepUkvIdeal.nD Cert.StepUkvIdeal.τ).loc Cert.StepUkvIdeal.main_arg2)
      ∧ m' ((c.tc : Thread Cert.StepUkvReferenceIdeal.nD Cert.StepUkvReferenceIdeal.τ).loc Cert.StepUkvReferenceIdeal.main_arg3) = m ((c.tc : Thread Cert.StepUkvIdeal.nD Cert.StepUkvIdeal.τ).loc Cert.StepUkvIdeal.main_arg3)
      ∧ m' ((c.tc : Thread Cert.StepUkvReferenceIdeal.nD Cert.StepUkvReferenceIdeal.τ).loc Cert.StepUkvReferenceIdeal.main_arg4) = m ((c.tc : Thread Cert.StepUkvIdeal.nD Cert.StepUkvIdeal.τ).loc Cert.StepUkvIdeal.main_arg4)
      ∧ m' ((c.tc : Thread Cert.StepUkvReferenceIdeal.nD Cert.StepUkvReferenceIdeal.τ).loc Cert.StepUkvReferenceIdeal.main_arg5) = m ((c.tc : Thread Cert.StepUkvIdeal.nD Cert.StepUkvIdeal.τ).loc Cert.StepUkvIdeal.main_arg5)) →
    ∃ (v0 : (c : Dev Cert.StepUkvIdeal.nD) → Buf (Elt Ideal) ((c.tc : Thread Cert.StepUkvIdeal.nD Cert.StepUkvIdeal.τ).loc Cert.StepUkvIdeal.main_v0_0)) (v1 : (c : Dev Cert.StepUkvIdeal.nD) → Buf (Elt Ideal) ((c.tc : Thread Cert.StepUkvIdeal.nD Cert.StepUkvIdeal.τ).loc Cert.StepUkvIdeal.main_v0_1)) (v2 : (c : Dev Cert.StepUkvIdeal.nD) → Buf (Elt Ideal) ((c.tc : Thread Cert.StepUkvIdeal.nD Cert.StepUkvIdeal.τ).loc Cert.StepUkvIdeal.main_v0_2)) (v3 : (c : Dev Cert.StepUkvIdeal.nD) → Buf (Elt Ideal) ((c.tc : Thread Cert.StepUkvIdeal.nD Cert.StepUkvIdeal.τ).loc Cert.StepUkvIdeal.main_v0_3)),
      θ_run (Cert.StepUkvIdeal.defs (F := Ideal)) (onTc (τ := Cert.StepUkvIdeal.τ) (Cert.StepUkvIdeal.main (F := Ideal))) ⟨m, fun _ => 0, g⟩ (fun r => ∀ c : Dev Cert.StepUkvIdeal.nD,
          r.2.mem ((c.tc : Thread Cert.StepUkvIdeal.nD Cert.StepUkvIdeal.τ).loc Cert.StepUkvIdeal.main_v0_0) = v0 c
          ∧ r.2.mem ((c.tc : Thread Cert.StepUkvIdeal.nD Cert.StepUkvIdeal.τ).loc Cert.StepUkvIdeal.main_v0_1) = v1 c
          ∧ r.2.mem ((c.tc : Thread Cert.StepUkvIdeal.nD Cert.StepUkvIdeal.τ).loc Cert.StepUkvIdeal.main_v0_2) = v2 c
          ∧ r.2.mem ((c.tc : Thread Cert.StepUkvIdeal.nD Cert.StepUkvIdeal.τ).loc Cert.StepUkvIdeal.main_v0_3) = v3 c
          ∧ r.2.mem ((c.tc : Thread Cert.StepUkvIdeal.nD Cert.StepUkvIdeal.τ).loc Cert.StepUkvIdeal.main_arg0) = m ((c.tc : Thread Cert.StepUkvIdeal.nD Cert.StepUkvIdeal.τ).loc Cert.StepUkvIdeal.main_arg0)
          ∧ r.2.mem ((c.tc : Thread Cert.StepUkvIdeal.nD Cert.StepUkvIdeal.τ).loc Cert.StepUkvIdeal.main_arg1) = m ((c.tc : Thread Cert.StepUkvIdeal.nD Cert.StepUkvIdeal.τ).loc Cert.StepUkvIdeal.main_arg1)
          ∧ r.2.mem ((c.tc : Thread Cert.StepUkvIdeal.nD Cert.StepUkvIdeal.τ).loc Cert.StepUkvIdeal.main_arg2) = m ((c.tc : Thread Cert.StepUkvIdeal.nD Cert.StepUkvIdeal.τ).loc Cert.StepUkvIdeal.main_arg2)
          ∧ r.2.mem ((c.tc : Thread Cert.StepUkvIdeal.nD Cert.StepUkvIdeal.τ).loc Cert.StepUkvIdeal.main_arg3) = m ((c.tc : Thread Cert.StepUkvIdeal.nD Cert.StepUkvIdeal.τ).loc Cert.StepUkvIdeal.main_arg3)
          ∧ r.2.mem ((c.tc : Thread Cert.StepUkvIdeal.nD Cert.StepUkvIdeal.τ).loc Cert.StepUkvIdeal.main_arg4) = m ((c.tc : Thread Cert.StepUkvIdeal.nD Cert.StepUkvIdeal.τ).loc Cert.StepUkvIdeal.main_arg4)
          ∧ r.2.mem ((c.tc : Thread Cert.StepUkvIdeal.nD Cert.StepUkvIdeal.τ).loc Cert.StepUkvIdeal.main_arg5) = m ((c.tc : Thread Cert.StepUkvIdeal.nD Cert.StepUkvIdeal.τ).loc Cert.StepUkvIdeal.main_arg5))
      ∧ θ_run (Cert.StepUkvReferenceIdeal.defs (F := Ideal)) (onTc (τ := Cert.StepUkvReferenceIdeal.τ) (Cert.StepUkvReferenceIdeal.main (F := Ideal))) ⟨m', fun _ => 0, g'⟩ (fun r => ∀ c : Dev Cert.StepUkvReferenceIdeal.nD,
          r.2.mem ((c.tc : Thread Cert.StepUkvReferenceIdeal.nD Cert.StepUkvReferenceIdeal.τ).loc Cert.StepUkvReferenceIdeal.main_v7) = v0 c
          ∧ r.2.mem ((c.tc : Thread Cert.StepUkvReferenceIdeal.nD Cert.StepUkvReferenceIdeal.τ).loc Cert.StepUkvReferenceIdeal.main_v31) = v1 c
          ∧ r.2.mem ((c.tc : Thread Cert.StepUkvReferenceIdeal.nD Cert.StepUkvReferenceIdeal.τ).loc Cert.StepUkvReferenceIdeal.main_v12) = v2 c
          ∧ r.2.mem ((c.tc : Thread Cert.StepUkvReferenceIdeal.nD Cert.StepUkvReferenceIdeal.τ).loc Cert.StepUkvReferenceIdeal.main_v18) = v3 c
          ∧ r.2.mem ((c.tc : Thread Cert.StepUkvReferenceIdeal.nD Cert.StepUkvReferenceIdeal.τ).loc Cert.StepUkvReferenceIdeal.main_arg0) = m' ((c.tc : Thread Cert.StepUkvReferenceIdeal.nD Cert.StepUkvReferenceIdeal.τ).loc Cert.StepUkvReferenceIdeal.main_arg0)
          ∧ r.2.mem ((c.tc : Thread Cert.StepUkvReferenceIdeal.nD Cert.StepUkvReferenceIdeal.τ).loc Cert.StepUkvReferenceIdeal.main_arg1) = m' ((c.tc : Thread Cert.StepUkvReferenceIdeal.nD Cert.StepUkvReferenceIdeal.τ).loc Cert.StepUkvReferenceIdeal.main_arg1)
          ∧ r.2.mem ((c.tc : Thread Cert.StepUkvReferenceIdeal.nD Cert.StepUkvReferenceIdeal.τ).loc Cert.StepUkvReferenceIdeal.main_arg2) = m' ((c.tc : Thread Cert.StepUkvReferenceIdeal.nD Cert.StepUkvReferenceIdeal.τ).loc Cert.StepUkvReferenceIdeal.main_arg2)
          ∧ r.2.mem ((c.tc : Thread Cert.StepUkvReferenceIdeal.nD Cert.StepUkvReferenceIdeal.τ).loc Cert.StepUkvReferenceIdeal.main_arg3) = m' ((c.tc : Thread Cert.StepUkvReferenceIdeal.nD Cert.StepUkvReferenceIdeal.τ).loc Cert.StepUkvReferenceIdeal.main_arg3)
          ∧ r.2.mem ((c.tc : Thread Cert.StepUkvReferenceIdeal.nD Cert.StepUkvReferenceIdeal.τ).loc Cert.StepUkvReferenceIdeal.main_arg4) = m' ((c.tc : Thread Cert.StepUkvReferenceIdeal.nD Cert.StepUkvReferenceIdeal.τ).loc Cert.StepUkvReferenceIdeal.main_arg4)
          ∧ r.2.mem ((c.tc : Thread Cert.StepUkvReferenceIdeal.nD Cert.StepUkvReferenceIdeal.τ).loc Cert.StepUkvReferenceIdeal.main_arg5) = m' ((c.tc : Thread Cert.StepUkvReferenceIdeal.nD Cert.StepUkvReferenceIdeal.τ).loc Cert.StepUkvReferenceIdeal.main_arg5))

def preserves_StepFox_StepFoxIdeal : Prop :=
  True

def algebraic_StepFoxIdeal_StepFoxReferenceIdeal [hStepFoxIdeal : Cert.StepFoxIdeal.Facts] [hStepFoxReferenceIdeal : Cert.StepFoxReferenceIdeal.Facts] : Prop :=
  ∀ (m : (ℓ : Loc Cert.StepFoxIdeal.nD Cert.StepFoxIdeal.τ Cert.StepFoxIdeal.sig) → Buf (Elt Ideal) ℓ) (g : Dev Cert.StepFoxIdeal.nD → PrngReg)
    (m' : (ℓ : Loc Cert.StepFoxReferenceIdeal.nD Cert.StepFoxReferenceIdeal.τ Cert.StepFoxReferenceIdeal.sig) → Buf (Elt Ideal) ℓ) (g' : Dev Cert.StepFoxReferenceIdeal.nD → PrngReg), Pre_StepFoxIdeal m →
    (∀ c : Dev Cert.StepFoxIdeal.nD,
      m' ((c.tc : Thread Cert.StepFoxReferenceIdeal.nD Cert.StepFoxReferenceIdeal.τ).loc Cert.StepFoxReferenceIdeal.main_arg0) = m ((c.tc : Thread Cert.StepFoxIdeal.nD Cert.StepFoxIdeal.τ).loc Cert.StepFoxIdeal.main_arg0)
      ∧ m' ((c.tc : Thread Cert.StepFoxReferenceIdeal.nD Cert.StepFoxReferenceIdeal.τ).loc Cert.StepFoxReferenceIdeal.main_arg1) = m ((c.tc : Thread Cert.StepFoxIdeal.nD Cert.StepFoxIdeal.τ).loc Cert.StepFoxIdeal.main_arg1)
      ∧ m' ((c.tc : Thread Cert.StepFoxReferenceIdeal.nD Cert.StepFoxReferenceIdeal.τ).loc Cert.StepFoxReferenceIdeal.main_arg2) = m ((c.tc : Thread Cert.StepFoxIdeal.nD Cert.StepFoxIdeal.τ).loc Cert.StepFoxIdeal.main_arg2)
      ∧ m' ((c.tc : Thread Cert.StepFoxReferenceIdeal.nD Cert.StepFoxReferenceIdeal.τ).loc Cert.StepFoxReferenceIdeal.main_arg3) = m ((c.tc : Thread Cert.StepFoxIdeal.nD Cert.StepFoxIdeal.τ).loc Cert.StepFoxIdeal.main_arg3)
      ∧ m' ((c.tc : Thread Cert.StepFoxReferenceIdeal.nD Cert.StepFoxReferenceIdeal.τ).loc Cert.StepFoxReferenceIdeal.main_arg4) = m ((c.tc : Thread Cert.StepFoxIdeal.nD Cert.StepFoxIdeal.τ).loc Cert.StepFoxIdeal.main_arg4)
      ∧ m' ((c.tc : Thread Cert.StepFoxReferenceIdeal.nD Cert.StepFoxReferenceIdeal.τ).loc Cert.StepFoxReferenceIdeal.main_arg5) = m ((c.tc : Thread Cert.StepFoxIdeal.nD Cert.StepFoxIdeal.τ).loc Cert.StepFoxIdeal.main_arg5)) →
    ∃ (v0 : (c : Dev Cert.StepFoxIdeal.nD) → Buf (Elt Ideal) ((c.tc : Thread Cert.StepFoxIdeal.nD Cert.StepFoxIdeal.τ).loc Cert.StepFoxIdeal.main_v0_0)) (v1 : (c : Dev Cert.StepFoxIdeal.nD) → Buf (Elt Ideal) ((c.tc : Thread Cert.StepFoxIdeal.nD Cert.StepFoxIdeal.τ).loc Cert.StepFoxIdeal.main_v0_1)) (v2 : (c : Dev Cert.StepFoxIdeal.nD) → Buf (Elt Ideal) ((c.tc : Thread Cert.StepFoxIdeal.nD Cert.StepFoxIdeal.τ).loc Cert.StepFoxIdeal.main_v0_2)) (v3 : (c : Dev Cert.StepFoxIdeal.nD) → Buf (Elt Ideal) ((c.tc : Thread Cert.StepFoxIdeal.nD Cert.StepFoxIdeal.τ).loc Cert.StepFoxIdeal.main_v0_3)),
      θ_run (Cert.StepFoxIdeal.defs (F := Ideal)) (onTc (τ := Cert.StepFoxIdeal.τ) (Cert.StepFoxIdeal.main (F := Ideal))) ⟨m, fun _ => 0, g⟩ (fun r => ∀ c : Dev Cert.StepFoxIdeal.nD,
          r.2.mem ((c.tc : Thread Cert.StepFoxIdeal.nD Cert.StepFoxIdeal.τ).loc Cert.StepFoxIdeal.main_v0_0) = v0 c
          ∧ r.2.mem ((c.tc : Thread Cert.StepFoxIdeal.nD Cert.StepFoxIdeal.τ).loc Cert.StepFoxIdeal.main_v0_1) = v1 c
          ∧ r.2.mem ((c.tc : Thread Cert.StepFoxIdeal.nD Cert.StepFoxIdeal.τ).loc Cert.StepFoxIdeal.main_v0_2) = v2 c
          ∧ r.2.mem ((c.tc : Thread Cert.StepFoxIdeal.nD Cert.StepFoxIdeal.τ).loc Cert.StepFoxIdeal.main_v0_3) = v3 c
          ∧ r.2.mem ((c.tc : Thread Cert.StepFoxIdeal.nD Cert.StepFoxIdeal.τ).loc Cert.StepFoxIdeal.main_arg0) = m ((c.tc : Thread Cert.StepFoxIdeal.nD Cert.StepFoxIdeal.τ).loc Cert.StepFoxIdeal.main_arg0)
          ∧ r.2.mem ((c.tc : Thread Cert.StepFoxIdeal.nD Cert.StepFoxIdeal.τ).loc Cert.StepFoxIdeal.main_arg1) = m ((c.tc : Thread Cert.StepFoxIdeal.nD Cert.StepFoxIdeal.τ).loc Cert.StepFoxIdeal.main_arg1)
          ∧ r.2.mem ((c.tc : Thread Cert.StepFoxIdeal.nD Cert.StepFoxIdeal.τ).loc Cert.StepFoxIdeal.main_arg2) = m ((c.tc : Thread Cert.StepFoxIdeal.nD Cert.StepFoxIdeal.τ).loc Cert.StepFoxIdeal.main_arg2)
          ∧ r.2.mem ((c.tc : Thread Cert.StepFoxIdeal.nD Cert.StepFoxIdeal.τ).loc Cert.StepFoxIdeal.main_arg3) = m ((c.tc : Thread Cert.StepFoxIdeal.nD Cert.StepFoxIdeal.τ).loc Cert.StepFoxIdeal.main_arg3)
          ∧ r.2.mem ((c.tc : Thread Cert.StepFoxIdeal.nD Cert.StepFoxIdeal.τ).loc Cert.StepFoxIdeal.main_arg4) = m ((c.tc : Thread Cert.StepFoxIdeal.nD Cert.StepFoxIdeal.τ).loc Cert.StepFoxIdeal.main_arg4)
          ∧ r.2.mem ((c.tc : Thread Cert.StepFoxIdeal.nD Cert.StepFoxIdeal.τ).loc Cert.StepFoxIdeal.main_arg5) = m ((c.tc : Thread Cert.StepFoxIdeal.nD Cert.StepFoxIdeal.τ).loc Cert.StepFoxIdeal.main_arg5))
      ∧ θ_run (Cert.StepFoxReferenceIdeal.defs (F := Ideal)) (onTc (τ := Cert.StepFoxReferenceIdeal.τ) (Cert.StepFoxReferenceIdeal.main (F := Ideal))) ⟨m', fun _ => 0, g'⟩ (fun r => ∀ c : Dev Cert.StepFoxReferenceIdeal.nD,
          r.2.mem ((c.tc : Thread Cert.StepFoxReferenceIdeal.nD Cert.StepFoxReferenceIdeal.τ).loc Cert.StepFoxReferenceIdeal.main_v7) = v0 c
          ∧ r.2.mem ((c.tc : Thread Cert.StepFoxReferenceIdeal.nD Cert.StepFoxReferenceIdeal.τ).loc Cert.StepFoxReferenceIdeal.main_v31) = v1 c
          ∧ r.2.mem ((c.tc : Thread Cert.StepFoxReferenceIdeal.nD Cert.StepFoxReferenceIdeal.τ).loc Cert.StepFoxReferenceIdeal.main_v12) = v2 c
          ∧ r.2.mem ((c.tc : Thread Cert.StepFoxReferenceIdeal.nD Cert.StepFoxReferenceIdeal.τ).loc Cert.StepFoxReferenceIdeal.main_v18) = v3 c
          ∧ r.2.mem ((c.tc : Thread Cert.StepFoxReferenceIdeal.nD Cert.StepFoxReferenceIdeal.τ).loc Cert.StepFoxReferenceIdeal.main_arg0) = m' ((c.tc : Thread Cert.StepFoxReferenceIdeal.nD Cert.StepFoxReferenceIdeal.τ).loc Cert.StepFoxReferenceIdeal.main_arg0)
          ∧ r.2.mem ((c.tc : Thread Cert.StepFoxReferenceIdeal.nD Cert.StepFoxReferenceIdeal.τ).loc Cert.StepFoxReferenceIdeal.main_arg1) = m' ((c.tc : Thread Cert.StepFoxReferenceIdeal.nD Cert.StepFoxReferenceIdeal.τ).loc Cert.StepFoxReferenceIdeal.main_arg1)
          ∧ r.2.mem ((c.tc : Thread Cert.StepFoxReferenceIdeal.nD Cert.StepFoxReferenceIdeal.τ).loc Cert.StepFoxReferenceIdeal.main_arg2) = m' ((c.tc : Thread Cert.StepFoxReferenceIdeal.nD Cert.StepFoxReferenceIdeal.τ).loc Cert.StepFoxReferenceIdeal.main_arg2)
          ∧ r.2.mem ((c.tc : Thread Cert.StepFoxReferenceIdeal.nD Cert.StepFoxReferenceIdeal.τ).loc Cert.StepFoxReferenceIdeal.main_arg3) = m' ((c.tc : Thread Cert.StepFoxReferenceIdeal.nD Cert.StepFoxReferenceIdeal.τ).loc Cert.StepFoxReferenceIdeal.main_arg3)
          ∧ r.2.mem ((c.tc : Thread Cert.StepFoxReferenceIdeal.nD Cert.StepFoxReferenceIdeal.τ).loc Cert.StepFoxReferenceIdeal.main_arg4) = m' ((c.tc : Thread Cert.StepFoxReferenceIdeal.nD Cert.StepFoxReferenceIdeal.τ).loc Cert.StepFoxReferenceIdeal.main_arg4)
          ∧ r.2.mem ((c.tc : Thread Cert.StepFoxReferenceIdeal.nD Cert.StepFoxReferenceIdeal.τ).loc Cert.StepFoxReferenceIdeal.main_arg5) = m' ((c.tc : Thread Cert.StepFoxReferenceIdeal.nD Cert.StepFoxReferenceIdeal.τ).loc Cert.StepFoxReferenceIdeal.main_arg5))

def preserves_StepSbInLast_StepSbInLastIdeal : Prop :=
  True

def algebraic_StepSbInLastIdeal_StepSbInLastReferenceIdeal [hStepSbInLastIdeal : Cert.StepSbInLastIdeal.Facts] [hStepSbInLastReferenceIdeal : Cert.StepSbInLastReferenceIdeal.Facts] : Prop :=
  ∀ (m : (ℓ : Loc Cert.StepSbInLastIdeal.nD Cert.StepSbInLastIdeal.τ Cert.StepSbInLastIdeal.sig) → Buf (Elt Ideal) ℓ) (g : Dev Cert.StepSbInLastIdeal.nD → PrngReg)
    (m' : (ℓ : Loc Cert.StepSbInLastReferenceIdeal.nD Cert.StepSbInLastReferenceIdeal.τ Cert.StepSbInLastReferenceIdeal.sig) → Buf (Elt Ideal) ℓ) (g' : Dev Cert.StepSbInLastReferenceIdeal.nD → PrngReg), Pre_StepSbInLastIdeal m →
    (∀ c : Dev Cert.StepSbInLastIdeal.nD,
      m' ((c.tc : Thread Cert.StepSbInLastReferenceIdeal.nD Cert.StepSbInLastReferenceIdeal.τ).loc Cert.StepSbInLastReferenceIdeal.main_arg0) = m ((c.tc : Thread Cert.StepSbInLastIdeal.nD Cert.StepSbInLastIdeal.τ).loc Cert.StepSbInLastIdeal.main_arg0)
      ∧ m' ((c.tc : Thread Cert.StepSbInLastReferenceIdeal.nD Cert.StepSbInLastReferenceIdeal.τ).loc Cert.StepSbInLastReferenceIdeal.main_arg1) = m ((c.tc : Thread Cert.StepSbInLastIdeal.nD Cert.StepSbInLastIdeal.τ).loc Cert.StepSbInLastIdeal.main_arg1)
      ∧ m' ((c.tc : Thread Cert.StepSbInLastReferenceIdeal.nD Cert.StepSbInLastReferenceIdeal.τ).loc Cert.StepSbInLastReferenceIdeal.main_arg2) = m ((c.tc : Thread Cert.StepSbInLastIdeal.nD Cert.StepSbInLastIdeal.τ).loc Cert.StepSbInLastIdeal.main_arg2)
      ∧ m' ((c.tc : Thread Cert.StepSbInLastReferenceIdeal.nD Cert.StepSbInLastReferenceIdeal.τ).loc Cert.StepSbInLastReferenceIdeal.main_arg3) = m ((c.tc : Thread Cert.StepSbInLastIdeal.nD Cert.StepSbInLastIdeal.τ).loc Cert.StepSbInLastIdeal.main_arg3)
      ∧ m' ((c.tc : Thread Cert.StepSbInLastReferenceIdeal.nD Cert.StepSbInLastReferenceIdeal.τ).loc Cert.StepSbInLastReferenceIdeal.main_arg4) = m ((c.tc : Thread Cert.StepSbInLastIdeal.nD Cert.StepSbInLastIdeal.τ).loc Cert.StepSbInLastIdeal.main_arg4)
      ∧ m' ((c.tc : Thread Cert.StepSbInLastReferenceIdeal.nD Cert.StepSbInLastReferenceIdeal.τ).loc Cert.StepSbInLastReferenceIdeal.main_arg5) = m ((c.tc : Thread Cert.StepSbInLastIdeal.nD Cert.StepSbInLastIdeal.τ).loc Cert.StepSbInLastIdeal.main_arg5)) →
    ∃ (v0 : (c : Dev Cert.StepSbInLastIdeal.nD) → Buf (Elt Ideal) ((c.tc : Thread Cert.StepSbInLastIdeal.nD Cert.StepSbInLastIdeal.τ).loc Cert.StepSbInLastIdeal.main_v1)) (v1 : (c : Dev Cert.StepSbInLastIdeal.nD) → Buf (Elt Ideal) ((c.tc : Thread Cert.StepSbInLastIdeal.nD Cert.StepSbInLastIdeal.τ).loc Cert.StepSbInLastIdeal.main_v2)) (v2 : (c : Dev Cert.StepSbInLastIdeal.nD) → Buf (Elt Ideal) ((c.tc : Thread Cert.StepSbInLastIdeal.nD Cert.StepSbInLastIdeal.τ).loc Cert.StepSbInLastIdeal.main_v3)) (v3 : (c : Dev Cert.StepSbInLastIdeal.nD) → Buf (Elt Ideal) ((c.tc : Thread Cert.StepSbInLastIdeal.nD Cert.StepSbInLastIdeal.τ).loc Cert.StepSbInLastIdeal.main_v4)),
      θ_run (Cert.StepSbInLastIdeal.defs (F := Ideal)) (onTc (τ := Cert.StepSbInLastIdeal.τ) (Cert.StepSbInLastIdeal.main (F := Ideal))) ⟨m, fun _ => 0, g⟩ (fun r => ∀ c : Dev Cert.StepSbInLastIdeal.nD,
          r.2.mem ((c.tc : Thread Cert.StepSbInLastIdeal.nD Cert.StepSbInLastIdeal.τ).loc Cert.StepSbInLastIdeal.main_v1) = v0 c
          ∧ r.2.mem ((c.tc : Thread Cert.StepSbInLastIdeal.nD Cert.StepSbInLastIdeal.τ).loc Cert.StepSbInLastIdeal.main_v2) = v1 c
          ∧ r.2.mem ((c.tc : Thread Cert.StepSbInLastIdeal.nD Cert.StepSbInLastIdeal.τ).loc Cert.StepSbInLastIdeal.main_v3) = v2 c
          ∧ r.2.mem ((c.tc : Thread Cert.StepSbInLastIdeal.nD Cert.StepSbInLastIdeal.τ).loc Cert.StepSbInLastIdeal.main_v4) = v3 c
          ∧ r.2.mem ((c.tc : Thread Cert.StepSbInLastIdeal.nD Cert.StepSbInLastIdeal.τ).loc Cert.StepSbInLastIdeal.main_arg0) = m ((c.tc : Thread Cert.StepSbInLastIdeal.nD Cert.StepSbInLastIdeal.τ).loc Cert.StepSbInLastIdeal.main_arg0)
          ∧ r.2.mem ((c.tc : Thread Cert.StepSbInLastIdeal.nD Cert.StepSbInLastIdeal.τ).loc Cert.StepSbInLastIdeal.main_arg1) = m ((c.tc : Thread Cert.StepSbInLastIdeal.nD Cert.StepSbInLastIdeal.τ).loc Cert.StepSbInLastIdeal.main_arg1)
          ∧ r.2.mem ((c.tc : Thread Cert.StepSbInLastIdeal.nD Cert.StepSbInLastIdeal.τ).loc Cert.StepSbInLastIdeal.main_arg2) = m ((c.tc : Thread Cert.StepSbInLastIdeal.nD Cert.StepSbInLastIdeal.τ).loc Cert.StepSbInLastIdeal.main_arg2)
          ∧ r.2.mem ((c.tc : Thread Cert.StepSbInLastIdeal.nD Cert.StepSbInLastIdeal.τ).loc Cert.StepSbInLastIdeal.main_arg3) = m ((c.tc : Thread Cert.StepSbInLastIdeal.nD Cert.StepSbInLastIdeal.τ).loc Cert.StepSbInLastIdeal.main_arg3)
          ∧ r.2.mem ((c.tc : Thread Cert.StepSbInLastIdeal.nD Cert.StepSbInLastIdeal.τ).loc Cert.StepSbInLastIdeal.main_arg4) = m ((c.tc : Thread Cert.StepSbInLastIdeal.nD Cert.StepSbInLastIdeal.τ).loc Cert.StepSbInLastIdeal.main_arg4)
          ∧ r.2.mem ((c.tc : Thread Cert.StepSbInLastIdeal.nD Cert.StepSbInLastIdeal.τ).loc Cert.StepSbInLastIdeal.main_arg5) = m ((c.tc : Thread Cert.StepSbInLastIdeal.nD Cert.StepSbInLastIdeal.τ).loc Cert.StepSbInLastIdeal.main_arg5))
      ∧ θ_run (Cert.StepSbInLastReferenceIdeal.defs (F := Ideal)) (onTc (τ := Cert.StepSbInLastReferenceIdeal.τ) (Cert.StepSbInLastReferenceIdeal.main (F := Ideal))) ⟨m', fun _ => 0, g'⟩ (fun r => ∀ c : Dev Cert.StepSbInLastReferenceIdeal.nD,
          r.2.mem ((c.tc : Thread Cert.StepSbInLastReferenceIdeal.nD Cert.StepSbInLastReferenceIdeal.τ).loc Cert.StepSbInLastReferenceIdeal.main_v32) = v0 c
          ∧ r.2.mem ((c.tc : Thread Cert.StepSbInLastReferenceIdeal.nD Cert.StepSbInLastReferenceIdeal.τ).loc Cert.StepSbInLastReferenceIdeal.main_v33) = v1 c
          ∧ r.2.mem ((c.tc : Thread Cert.StepSbInLastReferenceIdeal.nD Cert.StepSbInLastReferenceIdeal.τ).loc Cert.StepSbInLastReferenceIdeal.main_v34) = v2 c
          ∧ r.2.mem ((c.tc : Thread Cert.StepSbInLastReferenceIdeal.nD Cert.StepSbInLastReferenceIdeal.τ).loc Cert.StepSbInLastReferenceIdeal.main_v35) = v3 c
          ∧ r.2.mem ((c.tc : Thread Cert.StepSbInLastReferenceIdeal.nD Cert.StepSbInLastReferenceIdeal.τ).loc Cert.StepSbInLastReferenceIdeal.main_arg0) = m' ((c.tc : Thread Cert.StepSbInLastReferenceIdeal.nD Cert.StepSbInLastReferenceIdeal.τ).loc Cert.StepSbInLastReferenceIdeal.main_arg0)
          ∧ r.2.mem ((c.tc : Thread Cert.StepSbInLastReferenceIdeal.nD Cert.StepSbInLastReferenceIdeal.τ).loc Cert.StepSbInLastReferenceIdeal.main_arg1) = m' ((c.tc : Thread Cert.StepSbInLastReferenceIdeal.nD Cert.StepSbInLastReferenceIdeal.τ).loc Cert.StepSbInLastReferenceIdeal.main_arg1)
          ∧ r.2.mem ((c.tc : Thread Cert.StepSbInLastReferenceIdeal.nD Cert.StepSbInLastReferenceIdeal.τ).loc Cert.StepSbInLastReferenceIdeal.main_arg2) = m' ((c.tc : Thread Cert.StepSbInLastReferenceIdeal.nD Cert.StepSbInLastReferenceIdeal.τ).loc Cert.StepSbInLastReferenceIdeal.main_arg2)
          ∧ r.2.mem ((c.tc : Thread Cert.StepSbInLastReferenceIdeal.nD Cert.StepSbInLastReferenceIdeal.τ).loc Cert.StepSbInLastReferenceIdeal.main_arg3) = m' ((c.tc : Thread Cert.StepSbInLastReferenceIdeal.nD Cert.StepSbInLastReferenceIdeal.τ).loc Cert.StepSbInLastReferenceIdeal.main_arg3)
          ∧ r.2.mem ((c.tc : Thread Cert.StepSbInLastReferenceIdeal.nD Cert.StepSbInLastReferenceIdeal.τ).loc Cert.StepSbInLastReferenceIdeal.main_arg4) = m' ((c.tc : Thread Cert.StepSbInLastReferenceIdeal.nD Cert.StepSbInLastReferenceIdeal.τ).loc Cert.StepSbInLastReferenceIdeal.main_arg4)
          ∧ r.2.mem ((c.tc : Thread Cert.StepSbInLastReferenceIdeal.nD Cert.StepSbInLastReferenceIdeal.τ).loc Cert.StepSbInLastReferenceIdeal.main_arg5) = m' ((c.tc : Thread Cert.StepSbInLastReferenceIdeal.nD Cert.StepSbInLastReferenceIdeal.τ).loc Cert.StepSbInLastReferenceIdeal.main_arg5))

def preserves_StepSbInFirst_StepSbInFirstIdeal : Prop :=
  True

def algebraic_StepSbInFirstIdeal_StepSbInFirstReferenceIdeal [hStepSbInFirstIdeal : Cert.StepSbInFirstIdeal.Facts] [hStepSbInFirstReferenceIdeal : Cert.StepSbInFirstReferenceIdeal.Facts] : Prop :=
  ∀ (m : (ℓ : Loc Cert.StepSbInFirstIdeal.nD Cert.StepSbInFirstIdeal.τ Cert.StepSbInFirstIdeal.sig) → Buf (Elt Ideal) ℓ) (g : Dev Cert.StepSbInFirstIdeal.nD → PrngReg)
    (m' : (ℓ : Loc Cert.StepSbInFirstReferenceIdeal.nD Cert.StepSbInFirstReferenceIdeal.τ Cert.StepSbInFirstReferenceIdeal.sig) → Buf (Elt Ideal) ℓ) (g' : Dev Cert.StepSbInFirstReferenceIdeal.nD → PrngReg), Pre_StepSbInFirstIdeal m →
    (∀ c : Dev Cert.StepSbInFirstIdeal.nD,
      m' ((c.tc : Thread Cert.StepSbInFirstReferenceIdeal.nD Cert.StepSbInFirstReferenceIdeal.τ).loc Cert.StepSbInFirstReferenceIdeal.main_arg0) = m ((c.tc : Thread Cert.StepSbInFirstIdeal.nD Cert.StepSbInFirstIdeal.τ).loc Cert.StepSbInFirstIdeal.main_arg0)
      ∧ m' ((c.tc : Thread Cert.StepSbInFirstReferenceIdeal.nD Cert.StepSbInFirstReferenceIdeal.τ).loc Cert.StepSbInFirstReferenceIdeal.main_arg1) = m ((c.tc : Thread Cert.StepSbInFirstIdeal.nD Cert.StepSbInFirstIdeal.τ).loc Cert.StepSbInFirstIdeal.main_arg1)
      ∧ m' ((c.tc : Thread Cert.StepSbInFirstReferenceIdeal.nD Cert.StepSbInFirstReferenceIdeal.τ).loc Cert.StepSbInFirstReferenceIdeal.main_arg2) = m ((c.tc : Thread Cert.StepSbInFirstIdeal.nD Cert.StepSbInFirstIdeal.τ).loc Cert.StepSbInFirstIdeal.main_arg2)
      ∧ m' ((c.tc : Thread Cert.StepSbInFirstReferenceIdeal.nD Cert.StepSbInFirstReferenceIdeal.τ).loc Cert.StepSbInFirstReferenceIdeal.main_arg3) = m ((c.tc : Thread Cert.StepSbInFirstIdeal.nD Cert.StepSbInFirstIdeal.τ).loc Cert.StepSbInFirstIdeal.main_arg3)
      ∧ m' ((c.tc : Thread Cert.StepSbInFirstReferenceIdeal.nD Cert.StepSbInFirstReferenceIdeal.τ).loc Cert.StepSbInFirstReferenceIdeal.main_arg4) = m ((c.tc : Thread Cert.StepSbInFirstIdeal.nD Cert.StepSbInFirstIdeal.τ).loc Cert.StepSbInFirstIdeal.main_arg4)
      ∧ m' ((c.tc : Thread Cert.StepSbInFirstReferenceIdeal.nD Cert.StepSbInFirstReferenceIdeal.τ).loc Cert.StepSbInFirstReferenceIdeal.main_arg5) = m ((c.tc : Thread Cert.StepSbInFirstIdeal.nD Cert.StepSbInFirstIdeal.τ).loc Cert.StepSbInFirstIdeal.main_arg5)
      ∧ m' ((c.tc : Thread Cert.StepSbInFirstReferenceIdeal.nD Cert.StepSbInFirstReferenceIdeal.τ).loc Cert.StepSbInFirstReferenceIdeal.main_arg6) = m ((c.tc : Thread Cert.StepSbInFirstIdeal.nD Cert.StepSbInFirstIdeal.τ).loc Cert.StepSbInFirstIdeal.main_arg6)
      ∧ m' ((c.tc : Thread Cert.StepSbInFirstReferenceIdeal.nD Cert.StepSbInFirstReferenceIdeal.τ).loc Cert.StepSbInFirstReferenceIdeal.main_arg7) = m ((c.tc : Thread Cert.StepSbInFirstIdeal.nD Cert.StepSbInFirstIdeal.τ).loc Cert.StepSbInFirstIdeal.main_arg7)
      ∧ m' ((c.tc : Thread Cert.StepSbInFirstReferenceIdeal.nD Cert.StepSbInFirstReferenceIdeal.τ).loc Cert.StepSbInFirstReferenceIdeal.main_arg8) = m ((c.tc : Thread Cert.StepSbInFirstIdeal.nD Cert.StepSbInFirstIdeal.τ).loc Cert.StepSbInFirstIdeal.main_arg8)
      ∧ m' ((c.tc : Thread Cert.StepSbInFirstReferenceIdeal.nD Cert.StepSbInFirstReferenceIdeal.τ).loc Cert.StepSbInFirstReferenceIdeal.main_arg9) = m ((c.tc : Thread Cert.StepSbInFirstIdeal.nD Cert.StepSbInFirstIdeal.τ).loc Cert.StepSbInFirstIdeal.main_arg9)) →
    ∃ (v0 : (c : Dev Cert.StepSbInFirstIdeal.nD) → Buf (Elt Ideal) ((c.tc : Thread Cert.StepSbInFirstIdeal.nD Cert.StepSbInFirstIdeal.τ).loc Cert.StepSbInFirstIdeal.main_v0_0)) (v1 : (c : Dev Cert.StepSbInFirstIdeal.nD) → Buf (Elt Ideal) ((c.tc : Thread Cert.StepSbInFirstIdeal.nD Cert.StepSbInFirstIdeal.τ).loc Cert.StepSbInFirstIdeal.main_v0_1)) (v2 : (c : Dev Cert.StepSbInFirstIdeal.nD) → Buf (Elt Ideal) ((c.tc : Thread Cert.StepSbInFirstIdeal.nD Cert.StepSbInFirstIdeal.τ).loc Cert.StepSbInFirstIdeal.main_v0_2)) (v3 : (c : Dev Cert.StepSbInFirstIdeal.nD) → Buf (Elt Ideal) ((c.tc : Thread Cert.StepSbInFirstIdeal.nD Cert.StepSbInFirstIdeal.τ).loc Cert.StepSbInFirstIdeal.main_v0_3)),
      θ_run (Cert.StepSbInFirstIdeal.defs (F := Ideal)) (onTc (τ := Cert.StepSbInFirstIdeal.τ) (Cert.StepSbInFirstIdeal.main (F := Ideal))) ⟨m, fun _ => 0, g⟩ (fun r => ∀ c : Dev Cert.StepSbInFirstIdeal.nD,
          r.2.mem ((c.tc : Thread Cert.StepSbInFirstIdeal.nD Cert.StepSbInFirstIdeal.τ).loc Cert.StepSbInFirstIdeal.main_v0_0) = v0 c
          ∧ r.2.mem ((c.tc : Thread Cert.StepSbInFirstIdeal.nD Cert.StepSbInFirstIdeal.τ).loc Cert.StepSbInFirstIdeal.main_v0_1) = v1 c
          ∧ r.2.mem ((c.tc : Thread Cert.StepSbInFirstIdeal.nD Cert.StepSbInFirstIdeal.τ).loc Cert.StepSbInFirstIdeal.main_v0_2) = v2 c
          ∧ r.2.mem ((c.tc : Thread Cert.StepSbInFirstIdeal.nD Cert.StepSbInFirstIdeal.τ).loc Cert.StepSbInFirstIdeal.main_v0_3) = v3 c
          ∧ r.2.mem ((c.tc : Thread Cert.StepSbInFirstIdeal.nD Cert.StepSbInFirstIdeal.τ).loc Cert.StepSbInFirstIdeal.main_arg0) = m ((c.tc : Thread Cert.StepSbInFirstIdeal.nD Cert.StepSbInFirstIdeal.τ).loc Cert.StepSbInFirstIdeal.main_arg0)
          ∧ r.2.mem ((c.tc : Thread Cert.StepSbInFirstIdeal.nD Cert.StepSbInFirstIdeal.τ).loc Cert.StepSbInFirstIdeal.main_arg1) = m ((c.tc : Thread Cert.StepSbInFirstIdeal.nD Cert.StepSbInFirstIdeal.τ).loc Cert.StepSbInFirstIdeal.main_arg1)
          ∧ r.2.mem ((c.tc : Thread Cert.StepSbInFirstIdeal.nD Cert.StepSbInFirstIdeal.τ).loc Cert.StepSbInFirstIdeal.main_arg2) = m ((c.tc : Thread Cert.StepSbInFirstIdeal.nD Cert.StepSbInFirstIdeal.τ).loc Cert.StepSbInFirstIdeal.main_arg2)
          ∧ r.2.mem ((c.tc : Thread Cert.StepSbInFirstIdeal.nD Cert.StepSbInFirstIdeal.τ).loc Cert.StepSbInFirstIdeal.main_arg3) = m ((c.tc : Thread Cert.StepSbInFirstIdeal.nD Cert.StepSbInFirstIdeal.τ).loc Cert.StepSbInFirstIdeal.main_arg3)
          ∧ r.2.mem ((c.tc : Thread Cert.StepSbInFirstIdeal.nD Cert.StepSbInFirstIdeal.τ).loc Cert.StepSbInFirstIdeal.main_arg4) = m ((c.tc : Thread Cert.StepSbInFirstIdeal.nD Cert.StepSbInFirstIdeal.τ).loc Cert.StepSbInFirstIdeal.main_arg4)
          ∧ r.2.mem ((c.tc : Thread Cert.StepSbInFirstIdeal.nD Cert.StepSbInFirstIdeal.τ).loc Cert.StepSbInFirstIdeal.main_arg5) = m ((c.tc : Thread Cert.StepSbInFirstIdeal.nD Cert.StepSbInFirstIdeal.τ).loc Cert.StepSbInFirstIdeal.main_arg5)
          ∧ r.2.mem ((c.tc : Thread Cert.StepSbInFirstIdeal.nD Cert.StepSbInFirstIdeal.τ).loc Cert.StepSbInFirstIdeal.main_arg6) = m ((c.tc : Thread Cert.StepSbInFirstIdeal.nD Cert.StepSbInFirstIdeal.τ).loc Cert.StepSbInFirstIdeal.main_arg6)
          ∧ r.2.mem ((c.tc : Thread Cert.StepSbInFirstIdeal.nD Cert.StepSbInFirstIdeal.τ).loc Cert.StepSbInFirstIdeal.main_arg7) = m ((c.tc : Thread Cert.StepSbInFirstIdeal.nD Cert.StepSbInFirstIdeal.τ).loc Cert.StepSbInFirstIdeal.main_arg7)
          ∧ r.2.mem ((c.tc : Thread Cert.StepSbInFirstIdeal.nD Cert.StepSbInFirstIdeal.τ).loc Cert.StepSbInFirstIdeal.main_arg8) = m ((c.tc : Thread Cert.StepSbInFirstIdeal.nD Cert.StepSbInFirstIdeal.τ).loc Cert.StepSbInFirstIdeal.main_arg8)
          ∧ r.2.mem ((c.tc : Thread Cert.StepSbInFirstIdeal.nD Cert.StepSbInFirstIdeal.τ).loc Cert.StepSbInFirstIdeal.main_arg9) = m ((c.tc : Thread Cert.StepSbInFirstIdeal.nD Cert.StepSbInFirstIdeal.τ).loc Cert.StepSbInFirstIdeal.main_arg9))
      ∧ θ_run (Cert.StepSbInFirstReferenceIdeal.defs (F := Ideal)) (onTc (τ := Cert.StepSbInFirstReferenceIdeal.τ) (Cert.StepSbInFirstReferenceIdeal.main (F := Ideal))) ⟨m', fun _ => 0, g'⟩ (fun r => ∀ c : Dev Cert.StepSbInFirstReferenceIdeal.nD,
          r.2.mem ((c.tc : Thread Cert.StepSbInFirstReferenceIdeal.nD Cert.StepSbInFirstReferenceIdeal.τ).loc Cert.StepSbInFirstReferenceIdeal.main_v35) = v0 c
          ∧ r.2.mem ((c.tc : Thread Cert.StepSbInFirstReferenceIdeal.nD Cert.StepSbInFirstReferenceIdeal.τ).loc Cert.StepSbInFirstReferenceIdeal.main_v36) = v1 c
          ∧ r.2.mem ((c.tc : Thread Cert.StepSbInFirstReferenceIdeal.nD Cert.StepSbInFirstReferenceIdeal.τ).loc Cert.StepSbInFirstReferenceIdeal.main_v37) = v2 c
          ∧ r.2.mem ((c.tc : Thread Cert.StepSbInFirstReferenceIdeal.nD Cert.StepSbInFirstReferenceIdeal.τ).loc Cert.StepSbInFirstReferenceIdeal.main_v38) = v3 c
          ∧ r.2.mem ((c.tc : Thread Cert.StepSbInFirstReferenceIdeal.nD Cert.StepSbInFirstReferenceIdeal.τ).loc Cert.StepSbInFirstReferenceIdeal.main_arg0) = m' ((c.tc : Thread Cert.StepSbInFirstReferenceIdeal.nD Cert.StepSbInFirstReferenceIdeal.τ).loc Cert.StepSbInFirstReferenceIdeal.main_arg0)
          ∧ r.2.mem ((c.tc : Thread Cert.StepSbInFirstReferenceIdeal.nD Cert.StepSbInFirstReferenceIdeal.τ).loc Cert.StepSbInFirstReferenceIdeal.main_arg1) = m' ((c.tc : Thread Cert.StepSbInFirstReferenceIdeal.nD Cert.StepSbInFirstReferenceIdeal.τ).loc Cert.StepSbInFirstReferenceIdeal.main_arg1)
          ∧ r.2.mem ((c.tc : Thread Cert.StepSbInFirstReferenceIdeal.nD Cert.StepSbInFirstReferenceIdeal.τ).loc Cert.StepSbInFirstReferenceIdeal.main_arg2) = m' ((c.tc : Thread Cert.StepSbInFirstReferenceIdeal.nD Cert.StepSbInFirstReferenceIdeal.τ).loc Cert.StepSbInFirstReferenceIdeal.main_arg2)
          ∧ r.2.mem ((c.tc : Thread Cert.StepSbInFirstReferenceIdeal.nD Cert.StepSbInFirstReferenceIdeal.τ).loc Cert.StepSbInFirstReferenceIdeal.main_arg3) = m' ((c.tc : Thread Cert.StepSbInFirstReferenceIdeal.nD Cert.StepSbInFirstReferenceIdeal.τ).loc Cert.StepSbInFirstReferenceIdeal.main_arg3)
          ∧ r.2.mem ((c.tc : Thread Cert.StepSbInFirstReferenceIdeal.nD Cert.StepSbInFirstReferenceIdeal.τ).loc Cert.StepSbInFirstReferenceIdeal.main_arg4) = m' ((c.tc : Thread Cert.StepSbInFirstReferenceIdeal.nD Cert.StepSbInFirstReferenceIdeal.τ).loc Cert.StepSbInFirstReferenceIdeal.main_arg4)
          ∧ r.2.mem ((c.tc : Thread Cert.StepSbInFirstReferenceIdeal.nD Cert.StepSbInFirstReferenceIdeal.τ).loc Cert.StepSbInFirstReferenceIdeal.main_arg5) = m' ((c.tc : Thread Cert.StepSbInFirstReferenceIdeal.nD Cert.StepSbInFirstReferenceIdeal.τ).loc Cert.StepSbInFirstReferenceIdeal.main_arg5)
          ∧ r.2.mem ((c.tc : Thread Cert.StepSbInFirstReferenceIdeal.nD Cert.StepSbInFirstReferenceIdeal.τ).loc Cert.StepSbInFirstReferenceIdeal.main_arg6) = m' ((c.tc : Thread Cert.StepSbInFirstReferenceIdeal.nD Cert.StepSbInFirstReferenceIdeal.τ).loc Cert.StepSbInFirstReferenceIdeal.main_arg6)
          ∧ r.2.mem ((c.tc : Thread Cert.StepSbInFirstReferenceIdeal.nD Cert.StepSbInFirstReferenceIdeal.τ).loc Cert.StepSbInFirstReferenceIdeal.main_arg7) = m' ((c.tc : Thread Cert.StepSbInFirstReferenceIdeal.nD Cert.StepSbInFirstReferenceIdeal.τ).loc Cert.StepSbInFirstReferenceIdeal.main_arg7)
          ∧ r.2.mem ((c.tc : Thread Cert.StepSbInFirstReferenceIdeal.nD Cert.StepSbInFirstReferenceIdeal.τ).loc Cert.StepSbInFirstReferenceIdeal.main_arg8) = m' ((c.tc : Thread Cert.StepSbInFirstReferenceIdeal.nD Cert.StepSbInFirstReferenceIdeal.τ).loc Cert.StepSbInFirstReferenceIdeal.main_arg8)
          ∧ r.2.mem ((c.tc : Thread Cert.StepSbInFirstReferenceIdeal.nD Cert.StepSbInFirstReferenceIdeal.τ).loc Cert.StepSbInFirstReferenceIdeal.main_arg9) = m' ((c.tc : Thread Cert.StepSbInFirstReferenceIdeal.nD Cert.StepSbInFirstReferenceIdeal.τ).loc Cert.StepSbInFirstReferenceIdeal.main_arg9))

def preserves_StepSbOutLast_StepSbOutLastIdeal : Prop :=
  True

def algebraic_StepSbOutLastIdeal_StepSbOutLastReferenceIdeal [hStepSbOutLastIdeal : Cert.StepSbOutLastIdeal.Facts] [hStepSbOutLastReferenceIdeal : Cert.StepSbOutLastReferenceIdeal.Facts] : Prop :=
  ∀ (m : (ℓ : Loc Cert.StepSbOutLastIdeal.nD Cert.StepSbOutLastIdeal.τ Cert.StepSbOutLastIdeal.sig) → Buf (Elt Ideal) ℓ) (g : Dev Cert.StepSbOutLastIdeal.nD → PrngReg)
    (m' : (ℓ : Loc Cert.StepSbOutLastReferenceIdeal.nD Cert.StepSbOutLastReferenceIdeal.τ Cert.StepSbOutLastReferenceIdeal.sig) → Buf (Elt Ideal) ℓ) (g' : Dev Cert.StepSbOutLastReferenceIdeal.nD → PrngReg), Pre_StepSbOutLastIdeal m →
    (∀ c : Dev Cert.StepSbOutLastIdeal.nD,
      m' ((c.tc : Thread Cert.StepSbOutLastReferenceIdeal.nD Cert.StepSbOutLastReferenceIdeal.τ).loc Cert.StepSbOutLastReferenceIdeal.main_arg0) = m ((c.tc : Thread Cert.StepSbOutLastIdeal.nD Cert.StepSbOutLastIdeal.τ).loc Cert.StepSbOutLastIdeal.main_arg0)
      ∧ m' ((c.tc : Thread Cert.StepSbOutLastReferenceIdeal.nD Cert.StepSbOutLastReferenceIdeal.τ).loc Cert.StepSbOutLastReferenceIdeal.main_arg1) = m ((c.tc : Thread Cert.StepSbOutLastIdeal.nD Cert.StepSbOutLastIdeal.τ).loc Cert.StepSbOutLastIdeal.main_arg1)
      ∧ m' ((c.tc : Thread Cert.StepSbOutLastReferenceIdeal.nD Cert.StepSbOutLastReferenceIdeal.τ).loc Cert.StepSbOutLastReferenceIdeal.main_arg2) = m ((c.tc : Thread Cert.StepSbOutLastIdeal.nD Cert.StepSbOutLastIdeal.τ).loc Cert.StepSbOutLastIdeal.main_arg2)
      ∧ m' ((c.tc : Thread Cert.StepSbOutLastReferenceIdeal.nD Cert.StepSbOutLastReferenceIdeal.τ).loc Cert.StepSbOutLastReferenceIdeal.main_arg3) = m ((c.tc : Thread Cert.StepSbOutLastIdeal.nD Cert.StepSbOutLastIdeal.τ).loc Cert.StepSbOutLastIdeal.main_arg3)
      ∧ m' ((c.tc : Thread Cert.StepSbOutLastReferenceIdeal.nD Cert.StepSbOutLastReferenceIdeal.τ).loc Cert.StepSbOutLastReferenceIdeal.main_arg4) = m ((c.tc : Thread Cert.StepSbOutLastIdeal.nD Cert.StepSbOutLastIdeal.τ).loc Cert.StepSbOutLastIdeal.main_arg4)
      ∧ m' ((c.tc : Thread Cert.StepSbOutLastReferenceIdeal.nD Cert.StepSbOutLastReferenceIdeal.τ).loc Cert.StepSbOutLastReferenceIdeal.main_arg5) = m ((c.tc : Thread Cert.StepSbOutLastIdeal.nD Cert.StepSbOutLastIdeal.τ).loc Cert.StepSbOutLastIdeal.main_arg5)) →
    ∃ (v0 : (c : Dev Cert.StepSbOutLastIdeal.nD) → Buf (Elt Ideal) ((c.tc : Thread Cert.StepSbOutLastIdeal.nD Cert.StepSbOutLastIdeal.τ).loc Cert.StepSbOutLastIdeal.main_v1)) (v1 : (c : Dev Cert.StepSbOutLastIdeal.nD) → Buf (Elt Ideal) ((c.tc : Thread Cert.StepSbOutLastIdeal.nD Cert.StepSbOutLastIdeal.τ).loc Cert.StepSbOutLastIdeal.main_v2)) (v2 : (c : Dev Cert.StepSbOutLastIdeal.nD) → Buf (Elt Ideal) ((c.tc : Thread Cert.StepSbOutLastIdeal.nD Cert.StepSbOutLastIdeal.τ).loc Cert.StepSbOutLastIdeal.main_v3)) (v3 : (c : Dev Cert.StepSbOutLastIdeal.nD) → Buf (Elt Ideal) ((c.tc : Thread Cert.StepSbOutLastIdeal.nD Cert.StepSbOutLastIdeal.τ).loc Cert.StepSbOutLastIdeal.main_v4)),
      θ_run (Cert.StepSbOutLastIdeal.defs (F := Ideal)) (onTc (τ := Cert.StepSbOutLastIdeal.τ) (Cert.StepSbOutLastIdeal.main (F := Ideal))) ⟨m, fun _ => 0, g⟩ (fun r => ∀ c : Dev Cert.StepSbOutLastIdeal.nD,
          r.2.mem ((c.tc : Thread Cert.StepSbOutLastIdeal.nD Cert.StepSbOutLastIdeal.τ).loc Cert.StepSbOutLastIdeal.main_v1) = v0 c
          ∧ r.2.mem ((c.tc : Thread Cert.StepSbOutLastIdeal.nD Cert.StepSbOutLastIdeal.τ).loc Cert.StepSbOutLastIdeal.main_v2) = v1 c
          ∧ r.2.mem ((c.tc : Thread Cert.StepSbOutLastIdeal.nD Cert.StepSbOutLastIdeal.τ).loc Cert.StepSbOutLastIdeal.main_v3) = v2 c
          ∧ r.2.mem ((c.tc : Thread Cert.StepSbOutLastIdeal.nD Cert.StepSbOutLastIdeal.τ).loc Cert.StepSbOutLastIdeal.main_v4) = v3 c
          ∧ r.2.mem ((c.tc : Thread Cert.StepSbOutLastIdeal.nD Cert.StepSbOutLastIdeal.τ).loc Cert.StepSbOutLastIdeal.main_arg0) = m ((c.tc : Thread Cert.StepSbOutLastIdeal.nD Cert.StepSbOutLastIdeal.τ).loc Cert.StepSbOutLastIdeal.main_arg0)
          ∧ r.2.mem ((c.tc : Thread Cert.StepSbOutLastIdeal.nD Cert.StepSbOutLastIdeal.τ).loc Cert.StepSbOutLastIdeal.main_arg1) = m ((c.tc : Thread Cert.StepSbOutLastIdeal.nD Cert.StepSbOutLastIdeal.τ).loc Cert.StepSbOutLastIdeal.main_arg1)
          ∧ r.2.mem ((c.tc : Thread Cert.StepSbOutLastIdeal.nD Cert.StepSbOutLastIdeal.τ).loc Cert.StepSbOutLastIdeal.main_arg2) = m ((c.tc : Thread Cert.StepSbOutLastIdeal.nD Cert.StepSbOutLastIdeal.τ).loc Cert.StepSbOutLastIdeal.main_arg2)
          ∧ r.2.mem ((c.tc : Thread Cert.StepSbOutLastIdeal.nD Cert.StepSbOutLastIdeal.τ).loc Cert.StepSbOutLastIdeal.main_arg3) = m ((c.tc : Thread Cert.StepSbOutLastIdeal.nD Cert.StepSbOutLastIdeal.τ).loc Cert.StepSbOutLastIdeal.main_arg3)
          ∧ r.2.mem ((c.tc : Thread Cert.StepSbOutLastIdeal.nD Cert.StepSbOutLastIdeal.τ).loc Cert.StepSbOutLastIdeal.main_arg4) = m ((c.tc : Thread Cert.StepSbOutLastIdeal.nD Cert.StepSbOutLastIdeal.τ).loc Cert.StepSbOutLastIdeal.main_arg4)
          ∧ r.2.mem ((c.tc : Thread Cert.StepSbOutLastIdeal.nD Cert.StepSbOutLastIdeal.τ).loc Cert.StepSbOutLastIdeal.main_arg5) = m ((c.tc : Thread Cert.StepSbOutLastIdeal.nD Cert.StepSbOutLastIdeal.τ).loc Cert.StepSbOutLastIdeal.main_arg5))
      ∧ θ_run (Cert.StepSbOutLastReferenceIdeal.defs (F := Ideal)) (onTc (τ := Cert.StepSbOutLastReferenceIdeal.τ) (Cert.StepSbOutLastReferenceIdeal.main (F := Ideal))) ⟨m', fun _ => 0, g'⟩ (fun r => ∀ c : Dev Cert.StepSbOutLastReferenceIdeal.nD,
          r.2.mem ((c.tc : Thread Cert.StepSbOutLastReferenceIdeal.nD Cert.StepSbOutLastReferenceIdeal.τ).loc Cert.StepSbOutLastReferenceIdeal.main_v32) = v0 c
          ∧ r.2.mem ((c.tc : Thread Cert.StepSbOutLastReferenceIdeal.nD Cert.StepSbOutLastReferenceIdeal.τ).loc Cert.StepSbOutLastReferenceIdeal.main_v33) = v1 c
          ∧ r.2.mem ((c.tc : Thread Cert.StepSbOutLastReferenceIdeal.nD Cert.StepSbOutLastReferenceIdeal.τ).loc Cert.StepSbOutLastReferenceIdeal.main_v34) = v2 c
          ∧ r.2.mem ((c.tc : Thread Cert.StepSbOutLastReferenceIdeal.nD Cert.StepSbOutLastReferenceIdeal.τ).loc Cert.StepSbOutLastReferenceIdeal.main_v35) = v3 c
          ∧ r.2.mem ((c.tc : Thread Cert.StepSbOutLastReferenceIdeal.nD Cert.StepSbOutLastReferenceIdeal.τ).loc Cert.StepSbOutLastReferenceIdeal.main_arg0) = m' ((c.tc : Thread Cert.StepSbOutLastReferenceIdeal.nD Cert.StepSbOutLastReferenceIdeal.τ).loc Cert.StepSbOutLastReferenceIdeal.main_arg0)
          ∧ r.2.mem ((c.tc : Thread Cert.StepSbOutLastReferenceIdeal.nD Cert.StepSbOutLastReferenceIdeal.τ).loc Cert.StepSbOutLastReferenceIdeal.main_arg1) = m' ((c.tc : Thread Cert.StepSbOutLastReferenceIdeal.nD Cert.StepSbOutLastReferenceIdeal.τ).loc Cert.StepSbOutLastReferenceIdeal.main_arg1)
          ∧ r.2.mem ((c.tc : Thread Cert.StepSbOutLastReferenceIdeal.nD Cert.StepSbOutLastReferenceIdeal.τ).loc Cert.StepSbOutLastReferenceIdeal.main_arg2) = m' ((c.tc : Thread Cert.StepSbOutLastReferenceIdeal.nD Cert.StepSbOutLastReferenceIdeal.τ).loc Cert.StepSbOutLastReferenceIdeal.main_arg2)
          ∧ r.2.mem ((c.tc : Thread Cert.StepSbOutLastReferenceIdeal.nD Cert.StepSbOutLastReferenceIdeal.τ).loc Cert.StepSbOutLastReferenceIdeal.main_arg3) = m' ((c.tc : Thread Cert.StepSbOutLastReferenceIdeal.nD Cert.StepSbOutLastReferenceIdeal.τ).loc Cert.StepSbOutLastReferenceIdeal.main_arg3)
          ∧ r.2.mem ((c.tc : Thread Cert.StepSbOutLastReferenceIdeal.nD Cert.StepSbOutLastReferenceIdeal.τ).loc Cert.StepSbOutLastReferenceIdeal.main_arg4) = m' ((c.tc : Thread Cert.StepSbOutLastReferenceIdeal.nD Cert.StepSbOutLastReferenceIdeal.τ).loc Cert.StepSbOutLastReferenceIdeal.main_arg4)
          ∧ r.2.mem ((c.tc : Thread Cert.StepSbOutLastReferenceIdeal.nD Cert.StepSbOutLastReferenceIdeal.τ).loc Cert.StepSbOutLastReferenceIdeal.main_arg5) = m' ((c.tc : Thread Cert.StepSbOutLastReferenceIdeal.nD Cert.StepSbOutLastReferenceIdeal.τ).loc Cert.StepSbOutLastReferenceIdeal.main_arg5))

def preserves_StepSbOutFirst_StepSbOutFirstIdeal : Prop :=
  True

def algebraic_StepSbOutFirstIdeal_StepSbOutFirstReferenceIdeal [hStepSbOutFirstIdeal : Cert.StepSbOutFirstIdeal.Facts] [hStepSbOutFirstReferenceIdeal : Cert.StepSbOutFirstReferenceIdeal.Facts] : Prop :=
  ∀ (m : (ℓ : Loc Cert.StepSbOutFirstIdeal.nD Cert.StepSbOutFirstIdeal.τ Cert.StepSbOutFirstIdeal.sig) → Buf (Elt Ideal) ℓ) (g : Dev Cert.StepSbOutFirstIdeal.nD → PrngReg)
    (m' : (ℓ : Loc Cert.StepSbOutFirstReferenceIdeal.nD Cert.StepSbOutFirstReferenceIdeal.τ Cert.StepSbOutFirstReferenceIdeal.sig) → Buf (Elt Ideal) ℓ) (g' : Dev Cert.StepSbOutFirstReferenceIdeal.nD → PrngReg), Pre_StepSbOutFirstIdeal m →
    (∀ c : Dev Cert.StepSbOutFirstIdeal.nD,
      m' ((c.tc : Thread Cert.StepSbOutFirstReferenceIdeal.nD Cert.StepSbOutFirstReferenceIdeal.τ).loc Cert.StepSbOutFirstReferenceIdeal.main_arg0) = m ((c.tc : Thread Cert.StepSbOutFirstIdeal.nD Cert.StepSbOutFirstIdeal.τ).loc Cert.StepSbOutFirstIdeal.main_arg0)
      ∧ m' ((c.tc : Thread Cert.StepSbOutFirstReferenceIdeal.nD Cert.StepSbOutFirstReferenceIdeal.τ).loc Cert.StepSbOutFirstReferenceIdeal.main_arg1) = m ((c.tc : Thread Cert.StepSbOutFirstIdeal.nD Cert.StepSbOutFirstIdeal.τ).loc Cert.StepSbOutFirstIdeal.main_arg1)
      ∧ m' ((c.tc : Thread Cert.StepSbOutFirstReferenceIdeal.nD Cert.StepSbOutFirstReferenceIdeal.τ).loc Cert.StepSbOutFirstReferenceIdeal.main_arg2) = m ((c.tc : Thread Cert.StepSbOutFirstIdeal.nD Cert.StepSbOutFirstIdeal.τ).loc Cert.StepSbOutFirstIdeal.main_arg2)
      ∧ m' ((c.tc : Thread Cert.StepSbOutFirstReferenceIdeal.nD Cert.StepSbOutFirstReferenceIdeal.τ).loc Cert.StepSbOutFirstReferenceIdeal.main_arg3) = m ((c.tc : Thread Cert.StepSbOutFirstIdeal.nD Cert.StepSbOutFirstIdeal.τ).loc Cert.StepSbOutFirstIdeal.main_arg3)
      ∧ m' ((c.tc : Thread Cert.StepSbOutFirstReferenceIdeal.nD Cert.StepSbOutFirstReferenceIdeal.τ).loc Cert.StepSbOutFirstReferenceIdeal.main_arg4) = m ((c.tc : Thread Cert.StepSbOutFirstIdeal.nD Cert.StepSbOutFirstIdeal.τ).loc Cert.StepSbOutFirstIdeal.main_arg4)
      ∧ m' ((c.tc : Thread Cert.StepSbOutFirstReferenceIdeal.nD Cert.StepSbOutFirstReferenceIdeal.τ).loc Cert.StepSbOutFirstReferenceIdeal.main_arg5) = m ((c.tc : Thread Cert.StepSbOutFirstIdeal.nD Cert.StepSbOutFirstIdeal.τ).loc Cert.StepSbOutFirstIdeal.main_arg5)
      ∧ m' ((c.tc : Thread Cert.StepSbOutFirstReferenceIdeal.nD Cert.StepSbOutFirstReferenceIdeal.τ).loc Cert.StepSbOutFirstReferenceIdeal.main_arg6) = m ((c.tc : Thread Cert.StepSbOutFirstIdeal.nD Cert.StepSbOutFirstIdeal.τ).loc Cert.StepSbOutFirstIdeal.main_arg6)
      ∧ m' ((c.tc : Thread Cert.StepSbOutFirstReferenceIdeal.nD Cert.StepSbOutFirstReferenceIdeal.τ).loc Cert.StepSbOutFirstReferenceIdeal.main_arg7) = m ((c.tc : Thread Cert.StepSbOutFirstIdeal.nD Cert.StepSbOutFirstIdeal.τ).loc Cert.StepSbOutFirstIdeal.main_arg7)
      ∧ m' ((c.tc : Thread Cert.StepSbOutFirstReferenceIdeal.nD Cert.StepSbOutFirstReferenceIdeal.τ).loc Cert.StepSbOutFirstReferenceIdeal.main_arg8) = m ((c.tc : Thread Cert.StepSbOutFirstIdeal.nD Cert.StepSbOutFirstIdeal.τ).loc Cert.StepSbOutFirstIdeal.main_arg8)
      ∧ m' ((c.tc : Thread Cert.StepSbOutFirstReferenceIdeal.nD Cert.StepSbOutFirstReferenceIdeal.τ).loc Cert.StepSbOutFirstReferenceIdeal.main_arg9) = m ((c.tc : Thread Cert.StepSbOutFirstIdeal.nD Cert.StepSbOutFirstIdeal.τ).loc Cert.StepSbOutFirstIdeal.main_arg9)) →
    ∃ (v0 : (c : Dev Cert.StepSbOutFirstIdeal.nD) → Buf (Elt Ideal) ((c.tc : Thread Cert.StepSbOutFirstIdeal.nD Cert.StepSbOutFirstIdeal.τ).loc Cert.StepSbOutFirstIdeal.main_v0_0)) (v1 : (c : Dev Cert.StepSbOutFirstIdeal.nD) → Buf (Elt Ideal) ((c.tc : Thread Cert.StepSbOutFirstIdeal.nD Cert.StepSbOutFirstIdeal.τ).loc Cert.StepSbOutFirstIdeal.main_v0_1)) (v2 : (c : Dev Cert.StepSbOutFirstIdeal.nD) → Buf (Elt Ideal) ((c.tc : Thread Cert.StepSbOutFirstIdeal.nD Cert.StepSbOutFirstIdeal.τ).loc Cert.StepSbOutFirstIdeal.main_v0_2)) (v3 : (c : Dev Cert.StepSbOutFirstIdeal.nD) → Buf (Elt Ideal) ((c.tc : Thread Cert.StepSbOutFirstIdeal.nD Cert.StepSbOutFirstIdeal.τ).loc Cert.StepSbOutFirstIdeal.main_v0_3)),
      θ_run (Cert.StepSbOutFirstIdeal.defs (F := Ideal)) (onTc (τ := Cert.StepSbOutFirstIdeal.τ) (Cert.StepSbOutFirstIdeal.main (F := Ideal))) ⟨m, fun _ => 0, g⟩ (fun r => ∀ c : Dev Cert.StepSbOutFirstIdeal.nD,
          r.2.mem ((c.tc : Thread Cert.StepSbOutFirstIdeal.nD Cert.StepSbOutFirstIdeal.τ).loc Cert.StepSbOutFirstIdeal.main_v0_0) = v0 c
          ∧ r.2.mem ((c.tc : Thread Cert.StepSbOutFirstIdeal.nD Cert.StepSbOutFirstIdeal.τ).loc Cert.StepSbOutFirstIdeal.main_v0_1) = v1 c
          ∧ r.2.mem ((c.tc : Thread Cert.StepSbOutFirstIdeal.nD Cert.StepSbOutFirstIdeal.τ).loc Cert.StepSbOutFirstIdeal.main_v0_2) = v2 c
          ∧ r.2.mem ((c.tc : Thread Cert.StepSbOutFirstIdeal.nD Cert.StepSbOutFirstIdeal.τ).loc Cert.StepSbOutFirstIdeal.main_v0_3) = v3 c
          ∧ r.2.mem ((c.tc : Thread Cert.StepSbOutFirstIdeal.nD Cert.StepSbOutFirstIdeal.τ).loc Cert.StepSbOutFirstIdeal.main_arg0) = m ((c.tc : Thread Cert.StepSbOutFirstIdeal.nD Cert.StepSbOutFirstIdeal.τ).loc Cert.StepSbOutFirstIdeal.main_arg0)
          ∧ r.2.mem ((c.tc : Thread Cert.StepSbOutFirstIdeal.nD Cert.StepSbOutFirstIdeal.τ).loc Cert.StepSbOutFirstIdeal.main_arg1) = m ((c.tc : Thread Cert.StepSbOutFirstIdeal.nD Cert.StepSbOutFirstIdeal.τ).loc Cert.StepSbOutFirstIdeal.main_arg1)
          ∧ r.2.mem ((c.tc : Thread Cert.StepSbOutFirstIdeal.nD Cert.StepSbOutFirstIdeal.τ).loc Cert.StepSbOutFirstIdeal.main_arg2) = m ((c.tc : Thread Cert.StepSbOutFirstIdeal.nD Cert.StepSbOutFirstIdeal.τ).loc Cert.StepSbOutFirstIdeal.main_arg2)
          ∧ r.2.mem ((c.tc : Thread Cert.StepSbOutFirstIdeal.nD Cert.StepSbOutFirstIdeal.τ).loc Cert.StepSbOutFirstIdeal.main_arg3) = m ((c.tc : Thread Cert.StepSbOutFirstIdeal.nD Cert.StepSbOutFirstIdeal.τ).loc Cert.StepSbOutFirstIdeal.main_arg3)
          ∧ r.2.mem ((c.tc : Thread Cert.StepSbOutFirstIdeal.nD Cert.StepSbOutFirstIdeal.τ).loc Cert.StepSbOutFirstIdeal.main_arg4) = m ((c.tc : Thread Cert.StepSbOutFirstIdeal.nD Cert.StepSbOutFirstIdeal.τ).loc Cert.StepSbOutFirstIdeal.main_arg4)
          ∧ r.2.mem ((c.tc : Thread Cert.StepSbOutFirstIdeal.nD Cert.StepSbOutFirstIdeal.τ).loc Cert.StepSbOutFirstIdeal.main_arg5) = m ((c.tc : Thread Cert.StepSbOutFirstIdeal.nD Cert.StepSbOutFirstIdeal.τ).loc Cert.StepSbOutFirstIdeal.main_arg5)
          ∧ r.2.mem ((c.tc : Thread Cert.StepSbOutFirstIdeal.nD Cert.StepSbOutFirstIdeal.τ).loc Cert.StepSbOutFirstIdeal.main_arg6) = m ((c.tc : Thread Cert.StepSbOutFirstIdeal.nD Cert.StepSbOutFirstIdeal.τ).loc Cert.StepSbOutFirstIdeal.main_arg6)
          ∧ r.2.mem ((c.tc : Thread Cert.StepSbOutFirstIdeal.nD Cert.StepSbOutFirstIdeal.τ).loc Cert.StepSbOutFirstIdeal.main_arg7) = m ((c.tc : Thread Cert.StepSbOutFirstIdeal.nD Cert.StepSbOutFirstIdeal.τ).loc Cert.StepSbOutFirstIdeal.main_arg7)
          ∧ r.2.mem ((c.tc : Thread Cert.StepSbOutFirstIdeal.nD Cert.StepSbOutFirstIdeal.τ).loc Cert.StepSbOutFirstIdeal.main_arg8) = m ((c.tc : Thread Cert.StepSbOutFirstIdeal.nD Cert.StepSbOutFirstIdeal.τ).loc Cert.StepSbOutFirstIdeal.main_arg8)
          ∧ r.2.mem ((c.tc : Thread Cert.StepSbOutFirstIdeal.nD Cert.StepSbOutFirstIdeal.τ).loc Cert.StepSbOutFirstIdeal.main_arg9) = m ((c.tc : Thread Cert.StepSbOutFirstIdeal.nD Cert.StepSbOutFirstIdeal.τ).loc Cert.StepSbOutFirstIdeal.main_arg9))
      ∧ θ_run (Cert.StepSbOutFirstReferenceIdeal.defs (F := Ideal)) (onTc (τ := Cert.StepSbOutFirstReferenceIdeal.τ) (Cert.StepSbOutFirstReferenceIdeal.main (F := Ideal))) ⟨m', fun _ => 0, g'⟩ (fun r => ∀ c : Dev Cert.StepSbOutFirstReferenceIdeal.nD,
          r.2.mem ((c.tc : Thread Cert.StepSbOutFirstReferenceIdeal.nD Cert.StepSbOutFirstReferenceIdeal.τ).loc Cert.StepSbOutFirstReferenceIdeal.main_v35) = v0 c
          ∧ r.2.mem ((c.tc : Thread Cert.StepSbOutFirstReferenceIdeal.nD Cert.StepSbOutFirstReferenceIdeal.τ).loc Cert.StepSbOutFirstReferenceIdeal.main_v36) = v1 c
          ∧ r.2.mem ((c.tc : Thread Cert.StepSbOutFirstReferenceIdeal.nD Cert.StepSbOutFirstReferenceIdeal.τ).loc Cert.StepSbOutFirstReferenceIdeal.main_v37) = v2 c
          ∧ r.2.mem ((c.tc : Thread Cert.StepSbOutFirstReferenceIdeal.nD Cert.StepSbOutFirstReferenceIdeal.τ).loc Cert.StepSbOutFirstReferenceIdeal.main_v38) = v3 c
          ∧ r.2.mem ((c.tc : Thread Cert.StepSbOutFirstReferenceIdeal.nD Cert.StepSbOutFirstReferenceIdeal.τ).loc Cert.StepSbOutFirstReferenceIdeal.main_arg0) = m' ((c.tc : Thread Cert.StepSbOutFirstReferenceIdeal.nD Cert.StepSbOutFirstReferenceIdeal.τ).loc Cert.StepSbOutFirstReferenceIdeal.main_arg0)
          ∧ r.2.mem ((c.tc : Thread Cert.StepSbOutFirstReferenceIdeal.nD Cert.StepSbOutFirstReferenceIdeal.τ).loc Cert.StepSbOutFirstReferenceIdeal.main_arg1) = m' ((c.tc : Thread Cert.StepSbOutFirstReferenceIdeal.nD Cert.StepSbOutFirstReferenceIdeal.τ).loc Cert.StepSbOutFirstReferenceIdeal.main_arg1)
          ∧ r.2.mem ((c.tc : Thread Cert.StepSbOutFirstReferenceIdeal.nD Cert.StepSbOutFirstReferenceIdeal.τ).loc Cert.StepSbOutFirstReferenceIdeal.main_arg2) = m' ((c.tc : Thread Cert.StepSbOutFirstReferenceIdeal.nD Cert.StepSbOutFirstReferenceIdeal.τ).loc Cert.StepSbOutFirstReferenceIdeal.main_arg2)
          ∧ r.2.mem ((c.tc : Thread Cert.StepSbOutFirstReferenceIdeal.nD Cert.StepSbOutFirstReferenceIdeal.τ).loc Cert.StepSbOutFirstReferenceIdeal.main_arg3) = m' ((c.tc : Thread Cert.StepSbOutFirstReferenceIdeal.nD Cert.StepSbOutFirstReferenceIdeal.τ).loc Cert.StepSbOutFirstReferenceIdeal.main_arg3)
          ∧ r.2.mem ((c.tc : Thread Cert.StepSbOutFirstReferenceIdeal.nD Cert.StepSbOutFirstReferenceIdeal.τ).loc Cert.StepSbOutFirstReferenceIdeal.main_arg4) = m' ((c.tc : Thread Cert.StepSbOutFirstReferenceIdeal.nD Cert.StepSbOutFirstReferenceIdeal.τ).loc Cert.StepSbOutFirstReferenceIdeal.main_arg4)
          ∧ r.2.mem ((c.tc : Thread Cert.StepSbOutFirstReferenceIdeal.nD Cert.StepSbOutFirstReferenceIdeal.τ).loc Cert.StepSbOutFirstReferenceIdeal.main_arg5) = m' ((c.tc : Thread Cert.StepSbOutFirstReferenceIdeal.nD Cert.StepSbOutFirstReferenceIdeal.τ).loc Cert.StepSbOutFirstReferenceIdeal.main_arg5)
          ∧ r.2.mem ((c.tc : Thread Cert.StepSbOutFirstReferenceIdeal.nD Cert.StepSbOutFirstReferenceIdeal.τ).loc Cert.StepSbOutFirstReferenceIdeal.main_arg6) = m' ((c.tc : Thread Cert.StepSbOutFirstReferenceIdeal.nD Cert.StepSbOutFirstReferenceIdeal.τ).loc Cert.StepSbOutFirstReferenceIdeal.main_arg6)
          ∧ r.2.mem ((c.tc : Thread Cert.StepSbOutFirstReferenceIdeal.nD Cert.StepSbOutFirstReferenceIdeal.τ).loc Cert.StepSbOutFirstReferenceIdeal.main_arg7) = m' ((c.tc : Thread Cert.StepSbOutFirstReferenceIdeal.nD Cert.StepSbOutFirstReferenceIdeal.τ).loc Cert.StepSbOutFirstReferenceIdeal.main_arg7)
          ∧ r.2.mem ((c.tc : Thread Cert.StepSbOutFirstReferenceIdeal.nD Cert.StepSbOutFirstReferenceIdeal.τ).loc Cert.StepSbOutFirstReferenceIdeal.main_arg8) = m' ((c.tc : Thread Cert.StepSbOutFirstReferenceIdeal.nD Cert.StepSbOutFirstReferenceIdeal.τ).loc Cert.StepSbOutFirstReferenceIdeal.main_arg8)
          ∧ r.2.mem ((c.tc : Thread Cert.StepSbOutFirstReferenceIdeal.nD Cert.StepSbOutFirstReferenceIdeal.τ).loc Cert.StepSbOutFirstReferenceIdeal.main_arg9) = m' ((c.tc : Thread Cert.StepSbOutFirstReferenceIdeal.nD Cert.StepSbOutFirstReferenceIdeal.τ).loc Cert.StepSbOutFirstReferenceIdeal.main_arg9))

def preserves_StepMlpLast_StepMlpLastIdeal : Prop :=
  True

def algebraic_StepMlpLastIdeal_StepMlpLastReferenceIdeal [hStepMlpLastIdeal : Cert.StepMlpLastIdeal.Facts] [hStepMlpLastReferenceIdeal : Cert.StepMlpLastReferenceIdeal.Facts] : Prop :=
  ∀ (m : (ℓ : Loc Cert.StepMlpLastIdeal.nD Cert.StepMlpLastIdeal.τ Cert.StepMlpLastIdeal.sig) → Buf (Elt Ideal) ℓ) (g : Dev Cert.StepMlpLastIdeal.nD → PrngReg)
    (m' : (ℓ : Loc Cert.StepMlpLastReferenceIdeal.nD Cert.StepMlpLastReferenceIdeal.τ Cert.StepMlpLastReferenceIdeal.sig) → Buf (Elt Ideal) ℓ) (g' : Dev Cert.StepMlpLastReferenceIdeal.nD → PrngReg), Pre_StepMlpLastIdeal m →
    (∀ c : Dev Cert.StepMlpLastIdeal.nD,
      m' ((c.tc : Thread Cert.StepMlpLastReferenceIdeal.nD Cert.StepMlpLastReferenceIdeal.τ).loc Cert.StepMlpLastReferenceIdeal.main_arg0) = m ((c.tc : Thread Cert.StepMlpLastIdeal.nD Cert.StepMlpLastIdeal.τ).loc Cert.StepMlpLastIdeal.main_arg0)
      ∧ m' ((c.tc : Thread Cert.StepMlpLastReferenceIdeal.nD Cert.StepMlpLastReferenceIdeal.τ).loc Cert.StepMlpLastReferenceIdeal.main_arg1) = m ((c.tc : Thread Cert.StepMlpLastIdeal.nD Cert.StepMlpLastIdeal.τ).loc Cert.StepMlpLastIdeal.main_arg1)
      ∧ m' ((c.tc : Thread Cert.StepMlpLastReferenceIdeal.nD Cert.StepMlpLastReferenceIdeal.τ).loc Cert.StepMlpLastReferenceIdeal.main_arg2) = m ((c.tc : Thread Cert.StepMlpLastIdeal.nD Cert.StepMlpLastIdeal.τ).loc Cert.StepMlpLastIdeal.main_arg2)
      ∧ m' ((c.tc : Thread Cert.StepMlpLastReferenceIdeal.nD Cert.StepMlpLastReferenceIdeal.τ).loc Cert.StepMlpLastReferenceIdeal.main_arg3) = m ((c.tc : Thread Cert.StepMlpLastIdeal.nD Cert.StepMlpLastIdeal.τ).loc Cert.StepMlpLastIdeal.main_arg3)
      ∧ m' ((c.tc : Thread Cert.StepMlpLastReferenceIdeal.nD Cert.StepMlpLastReferenceIdeal.τ).loc Cert.StepMlpLastReferenceIdeal.main_arg4) = m ((c.tc : Thread Cert.StepMlpLastIdeal.nD Cert.StepMlpLastIdeal.τ).loc Cert.StepMlpLastIdeal.main_arg4)
      ∧ m' ((c.tc : Thread Cert.StepMlpLastReferenceIdeal.nD Cert.StepMlpLastReferenceIdeal.τ).loc Cert.StepMlpLastReferenceIdeal.main_arg5) = m ((c.tc : Thread Cert.StepMlpLastIdeal.nD Cert.StepMlpLastIdeal.τ).loc Cert.StepMlpLastIdeal.main_arg5)) →
    ∃ (v0 : (c : Dev Cert.StepMlpLastIdeal.nD) → Buf (Elt Ideal) ((c.tc : Thread Cert.StepMlpLastIdeal.nD Cert.StepMlpLastIdeal.τ).loc Cert.StepMlpLastIdeal.main_v1)) (v1 : (c : Dev Cert.StepMlpLastIdeal.nD) → Buf (Elt Ideal) ((c.tc : Thread Cert.StepMlpLastIdeal.nD Cert.StepMlpLastIdeal.τ).loc Cert.StepMlpLastIdeal.main_v2)) (v2 : (c : Dev Cert.StepMlpLastIdeal.nD) → Buf (Elt Ideal) ((c.tc : Thread Cert.StepMlpLastIdeal.nD Cert.StepMlpLastIdeal.τ).loc Cert.StepMlpLastIdeal.main_v3)) (v3 : (c : Dev Cert.StepMlpLastIdeal.nD) → Buf (Elt Ideal) ((c.tc : Thread Cert.StepMlpLastIdeal.nD Cert.StepMlpLastIdeal.τ).loc Cert.StepMlpLastIdeal.main_v4)),
      θ_run (Cert.StepMlpLastIdeal.defs (F := Ideal)) (onTc (τ := Cert.StepMlpLastIdeal.τ) (Cert.StepMlpLastIdeal.main (F := Ideal))) ⟨m, fun _ => 0, g⟩ (fun r => ∀ c : Dev Cert.StepMlpLastIdeal.nD,
          r.2.mem ((c.tc : Thread Cert.StepMlpLastIdeal.nD Cert.StepMlpLastIdeal.τ).loc Cert.StepMlpLastIdeal.main_v1) = v0 c
          ∧ r.2.mem ((c.tc : Thread Cert.StepMlpLastIdeal.nD Cert.StepMlpLastIdeal.τ).loc Cert.StepMlpLastIdeal.main_v2) = v1 c
          ∧ r.2.mem ((c.tc : Thread Cert.StepMlpLastIdeal.nD Cert.StepMlpLastIdeal.τ).loc Cert.StepMlpLastIdeal.main_v3) = v2 c
          ∧ r.2.mem ((c.tc : Thread Cert.StepMlpLastIdeal.nD Cert.StepMlpLastIdeal.τ).loc Cert.StepMlpLastIdeal.main_v4) = v3 c
          ∧ r.2.mem ((c.tc : Thread Cert.StepMlpLastIdeal.nD Cert.StepMlpLastIdeal.τ).loc Cert.StepMlpLastIdeal.main_arg0) = m ((c.tc : Thread Cert.StepMlpLastIdeal.nD Cert.StepMlpLastIdeal.τ).loc Cert.StepMlpLastIdeal.main_arg0)
          ∧ r.2.mem ((c.tc : Thread Cert.StepMlpLastIdeal.nD Cert.StepMlpLastIdeal.τ).loc Cert.StepMlpLastIdeal.main_arg1) = m ((c.tc : Thread Cert.StepMlpLastIdeal.nD Cert.StepMlpLastIdeal.τ).loc Cert.StepMlpLastIdeal.main_arg1)
          ∧ r.2.mem ((c.tc : Thread Cert.StepMlpLastIdeal.nD Cert.StepMlpLastIdeal.τ).loc Cert.StepMlpLastIdeal.main_arg2) = m ((c.tc : Thread Cert.StepMlpLastIdeal.nD Cert.StepMlpLastIdeal.τ).loc Cert.StepMlpLastIdeal.main_arg2)
          ∧ r.2.mem ((c.tc : Thread Cert.StepMlpLastIdeal.nD Cert.StepMlpLastIdeal.τ).loc Cert.StepMlpLastIdeal.main_arg3) = m ((c.tc : Thread Cert.StepMlpLastIdeal.nD Cert.StepMlpLastIdeal.τ).loc Cert.StepMlpLastIdeal.main_arg3)
          ∧ r.2.mem ((c.tc : Thread Cert.StepMlpLastIdeal.nD Cert.StepMlpLastIdeal.τ).loc Cert.StepMlpLastIdeal.main_arg4) = m ((c.tc : Thread Cert.StepMlpLastIdeal.nD Cert.StepMlpLastIdeal.τ).loc Cert.StepMlpLastIdeal.main_arg4)
          ∧ r.2.mem ((c.tc : Thread Cert.StepMlpLastIdeal.nD Cert.StepMlpLastIdeal.τ).loc Cert.StepMlpLastIdeal.main_arg5) = m ((c.tc : Thread Cert.StepMlpLastIdeal.nD Cert.StepMlpLastIdeal.τ).loc Cert.StepMlpLastIdeal.main_arg5))
      ∧ θ_run (Cert.StepMlpLastReferenceIdeal.defs (F := Ideal)) (onTc (τ := Cert.StepMlpLastReferenceIdeal.τ) (Cert.StepMlpLastReferenceIdeal.main (F := Ideal))) ⟨m', fun _ => 0, g'⟩ (fun r => ∀ c : Dev Cert.StepMlpLastReferenceIdeal.nD,
          r.2.mem ((c.tc : Thread Cert.StepMlpLastReferenceIdeal.nD Cert.StepMlpLastReferenceIdeal.τ).loc Cert.StepMlpLastReferenceIdeal.main_v32) = v0 c
          ∧ r.2.mem ((c.tc : Thread Cert.StepMlpLastReferenceIdeal.nD Cert.StepMlpLastReferenceIdeal.τ).loc Cert.StepMlpLastReferenceIdeal.main_v33) = v1 c
          ∧ r.2.mem ((c.tc : Thread Cert.StepMlpLastReferenceIdeal.nD Cert.StepMlpLastReferenceIdeal.τ).loc Cert.StepMlpLastReferenceIdeal.main_v34) = v2 c
          ∧ r.2.mem ((c.tc : Thread Cert.StepMlpLastReferenceIdeal.nD Cert.StepMlpLastReferenceIdeal.τ).loc Cert.StepMlpLastReferenceIdeal.main_v35) = v3 c
          ∧ r.2.mem ((c.tc : Thread Cert.StepMlpLastReferenceIdeal.nD Cert.StepMlpLastReferenceIdeal.τ).loc Cert.StepMlpLastReferenceIdeal.main_arg0) = m' ((c.tc : Thread Cert.StepMlpLastReferenceIdeal.nD Cert.StepMlpLastReferenceIdeal.τ).loc Cert.StepMlpLastReferenceIdeal.main_arg0)
          ∧ r.2.mem ((c.tc : Thread Cert.StepMlpLastReferenceIdeal.nD Cert.StepMlpLastReferenceIdeal.τ).loc Cert.StepMlpLastReferenceIdeal.main_arg1) = m' ((c.tc : Thread Cert.StepMlpLastReferenceIdeal.nD Cert.StepMlpLastReferenceIdeal.τ).loc Cert.StepMlpLastReferenceIdeal.main_arg1)
          ∧ r.2.mem ((c.tc : Thread Cert.StepMlpLastReferenceIdeal.nD Cert.StepMlpLastReferenceIdeal.τ).loc Cert.StepMlpLastReferenceIdeal.main_arg2) = m' ((c.tc : Thread Cert.StepMlpLastReferenceIdeal.nD Cert.StepMlpLastReferenceIdeal.τ).loc Cert.StepMlpLastReferenceIdeal.main_arg2)
          ∧ r.2.mem ((c.tc : Thread Cert.StepMlpLastReferenceIdeal.nD Cert.StepMlpLastReferenceIdeal.τ).loc Cert.StepMlpLastReferenceIdeal.main_arg3) = m' ((c.tc : Thread Cert.StepMlpLastReferenceIdeal.nD Cert.StepMlpLastReferenceIdeal.τ).loc Cert.StepMlpLastReferenceIdeal.main_arg3)
          ∧ r.2.mem ((c.tc : Thread Cert.StepMlpLastReferenceIdeal.nD Cert.StepMlpLastReferenceIdeal.τ).loc Cert.StepMlpLastReferenceIdeal.main_arg4) = m' ((c.tc : Thread Cert.StepMlpLastReferenceIdeal.nD Cert.StepMlpLastReferenceIdeal.τ).loc Cert.StepMlpLastReferenceIdeal.main_arg4)
          ∧ r.2.mem ((c.tc : Thread Cert.StepMlpLastReferenceIdeal.nD Cert.StepMlpLastReferenceIdeal.τ).loc Cert.StepMlpLastReferenceIdeal.main_arg5) = m' ((c.tc : Thread Cert.StepMlpLastReferenceIdeal.nD Cert.StepMlpLastReferenceIdeal.τ).loc Cert.StepMlpLastReferenceIdeal.main_arg5))

def preserves_StepMlpThird_StepMlpThirdIdeal : Prop :=
  True

def algebraic_StepMlpThirdIdeal_StepMlpThirdReferenceIdeal [hStepMlpThirdIdeal : Cert.StepMlpThirdIdeal.Facts] [hStepMlpThirdReferenceIdeal : Cert.StepMlpThirdReferenceIdeal.Facts] : Prop :=
  ∀ (m : (ℓ : Loc Cert.StepMlpThirdIdeal.nD Cert.StepMlpThirdIdeal.τ Cert.StepMlpThirdIdeal.sig) → Buf (Elt Ideal) ℓ) (g : Dev Cert.StepMlpThirdIdeal.nD → PrngReg)
    (m' : (ℓ : Loc Cert.StepMlpThirdReferenceIdeal.nD Cert.StepMlpThirdReferenceIdeal.τ Cert.StepMlpThirdReferenceIdeal.sig) → Buf (Elt Ideal) ℓ) (g' : Dev Cert.StepMlpThirdReferenceIdeal.nD → PrngReg), Pre_StepMlpThirdIdeal m →
    (∀ c : Dev Cert.StepMlpThirdIdeal.nD,
      m' ((c.tc : Thread Cert.StepMlpThirdReferenceIdeal.nD Cert.StepMlpThirdReferenceIdeal.τ).loc Cert.StepMlpThirdReferenceIdeal.main_arg0) = m ((c.tc : Thread Cert.StepMlpThirdIdeal.nD Cert.StepMlpThirdIdeal.τ).loc Cert.StepMlpThirdIdeal.main_arg0)
      ∧ m' ((c.tc : Thread Cert.StepMlpThirdReferenceIdeal.nD Cert.StepMlpThirdReferenceIdeal.τ).loc Cert.StepMlpThirdReferenceIdeal.main_arg1) = m ((c.tc : Thread Cert.StepMlpThirdIdeal.nD Cert.StepMlpThirdIdeal.τ).loc Cert.StepMlpThirdIdeal.main_arg1)
      ∧ m' ((c.tc : Thread Cert.StepMlpThirdReferenceIdeal.nD Cert.StepMlpThirdReferenceIdeal.τ).loc Cert.StepMlpThirdReferenceIdeal.main_arg2) = m ((c.tc : Thread Cert.StepMlpThirdIdeal.nD Cert.StepMlpThirdIdeal.τ).loc Cert.StepMlpThirdIdeal.main_arg2)
      ∧ m' ((c.tc : Thread Cert.StepMlpThirdReferenceIdeal.nD Cert.StepMlpThirdReferenceIdeal.τ).loc Cert.StepMlpThirdReferenceIdeal.main_arg3) = m ((c.tc : Thread Cert.StepMlpThirdIdeal.nD Cert.StepMlpThirdIdeal.τ).loc Cert.StepMlpThirdIdeal.main_arg3)
      ∧ m' ((c.tc : Thread Cert.StepMlpThirdReferenceIdeal.nD Cert.StepMlpThirdReferenceIdeal.τ).loc Cert.StepMlpThirdReferenceIdeal.main_arg4) = m ((c.tc : Thread Cert.StepMlpThirdIdeal.nD Cert.StepMlpThirdIdeal.τ).loc Cert.StepMlpThirdIdeal.main_arg4)
      ∧ m' ((c.tc : Thread Cert.StepMlpThirdReferenceIdeal.nD Cert.StepMlpThirdReferenceIdeal.τ).loc Cert.StepMlpThirdReferenceIdeal.main_arg5) = m ((c.tc : Thread Cert.StepMlpThirdIdeal.nD Cert.StepMlpThirdIdeal.τ).loc Cert.StepMlpThirdIdeal.main_arg5)
      ∧ m' ((c.tc : Thread Cert.StepMlpThirdReferenceIdeal.nD Cert.StepMlpThirdReferenceIdeal.τ).loc Cert.StepMlpThirdReferenceIdeal.main_arg6) = m ((c.tc : Thread Cert.StepMlpThirdIdeal.nD Cert.StepMlpThirdIdeal.τ).loc Cert.StepMlpThirdIdeal.main_arg6)
      ∧ m' ((c.tc : Thread Cert.StepMlpThirdReferenceIdeal.nD Cert.StepMlpThirdReferenceIdeal.τ).loc Cert.StepMlpThirdReferenceIdeal.main_arg7) = m ((c.tc : Thread Cert.StepMlpThirdIdeal.nD Cert.StepMlpThirdIdeal.τ).loc Cert.StepMlpThirdIdeal.main_arg7)
      ∧ m' ((c.tc : Thread Cert.StepMlpThirdReferenceIdeal.nD Cert.StepMlpThirdReferenceIdeal.τ).loc Cert.StepMlpThirdReferenceIdeal.main_arg8) = m ((c.tc : Thread Cert.StepMlpThirdIdeal.nD Cert.StepMlpThirdIdeal.τ).loc Cert.StepMlpThirdIdeal.main_arg8)
      ∧ m' ((c.tc : Thread Cert.StepMlpThirdReferenceIdeal.nD Cert.StepMlpThirdReferenceIdeal.τ).loc Cert.StepMlpThirdReferenceIdeal.main_arg9) = m ((c.tc : Thread Cert.StepMlpThirdIdeal.nD Cert.StepMlpThirdIdeal.τ).loc Cert.StepMlpThirdIdeal.main_arg9)) →
    ∃ (v0 : (c : Dev Cert.StepMlpThirdIdeal.nD) → Buf (Elt Ideal) ((c.tc : Thread Cert.StepMlpThirdIdeal.nD Cert.StepMlpThirdIdeal.τ).loc Cert.StepMlpThirdIdeal.main_v0_0)) (v1 : (c : Dev Cert.StepMlpThirdIdeal.nD) → Buf (Elt Ideal) ((c.tc : Thread Cert.StepMlpThirdIdeal.nD Cert.StepMlpThirdIdeal.τ).loc Cert.StepMlpThirdIdeal.main_v0_1)) (v2 : (c : Dev Cert.StepMlpThirdIdeal.nD) → Buf (Elt Ideal) ((c.tc : Thread Cert.StepMlpThirdIdeal.nD Cert.StepMlpThirdIdeal.τ).loc Cert.StepMlpThirdIdeal.main_v0_2)) (v3 : (c : Dev Cert.StepMlpThirdIdeal.nD) → Buf (Elt Ideal) ((c.tc : Thread Cert.StepMlpThirdIdeal.nD Cert.StepMlpThirdIdeal.τ).loc Cert.StepMlpThirdIdeal.main_v0_3)),
      θ_run (Cert.StepMlpThirdIdeal.defs (F := Ideal)) (onTc (τ := Cert.StepMlpThirdIdeal.τ) (Cert.StepMlpThirdIdeal.main (F := Ideal))) ⟨m, fun _ => 0, g⟩ (fun r => ∀ c : Dev Cert.StepMlpThirdIdeal.nD,
          r.2.mem ((c.tc : Thread Cert.StepMlpThirdIdeal.nD Cert.StepMlpThirdIdeal.τ).loc Cert.StepMlpThirdIdeal.main_v0_0) = v0 c
          ∧ r.2.mem ((c.tc : Thread Cert.StepMlpThirdIdeal.nD Cert.StepMlpThirdIdeal.τ).loc Cert.StepMlpThirdIdeal.main_v0_1) = v1 c
          ∧ r.2.mem ((c.tc : Thread Cert.StepMlpThirdIdeal.nD Cert.StepMlpThirdIdeal.τ).loc Cert.StepMlpThirdIdeal.main_v0_2) = v2 c
          ∧ r.2.mem ((c.tc : Thread Cert.StepMlpThirdIdeal.nD Cert.StepMlpThirdIdeal.τ).loc Cert.StepMlpThirdIdeal.main_v0_3) = v3 c
          ∧ r.2.mem ((c.tc : Thread Cert.StepMlpThirdIdeal.nD Cert.StepMlpThirdIdeal.τ).loc Cert.StepMlpThirdIdeal.main_arg0) = m ((c.tc : Thread Cert.StepMlpThirdIdeal.nD Cert.StepMlpThirdIdeal.τ).loc Cert.StepMlpThirdIdeal.main_arg0)
          ∧ r.2.mem ((c.tc : Thread Cert.StepMlpThirdIdeal.nD Cert.StepMlpThirdIdeal.τ).loc Cert.StepMlpThirdIdeal.main_arg1) = m ((c.tc : Thread Cert.StepMlpThirdIdeal.nD Cert.StepMlpThirdIdeal.τ).loc Cert.StepMlpThirdIdeal.main_arg1)
          ∧ r.2.mem ((c.tc : Thread Cert.StepMlpThirdIdeal.nD Cert.StepMlpThirdIdeal.τ).loc Cert.StepMlpThirdIdeal.main_arg2) = m ((c.tc : Thread Cert.StepMlpThirdIdeal.nD Cert.StepMlpThirdIdeal.τ).loc Cert.StepMlpThirdIdeal.main_arg2)
          ∧ r.2.mem ((c.tc : Thread Cert.StepMlpThirdIdeal.nD Cert.StepMlpThirdIdeal.τ).loc Cert.StepMlpThirdIdeal.main_arg3) = m ((c.tc : Thread Cert.StepMlpThirdIdeal.nD Cert.StepMlpThirdIdeal.τ).loc Cert.StepMlpThirdIdeal.main_arg3)
          ∧ r.2.mem ((c.tc : Thread Cert.StepMlpThirdIdeal.nD Cert.StepMlpThirdIdeal.τ).loc Cert.StepMlpThirdIdeal.main_arg4) = m ((c.tc : Thread Cert.StepMlpThirdIdeal.nD Cert.StepMlpThirdIdeal.τ).loc Cert.StepMlpThirdIdeal.main_arg4)
          ∧ r.2.mem ((c.tc : Thread Cert.StepMlpThirdIdeal.nD Cert.StepMlpThirdIdeal.τ).loc Cert.StepMlpThirdIdeal.main_arg5) = m ((c.tc : Thread Cert.StepMlpThirdIdeal.nD Cert.StepMlpThirdIdeal.τ).loc Cert.StepMlpThirdIdeal.main_arg5)
          ∧ r.2.mem ((c.tc : Thread Cert.StepMlpThirdIdeal.nD Cert.StepMlpThirdIdeal.τ).loc Cert.StepMlpThirdIdeal.main_arg6) = m ((c.tc : Thread Cert.StepMlpThirdIdeal.nD Cert.StepMlpThirdIdeal.τ).loc Cert.StepMlpThirdIdeal.main_arg6)
          ∧ r.2.mem ((c.tc : Thread Cert.StepMlpThirdIdeal.nD Cert.StepMlpThirdIdeal.τ).loc Cert.StepMlpThirdIdeal.main_arg7) = m ((c.tc : Thread Cert.StepMlpThirdIdeal.nD Cert.StepMlpThirdIdeal.τ).loc Cert.StepMlpThirdIdeal.main_arg7)
          ∧ r.2.mem ((c.tc : Thread Cert.StepMlpThirdIdeal.nD Cert.StepMlpThirdIdeal.τ).loc Cert.StepMlpThirdIdeal.main_arg8) = m ((c.tc : Thread Cert.StepMlpThirdIdeal.nD Cert.StepMlpThirdIdeal.τ).loc Cert.StepMlpThirdIdeal.main_arg8)
          ∧ r.2.mem ((c.tc : Thread Cert.StepMlpThirdIdeal.nD Cert.StepMlpThirdIdeal.τ).loc Cert.StepMlpThirdIdeal.main_arg9) = m ((c.tc : Thread Cert.StepMlpThirdIdeal.nD Cert.StepMlpThirdIdeal.τ).loc Cert.StepMlpThirdIdeal.main_arg9))
      ∧ θ_run (Cert.StepMlpThirdReferenceIdeal.defs (F := Ideal)) (onTc (τ := Cert.StepMlpThirdReferenceIdeal.τ) (Cert.StepMlpThirdReferenceIdeal.main (F := Ideal))) ⟨m', fun _ => 0, g'⟩ (fun r => ∀ c : Dev Cert.StepMlpThirdReferenceIdeal.nD,
          r.2.mem ((c.tc : Thread Cert.StepMlpThirdReferenceIdeal.nD Cert.StepMlpThirdReferenceIdeal.τ).loc Cert.StepMlpThirdReferenceIdeal.main_v35) = v0 c
          ∧ r.2.mem ((c.tc : Thread Cert.StepMlpThirdReferenceIdeal.nD Cert.StepMlpThirdReferenceIdeal.τ).loc Cert.StepMlpThirdReferenceIdeal.main_v36) = v1 c
          ∧ r.2.mem ((c.tc : Thread Cert.StepMlpThirdReferenceIdeal.nD Cert.StepMlpThirdReferenceIdeal.τ).loc Cert.StepMlpThirdReferenceIdeal.main_v37) = v2 c
          ∧ r.2.mem ((c.tc : Thread Cert.StepMlpThirdReferenceIdeal.nD Cert.StepMlpThirdReferenceIdeal.τ).loc Cert.StepMlpThirdReferenceIdeal.main_v38) = v3 c
          ∧ r.2.mem ((c.tc : Thread Cert.StepMlpThirdReferenceIdeal.nD Cert.StepMlpThirdReferenceIdeal.τ).loc Cert.StepMlpThirdReferenceIdeal.main_arg0) = m' ((c.tc : Thread Cert.StepMlpThirdReferenceIdeal.nD Cert.StepMlpThirdReferenceIdeal.τ).loc Cert.StepMlpThirdReferenceIdeal.main_arg0)
          ∧ r.2.mem ((c.tc : Thread Cert.StepMlpThirdReferenceIdeal.nD Cert.StepMlpThirdReferenceIdeal.τ).loc Cert.StepMlpThirdReferenceIdeal.main_arg1) = m' ((c.tc : Thread Cert.StepMlpThirdReferenceIdeal.nD Cert.StepMlpThirdReferenceIdeal.τ).loc Cert.StepMlpThirdReferenceIdeal.main_arg1)
          ∧ r.2.mem ((c.tc : Thread Cert.StepMlpThirdReferenceIdeal.nD Cert.StepMlpThirdReferenceIdeal.τ).loc Cert.StepMlpThirdReferenceIdeal.main_arg2) = m' ((c.tc : Thread Cert.StepMlpThirdReferenceIdeal.nD Cert.StepMlpThirdReferenceIdeal.τ).loc Cert.StepMlpThirdReferenceIdeal.main_arg2)
          ∧ r.2.mem ((c.tc : Thread Cert.StepMlpThirdReferenceIdeal.nD Cert.StepMlpThirdReferenceIdeal.τ).loc Cert.StepMlpThirdReferenceIdeal.main_arg3) = m' ((c.tc : Thread Cert.StepMlpThirdReferenceIdeal.nD Cert.StepMlpThirdReferenceIdeal.τ).loc Cert.StepMlpThirdReferenceIdeal.main_arg3)
          ∧ r.2.mem ((c.tc : Thread Cert.StepMlpThirdReferenceIdeal.nD Cert.StepMlpThirdReferenceIdeal.τ).loc Cert.StepMlpThirdReferenceIdeal.main_arg4) = m' ((c.tc : Thread Cert.StepMlpThirdReferenceIdeal.nD Cert.StepMlpThirdReferenceIdeal.τ).loc Cert.StepMlpThirdReferenceIdeal.main_arg4)
          ∧ r.2.mem ((c.tc : Thread Cert.StepMlpThirdReferenceIdeal.nD Cert.StepMlpThirdReferenceIdeal.τ).loc Cert.StepMlpThirdReferenceIdeal.main_arg5) = m' ((c.tc : Thread Cert.StepMlpThirdReferenceIdeal.nD Cert.StepMlpThirdReferenceIdeal.τ).loc Cert.StepMlpThirdReferenceIdeal.main_arg5)
          ∧ r.2.mem ((c.tc : Thread Cert.StepMlpThirdReferenceIdeal.nD Cert.StepMlpThirdReferenceIdeal.τ).loc Cert.StepMlpThirdReferenceIdeal.main_arg6) = m' ((c.tc : Thread Cert.StepMlpThirdReferenceIdeal.nD Cert.StepMlpThirdReferenceIdeal.τ).loc Cert.StepMlpThirdReferenceIdeal.main_arg6)
          ∧ r.2.mem ((c.tc : Thread Cert.StepMlpThirdReferenceIdeal.nD Cert.StepMlpThirdReferenceIdeal.τ).loc Cert.StepMlpThirdReferenceIdeal.main_arg7) = m' ((c.tc : Thread Cert.StepMlpThirdReferenceIdeal.nD Cert.StepMlpThirdReferenceIdeal.τ).loc Cert.StepMlpThirdReferenceIdeal.main_arg7)
          ∧ r.2.mem ((c.tc : Thread Cert.StepMlpThirdReferenceIdeal.nD Cert.StepMlpThirdReferenceIdeal.τ).loc Cert.StepMlpThirdReferenceIdeal.main_arg8) = m' ((c.tc : Thread Cert.StepMlpThirdReferenceIdeal.nD Cert.StepMlpThirdReferenceIdeal.τ).loc Cert.StepMlpThirdReferenceIdeal.main_arg8)
          ∧ r.2.mem ((c.tc : Thread Cert.StepMlpThirdReferenceIdeal.nD Cert.StepMlpThirdReferenceIdeal.τ).loc Cert.StepMlpThirdReferenceIdeal.main_arg9) = m' ((c.tc : Thread Cert.StepMlpThirdReferenceIdeal.nD Cert.StepMlpThirdReferenceIdeal.τ).loc Cert.StepMlpThirdReferenceIdeal.main_arg9))

def preserves_StepMlpSecond_StepMlpSecondIdeal : Prop :=
  True

def algebraic_StepMlpSecondIdeal_StepMlpSecondReferenceIdeal [hStepMlpSecondIdeal : Cert.StepMlpSecondIdeal.Facts] [hStepMlpSecondReferenceIdeal : Cert.StepMlpSecondReferenceIdeal.Facts] : Prop :=
  ∀ (m : (ℓ : Loc Cert.StepMlpSecondIdeal.nD Cert.StepMlpSecondIdeal.τ Cert.StepMlpSecondIdeal.sig) → Buf (Elt Ideal) ℓ) (g : Dev Cert.StepMlpSecondIdeal.nD → PrngReg)
    (m' : (ℓ : Loc Cert.StepMlpSecondReferenceIdeal.nD Cert.StepMlpSecondReferenceIdeal.τ Cert.StepMlpSecondReferenceIdeal.sig) → Buf (Elt Ideal) ℓ) (g' : Dev Cert.StepMlpSecondReferenceIdeal.nD → PrngReg), Pre_StepMlpSecondIdeal m →
    (∀ c : Dev Cert.StepMlpSecondIdeal.nD,
      m' ((c.tc : Thread Cert.StepMlpSecondReferenceIdeal.nD Cert.StepMlpSecondReferenceIdeal.τ).loc Cert.StepMlpSecondReferenceIdeal.main_arg0) = m ((c.tc : Thread Cert.StepMlpSecondIdeal.nD Cert.StepMlpSecondIdeal.τ).loc Cert.StepMlpSecondIdeal.main_arg0)
      ∧ m' ((c.tc : Thread Cert.StepMlpSecondReferenceIdeal.nD Cert.StepMlpSecondReferenceIdeal.τ).loc Cert.StepMlpSecondReferenceIdeal.main_arg1) = m ((c.tc : Thread Cert.StepMlpSecondIdeal.nD Cert.StepMlpSecondIdeal.τ).loc Cert.StepMlpSecondIdeal.main_arg1)
      ∧ m' ((c.tc : Thread Cert.StepMlpSecondReferenceIdeal.nD Cert.StepMlpSecondReferenceIdeal.τ).loc Cert.StepMlpSecondReferenceIdeal.main_arg2) = m ((c.tc : Thread Cert.StepMlpSecondIdeal.nD Cert.StepMlpSecondIdeal.τ).loc Cert.StepMlpSecondIdeal.main_arg2)
      ∧ m' ((c.tc : Thread Cert.StepMlpSecondReferenceIdeal.nD Cert.StepMlpSecondReferenceIdeal.τ).loc Cert.StepMlpSecondReferenceIdeal.main_arg3) = m ((c.tc : Thread Cert.StepMlpSecondIdeal.nD Cert.StepMlpSecondIdeal.τ).loc Cert.StepMlpSecondIdeal.main_arg3)
      ∧ m' ((c.tc : Thread Cert.StepMlpSecondReferenceIdeal.nD Cert.StepMlpSecondReferenceIdeal.τ).loc Cert.StepMlpSecondReferenceIdeal.main_arg4) = m ((c.tc : Thread Cert.StepMlpSecondIdeal.nD Cert.StepMlpSecondIdeal.τ).loc Cert.StepMlpSecondIdeal.main_arg4)
      ∧ m' ((c.tc : Thread Cert.StepMlpSecondReferenceIdeal.nD Cert.StepMlpSecondReferenceIdeal.τ).loc Cert.StepMlpSecondReferenceIdeal.main_arg5) = m ((c.tc : Thread Cert.StepMlpSecondIdeal.nD Cert.StepMlpSecondIdeal.τ).loc Cert.StepMlpSecondIdeal.main_arg5)
      ∧ m' ((c.tc : Thread Cert.StepMlpSecondReferenceIdeal.nD Cert.StepMlpSecondReferenceIdeal.τ).loc Cert.StepMlpSecondReferenceIdeal.main_arg6) = m ((c.tc : Thread Cert.StepMlpSecondIdeal.nD Cert.StepMlpSecondIdeal.τ).loc Cert.StepMlpSecondIdeal.main_arg6)
      ∧ m' ((c.tc : Thread Cert.StepMlpSecondReferenceIdeal.nD Cert.StepMlpSecondReferenceIdeal.τ).loc Cert.StepMlpSecondReferenceIdeal.main_arg7) = m ((c.tc : Thread Cert.StepMlpSecondIdeal.nD Cert.StepMlpSecondIdeal.τ).loc Cert.StepMlpSecondIdeal.main_arg7)
      ∧ m' ((c.tc : Thread Cert.StepMlpSecondReferenceIdeal.nD Cert.StepMlpSecondReferenceIdeal.τ).loc Cert.StepMlpSecondReferenceIdeal.main_arg8) = m ((c.tc : Thread Cert.StepMlpSecondIdeal.nD Cert.StepMlpSecondIdeal.τ).loc Cert.StepMlpSecondIdeal.main_arg8)
      ∧ m' ((c.tc : Thread Cert.StepMlpSecondReferenceIdeal.nD Cert.StepMlpSecondReferenceIdeal.τ).loc Cert.StepMlpSecondReferenceIdeal.main_arg9) = m ((c.tc : Thread Cert.StepMlpSecondIdeal.nD Cert.StepMlpSecondIdeal.τ).loc Cert.StepMlpSecondIdeal.main_arg9)) →
    ∃ (v0 : (c : Dev Cert.StepMlpSecondIdeal.nD) → Buf (Elt Ideal) ((c.tc : Thread Cert.StepMlpSecondIdeal.nD Cert.StepMlpSecondIdeal.τ).loc Cert.StepMlpSecondIdeal.main_v0_0)) (v1 : (c : Dev Cert.StepMlpSecondIdeal.nD) → Buf (Elt Ideal) ((c.tc : Thread Cert.StepMlpSecondIdeal.nD Cert.StepMlpSecondIdeal.τ).loc Cert.StepMlpSecondIdeal.main_v0_1)) (v2 : (c : Dev Cert.StepMlpSecondIdeal.nD) → Buf (Elt Ideal) ((c.tc : Thread Cert.StepMlpSecondIdeal.nD Cert.StepMlpSecondIdeal.τ).loc Cert.StepMlpSecondIdeal.main_v0_2)) (v3 : (c : Dev Cert.StepMlpSecondIdeal.nD) → Buf (Elt Ideal) ((c.tc : Thread Cert.StepMlpSecondIdeal.nD Cert.StepMlpSecondIdeal.τ).loc Cert.StepMlpSecondIdeal.main_v0_3)),
      θ_run (Cert.StepMlpSecondIdeal.defs (F := Ideal)) (onTc (τ := Cert.StepMlpSecondIdeal.τ) (Cert.StepMlpSecondIdeal.main (F := Ideal))) ⟨m, fun _ => 0, g⟩ (fun r => ∀ c : Dev Cert.StepMlpSecondIdeal.nD,
          r.2.mem ((c.tc : Thread Cert.StepMlpSecondIdeal.nD Cert.StepMlpSecondIdeal.τ).loc Cert.StepMlpSecondIdeal.main_v0_0) = v0 c
          ∧ r.2.mem ((c.tc : Thread Cert.StepMlpSecondIdeal.nD Cert.StepMlpSecondIdeal.τ).loc Cert.StepMlpSecondIdeal.main_v0_1) = v1 c
          ∧ r.2.mem ((c.tc : Thread Cert.StepMlpSecondIdeal.nD Cert.StepMlpSecondIdeal.τ).loc Cert.StepMlpSecondIdeal.main_v0_2) = v2 c
          ∧ r.2.mem ((c.tc : Thread Cert.StepMlpSecondIdeal.nD Cert.StepMlpSecondIdeal.τ).loc Cert.StepMlpSecondIdeal.main_v0_3) = v3 c
          ∧ r.2.mem ((c.tc : Thread Cert.StepMlpSecondIdeal.nD Cert.StepMlpSecondIdeal.τ).loc Cert.StepMlpSecondIdeal.main_arg0) = m ((c.tc : Thread Cert.StepMlpSecondIdeal.nD Cert.StepMlpSecondIdeal.τ).loc Cert.StepMlpSecondIdeal.main_arg0)
          ∧ r.2.mem ((c.tc : Thread Cert.StepMlpSecondIdeal.nD Cert.StepMlpSecondIdeal.τ).loc Cert.StepMlpSecondIdeal.main_arg1) = m ((c.tc : Thread Cert.StepMlpSecondIdeal.nD Cert.StepMlpSecondIdeal.τ).loc Cert.StepMlpSecondIdeal.main_arg1)
          ∧ r.2.mem ((c.tc : Thread Cert.StepMlpSecondIdeal.nD Cert.StepMlpSecondIdeal.τ).loc Cert.StepMlpSecondIdeal.main_arg2) = m ((c.tc : Thread Cert.StepMlpSecondIdeal.nD Cert.StepMlpSecondIdeal.τ).loc Cert.StepMlpSecondIdeal.main_arg2)
          ∧ r.2.mem ((c.tc : Thread Cert.StepMlpSecondIdeal.nD Cert.StepMlpSecondIdeal.τ).loc Cert.StepMlpSecondIdeal.main_arg3) = m ((c.tc : Thread Cert.StepMlpSecondIdeal.nD Cert.StepMlpSecondIdeal.τ).loc Cert.StepMlpSecondIdeal.main_arg3)
          ∧ r.2.mem ((c.tc : Thread Cert.StepMlpSecondIdeal.nD Cert.StepMlpSecondIdeal.τ).loc Cert.StepMlpSecondIdeal.main_arg4) = m ((c.tc : Thread Cert.StepMlpSecondIdeal.nD Cert.StepMlpSecondIdeal.τ).loc Cert.StepMlpSecondIdeal.main_arg4)
          ∧ r.2.mem ((c.tc : Thread Cert.StepMlpSecondIdeal.nD Cert.StepMlpSecondIdeal.τ).loc Cert.StepMlpSecondIdeal.main_arg5) = m ((c.tc : Thread Cert.StepMlpSecondIdeal.nD Cert.StepMlpSecondIdeal.τ).loc Cert.StepMlpSecondIdeal.main_arg5)
          ∧ r.2.mem ((c.tc : Thread Cert.StepMlpSecondIdeal.nD Cert.StepMlpSecondIdeal.τ).loc Cert.StepMlpSecondIdeal.main_arg6) = m ((c.tc : Thread Cert.StepMlpSecondIdeal.nD Cert.StepMlpSecondIdeal.τ).loc Cert.StepMlpSecondIdeal.main_arg6)
          ∧ r.2.mem ((c.tc : Thread Cert.StepMlpSecondIdeal.nD Cert.StepMlpSecondIdeal.τ).loc Cert.StepMlpSecondIdeal.main_arg7) = m ((c.tc : Thread Cert.StepMlpSecondIdeal.nD Cert.StepMlpSecondIdeal.τ).loc Cert.StepMlpSecondIdeal.main_arg7)
          ∧ r.2.mem ((c.tc : Thread Cert.StepMlpSecondIdeal.nD Cert.StepMlpSecondIdeal.τ).loc Cert.StepMlpSecondIdeal.main_arg8) = m ((c.tc : Thread Cert.StepMlpSecondIdeal.nD Cert.StepMlpSecondIdeal.τ).loc Cert.StepMlpSecondIdeal.main_arg8)
          ∧ r.2.mem ((c.tc : Thread Cert.StepMlpSecondIdeal.nD Cert.StepMlpSecondIdeal.τ).loc Cert.StepMlpSecondIdeal.main_arg9) = m ((c.tc : Thread Cert.StepMlpSecondIdeal.nD Cert.StepMlpSecondIdeal.τ).loc Cert.StepMlpSecondIdeal.main_arg9))
      ∧ θ_run (Cert.StepMlpSecondReferenceIdeal.defs (F := Ideal)) (onTc (τ := Cert.StepMlpSecondReferenceIdeal.τ) (Cert.StepMlpSecondReferenceIdeal.main (F := Ideal))) ⟨m', fun _ => 0, g'⟩ (fun r => ∀ c : Dev Cert.StepMlpSecondReferenceIdeal.nD,
          r.2.mem ((c.tc : Thread Cert.StepMlpSecondReferenceIdeal.nD Cert.StepMlpSecondReferenceIdeal.τ).loc Cert.StepMlpSecondReferenceIdeal.main_v35) = v0 c
          ∧ r.2.mem ((c.tc : Thread Cert.StepMlpSecondReferenceIdeal.nD Cert.StepMlpSecondReferenceIdeal.τ).loc Cert.StepMlpSecondReferenceIdeal.main_v36) = v1 c
          ∧ r.2.mem ((c.tc : Thread Cert.StepMlpSecondReferenceIdeal.nD Cert.StepMlpSecondReferenceIdeal.τ).loc Cert.StepMlpSecondReferenceIdeal.main_v37) = v2 c
          ∧ r.2.mem ((c.tc : Thread Cert.StepMlpSecondReferenceIdeal.nD Cert.StepMlpSecondReferenceIdeal.τ).loc Cert.StepMlpSecondReferenceIdeal.main_v38) = v3 c
          ∧ r.2.mem ((c.tc : Thread Cert.StepMlpSecondReferenceIdeal.nD Cert.StepMlpSecondReferenceIdeal.τ).loc Cert.StepMlpSecondReferenceIdeal.main_arg0) = m' ((c.tc : Thread Cert.StepMlpSecondReferenceIdeal.nD Cert.StepMlpSecondReferenceIdeal.τ).loc Cert.StepMlpSecondReferenceIdeal.main_arg0)
          ∧ r.2.mem ((c.tc : Thread Cert.StepMlpSecondReferenceIdeal.nD Cert.StepMlpSecondReferenceIdeal.τ).loc Cert.StepMlpSecondReferenceIdeal.main_arg1) = m' ((c.tc : Thread Cert.StepMlpSecondReferenceIdeal.nD Cert.StepMlpSecondReferenceIdeal.τ).loc Cert.StepMlpSecondReferenceIdeal.main_arg1)
          ∧ r.2.mem ((c.tc : Thread Cert.StepMlpSecondReferenceIdeal.nD Cert.StepMlpSecondReferenceIdeal.τ).loc Cert.StepMlpSecondReferenceIdeal.main_arg2) = m' ((c.tc : Thread Cert.StepMlpSecondReferenceIdeal.nD Cert.StepMlpSecondReferenceIdeal.τ).loc Cert.StepMlpSecondReferenceIdeal.main_arg2)
          ∧ r.2.mem ((c.tc : Thread Cert.StepMlpSecondReferenceIdeal.nD Cert.StepMlpSecondReferenceIdeal.τ).loc Cert.StepMlpSecondReferenceIdeal.main_arg3) = m' ((c.tc : Thread Cert.StepMlpSecondReferenceIdeal.nD Cert.StepMlpSecondReferenceIdeal.τ).loc Cert.StepMlpSecondReferenceIdeal.main_arg3)
          ∧ r.2.mem ((c.tc : Thread Cert.StepMlpSecondReferenceIdeal.nD Cert.StepMlpSecondReferenceIdeal.τ).loc Cert.StepMlpSecondReferenceIdeal.main_arg4) = m' ((c.tc : Thread Cert.StepMlpSecondReferenceIdeal.nD Cert.StepMlpSecondReferenceIdeal.τ).loc Cert.StepMlpSecondReferenceIdeal.main_arg4)
          ∧ r.2.mem ((c.tc : Thread Cert.StepMlpSecondReferenceIdeal.nD Cert.StepMlpSecondReferenceIdeal.τ).loc Cert.StepMlpSecondReferenceIdeal.main_arg5) = m' ((c.tc : Thread Cert.StepMlpSecondReferenceIdeal.nD Cert.StepMlpSecondReferenceIdeal.τ).loc Cert.StepMlpSecondReferenceIdeal.main_arg5)
          ∧ r.2.mem ((c.tc : Thread Cert.StepMlpSecondReferenceIdeal.nD Cert.StepMlpSecondReferenceIdeal.τ).loc Cert.StepMlpSecondReferenceIdeal.main_arg6) = m' ((c.tc : Thread Cert.StepMlpSecondReferenceIdeal.nD Cert.StepMlpSecondReferenceIdeal.τ).loc Cert.StepMlpSecondReferenceIdeal.main_arg6)
          ∧ r.2.mem ((c.tc : Thread Cert.StepMlpSecondReferenceIdeal.nD Cert.StepMlpSecondReferenceIdeal.τ).loc Cert.StepMlpSecondReferenceIdeal.main_arg7) = m' ((c.tc : Thread Cert.StepMlpSecondReferenceIdeal.nD Cert.StepMlpSecondReferenceIdeal.τ).loc Cert.StepMlpSecondReferenceIdeal.main_arg7)
          ∧ r.2.mem ((c.tc : Thread Cert.StepMlpSecondReferenceIdeal.nD Cert.StepMlpSecondReferenceIdeal.τ).loc Cert.StepMlpSecondReferenceIdeal.main_arg8) = m' ((c.tc : Thread Cert.StepMlpSecondReferenceIdeal.nD Cert.StepMlpSecondReferenceIdeal.τ).loc Cert.StepMlpSecondReferenceIdeal.main_arg8)
          ∧ r.2.mem ((c.tc : Thread Cert.StepMlpSecondReferenceIdeal.nD Cert.StepMlpSecondReferenceIdeal.τ).loc Cert.StepMlpSecondReferenceIdeal.main_arg9) = m' ((c.tc : Thread Cert.StepMlpSecondReferenceIdeal.nD Cert.StepMlpSecondReferenceIdeal.τ).loc Cert.StepMlpSecondReferenceIdeal.main_arg9))

def preserves_StepMlpFirst_StepMlpFirstIdeal : Prop :=
  True

def algebraic_StepMlpFirstIdeal_StepMlpFirstReferenceIdeal [hStepMlpFirstIdeal : Cert.StepMlpFirstIdeal.Facts] [hStepMlpFirstReferenceIdeal : Cert.StepMlpFirstReferenceIdeal.Facts] : Prop :=
  ∀ (m : (ℓ : Loc Cert.StepMlpFirstIdeal.nD Cert.StepMlpFirstIdeal.τ Cert.StepMlpFirstIdeal.sig) → Buf (Elt Ideal) ℓ) (g : Dev Cert.StepMlpFirstIdeal.nD → PrngReg)
    (m' : (ℓ : Loc Cert.StepMlpFirstReferenceIdeal.nD Cert.StepMlpFirstReferenceIdeal.τ Cert.StepMlpFirstReferenceIdeal.sig) → Buf (Elt Ideal) ℓ) (g' : Dev Cert.StepMlpFirstReferenceIdeal.nD → PrngReg), Pre_StepMlpFirstIdeal m →
    (∀ c : Dev Cert.StepMlpFirstIdeal.nD,
      m' ((c.tc : Thread Cert.StepMlpFirstReferenceIdeal.nD Cert.StepMlpFirstReferenceIdeal.τ).loc Cert.StepMlpFirstReferenceIdeal.main_arg0) = m ((c.tc : Thread Cert.StepMlpFirstIdeal.nD Cert.StepMlpFirstIdeal.τ).loc Cert.StepMlpFirstIdeal.main_arg0)
      ∧ m' ((c.tc : Thread Cert.StepMlpFirstReferenceIdeal.nD Cert.StepMlpFirstReferenceIdeal.τ).loc Cert.StepMlpFirstReferenceIdeal.main_arg1) = m ((c.tc : Thread Cert.StepMlpFirstIdeal.nD Cert.StepMlpFirstIdeal.τ).loc Cert.StepMlpFirstIdeal.main_arg1)
      ∧ m' ((c.tc : Thread Cert.StepMlpFirstReferenceIdeal.nD Cert.StepMlpFirstReferenceIdeal.τ).loc Cert.StepMlpFirstReferenceIdeal.main_arg2) = m ((c.tc : Thread Cert.StepMlpFirstIdeal.nD Cert.StepMlpFirstIdeal.τ).loc Cert.StepMlpFirstIdeal.main_arg2)
      ∧ m' ((c.tc : Thread Cert.StepMlpFirstReferenceIdeal.nD Cert.StepMlpFirstReferenceIdeal.τ).loc Cert.StepMlpFirstReferenceIdeal.main_arg3) = m ((c.tc : Thread Cert.StepMlpFirstIdeal.nD Cert.StepMlpFirstIdeal.τ).loc Cert.StepMlpFirstIdeal.main_arg3)
      ∧ m' ((c.tc : Thread Cert.StepMlpFirstReferenceIdeal.nD Cert.StepMlpFirstReferenceIdeal.τ).loc Cert.StepMlpFirstReferenceIdeal.main_arg4) = m ((c.tc : Thread Cert.StepMlpFirstIdeal.nD Cert.StepMlpFirstIdeal.τ).loc Cert.StepMlpFirstIdeal.main_arg4)
      ∧ m' ((c.tc : Thread Cert.StepMlpFirstReferenceIdeal.nD Cert.StepMlpFirstReferenceIdeal.τ).loc Cert.StepMlpFirstReferenceIdeal.main_arg5) = m ((c.tc : Thread Cert.StepMlpFirstIdeal.nD Cert.StepMlpFirstIdeal.τ).loc Cert.StepMlpFirstIdeal.main_arg5)
      ∧ m' ((c.tc : Thread Cert.StepMlpFirstReferenceIdeal.nD Cert.StepMlpFirstReferenceIdeal.τ).loc Cert.StepMlpFirstReferenceIdeal.main_arg6) = m ((c.tc : Thread Cert.StepMlpFirstIdeal.nD Cert.StepMlpFirstIdeal.τ).loc Cert.StepMlpFirstIdeal.main_arg6)
      ∧ m' ((c.tc : Thread Cert.StepMlpFirstReferenceIdeal.nD Cert.StepMlpFirstReferenceIdeal.τ).loc Cert.StepMlpFirstReferenceIdeal.main_arg7) = m ((c.tc : Thread Cert.StepMlpFirstIdeal.nD Cert.StepMlpFirstIdeal.τ).loc Cert.StepMlpFirstIdeal.main_arg7)
      ∧ m' ((c.tc : Thread Cert.StepMlpFirstReferenceIdeal.nD Cert.StepMlpFirstReferenceIdeal.τ).loc Cert.StepMlpFirstReferenceIdeal.main_arg8) = m ((c.tc : Thread Cert.StepMlpFirstIdeal.nD Cert.StepMlpFirstIdeal.τ).loc Cert.StepMlpFirstIdeal.main_arg8)
      ∧ m' ((c.tc : Thread Cert.StepMlpFirstReferenceIdeal.nD Cert.StepMlpFirstReferenceIdeal.τ).loc Cert.StepMlpFirstReferenceIdeal.main_arg9) = m ((c.tc : Thread Cert.StepMlpFirstIdeal.nD Cert.StepMlpFirstIdeal.τ).loc Cert.StepMlpFirstIdeal.main_arg9)) →
    ∃ (v0 : (c : Dev Cert.StepMlpFirstIdeal.nD) → Buf (Elt Ideal) ((c.tc : Thread Cert.StepMlpFirstIdeal.nD Cert.StepMlpFirstIdeal.τ).loc Cert.StepMlpFirstIdeal.main_v0_0)) (v1 : (c : Dev Cert.StepMlpFirstIdeal.nD) → Buf (Elt Ideal) ((c.tc : Thread Cert.StepMlpFirstIdeal.nD Cert.StepMlpFirstIdeal.τ).loc Cert.StepMlpFirstIdeal.main_v0_1)) (v2 : (c : Dev Cert.StepMlpFirstIdeal.nD) → Buf (Elt Ideal) ((c.tc : Thread Cert.StepMlpFirstIdeal.nD Cert.StepMlpFirstIdeal.τ).loc Cert.StepMlpFirstIdeal.main_v0_2)) (v3 : (c : Dev Cert.StepMlpFirstIdeal.nD) → Buf (Elt Ideal) ((c.tc : Thread Cert.StepMlpFirstIdeal.nD Cert.StepMlpFirstIdeal.τ).loc Cert.StepMlpFirstIdeal.main_v0_3)),
      θ_run (Cert.StepMlpFirstIdeal.defs (F := Ideal)) (onTc (τ := Cert.StepMlpFirstIdeal.τ) (Cert.StepMlpFirstIdeal.main (F := Ideal))) ⟨m, fun _ => 0, g⟩ (fun r => ∀ c : Dev Cert.StepMlpFirstIdeal.nD,
          r.2.mem ((c.tc : Thread Cert.StepMlpFirstIdeal.nD Cert.StepMlpFirstIdeal.τ).loc Cert.StepMlpFirstIdeal.main_v0_0) = v0 c
          ∧ r.2.mem ((c.tc : Thread Cert.StepMlpFirstIdeal.nD Cert.StepMlpFirstIdeal.τ).loc Cert.StepMlpFirstIdeal.main_v0_1) = v1 c
          ∧ r.2.mem ((c.tc : Thread Cert.StepMlpFirstIdeal.nD Cert.StepMlpFirstIdeal.τ).loc Cert.StepMlpFirstIdeal.main_v0_2) = v2 c
          ∧ r.2.mem ((c.tc : Thread Cert.StepMlpFirstIdeal.nD Cert.StepMlpFirstIdeal.τ).loc Cert.StepMlpFirstIdeal.main_v0_3) = v3 c
          ∧ r.2.mem ((c.tc : Thread Cert.StepMlpFirstIdeal.nD Cert.StepMlpFirstIdeal.τ).loc Cert.StepMlpFirstIdeal.main_arg0) = m ((c.tc : Thread Cert.StepMlpFirstIdeal.nD Cert.StepMlpFirstIdeal.τ).loc Cert.StepMlpFirstIdeal.main_arg0)
          ∧ r.2.mem ((c.tc : Thread Cert.StepMlpFirstIdeal.nD Cert.StepMlpFirstIdeal.τ).loc Cert.StepMlpFirstIdeal.main_arg1) = m ((c.tc : Thread Cert.StepMlpFirstIdeal.nD Cert.StepMlpFirstIdeal.τ).loc Cert.StepMlpFirstIdeal.main_arg1)
          ∧ r.2.mem ((c.tc : Thread Cert.StepMlpFirstIdeal.nD Cert.StepMlpFirstIdeal.τ).loc Cert.StepMlpFirstIdeal.main_arg2) = m ((c.tc : Thread Cert.StepMlpFirstIdeal.nD Cert.StepMlpFirstIdeal.τ).loc Cert.StepMlpFirstIdeal.main_arg2)
          ∧ r.2.mem ((c.tc : Thread Cert.StepMlpFirstIdeal.nD Cert.StepMlpFirstIdeal.τ).loc Cert.StepMlpFirstIdeal.main_arg3) = m ((c.tc : Thread Cert.StepMlpFirstIdeal.nD Cert.StepMlpFirstIdeal.τ).loc Cert.StepMlpFirstIdeal.main_arg3)
          ∧ r.2.mem ((c.tc : Thread Cert.StepMlpFirstIdeal.nD Cert.StepMlpFirstIdeal.τ).loc Cert.StepMlpFirstIdeal.main_arg4) = m ((c.tc : Thread Cert.StepMlpFirstIdeal.nD Cert.StepMlpFirstIdeal.τ).loc Cert.StepMlpFirstIdeal.main_arg4)
          ∧ r.2.mem ((c.tc : Thread Cert.StepMlpFirstIdeal.nD Cert.StepMlpFirstIdeal.τ).loc Cert.StepMlpFirstIdeal.main_arg5) = m ((c.tc : Thread Cert.StepMlpFirstIdeal.nD Cert.StepMlpFirstIdeal.τ).loc Cert.StepMlpFirstIdeal.main_arg5)
          ∧ r.2.mem ((c.tc : Thread Cert.StepMlpFirstIdeal.nD Cert.StepMlpFirstIdeal.τ).loc Cert.StepMlpFirstIdeal.main_arg6) = m ((c.tc : Thread Cert.StepMlpFirstIdeal.nD Cert.StepMlpFirstIdeal.τ).loc Cert.StepMlpFirstIdeal.main_arg6)
          ∧ r.2.mem ((c.tc : Thread Cert.StepMlpFirstIdeal.nD Cert.StepMlpFirstIdeal.τ).loc Cert.StepMlpFirstIdeal.main_arg7) = m ((c.tc : Thread Cert.StepMlpFirstIdeal.nD Cert.StepMlpFirstIdeal.τ).loc Cert.StepMlpFirstIdeal.main_arg7)
          ∧ r.2.mem ((c.tc : Thread Cert.StepMlpFirstIdeal.nD Cert.StepMlpFirstIdeal.τ).loc Cert.StepMlpFirstIdeal.main_arg8) = m ((c.tc : Thread Cert.StepMlpFirstIdeal.nD Cert.StepMlpFirstIdeal.τ).loc Cert.StepMlpFirstIdeal.main_arg8)
          ∧ r.2.mem ((c.tc : Thread Cert.StepMlpFirstIdeal.nD Cert.StepMlpFirstIdeal.τ).loc Cert.StepMlpFirstIdeal.main_arg9) = m ((c.tc : Thread Cert.StepMlpFirstIdeal.nD Cert.StepMlpFirstIdeal.τ).loc Cert.StepMlpFirstIdeal.main_arg9))
      ∧ θ_run (Cert.StepMlpFirstReferenceIdeal.defs (F := Ideal)) (onTc (τ := Cert.StepMlpFirstReferenceIdeal.τ) (Cert.StepMlpFirstReferenceIdeal.main (F := Ideal))) ⟨m', fun _ => 0, g'⟩ (fun r => ∀ c : Dev Cert.StepMlpFirstReferenceIdeal.nD,
          r.2.mem ((c.tc : Thread Cert.StepMlpFirstReferenceIdeal.nD Cert.StepMlpFirstReferenceIdeal.τ).loc Cert.StepMlpFirstReferenceIdeal.main_v35) = v0 c
          ∧ r.2.mem ((c.tc : Thread Cert.StepMlpFirstReferenceIdeal.nD Cert.StepMlpFirstReferenceIdeal.τ).loc Cert.StepMlpFirstReferenceIdeal.main_v36) = v1 c
          ∧ r.2.mem ((c.tc : Thread Cert.StepMlpFirstReferenceIdeal.nD Cert.StepMlpFirstReferenceIdeal.τ).loc Cert.StepMlpFirstReferenceIdeal.main_v37) = v2 c
          ∧ r.2.mem ((c.tc : Thread Cert.StepMlpFirstReferenceIdeal.nD Cert.StepMlpFirstReferenceIdeal.τ).loc Cert.StepMlpFirstReferenceIdeal.main_v38) = v3 c
          ∧ r.2.mem ((c.tc : Thread Cert.StepMlpFirstReferenceIdeal.nD Cert.StepMlpFirstReferenceIdeal.τ).loc Cert.StepMlpFirstReferenceIdeal.main_arg0) = m' ((c.tc : Thread Cert.StepMlpFirstReferenceIdeal.nD Cert.StepMlpFirstReferenceIdeal.τ).loc Cert.StepMlpFirstReferenceIdeal.main_arg0)
          ∧ r.2.mem ((c.tc : Thread Cert.StepMlpFirstReferenceIdeal.nD Cert.StepMlpFirstReferenceIdeal.τ).loc Cert.StepMlpFirstReferenceIdeal.main_arg1) = m' ((c.tc : Thread Cert.StepMlpFirstReferenceIdeal.nD Cert.StepMlpFirstReferenceIdeal.τ).loc Cert.StepMlpFirstReferenceIdeal.main_arg1)
          ∧ r.2.mem ((c.tc : Thread Cert.StepMlpFirstReferenceIdeal.nD Cert.StepMlpFirstReferenceIdeal.τ).loc Cert.StepMlpFirstReferenceIdeal.main_arg2) = m' ((c.tc : Thread Cert.StepMlpFirstReferenceIdeal.nD Cert.StepMlpFirstReferenceIdeal.τ).loc Cert.StepMlpFirstReferenceIdeal.main_arg2)
          ∧ r.2.mem ((c.tc : Thread Cert.StepMlpFirstReferenceIdeal.nD Cert.StepMlpFirstReferenceIdeal.τ).loc Cert.StepMlpFirstReferenceIdeal.main_arg3) = m' ((c.tc : Thread Cert.StepMlpFirstReferenceIdeal.nD Cert.StepMlpFirstReferenceIdeal.τ).loc Cert.StepMlpFirstReferenceIdeal.main_arg3)
          ∧ r.2.mem ((c.tc : Thread Cert.StepMlpFirstReferenceIdeal.nD Cert.StepMlpFirstReferenceIdeal.τ).loc Cert.StepMlpFirstReferenceIdeal.main_arg4) = m' ((c.tc : Thread Cert.StepMlpFirstReferenceIdeal.nD Cert.StepMlpFirstReferenceIdeal.τ).loc Cert.StepMlpFirstReferenceIdeal.main_arg4)
          ∧ r.2.mem ((c.tc : Thread Cert.StepMlpFirstReferenceIdeal.nD Cert.StepMlpFirstReferenceIdeal.τ).loc Cert.StepMlpFirstReferenceIdeal.main_arg5) = m' ((c.tc : Thread Cert.StepMlpFirstReferenceIdeal.nD Cert.StepMlpFirstReferenceIdeal.τ).loc Cert.StepMlpFirstReferenceIdeal.main_arg5)
          ∧ r.2.mem ((c.tc : Thread Cert.StepMlpFirstReferenceIdeal.nD Cert.StepMlpFirstReferenceIdeal.τ).loc Cert.StepMlpFirstReferenceIdeal.main_arg6) = m' ((c.tc : Thread Cert.StepMlpFirstReferenceIdeal.nD Cert.StepMlpFirstReferenceIdeal.τ).loc Cert.StepMlpFirstReferenceIdeal.main_arg6)
          ∧ r.2.mem ((c.tc : Thread Cert.StepMlpFirstReferenceIdeal.nD Cert.StepMlpFirstReferenceIdeal.τ).loc Cert.StepMlpFirstReferenceIdeal.main_arg7) = m' ((c.tc : Thread Cert.StepMlpFirstReferenceIdeal.nD Cert.StepMlpFirstReferenceIdeal.τ).loc Cert.StepMlpFirstReferenceIdeal.main_arg7)
          ∧ r.2.mem ((c.tc : Thread Cert.StepMlpFirstReferenceIdeal.nD Cert.StepMlpFirstReferenceIdeal.τ).loc Cert.StepMlpFirstReferenceIdeal.main_arg8) = m' ((c.tc : Thread Cert.StepMlpFirstReferenceIdeal.nD Cert.StepMlpFirstReferenceIdeal.τ).loc Cert.StepMlpFirstReferenceIdeal.main_arg8)
          ∧ r.2.mem ((c.tc : Thread Cert.StepMlpFirstReferenceIdeal.nD Cert.StepMlpFirstReferenceIdeal.τ).loc Cert.StepMlpFirstReferenceIdeal.main_arg9) = m' ((c.tc : Thread Cert.StepMlpFirstReferenceIdeal.nD Cert.StepMlpFirstReferenceIdeal.τ).loc Cert.StepMlpFirstReferenceIdeal.main_arg9))

def Claim : Prop :=
  ∃ (hKernel : Cert.Kernel.Facts) (hKernelIdeal : Cert.KernelIdeal.Facts) (hReferenceIdeal : Cert.ReferenceIdeal.Facts) (hMlpDu : Cert.MlpDu.Facts) (hMlpDuIdeal : Cert.MlpDuIdeal.Facts) (hMlpDuReferenceIdeal : Cert.MlpDuReferenceIdeal.Facts) (hMlpDh : Cert.MlpDh.Facts) (hMlpDhIdeal : Cert.MlpDhIdeal.Facts) (hMlpDhReferenceIdeal : Cert.MlpDhReferenceIdeal.Facts) (hMlpDwOne : Cert.MlpDwOne.Facts) (hMlpDwOneIdeal : Cert.MlpDwOneIdeal.Facts) (hMlpDwOneReferenceIdeal : Cert.MlpDwOneReferenceIdeal.Facts) (hMlpDwTwo : Cert.MlpDwTwo.Facts) (hMlpDwTwoIdeal : Cert.MlpDwTwoIdeal.Facts) (hMlpDwTwoReferenceIdeal : Cert.MlpDwTwoReferenceIdeal.Facts) (hMlpUp : Cert.MlpUp.Facts) (hMlpUpIdeal : Cert.MlpUpIdeal.Facts) (hMlpUpReferenceIdeal : Cert.MlpUpReferenceIdeal.Facts) (hMlpDown : Cert.MlpDown.Facts) (hMlpDownIdeal : Cert.MlpDownIdeal.Facts) (hMlpDownReferenceIdeal : Cert.MlpDownReferenceIdeal.Facts) (hMixDo : Cert.MixDo.Facts) (hMixDoIdeal : Cert.MixDoIdeal.Facts) (hMixDoReferenceIdeal : Cert.MixDoReferenceIdeal.Facts) (hMixDwOut : Cert.MixDwOut.Facts) (hMixDwOutIdeal : Cert.MixDwOutIdeal.Facts) (hMixDwOutReferenceIdeal : Cert.MixDwOutReferenceIdeal.Facts) (hMixOut : Cert.MixOut.Facts) (hMixOutIdeal : Cert.MixOutIdeal.Facts) (hMixOutReferenceIdeal : Cert.MixOutReferenceIdeal.Facts) (hSbDh : Cert.SbDh.Facts) (hSbDhIdeal : Cert.SbDhIdeal.Facts) (hSbDhReferenceIdeal : Cert.SbDhReferenceIdeal.Facts) (hSbDwIn : Cert.SbDwIn.Facts) (hSbDwInIdeal : Cert.SbDwInIdeal.Facts) (hSbDwInReferenceIdeal : Cert.SbDwInReferenceIdeal.Facts) (hSbProj : Cert.SbProj.Facts) (hSbProjIdeal : Cert.SbProjIdeal.Facts) (hSbProjReferenceIdeal : Cert.SbProjReferenceIdeal.Facts) (hFoxDh : Cert.FoxDh.Facts) (hFoxDhIdeal : Cert.FoxDhIdeal.Facts) (hFoxDhReferenceIdeal : Cert.FoxDhReferenceIdeal.Facts) (hFoxDwIn : Cert.FoxDwIn.Facts) (hFoxDwInIdeal : Cert.FoxDwInIdeal.Facts) (hFoxDwInReferenceIdeal : Cert.FoxDwInReferenceIdeal.Facts) (hFoxProj : Cert.FoxProj.Facts) (hFoxProjIdeal : Cert.FoxProjIdeal.Facts) (hFoxProjReferenceIdeal : Cert.FoxProjReferenceIdeal.Facts) (hMlaDh : Cert.MlaDh.Facts) (hMlaDhIdeal : Cert.MlaDhIdeal.Facts) (hMlaDhReferenceIdeal : Cert.MlaDhReferenceIdeal.Facts) (hMlaDwIn : Cert.MlaDwIn.Facts) (hMlaDwInIdeal : Cert.MlaDwInIdeal.Facts) (hMlaDwInReferenceIdeal : Cert.MlaDwInReferenceIdeal.Facts) (hMlaDown : Cert.MlaDown.Facts) (hMlaDownIdeal : Cert.MlaDownIdeal.Facts) (hMlaDownReferenceIdeal : Cert.MlaDownReferenceIdeal.Facts) (hMlaDcQ : Cert.MlaDcQ.Facts) (hMlaDcQIdeal : Cert.MlaDcQIdeal.Facts) (hMlaDcQReferenceIdeal : Cert.MlaDcQReferenceIdeal.Facts) (hMlaDwUq : Cert.MlaDwUq.Facts) (hMlaDwUqIdeal : Cert.MlaDwUqIdeal.Facts) (hMlaDwUqReferenceIdeal : Cert.MlaDwUqReferenceIdeal.Facts) (hMlaUq : Cert.MlaUq.Facts) (hMlaUqIdeal : Cert.MlaUqIdeal.Facts) (hMlaUqReferenceIdeal : Cert.MlaUqReferenceIdeal.Facts) (hMlaDcKv : Cert.MlaDcKv.Facts) (hMlaDcKvIdeal : Cert.MlaDcKvIdeal.Facts) (hMlaDcKvReferenceIdeal : Cert.MlaDcKvReferenceIdeal.Facts) (hMlaDwUkv : Cert.MlaDwUkv.Facts) (hMlaDwUkvIdeal : Cert.MlaDwUkvIdeal.Facts) (hMlaDwUkvReferenceIdeal : Cert.MlaDwUkvReferenceIdeal.Facts) (hMlaUkv : Cert.MlaUkv.Facts) (hMlaUkvIdeal : Cert.MlaUkvIdeal.Facts) (hMlaUkvReferenceIdeal : Cert.MlaUkvReferenceIdeal.Facts) (hStepNorm : Cert.StepNorm.Facts) (hStepNormIdeal : Cert.StepNormIdeal.Facts) (hStepNormReferenceIdeal : Cert.StepNormReferenceIdeal.Facts) (hStepBias : Cert.StepBias.Facts) (hStepBiasIdeal : Cert.StepBiasIdeal.Facts) (hStepBiasReferenceIdeal : Cert.StepBiasReferenceIdeal.Facts) (hStepGain : Cert.StepGain.Facts) (hStepGainIdeal : Cert.StepGainIdeal.Facts) (hStepGainReferenceIdeal : Cert.StepGainReferenceIdeal.Facts) (hStepRank : Cert.StepRank.Facts) (hStepRankIdeal : Cert.StepRankIdeal.Facts) (hStepRankReferenceIdeal : Cert.StepRankReferenceIdeal.Facts) (hStepOut : Cert.StepOut.Facts) (hStepOutIdeal : Cert.StepOutIdeal.Facts) (hStepOutReferenceIdeal : Cert.StepOutReferenceIdeal.Facts) (hStepIn : Cert.StepIn.Facts) (hStepInIdeal : Cert.StepInIdeal.Facts) (hStepInReferenceIdeal : Cert.StepInReferenceIdeal.Facts) (hStepUq : Cert.StepUq.Facts) (hStepUqIdeal : Cert.StepUqIdeal.Facts) (hStepUqReferenceIdeal : Cert.StepUqReferenceIdeal.Facts) (hStepUkv : Cert.StepUkv.Facts) (hStepUkvIdeal : Cert.StepUkvIdeal.Facts) (hStepUkvReferenceIdeal : Cert.StepUkvReferenceIdeal.Facts) (hStepFox : Cert.StepFox.Facts) (hStepFoxIdeal : Cert.StepFoxIdeal.Facts) (hStepFoxReferenceIdeal : Cert.StepFoxReferenceIdeal.Facts) (hStepSbInLast : Cert.StepSbInLast.Facts) (hStepSbInLastIdeal : Cert.StepSbInLastIdeal.Facts) (hStepSbInLastReferenceIdeal : Cert.StepSbInLastReferenceIdeal.Facts) (hStepSbInFirst : Cert.StepSbInFirst.Facts) (hStepSbInFirstIdeal : Cert.StepSbInFirstIdeal.Facts) (hStepSbInFirstReferenceIdeal : Cert.StepSbInFirstReferenceIdeal.Facts) (hStepSbOutLast : Cert.StepSbOutLast.Facts) (hStepSbOutLastIdeal : Cert.StepSbOutLastIdeal.Facts) (hStepSbOutLastReferenceIdeal : Cert.StepSbOutLastReferenceIdeal.Facts) (hStepSbOutFirst : Cert.StepSbOutFirst.Facts) (hStepSbOutFirstIdeal : Cert.StepSbOutFirstIdeal.Facts) (hStepSbOutFirstReferenceIdeal : Cert.StepSbOutFirstReferenceIdeal.Facts) (hStepMlpLast : Cert.StepMlpLast.Facts) (hStepMlpLastIdeal : Cert.StepMlpLastIdeal.Facts) (hStepMlpLastReferenceIdeal : Cert.StepMlpLastReferenceIdeal.Facts) (hStepMlpThird : Cert.StepMlpThird.Facts) (hStepMlpThirdIdeal : Cert.StepMlpThirdIdeal.Facts) (hStepMlpThirdReferenceIdeal : Cert.StepMlpThirdReferenceIdeal.Facts) (hStepMlpSecond : Cert.StepMlpSecond.Facts) (hStepMlpSecondIdeal : Cert.StepMlpSecondIdeal.Facts) (hStepMlpSecondReferenceIdeal : Cert.StepMlpSecondReferenceIdeal.Facts) (hStepMlpFirst : Cert.StepMlpFirst.Facts) (hStepMlpFirstIdeal : Cert.StepMlpFirstIdeal.Facts) (hStepMlpFirstReferenceIdeal : Cert.StepMlpFirstReferenceIdeal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_MlpDu (hMlpDu := hMlpDu)
    ∧ quiescent_MlpDuIdeal (hMlpDuIdeal := hMlpDuIdeal)
    ∧ quiescent_MlpDuReferenceIdeal (hMlpDuReferenceIdeal := hMlpDuReferenceIdeal)
    ∧ quiescent_MlpDh (hMlpDh := hMlpDh)
    ∧ quiescent_MlpDhIdeal (hMlpDhIdeal := hMlpDhIdeal)
    ∧ quiescent_MlpDhReferenceIdeal (hMlpDhReferenceIdeal := hMlpDhReferenceIdeal)
    ∧ quiescent_MlpDwOne (hMlpDwOne := hMlpDwOne)
    ∧ quiescent_MlpDwOneIdeal (hMlpDwOneIdeal := hMlpDwOneIdeal)
    ∧ quiescent_MlpDwOneReferenceIdeal (hMlpDwOneReferenceIdeal := hMlpDwOneReferenceIdeal)
    ∧ quiescent_MlpDwTwo (hMlpDwTwo := hMlpDwTwo)
    ∧ quiescent_MlpDwTwoIdeal (hMlpDwTwoIdeal := hMlpDwTwoIdeal)
    ∧ quiescent_MlpDwTwoReferenceIdeal (hMlpDwTwoReferenceIdeal := hMlpDwTwoReferenceIdeal)
    ∧ quiescent_MlpUp (hMlpUp := hMlpUp)
    ∧ quiescent_MlpUpIdeal (hMlpUpIdeal := hMlpUpIdeal)
    ∧ quiescent_MlpUpReferenceIdeal (hMlpUpReferenceIdeal := hMlpUpReferenceIdeal)
    ∧ quiescent_MlpDown (hMlpDown := hMlpDown)
    ∧ quiescent_MlpDownIdeal (hMlpDownIdeal := hMlpDownIdeal)
    ∧ quiescent_MlpDownReferenceIdeal (hMlpDownReferenceIdeal := hMlpDownReferenceIdeal)
    ∧ quiescent_MixDo (hMixDo := hMixDo)
    ∧ quiescent_MixDoIdeal (hMixDoIdeal := hMixDoIdeal)
    ∧ quiescent_MixDoReferenceIdeal (hMixDoReferenceIdeal := hMixDoReferenceIdeal)
    ∧ quiescent_MixDwOut (hMixDwOut := hMixDwOut)
    ∧ quiescent_MixDwOutIdeal (hMixDwOutIdeal := hMixDwOutIdeal)
    ∧ quiescent_MixDwOutReferenceIdeal (hMixDwOutReferenceIdeal := hMixDwOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_SbDh (hSbDh := hSbDh)
    ∧ quiescent_SbDhIdeal (hSbDhIdeal := hSbDhIdeal)
    ∧ quiescent_SbDhReferenceIdeal (hSbDhReferenceIdeal := hSbDhReferenceIdeal)
    ∧ quiescent_SbDwIn (hSbDwIn := hSbDwIn)
    ∧ quiescent_SbDwInIdeal (hSbDwInIdeal := hSbDwInIdeal)
    ∧ quiescent_SbDwInReferenceIdeal (hSbDwInReferenceIdeal := hSbDwInReferenceIdeal)
    ∧ quiescent_SbProj (hSbProj := hSbProj)
    ∧ quiescent_SbProjIdeal (hSbProjIdeal := hSbProjIdeal)
    ∧ quiescent_SbProjReferenceIdeal (hSbProjReferenceIdeal := hSbProjReferenceIdeal)
    ∧ quiescent_FoxDh (hFoxDh := hFoxDh)
    ∧ quiescent_FoxDhIdeal (hFoxDhIdeal := hFoxDhIdeal)
    ∧ quiescent_FoxDhReferenceIdeal (hFoxDhReferenceIdeal := hFoxDhReferenceIdeal)
    ∧ quiescent_FoxDwIn (hFoxDwIn := hFoxDwIn)
    ∧ quiescent_FoxDwInIdeal (hFoxDwInIdeal := hFoxDwInIdeal)
    ∧ quiescent_FoxDwInReferenceIdeal (hFoxDwInReferenceIdeal := hFoxDwInReferenceIdeal)
    ∧ quiescent_FoxProj (hFoxProj := hFoxProj)
    ∧ quiescent_FoxProjIdeal (hFoxProjIdeal := hFoxProjIdeal)
    ∧ quiescent_FoxProjReferenceIdeal (hFoxProjReferenceIdeal := hFoxProjReferenceIdeal)
    ∧ quiescent_MlaDh (hMlaDh := hMlaDh)
    ∧ quiescent_MlaDhIdeal (hMlaDhIdeal := hMlaDhIdeal)
    ∧ quiescent_MlaDhReferenceIdeal (hMlaDhReferenceIdeal := hMlaDhReferenceIdeal)
    ∧ quiescent_MlaDwIn (hMlaDwIn := hMlaDwIn)
    ∧ quiescent_MlaDwInIdeal (hMlaDwInIdeal := hMlaDwInIdeal)
    ∧ quiescent_MlaDwInReferenceIdeal (hMlaDwInReferenceIdeal := hMlaDwInReferenceIdeal)
    ∧ quiescent_MlaDown (hMlaDown := hMlaDown)
    ∧ quiescent_MlaDownIdeal (hMlaDownIdeal := hMlaDownIdeal)
    ∧ quiescent_MlaDownReferenceIdeal (hMlaDownReferenceIdeal := hMlaDownReferenceIdeal)
    ∧ quiescent_MlaDcQ (hMlaDcQ := hMlaDcQ)
    ∧ quiescent_MlaDcQIdeal (hMlaDcQIdeal := hMlaDcQIdeal)
    ∧ quiescent_MlaDcQReferenceIdeal (hMlaDcQReferenceIdeal := hMlaDcQReferenceIdeal)
    ∧ quiescent_MlaDwUq (hMlaDwUq := hMlaDwUq)
    ∧ quiescent_MlaDwUqIdeal (hMlaDwUqIdeal := hMlaDwUqIdeal)
    ∧ quiescent_MlaDwUqReferenceIdeal (hMlaDwUqReferenceIdeal := hMlaDwUqReferenceIdeal)
    ∧ quiescent_MlaUq (hMlaUq := hMlaUq)
    ∧ quiescent_MlaUqIdeal (hMlaUqIdeal := hMlaUqIdeal)
    ∧ quiescent_MlaUqReferenceIdeal (hMlaUqReferenceIdeal := hMlaUqReferenceIdeal)
    ∧ quiescent_MlaDcKv (hMlaDcKv := hMlaDcKv)
    ∧ quiescent_MlaDcKvIdeal (hMlaDcKvIdeal := hMlaDcKvIdeal)
    ∧ quiescent_MlaDcKvReferenceIdeal (hMlaDcKvReferenceIdeal := hMlaDcKvReferenceIdeal)
    ∧ quiescent_MlaDwUkv (hMlaDwUkv := hMlaDwUkv)
    ∧ quiescent_MlaDwUkvIdeal (hMlaDwUkvIdeal := hMlaDwUkvIdeal)
    ∧ quiescent_MlaDwUkvReferenceIdeal (hMlaDwUkvReferenceIdeal := hMlaDwUkvReferenceIdeal)
    ∧ quiescent_MlaUkv (hMlaUkv := hMlaUkv)
    ∧ quiescent_MlaUkvIdeal (hMlaUkvIdeal := hMlaUkvIdeal)
    ∧ quiescent_MlaUkvReferenceIdeal (hMlaUkvReferenceIdeal := hMlaUkvReferenceIdeal)
    ∧ quiescent_StepNorm (hStepNorm := hStepNorm)
    ∧ quiescent_StepNormIdeal (hStepNormIdeal := hStepNormIdeal)
    ∧ quiescent_StepNormReferenceIdeal (hStepNormReferenceIdeal := hStepNormReferenceIdeal)
    ∧ quiescent_StepBias (hStepBias := hStepBias)
    ∧ quiescent_StepBiasIdeal (hStepBiasIdeal := hStepBiasIdeal)
    ∧ quiescent_StepBiasReferenceIdeal (hStepBiasReferenceIdeal := hStepBiasReferenceIdeal)
    ∧ quiescent_StepGain (hStepGain := hStepGain)
    ∧ quiescent_StepGainIdeal (hStepGainIdeal := hStepGainIdeal)
    ∧ quiescent_StepGainReferenceIdeal (hStepGainReferenceIdeal := hStepGainReferenceIdeal)
    ∧ quiescent_StepRank (hStepRank := hStepRank)
    ∧ quiescent_StepRankIdeal (hStepRankIdeal := hStepRankIdeal)
    ∧ quiescent_StepRankReferenceIdeal (hStepRankReferenceIdeal := hStepRankReferenceIdeal)
    ∧ quiescent_StepOut (hStepOut := hStepOut)
    ∧ quiescent_StepOutIdeal (hStepOutIdeal := hStepOutIdeal)
    ∧ quiescent_StepOutReferenceIdeal (hStepOutReferenceIdeal := hStepOutReferenceIdeal)
    ∧ quiescent_StepIn (hStepIn := hStepIn)
    ∧ quiescent_StepInIdeal (hStepInIdeal := hStepInIdeal)
    ∧ quiescent_StepInReferenceIdeal (hStepInReferenceIdeal := hStepInReferenceIdeal)
    ∧ quiescent_StepUq (hStepUq := hStepUq)
    ∧ quiescent_StepUqIdeal (hStepUqIdeal := hStepUqIdeal)
    ∧ quiescent_StepUqReferenceIdeal (hStepUqReferenceIdeal := hStepUqReferenceIdeal)
    ∧ quiescent_StepUkv (hStepUkv := hStepUkv)
    ∧ quiescent_StepUkvIdeal (hStepUkvIdeal := hStepUkvIdeal)
    ∧ quiescent_StepUkvReferenceIdeal (hStepUkvReferenceIdeal := hStepUkvReferenceIdeal)
    ∧ quiescent_StepFox (hStepFox := hStepFox)
    ∧ quiescent_StepFoxIdeal (hStepFoxIdeal := hStepFoxIdeal)
    ∧ quiescent_StepFoxReferenceIdeal (hStepFoxReferenceIdeal := hStepFoxReferenceIdeal)
    ∧ quiescent_StepSbInLast (hStepSbInLast := hStepSbInLast)
    ∧ quiescent_StepSbInLastIdeal (hStepSbInLastIdeal := hStepSbInLastIdeal)
    ∧ quiescent_StepSbInLastReferenceIdeal (hStepSbInLastReferenceIdeal := hStepSbInLastReferenceIdeal)
    ∧ quiescent_StepSbInFirst (hStepSbInFirst := hStepSbInFirst)
    ∧ quiescent_StepSbInFirstIdeal (hStepSbInFirstIdeal := hStepSbInFirstIdeal)
    ∧ quiescent_StepSbInFirstReferenceIdeal (hStepSbInFirstReferenceIdeal := hStepSbInFirstReferenceIdeal)
    ∧ quiescent_StepSbOutLast (hStepSbOutLast := hStepSbOutLast)
    ∧ quiescent_StepSbOutLastIdeal (hStepSbOutLastIdeal := hStepSbOutLastIdeal)
    ∧ quiescent_StepSbOutLastReferenceIdeal (hStepSbOutLastReferenceIdeal := hStepSbOutLastReferenceIdeal)
    ∧ quiescent_StepSbOutFirst (hStepSbOutFirst := hStepSbOutFirst)
    ∧ quiescent_StepSbOutFirstIdeal (hStepSbOutFirstIdeal := hStepSbOutFirstIdeal)
    ∧ quiescent_StepSbOutFirstReferenceIdeal (hStepSbOutFirstReferenceIdeal := hStepSbOutFirstReferenceIdeal)
    ∧ quiescent_StepMlpLast (hStepMlpLast := hStepMlpLast)
    ∧ quiescent_StepMlpLastIdeal (hStepMlpLastIdeal := hStepMlpLastIdeal)
    ∧ quiescent_StepMlpLastReferenceIdeal (hStepMlpLastReferenceIdeal := hStepMlpLastReferenceIdeal)
    ∧ quiescent_StepMlpThird (hStepMlpThird := hStepMlpThird)
    ∧ quiescent_StepMlpThirdIdeal (hStepMlpThirdIdeal := hStepMlpThirdIdeal)
    ∧ quiescent_StepMlpThirdReferenceIdeal (hStepMlpThirdReferenceIdeal := hStepMlpThirdReferenceIdeal)
    ∧ quiescent_StepMlpSecond (hStepMlpSecond := hStepMlpSecond)
    ∧ quiescent_StepMlpSecondIdeal (hStepMlpSecondIdeal := hStepMlpSecondIdeal)
    ∧ quiescent_StepMlpSecondReferenceIdeal (hStepMlpSecondReferenceIdeal := hStepMlpSecondReferenceIdeal)
    ∧ quiescent_StepMlpFirst (hStepMlpFirst := hStepMlpFirst)
    ∧ quiescent_StepMlpFirstIdeal (hStepMlpFirstIdeal := hStepMlpFirstIdeal)
    ∧ quiescent_StepMlpFirstReferenceIdeal (hStepMlpFirstReferenceIdeal := hStepMlpFirstReferenceIdeal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_MlpDu_MlpDuIdeal
    ∧ algebraic_MlpDuIdeal_MlpDuReferenceIdeal (hMlpDuIdeal := hMlpDuIdeal) (hMlpDuReferenceIdeal := hMlpDuReferenceIdeal)
    ∧ preserves_MlpDh_MlpDhIdeal
    ∧ algebraic_MlpDhIdeal_MlpDhReferenceIdeal (hMlpDhIdeal := hMlpDhIdeal) (hMlpDhReferenceIdeal := hMlpDhReferenceIdeal)
    ∧ preserves_MlpDwOne_MlpDwOneIdeal
    ∧ algebraic_MlpDwOneIdeal_MlpDwOneReferenceIdeal (hMlpDwOneIdeal := hMlpDwOneIdeal) (hMlpDwOneReferenceIdeal := hMlpDwOneReferenceIdeal)
    ∧ preserves_MlpDwTwo_MlpDwTwoIdeal
    ∧ algebraic_MlpDwTwoIdeal_MlpDwTwoReferenceIdeal (hMlpDwTwoIdeal := hMlpDwTwoIdeal) (hMlpDwTwoReferenceIdeal := hMlpDwTwoReferenceIdeal)
    ∧ preserves_MlpUp_MlpUpIdeal
    ∧ algebraic_MlpUpIdeal_MlpUpReferenceIdeal (hMlpUpIdeal := hMlpUpIdeal) (hMlpUpReferenceIdeal := hMlpUpReferenceIdeal)
    ∧ preserves_MlpDown_MlpDownIdeal
    ∧ algebraic_MlpDownIdeal_MlpDownReferenceIdeal (hMlpDownIdeal := hMlpDownIdeal) (hMlpDownReferenceIdeal := hMlpDownReferenceIdeal)
    ∧ preserves_MixDo_MixDoIdeal
    ∧ algebraic_MixDoIdeal_MixDoReferenceIdeal (hMixDoIdeal := hMixDoIdeal) (hMixDoReferenceIdeal := hMixDoReferenceIdeal)
    ∧ preserves_MixDwOut_MixDwOutIdeal
    ∧ algebraic_MixDwOutIdeal_MixDwOutReferenceIdeal (hMixDwOutIdeal := hMixDwOutIdeal) (hMixDwOutReferenceIdeal := hMixDwOutReferenceIdeal)
    ∧ preserves_MixOut_MixOutIdeal
    ∧ algebraic_MixOutIdeal_MixOutReferenceIdeal (hMixOutIdeal := hMixOutIdeal) (hMixOutReferenceIdeal := hMixOutReferenceIdeal)
    ∧ preserves_SbDh_SbDhIdeal
    ∧ algebraic_SbDhIdeal_SbDhReferenceIdeal (hSbDhIdeal := hSbDhIdeal) (hSbDhReferenceIdeal := hSbDhReferenceIdeal)
    ∧ preserves_SbDwIn_SbDwInIdeal
    ∧ algebraic_SbDwInIdeal_SbDwInReferenceIdeal (hSbDwInIdeal := hSbDwInIdeal) (hSbDwInReferenceIdeal := hSbDwInReferenceIdeal)
    ∧ preserves_SbProj_SbProjIdeal
    ∧ algebraic_SbProjIdeal_SbProjReferenceIdeal (hSbProjIdeal := hSbProjIdeal) (hSbProjReferenceIdeal := hSbProjReferenceIdeal)
    ∧ preserves_FoxDh_FoxDhIdeal
    ∧ algebraic_FoxDhIdeal_FoxDhReferenceIdeal (hFoxDhIdeal := hFoxDhIdeal) (hFoxDhReferenceIdeal := hFoxDhReferenceIdeal)
    ∧ preserves_FoxDwIn_FoxDwInIdeal
    ∧ algebraic_FoxDwInIdeal_FoxDwInReferenceIdeal (hFoxDwInIdeal := hFoxDwInIdeal) (hFoxDwInReferenceIdeal := hFoxDwInReferenceIdeal)
    ∧ preserves_FoxProj_FoxProjIdeal
    ∧ algebraic_FoxProjIdeal_FoxProjReferenceIdeal (hFoxProjIdeal := hFoxProjIdeal) (hFoxProjReferenceIdeal := hFoxProjReferenceIdeal)
    ∧ preserves_MlaDh_MlaDhIdeal
    ∧ algebraic_MlaDhIdeal_MlaDhReferenceIdeal (hMlaDhIdeal := hMlaDhIdeal) (hMlaDhReferenceIdeal := hMlaDhReferenceIdeal)
    ∧ preserves_MlaDwIn_MlaDwInIdeal
    ∧ algebraic_MlaDwInIdeal_MlaDwInReferenceIdeal (hMlaDwInIdeal := hMlaDwInIdeal) (hMlaDwInReferenceIdeal := hMlaDwInReferenceIdeal)
    ∧ preserves_MlaDown_MlaDownIdeal
    ∧ algebraic_MlaDownIdeal_MlaDownReferenceIdeal (hMlaDownIdeal := hMlaDownIdeal) (hMlaDownReferenceIdeal := hMlaDownReferenceIdeal)
    ∧ preserves_MlaDcQ_MlaDcQIdeal
    ∧ algebraic_MlaDcQIdeal_MlaDcQReferenceIdeal (hMlaDcQIdeal := hMlaDcQIdeal) (hMlaDcQReferenceIdeal := hMlaDcQReferenceIdeal)
    ∧ preserves_MlaDwUq_MlaDwUqIdeal
    ∧ algebraic_MlaDwUqIdeal_MlaDwUqReferenceIdeal (hMlaDwUqIdeal := hMlaDwUqIdeal) (hMlaDwUqReferenceIdeal := hMlaDwUqReferenceIdeal)
    ∧ preserves_MlaUq_MlaUqIdeal
    ∧ algebraic_MlaUqIdeal_MlaUqReferenceIdeal (hMlaUqIdeal := hMlaUqIdeal) (hMlaUqReferenceIdeal := hMlaUqReferenceIdeal)
    ∧ preserves_MlaDcKv_MlaDcKvIdeal
    ∧ algebraic_MlaDcKvIdeal_MlaDcKvReferenceIdeal (hMlaDcKvIdeal := hMlaDcKvIdeal) (hMlaDcKvReferenceIdeal := hMlaDcKvReferenceIdeal)
    ∧ preserves_MlaDwUkv_MlaDwUkvIdeal
    ∧ algebraic_MlaDwUkvIdeal_MlaDwUkvReferenceIdeal (hMlaDwUkvIdeal := hMlaDwUkvIdeal) (hMlaDwUkvReferenceIdeal := hMlaDwUkvReferenceIdeal)
    ∧ preserves_MlaUkv_MlaUkvIdeal
    ∧ algebraic_MlaUkvIdeal_MlaUkvReferenceIdeal (hMlaUkvIdeal := hMlaUkvIdeal) (hMlaUkvReferenceIdeal := hMlaUkvReferenceIdeal)
    ∧ preserves_StepNorm_StepNormIdeal
    ∧ algebraic_StepNormIdeal_StepNormReferenceIdeal (hStepNormIdeal := hStepNormIdeal) (hStepNormReferenceIdeal := hStepNormReferenceIdeal)
    ∧ preserves_StepBias_StepBiasIdeal
    ∧ algebraic_StepBiasIdeal_StepBiasReferenceIdeal (hStepBiasIdeal := hStepBiasIdeal) (hStepBiasReferenceIdeal := hStepBiasReferenceIdeal)
    ∧ preserves_StepGain_StepGainIdeal
    ∧ algebraic_StepGainIdeal_StepGainReferenceIdeal (hStepGainIdeal := hStepGainIdeal) (hStepGainReferenceIdeal := hStepGainReferenceIdeal)
    ∧ preserves_StepRank_StepRankIdeal
    ∧ algebraic_StepRankIdeal_StepRankReferenceIdeal (hStepRankIdeal := hStepRankIdeal) (hStepRankReferenceIdeal := hStepRankReferenceIdeal)
    ∧ preserves_StepOut_StepOutIdeal
    ∧ algebraic_StepOutIdeal_StepOutReferenceIdeal (hStepOutIdeal := hStepOutIdeal) (hStepOutReferenceIdeal := hStepOutReferenceIdeal)
    ∧ preserves_StepIn_StepInIdeal
    ∧ algebraic_StepInIdeal_StepInReferenceIdeal (hStepInIdeal := hStepInIdeal) (hStepInReferenceIdeal := hStepInReferenceIdeal)
    ∧ preserves_StepUq_StepUqIdeal
    ∧ algebraic_StepUqIdeal_StepUqReferenceIdeal (hStepUqIdeal := hStepUqIdeal) (hStepUqReferenceIdeal := hStepUqReferenceIdeal)
    ∧ preserves_StepUkv_StepUkvIdeal
    ∧ algebraic_StepUkvIdeal_StepUkvReferenceIdeal (hStepUkvIdeal := hStepUkvIdeal) (hStepUkvReferenceIdeal := hStepUkvReferenceIdeal)
    ∧ preserves_StepFox_StepFoxIdeal
    ∧ algebraic_StepFoxIdeal_StepFoxReferenceIdeal (hStepFoxIdeal := hStepFoxIdeal) (hStepFoxReferenceIdeal := hStepFoxReferenceIdeal)
    ∧ preserves_StepSbInLast_StepSbInLastIdeal
    ∧ algebraic_StepSbInLastIdeal_StepSbInLastReferenceIdeal (hStepSbInLastIdeal := hStepSbInLastIdeal) (hStepSbInLastReferenceIdeal := hStepSbInLastReferenceIdeal)
    ∧ preserves_StepSbInFirst_StepSbInFirstIdeal
    ∧ algebraic_StepSbInFirstIdeal_StepSbInFirstReferenceIdeal (hStepSbInFirstIdeal := hStepSbInFirstIdeal) (hStepSbInFirstReferenceIdeal := hStepSbInFirstReferenceIdeal)
    ∧ preserves_StepSbOutLast_StepSbOutLastIdeal
    ∧ algebraic_StepSbOutLastIdeal_StepSbOutLastReferenceIdeal (hStepSbOutLastIdeal := hStepSbOutLastIdeal) (hStepSbOutLastReferenceIdeal := hStepSbOutLastReferenceIdeal)
    ∧ preserves_StepSbOutFirst_StepSbOutFirstIdeal
    ∧ algebraic_StepSbOutFirstIdeal_StepSbOutFirstReferenceIdeal (hStepSbOutFirstIdeal := hStepSbOutFirstIdeal) (hStepSbOutFirstReferenceIdeal := hStepSbOutFirstReferenceIdeal)
    ∧ preserves_StepMlpLast_StepMlpLastIdeal
    ∧ algebraic_StepMlpLastIdeal_StepMlpLastReferenceIdeal (hStepMlpLastIdeal := hStepMlpLastIdeal) (hStepMlpLastReferenceIdeal := hStepMlpLastReferenceIdeal)
    ∧ preserves_StepMlpThird_StepMlpThirdIdeal
    ∧ algebraic_StepMlpThirdIdeal_StepMlpThirdReferenceIdeal (hStepMlpThirdIdeal := hStepMlpThirdIdeal) (hStepMlpThirdReferenceIdeal := hStepMlpThirdReferenceIdeal)
    ∧ preserves_StepMlpSecond_StepMlpSecondIdeal
    ∧ algebraic_StepMlpSecondIdeal_StepMlpSecondReferenceIdeal (hStepMlpSecondIdeal := hStepMlpSecondIdeal) (hStepMlpSecondReferenceIdeal := hStepMlpSecondReferenceIdeal)
    ∧ preserves_StepMlpFirst_StepMlpFirstIdeal
    ∧ algebraic_StepMlpFirstIdeal_StepMlpFirstReferenceIdeal (hStepMlpFirstIdeal := hStepMlpFirstIdeal) (hStepMlpFirstReferenceIdeal := hStepMlpFirstReferenceIdeal)
-- ==== Pre_finite_values.lean ====
abbrev S2048x6144 : Shape := ⟨2, ![2048, 6144]⟩
abbrev S2048x2048 : Shape := ⟨2, ![2048, 2048]⟩
abbrev S_ : Shape := ⟨0, ![]⟩

class Facts : Prop where
  slices_S2048x6144_S2048x2048_0_4096 : S2048x6144.Slices ![0, 4096] S2048x2048
  bitsLt_bf16_f32 : FTy.bits .bf16 < FTy.bits .f32
  bcast_S_S2048x2048 : S_.BroadcastsInDim S2048x2048 (![] : Fin 0 → Fin S2048x2048.rank)

variable [Facts]

def fn {F : FTy → Type} [FloatOps F] (main_arg0 : FVec F S2048x6144 .bf16) (main_arg1 : FVec F S2048x2048 .bf16) : IVec S2048x2048 1 × IVec S2048x2048 1 :=
  let main_v0 : FVec F S2048x2048 .bf16 := (extractStridedSlice S2048x2048 ![0, 4096] · slices_S2048x6144_S2048x2048_0_4096) main_arg0
  let main_v1 : FVec F S2048x2048 .f32 := (extf .f32 · bitsLt_bf16_f32) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  (main_v4, main_v8)
-- ==== Kernel.lean ====
abbrev S2048x6144 : Shape := ⟨2, ![2048, 6144]⟩
abbrev S2048x2048 : Shape := ⟨2, ![2048, 2048]⟩
abbrev S1x2048x6144 : Shape := ⟨3, ![1, 2048, 6144]⟩
abbrev S1x2048x3x16x128 : Shape := ⟨5, ![1, 2048, 3, 16, 128]⟩
abbrev S3x1x16x2048x128 : Shape := ⟨5, ![3, 1, 16, 2048, 128]⟩
abbrev S1x1x16x2048x128 : Shape := ⟨5, ![1, 1, 16, 2048, 128]⟩
abbrev S1x16x2048x128 : Shape := ⟨4, ![1, 16, 2048, 128]⟩
abbrev S1x16x2048x2048 : Shape := ⟨4, ![1, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x2048x16x128 : Shape := ⟨4, ![1, 2048, 16, 128]⟩
abbrev S1x2048x2048 : Shape := ⟨3, ![1, 2048, 2048]⟩
abbrev S2048x128 : Shape := ⟨2, ![2048, 128]⟩
abbrev S256x256 : Shape := ⟨2, ![256, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S256x128 : Shape := ⟨2, ![256, 128]⟩

abbrev nBuf : Space → Nat
  | .hbm => 82
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x6144, .f32⟩
  | .hbm, ⟨3, _⟩ => ⟨S1x2048x6144, .f32⟩
  | .hbm, ⟨4, _⟩ => ⟨S1x2048x3x16x128, .f32⟩
  | .hbm, ⟨5, _⟩ => ⟨S3x1x16x2048x128, .f32⟩
  | .hbm, ⟨6, _⟩ => ⟨S1x1x16x2048x128, .f32⟩
  | .hbm, ⟨7, _⟩ => ⟨S1x16x2048x128, .f32⟩
  | .hbm, ⟨8, _⟩ => ⟨S1x1x16x2048x128, .f32⟩
  | .hbm, ⟨9, _⟩ => ⟨S1x16x2048x128, .f32⟩
  | .hbm, ⟨10, _⟩ => ⟨S1x1x16x2048x128, .f32⟩
  | .hbm, ⟨11, _⟩ => ⟨S1x16x2048x128, .f32⟩
  | .hbm, ⟨12, _⟩ => ⟨S1x16x2048x2048, .f32⟩
  | .hbm, ⟨13, _⟩ => ⟨S_, .f32⟩
  | .hbm, ⟨14, _⟩ => ⟨S1x16x2048x2048, .f32⟩
  | .hbm, ⟨15, _⟩ => ⟨S1x16x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S1x16x2048x2048, .f32⟩
  | .hbm, ⟨27, _⟩ => ⟨S1x16x2048x2048, .f32⟩
  | .hbm, ⟨28, _⟩ => ⟨S_, .f32⟩
  | .hbm, ⟨29, _⟩ => ⟨S1x16x2048x2048, .f32⟩
  | .hbm, ⟨30, _⟩ => ⟨S1x16x2048x2048, .f32⟩
  | .hbm, ⟨31, _⟩ => ⟨S1x16x2048x2048, .f32⟩
  | .hbm, ⟨32, _⟩ => ⟨S1x16x2048x2048, .f32⟩
  | .hbm, ⟨33, _⟩ => ⟨S1x16x2048x2048, .i1⟩
  | .hbm, ⟨34, _⟩ => ⟨S1x16x2048x2048, .f32⟩
  | .hbm, ⟨35, _⟩ => ⟨S1x16x2048x2048, .f32⟩
  | .hbm, ⟨36, _⟩ => ⟨S1x16x2048x2048, .f32⟩
  | .hbm, ⟨37, _⟩ => ⟨S1x16x2048x2048, .f32⟩
  | .hbm, ⟨38, _⟩ => ⟨S1x16x2048x2048, .f32⟩
  | .hbm, ⟨39, _⟩ => ⟨S1x16x2048x2048, .f32⟩
  | .hbm, ⟨40, _⟩ => ⟨S1x16x2048x2048, .f32⟩
  | .hbm, ⟨41, _⟩ => ⟨S1x16x2048x2048, .f32⟩
  | .hbm, ⟨42, _⟩ => ⟨S1x16x2048x2048, .f32⟩
  | .hbm, ⟨43, _⟩ => ⟨S_, .f32⟩
  | .hbm, ⟨44, _⟩ => ⟨S_, .f32⟩
  | .hbm, ⟨45, _⟩ => ⟨S1x16x2048x2048, .i1⟩
  | .hbm, ⟨46, _⟩ => ⟨S1x16x2048x2048, .f32⟩
  | .hbm, ⟨47, _⟩ => ⟨S1x16x2048x2048, .f32⟩
  | .hbm, ⟨48, _⟩ => ⟨S_, .f32⟩
  | .hbm, ⟨49, _⟩ => ⟨S_, .f32⟩
  | .hbm, ⟨50, _⟩ => ⟨S1x16x2048x2048, .f32⟩
  | .hbm, ⟨51, _⟩ => ⟨S1x16x2048x2048, .f32⟩
  | .hbm, ⟨52, _⟩ => ⟨S1x16x2048x2048, .f32⟩
  | .hbm, ⟨53, _⟩ => ⟨S_, .f32⟩
  | .hbm, ⟨54, _⟩ => ⟨S1x16x2048x2048, .f32⟩
  | .hbm, ⟨55, _⟩ => ⟨S1x16x2048x2048, .f32⟩
  | .hbm, ⟨56, _⟩ => ⟨S1x16x2048x2048, .f32⟩
  | .hbm, ⟨57, _⟩ => ⟨S1x16x2048x2048, .f32⟩
  | .hbm, ⟨58, _⟩ => ⟨S1x16x2048x2048, .i1⟩
  | .hbm, ⟨59, _⟩ => ⟨S1x16x2048x2048, .f32⟩
  | .hbm, ⟨60, _⟩ => ⟨S1x16x2048x2048, .f32⟩
  | .hbm, ⟨61, _⟩ => ⟨S1x16x2048x2048, .f32⟩
  | .hbm, ⟨62, _⟩ => ⟨S1x16x2048x2048, .f32⟩
  | .hbm, ⟨63, _⟩ => ⟨S1x16x2048x2048, .f32⟩
  | .hbm, ⟨64, _⟩ => ⟨S1x16x2048x2048, .f32⟩
  | .hbm, ⟨65, _⟩ => ⟨S1x16x2048x2048, .f32⟩
  | .hbm, ⟨66, _⟩ => ⟨S1x16x2048x2048, .f32⟩
  | .hbm, ⟨67, _⟩ => ⟨S1x16x2048x2048, .f32⟩
  | .hbm, ⟨68, _⟩ => ⟨S1x16x2048x2048, .f32⟩
  | .hbm, ⟨69, _⟩ => ⟨S1x16x2048x2048, .f32⟩
  | .hbm, ⟨70, _⟩ => ⟨S_, .f32⟩
  | .hbm, ⟨71, _⟩ => ⟨S_, .f32⟩
  | .hbm, ⟨72, _⟩ => ⟨S1x16x2048x2048, .i1⟩
  | .hbm, ⟨73, _⟩ => ⟨S1x16x2048x2048, .f32⟩
  | .hbm, ⟨74, _⟩ => ⟨S1x16x2048x2048, .f32⟩
  | .hbm, ⟨75, _⟩ => ⟨S1x16x2048x128, .f32⟩
  | .hbm, ⟨76, _⟩ => ⟨S1x2048x16x128, .f32⟩
  | .hbm, ⟨77, _⟩ => ⟨S1x2048x2048, .f32⟩
  | .hbm, ⟨78, _⟩ => ⟨S2048x2048, .f32⟩
  | .hbm, ⟨79, _⟩ => ⟨S2048x2048, .bf16⟩
  | .hbm, ⟨80, _⟩ => ⟨S2048x2048, .bf16⟩
  | .hbm, ⟨81, _⟩ => ⟨S2048x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v23 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_call2_cst : Ref sig .tc := ⟨.hbm, 48, rfl⟩
abbrev main_call2_v0 : Ref sig .tc := ⟨.hbm, 49, rfl⟩
abbrev main_v25 : Ref sig .tc := ⟨.hbm, 50, rfl⟩
abbrev main_v26 : Ref sig .tc := ⟨.hbm, 51, rfl⟩
abbrev main_call3_v0 : Ref sig .tc := ⟨.hbm, 52, rfl⟩
abbrev main_call3_call0_cst : Ref sig .tc := ⟨.hbm, 53, rfl⟩
abbrev main_call3_call0_v0 : Ref sig .tc := ⟨.hbm, 54, rfl⟩
abbrev main_call3_call0_v1 : Ref sig .tc := ⟨.hbm, 55, rfl⟩
abbrev main_call3_call0_v2 : Ref sig .tc := ⟨.hbm, 56, rfl⟩
abbrev main_call3_call0_v3 : Ref sig .tc := ⟨.hbm, 57, rfl⟩
abbrev main_call3_call0_v4 : Ref sig .tc := ⟨.hbm, 58, rfl⟩
abbrev main_call3_call0_v5 : Ref sig .tc := ⟨.hbm, 59, rfl⟩
abbrev main_call3_call0_v6 : Ref sig .tc := ⟨.hbm, 60, rfl⟩
abbrev main_call3_call0_v7 : Ref sig .tc := ⟨.hbm, 61, rfl⟩
abbrev main_call3_call0_v8 : Ref sig .tc := ⟨.hbm, 62, rfl⟩
abbrev main_call3_call0_v9 : Ref sig .tc := ⟨.hbm, 63, rfl⟩
abbrev main_call3_call0_v10 : Ref sig .tc := ⟨.hbm, 64, rfl⟩
abbrev main_call3_call0_v11 : Ref sig .tc := ⟨.hbm, 65, rfl⟩
abbrev main_call3_v1 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_1 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35_0 : Ref sig .tc := ⟨.hbm, 79, rfl⟩
abbrev main_v35_1 : Ref sig .tc := ⟨.hbm, 80, rfl⟩
abbrev main_v35_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v24 : BitVec 32 := Scalar.addi c0_i32 c4_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v31 : BitVec 32 := Scalar.muli arg11 c512_i32
  v31
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v31 : BitVec 32 := Scalar.muli arg11 c512_i32
  let v32 : BitVec 32 := v31
  let v33 : Index := Scalar.indexCast v32
  let c0_17 : Index := 0#32
  ![v33.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_33 : BitVec 32 := 1#32
  let v69 : BitVec 32 := Scalar.subi v67 c1_i32_33
  let c256_i32_34 : BitVec 32 := 256#32
  let v70 : BitVec 32 := Scalar.muli v69 c256_i32_34
  v70
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_33 : BitVec 32 := 1#32
  let v69 : BitVec 32 := Scalar.subi v67 c1_i32_33
  let c256_i32_34 : BitVec 32 := 256#32
  let v70 : BitVec 32 := Scalar.muli v69 c256_i32_34
  let v71 : BitVec 32 := v70
  let v72 : Index := Scalar.indexCast v71
  let c0_35 : Index := 0#32
  ![v72.toNat, 0]
@[reducible] def k0_t2_loop (k0_t1 : Fin k0_t1_loop.trips) : Scf.Loop 32 :=
  let c0_i32_41 : BitVec 32 := 0#32
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let v81 : BitVec 32 := Scalar.subi v67 c0_i32_41
  let c1_i32_42 : BitVec 32 := 1#32
  let v83 : BitVec 32 := Scalar.divsi v81 c1_i32_42
  let v84 : BitVec 32 := Scalar.muli v83 c1_i32_42
  let v85 : BitVec 32 := Scalar.addi c0_i32_41 v84
  let c1_i32_43 : BitVec 32 := 1#32
  ⟨c0_i32_41, v85, c1_i32_43⟩
def k0_mult3 (k0_t1 : Fin k0_t1_loop.trips) (k0_t2 : Fin (k0_t2_loop k0_t1).trips) : BitVec 32 :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_46 : BitVec 32 := 1#32
  let v91 : BitVec 32 := Scalar.subi v67 c1_i32_46
  let c0_i32_41 : BitVec 32 := 0#32
  let c1_i32_43 : BitVec 32 := 1#32
  let arg12 : BitVec 32 := Scf.iv c0_i32_41 c1_i32_43 k0_t2
  let v92 : BitVec 32 := Scalar.subi v91 arg12
  let c1_i32_47 : BitVec 32 := 1#32
  let v93 : BitVec 32 := Scalar.subi v92 c1_i32_47
  let c0_i32_48 : BitVec 32 := 0#32
  let v94 : BitVec 32 := Scalar.maxsi v93 c0_i32_48
  let c256_i32_49 : BitVec 32 := 256#32
  let v95 : BitVec 32 := Scalar.muli v94 c256_i32_49
  v95
def k0_off3 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_46 : BitVec 32 := 1#32
  let v91 : BitVec 32 := Scalar.subi v67 c1_i32_46
  let c0_i32_41 : BitVec 32 := 0#32
  let c1_i32_43 : BitVec 32 := 1#32
  let arg12 : BitVec 32 := Scf.iv c0_i32_41 c1_i32_43 k0_t2
  let v92 : BitVec 32 := Scalar.subi v91 arg12
  let c1_i32_47 : BitVec 32 := 1#32
  let v93 : BitVec 32 := Scalar.subi v92 c1_i32_47
  let c0_i32_48 : BitVec 32 := 0#32
  let v94 : BitVec 32 := Scalar.maxsi v93 c0_i32_48
  let c256_i32_49 : BitVec 32 := 256#32
  let v95 : BitVec 32 := Scalar.muli v94 c256_i32_49
  let v96 : BitVec 32 := v95
  let v97 : Index := Scalar.indexCast v96
  let c0_50 : Index := 0#32
  ![v97.toNat, 0]
def k0_mult4 (k0_t1 : Fin k0_t1_loop.trips) (k0_t2 : Fin (k0_t2_loop k0_t1).trips) : BitVec 32 :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_46 : BitVec 32 := 1#32
  let v91 : BitVec 32 := Scalar.subi v67 c1_i32_46
  let c0_i32_41 : BitVec 32 := 0#32
  let c1_i32_43 : BitVec 32 := 1#32
  let arg12 : BitVec 32 := Scf.iv c0_i32_41 c1_i32_43 k0_t2
  let v92 : BitVec 32 := Scalar.subi v91 arg12
  let c256_i32_55 : BitVec 32 := 256#32
  let v105 : BitVec 32 := Scalar.muli v92 c256_i32_55
  v105
def k0_off4 (k0_t1 : Fin k0_t1_loop.trips) (k0_t2 : Fin (k0_t2_loop k0_t1).trips) : Fin 2 → Nat :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_46 : BitVec 32 := 1#32
  let v91 : BitVec 32 := Scalar.subi v67 c1_i32_46
  let c0_i32_41 : BitVec 32 := 0#32
  let c1_i32_43 : BitVec 32 := 1#32
  let arg12 : BitVec 32 := Scf.iv c0_i32_41 c1_i32_43 k0_t2
  let v92 : BitVec 32 := Scalar.subi v91 arg12
  let c256_i32_55 : BitVec 32 := 256#32
  let v105 : BitVec 32 := Scalar.muli v92 c256_i32_55
  let v106 : BitVec 32 := v105
  let v107 : Index := Scalar.indexCast v106
  let c0_56 : Index := 0#32
  ![v107.toNat, 0]
@[reducible] def k0_t3_loop (k0_t1 : Fin k0_t1_loop.trips) : Scf.Loop 32 :=
  let c0_i32_41 : BitVec 32 := 0#32
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let v81 : BitVec 32 := Scalar.subi v67 c0_i32_41
  let c1_i32_42 : BitVec 32 := 1#32
  let v83 : BitVec 32 := Scalar.divsi v81 c1_i32_42
  let v84 : BitVec 32 := Scalar.muli v83 c1_i32_42
  let v85 : BitVec 32 := Scalar.addi c0_i32_41 v84
  let v82 : BitVec 32 := Scalar.addi c0_i32_41 v81
  let c1_i32_44 : BitVec 32 := 1#32
  ⟨v85, v82, c1_i32_44⟩
def k0_mult5 (k0_t1 : Fin k0_t1_loop.trips) (k0_t3 : Fin (k0_t3_loop k0_t1).trips) : BitVec 32 :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_46 : BitVec 32 := 1#32
  let v91 : BitVec 32 := Scalar.subi v67 c1_i32_46
  let c0_i32_41 : BitVec 32 := 0#32
  let v81 : BitVec 32 := Scalar.subi v67 c0_i32_41
  let c1_i32_42 : BitVec 32 := 1#32
  let v83 : BitVec 32 := Scalar.divsi v81 c1_i32_42
  let v84 : BitVec 32 := Scalar.muli v83 c1_i32_42
  let v85 : BitVec 32 := Scalar.addi c0_i32_41 v84
  let c1_i32_44 : BitVec 32 := 1#32
  let arg12 : BitVec 32 := Scf.iv v85 c1_i32_44 k0_t3
  let v92 : BitVec 32 := Scalar.subi v91 arg12
  let c1_i32_47 : BitVec 32 := 1#32
  let v93 : BitVec 32 := Scalar.subi v92 c1_i32_47
  let c0_i32_48 : BitVec 32 := 0#32
  let v94 : BitVec 32 := Scalar.maxsi v93 c0_i32_48
  let c256_i32_49 : BitVec 32 := 256#32
  let v95 : BitVec 32 := Scalar.muli v94 c256_i32_49
  v95
def k0_off5 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_46 : BitVec 32 := 1#32
  let v91 : BitVec 32 := Scalar.subi v67 c1_i32_46
  let c0_i32_41 : BitVec 32 := 0#32
  let v81 : BitVec 32 := Scalar.subi v67 c0_i32_41
  let c1_i32_42 : BitVec 32 := 1#32
  let v83 : BitVec 32 := Scalar.divsi v81 c1_i32_42
  let v84 : BitVec 32 := Scalar.muli v83 c1_i32_42
  let v85 : BitVec 32 := Scalar.addi c0_i32_41 v84
  let c1_i32_44 : BitVec 32 := 1#32
  let arg12 : BitVec 32 := Scf.iv v85 c1_i32_44 k0_t3
  let v92 : BitVec 32 := Scalar.subi v91 arg12
  let c1_i32_47 : BitVec 32 := 1#32
  let v93 : BitVec 32 := Scalar.subi v92 c1_i32_47
  let c0_i32_48 : BitVec 32 := 0#32
  let v94 : BitVec 32 := Scalar.maxsi v93 c0_i32_48
  let c256_i32_49 : BitVec 32 := 256#32
  let v95 : BitVec 32 := Scalar.muli v94 c256_i32_49
  let v96 : BitVec 32 := v95
  let v97 : Index := Scalar.indexCast v96
  let c0_50 : Index := 0#32
  ![v97.toNat, 0]
def k0_mult6 (k0_t1 : Fin k0_t1_loop.trips) (k0_t3 : Fin (k0_t3_loop k0_t1).trips) : BitVec 32 :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_46 : BitVec 32 := 1#32
  let v91 : BitVec 32 := Scalar.subi v67 c1_i32_46
  let c0_i32_41 : BitVec 32 := 0#32
  let v81 : BitVec 32 := Scalar.subi v67 c0_i32_41
  let c1_i32_42 : BitVec 32 := 1#32
  let v83 : BitVec 32 := Scalar.divsi v81 c1_i32_42
  let v84 : BitVec 32 := Scalar.muli v83 c1_i32_42
  let v85 : BitVec 32 := Scalar.addi c0_i32_41 v84
  let c1_i32_44 : BitVec 32 := 1#32
  let arg12 : BitVec 32 := Scf.iv v85 c1_i32_44 k0_t3
  let v92 : BitVec 32 := Scalar.subi v91 arg12
  let c256_i32_55 : BitVec 32 := 256#32
  let v105 : BitVec 32 := Scalar.muli v92 c256_i32_55
  v105
def k0_off6 (k0_t1 : Fin k0_t1_loop.trips) (k0_t3 : Fin (k0_t3_loop k0_t1).trips) : Fin 2 → Nat :=
  let c0_i32 : BitVec 32 := 0#32
  let c1_i32 : BitVec 32 := 1#32
  let arg11 : BitVec 32 := Scf.iv c0_i32 c1_i32 k0_t1
  let c1_i32_22 : BitVec 32 := 1#32
  let v47 : BitVec 32 := Scalar.addi arg11 c1_i32_22
  let c512_i32_23 : BitVec 32 := 512#32
  let v48 : BitVec 32 := Scalar.muli v47 c512_i32_23
  let c256_i32 : BitVec 32 := 256#32
  let v49 : BitVec 32 := Scalar.addi v48 c256_i32
  let c1_i32_24 : BitVec 32 := 1#32
  let v50 : BitVec 32 := Scalar.subi v49 c1_i32_24
  let c0_i32_26 : BitVec 32 := 0#32
  let v52 : BitVec 1 := Scalar.cmpi .sgt v50 c0_i32_26
  let v53 : BitVec 32 := Scalar.extui v52
  let c0_i32_27 : BitVec 32 := 0#32
  let v54 : BitVec 1 := Scalar.cmpi .slt v50 c0_i32_27
  let v55 : BitVec 32 := Scalar.extui v54
  let v56 : BitVec 32 := Scalar.subi v53 v55
  let c256_i32_25 : BitVec 32 := 256#32
  let c0_i32_28 : BitVec 32 := 0#32
  let v57 : BitVec 1 := Scalar.cmpi .sgt c256_i32_25 c0_i32_28
  let v58 : BitVec 32 := Scalar.extui v57
  let c0_i32_29 : BitVec 32 := 0#32
  let v59 : BitVec 1 := Scalar.cmpi .slt c256_i32_25 c0_i32_29
  let v60 : BitVec 32 := Scalar.extui v59
  let v61 : BitVec 32 := Scalar.subi v58 v60
  let v62 : BitVec 1 := Scalar.cmpi .ne v56 v61
  let v63 : BitVec 32 := Scalar.remsi v50 c256_i32_25
  let c0_i32_30 : BitVec 32 := 0#32
  let v64 : BitVec 1 := Scalar.cmpi .ne v63 c0_i32_30
  let v65 : BitVec 1 := Scalar.andi v62 v64
  let v51 : BitVec 32 := Scalar.divsi v50 c256_i32_25
  let c1_i32_31 : BitVec 32 := 1#32
  let v66 : BitVec 32 := Scalar.subi v51 c1_i32_31
  let v67 : BitVec 32 := Scalar.select v65 v66 v51
  let c1_i32_46 : BitVec 32 := 1#32
  let v91 : BitVec 32 := Scalar.subi v67 c1_i32_46
  let c0_i32_41 : BitVec 32 := 0#32
  let v81 : BitVec 32 := Scalar.subi v67 c0_i32_41
  let c1_i32_42 : BitVec 32 := 1#32
  let v83 : BitVec 32 := Scalar.divsi v81 c1_i32_42
  let v84 : BitVec 32 := Scalar.muli v83 c1_i32_42
  let v85 : BitVec 32 := Scalar.addi c0_i32_41 v84
  let c1_i32_44 : BitVec 32 := 1#32
  let arg12 : BitVec 32 := Scf.iv v85 c1_i32_44 k0_t3
  let v92 : BitVec 32 := Scalar.subi v91 arg12
  let c256_i32_55 : BitVec 32 := 256#32
  let v105 : BitVec 32 := Scalar.muli v92 c256_i32_55
  let v106 : BitVec 32 := v105
  let v107 : Index := Scalar.indexCast v106
  let c0_56 : Index := 0#32
  ![v107.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x6144 : Shape := ⟨2, ![2048, 6144]⟩
abbrev S2048x2048 : Shape := ⟨2, ![2048, 2048]⟩
abbrev S1x2048x6144 : Shape := ⟨3, ![1, 2048, 6144]⟩
abbrev S1x2048x3x16x128 : Shape := ⟨5, ![1, 2048, 3, 16, 128]⟩
abbrev S3x1x16x2048x128 : Shape := ⟨5, ![3, 1, 16, 2048, 128]⟩
abbrev S1x1x16x2048x128 : Shape := ⟨5, ![1, 1, 16, 2048, 128]⟩
abbrev S1x16x2048x128 : Shape := ⟨4, ![1, 16, 2048, 128]⟩
abbrev S1x16x2048x2048 : Shape := ⟨4, ![1, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x2048x16x128 : Shape := ⟨4, ![1, 2048, 16, 128]⟩
abbrev S1x2048x2048 : Shape := ⟨3, ![1, 2048, 2048]⟩
abbrev S1x16x128x2048 : Shape := ⟨4, ![1, 16, 128, 2048]⟩

abbrev nBuf : Space → Nat
  | .hbm => 198
  | .vmem => 0
  | .smem => 0
  | _ => 0

abbrev hbmTy0_0 (i : Nat) : BufTy := match i % 128 with
  | 0 => ⟨S2048x6144, .bf16⟩
  | 1 => ⟨S2048x2048, .bf16⟩
  | 2 => ⟨S2048x6144, .f32⟩
  | 3 => ⟨S1x2048x6144, .f32⟩
  | 4 => ⟨S1x2048x3x16x128, .f32⟩
  | 5 => ⟨S3x1x16x2048x128, .f32⟩
  | 6 => ⟨S1x1x16x2048x128, .f32⟩
  | 7 => ⟨S1x16x2048x128, .f32⟩
  | 8 => ⟨S1x1x16x2048x128, .f32⟩
  | 9 => ⟨S1x16x2048x128, .f32⟩
  | 10 => ⟨S1x1x16x2048x128, .f32⟩
  | 11 => ⟨S1x16x2048x128, .f32⟩
  | 12 => ⟨S1x16x2048x2048, .f32⟩
  | 13 => ⟨S_, .f32⟩
  | 14 => ⟨S1x16x2048x2048, .f32⟩
  | 15 => ⟨S1x16x2048x2048, .f32⟩
  | 16 => ⟨S2048, .i32⟩
  | 17 => ⟨S1x2048, .i32⟩
  | 18 => ⟨S2048, .i32⟩
  | 19 => ⟨S_, .i32⟩
  | 20 => ⟨S2048, .i32⟩
  | 21 => ⟨S2048, .i32⟩
  | 22 => ⟨S2048x1, .i32⟩
  | 23 => ⟨S2048x2048, .i32⟩
  | 24 => ⟨S2048x2048, .i32⟩
  | 25 => ⟨S2048x2048, .i1⟩
  | 26 => ⟨S1x16x2048x2048, .f32⟩
  | 27 => ⟨S1x16x2048x2048, .f32⟩
  | 28 => ⟨S_, .f32⟩
  | 29 => ⟨S1x16x2048x2048, .f32⟩
  | 30 => ⟨S1x16x2048x2048, .f32⟩
  | 31 => ⟨S1x16x2048x2048, .f32⟩
  | 32 => ⟨S1x16x2048x2048, .f32⟩
  | 33 => ⟨S1x16x2048x2048, .i1⟩
  | 34 => ⟨S1x16x2048x2048, .f32⟩
  | 35 => ⟨S1x16x2048x2048, .f32⟩
  | 36 => ⟨S1x16x2048x2048, .f32⟩
  | 37 => ⟨S1x16x2048x2048, .f32⟩
  | 38 => ⟨S1x16x2048x2048, .f32⟩
  | 39 => ⟨S1x16x2048x2048, .f32⟩
  | 40 => ⟨S1x16x2048x2048, .f32⟩
  | 41 => ⟨S1x16x2048x2048, .f32⟩
  | 42 => ⟨S_, .f32⟩
  | 43 => ⟨S1x16x2048x2048, .f32⟩
  | 44 => ⟨S1x16x2048x2048, .i1⟩
  | 45 => ⟨S_, .f32⟩
  | 46 => ⟨S1x16x2048x2048, .f32⟩
  | 47 => ⟨S1x16x2048x2048, .f32⟩
  | 48 => ⟨S_, .f32⟩
  | 49 => ⟨S1x16x2048x2048, .f32⟩
  | 50 => ⟨S1x16x2048x2048, .i1⟩
  | 51 => ⟨S_, .f32⟩
  | 52 => ⟨S1x16x2048x2048, .f32⟩
  | 53 => ⟨S1x16x2048x2048, .f32⟩
  | 54 => ⟨S1x16x2048x2048, .f32⟩
  | 55 => ⟨S1x16x2048x2048, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S1x16x2048x2048, .f32⟩
  | 64 => ⟨S1x16x2048x2048, .i1⟩
  | 65 => ⟨S_, .f32⟩
  | 66 => ⟨S1x16x2048x2048, .f32⟩
  | 67 => ⟨S1x16x2048x2048, .f32⟩
  | 68 => ⟨S1x16x2048x2048, .f32⟩
  | 69 => ⟨S1x16x2048x2048, .f32⟩
  | 70 => ⟨S1x16x2048x2048, .f32⟩
  | 71 => ⟨S_, .f32⟩
  | 72 => ⟨S1x16x2048x2048, .f32⟩
  | 73 => ⟨S1x16x2048x2048, .f32⟩
  | 74 => ⟨S1x16x2048x2048, .f32⟩
  | 75 => ⟨S_, .f32⟩
  | 76 => ⟨S_, .f32⟩
  | 77 => ⟨S1x16x2048x2048, .i1⟩
  | 78 => ⟨S1x16x2048x2048, .f32⟩
  | 79 => ⟨S1x16x2048x2048, .f32⟩
  | 80 => ⟨S_, .f32⟩
  | 81 => ⟨S1x16x2048x2048, .f32⟩
  | 82 => ⟨S_, .f32⟩
  | 83 => ⟨S_, .f32⟩
  | 84 => ⟨S1x16x2048x2048, .f32⟩
  | 85 => ⟨S1x16x2048x2048, .f32⟩
  | 86 => ⟨S1x16x2048x2048, .f32⟩
  | 87 => ⟨S_, .f32⟩
  | 88 => ⟨S1x16x2048x2048, .f32⟩
  | 89 => ⟨S1x16x2048x2048, .f32⟩
  | 90 => ⟨S1x16x2048x2048, .f32⟩
  | 91 => ⟨S1x16x2048x2048, .f32⟩
  | 92 => ⟨S1x16x2048x2048, .i1⟩
  | 93 => ⟨S1x16x2048x2048, .f32⟩
  | 94 => ⟨S1x16x2048x2048, .f32⟩
  | 95 => ⟨S1x16x2048x2048, .f32⟩
  | 96 => ⟨S1x16x2048x2048, .f32⟩
  | 97 => ⟨S1x16x2048x2048, .f32⟩
  | 98 => ⟨S1x16x2048x2048, .f32⟩
  | 99 => ⟨S1x16x2048x2048, .f32⟩
  | 100 => ⟨S1x16x2048x2048, .f32⟩
  | 101 => ⟨S_, .f32⟩
  | 102 => ⟨S1x16x2048x2048, .f32⟩
  | 103 => ⟨S1x16x2048x2048, .i1⟩
  | 104 => ⟨S_, .f32⟩
  | 105 => ⟨S1x16x2048x2048, .f32⟩
  | 106 => ⟨S1x16x2048x2048, .f32⟩
  | 107 => ⟨S_, .f32⟩
  | 108 => ⟨S1x16x2048x2048, .f32⟩
  | 109 => ⟨S1x16x2048x2048, .i1⟩
  | 110 => ⟨S_, .f32⟩
  | 111 => ⟨S1x16x2048x2048, .f32⟩
  | 112 => ⟨S1x16x2048x2048, .f32⟩
  | 113 => ⟨S1x16x2048x2048, .f32⟩
  | 114 => ⟨S1x16x2048x2048, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S1x16x2048x2048, .f32⟩
  | 123 => ⟨S1x16x2048x2048, .i1⟩
  | 124 => ⟨S_, .f32⟩
  | 125 => ⟨S1x16x2048x2048, .f32⟩
  | 126 => ⟨S1x16x2048x2048, .f32⟩
  | 127 => ⟨S1x16x2048x2048, .f32⟩
  | _ => ⟨S2048x6144, .bf16⟩

abbrev hbmTy0_1 (i : Nat) : BufTy := match i % 128 with
  | 0 => ⟨S1x16x2048x2048, .f32⟩
  | 1 => ⟨S1x16x2048x2048, .f32⟩
  | 2 => ⟨S_, .f32⟩
  | 3 => ⟨S1x16x2048x2048, .f32⟩
  | 4 => ⟨S1x16x2048x2048, .f32⟩
  | 5 => ⟨S1x16x2048x2048, .f32⟩
  | 6 => ⟨S1x16x2048x2048, .f32⟩
  | 7 => ⟨S1x16x2048x2048, .f32⟩
  | 8 => ⟨S_, .f32⟩
  | 9 => ⟨S_, .f32⟩
  | 10 => ⟨S1x16x2048x2048, .i1⟩
  | 11 => ⟨S1x16x2048x2048, .f32⟩
  | 12 => ⟨S1x16x2048x2048, .f32⟩
  | 13 => ⟨S_, .f32⟩
  | 14 => ⟨S1x16x2048x2048, .f32⟩
  | 15 => ⟨S1x16x2048x128, .f32⟩
  | 16 => ⟨S1x2048x16x128, .f32⟩
  | 17 => ⟨S1x2048x2048, .f32⟩
  | 18 => ⟨S2048x2048, .f32⟩
  | 19 => ⟨S2048x2048, .f32⟩
  | 20 => ⟨S1x2048x2048, .f32⟩
  | 21 => ⟨S1x2048x16x128, .f32⟩
  | 22 => ⟨S1x16x2048x128, .f32⟩
  | 23 => ⟨S1x16x128x2048, .f32⟩
  | 24 => ⟨S1x16x2048x128, .f32⟩
  | 25 => ⟨S1x16x2048x2048, .f32⟩
  | 26 => ⟨S_, .f32⟩
  | 27 => ⟨S1x16x2048x2048, .f32⟩
  | 28 => ⟨S1x16x2048x2048, .f32⟩
  | 29 => ⟨S1x16x2048x2048, .f32⟩
  | 30 => ⟨S1x16x2048x2048, .f32⟩
  | 31 => ⟨S1x16x2048x2048, .f32⟩
  | 32 => ⟨S1x16x2048x2048, .f32⟩
  | 33 => ⟨S1x16x2048x2048, .f32⟩
  | 34 => ⟨S_, .f32⟩
  | 35 => ⟨S_, .f32⟩
  | 36 => ⟨S1x16x2048x2048, .f32⟩
  | 37 => ⟨S1x16x2048x2048, .f32⟩
  | 38 => ⟨S_, .f32⟩
  | 39 => ⟨S1x16x2048x2048, .f32⟩
  | 40 => ⟨S1x16x2048x2048, .f32⟩
  | 41 => ⟨S1x16x2048x2048, .f32⟩
  | 42 => ⟨S1x16x2048x2048, .f32⟩
  | 43 => ⟨S1x16x2048x2048, .f32⟩
  | 44 => ⟨S1x16x2048x2048, .f32⟩
  | 45 => ⟨S1x16x2048x2048, .f32⟩
  | 46 => ⟨S_, .f32⟩
  | 47 => ⟨S1x16x2048x2048, .f32⟩
  | 48 => ⟨S1x16x2048x2048, .f32⟩
  | 49 => ⟨S1x16x2048x128, .f32⟩
  | 50 => ⟨S1x16x2048x128, .f32⟩
  | 51 => ⟨S1x1x16x2048x128, .f32⟩
  | 52 => ⟨S_, .f32⟩
  | 53 => ⟨S3x1x16x2048x128, .f32⟩
  | 54 => ⟨S1x1x16x2048x128, .f32⟩
  | 55 => ⟨S_, .f32⟩
  | 56 => ⟨S3x1x16x2048x128, .f32⟩
  | 57 => ⟨S3x1x16x2048x128, .f32⟩
  | 58 => ⟨S1x1x16x2048x128, .f32⟩
  | 59 => ⟨S_, .f32⟩
  | 60 => ⟨S3x1x16x2048x128, .f32⟩
  | 61 => ⟨S3x1x16x2048x128, .f32⟩
  | 62 => ⟨S1x2048x3x16x128, .f32⟩
  | 63 => ⟨S1x2048x6144, .f32⟩
  | 64 => ⟨S_, .f32⟩
  | 65 => ⟨S2048x6144, .f32⟩
  | 66 => ⟨S2048x6144, .bf16⟩
  | 67 => ⟨S2048x2048, .bf16⟩
  | 68 => ⟨S2048x2048, .bf16⟩
  | 69 => ⟨S2048x2048, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1_0 : Ref sig .tc := ⟨.hbm, 41, rfl⟩
abbrev main_call0_call0_cst_0 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_call0_cst_1 : Ref sig .tc := ⟨.hbm, 45, rfl⟩
abbrev main_call0_call0_v15 : Ref sig .tc := ⟨.hbm, 46, rfl⟩
abbrev main_call0_call0_v16 : Ref sig .tc := ⟨.hbm, 47, rfl⟩
abbrev main_call0_call0_cst_2 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_cst_3 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_v21 : Ref sig .tc := ⟨.hbm, 54, rfl⟩
abbrev main_v23_1 : Ref sig .tc := ⟨.hbm, 55, rfl⟩
abbrev main_call0_call0_cst_4 : Ref sig .tc := ⟨.hbm, 56, rfl⟩
abbrev main_call0_call0_cst_5 : Ref sig .tc := ⟨.hbm, 57, rfl⟩
abbrev main_call0_call0_v23 : Ref sig .tc := ⟨.hbm, 58, rfl⟩
abbrev main_call0_call0_cst_6 : Ref sig .tc := ⟨.hbm, 59, rfl⟩
abbrev main_call0_call0_cst_7 : Ref sig .tc := ⟨.hbm, 60, rfl⟩
abbrev main_call0_call0_v24 : Ref sig .tc := ⟨.hbm, 61, rfl⟩
abbrev main_call0_call0_cst_8 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_cst_9 : Ref sig .tc := ⟨.hbm, 65, rfl⟩
abbrev main_call0_call0_v27 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_cst_10 : Ref sig .tc := ⟨.hbm, 71, rfl⟩
abbrev main_call0_call0_v32 : Ref sig .tc := ⟨.hbm, 72, rfl⟩
abbrev main_v23_2 : Ref sig .tc := ⟨.hbm, 73, rfl⟩
abbrev main_v23_0 : Ref sig .tc := ⟨.hbm, 74, rfl⟩
abbrev main_cst_0 : Ref sig .tc := ⟨.hbm, 75, rfl⟩
abbrev main_call1_v0 : Ref sig .tc := ⟨.hbm, 76, rfl⟩
abbrev main_v24_1 : Ref sig .tc := ⟨.hbm, 77, rfl⟩
abbrev main_call1_v2 : Ref sig .tc := ⟨.hbm, 78, rfl⟩
abbrev main_v24_0 : Ref sig .tc := ⟨.hbm, 79, rfl⟩
abbrev main_call1_cst : Ref sig .tc := ⟨.hbm, 80, rfl⟩
abbrev main_v24_2 : Ref sig .tc := ⟨.hbm, 81, rfl⟩
abbrev main_call2_cst : Ref sig .tc := ⟨.hbm, 82, rfl⟩
abbrev main_call2_v0 : Ref sig .tc := ⟨.hbm, 83, rfl⟩
abbrev main_v25 : Ref sig .tc := ⟨.hbm, 84, rfl⟩
abbrev main_v26 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1_0 : Ref sig .tc := ⟨.hbm, 100, rfl⟩
abbrev main_call3_call0_cst_0 : Ref sig .tc := ⟨.hbm, 101, rfl⟩
abbrev main_call3_call0_v13 : Ref sig .tc := ⟨.hbm, 102, rfl⟩
abbrev main_call3_call0_v14 : Ref sig .tc := ⟨.hbm, 103, rfl⟩
abbrev main_call3_call0_cst_1 : Ref sig .tc := ⟨.hbm, 104, rfl⟩
abbrev main_call3_call0_v15 : Ref sig .tc := ⟨.hbm, 105, rfl⟩
abbrev main_call3_call0_v16 : Ref sig .tc := ⟨.hbm, 106, rfl⟩
abbrev main_call3_call0_cst_2 : Ref sig .tc := ⟨.hbm, 107, rfl⟩
abbrev main_call3_call0_v17 : Ref sig .tc := ⟨.hbm, 108, rfl⟩
abbrev main_call3_call0_v18 : Ref sig .tc := ⟨.hbm, 109, rfl⟩
abbrev main_call3_call0_cst_3 : Ref sig .tc := ⟨.hbm, 110, rfl⟩
abbrev main_call3_call0_v19 : Ref sig .tc := ⟨.hbm, 111, rfl⟩
abbrev main_call3_call0_v20 : Ref sig .tc := ⟨.hbm, 112, rfl⟩
abbrev main_call3_call0_v21 : Ref sig .tc := ⟨.hbm, 113, rfl⟩
abbrev main_v27_1 : Ref sig .tc := ⟨.hbm, 114, rfl⟩
abbrev main_call3_call0_cst_4 : Ref sig .tc := ⟨.hbm, 115, rfl⟩
abbrev main_call3_call0_cst_5 : Ref sig .tc := ⟨.hbm, 116, rfl⟩
abbrev main_call3_call0_v23 : Ref sig .tc := ⟨.hbm, 117, rfl⟩
abbrev main_call3_call0_cst_6 : Ref sig .tc := ⟨.hbm, 118, rfl⟩
abbrev main_call3_call0_cst_7 : Ref sig .tc := ⟨.hbm, 119, rfl⟩
abbrev main_call3_call0_v24 : Ref sig .tc := ⟨.hbm, 120, rfl⟩
abbrev main_call3_call0_cst_8 : Ref sig .tc := ⟨.hbm, 121, rfl⟩
abbrev main_call3_call0_v25 : Ref sig .tc := ⟨.hbm, 122, rfl⟩
abbrev main_call3_call0_v26 : Ref sig .tc := ⟨.hbm, 123, rfl⟩
abbrev main_call3_call0_cst_9 : Ref sig .tc := ⟨.hbm, 124, rfl⟩
abbrev main_call3_call0_v27 : Ref sig .tc := ⟨.hbm, 125, rfl⟩
abbrev main_call3_call0_v28 : Ref sig .tc := ⟨.hbm, 126, rfl⟩
abbrev main_call3_call0_v29 : Ref sig .tc := ⟨.hbm, 127, rfl⟩
abbrev main_call3_call0_v30 : Ref sig .tc := ⟨.hbm, 128, rfl⟩
abbrev main_call3_call0_v31 : Ref sig .tc := ⟨.hbm, 129, rfl⟩
abbrev main_call3_call0_cst_10 : Ref sig .tc := ⟨.hbm, 130, rfl⟩
abbrev main_call3_call0_v32 : Ref sig .tc := ⟨.hbm, 131, rfl⟩
abbrev main_v27_2 : Ref sig .tc := ⟨.hbm, 132, rfl⟩
abbrev main_v27_0 : Ref sig .tc := ⟨.hbm, 133, rfl⟩
abbrev main_v28 : Ref sig .tc := ⟨.hbm, 134, rfl⟩
abbrev main_v29 : Ref sig .tc := ⟨.hbm, 135, rfl⟩
abbrev main_cst_1 : Ref sig .tc := ⟨.hbm, 136, rfl⟩
abbrev main_call4_v0 : Ref sig .tc := ⟨.hbm, 137, rfl⟩
abbrev main_v30_1 : Ref sig .tc := ⟨.hbm, 138, rfl⟩
abbrev main_call4_v2 : Ref sig .tc := ⟨.hbm, 139, rfl⟩
abbrev main_v30_0 : Ref sig .tc := ⟨.hbm, 140, rfl⟩
abbrev main_call4_cst : Ref sig .tc := ⟨.hbm, 141, rfl⟩
abbrev main_v30_2 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev main_call5_cst : Ref sig .tc := ⟨.hbm, 154, rfl⟩
abbrev main_call5_v0 : Ref sig .tc := ⟨.hbm, 155, rfl⟩
abbrev main_v42 : Ref sig .tc := ⟨.hbm, 156, rfl⟩
abbrev main_v43 : Ref sig .tc := ⟨.hbm, 157, rfl⟩
abbrev main_call6_v0 : Ref sig .tc := ⟨.hbm, 158, rfl⟩
abbrev main_call6_v1 : Ref sig .tc := ⟨.hbm, 159, rfl⟩
abbrev main_v44 : Ref sig .tc := ⟨.hbm, 160, rfl⟩
abbrev main_v45 : Ref sig .tc := ⟨.hbm, 161, rfl⟩
abbrev main_call7_cst : Ref sig .tc := ⟨.hbm, 162, rfl⟩
abbrev main_call7_v0 : Ref sig .tc := ⟨.hbm, 163, rfl⟩
abbrev main_v46 : Ref sig .tc := ⟨.hbm, 164, rfl⟩
abbrev main_v47 : Ref sig .tc := ⟨.hbm, 165, rfl⟩
abbrev main_call8_cst : Ref sig .tc := ⟨.hbm, 166, rfl⟩
abbrev main_call8_v0 : Ref sig .tc := ⟨.hbm, 167, rfl⟩
abbrev main_v48 : Ref sig .tc := ⟨.hbm, 168, rfl⟩
abbrev main_call9_v0 : Ref sig .tc := ⟨.hbm, 169, rfl⟩
abbrev main_call9_v1 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_cst_2 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_cst_3 : Ref sig .tc := ⟨.hbm, 180, rfl⟩
abbrev main_v57 : Ref sig .tc := ⟨.hbm, 181, rfl⟩
abbrev main_v58 : Ref sig .tc := ⟨.hbm, 182, rfl⟩
abbrev main_cst_4 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_cst_5 : Ref sig .tc := ⟨.hbm, 187, rfl⟩
abbrev main_v62 : Ref sig .tc := ⟨.hbm, 188, rfl⟩
abbrev main_v63 : Ref sig .tc := ⟨.hbm, 189, rfl⟩
abbrev main_v64 : Ref sig .tc := ⟨.hbm, 190, rfl⟩
abbrev main_v65 : Ref sig .tc := ⟨.hbm, 191, rfl⟩
abbrev main_cst_6 : Ref sig .tc := ⟨.hbm, 192, rfl⟩
abbrev main_v66 : Ref sig .tc := ⟨.hbm, 193, rfl⟩
abbrev main_v67 : Ref sig .tc := ⟨.hbm, 194, rfl⟩
abbrev main_v68 : Ref sig .tc := ⟨.hbm, 195, rfl⟩
abbrev main_v69 : Ref sig .tc := ⟨.hbm, 196, rfl⟩
abbrev main_v70 : Ref sig .tc := ⟨.hbm, 197, rfl⟩

abbrev nD : Nat := 1
abbrev τ : Topo := Topo.v7x

variable {F : FTy → Type} [FloatOps F]
-- ==== MlpDu.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .hbm, ⟨3, _⟩ => ⟨S_, .bf16⟩
  | .hbm, ⟨4, _⟩ => ⟨S2048x8192, .bf16⟩
  | .hbm, ⟨5, _⟩ => ⟨S2048x8192, .bf16⟩
  | .hbm, ⟨6, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDuReferenceIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .hbm, ⟨3, _⟩ => ⟨S2048x8192, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S2048x2048, .f32⟩
  | .hbm, ⟨14, _⟩ => ⟨S2048x2048, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S_, .f32⟩
  | .hbm, ⟨20, _⟩ => ⟨S2048x8192, .f32⟩
  | .hbm, ⟨21, _⟩ => ⟨S2048x8192, .f32⟩
  | .hbm, ⟨22, _⟩ => ⟨S2048x8192, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== MlpDh.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDhReferenceIdeal.lean ====
abbrev S2048x2048 : Shape := ⟨2, ![2048, 2048]⟩
abbrev S2048x8192 : Shape := ⟨2, ![2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpDwOne.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwOneReferenceIdeal.lean ====
abbrev S2048x2048 : Shape := ⟨2, ![2048, 2048]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlpDwTwo.lean ====
abbrev S2048x8192 : Shape := ⟨2, ![2048, 8192]⟩
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .hbm, ⟨3, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwTwoReferenceIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpUp.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S2048x8192, .bf16⟩
  | .hbm, ⟨5, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpReferenceIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .bf16⟩
  | .hbm, ⟨10, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpDown.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownReferenceIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixDo.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDoReferenceIdeal.lean ====
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixDwOut.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwOutReferenceIdeal.lean ====
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutReferenceIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SbDh.lean ====
abbrev S2048x2048 : Shape := ⟨2, ![2048, 2048]⟩
abbrev S2048x6144 : Shape := ⟨2, ![2048, 6144]⟩
abbrev S2048x4x1536 : Shape := ⟨3, ![2048, 4, 1536]⟩
abbrev S4x2048x1536 : Shape := ⟨3, ![4, 2048, 1536]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x4x1536, .bf16⟩
  | .hbm, ⟨4, _⟩ => ⟨S4x2048x1536, .bf16⟩
  | .hbm, ⟨5, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbDhReferenceIdeal.lean ====
abbrev S2048x2048 : Shape := ⟨2, ![2048, 2048]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x6144, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SbDwIn.lean ====
abbrev S2048x2048 : Shape := ⟨2, ![2048, 2048]⟩
abbrev S2048x6144 : Shape := ⟨2, ![2048, 6144]⟩
abbrev S4x2048x1536 : Shape := ⟨3, ![4, 2048, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S4x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbDwInReferenceIdeal.lean ====
abbrev S2048x2048 : Shape := ⟨2, ![2048, 2048]⟩
abbrev S2048x6144 : Shape := ⟨2, ![2048, 6144]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | .hbm, ⟨10, _⟩ => ⟨S2048x4x1536, .bf16⟩
  | .hbm, ⟨11, _⟩ => ⟨S4x2048x1536, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SbProj.lean ====
abbrev S2048x2048 : Shape := ⟨2, ![2048, 2048]⟩
abbrev S2048x6144 : Shape := ⟨2, ![2048, 6144]⟩
abbrev S2048x4x1536 : Shape := ⟨3, ![2048, 4, 1536]⟩
abbrev S4x2048x1536 : Shape := ⟨3, ![4, 2048, 1536]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x4x1536, .bf16⟩
  | .hbm, ⟨3, _⟩ => ⟨S4x2048x1536, .bf16⟩
  | .hbm, ⟨4, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbProjReferenceIdeal.lean ====
abbrev S2048x2048 : Shape := ⟨2, ![2048, 2048]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S2048x6144, .f32⟩
  | .hbm, ⟨4, _⟩ => ⟨S2048x6144, .f32⟩
  | .hbm, ⟨5, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FoxDh.lean ====
abbrev S2048x2048 : Shape := ⟨2, ![2048, 2048]⟩
abbrev S2048x6272 : Shape := ⟨2, ![2048, 6272]⟩
abbrev S1024x896 : Shape := ⟨2, ![1024, 896]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x6272, .bf16⟩
  | .hbm, ⟨3, _⟩ => ⟨S2048x2048, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDhReferenceIdeal.lean ====
abbrev S2048x2048 : Shape := ⟨2, ![2048, 2048]⟩
abbrev S2048x6272 : Shape := ⟨2, ![2048, 6272]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x6272, .bf16⟩
  | .hbm, ⟨3, _⟩ => ⟨S2048x2048, .f32⟩
  | .hbm, ⟨4, _⟩ => ⟨S2048x6272, .f32⟩
  | .hbm, ⟨5, _⟩ => ⟨S2048x6272, .f32⟩
  | .hbm, ⟨6, _⟩ => ⟨S2048x6272, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FoxDwIn.lean ====
abbrev S2048x2048 : Shape := ⟨2, ![2048, 2048]⟩
abbrev S2048x6272 : Shape := ⟨2, ![2048, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x6272, .bf16⟩
  | .hbm, ⟨3, _⟩ => ⟨S2048x6272, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDwInReferenceIdeal.lean ====
abbrev S2048x2048 : Shape := ⟨2, ![2048, 2048]⟩
abbrev S2048x6272 : Shape := ⟨2, ![2048, 6272]⟩
abbrev S6272x2048 : Shape := ⟨2, ![6272, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x6272, .bf16⟩
  | .hbm, ⟨3, _⟩ => ⟨S2048x6272, .f32⟩
  | .hbm, ⟨4, _⟩ => ⟨S2048x2048, .f32⟩
  | .hbm, ⟨5, _⟩ => ⟨S2048x6272, .f32⟩
  | .hbm, ⟨6, _⟩ => ⟨S2048x6272, .f32⟩
  | .hbm, ⟨7, _⟩ => ⟨S6272x2048, .f32⟩
  | .hbm, ⟨8, _⟩ => ⟨S2048x6272, .f32⟩
  | .hbm, ⟨9, _⟩ => ⟨S2048x6272, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FoxProj.lean ====
abbrev S2048x2048 : Shape := ⟨2, ![2048, 2048]⟩
abbrev S2048x6272 : Shape := ⟨2, ![2048, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxProjReferenceIdeal.lean ====
abbrev S2048x2048 : Shape := ⟨2, ![2048, 2048]⟩
abbrev S2048x6272 : Shape := ⟨2, ![2048, 6272]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x2048, .f32⟩
  | .hbm, ⟨3, _⟩ => ⟨S2048x6272, .f32⟩
  | .hbm, ⟨4, _⟩ => ⟨S2048x6272, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaDh.lean ====
abbrev S2048x2048 : Shape := ⟨2, ![2048, 2048]⟩
abbrev S2048x1408 : Shape := ⟨2, ![2048, 1408]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S2048x1408, .bf16⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDhReferenceIdeal.lean ====
abbrev S2048x2048 : Shape := ⟨2, ![2048, 2048]⟩
abbrev S2048x1408 : Shape := ⟨2, ![2048, 1408]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S2048x1408, .bf16⟩
  | .hbm, ⟨3, _⟩ => ⟨S2048x2048, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDwIn.lean ====
abbrev S2048x2048 : Shape := ⟨2, ![2048, 2048]⟩
abbrev S2048x1408 : Shape := ⟨2, ![2048, 1408]⟩
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S2048x1408, .bf16⟩
  | .hbm, ⟨3, _⟩ => ⟨S2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDwInReferenceIdeal.lean ====
abbrev S2048x2048 : Shape := ⟨2, ![2048, 2048]⟩
abbrev S2048x1408 : Shape := ⟨2, ![2048, 1408]⟩
abbrev S1408x2048 : Shape := ⟨2, ![1408, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S2048x1408, .bf16⟩
  | .hbm, ⟨3, _⟩ => ⟨S2048x1408, .f32⟩
  | .hbm, ⟨4, _⟩ => ⟨S2048x2048, .f32⟩
  | .hbm, ⟨5, _⟩ => ⟨S2048x1408, .f32⟩
  | .hbm, ⟨6, _⟩ => ⟨S2048x1408, .f32⟩
  | .hbm, ⟨7, _⟩ => ⟨S1408x2048, .f32⟩
  | .hbm, ⟨8, _⟩ => ⟨S2048x1408, .f32⟩
  | .hbm, ⟨9, _⟩ => ⟨S2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaDown.lean ====
abbrev S2048x2048 : Shape := ⟨2, ![2048, 2048]⟩
abbrev S2048x1408 : Shape := ⟨2, ![2048, 1408]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S2048x1408, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDownReferenceIdeal.lean ====
abbrev S2048x2048 : Shape := ⟨2, ![2048, 2048]⟩
abbrev S2048x1408 : Shape := ⟨2, ![2048, 1408]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S2048x2048, .f32⟩
  | .hbm, ⟨3, _⟩ => ⟨S2048x1408, .f32⟩
  | .hbm, ⟨4, _⟩ => ⟨S2048x1408, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaDcQ.lean ====
abbrev S2048x768 : Shape := ⟨2, ![2048, 768]⟩
abbrev S768x3072 : Shape := ⟨2, ![768, 3072]⟩
abbrev S2048x3072 : Shape := ⟨2, ![2048, 3072]⟩
abbrev S768x4x768 : Shape := ⟨3, ![768, 4, 768]⟩
abbrev S4x768x768 : Shape := ⟨3, ![4, 768, 768]⟩
abbrev S1024x768 : Shape := ⟨2, ![1024, 768]⟩
abbrev S1x768x768 : Shape := ⟨3, ![1, 768, 768]⟩
abbrev S768x768 : Shape := ⟨2, ![768, 768]⟩

abbrev nBuf : Space → Nat
  | .hbm => 6
  | .vmem => 7
  | .smem => 0
  | _ => 0

abbrev bufTy : (tb : Table) → Fin (tcTables nBuf tb) → BufTy
  | .hbm, ⟨0, _⟩ => ⟨S2048x768, .bf16⟩
  | .hbm, ⟨1, _⟩ => ⟨S768x3072, .bf16⟩
  | .hbm, ⟨2, _⟩ => ⟨S2048x3072, .bf16⟩
  | .hbm, ⟨3, _⟩ => ⟨S768x4x768, .bf16⟩
  | .hbm, ⟨4, _⟩ => ⟨S4x768x768, .bf16⟩
  | .hbm, ⟨5, _⟩ => ⟨S2048x768, .f32⟩
  | .local _ .vmem, ⟨0, _⟩ => ⟨S1024x768, .bf16⟩
  | .local _ .vmem, ⟨1, _⟩ => ⟨S1024x768, .bf16⟩
  | .local _ .vmem, ⟨2, _⟩ => ⟨S1x768x768, .bf16⟩
  | .local _ .vmem, ⟨3, _⟩ => ⟨S1x768x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDcQReferenceIdeal.lean ====
abbrev S2048x768 : Shape := ⟨2, ![2048, 768]⟩
abbrev S768x3072 : Shape := ⟨2, ![768, 3072]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S768x3072, .bf16⟩
  | .hbm, ⟨2, _⟩ => ⟨S2048x3072, .bf16⟩
  | .hbm, ⟨3, _⟩ => ⟨S2048x768, .f32⟩
  | .hbm, ⟨4, _⟩ => ⟨S768x3072, .f32⟩
  | .hbm, ⟨5, _⟩ => ⟨S2048x3072, .f32⟩
  | .hbm, ⟨6, _⟩ => ⟨S2048x3072, .f32⟩
  | .hbm, ⟨7, _⟩ => ⟨S2048x768, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDwUq.lean ====
abbrev S2048x768 : Shape := ⟨2, ![2048, 768]⟩
abbrev S768x3072 : Shape := ⟨2, ![768, 3072]⟩
abbrev S2048x3072 : Shape := ⟨2, ![2048, 3072]⟩
abbrev S4x768x768 : Shape := ⟨3, ![4, 768, 768]⟩
abbrev S1x768x768 : Shape := ⟨3, ![1, 768, 768]⟩
abbrev S768x768 : Shape := ⟨2, ![768, 768]⟩

abbrev nBuf : Space → Nat
  | .hbm => 4
  | .vmem => 6
  | .smem => 0
  | _ => 0

abbrev bufTy : (tb : Table) → Fin (tcTables nBuf tb) → BufTy
  | .hbm, ⟨0, _⟩ => ⟨S2048x768, .bf16⟩
  | .hbm, ⟨1, _⟩ => ⟨S768x3072, .bf16⟩
  | .hbm, ⟨2, _⟩ => ⟨S2048x3072, .bf16⟩
  | .hbm, ⟨3, _⟩ => ⟨S4x768x768, .bf16⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S1x768x768, .bf16⟩
  | .local _ .vmem, ⟨4, _⟩ => ⟨S1x768x768, .bf16⟩
  | .local _ .vmem, ⟨5, _⟩ => ⟨S768x768, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDwUqReferenceIdeal.lean ====
abbrev S2048x768 : Shape := ⟨2, ![2048, 768]⟩
abbrev S768x3072 : Shape := ⟨2, ![768, 3072]⟩
abbrev S2048x3072 : Shape := ⟨2, ![2048, 3072]⟩
abbrev S3072x768 : Shape := ⟨2, ![3072, 768]⟩
abbrev S768x4x768 : Shape := ⟨3, ![768, 4, 768]⟩
abbrev S4x768x768 : Shape := ⟨3, ![4, 768, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S768x3072, .bf16⟩
  | .hbm, ⟨2, _⟩ => ⟨S2048x3072, .bf16⟩
  | .hbm, ⟨3, _⟩ => ⟨S768x3072, .f32⟩
  | .hbm, ⟨4, _⟩ => ⟨S2048x768, .f32⟩
  | .hbm, ⟨5, _⟩ => ⟨S2048x3072, .f32⟩
  | .hbm, ⟨6, _⟩ => ⟨S2048x3072, .f32⟩
  | .hbm, ⟨7, _⟩ => ⟨S3072x768, .f32⟩
  | .hbm, ⟨8, _⟩ => ⟨S768x3072, .f32⟩
  | .hbm, ⟨9, _⟩ => ⟨S768x3072, .bf16⟩
  | .hbm, ⟨10, _⟩ => ⟨S768x4x768, .bf16⟩
  | .hbm, ⟨11, _⟩ => ⟨S4x768x768, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlaUq.lean ====
abbrev S2048x768 : Shape := ⟨2, ![2048, 768]⟩
abbrev S768x3072 : Shape := ⟨2, ![768, 3072]⟩
abbrev S768x4x768 : Shape := ⟨3, ![768, 4, 768]⟩
abbrev S4x768x768 : Shape := ⟨3, ![4, 768, 768]⟩
abbrev S2048x3072 : Shape := ⟨2, ![2048, 3072]⟩
abbrev S1024x768 : Shape := ⟨2, ![1024, 768]⟩
abbrev S1x768x768 : Shape := ⟨3, ![1, 768, 768]⟩
abbrev S768x768 : Shape := ⟨2, ![768, 768]⟩

abbrev nBuf : Space → Nat
  | .hbm => 5
  | .vmem => 7
  | .smem => 0
  | _ => 0

abbrev bufTy : (tb : Table) → Fin (tcTables nBuf tb) → BufTy
  | .hbm, ⟨0, _⟩ => ⟨S2048x768, .bf16⟩
  | .hbm, ⟨1, _⟩ => ⟨S768x3072, .bf16⟩
  | .hbm, ⟨2, _⟩ => ⟨S768x4x768, .bf16⟩
  | .hbm, ⟨3, _⟩ => ⟨S4x768x768, .bf16⟩
  | .hbm, ⟨4, _⟩ => ⟨S2048x3072, .f32⟩
  | .local _ .vmem, ⟨0, _⟩ => ⟨S1024x768, .bf16⟩
  | .local _ .vmem, ⟨1, _⟩ => ⟨S1024x768, .bf16⟩
  | .local _ .vmem, ⟨2, _⟩ => ⟨S1x768x768, .bf16⟩
  | .local _ .vmem, ⟨3, _⟩ => ⟨S1x768x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqReferenceIdeal.lean ====
abbrev S2048x768 : Shape := ⟨2, ![2048, 768]⟩
abbrev S768x3072 : Shape := ⟨2, ![768, 3072]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S768x3072, .bf16⟩
  | .hbm, ⟨2, _⟩ => ⟨S2048x768, .f32⟩
  | .hbm, ⟨3, _⟩ => ⟨S768x3072, .f32⟩
  | .hbm, ⟨4, _⟩ => ⟨S2048x3072, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaDcKv.lean ====
abbrev S2048x512 : Shape := ⟨2, ![2048, 512]⟩
abbrev S512x4096 : Shape := ⟨2, ![512, 4096]⟩
abbrev S2048x4096 : Shape := ⟨2, ![2048, 4096]⟩
abbrev S512x4x1024 : Shape := ⟨3, ![512, 4, 1024]⟩
abbrev S4x512x1024 : Shape := ⟨3, ![4, 512, 1024]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x4096, .bf16⟩
  | .hbm, ⟨3, _⟩ => ⟨S512x4x1024, .bf16⟩
  | .hbm, ⟨4, _⟩ => ⟨S4x512x1024, .bf16⟩
  | .hbm, ⟨5, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDcKvReferenceIdeal.lean ====
abbrev S2048x512 : Shape := ⟨2, ![2048, 512]⟩
abbrev S512x4096 : Shape := ⟨2, ![512, 4096]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x4096, .bf16⟩
  | .hbm, ⟨3, _⟩ => ⟨S2048x512, .f32⟩
  | .hbm, ⟨4, _⟩ => ⟨S512x4096, .f32⟩
  | .hbm, ⟨5, _⟩ => ⟨S2048x4096, .f32⟩
  | .hbm, ⟨6, _⟩ => ⟨S2048x4096, .f32⟩
  | .hbm, ⟨7, _⟩ => ⟨S2048x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDwUkv.lean ====
abbrev S2048x512 : Shape := ⟨2, ![2048, 512]⟩
abbrev S512x4096 : Shape := ⟨2, ![512, 4096]⟩
abbrev S2048x4096 : Shape := ⟨2, ![2048, 4096]⟩
abbrev S4x512x1024 : Shape := ⟨3, ![4, 512, 1024]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x4096, .bf16⟩
  | .hbm, ⟨3, _⟩ => ⟨S4x512x1024, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDwUkvReferenceIdeal.lean ====
abbrev S2048x512 : Shape := ⟨2, ![2048, 512]⟩
abbrev S512x4096 : Shape := ⟨2, ![512, 4096]⟩
abbrev S2048x4096 : Shape := ⟨2, ![2048, 4096]⟩
abbrev S4096x512 : Shape := ⟨2, ![4096, 512]⟩
abbrev S512x4x1024 : Shape := ⟨3, ![512, 4, 1024]⟩
abbrev S4x512x1024 : Shape := ⟨3, ![4, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x4096, .bf16⟩
  | .hbm, ⟨3, _⟩ => ⟨S512x4096, .f32⟩
  | .hbm, ⟨4, _⟩ => ⟨S2048x512, .f32⟩
  | .hbm, ⟨5, _⟩ => ⟨S2048x4096, .f32⟩
  | .hbm, ⟨6, _⟩ => ⟨S2048x4096, .f32⟩
  | .hbm, ⟨7, _⟩ => ⟨S4096x512, .f32⟩
  | .hbm, ⟨8, _⟩ => ⟨S512x4096, .f32⟩
  | .hbm, ⟨9, _⟩ => ⟨S512x4096, .bf16⟩
  | .hbm, ⟨10, _⟩ => ⟨S512x4x1024, .bf16⟩
  | .hbm, ⟨11, _⟩ => ⟨S4x512x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlaUkv.lean ====
abbrev S2048x512 : Shape := ⟨2, ![2048, 512]⟩
abbrev S512x4096 : Shape := ⟨2, ![512, 4096]⟩
abbrev S512x4x1024 : Shape := ⟨3, ![512, 4, 1024]⟩
abbrev S4x512x1024 : Shape := ⟨3, ![4, 512, 1024]⟩
abbrev S2048x4096 : Shape := ⟨2, ![2048, 4096]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S512x4x1024, .bf16⟩
  | .hbm, ⟨3, _⟩ => ⟨S4x512x1024, .bf16⟩
  | .hbm, ⟨4, _⟩ => ⟨S2048x4096, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvReferenceIdeal.lean ====
abbrev S2048x512 : Shape := ⟨2, ![2048, 512]⟩
abbrev S512x4096 : Shape := ⟨2, ![512, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x512, .f32⟩
  | .hbm, ⟨3, _⟩ => ⟨S512x4096, .f32⟩
  | .hbm, ⟨4, _⟩ => ⟨S2048x4096, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== StepNorm.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepNormIdeal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepNormReferenceIdeal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepBias.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepBiasIdeal.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepBiasReferenceIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepGain.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepGainIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepGainReferenceIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepRank.lean ====
abbrev S1x192 : Shape := ⟨2, ![1, 192]⟩

abbrev nBuf : Space → Nat
  | .hbm => 7
  | .vmem => 7
  | .smem => 0
  | _ => 0

abbrev bufTy : (tb : Table) → Fin (tcTables nBuf tb) → BufTy
  | .hbm, ⟨0, _⟩ => ⟨S1x192, .f32⟩
  | .hbm, ⟨1, _⟩ => ⟨S1x192, .f32⟩
  | .hbm, ⟨2, _⟩ => ⟨S1x192, .f32⟩
  | .hbm, ⟨3, _⟩ => ⟨S1x192, .f32⟩
  | .hbm, ⟨4, _⟩ => ⟨S1x192, .f32⟩
  | .hbm, ⟨5, _⟩ => ⟨S1x192, .f32⟩
  | .hbm, ⟨6, _⟩ => ⟨S1x192, .f32⟩
  | .local _ .vmem, ⟨0, _⟩ => ⟨S1x192, .f32⟩
  | .local _ .vmem, ⟨1, _⟩ => ⟨S1x192, .f32⟩
  | .local _ .vmem, ⟨2, _⟩ => ⟨S1x192, .f32⟩
  | .local _ .vmem, ⟨3, _⟩ => ⟨S1x192, .f32⟩
  | .local _ .vmem, ⟨4, _⟩ => ⟨S1x192, .f32⟩
  | .local _ .vmem, ⟨5, _⟩ => ⟨S1x192, .f32⟩
  | .local _ .vmem, ⟨6, _⟩ => ⟨S1x192, .f32⟩
  | _, _ => ⟨S1x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepRankReferenceIdeal.lean ====
abbrev S1x192 : Shape := ⟨2, ![1, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x192, .f32⟩
  | .hbm, ⟨1, _⟩ => ⟨S1x192, .f32⟩
  | .hbm, ⟨2, _⟩ => ⟨S1x192, .f32⟩
  | .hbm, ⟨3, _⟩ => ⟨S1x192, .f32⟩
  | .hbm, ⟨4, _⟩ => ⟨S_, .f32⟩
  | .hbm, ⟨5, _⟩ => ⟨S1x192, .f32⟩
  | .hbm, ⟨6, _⟩ => ⟨S1x192, .f32⟩
  | .hbm, ⟨7, _⟩ => ⟨S_, .f32⟩
  | .hbm, ⟨8, _⟩ => ⟨S1x192, .f32⟩
  | .hbm, ⟨9, _⟩ => ⟨S1x192, .f32⟩
  | .hbm, ⟨10, _⟩ => ⟨S1x192, .f32⟩
  | .hbm, ⟨11, _⟩ => ⟨S_, .f32⟩
  | .hbm, ⟨12, _⟩ => ⟨S1x192, .f32⟩
  | .hbm, ⟨13, _⟩ => ⟨S1x192, .f32⟩
  | .hbm, ⟨14, _⟩ => ⟨S1x192, .f32⟩
  | .hbm, ⟨15, _⟩ => ⟨S_, .f32⟩
  | .hbm, ⟨16, _⟩ => ⟨S1x192, .f32⟩
  | .hbm, ⟨17, _⟩ => ⟨S1x192, .f32⟩
  | .hbm, ⟨18, _⟩ => ⟨S1x192, .f32⟩
  | .hbm, ⟨19, _⟩ => ⟨S_, .f32⟩
  | .hbm, ⟨20, _⟩ => ⟨S1x192, .f32⟩
  | .hbm, ⟨21, _⟩ => ⟨S1x192, .f32⟩
  | .hbm, ⟨22, _⟩ => ⟨S_, .f32⟩
  | .hbm, ⟨23, _⟩ => ⟨S1x192, .f32⟩
  | .hbm, ⟨24, _⟩ => ⟨S1x192, .f32⟩
  | .hbm, ⟨25, _⟩ => ⟨S1x192, .f32⟩
  | .hbm, ⟨26, _⟩ => ⟨S_, .f32⟩
  | .hbm, ⟨27, _⟩ => ⟨S1x192, .f32⟩
  | .hbm, ⟨28, _⟩ => ⟨S1x192, .f32⟩
  | .hbm, ⟨29, _⟩ => ⟨S1x192, .f32⟩
  | .hbm, ⟨30, _⟩ => ⟨S_, .f32⟩
  | .hbm, ⟨31, _⟩ => ⟨S1x192, .f32⟩
  | .hbm, ⟨32, _⟩ => ⟨S1x192, .f32⟩
  | .hbm, ⟨33, _⟩ => ⟨S1x192, .f32⟩
  | .hbm, ⟨34, _⟩ => ⟨S_, .f32⟩
  | .hbm, ⟨35, _⟩ => ⟨S1x192, .f32⟩
  | .hbm, ⟨36, _⟩ => ⟨S1x192, .f32⟩
  | _, _ => ⟨S1x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOut.lean ====
abbrev S1x512x2048 : Shape := ⟨3, ![1, 512, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S256x2048, .f32⟩
  | .hbm, ⟨4, _⟩ => ⟨S256x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepOutIdeal.lean ====
abbrev S1x512x2048 : Shape := ⟨3, ![1, 512, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S256x2048, .f32⟩
  | .hbm, ⟨4, _⟩ => ⟨S256x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepOutReferenceIdeal.lean ====
abbrev S1x512x2048 : Shape := ⟨3, ![1, 512, 2048]⟩
abbrev S256x2048 : Shape := ⟨2, ![256, 2048]⟩
abbrev S1 : Shape := ⟨1, ![1]⟩
abbrev S_ : Shape := ⟨0, ![]⟩
abbrev S512x2048 : Shape := ⟨2, ![512, 2048]⟩

abbrev nBuf : Space → Nat
  | .hbm => 49
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S256x2048, .f32⟩
  | .hbm, ⟨4, _⟩ => ⟨S256x2048, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x2048, .f32⟩
  | .hbm, ⟨14, _⟩ => ⟨S512x2048, .f32⟩
  | .hbm, ⟨15, _⟩ => ⟨S1x512x2048, .f32⟩
  | .hbm, ⟨16, _⟩ => ⟨S_, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S1x512x2048, .f32⟩
  | .hbm, ⟨23, _⟩ => ⟨S_, .f32⟩
  | .hbm, ⟨24, _⟩ => ⟨S1x512x2048, .f32⟩
  | .hbm, ⟨25, _⟩ => ⟨S1x512x2048, .f32⟩
  | .hbm, ⟨26, _⟩ => ⟨S1x512x2048, .f32⟩
  | .hbm, ⟨27, _⟩ => ⟨S_, .f32⟩
  | .hbm, ⟨28, _⟩ => ⟨S1x512x2048, .f32⟩
  | .hbm, ⟨29, _⟩ => ⟨S1x512x2048, .f32⟩
  | .hbm, ⟨30, _⟩ => ⟨S1x512x2048, .f32⟩
  | .hbm, ⟨31, _⟩ => ⟨S_, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S1x512x2048, .f32⟩
  | .hbm, ⟨38, _⟩ => ⟨S_, .f32⟩
  | .hbm, ⟨39, _⟩ => ⟨S1x512x2048, .f32⟩
  | .hbm, ⟨40, _⟩ => ⟨S1x512x2048, .f32⟩
  | .hbm, ⟨41, _⟩ => ⟨S1x512x2048, .f32⟩
  | .hbm, ⟨42, _⟩ => ⟨S_, .f32⟩
  | .hbm, ⟨43, _⟩ => ⟨S1x512x2048, .f32⟩
  | .hbm, ⟨44, _⟩ => ⟨S1x512x2048, .f32⟩
  | .hbm, ⟨45, _⟩ => ⟨S1x512x2048, .f32⟩
  | .hbm, ⟨46, _⟩ => ⟨S_, .f32⟩
  | .hbm, ⟨47, _⟩ => ⟨S1x512x2048, .f32⟩
  | .hbm, ⟨48, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== StepIn.lean ====
abbrev S1x512x1344 : Shape := ⟨3, ![1, 512, 1344]⟩
abbrev S256x1344 : Shape := ⟨2, ![256, 1344]⟩
abbrev S1 : Shape := ⟨1, ![1]⟩
abbrev S1x256x1344 : Shape := ⟨3, ![1, 256, 1344]⟩

abbrev nBuf : Space → Nat
  | .hbm => 9
  | .vmem => 18
  | .smem => 1
  | _ => 0

abbrev bufTy : (tb : Table) → Fin (tcTables nBuf tb) → BufTy
  | .hbm, ⟨0, _⟩ => ⟨S1x512x1344, .f32⟩
  | .hbm, ⟨1, _⟩ => ⟨S1x512x1344, .f32⟩
  | .hbm, ⟨2, _⟩ => ⟨S1x512x1344, .f32⟩
  | .hbm, ⟨3, _⟩ => ⟨S256x1344, .f32⟩
  | .hbm, ⟨4, _⟩ => ⟨S256x1344, .f32⟩
  | .hbm, ⟨5, _⟩ => ⟨S1x512x1344, .f32⟩
  | .hbm, ⟨6, _⟩ => ⟨S1x512x1344, .f32⟩
  | .hbm, ⟨7, _⟩ => ⟨S1x512x1344, .f32⟩
  | .hbm, ⟨8, _⟩ => ⟨S1x512x1344, .f32⟩
  | .local _ .vmem, ⟨0, _⟩ => ⟨S1x256x1344, .f32⟩
  | .local _ .vmem, ⟨1, _⟩ => ⟨S1x256x1344, .f32⟩
  | .local _ .vmem, ⟨2, _⟩ => ⟨S1x256x1344, .f32⟩
  | .local _ .vmem, ⟨3, _⟩ => ⟨S1x256x1344, .f32⟩
  | .local _ .vmem, ⟨4, _⟩ => ⟨S1x256x1344, .f32⟩
  | .local _ .vmem, ⟨5, _⟩ => ⟨S1x256x1344, .f32⟩
  | .local _ .vmem, ⟨6, _⟩ => ⟨S256x1344, .f32⟩
  | .local _ .vmem, ⟨7, _⟩ => ⟨S256x1344, .f32⟩
  | .local _ .vmem, ⟨8, _⟩ => ⟨S256x1344, .f32⟩
  | .local _ .vmem, ⟨9, _⟩ => ⟨S256x1344, .f32⟩
  | .local _ .vmem, ⟨10, _⟩ => ⟨S1x256x1344, .f32⟩
  | .local _ .vmem, ⟨11, _⟩ => ⟨S1x256x1344, .f32⟩
  | .local _ .vmem, ⟨12, _⟩ => ⟨S1x256x1344, .f32⟩
  | .local _ .vmem, ⟨13, _⟩ => ⟨S1x256x1344, .f32⟩
  | .local _ .vmem, ⟨14, _⟩ => ⟨S1x256x1344, .f32⟩
  | .local _ .vmem, ⟨15, _⟩ => ⟨S1x256x1344, .f32⟩
  | .local _ .vmem, ⟨16, _⟩ => ⟨S1x256x1344, .f32⟩
  | .local _ .vmem, ⟨17, _⟩ => ⟨S1x256x1344, .f32⟩
  | .local _ .smem, ⟨0, _⟩ => ⟨S1, .i32⟩
  | _, _ => ⟨S1x512x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1344 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1344 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepInIdeal.lean ====
abbrev S1x512x1344 : Shape := ⟨3, ![1, 512, 1344]⟩
abbrev S256x1344 : Shape := ⟨2, ![256, 1344]⟩
abbrev S1 : Shape := ⟨1, ![1]⟩
abbrev S1x256x1344 : Shape := ⟨3, ![1, 256, 1344]⟩

abbrev nBuf : Space → Nat
  | .hbm => 9
  | .vmem => 18
  | .smem => 1
  | _ => 0

abbrev bufTy : (tb : Table) → Fin (tcTables nBuf tb) → BufTy
  | .hbm, ⟨0, _⟩ => ⟨S1x512x1344, .f32⟩
  | .hbm, ⟨1, _⟩ => ⟨S1x512x1344, .f32⟩
  | .hbm, ⟨2, _⟩ => ⟨S1x512x1344, .f32⟩
  | .hbm, ⟨3, _⟩ => ⟨S256x1344, .f32⟩
  | .hbm, ⟨4, _⟩ => ⟨S256x1344, .f32⟩
  | .hbm, ⟨5, _⟩ => ⟨S1x512x1344, .f32⟩
  | .hbm, ⟨6, _⟩ => ⟨S1x512x1344, .f32⟩
  | .hbm, ⟨7, _⟩ => ⟨S1x512x1344, .f32⟩
  | .hbm, ⟨8, _⟩ => ⟨S1x512x1344, .f32⟩
  | .local _ .vmem, ⟨0, _⟩ => ⟨S1x256x1344, .f32⟩
  | .local _ .vmem, ⟨1, _⟩ => ⟨S1x256x1344, .f32⟩
  | .local _ .vmem, ⟨2, _⟩ => ⟨S1x256x1344, .f32⟩
  | .local _ .vmem, ⟨3, _⟩ => ⟨S1x256x1344, .f32⟩
  | .local _ .vmem, ⟨4, _⟩ => ⟨S1x256x1344, .f32⟩
  | .local _ .vmem, ⟨5, _⟩ => ⟨S1x256x1344, .f32⟩
  | .local _ .vmem, ⟨6, _⟩ => ⟨S256x1344, .f32⟩
  | .local _ .vmem, ⟨7, _⟩ => ⟨S256x1344, .f32⟩
  | .local _ .vmem, ⟨8, _⟩ => ⟨S256x1344, .f32⟩
  | .local _ .vmem, ⟨9, _⟩ => ⟨S256x1344, .f32⟩
  | .local _ .vmem, ⟨10, _⟩ => ⟨S1x256x1344, .f32⟩
  | .local _ .vmem, ⟨11, _⟩ => ⟨S1x256x1344, .f32⟩
  | .local _ .vmem, ⟨12, _⟩ => ⟨S1x256x1344, .f32⟩
  | .local _ .vmem, ⟨13, _⟩ => ⟨S1x256x1344, .f32⟩
  | .local _ .vmem, ⟨14, _⟩ => ⟨S1x256x1344, .f32⟩
  | .local _ .vmem, ⟨15, _⟩ => ⟨S1x256x1344, .f32⟩
  | .local _ .vmem, ⟨16, _⟩ => ⟨S1x256x1344, .f32⟩
  | .local _ .vmem, ⟨17, _⟩ => ⟨S1x256x1344, .f32⟩
  | .local _ .smem, ⟨0, _⟩ => ⟨S1, .i32⟩
  | _, _ => ⟨S1x512x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1344 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1344 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepInReferenceIdeal.lean ====
abbrev S1x512x1344 : Shape := ⟨3, ![1, 512, 1344]⟩
abbrev S256x1344 : Shape := ⟨2, ![256, 1344]⟩
abbrev S1 : Shape := ⟨1, ![1]⟩
abbrev S_ : Shape := ⟨0, ![]⟩
abbrev S512x1344 : Shape := ⟨2, ![512, 1344]⟩

abbrev nBuf : Space → Nat
  | .hbm => 49
  | .vmem => 0
  | .smem => 0
  | _ => 0

abbrev bufTy : (tb : Table) → Fin (tcTables nBuf tb) → BufTy
  | .hbm, ⟨0, _⟩ => ⟨S1x512x1344, .f32⟩
  | .hbm, ⟨1, _⟩ => ⟨S1x512x1344, .f32⟩
  | .hbm, ⟨2, _⟩ => ⟨S1x512x1344, .f32⟩
  | .hbm, ⟨3, _⟩ => ⟨S256x1344, .f32⟩
  | .hbm, ⟨4, _⟩ => ⟨S256x1344, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x1344, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x1344, .f32⟩
  | .hbm, ⟨14, _⟩ => ⟨S512x1344, .f32⟩
  | .hbm, ⟨15, _⟩ => ⟨S1x512x1344, .f32⟩
  | .hbm, ⟨16, _⟩ => ⟨S_, .f32⟩
  | .hbm, ⟨17, _⟩ => ⟨S1x512x1344, .f32⟩
  | .hbm, ⟨18, _⟩ => ⟨S1x512x1344, .f32⟩
  | .hbm, ⟨19, _⟩ => ⟨S_, .f32⟩
  | .hbm, ⟨20, _⟩ => ⟨S1x512x1344, .f32⟩
  | .hbm, ⟨21, _⟩ => ⟨S1x512x1344, .f32⟩
  | .hbm, ⟨22, _⟩ => ⟨S1x512x1344, .f32⟩
  | .hbm, ⟨23, _⟩ => ⟨S_, .f32⟩
  | .hbm, ⟨24, _⟩ => ⟨S1x512x1344, .f32⟩
  | .hbm, ⟨25, _⟩ => ⟨S1x512x1344, .f32⟩
  | .hbm, ⟨26, _⟩ => ⟨S1x512x1344, .f32⟩
  | .hbm, ⟨27, _⟩ => ⟨S_, .f32⟩
  | .hbm, ⟨28, _⟩ => ⟨S1x512x1344, .f32⟩
  | .hbm, ⟨29, _⟩ => ⟨S1x512x1344, .f32⟩
  | .hbm, ⟨30, _⟩ => ⟨S1x512x1344, .f32⟩
  | .hbm, ⟨31, _⟩ => ⟨S_, .f32⟩
  | .hbm, ⟨32, _⟩ => ⟨S1x512x1344, .f32⟩
  | .hbm, ⟨33, _⟩ => ⟨S1x512x1344, .f32⟩
  | .hbm, ⟨34, _⟩ => ⟨S_, .f32⟩
  | .hbm, ⟨35, _⟩ => ⟨S1x512x1344, .f32⟩
  | .hbm, ⟨36, _⟩ => ⟨S1x512x1344, .f32⟩
  | .hbm, ⟨37, _⟩ => ⟨S1x512x1344, .f32⟩
  | .hbm, ⟨38, _⟩ => ⟨S_, .f32⟩
  | .hbm, ⟨39, _⟩ => ⟨S1x512x1344, .f32⟩
  | .hbm, ⟨40, _⟩ => ⟨S1x512x1344, .f32⟩
  | .hbm, ⟨41, _⟩ => ⟨S1x512x1344, .f32⟩
  | .hbm, ⟨42, _⟩ => ⟨S_, .f32⟩
  | .hbm, ⟨43, _⟩ => ⟨S1x512x1344, .f32⟩
  | .hbm, ⟨44, _⟩ => ⟨S1x512x1344, .f32⟩
  | .hbm, ⟨45, _⟩ => ⟨S1x512x1344, .f32⟩
  | .hbm, ⟨46, _⟩ => ⟨S_, .f32⟩
  | .hbm, ⟨47, _⟩ => ⟨S1x512x1344, .f32⟩
  | .hbm, ⟨48, _⟩ => ⟨S1x512x1344, .f32⟩
  | _, _ => ⟨S1x512x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== StepUq.lean ====
abbrev S1x768x768 : Shape := ⟨3, ![1, 768, 768]⟩
abbrev S384x768 : Shape := ⟨2, ![384, 768]⟩
abbrev S1 : Shape := ⟨1, ![1]⟩
abbrev S1x192x768 : Shape := ⟨3, ![1, 192, 768]⟩
abbrev S192x768 : Shape := ⟨2, ![192, 768]⟩

abbrev nBuf : Space → Nat
  | .hbm => 9
  | .vmem => 18
  | .smem => 1
  | _ => 0

abbrev bufTy : (tb : Table) → Fin (tcTables nBuf tb) → BufTy
  | .hbm, ⟨0, _⟩ => ⟨S1x768x768, .f32⟩
  | .hbm, ⟨1, _⟩ => ⟨S1x768x768, .f32⟩
  | .hbm, ⟨2, _⟩ => ⟨S1x768x768, .f32⟩
  | .hbm, ⟨3, _⟩ => ⟨S384x768, .f32⟩
  | .hbm, ⟨4, _⟩ => ⟨S384x768, .f32⟩
  | .hbm, ⟨5, _⟩ => ⟨S1x768x768, .f32⟩
  | .hbm, ⟨6, _⟩ => ⟨S1x768x768, .f32⟩
  | .hbm, ⟨7, _⟩ => ⟨S1x768x768, .f32⟩
  | .hbm, ⟨8, _⟩ => ⟨S1x768x768, .f32⟩
  | .local _ .vmem, ⟨0, _⟩ => ⟨S1x192x768, .f32⟩
  | .local _ .vmem, ⟨1, _⟩ => ⟨S1x192x768, .f32⟩
  | .local _ .vmem, ⟨2, _⟩ => ⟨S1x192x768, .f32⟩
  | .local _ .vmem, ⟨3, _⟩ => ⟨S1x192x768, .f32⟩
  | .local _ .vmem, ⟨4, _⟩ => ⟨S1x192x768, .f32⟩
  | .local _ .vmem, ⟨5, _⟩ => ⟨S1x192x768, .f32⟩
  | .local _ .vmem, ⟨6, _⟩ => ⟨S192x768, .f32⟩
  | .local _ .vmem, ⟨7, _⟩ => ⟨S192x768, .f32⟩
  | .local _ .vmem, ⟨8, _⟩ => ⟨S192x768, .f32⟩
  | .local _ .vmem, ⟨9, _⟩ => ⟨S192x768, .f32⟩
  | .local _ .vmem, ⟨10, _⟩ => ⟨S1x192x768, .f32⟩
  | .local _ .vmem, ⟨11, _⟩ => ⟨S1x192x768, .f32⟩
  | .local _ .vmem, ⟨12, _⟩ => ⟨S1x192x768, .f32⟩
  | .local _ .vmem, ⟨13, _⟩ => ⟨S1x192x768, .f32⟩
  | .local _ .vmem, ⟨14, _⟩ => ⟨S1x192x768, .f32⟩
  | .local _ .vmem, ⟨15, _⟩ => ⟨S1x192x768, .f32⟩
  | .local _ .vmem, ⟨16, _⟩ => ⟨S1x192x768, .f32⟩
  | .local _ .vmem, ⟨17, _⟩ => ⟨S1x192x768, .f32⟩
  | .local _ .smem, ⟨0, _⟩ => ⟨S1, .i32⟩
  | _, _ => ⟨S1x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x192x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S192x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S192x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepUqIdeal.lean ====
abbrev S1x768x768 : Shape := ⟨3, ![1, 768, 768]⟩
abbrev S384x768 : Shape := ⟨2, ![384, 768]⟩
abbrev S1 : Shape := ⟨1, ![1]⟩
abbrev S1x192x768 : Shape := ⟨3, ![1, 192, 768]⟩
abbrev S192x768 : Shape := ⟨2, ![192, 768]⟩

abbrev nBuf : Space → Nat
  | .hbm => 9
  | .vmem => 18
  | .smem => 1
  | _ => 0

abbrev bufTy : (tb : Table) → Fin (tcTables nBuf tb) → BufTy
  | .hbm, ⟨0, _⟩ => ⟨S1x768x768, .f32⟩
  | .hbm, ⟨1, _⟩ => ⟨S1x768x768, .f32⟩
  | .hbm, ⟨2, _⟩ => ⟨S1x768x768, .f32⟩
  | .hbm, ⟨3, _⟩ => ⟨S384x768, .f32⟩
  | .hbm, ⟨4, _⟩ => ⟨S384x768, .f32⟩
  | .hbm, ⟨5, _⟩ => ⟨S1x768x768, .f32⟩
  | .hbm, ⟨6, _⟩ => ⟨S1x768x768, .f32⟩
  | .hbm, ⟨7, _⟩ => ⟨S1x768x768, .f32⟩
  | .hbm, ⟨8, _⟩ => ⟨S1x768x768, .f32⟩
  | .local _ .vmem, ⟨0, _⟩ => ⟨S1x192x768, .f32⟩
  | .local _ .vmem, ⟨1, _⟩ => ⟨S1x192x768, .f32⟩
  | .local _ .vmem, ⟨2, _⟩ => ⟨S1x192x768, .f32⟩
  | .local _ .vmem, ⟨3, _⟩ => ⟨S1x192x768, .f32⟩
  | .local _ .vmem, ⟨4, _⟩ => ⟨S1x192x768, .f32⟩
  | .local _ .vmem, ⟨5, _⟩ => ⟨S1x192x768, .f32⟩
  | .local _ .vmem, ⟨6, _⟩ => ⟨S192x768, .f32⟩
  | .local _ .vmem, ⟨7, _⟩ => ⟨S192x768, .f32⟩
  | .local _ .vmem, ⟨8, _⟩ => ⟨S192x768, .f32⟩
  | .local _ .vmem, ⟨9, _⟩ => ⟨S192x768, .f32⟩
  | .local _ .vmem, ⟨10, _⟩ => ⟨S1x192x768, .f32⟩
  | .local _ .vmem, ⟨11, _⟩ => ⟨S1x192x768, .f32⟩
  | .local _ .vmem, ⟨12, _⟩ => ⟨S1x192x768, .f32⟩
  | .local _ .vmem, ⟨13, _⟩ => ⟨S1x192x768, .f32⟩
  | .local _ .vmem, ⟨14, _⟩ => ⟨S1x192x768, .f32⟩
  | .local _ .vmem, ⟨15, _⟩ => ⟨S1x192x768, .f32⟩
  | .local _ .vmem, ⟨16, _⟩ => ⟨S1x192x768, .f32⟩
  | .local _ .vmem, ⟨17, _⟩ => ⟨S1x192x768, .f32⟩
  | .local _ .smem, ⟨0, _⟩ => ⟨S1, .i32⟩
  | _, _ => ⟨S1x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x192x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S192x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S192x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepUqReferenceIdeal.lean ====
abbrev S1x768x768 : Shape := ⟨3, ![1, 768, 768]⟩
abbrev S384x768 : Shape := ⟨2, ![384, 768]⟩
abbrev S1 : Shape := ⟨1, ![1]⟩
abbrev S_ : Shape := ⟨0, ![]⟩
abbrev S768x768 : Shape := ⟨2, ![768, 768]⟩

abbrev nBuf : Space → Nat
  | .hbm => 49
  | .vmem => 0
  | .smem => 0
  | _ => 0

abbrev bufTy : (tb : Table) → Fin (tcTables nBuf tb) → BufTy
  | .hbm, ⟨0, _⟩ => ⟨S1x768x768, .f32⟩
  | .hbm, ⟨1, _⟩ => ⟨S1x768x768, .f32⟩
  | .hbm, ⟨2, _⟩ => ⟨S1x768x768, .f32⟩
  | .hbm, ⟨3, _⟩ => ⟨S384x768, .f32⟩
  | .hbm, ⟨4, _⟩ => ⟨S384x768, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S384x768, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S384x768, .f32⟩
  | .hbm, ⟨14, _⟩ => ⟨S768x768, .f32⟩
  | .hbm, ⟨15, _⟩ => ⟨S1x768x768, .f32⟩
  | .hbm, ⟨16, _⟩ => ⟨S_, .f32⟩
  | .hbm, ⟨17, _⟩ => ⟨S1x768x768, .f32⟩
  | .hbm, ⟨18, _⟩ => ⟨S1x768x768, .f32⟩
  | .hbm, ⟨19, _⟩ => ⟨S_, .f32⟩
  | .hbm, ⟨20, _⟩ => ⟨S1x768x768, .f32⟩
  | .hbm, ⟨21, _⟩ => ⟨S1x768x768, .f32⟩
  | .hbm, ⟨22, _⟩ => ⟨S1x768x768, .f32⟩
  | .hbm, ⟨23, _⟩ => ⟨S_, .f32⟩
  | .hbm, ⟨24, _⟩ => ⟨S1x768x768, .f32⟩
  | .hbm, ⟨25, _⟩ => ⟨S1x768x768, .f32⟩
  | .hbm, ⟨26, _⟩ => ⟨S1x768x768, .f32⟩
  | .hbm, ⟨27, _⟩ => ⟨S_, .f32⟩
  | .hbm, ⟨28, _⟩ => ⟨S1x768x768, .f32⟩
  | .hbm, ⟨29, _⟩ => ⟨S1x768x768, .f32⟩
  | .hbm, ⟨30, _⟩ => ⟨S1x768x768, .f32⟩
  | .hbm, ⟨31, _⟩ => ⟨S_, .f32⟩
  | .hbm, ⟨32, _⟩ => ⟨S1x768x768, .f32⟩
  | .hbm, ⟨33, _⟩ => ⟨S1x768x768, .f32⟩
  | .hbm, ⟨34, _⟩ => ⟨S_, .f32⟩
  | .hbm, ⟨35, _⟩ => ⟨S1x768x768, .f32⟩
  | .hbm, ⟨36, _⟩ => ⟨S1x768x768, .f32⟩
  | .hbm, ⟨37, _⟩ => ⟨S1x768x768, .f32⟩
  | .hbm, ⟨38, _⟩ => ⟨S_, .f32⟩
  | .hbm, ⟨39, _⟩ => ⟨S1x768x768, .f32⟩
  | .hbm, ⟨40, _⟩ => ⟨S1x768x768, .f32⟩
  | .hbm, ⟨41, _⟩ => ⟨S1x768x768, .f32⟩
  | .hbm, ⟨42, _⟩ => ⟨S_, .f32⟩
  | .hbm, ⟨43, _⟩ => ⟨S1x768x768, .f32⟩
  | .hbm, ⟨44, _⟩ => ⟨S1x768x768, .f32⟩
  | .hbm, ⟨45, _⟩ => ⟨S1x768x768, .f32⟩
  | .hbm, ⟨46, _⟩ => ⟨S_, .f32⟩
  | .hbm, ⟨47, _⟩ => ⟨S1x768x768, .f32⟩
  | .hbm, ⟨48, _⟩ => ⟨S1x768x768, .f32⟩
  | _, _ => ⟨S1x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== StepUkv.lean ====
abbrev S1x512x1024 : Shape := ⟨3, ![1, 512, 1024]⟩
abbrev S256x1024 : Shape := ⟨2, ![256, 1024]⟩
abbrev S1 : Shape := ⟨1, ![1]⟩
abbrev S1x256x1024 : Shape := ⟨3, ![1, 256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S256x1024, .f32⟩
  | .hbm, ⟨4, _⟩ => ⟨S256x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepUkvIdeal.lean ====
abbrev S1x512x1024 : Shape := ⟨3, ![1, 512, 1024]⟩
abbrev S256x1024 : Shape := ⟨2, ![256, 1024]⟩
abbrev S1 : Shape := ⟨1, ![1]⟩
abbrev S1x256x1024 : Shape := ⟨3, ![1, 256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S256x1024, .f32⟩
  | .hbm, ⟨4, _⟩ => ⟨S256x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepUkvReferenceIdeal.lean ====
abbrev S1x512x1024 : Shape := ⟨3, ![1, 512, 1024]⟩
abbrev S256x1024 : Shape := ⟨2, ![256, 1024]⟩
abbrev S1 : Shape := ⟨1, ![1]⟩
abbrev S_ : Shape := ⟨0, ![]⟩
abbrev S512x1024 : Shape := ⟨2, ![512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S256x1024, .f32⟩
  | .hbm, ⟨4, _⟩ => ⟨S256x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x1024, .f32⟩
  | .hbm, ⟨14, _⟩ => ⟨S512x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | .hbm, ⟨41, _⟩ => ⟨S1x512x1024, .f32⟩
  | .hbm, ⟨42, _⟩ => ⟨S_, .f32⟩
  | .hbm, ⟨43, _⟩ => ⟨S1x512x1024, .f32⟩
  | .hbm, ⟨44, _⟩ => ⟨S1x512x1024, .f32⟩
  | .hbm, ⟨45, _⟩ => ⟨S1x512x1024, .f32⟩
  | .hbm, ⟨46, _⟩ => ⟨S_, .f32⟩
  | .hbm, ⟨47, _⟩ => ⟨S1x512x1024, .f32⟩
  | .hbm, ⟨48, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== StepFox.lean ====
abbrev S1x2048x1540 : Shape := ⟨3, ![1, 2048, 1540]⟩
abbrev S1024x1540 : Shape := ⟨2, ![1024, 1540]⟩
abbrev S1 : Shape := ⟨1, ![1]⟩
abbrev S1x256x1540 : Shape := ⟨3, ![1, 256, 1540]⟩
abbrev S256x1540 : Shape := ⟨2, ![256, 1540]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1024x1540, .f32⟩
  | .hbm, ⟨4, _⟩ => ⟨S1024x1540, .f32⟩
  | .hbm, ⟨5, _⟩ => ⟨S1x2048x1540, .f32⟩
  | .hbm, ⟨6, _⟩ => ⟨S1x2048x1540, .f32⟩
  | .hbm, ⟨7, _⟩ => ⟨S1x2048x1540, .f32⟩
  | .hbm, ⟨8, _⟩ => ⟨S1x2048x1540, .f32⟩
  | .local _ .vmem, ⟨0, _⟩ => ⟨S1x256x1540, .f32⟩
  | .local _ .vmem, ⟨1, _⟩ => ⟨S1x256x1540, .f32⟩
  | .local _ .vmem, ⟨2, _⟩ => ⟨S1x256x1540, .f32⟩
  | .local _ .vmem, ⟨3, _⟩ => ⟨S1x256x1540, .f32⟩
  | .local _ .vmem, ⟨4, _⟩ => ⟨S1x256x1540, .f32⟩
  | .local _ .vmem, ⟨5, _⟩ => ⟨S1x256x1540, .f32⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S1x256x1540, .f32⟩
  | .local _ .vmem, ⟨11, _⟩ => ⟨S1x256x1540, .f32⟩
  | .local _ .vmem, ⟨12, _⟩ => ⟨S1x256x1540, .f32⟩
  | .local _ .vmem, ⟨13, _⟩ => ⟨S1x256x1540, .f32⟩
  | .local _ .vmem, ⟨14, _⟩ => ⟨S1x256x1540, .f32⟩
  | .local _ .vmem, ⟨15, _⟩ => ⟨S1x256x1540, .f32⟩
  | .local _ .vmem, ⟨16, _⟩ => ⟨S1x256x1540, .f32⟩
  | .local _ .vmem, ⟨17, _⟩ => ⟨S1x256x1540, .f32⟩
  | .local _ .smem, ⟨0, _⟩ => ⟨S1, .i32⟩
  | _, _ => ⟨S1x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1540 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1540 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepFoxReferenceIdeal.lean ====
abbrev S1x2048x1540 : Shape := ⟨3, ![1, 2048, 1540]⟩
abbrev S1024x1540 : Shape := ⟨2, ![1024, 1540]⟩
abbrev S1 : Shape := ⟨1, ![1]⟩
abbrev S_ : Shape := ⟨0, ![]⟩
abbrev S2048x1540 : Shape := ⟨2, ![2048, 1540]⟩

abbrev nBuf : Space → Nat
  | .hbm => 49
  | .vmem => 0
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1024x1540, .f32⟩
  | .hbm, ⟨4, _⟩ => ⟨S1024x1540, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x1540, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x1540, .f32⟩
  | .hbm, ⟨14, _⟩ => ⟨S2048x1540, .f32⟩
  | .hbm, ⟨15, _⟩ => ⟨S1x2048x1540, .f32⟩
  | .hbm, ⟨16, _⟩ => ⟨S_, .f32⟩
  | .hbm, ⟨17, _⟩ => ⟨S1x2048x1540, .f32⟩
  | .hbm, ⟨18, _⟩ => ⟨S1x2048x1540, .f32⟩
  | .hbm, ⟨19, _⟩ => ⟨S_, .f32⟩
  | .hbm, ⟨20, _⟩ => ⟨S1x2048x1540, .f32⟩
  | .hbm, ⟨21, _⟩ => ⟨S1x2048x1540, .f32⟩
  | .hbm, ⟨22, _⟩ => ⟨S1x2048x1540, .f32⟩
  | .hbm, ⟨23, _⟩ => ⟨S_, .f32⟩
  | .hbm, ⟨24, _⟩ => ⟨S1x2048x1540, .f32⟩
  | .hbm, ⟨25, _⟩ => ⟨S1x2048x1540, .f32⟩
  | .hbm, ⟨26, _⟩ => ⟨S1x2048x1540, .f32⟩
  | .hbm, ⟨27, _⟩ => ⟨S_, .f32⟩
  | .hbm, ⟨28, _⟩ => ⟨S1x2048x1540, .f32⟩
  | .hbm, ⟨29, _⟩ => ⟨S1x2048x1540, .f32⟩
  | .hbm, ⟨30, _⟩ => ⟨S1x2048x1540, .f32⟩
  | .hbm, ⟨31, _⟩ => ⟨S_, .f32⟩
  | .hbm, ⟨32, _⟩ => ⟨S1x2048x1540, .f32⟩
  | .hbm, ⟨33, _⟩ => ⟨S1x2048x1540, .f32⟩
  | .hbm, ⟨34, _⟩ => ⟨S_, .f32⟩
  | .hbm, ⟨35, _⟩ => ⟨S1x2048x1540, .f32⟩
  | .hbm, ⟨36, _⟩ => ⟨S1x2048x1540, .f32⟩
  | .hbm, ⟨37, _⟩ => ⟨S1x2048x1540, .f32⟩
  | .hbm, ⟨38, _⟩ => ⟨S_, .f32⟩
  | .hbm, ⟨39, _⟩ => ⟨S1x2048x1540, .f32⟩
  | .hbm, ⟨40, _⟩ => ⟨S1x2048x1540, .f32⟩
  | .hbm, ⟨41, _⟩ => ⟨S1x2048x1540, .f32⟩
  | .hbm, ⟨42, _⟩ => ⟨S_, .f32⟩
  | .hbm, ⟨43, _⟩ => ⟨S1x2048x1540, .f32⟩
  | .hbm, ⟨44, _⟩ => ⟨S1x2048x1540, .f32⟩
  | .hbm, ⟨45, _⟩ => ⟨S1x2048x1540, .f32⟩
  | .hbm, ⟨46, _⟩ => ⟨S_, .f32⟩
  | .hbm, ⟨47, _⟩ => ⟨S1x2048x1540, .f32⟩
  | .hbm, ⟨48, _⟩ => ⟨S1x2048x1540, .f32⟩
  | _, _ => ⟨S1x2048x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== StepSbInLast.lean ====
abbrev S2x2048x1536 : Shape := ⟨3, ![2, 2048, 1536]⟩
abbrev S1024x1536 : Shape := ⟨2, ![1024, 1536]⟩
abbrev S1 : Shape := ⟨1, ![1]⟩
abbrev S1x256x1536 : Shape := ⟨3, ![1, 256, 1536]⟩
abbrev S256x1536 : Shape := ⟨2, ![256, 1536]⟩
abbrev S1x2048x1536 : Shape := ⟨3, ![1, 2048, 1536]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S1024x1536, .f32⟩
  | .hbm, ⟨4, _⟩ => ⟨S1024x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .hbm, ⟨9, _⟩ => ⟨S1x2048x1536, .f32⟩
  | .hbm, ⟨10, _⟩ => ⟨S1x2048x1536, .f32⟩
  | .hbm, ⟨11, _⟩ => ⟨S1x2048x1536, .f32⟩
  | .hbm, ⟨12, _⟩ => ⟨S1x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | .local _ .smem, ⟨0, _⟩ => ⟨S1, .i32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepSbInLastIdeal.lean ====
abbrev S2x2048x1536 : Shape := ⟨3, ![2, 2048, 1536]⟩
abbrev S1024x1536 : Shape := ⟨2, ![1024, 1536]⟩
abbrev S1 : Shape := ⟨1, ![1]⟩
abbrev S1x256x1536 : Shape := ⟨3, ![1, 256, 1536]⟩
abbrev S256x1536 : Shape := ⟨2, ![256, 1536]⟩
abbrev S1x2048x1536 : Shape := ⟨3, ![1, 2048, 1536]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S1024x1536, .f32⟩
  | .hbm, ⟨4, _⟩ => ⟨S1024x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .hbm, ⟨9, _⟩ => ⟨S1x2048x1536, .f32⟩
  | .hbm, ⟨10, _⟩ => ⟨S1x2048x1536, .f32⟩
  | .hbm, ⟨11, _⟩ => ⟨S1x2048x1536, .f32⟩
  | .hbm, ⟨12, _⟩ => ⟨S1x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | .local _ .smem, ⟨0, _⟩ => ⟨S1, .i32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepSbInLastReferenceIdeal.lean ====
abbrev S2x2048x1536 : Shape := ⟨3, ![2, 2048, 1536]⟩
abbrev S1024x1536 : Shape := ⟨2, ![1024, 1536]⟩
abbrev S1 : Shape := ⟨1, ![1]⟩
abbrev S_ : Shape := ⟨0, ![]⟩
abbrev S2048x1536 : Shape := ⟨2, ![2048, 1536]⟩
abbrev S1x2048x1536 : Shape := ⟨3, ![1, 2048, 1536]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S1024x1536, .f32⟩
  | .hbm, ⟨4, _⟩ => ⟨S1024x1536, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x1536, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x1536, .f32⟩
  | .hbm, ⟨14, _⟩ => ⟨S2048x1536, .f32⟩
  | .hbm, ⟨15, _⟩ => ⟨S2x2048x1536, .f32⟩
  | .hbm, ⟨16, _⟩ => ⟨S_, .f32⟩
  | .hbm, ⟨17, _⟩ => ⟨S2x2048x1536, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S2x2048x1536, .f32⟩
  | .hbm, ⟨23, _⟩ => ⟨S_, .f32⟩
  | .hbm, ⟨24, _⟩ => ⟨S2x2048x1536, .f32⟩
  | .hbm, ⟨25, _⟩ => ⟨S2x2048x1536, .f32⟩
  | .hbm, ⟨26, _⟩ => ⟨S2x2048x1536, .f32⟩
  | .hbm, ⟨27, _⟩ => ⟨S_, .f32⟩
  | .hbm, ⟨28, _⟩ => ⟨S2x2048x1536, .f32⟩
  | .hbm, ⟨29, _⟩ => ⟨S2x2048x1536, .f32⟩
  | .hbm, ⟨30, _⟩ => ⟨S2x2048x1536, .f32⟩
  | .hbm, ⟨31, _⟩ => ⟨S_, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | .hbm, ⟨37, _⟩ => ⟨S2x2048x1536, .f32⟩
  | .hbm, ⟨38, _⟩ => ⟨S_, .f32⟩
  | .hbm, ⟨39, _⟩ => ⟨S2x2048x1536, .f32⟩
  | .hbm, ⟨40, _⟩ => ⟨S2x2048x1536, .f32⟩
  | .hbm, ⟨41, _⟩ => ⟨S2x2048x1536, .f32⟩
  | .hbm, ⟨42, _⟩ => ⟨S_, .f32⟩
  | .hbm, ⟨43, _⟩ => ⟨S2x2048x1536, .f32⟩
  | .hbm, ⟨44, _⟩ => ⟨S2x2048x1536, .f32⟩
  | .hbm, ⟨45, _⟩ => ⟨S2x2048x1536, .f32⟩
  | .hbm, ⟨46, _⟩ => ⟨S_, .f32⟩
  | .hbm, ⟨47, _⟩ => ⟨S2x2048x1536, .f32⟩
  | .hbm, ⟨48, _⟩ => ⟨S2x2048x1536, .f32⟩
  | .hbm, ⟨49, _⟩ => ⟨S1x2048x1536, .f32⟩
  | .hbm, ⟨50, _⟩ => ⟨S1x2048x1536, .f32⟩
  | .hbm, ⟨51, _⟩ => ⟨S1x2048x1536, .f32⟩
  | .hbm, ⟨52, _⟩ => ⟨S1x2048x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== StepSbInFirst.lean ====
abbrev S2x2048x1536 : Shape := ⟨3, ![2, 2048, 1536]⟩
abbrev S1024x1536 : Shape := ⟨2, ![1024, 1536]⟩
abbrev S1 : Shape := ⟨1, ![1]⟩
abbrev S1x256x1536 : Shape := ⟨3, ![1, 256, 1536]⟩
abbrev S256x1536 : Shape := ⟨2, ![256, 1536]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S1024x1536, .f32⟩
  | .hbm, ⟨4, _⟩ => ⟨S1024x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S2x2048x1536, .f32⟩
  | .hbm, ⟨12, _⟩ => ⟨S2x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | .local _ .smem, ⟨0, _⟩ => ⟨S1, .i32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepSbInFirstIdeal.lean ====
abbrev S2x2048x1536 : Shape := ⟨3, ![2, 2048, 1536]⟩
abbrev S1024x1536 : Shape := ⟨2, ![1024, 1536]⟩
abbrev S1 : Shape := ⟨1, ![1]⟩
abbrev S1x256x1536 : Shape := ⟨3, ![1, 256, 1536]⟩
abbrev S256x1536 : Shape := ⟨2, ![256, 1536]⟩

abbrev nBuf : Space → Nat
  | .hbm => 13
  | .vmem => 18
  | .smem => 1
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S1024x1536, .f32⟩
  | .hbm, ⟨4, _⟩ => ⟨S1024x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S2x2048x1536, .f32⟩
  | .hbm, ⟨12, _⟩ => ⟨S2x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | .local _ .smem, ⟨0, _⟩ => ⟨S1, .i32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepSbInFirstReferenceIdeal.lean ====
abbrev S2x2048x1536 : Shape := ⟨3, ![2, 2048, 1536]⟩
abbrev S1024x1536 : Shape := ⟨2, ![1024, 1536]⟩
abbrev S1 : Shape := ⟨1, ![1]⟩
abbrev S_ : Shape := ⟨0, ![]⟩
abbrev S2048x1536 : Shape := ⟨2, ![2048, 1536]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S1024x1536, .f32⟩
  | .hbm, ⟨4, _⟩ => ⟨S1024x1536, .f32⟩
  | .hbm, ⟨5, _⟩ => ⟨S1, .i32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .hbm, ⟨9, _⟩ => ⟨S2x2048x1536, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x1536, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1024x1536, .f32⟩
  | .hbm, ⟨18, _⟩ => ⟨S2048x1536, .f32⟩
  | .hbm, ⟨19, _⟩ => ⟨S2x2048x1536, .f32⟩
  | .hbm, ⟨20, _⟩ => ⟨S_, .f32⟩
  | .hbm, ⟨21, _⟩ => ⟨S2x2048x1536, .f32⟩
  | .hbm, ⟨22, _⟩ => ⟨S2x2048x1536, .f32⟩
  | .hbm, ⟨23, _⟩ => ⟨S_, .f32⟩
  | .hbm, ⟨24, _⟩ => ⟨S2x2048x1536, .f32⟩
  | .hbm, ⟨25, _⟩ => ⟨S2x2048x1536, .f32⟩
  | .hbm, ⟨26, _⟩ => ⟨S2x2048x1536, .f32⟩
  | .hbm, ⟨27, _⟩ => ⟨S_, .f32⟩
  | .hbm, ⟨28, _⟩ => ⟨S2x2048x1536, .f32⟩
  | .hbm, ⟨29, _⟩ => ⟨S2x2048x1536, .f32⟩
  | .hbm, ⟨30, _⟩ => ⟨S2x2048x1536, .f32⟩
  | .hbm, ⟨31, _⟩ => ⟨S_, .f32⟩
  | .hbm, ⟨32, _⟩ => ⟨S2x2048x1536, .f32⟩
  | .hbm, ⟨33, _⟩ => ⟨S2x2048x1536, .f32⟩
  | .hbm, ⟨34, _⟩ => ⟨S2x2048x1536, .f32⟩
  | .hbm, ⟨35, _⟩ => ⟨S_, .f32⟩
  | .hbm, ⟨36, _⟩ => ⟨S2x2048x1536, .f32⟩
  | .hbm, ⟨37, _⟩ => ⟨S2x2048x1536, .f32⟩
  | .hbm, ⟨38, _⟩ => ⟨S_, .f32⟩
  | .hbm, ⟨39, _⟩ => ⟨S2x2048x1536, .f32⟩
  | .hbm, ⟨40, _⟩ => ⟨S2x2048x1536, .f32⟩
  | .hbm, ⟨41, _⟩ => ⟨S2x2048x1536, .f32⟩
  | .hbm, ⟨42, _⟩ => ⟨S_, .f32⟩
  | .hbm, ⟨43, _⟩ => ⟨S2x2048x1536, .f32⟩
  | .hbm, ⟨44, _⟩ => ⟨S2x2048x1536, .f32⟩
  | .hbm, ⟨45, _⟩ => ⟨S2x2048x1536, .f32⟩
  | .hbm, ⟨46, _⟩ => ⟨S_, .f32⟩
  | .hbm, ⟨47, _⟩ => ⟨S2x2048x1536, .f32⟩
  | .hbm, ⟨48, _⟩ => ⟨S2x2048x1536, .f32⟩
  | .hbm, ⟨49, _⟩ => ⟨S2x2048x1536, .f32⟩
  | .hbm, ⟨50, _⟩ => ⟨S_, .f32⟩
  | .hbm, ⟨51, _⟩ => ⟨S2x2048x1536, .f32⟩
  | .hbm, ⟨52, _⟩ => ⟨S2x2048x1536, .f32⟩
  | .hbm, ⟨53, _⟩ => ⟨S2x2048x1536, .i32⟩
  | .hbm, ⟨54, _⟩ => ⟨S_, .i32⟩
  | .hbm, ⟨55, _⟩ => ⟨S2x2048x1536, .i32⟩
  | .hbm, ⟨56, _⟩ => ⟨S2x2048x1536, .i1⟩
  | .hbm, ⟨57, _⟩ => ⟨S2x2048x1536, .f32⟩
  | .hbm, ⟨58, _⟩ => ⟨S2x2048x1536, .f32⟩
  | .hbm, ⟨59, _⟩ => ⟨S2x2048x1536, .f32⟩
  | .hbm, ⟨60, _⟩ => ⟨S2x2048x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== StepSbOutLast.lean ====
abbrev S2x512x2048 : Shape := ⟨3, ![2, 512, 2048]⟩
abbrev S256x2048 : Shape := ⟨2, ![256, 2048]⟩
abbrev S1 : Shape := ⟨1, ![1]⟩
abbrev S1x256x2048 : Shape := ⟨3, ![1, 256, 2048]⟩
abbrev S1x512x2048 : Shape := ⟨3, ![1, 512, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S256x2048, .f32⟩
  | .hbm, ⟨4, _⟩ => ⟨S256x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S1x512x2048, .f32⟩
  | .hbm, ⟨10, _⟩ => ⟨S1x512x2048, .f32⟩
  | .hbm, ⟨11, _⟩ => ⟨S1x512x2048, .f32⟩
  | .hbm, ⟨12, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepSbOutLastIdeal.lean ====
abbrev S2x512x2048 : Shape := ⟨3, ![2, 512, 2048]⟩
abbrev S256x2048 : Shape := ⟨2, ![256, 2048]⟩
abbrev S1 : Shape := ⟨1, ![1]⟩
abbrev S1x256x2048 : Shape := ⟨3, ![1, 256, 2048]⟩
abbrev S1x512x2048 : Shape := ⟨3, ![1, 512, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S256x2048, .f32⟩
  | .hbm, ⟨4, _⟩ => ⟨S256x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S1x512x2048, .f32⟩
  | .hbm, ⟨10, _⟩ => ⟨S1x512x2048, .f32⟩
  | .hbm, ⟨11, _⟩ => ⟨S1x512x2048, .f32⟩
  | .hbm, ⟨12, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepSbOutLastReferenceIdeal.lean ====
abbrev S2x512x2048 : Shape := ⟨3, ![2, 512, 2048]⟩
abbrev S256x2048 : Shape := ⟨2, ![256, 2048]⟩
abbrev S1 : Shape := ⟨1, ![1]⟩
abbrev S_ : Shape := ⟨0, ![]⟩
abbrev S512x2048 : Shape := ⟨2, ![512, 2048]⟩
abbrev S1x512x2048 : Shape := ⟨3, ![1, 512, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S256x2048, .f32⟩
  | .hbm, ⟨4, _⟩ => ⟨S256x2048, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x2048, .f32⟩
  | .hbm, ⟨14, _⟩ => ⟨S512x2048, .f32⟩
  | .hbm, ⟨15, _⟩ => ⟨S2x512x2048, .f32⟩
  | .hbm, ⟨16, _⟩ => ⟨S_, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S2x512x2048, .f32⟩
  | .hbm, ⟨23, _⟩ => ⟨S_, .f32⟩
  | .hbm, ⟨24, _⟩ => ⟨S2x512x2048, .f32⟩
  | .hbm, ⟨25, _⟩ => ⟨S2x512x2048, .f32⟩
  | .hbm, ⟨26, _⟩ => ⟨S2x512x2048, .f32⟩
  | .hbm, ⟨27, _⟩ => ⟨S_, .f32⟩
  | .hbm, ⟨28, _⟩ => ⟨S2x512x2048, .f32⟩
  | .hbm, ⟨29, _⟩ => ⟨S2x512x2048, .f32⟩
  | .hbm, ⟨30, _⟩ => ⟨S2x512x2048, .f32⟩
  | .hbm, ⟨31, _⟩ => ⟨S_, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S2x512x2048, .f32⟩
  | .hbm, ⟨38, _⟩ => ⟨S_, .f32⟩
  | .hbm, ⟨39, _⟩ => ⟨S2x512x2048, .f32⟩
  | .hbm, ⟨40, _⟩ => ⟨S2x512x2048, .f32⟩
  | .hbm, ⟨41, _⟩ => ⟨S2x512x2048, .f32⟩
  | .hbm, ⟨42, _⟩ => ⟨S_, .f32⟩
  | .hbm, ⟨43, _⟩ => ⟨S2x512x2048, .f32⟩
  | .hbm, ⟨44, _⟩ => ⟨S2x512x2048, .f32⟩
  | .hbm, ⟨45, _⟩ => ⟨S2x512x2048, .f32⟩
  | .hbm, ⟨46, _⟩ => ⟨S_, .f32⟩
  | .hbm, ⟨47, _⟩ => ⟨S2x512x2048, .f32⟩
  | .hbm, ⟨48, _⟩ => ⟨S2x512x2048, .f32⟩
  | .hbm, ⟨49, _⟩ => ⟨S1x512x2048, .f32⟩
  | .hbm, ⟨50, _⟩ => ⟨S1x512x2048, .f32⟩
  | .hbm, ⟨51, _⟩ => ⟨S1x512x2048, .f32⟩
  | .hbm, ⟨52, _⟩ => ⟨S1x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== StepSbOutFirst.lean ====
abbrev S2x512x2048 : Shape := ⟨3, ![2, 512, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S256x2048, .f32⟩
  | .hbm, ⟨4, _⟩ => ⟨S256x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .hbm, ⟨12, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepSbOutFirstIdeal.lean ====
abbrev S2x512x2048 : Shape := ⟨3, ![2, 512, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S256x2048, .f32⟩
  | .hbm, ⟨4, _⟩ => ⟨S256x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .hbm, ⟨12, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepSbOutFirstReferenceIdeal.lean ====
abbrev S2x512x2048 : Shape := ⟨3, ![2, 512, 2048]⟩
abbrev S256x2048 : Shape := ⟨2, ![256, 2048]⟩
abbrev S1 : Shape := ⟨1, ![1]⟩
abbrev S_ : Shape := ⟨0, ![]⟩
abbrev S512x2048 : Shape := ⟨2, ![512, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S256x2048, .f32⟩
  | .hbm, ⟨4, _⟩ => ⟨S256x2048, .f32⟩
  | .hbm, ⟨5, _⟩ => ⟨S1, .i32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x2048, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S256x2048, .f32⟩
  | .hbm, ⟨18, _⟩ => ⟨S512x2048, .f32⟩
  | .hbm, ⟨19, _⟩ => ⟨S2x512x2048, .f32⟩
  | .hbm, ⟨20, _⟩ => ⟨S_, .f32⟩
  | .hbm, ⟨21, _⟩ => ⟨S2x512x2048, .f32⟩
  | .hbm, ⟨22, _⟩ => ⟨S2x512x2048, .f32⟩
  | .hbm, ⟨23, _⟩ => ⟨S_, .f32⟩
  | .hbm, ⟨24, _⟩ => ⟨S2x512x2048, .f32⟩
  | .hbm, ⟨25, _⟩ => ⟨S2x512x2048, .f32⟩
  | .hbm, ⟨26, _⟩ => ⟨S2x512x2048, .f32⟩
  | .hbm, ⟨27, _⟩ => ⟨S_, .f32⟩
  | .hbm, ⟨28, _⟩ => ⟨S2x512x2048, .f32⟩
  | .hbm, ⟨29, _⟩ => ⟨S2x512x2048, .f32⟩
  | .hbm, ⟨30, _⟩ => ⟨S2x512x2048, .f32⟩
  | .hbm, ⟨31, _⟩ => ⟨S_, .f32⟩
  | .hbm, ⟨32, _⟩ => ⟨S2x512x2048, .f32⟩
  | .hbm, ⟨33, _⟩ => ⟨S2x512x2048, .f32⟩
  | .hbm, ⟨34, _⟩ => ⟨S2x512x2048, .f32⟩
  | .hbm, ⟨35, _⟩ => ⟨S_, .f32⟩
  | .hbm, ⟨36, _⟩ => ⟨S2x512x2048, .f32⟩
  | .hbm, ⟨37, _⟩ => ⟨S2x512x2048, .f32⟩
  | .hbm, ⟨38, _⟩ => ⟨S_, .f32⟩
  | .hbm, ⟨39, _⟩ => ⟨S2x512x2048, .f32⟩
  | .hbm, ⟨40, _⟩ => ⟨S2x512x2048, .f32⟩
  | .hbm, ⟨41, _⟩ => ⟨S2x512x2048, .f32⟩
  | .hbm, ⟨42, _⟩ => ⟨S_, .f32⟩
  | .hbm, ⟨43, _⟩ => ⟨S2x512x2048, .f32⟩
  | .hbm, ⟨44, _⟩ => ⟨S2x512x2048, .f32⟩
  | .hbm, ⟨45, _⟩ => ⟨S2x512x2048, .f32⟩
  | .hbm, ⟨46, _⟩ => ⟨S_, .f32⟩
  | .hbm, ⟨47, _⟩ => ⟨S2x512x2048, .f32⟩
  | .hbm, ⟨48, _⟩ => ⟨S2x512x2048, .f32⟩
  | .hbm, ⟨49, _⟩ => ⟨S2x512x2048, .f32⟩
  | .hbm, ⟨50, _⟩ => ⟨S_, .f32⟩
  | .hbm, ⟨51, _⟩ => ⟨S2x512x2048, .f32⟩
  | .hbm, ⟨52, _⟩ => ⟨S2x512x2048, .f32⟩
  | .hbm, ⟨53, _⟩ => ⟨S2x512x2048, .i32⟩
  | .hbm, ⟨54, _⟩ => ⟨S_, .i32⟩
  | .hbm, ⟨55, _⟩ => ⟨S2x512x2048, .i32⟩
  | .hbm, ⟨56, _⟩ => ⟨S2x512x2048, .i1⟩
  | .hbm, ⟨57, _⟩ => ⟨S2x512x2048, .f32⟩
  | .hbm, ⟨58, _⟩ => ⟨S2x512x2048, .f32⟩
  | .hbm, ⟨59, _⟩ => ⟨S2x512x2048, .f32⟩
  | .hbm, ⟨60, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== StepMlpLast.lean ====
abbrev S4x2048x2048 : Shape := ⟨3, ![4, 2048, 2048]⟩
abbrev S1024x2048 : Shape := ⟨2, ![1024, 2048]⟩
abbrev S1 : Shape := ⟨1, ![1]⟩
abbrev S1x256x2048 : Shape := ⟨3, ![1, 256, 2048]⟩
abbrev S256x2048 : Shape := ⟨2, ![256, 2048]⟩
abbrev S1x2048x2048 : Shape := ⟨3, ![1, 2048, 2048]⟩

abbrev nBuf : Space → Nat
  | .hbm => 13
  | .vmem => 18
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepMlpLastReferenceIdeal.lean ====
abbrev S4x2048x2048 : Shape := ⟨3, ![4, 2048, 2048]⟩
abbrev S1024x2048 : Shape := ⟨2, ![1024, 2048]⟩
abbrev S1 : Shape := ⟨1, ![1]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x2048, .f32⟩
  | .hbm, ⟨14, _⟩ => ⟨S2048x2048, .f32⟩
  | .hbm, ⟨15, _⟩ => ⟨S4x2048x2048, .f32⟩
  | .hbm, ⟨16, _⟩ => ⟨S_, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S1x2048x2048, .f32⟩
  | .hbm, ⟨50, _⟩ => ⟨S1x2048x2048, .f32⟩
  | .hbm, ⟨51, _⟩ => ⟨S1x2048x2048, .f32⟩
  | .hbm, ⟨52, _⟩ => ⟨S1x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== StepMlpThird.lean ====
abbrev S4x2048x2048 : Shape := ⟨3, ![4, 2048, 2048]⟩
abbrev S1024x2048 : Shape := ⟨2, ![1024, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 13
  | .vmem => 18
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepMlpThirdIdeal.lean ====
abbrev S4x2048x2048 : Shape := ⟨3, ![4, 2048, 2048]⟩
abbrev S1024x2048 : Shape := ⟨2, ![1024, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 13
  | .vmem => 18
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepMlpThirdReferenceIdeal.lean ====
abbrev S4x2048x2048 : Shape := ⟨3, ![4, 2048, 2048]⟩
abbrev S1024x2048 : Shape := ⟨2, ![1024, 2048]⟩
abbrev S1 : Shape := ⟨1, ![1]⟩
abbrev S_ : Shape := ⟨0, ![]⟩
abbrev S2048x2048 : Shape := ⟨2, ![2048, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S1, .i32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x2048, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1024x2048, .f32⟩
  | .hbm, ⟨18, _⟩ => ⟨S2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S_, .f32⟩
  | .hbm, ⟨51, _⟩ => ⟨S4x2048x2048, .f32⟩
  | .hbm, ⟨52, _⟩ => ⟨S4x2048x2048, .f32⟩
  | .hbm, ⟨53, _⟩ => ⟨S4x2048x2048, .i32⟩
  | .hbm, ⟨54, _⟩ => ⟨S_, .i32⟩
  | .hbm, ⟨55, _⟩ => ⟨S4x2048x2048, .i32⟩
  | .hbm, ⟨56, _⟩ => ⟨S4x2048x2048, .i1⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== StepMlpSecond.lean ====
abbrev S4x2048x2048 : Shape := ⟨3, ![4, 2048, 2048]⟩
abbrev S1024x2048 : Shape := ⟨2, ![1024, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 13
  | .vmem => 18
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepMlpSecondIdeal.lean ====
abbrev S4x2048x2048 : Shape := ⟨3, ![4, 2048, 2048]⟩
abbrev S1024x2048 : Shape := ⟨2, ![1024, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 13
  | .vmem => 18
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepMlpSecondReferenceIdeal.lean ====
abbrev S4x2048x2048 : Shape := ⟨3, ![4, 2048, 2048]⟩
abbrev S1024x2048 : Shape := ⟨2, ![1024, 2048]⟩
abbrev S1 : Shape := ⟨1, ![1]⟩
abbrev S_ : Shape := ⟨0, ![]⟩
abbrev S2048x2048 : Shape := ⟨2, ![2048, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S1, .i32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x2048, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1024x2048, .f32⟩
  | .hbm, ⟨18, _⟩ => ⟨S2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S_, .f32⟩
  | .hbm, ⟨51, _⟩ => ⟨S4x2048x2048, .f32⟩
  | .hbm, ⟨52, _⟩ => ⟨S4x2048x2048, .f32⟩
  | .hbm, ⟨53, _⟩ => ⟨S4x2048x2048, .i32⟩
  | .hbm, ⟨54, _⟩ => ⟨S_, .i32⟩
  | .hbm, ⟨55, _⟩ => ⟨S4x2048x2048, .i32⟩
  | .hbm, ⟨56, _⟩ => ⟨S4x2048x2048, .i1⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== StepMlpFirst.lean ====
abbrev S4x2048x2048 : Shape := ⟨3, ![4, 2048, 2048]⟩
abbrev S1024x2048 : Shape := ⟨2, ![1024, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 13
  | .vmem => 18
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepMlpFirstReferenceIdeal.lean ====
abbrev S4x2048x2048 : Shape := ⟨3, ![4, 2048, 2048]⟩
abbrev S1024x2048 : Shape := ⟨2, ![1024, 2048]⟩
abbrev S1 : Shape := ⟨1, ![1]⟩
abbrev S_ : Shape := ⟨0, ![]⟩
abbrev S2048x2048 : Shape := ⟨2, ![2048, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S1, .i32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x2048, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1024x2048, .f32⟩
  | .hbm, ⟨18, _⟩ => ⟨S2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S_, .f32⟩
  | .hbm, ⟨51, _⟩ => ⟨S4x2048x2048, .f32⟩
  | .hbm, ⟨52, _⟩ => ⟨S4x2048x2048, .f32⟩
  | .hbm, ⟨53, _⟩ => ⟨S4x2048x2048, .i32⟩
  | .hbm, ⟨54, _⟩ => ⟨S_, .i32⟩
  | .hbm, ⟨55, _⟩ => ⟨S4x2048x2048, .i32⟩
  | .hbm, ⟨56, _⟩ => ⟨S4x2048x2048, .i1⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.Body.lean ====
/-
  The body of the stick-breaking gradient, one grid point: its outer loop over the four blocks of 512 query rows (the
  inner loop over the key blocks is the generated instance), then the whole body from its staging buffers to what it
  leaves there.
-/
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## One trip of the outer loop -/

/-- What a trip holds: the five inputs at their contents, the result's rows and the two accumulators at any. -/
abbrev Trip (c : Dev nD) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (f9 : BufTy.Contents (Elt F) arg9.view.ty) (f10 : BufTy.Contents (Elt F) arg10.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10))

/-- One trip at a symbolic `k`, run once: the pieces it writes into the result's rows and into the accumulators, as
    functions of what the trip finds in the accumulators. -/
@[irreducible] def trip (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 : IVec S512x256 32) (v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    Σ' (L6 : BufTy.Contents (Elt F) arg9.view.ty → BufTy.Contents (Elt F) arg10.view.ty → List (View.Piece (Elt F) S2048x128 .bf16)) (L9 : BufTy.Contents (Elt F) arg9.view.ty → BufTy.Contents (Elt F) arg10.view.ty → List (View.Piece (Elt F) S2048x128 .f32)), { L10 : BufTy.Contents (Elt F) arg9.view.ty → BufTy.Contents (Elt F) arg10.view.ty → List (View.Piece (Elt F) S2048x128 .f32) //
      ∀ (f6 : BufTy.Contents (Elt F) arg6.view.ty) (f9 : BufTy.Contents (Elt F) arg9.view.ty) (f10 : BufTy.Contents (Elt F) arg10.view.ty),
        Trip (F := F) c arg1 harg1 arg2 harg2 arg3 harg3 arg4 harg4 arg5 harg5 arg6 harg6 arg7 harg7 arg8 harg8 arg9 harg9 arg10 harg10 X1 X2 X3 X4 X5 f6 f9 f10
        ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 v22 v23 k ())
            (fun _ => Trip (F := F) c arg1 harg1 arg2 harg2 arg3 harg3 arg4 harg4 arg5 harg5 arg6 harg6 arg7 harg7 arg8 harg8 arg9 harg9 arg10 harg10 X1 X2 X3 X4 X5 (arg6.view.writes (Elt F) f6 (L6 f9 f10))
              (arg9.view.writes (Elt F) f9 (L9 f9 f10)) (arg10.view.writes (Elt F) f10 (L10 f9 f10))) } := by
  refine ⟨?_, ?_, ?_, fun f6 f9 f10 => ?run⟩
  case run =>
    unfold k0_t1_body
    iintro ⟨H1, H2, H3, H4, H5, H6, H9, H10⟩
    sl_exec
    sl_step
    sl_close

/-! ## The outer loop by its invariant -/

/-- What trip `k` adds to the pieces of the trips before it (`prev`). -/
@[irreducible] def stStep (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 : IVec S512x256 32) (v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G9 : BufTy.Contents (Elt F) arg9.view.ty) (G10 : BufTy.Contents (Elt F) arg10.view.ty) (k : ℕ) (prev : List (View.Piece (Elt F) S2048x128 .bf16) × List (View.Piece (Elt F) S2048x128 .f32) × List (View.Piece (Elt F) S2048x128 .f32)) : List (View.Piece (Elt F) S2048x128 .bf16) × List (View.Piece (Elt F) S2048x128 .f32) × List (View.Piece (Elt F) S2048x128 .f32) :=
  if h : k < k0_t1_loop.trips then
    ((trip (F := F) c i arg1 harg1 arg2 harg2 arg3 harg3 arg4 harg4 arg5 harg5 arg6 harg6 arg7 harg7 arg8 harg8 arg9 harg9 arg10 harg10 v22 v23 X1 X2 X3 X4 X5 ⟨k, h⟩).1 (arg9.view.writes (Elt F) G9 prev.2.1) (arg10.view.writes (Elt F) G10 prev.2.2) ++ prev.1,
     (trip (F := F) c i arg1 harg1 arg2 harg2 arg3 harg3 arg4 harg4 arg5 harg5 arg6 harg6 arg7 harg7 arg8 harg8 arg9 harg9 arg10 harg10 v22 v23 X1 X2 X3 X4 X5 ⟨k, h⟩).2.1 (arg9.view.writes (Elt F) G9 prev.2.1) (arg10.view.writes (Elt F) G10 prev.2.2) ++ prev.2.1,
     (trip (F := F) c i arg1 harg1 arg2 harg2 arg3 harg3 arg4 harg4 arg5 harg5 arg6 harg6 arg7 harg7 arg8 harg8 arg9 harg9 arg10 harg10 v22 v23 X1 X2 X3 X4 X5 ⟨k, h⟩).2.2.1 (arg9.view.writes (Elt F) G9 prev.2.1) (arg10.view.writes (Elt F) G10 prev.2.2) ++ prev.2.2)
  else prev

/-- The pieces written before trip `k` (last first): the result's rows and the two accumulators. -/
def st (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 : IVec S512x256 32) (v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G9 : BufTy.Contents (Elt F) arg9.view.ty) (G10 : BufTy.Contents (Elt F) arg10.view.ty) : ℕ → List (View.Piece (Elt F) S2048x128 .bf16) × List (View.Piece (Elt F) S2048x128 .f32) × List (View.Piece (Elt F) S2048x128 .f32)
  | 0 => ([], [], [])
  | k + 1 => stStep (F := F) c i arg1 harg1 arg2 harg2 arg3 harg3 arg4 harg4 arg5 harg5 arg6 harg6 arg7 harg7 arg8 harg8 arg9 harg9 arg10 harg10 v22 v23 X1 X2 X3 X4 X5 G9 G10 k (st c i arg1 harg1 arg2 harg2 arg3 harg3 arg4 harg4 arg5 harg5 arg6 harg6 arg7 harg7 arg8 harg8 arg9 harg9 arg10 harg10 v22 v23 X1 X2 X3 X4 X5 G9 G10 k)

theorem st_succ (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 : IVec S512x256 32) (v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G9 : BufTy.Contents (Elt F) arg9.view.ty) (G10 : BufTy.Contents (Elt F) arg10.view.ty) (k : Fin k0_t1_loop.trips) :
    st (F := F) c i arg1 harg1 arg2 harg2 arg3 harg3 arg4 harg4 arg5 harg5 arg6 harg6 arg7 harg7 arg8 harg8 arg9 harg9 arg10 harg10 v22 v23 X1 X2 X3 X4 X5 G9 G10 (k.val + 1)
      = ((trip (F := F) c i arg1 harg1 arg2 harg2 arg3 harg3 arg4 harg4 arg5 harg5 arg6 harg6 arg7 harg7 arg8 harg8 arg9 harg9 arg10 harg10 v22 v23 X1 X2 X3 X4 X5 k).1 (arg9.view.writes (Elt F) G9 (st c i arg1 harg1 arg2 harg2 arg3 harg3 arg4 harg4 arg5 harg5 arg6 harg6 arg7 harg7 arg8 harg8 arg9 harg9 arg10 harg10 v22 v23 X1 X2 X3 X4 X5 G9 G10 k.val).2.1) (arg10.view.writes (Elt F) G10 (st c i arg1 harg1 arg2 harg2 arg3 harg3 arg4 harg4 arg5 harg5 arg6 harg6 arg7 harg7 arg8 harg8 arg9 harg9 arg10 harg10 v22 v23 X1 X2 X3 X4 X5 G9 G10 k.val).2.2) ++ (st c i arg1 harg1 arg2 harg2 arg3 harg3 arg4 harg4 arg5 harg5 arg6 harg6 arg7 harg7 arg8 harg8 arg9 harg9 arg10 harg10 v22 v23 X1 X2 X3 X4 X5 G9 G10 k.val).1,
         (trip (F := F) c i arg1 harg1 arg2 harg2 arg3 harg3 arg4 harg4 arg5 harg5 arg6 harg6 arg7 harg7 arg8 harg8 arg9 harg9 arg10 harg10 v22 v23 X1 X2 X3 X4 X5 k).2.1 (arg9.view.writes (Elt F) G9 (st c i arg1 harg1 arg2 harg2 arg3 harg3 arg4 harg4 arg5 harg5 arg6 harg6 arg7 harg7 arg8 harg8 arg9 harg9 arg10 harg10 v22 v23 X1 X2 X3 X4 X5 G9 G10 k.val).2.1) (arg10.view.writes (Elt F) G10 (st c i arg1 harg1 arg2 harg2 arg3 harg3 arg4 harg4 arg5 harg5 arg6 harg6 arg7 harg7 arg8 harg8 arg9 harg9 arg10 harg10 v22 v23 X1 X2 X3 X4 X5 G9 G10 k.val).2.2) ++ (st c i arg1 harg1 arg2 harg2 arg3 harg3 arg4 harg4 arg5 harg5 arg6 harg6 arg7 harg7 arg8 harg8 arg9 harg9 arg10 harg10 v22 v23 X1 X2 X3 X4 X5 G9 G10 k.val).2.1,
         (trip (F := F) c i arg1 harg1 arg2 harg2 arg3 harg3 arg4 harg4 arg5 harg5 arg6 harg6 arg7 harg7 arg8 harg8 arg9 harg9 arg10 harg10 v22 v23 X1 X2 X3 X4 X5 k).2.2.1 (arg9.view.writes (Elt F) G9 (st c i arg1 harg1 arg2 harg2 arg3 harg3 arg4 harg4 arg5 harg5 arg6 harg6 arg7 harg7 arg8 harg8 arg9 harg9 arg10 harg10 v22 v23 X1 X2 X3 X4 X5 G9 G10 k.val).2.1) (arg10.view.writes (Elt F) G10 (st c i arg1 harg1 arg2 harg2 arg3 harg3 arg4 harg4 arg5 harg5 arg6 harg6 arg7 harg7 arg8 harg8 arg9 harg9 arg10 harg10 v22 v23 X1 X2 X3 X4 X5 G9 G10 k.val).2.2) ++ (st c i arg1 harg1 arg2 harg2 arg3 harg3 arg4 harg4 arg5 harg5 arg6 harg6 arg7 harg7 arg8 harg8 arg9 harg9 arg10 harg10 v22 v23 X1 X2 X3 X4 X5 G9 G10 k.val).2.2) := by
  rw [st.eq_2]; unfold stStep; exact dif_pos k.isLt

set_option warn.classDefReducibility false in
/-- The loop by its invariant: the pieces of the trips before `k` written over what the buffers held at its entry. -/
@[sl_loop] def loopInv_k0_t1 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 : IVec S512x256 32) (v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G9 : BufTy.Contents (Elt F) arg9.view.ty) (G10 : BufTy.Contents (Elt F) arg10.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 v22 v23 where
  inv := fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
    ∗ (∃ f, (arg6.view.loc (c : Thread nD τ) ↦[arg6.view.set]{fullShare} f) ∗ ⌜f = arg6.view.writes (Elt F) G6 (st (F := F) c i arg1 harg1 arg2 harg2 arg3 harg3 arg4 harg4 arg5 harg5 arg6 harg6 arg7 harg7 arg8 harg8 arg9 harg9 arg10 harg10 v22 v23 X1 X2 X3 X4 X5 G9 G10 k).1⌝)
    ∗ (∃ f, (arg9.view.loc (c : Thread nD τ) ↦[arg9.view.set]{fullShare} f) ∗ ⌜f = arg9.view.writes (Elt F) G9 (st (F := F) c i arg1 harg1 arg2 harg2 arg3 harg3 arg4 harg4 arg5 harg5 arg6 harg6 arg7 harg7 arg8 harg8 arg9 harg9 arg10 harg10 v22 v23 X1 X2 X3 X4 X5 G9 G10 k).2.1⌝)
    ∗ (∃ f, (arg10.view.loc (c : Thread nD τ) ↦[arg10.view.set]{fullShare} f) ∗ ⌜f = arg10.view.writes (Elt F) G10 (st (F := F) c i arg1 harg1 arg2 harg2 arg3 harg3 arg4 harg4 arg5 harg5 arg6 harg6 arg7 harg7 arg8 harg8 arg9 harg9 arg10 harg10 v22 v23 X1 X2 X3 X4 X5 G9 G10 k).2.2⌝))
  step k acc := by
    iintro ⟨H1, H2, H3, H4, H5, ⟨%f6, H6, %h6⟩, ⟨%f9, H9, %h9⟩, ⟨%f10, H10, %h10⟩⟩
    iapply (wp_wand_r Idealize.ShloMosaic.frame (wpE (defs₀ (F := F)) Variants.none (c : Thread nD τ) none) Set.univ)
    isplitl [H1 H2 H3 H4 H5 H6 H9 H10]
    · iapply ((trip (F := F) c i arg1 harg1 arg2 harg2 arg3 harg3 arg4 harg4 arg5 harg5 arg6 harg6 arg7 harg7 arg8 harg8 arg9 harg9 arg10 harg10 v22 v23 X1 X2 X3 X4 X5 k).2.2.2 f6 f9 f10)
      isplitl [H1]; · iexact H1
      isplitl [H2]; · iexact H2
      isplitl [H3]; · iexact H3
      isplitl [H4]; · iexact H4
      isplitl [H5]; · iexact H5
      isplitl [H6]; · iexact H6
      isplitl [H9]; · iexact H9
      iexact H10
    · iintro %yld ⟨H1, H2, H3, H4, H5, H6, H9, H10⟩
      isplitl [H1]; · iexact H1
      isplitl [H2]; · iexact H2
      isplitl [H3]; · iexact H3
      isplitl [H4]; · iexact H4
      isplitl [H5]; · iexact H5
      simp only [st_succ]
      isplitl [H6]
      · iexists _; isplitl [H6]; · iexact H6
        ipureintro; rw [h6, h9, h10, ← View.writes_append]
      isplitl [H9]
      · iexists _; isplitl [H9]; · iexact H9
        ipureintro; rw [h9, h10, ← View.writes_append]
      iexists _; isplitl [H10]; · iexact H10
      ipureintro; rw [h9, h10, ← View.writes_append]

/-! ## The body -/

/-- The body from the five inputs, the three results' buffers at anything and the two accumulators at anything: what it
    writes into the results, found by the run. -/
def bodyRun (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) :
    Σ' (L6 : List (View.Piece (Elt F) S2048x128 .bf16)) (L7 : List (View.Piece (Elt F) S2048x128 .bf16)), { L8 : List (View.Piece (Elt F) S2048x128 .bf16) //
      ∀ (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (K : PUnit → sProp 𝕄),
        iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
          ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
          ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
            ∗ (arg6.view.loc (c : Thread nD τ) ↦[arg6.view.set]{fullShare} arg6.view.writes (Elt F) f6 L6) ∗ (∃ f, (arg7.view.loc (c : Thread nD τ) ↦[arg7.view.set]{fullShare} arg7.view.writes (Elt F) f L7)) ∗ (∃ f, (arg8.view.loc (c : Thread nD τ) ↦[arg8.view.set]{fullShare} arg8.view.writes (Elt F) f L8))
            ∗ (∃ f, (arg9.view.loc (c : Thread nD τ) ↦[arg9.view.set]{fullShare} f)) ∗ (∃ f, (arg10.view.loc (c : Thread nD τ) ↦[arg10.view.set]{fullShare} f))) -∗ K ⟨⟩))
        ⊢ wp frame (wpE (defs₀ (F := F)) Variants.none (c : Thread nD τ) none) Set.univ (cc0_sb_attn_bwd (F := F) i arg1 harg1 arg2 harg2 arg3 harg3 arg4 harg4 arg5 harg5 arg6 harg6 arg7 harg7 arg8 harg8 arg9 harg9 arg10 harg10) K } := by
  refine ⟨?_, ?_, ?_, fun f6 f7 f8 f9 f10 K => ?run⟩
  case run =>
    simp only [cc0_sb_attn_bwd_eq_skeleton]; unfold cc0_sb_attn_bwd_skel
    iintro ⟨H1, H2, H3, H4, H5, H6, H7, H8, H9, H10, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10

/-- What the body writes. -/
abbrev L6 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) : List (View.Piece (Elt F) S2048x128 .bf16) := (bodyRun (F := F) c i arg1 harg1 arg2 harg2 arg3 harg3 arg4 harg4 arg5 harg5 arg6 harg6 arg7 harg7 arg8 harg8 arg9 harg9 arg10 harg10 X1 X2 X3 X4 X5).1
abbrev L7 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) : List (View.Piece (Elt F) S2048x128 .bf16) := (bodyRun (F := F) c i arg1 harg1 arg2 harg2 arg3 harg3 arg4 harg4 arg5 harg5 arg6 harg6 arg7 harg7 arg8 harg8 arg9 harg9 arg10 harg10 X1 X2 X3 X4 X5).2.1
abbrev L8 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) : List (View.Piece (Elt F) S2048x128 .bf16) := (bodyRun (F := F) c i arg1 harg1 arg2 harg2 arg3 harg3 arg4 harg4 arg5 harg5 arg6 harg6 arg7 harg7 arg8 harg8 arg9 harg9 arg10 harg10 X1 X2 X3 X4 X5).2.2.1

end Cert.KernelIdeal.Hand
end
-- ==== Proof.Model.lean ====
/-
  What the body computes, as functions of the five blocks it reads and with no buffer in sight: one trip of the inner
  loop, the inner loop, one trip of the outer loop, the outer loop, and the three blocks the body leaves.
-/
module

public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A block of 2048 rows and 128 columns. -/
abbrev Blk (F : FTy → Type) (e : EltTy) : Type := Vec F S2048x128 e
/-- What the inner loop carries: the next scores and their cotangents, the two running sums, the gradient of the queries. -/
abbrev Car (F : FTy → Type) : Type := FVec F S512x256 .f32 × FVec F S512x256 .f32 × FVec F S512x1 .f32 × FVec F S512x1 .f32 × FVec F S512x128 .f32

/-- The number of key blocks of 256 a block of query rows looks at. -/
abbrev nkb (k : Fin k0_t1_loop.trips) : BitVec 32 := BitVec.ofNat 32 (2 * (k.val + 1))

/-- The 512 rows of an operand the outer trip `k` reads. -/
def rowsP {e : EltTy} (x : Blk F e) (k : Fin k0_t1_loop.trips) : Vec F S512x128 e := VecWindow.window x (k0_off1 k) S512x128.size (k0_off1_inb k)
/-- The last key block of the outer trip `k`. -/
def lastP {e : EltTy} (x : Blk F e) (k : Fin k0_t1_loop.trips) : Vec F S256x128 e := VecWindow.window x (k0_off2 k) S256x128.size (k0_off2_inb k)
/-- The key block the inner trip `n` fetches ahead. -/
def nextP {e : EltTy} (x : Blk F e) (k : Fin k0_t1_loop.trips) (n : Fin (k0_t2_loop k).trips) : Vec F S256x128 e := VecWindow.window x (k0_off3 k n) S256x128.size (k0_off3_inb k n)
/-- The key block of the inner trip `n`. -/
def curP {e : EltTy} (x : Blk F e) (k : Fin k0_t1_loop.trips) (n : Fin (k0_t2_loop k).trips) : Vec F S256x128 e := VecWindow.window x (k0_off4 k n) S256x128.size (k0_off4_inb k n)

/-- The row sums of the cotangent times the result. -/
def dtotP (o : Blk F .f32) (d : Blk F .bf16) (k : Fin k0_t1_loop.trips) : FVec F S512x1 .f32 := k0_pay47 (rowsP d k) (rowsP o k)
/-- What the inner loop starts with. -/
def initP (q kk v d : Blk F .bf16) (k : Fin k0_t1_loop.trips) : Car F :=
  (k0_pay5 (rowsP q k) (lastP kk k), k0_pay6 (rowsP d k) (lastP v k), k0_pay49 (F := F), k0_pay49 (F := F), k0_pay7 (F := F))

variable (v22 v23 : IVec S512x256 32)

/-- The mask of strictly earlier keys. -/
abbrev maskP (k : Fin k0_t1_loop.trips) (n : Fin (k0_t2_loop k).trips) : IVec S512x256 1 := k0_pay21 v23 k (k0_pay48 v22 0#32 1#32 k) (nkb k) 0#32 1#32 n
/-- The masked logarithms of what is kept, and the two parts they are added up in. -/
abbrev logP (k : Fin k0_t1_loop.trips) (n : Fin (k0_t2_loop k).trips) (z : FVec F S512x256 .f32) : FVec F S512x256 .f32 := k0_pay24 v23 k (k0_pay48 v22 0#32 1#32 k) (nkb k) 0#32 1#32 n z
abbrev hiP (k : Fin k0_t1_loop.trips) (n : Fin (k0_t2_loop k).trips) (z : FVec F S512x256 .f32) : FVec F S512x256 .bf16 := k0_pay25 v23 k (k0_pay48 v22 0#32 1#32 k) (nkb k) 0#32 1#32 n z
abbrev loP (k : Fin k0_t1_loop.trips) (n : Fin (k0_t2_loop k).trips) (z : FVec F S512x256 .f32) : FVec F S512x256 .bf16 := k0_pay27 v23 k (k0_pay48 v22 0#32 1#32 k) (nkb k) 0#32 1#32 n z
/-- The weights' cotangents times the weights. -/
abbrev dlP (k : Fin k0_t1_loop.trips) (n : Fin (k0_t2_loop k).trips) (a : Car F) : FVec F S512x256 .f32 :=
  k0_pay30 (k0_pay3 (F := F)) a.2.1 a.2.2.1 (maskP v22 v23 k n) (k0_pay23 a.1) (hiP v22 v23 k n a.1) (loP v22 v23 k n a.1)
/-- The scores' cotangents. -/
abbrev dzP (o : Blk F .f32) (d : Blk F .bf16) (k : Fin k0_t1_loop.trips) (n : Fin (k0_t2_loop k).trips) (a : Car F) : FVec F S512x256 .bf16 :=
  k0_pay31 (k0_pay3 (F := F)) (k0_pay4 (F := F)) (dtotP o d k) a.2.1 a.2.2.1 a.2.2.2.1 (maskP v22 v23 k n) (k0_pay22 a.1) (k0_pay23 a.1) (hiP v22 v23 k n a.1) (loP v22 v23 k n a.1)

/-- What an inner trip carries on. -/
def carP (q kk v : Blk F .bf16) (o : Blk F .f32) (d : Blk F .bf16) (k : Fin k0_t1_loop.trips) (n : Fin (k0_t2_loop k).trips) (a : Car F) : Car F :=
  (k0_pay19 (rowsP q k) (nextP kk k n), k0_pay20 (rowsP d k) (nextP v k n), k0_pay9 a.2.2.1 (logP v22 v23 k n a.1), k0_pay10 a.2.2.2.1 (dlP v22 v23 k n a),
    k0_pay11 a.2.2.2.2 (curP kk k n) (dzP v22 v23 o d k n a))
/-- What an inner trip leaves of the keys' gradient. -/
def dkP (q : Blk F .bf16) (o : Blk F .f32) (d : Blk F .bf16) (k : Fin k0_t1_loop.trips) (n : Fin (k0_t2_loop k).trips) (a : Car F) (g : Blk F .f32) : Blk F .f32 :=
  VecWindow.put g (k0_off4 k n) S256x128.size (k0_pay8 (rowsP q k) (dzP v22 v23 o d k n a) (curP g k n))
/-- What an inner trip leaves of the values' gradient. -/
def dvP (d : Blk F .bf16) (k : Fin k0_t1_loop.trips) (n : Fin (k0_t2_loop k).trips) (a : Car F) (g : Blk F .f32) : Blk F .f32 :=
  VecWindow.put g (k0_off4 k n) S256x128.size (k0_pay32 (k0_pay3 (F := F)) (rowsP d k) a.2.2.1 (maskP v22 v23 k n) (k0_pay23 a.1) (hiP v22 v23 k n a.1) (loP v22 v23 k n a.1) (curP g k n))

/-- The inner loop before its trip `n`: what it carries and the two accumulators. -/
def innerP (q kk v : Blk F .bf16) (o : Blk F .f32) (d : Blk F .bf16) (k : Fin k0_t1_loop.trips) (gk gv : Blk F .f32) : ℕ → Car F × Blk F .f32 × Blk F .f32
  | 0 => (initP q kk v d k, gk, gv)
  | n + 1 =>
    if h : n < (k0_t2_loop k).trips then
      (carP v22 v23 q kk v o d k ⟨n, h⟩ (innerP q kk v o d k gk gv n).1,
        dkP v22 v23 q o d k ⟨n, h⟩ (innerP q kk v o d k gk gv n).1 (innerP q kk v o d k gk gv n).2.1,
        dvP v22 v23 d k ⟨n, h⟩ (innerP q kk v o d k gk gv n).1 (innerP q kk v o d k gk gv n).2.2)
    else innerP q kk v o d k gk gv n

/-- The outer loop before its trip `k`: the queries' gradient and the two accumulators. -/
def outerP (q kk v : Blk F .bf16) (o : Blk F .f32) (d : Blk F .bf16) (g : Blk F .bf16) (gk gv : Blk F .f32) : ℕ → Blk F .bf16 × Blk F .f32 × Blk F .f32
  | 0 => (g, gk, gv)
  | k + 1 =>
    if h : k < k0_t1_loop.trips then
      (VecWindow.put (outerP q kk v o d g gk gv k).1 (k0_off1 ⟨k, h⟩) S512x128.size
          (k0_pay16 (innerP v22 v23 q kk v o d ⟨k, h⟩ (outerP q kk v o d g gk gv k).2.1 (outerP q kk v o d g gk gv k).2.2 (2 * (k + 1))).1.2.2.2.2),
        (innerP v22 v23 q kk v o d ⟨k, h⟩ (outerP q kk v o d g gk gv k).2.1 (outerP q kk v o d g gk gv k).2.2 (2 * (k + 1))).2.1,
        (innerP v22 v23 q kk v o d ⟨k, h⟩ (outerP q kk v o d g gk gv k).2.1 (outerP q kk v o d g gk gv k).2.2 (2 * (k + 1))).2.2)
    else outerP q kk v o d g gk gv k

end Cert.KernelIdeal.Hand
end
-- ==== Proof.Pieces.lean ====
/-
  The pieces one trip of the outer loop writes, and the pieces the body writes, stated over the inner loop's state.
-/
module

public import proofs.«01_k».proof.Proof.Body
public import proofs.«01_k».proof.Proof.Model

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Trip counts -/

theorem trips1 : k0_t1_loop.trips = 4 := by decide +kernel
theorem trips2 : ∀ k : Fin k0_t1_loop.trips, (k0_t2_loop k).trips = 2 * (k.val + 1) := by decide +kernel
theorem trips3 : ∀ k : Fin k0_t1_loop.trips, (k0_t3_loop k).trips = 0 := by decide +kernel

/-! ## The pieces of one trip -/

/-- A block of 512 rows of an operand. -/
abbrev qrow (arg : Memref sig .tc .vmem S2048x128 .bf16) (X : BufTy.Contents (Elt F) arg.view.ty) (k : Fin k0_t1_loop.trips) : Vec F S512x128 .bf16 :=
  View.readAt (Elt F) arg.view (Rect.unit (s := S2048x128) (k0_off1 k) S512x128.size (k0_off1_inb k)).toLoadRect X
/-- The row sums of the cotangent times the result. -/
abbrev dtot (arg4 : Memref sig .tc .vmem S2048x128 .f32) (arg5 : Memref sig .tc .vmem S2048x128 .bf16) (X4 : BufTy.Contents (Elt F) arg4.view.ty) (X5 : BufTy.Contents (Elt F) arg5.view.ty) (k : Fin k0_t1_loop.trips) : FVec F S512x1 .f32 :=
  k0_pay47 (qrow (F := F) arg5 X5 k) (View.readAt (Elt F) arg4.view (Rect.unit (s := S2048x128) (k0_off1 k) S512x128.size (k0_off1_inb k)).toLoadRect X4)
/-- What the inner loop starts with. -/
abbrev init (arg1 : Memref sig .tc .vmem S2048x128 .bf16) (arg2 : Memref sig .tc .vmem S2048x128 .bf16) (arg3 : Memref sig .tc .vmem S2048x128 .bf16) (arg5 : Memref sig .tc .vmem S2048x128 .bf16) (X1 : BufTy.Contents (Elt F) arg1.view.ty) (X2 : BufTy.Contents (Elt F) arg2.view.ty) (X3 : BufTy.Contents (Elt F) arg3.view.ty) (X5 : BufTy.Contents (Elt F) arg5.view.ty) (k : Fin k0_t1_loop.trips) : FVec F S512x256 .f32 × FVec F S512x256 .f32 × FVec F S512x1 .f32 × FVec F S512x1 .f32 × FVec F S512x128 .f32 :=
  (k0_pay5 (qrow (F := F) arg1 X1 k) (View.readAt (Elt F) arg2.view (Rect.unit (s := S2048x128) (k0_off2 k) S256x128.size (k0_off2_inb k)).toLoadRect X2),
   k0_pay6 (qrow (F := F) arg5 X5 k) (View.readAt (Elt F) arg3.view (Rect.unit (s := S2048x128) (k0_off2 k) S256x128.size (k0_off2_inb k)).toLoadRect X3),
   k0_pay49 (F := F), k0_pay49 (F := F), k0_pay7 (F := F))

/-- The inner loop's state before its trip `n`. -/
abbrev inner (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 : IVec S512x256 32) (v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (G9 : BufTy.Contents (Elt F) arg9.view.ty) (G10 : BufTy.Contents (Elt F) arg10.view.ty) (n : ℕ) :=
  st_k0_t2 (F := F) Variants.none c none i arg1 harg1 arg2 harg2 arg3 harg3 arg4 harg4 arg5 harg5 arg6 harg6 arg7 harg7 arg8 harg8 arg9 harg9 arg10 harg10 v23 k (qrow (F := F) arg1 X1 k) (qrow (F := F) arg5 X5 k) (dtot (F := F) arg4 arg5 X4 X5 k) (k0_pay48 v22 0#32 1#32 k) (nkb k) X2 X3 G9 G10 (init (F := F) arg1 arg2 arg3 arg5 X1 X2 X3 X5 k) n

theorem nkb_eq : ∀ k : Fin k0_t1_loop.trips,
    Scalar.select (Scalar.andi (Scalar.cmpi CmpIPredicate.ne (Scalar.subi (Scalar.extui (Scalar.cmpi CmpIPredicate.sgt (Scalar.subi (Scalar.addi (Scalar.muli (Scalar.addi (Scf.iv 0#32 1#32 k) 1#32) 512#32) 256#32) 1#32) 0#32)) (Scalar.extui (Scalar.cmpi CmpIPredicate.slt (Scalar.subi (Scalar.addi (Scalar.muli (Scalar.addi (Scf.iv 0#32 1#32 k) 1#32) 512#32) 256#32) 1#32) 0#32))) (Scalar.subi (Scalar.extui (Scalar.cmpi CmpIPredicate.sgt 256#32 0#32)) (Scalar.extui (Scalar.cmpi CmpIPredicate.slt 256#32 0#32)))) (Scalar.cmpi CmpIPredicate.ne (Scalar.remsi (Scalar.subi (Scalar.addi (Scalar.muli (Scalar.addi (Scf.iv 0#32 1#32 k) 1#32) 512#32) 256#32) 1#32) 256#32) 0#32)) (Scalar.subi (Scalar.divsi (Scalar.subi (Scalar.addi (Scalar.muli (Scalar.addi (Scf.iv 0#32 1#32 k) 1#32) 512#32) 256#32) 1#32) 256#32) 1#32) (Scalar.divsi (Scalar.subi (Scalar.addi (Scalar.muli (Scalar.addi (Scf.iv 0#32 1#32 k) 1#32) 512#32) 256#32) 1#32) 256#32) = nkb k := by decide +kernel

theorem v67_eq : ∀ k : Fin k0_t1_loop.trips, trip.sl.v67 k = nkb k := by decide +kernel

theorem trips2' : ∀ k : Fin k0_t1_loop.trips,
    Scf.trips 0#32 (Scalar.addi 0#32 (Scalar.muli (Scalar.divsi (Scalar.subi (nkb k) 0#32) 1#32) 1#32)) 1#32 = 2 * (k.val + 1) := by decide +kernel

theorem trip_L6 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 : IVec S512x256 32) (v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (G9 : BufTy.Contents (Elt F) arg9.view.ty) (G10 : BufTy.Contents (Elt F) arg10.view.ty) :
    (trip (F := F) c i arg1 harg1 arg2 harg2 arg3 harg3 arg4 harg4 arg5 harg5 arg6 harg6 arg7 harg7 arg8 harg8 arg9 harg9 arg10 harg10 v22 v23 X1 X2 X3 X4 X5 k).1 G9 G10 = [⟨Rect.unit (s := S2048x128) (k0_off1 k) S512x128.size (k0_off1_inb k), k0_pay16 (inner (F := F) c i arg1 harg1 arg2 harg2 arg3 harg3 arg4 harg4 arg5 harg5 arg6 harg6 arg7 harg7 arg8 harg8 arg9 harg9 arg10 harg10 v22 v23 X1 X2 X3 X4 X5 k G9 G10 (2 * (k.val + 1))).1.2.2.2.2⟩] := by
  unfold trip
  dsimp only
  unfold trip.sl.r trip.sl.r_1 trip.sl.r_2 trip.sl.r_3
  rw [show Scf.trips _ _ _ = (k0_t3_loop k).trips from rfl, trips3]
  simp only [nkb_eq, trips2']
  rw [v67_eq]
  rfl

theorem trip_L9 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 : IVec S512x256 32) (v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (G9 : BufTy.Contents (Elt F) arg9.view.ty) (G10 : BufTy.Contents (Elt F) arg10.view.ty) :
    (trip (F := F) c i arg1 harg1 arg2 harg2 arg3 harg3 arg4 harg4 arg5 harg5 arg6 harg6 arg7 harg7 arg8 harg8 arg9 harg9 arg10 harg10 v22 v23 X1 X2 X3 X4 X5 k).2.1 G9 G10 = (inner (F := F) c i arg1 harg1 arg2 harg2 arg3 harg3 arg4 harg4 arg5 harg5 arg6 harg6 arg7 harg7 arg8 harg8 arg9 harg9 arg10 harg10 v22 v23 X1 X2 X3 X4 X5 k G9 G10 (2 * (k.val + 1))).2.1 := by
  unfold trip
  dsimp only
  unfold trip.sl.r trip.sl.r_1 trip.sl.r_2 trip.sl.r_3
  rw [show Scf.trips _ _ _ = (k0_t3_loop k).trips from rfl, trips3]
  simp only [nkb_eq, trips2']
  rw [v67_eq]
  rfl

theorem trip_L10 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 : IVec S512x256 32) (v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (G9 : BufTy.Contents (Elt F) arg9.view.ty) (G10 : BufTy.Contents (Elt F) arg10.view.ty) :
    (trip (F := F) c i arg1 harg1 arg2 harg2 arg3 harg3 arg4 harg4 arg5 harg5 arg6 harg6 arg7 harg7 arg8 harg8 arg9 harg9 arg10 harg10 v22 v23 X1 X2 X3 X4 X5 k).2.2.1 G9 G10 = (inner (F := F) c i arg1 harg1 arg2 harg2 arg3 harg3 arg4 harg4 arg5 harg5 arg6 harg6 arg7 harg7 arg8 harg8 arg9 harg9 arg10 harg10 v22 v23 X1 X2 X3 X4 X5 k G9 G10 (2 * (k.val + 1))).2.2 := by
  unfold trip
  dsimp only
  unfold trip.sl.r trip.sl.r_1 trip.sl.r_2 trip.sl.r_3
  rw [show Scf.trips _ _ _ = (k0_t3_loop k).trips from rfl, trips3]
  simp only [nkb_eq, trips2']
  rw [v67_eq]
  rfl

end Cert.KernelIdeal.Hand
end
-- ==== Proof.Readback.lean ====
/-
  What the loops' piece lists leave in the buffers, read back: the blocks of `Proof/Model.lean`.
-/
module

public import proofs.«01_k».proof.Proof.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem tripR_eq (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (n : Fin (k0_t2_loop k).trips) (q kk v : Blk F .bf16) (o : Blk F .f32) (d : Blk F .bf16) (h2 : arg2.view.read (Elt F) X2 = kk) (h3 : arg3.view.read (Elt F) X3 = v) (a : Car F) (f9 : BufTy.Contents (Elt F) arg9.view.ty) (f10 : BufTy.Contents (Elt F) arg10.view.ty) :
    tripR_k0_t2 (F := F) Variants.none c none i arg1 harg1 arg2 harg2 arg3 harg3 arg4 harg4 arg5 harg5 arg6 harg6 arg7 harg7 arg8 harg8 arg9 harg9 arg10 harg10 v23 k (rowsP q k) (rowsP d k) (dtotP o d k) (k0_pay48 v22 0#32 1#32 k) (nkb k) X2 X3 n a f9 f10 = carP v22 v23 q kk v o d k n a := by
  subst h2 h3
  unfold tripR_k0_t2 trip_k0_t2
  dsimp only
  rfl

theorem trip9_eq (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (n : Fin (k0_t2_loop k).trips) (q kk v : Blk F .bf16) (o : Blk F .f32) (d : Blk F .bf16) (a : Car F) (f9 : BufTy.Contents (Elt F) arg9.view.ty) (f10 : BufTy.Contents (Elt F) arg10.view.ty) :
    arg9.view.read (Elt F) (arg9.view.writes (Elt F) f9 (tripL_k0_t2 (F := F) Variants.none c none i arg1 harg1 arg2 harg2 arg3 harg3 arg4 harg4 arg5 harg5 arg6 harg6 arg7 harg7 arg8 harg8 arg9 harg9 arg10 harg10 v23 k (rowsP q k) (rowsP d k) (dtotP o d k) (k0_pay48 v22 0#32 1#32 k) (nkb k) X2 X3 n a f9 f10).1) = dkP v22 v23 q o d k n a (arg9.view.read (Elt F) f9) := by
  unfold tripL_k0_t2 trip_k0_t2
  dsimp only
  refine (View.read_writes_cons_put (arg9.view) f9 (k0_off4_inb k n) _ [] rfl).trans ?_
  rfl

theorem trip10_eq (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (n : Fin (k0_t2_loop k).trips) (q kk v : Blk F .bf16) (o : Blk F .f32) (d : Blk F .bf16) (a : Car F) (f9 : BufTy.Contents (Elt F) arg9.view.ty) (f10 : BufTy.Contents (Elt F) arg10.view.ty) :
    arg10.view.read (Elt F) (arg10.view.writes (Elt F) f10 (tripL_k0_t2 (F := F) Variants.none c none i arg1 harg1 arg2 harg2 arg3 harg3 arg4 harg4 arg5 harg5 arg6 harg6 arg7 harg7 arg8 harg8 arg9 harg9 arg10 harg10 v23 k (rowsP q k) (rowsP d k) (dtotP o d k) (k0_pay48 v22 0#32 1#32 k) (nkb k) X2 X3 n a f9 f10).2) = dvP v22 v23 d k n a (arg10.view.read (Elt F) f10) := by
  unfold tripL_k0_t2 trip_k0_t2
  dsimp only
  refine (View.read_writes_cons_put (arg10.view) f10 (k0_off4_inb k n) _ [] rfl).trans ?_
  rfl

/-- The inner loop's state, read back. -/
theorem st_eq (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (q kk v : Blk F .bf16) (o : Blk F .f32) (d : Blk F .bf16) (h2 : arg2.view.read (Elt F) X2 = kk) (h3 : arg3.view.read (Elt F) X3 = v) (G9 : BufTy.Contents (Elt F) arg9.view.ty) (G10 : BufTy.Contents (Elt F) arg10.view.ty) : ∀ n : ℕ, n ≤ (k0_t2_loop k).trips →
    (st_k0_t2 (F := F) Variants.none c none i arg1 harg1 arg2 harg2 arg3 harg3 arg4 harg4 arg5 harg5 arg6 harg6 arg7 harg7 arg8 harg8 arg9 harg9 arg10 harg10 v23 k (rowsP q k) (rowsP d k) (dtotP o d k) (k0_pay48 v22 0#32 1#32 k) (nkb k) X2 X3 G9 G10 (initP q kk v d k) n).1 = (innerP v22 v23 q kk v o d k (arg9.view.read (Elt F) G9) (arg10.view.read (Elt F) G10) n).1
    ∧ arg9.view.read (Elt F) (arg9.view.writes (Elt F) G9 (st_k0_t2 (F := F) Variants.none c none i arg1 harg1 arg2 harg2 arg3 harg3 arg4 harg4 arg5 harg5 arg6 harg6 arg7 harg7 arg8 harg8 arg9 harg9 arg10 harg10 v23 k (rowsP q k) (rowsP d k) (dtotP o d k) (k0_pay48 v22 0#32 1#32 k) (nkb k) X2 X3 G9 G10 (initP q kk v d k) n).2.1) = (innerP v22 v23 q kk v o d k (arg9.view.read (Elt F) G9) (arg10.view.read (Elt F) G10) n).2.1
    ∧ arg10.view.read (Elt F) (arg10.view.writes (Elt F) G10 (st_k0_t2 (F := F) Variants.none c none i arg1 harg1 arg2 harg2 arg3 harg3 arg4 harg4 arg5 harg5 arg6 harg6 arg7 harg7 arg8 harg8 arg9 harg9 arg10 harg10 v23 k (rowsP q k) (rowsP d k) (dtotP o d k) (k0_pay48 v22 0#32 1#32 k) (nkb k) X2 X3 G9 G10 (initP q kk v d k) n).2.2) = (innerP v22 v23 q kk v o d k (arg9.view.read (Elt F) G9) (arg10.view.read (Elt F) G10) n).2.2
  | 0, _ => ⟨rfl, rfl, rfl⟩
  | n + 1, hn => by
    obtain ⟨e1, e2, e3⟩ := st_eq c i arg1 harg1 arg2 harg2 arg3 harg3 arg4 harg4 arg5 harg5 arg6 harg6 arg7 harg7 arg8 harg8 arg9 harg9 arg10 harg10 v22 v23 X1 X2 X3 X4 X5 k q kk v o d h2 h3 G9 G10 n (Nat.le_of_succ_le hn)
    have hs := st_k0_t2_succ (F := F) Variants.none c none i arg1 harg1 arg2 harg2 arg3 harg3 arg4 harg4 arg5 harg5 arg6 harg6 arg7 harg7 arg8 harg8 arg9 harg9 arg10 harg10 v23 k (rowsP q k) (rowsP d k) (dtotP o d k) (k0_pay48 v22 0#32 1#32 k) (nkb k) X2 X3 G9 G10 (initP q kk v d k) ⟨n, hn⟩
    have hp : innerP v22 v23 q kk v o d k (arg9.view.read (Elt F) G9) (arg10.view.read (Elt F) G10) (n + 1) = _ := dif_pos hn
    dsimp only at hs
    rw [hs, hp, ← e1, ← e2, ← e3]
    refine ⟨?_, ?_, ?_⟩
    · exact tripR_eq c i arg1 harg1 arg2 harg2 arg3 harg3 arg4 harg4 arg5 harg5 arg6 harg6 arg7 harg7 arg8 harg8 arg9 harg9 arg10 harg10 v22 v23 X1 X2 X3 X4 X5 k ⟨n, hn⟩ q kk v o d h2 h3 _ _ _
    · rw [View.writes_append]
      exact trip9_eq c i arg1 harg1 arg2 harg2 arg3 harg3 arg4 harg4 arg5 harg5 arg6 harg6 arg7 harg7 arg8 harg8 arg9 harg9 arg10 harg10 v22 v23 X1 X2 X3 X4 X5 k ⟨n, hn⟩ q kk v o d _ _ _
    · rw [View.writes_append]
      exact trip10_eq c i arg1 harg1 arg2 harg2 arg3 harg3 arg4 harg4 arg5 harg5 arg6 harg6 arg7 harg7 arg8 harg8 arg9 harg9 arg10 harg10 v22 v23 X1 X2 X3 X4 X5 k ⟨n, hn⟩ q kk v o d _ _ _

/-- The inner loop of the outer trip `k`, read back. -/
theorem inner_eq (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (q kk v : Blk F .bf16) (o : Blk F .f32) (d : Blk F .bf16) (h1 : arg1.view.read (Elt F) X1 = q) (h2 : arg2.view.read (Elt F) X2 = kk) (h3 : arg3.view.read (Elt F) X3 = v) (h4 : arg4.view.read (Elt F) X4 = o) (h5 : arg5.view.read (Elt F) X5 = d) (G9 : BufTy.Contents (Elt F) arg9.view.ty) (G10 : BufTy.Contents (Elt F) arg10.view.ty) (n : ℕ) (hn : n ≤ (k0_t2_loop k).trips) :
    (inner (F := F) c i arg1 harg1 arg2 harg2 arg3 harg3 arg4 harg4 arg5 harg5 arg6 harg6 arg7 harg7 arg8 harg8 arg9 harg9 arg10 harg10 v22 v23 X1 X2 X3 X4 X5 k G9 G10 n).1 = (innerP v22 v23 q kk v o d k (arg9.view.read (Elt F) G9) (arg10.view.read (Elt F) G10) n).1
    ∧ arg9.view.read (Elt F) (arg9.view.writes (Elt F) G9 (inner (F := F) c i arg1 harg1 arg2 harg2 arg3 harg3 arg4 harg4 arg5 harg5 arg6 harg6 arg7 harg7 arg8 harg8 arg9 harg9 arg10 harg10 v22 v23 X1 X2 X3 X4 X5 k G9 G10 n).2.1) = (innerP v22 v23 q kk v o d k (arg9.view.read (Elt F) G9) (arg10.view.read (Elt F) G10) n).2.1
    ∧ arg10.view.read (Elt F) (arg10.view.writes (Elt F) G10 (inner (F := F) c i arg1 harg1 arg2 harg2 arg3 harg3 arg4 harg4 arg5 harg5 arg6 harg6 arg7 harg7 arg8 harg8 arg9 harg9 arg10 harg10 v22 v23 X1 X2 X3 X4 X5 k G9 G10 n).2.2) = (innerP v22 v23 q kk v o d k (arg9.view.read (Elt F) G9) (arg10.view.read (Elt F) G10) n).2.2 := by
  subst h1 h2 h3 h4 h5
  exact st_eq c i arg1 harg1 arg2 harg2 arg3 harg3 arg4 harg4 arg5 harg5 arg6 harg6 arg7 harg7 arg8 harg8 arg9 harg9 arg10 harg10 v22 v23 X1 X2 X3 X4 X5 k (arg1.view.read (Elt F) X1) _ _ (arg4.view.read (Elt F) X4) (arg5.view.read (Elt F) X5) rfl rfl G9 G10 n hn

/-- The outer loop's state, read back. -/
theorem outer_eq (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (v22 v23 : IVec S512x256 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (q kk v : Blk F .bf16) (o : Blk F .f32) (d : Blk F .bf16) (h1 : arg1.view.read (Elt F) X1 = q) (h2 : arg2.view.read (Elt F) X2 = kk) (h3 : arg3.view.read (Elt F) X3 = v) (h4 : arg4.view.read (Elt F) X4 = o) (h5 : arg5.view.read (Elt F) X5 = d) (G6 : BufTy.Contents (Elt F) arg6.view.ty) (G9 : BufTy.Contents (Elt F) arg9.view.ty) (G10 : BufTy.Contents (Elt F) arg10.view.ty) : ∀ k : ℕ, k ≤ k0_t1_loop.trips →
    arg6.view.read (Elt F) (arg6.view.writes (Elt F) G6 (st (F := F) c i arg1 harg1 arg2 harg2 arg3 harg3 arg4 harg4 arg5 harg5 arg6 harg6 arg7 harg7 arg8 harg8 arg9 harg9 arg10 harg10 v22 v23 X1 X2 X3 X4 X5 G9 G10 k).1) = (outerP v22 v23 q kk v o d (arg6.view.read (Elt F) G6) (arg9.view.read (Elt F) G9) (arg10.view.read (Elt F) G10) k).1
    ∧ arg9.view.read (Elt F) (arg9.view.writes (Elt F) G9 (st (F := F) c i arg1 harg1 arg2 harg2 arg3 harg3 arg4 harg4 arg5 harg5 arg6 harg6 arg7 harg7 arg8 harg8 arg9 harg9 arg10 harg10 v22 v23 X1 X2 X3 X4 X5 G9 G10 k).2.1) = (outerP v22 v23 q kk v o d (arg6.view.read (Elt F) G6) (arg9.view.read (Elt F) G9) (arg10.view.read (Elt F) G10) k).2.1
    ∧ arg10.view.read (Elt F) (arg10.view.writes (Elt F) G10 (st (F := F) c i arg1 harg1 arg2 harg2 arg3 harg3 arg4 harg4 arg5 harg5 arg6 harg6 arg7 harg7 arg8 harg8 arg9 harg9 arg10 harg10 v22 v23 X1 X2 X3 X4 X5 G9 G10 k).2.2) = (outerP v22 v23 q kk v o d (arg6.view.read (Elt F) G6) (arg9.view.read (Elt F) G9) (arg10.view.read (Elt F) G10) k).2.2
  | 0, _ => ⟨rfl, rfl, rfl⟩
  | k + 1, hk => by
    obtain ⟨e1, e2, e3⟩ := outer_eq c i arg1 harg1 arg2 harg2 arg3 harg3 arg4 harg4 arg5 harg5 arg6 harg6 arg7 harg7 arg8 harg8 arg9 harg9 arg10 harg10 v22 v23 X1 X2 X3 X4 X5 q kk v o d h1 h2 h3 h4 h5 G6 G9 G10 k (Nat.le_of_succ_le hk)
    have hs := st_succ (F := F) c i arg1 harg1 arg2 harg2 arg3 harg3 arg4 harg4 arg5 harg5 arg6 harg6 arg7 harg7 arg8 harg8 arg9 harg9 arg10 harg10 v22 v23 X1 X2 X3 X4 X5 G9 G10 ⟨k, hk⟩
    have hp : outerP v22 v23 q kk v o d (arg6.view.read (Elt F) G6) (arg9.view.read (Elt F) G9) (arg10.view.read (Elt F) G10) (k + 1) = _ := dif_pos hk
    dsimp only at hs
    rw [hs, hp, ← e1, ← e2, ← e3]
    have hi := fun g9 g10 => inner_eq c i arg1 harg1 arg2 harg2 arg3 harg3 arg4 harg4 arg5 harg5 arg6 harg6 arg7 harg7 arg8 harg8 arg9 harg9 arg10 harg10 v22 v23 X1 X2 X3 X4 X5 ⟨k, hk⟩ q kk v o d h1 h2 h3 h4 h5 g9 g10 (2 * (k + 1)) (le_of_eq (trips2 ⟨k, hk⟩).symm)
    refine ⟨?_, ?_, ?_⟩
    · rw [View.writes_append, trip_L6]
      dsimp only
      rw [(hi _ _).1]
      exact View.read_writes_cons_put (arg6.view) _ (k0_off1_inb ⟨k, hk⟩) _ [] rfl
    · rw [View.writes_append, trip_L9]
      exact (hi _ _).2.1
    · rw [View.writes_append, trip_L10]
      exact (hi _ _).2.2

end Cert.KernelIdeal.Hand
end
-- ==== Proof.Out.lean ====
/-
  The three blocks the body leaves, as functions of the five it reads, and the body's triple at any memrefs.
-/
module

public import proofs.«01_k».proof.Proof.Readback

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows and the columns of a block of scores. -/
abbrev rowC : IVec S512x256 32 := iota Kind.tc S512x256 32 [0] iota_S512x256_d0_w32
abbrev colC : IVec S512x256 32 := iota Kind.tc S512x256 32 [1] iota_S512x256_d1_w32

theorem off1_eq : ∀ k : Fin k0_t1_loop.trips, k0_off1 k = ![512 * k.val, 0] := by decide +kernel

/-- The outer loop's accumulators do not depend on what the queries' gradient held, -/
theorem outerP_acc (v22 v23 : IVec S512x256 32) (q kk v : Blk F .bf16) (o : Blk F .f32) (d : Blk F .bf16) (g g' : Blk F .bf16) (gk gv : Blk F .f32) :
    ∀ k, (outerP v22 v23 q kk v o d g gk gv k).2 = (outerP v22 v23 q kk v o d g' gk gv k).2
  | 0 => rfl
  | k + 1 => by
    have ih := outerP_acc v22 v23 q kk v o d g g' gk gv k
    by_cases h : k < k0_t1_loop.trips
    · have e : outerP v22 v23 q kk v o d g gk gv (k + 1) = _ := dif_pos h
      have e' : outerP v22 v23 q kk v o d g' gk gv (k + 1) = _ := dif_pos h
      rw [e, e']; dsimp only; rw [ih]
    · have e : outerP v22 v23 q kk v o d g gk gv (k + 1) = _ := dif_neg h
      have e' : outerP v22 v23 q kk v o d g' gk gv (k + 1) = _ := dif_neg h
      rw [e, e']; exact ih

/-- nor do the rows of the queries' gradient it has written. -/
theorem outerP_rows (v22 v23 : IVec S512x256 32) (q kk v : Blk F .bf16) (o : Blk F .f32) (d : Blk F .bf16) (g g' : Blk F .bf16) (gk gv : Blk F .f32) (y : S2048x128.Idx) :
    ∀ k, k ≤ k0_t1_loop.trips → (y 0).val < 512 * k → (outerP v22 v23 q kk v o d g gk gv k).1 y = (outerP v22 v23 q kk v o d g' gk gv k).1 y
  | 0, _, hy => absurd hy (by omega)
  | k + 1, hk, hy => by
    have ih := outerP_rows v22 v23 q kk v o d g g' gk gv y k (Nat.le_of_succ_le hk)
    have hacc := outerP_acc v22 v23 q kk v o d g g' gk gv k
    have h : k < k0_t1_loop.trips := hk
    have e : outerP v22 v23 q kk v o d g gk gv (k + 1) = _ := dif_pos h
    have e' : outerP v22 v23 q kk v o d g' gk gv (k + 1) = _ := dif_pos h
    rw [e, e']
    dsimp only
    rw [hacc]
    unfold VecWindow.put
    by_cases hm : ∀ a, k0_off1 ⟨k, h⟩ a ≤ (y a).val ∧ (y a).val < k0_off1 ⟨k, h⟩ a + S512x128.size a
    · rw [dif_pos hm, dif_pos hm]
    · rw [dif_neg hm, dif_neg hm]
      refine ih ?_
      by_contra hlt
      refine hm (Fin.forall_fin_two.mpr ⟨?_, ?_⟩)
      · rw [off1_eq]
        show 512 * k ≤ (y 0).val ∧ (y 0).val < 512 * k + 512
        omega
      · rw [off1_eq]
        show 0 ≤ (y 1).val ∧ (y 1).val < 0 + 128
        have : (y 1).val < 128 := (y 1).isLt
        omega

/-- The outer loop's end, from zeroed accumulators. -/
def outP (q kk v : Blk F .bf16) (o : Blk F .f32) (d : Blk F .bf16) (g : Blk F .bf16) : Blk F .bf16 × Blk F .f32 × Blk F .f32 := outerP rowC colC q kk v o d g (k0_pay1 (F := F)) (k0_pay2 (F := F)) 4
/-- The queries', keys' and values' gradients of one head. -/
def outQ (q kk v : Blk F .bf16) (o : Blk F .f32) (d : Blk F .bf16) : Blk F .bf16 := (outP q kk v o d q).1
def outK (q kk v : Blk F .bf16) (o : Blk F .f32) (d : Blk F .bf16) : Blk F .bf16 := k0_pay17 (outP q kk v o d q).2.1
def outV (q kk v : Blk F .bf16) (o : Blk F .f32) (d : Blk F .bf16) : Blk F .bf16 := k0_pay18 (outP q kk v o d q).2.2

theorem outP_fst (q kk v : Blk F .bf16) (o : Blk F .f32) (d : Blk F .bf16) (g : Blk F .bf16) : (outP q kk v o d g).1 = outQ q kk v o d := funext fun y =>
  outerP_rows _ _ q kk v o d g q _ _ y 4 (le_of_eq trips1.symm) (by have : (y 0).val < 2048 := (y 0).isLt; omega)
theorem outP_snd (q kk v : Blk F .bf16) (o : Blk F .f32) (d : Blk F .bf16) (g : Blk F .bf16) : (outP q kk v o d g).2 = (outP q kk v o d q).2 := outerP_acc _ _ q kk v o d g q _ _ 4

theorem read6 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (q kk v : Blk F .bf16) (o : Blk F .f32) (d : Blk F .bf16) (h1 : arg1.view.read (Elt F) X1 = q) (h2 : arg2.view.read (Elt F) X2 = kk) (h3 : arg3.view.read (Elt F) X3 = v) (h4 : arg4.view.read (Elt F) X4 = o) (h5 : arg5.view.read (Elt F) X5 = d) (f6 : BufTy.Contents (Elt F) arg6.view.ty) :
    arg6.view.read (Elt F) (arg6.view.writes (Elt F) f6 (L6 (F := F) c i arg1 harg1 arg2 harg2 arg3 harg3 arg4 harg4 arg5 harg5 arg6 harg6 arg7 harg7 arg8 harg8 arg9 harg9 arg10 harg10 X1 X2 X3 X4 X5)) = outQ q kk v o d := by
  unfold L6 bodyRun
  dsimp only
  unfold bodyRun.sl.v22 bodyRun.sl.v23 bodyRun.sl.H9_1 bodyRun.sl.H10_1
  refine ((outer_eq c i arg1 harg1 arg2 harg2 arg3 harg3 arg4 harg4 arg5 harg5 arg6 harg6 arg7 harg7 arg8 harg8 arg9 harg9 arg10 harg10 rowC colC X1 X2 X3 X4 X5 q kk v o d h1 h2 h3 h4 h5 f6 _ _ 4 (le_of_eq trips1.symm)).1).trans ?_
  rw [View.read_writes_full arg9.view, View.read_writes_full arg10.view]
  exact outP_fst q kk v o d _

theorem read7 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (q kk v : Blk F .bf16) (o : Blk F .f32) (d : Blk F .bf16) (h1 : arg1.view.read (Elt F) X1 = q) (h2 : arg2.view.read (Elt F) X2 = kk) (h3 : arg3.view.read (Elt F) X3 = v) (h4 : arg4.view.read (Elt F) X4 = o) (h5 : arg5.view.read (Elt F) X5 = d) (f7 : BufTy.Contents (Elt F) arg7.view.ty) :
    arg7.view.read (Elt F) (arg7.view.writes (Elt F) f7 (L7 (F := F) c i arg1 harg1 arg2 harg2 arg3 harg3 arg4 harg4 arg5 harg5 arg6 harg6 arg7 harg7 arg8 harg8 arg9 harg9 arg10 harg10 X1 X2 X3 X4 X5)) = outK q kk v o d := by
  unfold L7 bodyRun
  dsimp only
  refine (View.read_writes_full (s := S2048x128) arg7.view f7 inb_S2048x128_S2048x128_0_0 _ []).trans ?_
  unfold outK
  refine congrArg k0_pay17 ?_
  unfold bodyRun.sl.v25 View.readCov
  rw [View.writes_append]
  refine (View.readAt_full (s := S2048x128) arg9.view _ inb_S2048x128_S2048x128_0_0).trans ?_
  unfold bodyRun.sl.v22 bodyRun.sl.v23 bodyRun.sl.H9_1 bodyRun.sl.H10_1
  refine ((outer_eq c i arg1 harg1 arg2 harg2 arg3 harg3 arg4 harg4 arg5 harg5 arg6 harg6 arg7 harg7 arg8 harg8 arg9 harg9 arg10 harg10 rowC colC X1 X2 X3 X4 X5 q kk v o d h1 h2 h3 h4 h5 arg6.view.junk _ _ 4 (le_of_eq trips1.symm)).2.1).trans ?_
  rw [View.read_writes_full arg9.view, View.read_writes_full arg10.view]
  exact congrArg (·.1) (outP_snd q kk v o d _)

theorem read8 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (q kk v : Blk F .bf16) (o : Blk F .f32) (d : Blk F .bf16) (h1 : arg1.view.read (Elt F) X1 = q) (h2 : arg2.view.read (Elt F) X2 = kk) (h3 : arg3.view.read (Elt F) X3 = v) (h4 : arg4.view.read (Elt F) X4 = o) (h5 : arg5.view.read (Elt F) X5 = d) (f8 : BufTy.Contents (Elt F) arg8.view.ty) :
    arg8.view.read (Elt F) (arg8.view.writes (Elt F) f8 (L8 (F := F) c i arg1 harg1 arg2 harg2 arg3 harg3 arg4 harg4 arg5 harg5 arg6 harg6 arg7 harg7 arg8 harg8 arg9 harg9 arg10 harg10 X1 X2 X3 X4 X5)) = outV q kk v o d := by
  unfold L8 bodyRun
  dsimp only
  refine (View.read_writes_full (s := S2048x128) arg8.view f8 inb_S2048x128_S2048x128_0_0 _ []).trans ?_
  unfold outV
  refine congrArg k0_pay18 ?_
  unfold bodyRun.sl.v28 View.readCov
  rw [View.writes_append]
  refine (View.readAt_full (s := S2048x128) arg10.view _ inb_S2048x128_S2048x128_0_0).trans ?_
  unfold bodyRun.sl.v22 bodyRun.sl.v23 bodyRun.sl.H9_1 bodyRun.sl.H10_1
  refine ((outer_eq c i arg1 harg1 arg2 harg2 arg3 harg3 arg4 harg4 arg5 harg5 arg6 harg6 arg7 harg7 arg8 harg8 arg9 harg9 arg10 harg10 rowC colC X1 X2 X3 X4 X5 q kk v o d h1 h2 h3 h4 h5 arg6.view.junk _ _ 4 (le_of_eq trips1.symm)).2.2).trans ?_
  rw [View.read_writes_full arg9.view, View.read_writes_full arg10.view]
  exact congrArg (·.2) (outP_snd q kk v o d _)

/-- THE BODY, at any memrefs: it reads the five blocks and leaves the three gradients. -/
theorem sound_kernel (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (q kk v : Blk F .bf16) (o : Blk F .f32) (d : Blk F .bf16) (K : PUnit → sProp 𝕄) :
    iprop(owns (c : Thread nD τ) arg1 fullShare q ∗ owns (c : Thread nD τ) arg2 fullShare kk ∗ owns (c : Thread nD τ) arg3 fullShare v ∗ owns (c : Thread nD τ) arg4 fullShare o ∗ owns (c : Thread nD τ) arg5 fullShare d ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ ((owns (c : Thread nD τ) arg1 fullShare q ∗ owns (c : Thread nD τ) arg2 fullShare kk ∗ owns (c : Thread nD τ) arg3 fullShare v ∗ owns (c : Thread nD τ) arg4 fullShare o ∗ owns (c : Thread nD τ) arg5 fullShare d ∗ owns (c : Thread nD τ) arg6 fullShare (outQ q kk v o d) ∗ owns (c : Thread nD τ) arg7 fullShare (outK q kk v o d) ∗ owns (c : Thread nD τ) arg8 fullShare (outV q kk v o d) ∗ (∃ d, owns (c : Thread nD τ) arg9 fullShare d) ∗ (∃ d, owns (c : Thread nD τ) arg10 fullShare d)) -∗ K ⟨⟩))
    ⊢ wp frame (wpE (defs₀ (F := F)) Variants.none c none) Set.univ (cc0_sb_attn_bwd (F := F) i arg1 harg1 arg2 harg2 arg3 harg3 arg4 harg4 arg5 harg5 arg6 harg6 arg7 harg7 arg8 harg8 arg9 harg9 arg10 harg10) K := by
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, HK⟩
  iapply ((bodyRun (F := F) c i arg1 harg1 arg2 harg2 arg3 harg3 arg4 harg4 arg5 harg5 arg6 harg6 arg7 harg7 arg8 harg8 arg9 harg9 arg10 harg10 f1 f2 f3 f4 f5).2.2.2 f6 f7 f8 f9 f10 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, ⟨%f7', H7⟩, ⟨%f8', H8⟩, ⟨%f9', H9⟩, ⟨%f10', H10⟩⟩
  iapply HK
  isplitl [H1]
  · iexists _; isplitr
    swap; · iexact H1
    ipureintro; exact h1
  isplitl [H2]
  · iexists _; isplitr
    swap; · iexact H2
    ipureintro; exact h2
  isplitl [H3]
  · iexists _; isplitr
    swap; · iexact H3
    ipureintro; exact h3
  isplitl [H4]
  · iexists _; isplitr
    swap; · iexact H4
    ipureintro; exact h4
  isplitl [H5]
  · iexists _; isplitr
    swap; · iexact H5
    ipureintro; exact h5
  isplitl [H6]
  · iexists _; isplitr
    swap; · iexact H6
    ipureintro; exact read6 c i arg1 harg1 arg2 harg2 arg3 harg3 arg4 harg4 arg5 harg5 arg6 harg6 arg7 harg7 arg8 harg8 arg9 harg9 arg10 harg10 f1 f2 f3 f4 f5 q kk v o d h1 h2 h3 h4 h5 _
  isplitl [H7]
  · iexists _; isplitr
    swap; · iexact H7
    ipureintro; exact read7 c i arg1 harg1 arg2 harg2 arg3 harg3 arg4 harg4 arg5 harg5 arg6 harg6 arg7 harg7 arg8 harg8 arg9 harg9 arg10 harg10 f1 f2 f3 f4 f5 q kk v o d h1 h2 h3 h4 h5 _
  isplitl [H8]
  · iexists _; isplitr
    swap; · iexact H8
    ipureintro; exact read8 c i arg1 harg1 arg2 harg2 arg3 harg3 arg4 harg4 arg5 harg5 arg6 harg6 arg7 harg7 arg8 harg8 arg9 harg9 arg10 harg10 f1 f2 f3 f4 f5 q kk v o d h1 h2 h3 h4 h5 _
  isplitl [H9]
  · iexists _; iexists _; isplitr
    swap; · iexact H9
    ipureintro; rfl
  iexists _; iexists _; isplitr
  swap; · iexact H10
  ipureintro; rfl

end Cert.KernelIdeal.Hand
end
-- ==== Proof.Run.lean ====
/-
  The run of the whole program at any floats: it ends, with every counter at zero, the pipeline's arrays at the blocks
  of `Proof/Out.lean` and every other buffer as the host left it.
-/
module

public import proofs.«01_k».proof.Proof.Out
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- What each window's buffer holds after the body: an operand its block, a result the head's gradient. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => outQ (iblk m c 0 t) (iblk m c 1 t) (iblk m c 2 t) (iblk m c 3 t) (iblk m c 4 t)
    | 6 => outK (iblk m c 0 t) (iblk m c 1 t) (iblk m c 2 t) (iblk m c 3 t) (iblk m c 4 t)
    | 7 => outV (iblk m c 0 t) (iblk m c 1 t) (iblk m c 2 t) (iblk m c 3 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outQ (iblk m c 0 t) (iblk m c 1 t) (iblk m c 2 t) (iblk m c 3 t) (iblk m c 4 t) := by dsimp only [dats]
theorem after_6 (c : Dev nD) (t : Fin cfg0.N) : (dats m 0 c).after 6 t = outK (iblk m c 0 t) (iblk m c 1 t) (iblk m c 2 t) (iblk m c 3 t) (iblk m c 4 t) := by dsimp only [dats]
theorem after_7 (c : Dev nD) (t : Fin cfg0.N) : (dats m 0 c).after 7 t = outV (iblk m c 0 t) (iblk m c 1 t) (iblk m c 2 t) (iblk m c 3 t) (iblk m c 4 t) := by dsimp only [dats]

theorem before_0 (c : Dev nD) (t : Fin cfg0.N) (e) : (dats m 0 c).before 0 t e = iblk m c 0 t :=
  before0_0_of m (dats m 0 c) (A_eq m c 0) (after_0 m c) t e
theorem before_1 (c : Dev nD) (t : Fin cfg0.N) (e) : (dats m 0 c).before 1 t e = iblk m c 1 t :=
  before0_1_of m (dats m 0 c) (A_eq m c 1) (after_1 m c) t e
theorem before_2 (c : Dev nD) (t : Fin cfg0.N) (e) : (dats m 0 c).before 2 t e = iblk m c 2 t :=
  before0_2_of m (dats m 0 c) (A_eq m c 2) (after_2 m c) t e
theorem before_3 (c : Dev nD) (t : Fin cfg0.N) (e) : (dats m 0 c).before 3 t e = iblk m c 3 t :=
  before0_3_of m (dats m 0 c) (A_eq m c 3) (after_3 m c) t e
theorem before_4 (c : Dev nD) (t : Fin cfg0.N) (e) : (dats m 0 c).before 4 t e = iblk m c 4 t :=
  before0_4_of m (dats m 0 c) (A_eq m c 4) (after_4 m c) t e

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t))

/-- The invariant's buffers are the two accumulators. -/
theorem phi_eq (c : Dev nD) : (Pipeline.ΦA (U := UR sig nD τ) spec0 c : sProp 𝕄)
    = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA
  rw [scopedRest0_eq]
  simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, phi_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel (F := F) c (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 1000000 in
/-- Every run ends with every counter at zero and the pipeline's arrays at what the blocks above leave in them. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The two arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand
end
-- ==== Proof.Host.lean ====
/-
  What the host leaves in the kernel's operand `o`: the reference's attention output.
-/
module

public import proofs.«01_k».proof.Proof.Gen.KernelIdeal.Frame
public import proofs.«01_k».proof.Proof.Gen.ReferenceIdeal.Read
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Cert.ReferenceIdeal.Read (val_main_v9 val_main_v12 val_main_v21 val_main_v22 val_main_v23_0 val_main_v24_0 val_main_v25 val_main_v26 val_main_v27_0 val_main_v29 val_main_v30_0 val_main_v34)

variable {F : FTy → Type} [FloatOps F]

/-- The logistic's logarithm as the host computes it. -/
def lsig (x : FVec F S1x16x2048x2048 .f32) : FVec F S1x16x2048x2048 .f32 :=
  let z : FVec F S1x16x2048x2048 .f32 := broadcastInDim S1x16x2048x2048 ![] bcast_S_S1x16x2048x2048 (constant S_ .f32 0x00000000#32)
  let y := Host.negf x
  Host.negf (select (cmpf .une (subf y z) (subf y z)) (addf y z)
    (addf (maximumf y z) (Host.log1p (Host.exp (Host.negf (Host.absf (subf y z)))))))

/-- The entries under the mask, zero elsewhere. -/
def masked (b : IVec S2048x2048 1) (x : FVec F S1x16x2048x2048 .f32) (z : FVec F S_ .f32) : FVec F S1x16x2048x2048 .f32 :=
  select (broadcastInDim S1x16x2048x2048 ![2, 3] bcast_S2048x2048_S1x16x2048x2048_2_3 b) x
    (broadcastInDim S1x16x2048x2048 ![] bcast_S_S1x16x2048x2048 z)

/-- The running sums along the last axis. -/
def sums (x : FVec F S1x16x2048x2048 .f32) : FVec F S1x16x2048x2048 .f32 :=
  Host.reduceWindowAdd ![1, 1, 1, 2048] ![1, 1, 1, 1] ![0, 0, 0, 0] ![0, 0, 0, 2047] x
    (broadcastInDim S_ ![] bcast_S_S_ (constant S_ .f32 0x00000000#32) : FVec F S_ .f32)
    reduceWindows_S1x16x2048x2048_S1x16x2048x2048_w1s1p0_0_w1s1p0_0_w1s1p0_0_w2048s1p0_2047 h_S_

/-- The product with the values, the heads side by side again. -/
def mixed (a : FVec F S1x16x2048x2048 .f32) (v : FVec F S1x16x2048x128 .f32) : FVec F S2048x2048 .f32 :=
  shapeCast _ (shapeCast _ (transpose S1x2048x16x128 [0, 2, 1, 3]
    (Host.dotGeneral dot_S1x16x2048x2048_S1x16x2048x128_S1x16x2048x128_3_2_2_3_01_01 none a v : FVec F S1x16x2048x128 .f32)
    transposes_S1x16x2048x128_S1x2048x16x128_0_2_1_3 : FVec F S1x2048x16x128 .f32)
    shapeCasts_S1x2048x16x128_S1x2048x2048 : FVec F S1x2048x2048 .f32) shapeCasts_S1x2048x2048_S2048x2048

variable (V0 : Valuation τ sig (Elt F))

set_option maxHeartbeats 2000000 in
theorem at0_v9 : after hostOps0 V0 (Proc.devRef .tc main_v9) = val_main_v9 (F := F) (V0 (Proc.devRef .tc main_arg0)) := by
  simp only [hostOps0, TRef.binary, TRef.nullary, TRef.unary, TRef.ternary, TRef.toBuf, TRef.ofBuf, cast_eq]
  after_results_simp
  rfl
set_option maxHeartbeats 2000000 in
theorem at0_v12 : after hostOps0 V0 (Proc.devRef .tc main_v12) = val_main_v12 (F := F) (V0 (Proc.devRef .tc main_arg0)) := by
  simp only [hostOps0, TRef.binary, TRef.nullary, TRef.unary, TRef.ternary, TRef.toBuf, TRef.ofBuf, cast_eq]
  after_results_simp
  rfl
set_option maxHeartbeats 2000000 in
theorem at0_v21 : after hostOps0 V0 (Proc.devRef .tc main_v21) = val_main_v21 (F := F) := by
  simp only [hostOps0, TRef.binary, TRef.nullary, TRef.unary, TRef.ternary, TRef.toBuf, TRef.ofBuf, cast_eq]
  after_results_simp
  rfl
set_option maxHeartbeats 2000000 in
theorem at0_v22 : after hostOps0 V0 (Proc.devRef .tc main_v22) = val_main_v22 (F := F) (V0 (Proc.devRef .tc main_arg0)) := by
  simp only [hostOps0, TRef.binary, TRef.nullary, TRef.unary, TRef.ternary, TRef.toBuf, TRef.ofBuf, cast_eq]
  after_results_simp
  rfl
set_option maxHeartbeats 2000000 in
theorem at1_v23 : after hostOps0_1 V0 (Proc.devRef .tc main_v23) = lsig (F := F) (V0 (Proc.devRef .tc main_v22)) := by
  simp only [hostOps0_1, TRef.binary, TRef.nullary, TRef.unary, TRef.ternary, TRef.toBuf, TRef.ofBuf, cast_eq]
  after_results_simp
  rfl
theorem at2_cst : after hostOps0_2 V0 (Proc.devRef .tc main_cst_0) = (constant S_ .f32 0x00000000#32 : FVec F S_ .f32) := by
  simp only [hostOps0_2]
  after_results_simp
theorem at3_v24 : after hostOps0_3 V0 (Proc.devRef .tc main_v24) = masked (F := F) (V0 (Proc.devRef .tc main_v21)) (V0 (Proc.devRef .tc main_v23)) (V0 (Proc.devRef .tc main_cst_0)) := by
  simp only [hostOps0_3, TRef.binary, TRef.nullary, TRef.unary, TRef.ternary, TRef.toBuf, TRef.ofBuf, cast_eq]
  after_results_simp
  rfl
theorem at4_v25 : after hostOps0_4 V0 (Proc.devRef .tc main_v25) = sums (F := F) (V0 (Proc.devRef .tc main_v24)) := by
  simp only [hostOps0_4, TRef.binary, TRef.nullary, TRef.unary, TRef.ternary, TRef.toBuf, TRef.ofBuf, cast_eq]
  after_results_simp
  rfl
theorem at5_v26 : after hostOps0_5 V0 (Proc.devRef .tc main_v26) = (subf (V0 (Proc.devRef .tc main_v25) : FVec F S1x16x2048x2048 .f32) (V0 (Proc.devRef .tc main_v24) : FVec F S1x16x2048x2048 .f32)) := by
  simp only [hostOps0_5]
  after_results_simp
set_option maxHeartbeats 2000000 in
theorem at6_v27 : after hostOps0_6 V0 (Proc.devRef .tc main_v27) = lsig (F := F) (V0 (Proc.devRef .tc main_v12)) := by
  simp only [hostOps0_6, TRef.binary, TRef.nullary, TRef.unary, TRef.ternary, TRef.toBuf, TRef.ofBuf, cast_eq]
  after_results_simp
  rfl
theorem at7_v29 : after hostOps0_7 V0 (Proc.devRef .tc main_v29) = (Host.exp (addf (V0 (Proc.devRef .tc main_v27) : FVec F S1x16x2048x2048 .f32) (V0 (Proc.devRef .tc main_v26) : FVec F S1x16x2048x2048 .f32))) := by
  simp only [hostOps0_7]
  after_results_simp
theorem at7_cst : after hostOps0_7 V0 (Proc.devRef .tc main_cst_1) = (constant S_ .f32 0x00000000#32 : FVec F S_ .f32) := by
  simp only [hostOps0_7]
  after_results_simp
theorem at8_v30 : after hostOps0_8 V0 (Proc.devRef .tc main_v30) = masked (F := F) (V0 (Proc.devRef .tc main_v21)) (V0 (Proc.devRef .tc main_v29)) (V0 (Proc.devRef .tc main_cst_1)) := by
  simp only [hostOps0_8, TRef.binary, TRef.nullary, TRef.unary, TRef.ternary, TRef.toBuf, TRef.ofBuf, cast_eq]
  after_results_simp
  rfl
theorem at9_v34 : after hostOps0_9 V0 (Proc.devRef .tc main_v34) = mixed (F := F) (V0 (Proc.devRef .tc main_v30)) (V0 (Proc.devRef .tc main_v9)) := by
  simp only [hostOps0_9]
  after_results_simp
  rfl

/-! What each stretch leaves alone. -/

theorem keep1_v9 : after hostOps0_1 V0 (Proc.devRef .tc main_v9) = V0 (Proc.devRef .tc main_v9) := by
  simp only [hostOps0_1, TRef.binary, TRef.nullary, TRef.unary, TRef.ternary]; after_results_simp
theorem keep1_v12 : after hostOps0_1 V0 (Proc.devRef .tc main_v12) = V0 (Proc.devRef .tc main_v12) := by
  simp only [hostOps0_1, TRef.binary, TRef.nullary, TRef.unary, TRef.ternary]; after_results_simp
theorem keep1_v21 : after hostOps0_1 V0 (Proc.devRef .tc main_v21) = V0 (Proc.devRef .tc main_v21) := by
  simp only [hostOps0_1, TRef.binary, TRef.nullary, TRef.unary, TRef.ternary]; after_results_simp
theorem keep2_v9 : after hostOps0_2 V0 (Proc.devRef .tc main_v9) = V0 (Proc.devRef .tc main_v9) := by
  simp only [hostOps0_2]; after_results_simp
theorem keep2_v12 : after hostOps0_2 V0 (Proc.devRef .tc main_v12) = V0 (Proc.devRef .tc main_v12) := by
  simp only [hostOps0_2]; after_results_simp
theorem keep2_v21 : after hostOps0_2 V0 (Proc.devRef .tc main_v21) = V0 (Proc.devRef .tc main_v21) := by
  simp only [hostOps0_2]; after_results_simp
theorem keep2_v23 : after hostOps0_2 V0 (Proc.devRef .tc main_v23) = V0 (Proc.devRef .tc main_v23) := by
  simp only [hostOps0_2]; after_results_simp
theorem keep3_v9 : after hostOps0_3 V0 (Proc.devRef .tc main_v9) = V0 (Proc.devRef .tc main_v9) := by
  simp only [hostOps0_3, TRef.unary, TRef.ternary]; after_results_simp
theorem keep3_v12 : after hostOps0_3 V0 (Proc.devRef .tc main_v12) = V0 (Proc.devRef .tc main_v12) := by
  simp only [hostOps0_3, TRef.unary, TRef.ternary]; after_results_simp
theorem keep3_v21 : after hostOps0_3 V0 (Proc.devRef .tc main_v21) = V0 (Proc.devRef .tc main_v21) := by
  simp only [hostOps0_3, TRef.unary, TRef.ternary]; after_results_simp
theorem keep4_v9 : after hostOps0_4 V0 (Proc.devRef .tc main_v9) = V0 (Proc.devRef .tc main_v9) := by
  simp only [hostOps0_4, TRef.binary, TRef.nullary, TRef.unary]; after_results_simp
theorem keep4_v12 : after hostOps0_4 V0 (Proc.devRef .tc main_v12) = V0 (Proc.devRef .tc main_v12) := by
  simp only [hostOps0_4, TRef.binary, TRef.nullary, TRef.unary]; after_results_simp
theorem keep4_v21 : after hostOps0_4 V0 (Proc.devRef .tc main_v21) = V0 (Proc.devRef .tc main_v21) := by
  simp only [hostOps0_4, TRef.binary, TRef.nullary, TRef.unary]; after_results_simp
theorem keep4_v24 : after hostOps0_4 V0 (Proc.devRef .tc main_v24) = V0 (Proc.devRef .tc main_v24) := by
  simp only [hostOps0_4, TRef.binary, TRef.nullary, TRef.unary]; after_results_simp
theorem keep5_v9 : after hostOps0_5 V0 (Proc.devRef .tc main_v9) = V0 (Proc.devRef .tc main_v9) := by
  simp only [hostOps0_5]; after_results_simp
theorem keep5_v12 : after hostOps0_5 V0 (Proc.devRef .tc main_v12) = V0 (Proc.devRef .tc main_v12) := by
  simp only [hostOps0_5]; after_results_simp
theorem keep5_v21 : after hostOps0_5 V0 (Proc.devRef .tc main_v21) = V0 (Proc.devRef .tc main_v21) := by
  simp only [hostOps0_5]; after_results_simp
theorem keep6_v9 : after hostOps0_6 V0 (Proc.devRef .tc main_v9) = V0 (Proc.devRef .tc main_v9) := by
  simp only [hostOps0_6, TRef.binary, TRef.nullary, TRef.unary, TRef.ternary]; after_results_simp
theorem keep6_v21 : after hostOps0_6 V0 (Proc.devRef .tc main_v21) = V0 (Proc.devRef .tc main_v21) := by
  simp only [hostOps0_6, TRef.binary, TRef.nullary, TRef.unary, TRef.ternary]; after_results_simp
theorem keep6_v26 : after hostOps0_6 V0 (Proc.devRef .tc main_v26) = V0 (Proc.devRef .tc main_v26) := by
  simp only [hostOps0_6, TRef.binary, TRef.nullary, TRef.unary, TRef.ternary]; after_results_simp
theorem keep7_v9 : after hostOps0_7 V0 (Proc.devRef .tc main_v9) = V0 (Proc.devRef .tc main_v9) := by
  simp only [hostOps0_7]; after_results_simp
theorem keep7_v21 : after hostOps0_7 V0 (Proc.devRef .tc main_v21) = V0 (Proc.devRef .tc main_v21) := by
  simp only [hostOps0_7]; after_results_simp
theorem keep8_v9 : after hostOps0_8 V0 (Proc.devRef .tc main_v9) = V0 (Proc.devRef .tc main_v9) := by
  simp only [hostOps0_8, TRef.unary, TRef.ternary]; after_results_simp

/-- The composed operations are the reference's. -/
theorem all_v34 : mixed (F := F) (masked (val_main_v21 (F := F)) (Host.exp (addf (lsig (val_main_v12 (V0 (Proc.devRef .tc main_arg0))))
      (subf (sums (masked (val_main_v21 (F := F)) (lsig (val_main_v22 (V0 (Proc.devRef .tc main_arg0)))) (constant S_ .f32 0x00000000#32)))
        (masked (val_main_v21 (F := F)) (lsig (val_main_v22 (V0 (Proc.devRef .tc main_arg0)))) (constant S_ .f32 0x00000000#32)))))
      (constant S_ .f32 0x00000000#32)) (val_main_v9 (V0 (Proc.devRef .tc main_arg0)))
    = val_main_v34 (V0 (Proc.devRef .tc main_arg0)) := by
  have h23 : lsig (F := F) (val_main_v22 (V0 (Proc.devRef .tc main_arg0))) = val_main_v23_0 (V0 (Proc.devRef .tc main_arg0)) := rfl
  have h27 : lsig (F := F) (val_main_v12 (V0 (Proc.devRef .tc main_arg0))) = val_main_v27_0 (V0 (Proc.devRef .tc main_arg0)) := rfl
  rw [h23, h27]
  have h24 : masked (F := F) val_main_v21 (val_main_v23_0 (V0 (Proc.devRef .tc main_arg0))) (constant S_ .f32 0x00000000#32) = val_main_v24_0 (V0 (Proc.devRef .tc main_arg0)) := rfl
  rw [h24]
  have h25 : sums (F := F) (val_main_v24_0 (V0 (Proc.devRef .tc main_arg0))) = val_main_v25 (V0 (Proc.devRef .tc main_arg0)) := rfl
  rw [h25]
  rfl

/-- The kernel's fourth operand is the reference's attention output. -/
theorem V_main_v34 (m : (ℓ : Loc nD τ sig) → Buf (Elt F) ℓ) (c : Dev nD) :
    V m c main_v34 = val_main_v34 (F := F) (m ((c : Thread nD τ).loc main_arg0)) := by
  show after (List.flatten [hostOps0, hostOps0_1, hostOps0_2, hostOps0_3, hostOps0_4, hostOps0_5, hostOps0_6, hostOps0_7, hostOps0_8, hostOps0_9])
    (launchContents m c) (Proc.devRef .tc main_v34) = _
  simp only [List.flatten_cons, List.flatten_nil, after_append, List.append_nil]
  rw [at9_v34, at8_v30, keep8_v9, at7_v29, at7_cst, keep7_v21, keep7_v9, at6_v27, keep6_v26, keep6_v21, keep6_v9,
    at5_v26, keep5_v12, keep5_v21, keep5_v9, at4_v25, keep4_v24, keep4_v12, keep4_v21, keep4_v9,
    at3_v24, keep3_v12, keep3_v21, keep3_v9, at2_cst, keep2_v23, keep2_v12, keep2_v21, keep2_v9,
    at1_v23, keep1_v12, keep1_v21, keep1_v9, at0_v22, at0_v12, at0_v21, at0_v9]
  exact all_v34 (launchContents m c)

end Cert.KernelIdeal.Hand

end
-- ==== Proof.Scalars.lean ====
/-
  The scalar functions of the attention at the extended reals: the logarithm of the sigmoid of a negated score, the
  softplus the reference writes it with, and their exponentials.
-/
module

public import Idealize.ShloMosaic.Lib.ValueIdx
public import Idealize.ShloMosaic.PureOps.Ideal.Laws
public import Mathlib.Data.EReal.Basic
public import Mathlib.Data.EReal.Operations
public import Mathlib.Analysis.SpecialFunctions.Log.Basic

@[expose] public section

set_option maxRecDepth 16384

noncomputable section

namespace Cert.Stick

open Idealize.ShloMosaic

theorem exp_bot : Ideal.exp ⊥ = 0 := rfl
theorem exp_top : Ideal.exp ⊤ = ⊤ := rfl
theorem exp_coe (r : ℝ) : Ideal.exp (r : EReal) = (Real.exp r : EReal) := rfl
theorem log_pos {r : ℝ} (h : 0 < r) : Ideal.log (r : EReal) = (Real.log r : EReal) := if_neg (not_le.mpr h)

/-- The logarithm of one minus the sigmoid of a score: `min (-z) 0 - log (1 + exp (-|z|))`. -/
def lsn (z : EReal) : EReal := min (0 - z) 0 - Ideal.log (1 + Ideal.exp (0 - max z (-z)))
/-- The logarithm of the sigmoid of a score. -/
def lsp (z : EReal) : EReal := lsn z + z
/-- The softplus. -/
def sp (u : EReal) : EReal := max u 0 + Ideal.log (1 + Ideal.exp (-(max u (-u))))
/-- Infinity replaced by zero. -/
def ri (u : EReal) : EReal := if u = ⊤ then 0 else u
/-- The softplus's derivative as the reference computes it. -/
def dsp (u : EReal) : EReal := Ideal.exp (ri u - ri (sp u))
/-- The exponential as a real. -/
def expR (x : EReal) : ℝ := (Ideal.exp x).toReal

theorem log_one_add_zero : Ideal.log (1 + 0) = 0 := by
  rw [add_zero, show (1 : EReal) = ((1 : ℝ) : EReal) from rfl, log_pos one_pos, Real.log_one]; rfl

/-- The real part of the logarithm of the sigmoid. -/
def lr (r : ℝ) : ℝ := Real.log (1 + Real.exp (-|r|))

theorem lr_pos (r : ℝ) : 0 < lr r := Real.log_pos (by linarith [Real.exp_pos (-|r|)])

theorem log_one_add_exp (r : ℝ) : Ideal.log (1 + Ideal.exp (-(max (r : EReal) (-(r : EReal))))) = (lr r : EReal) := by
  have e : -(max (r : EReal) (-(r : EReal))) = ((-|r| : ℝ) : EReal) := by
    rw [abs_eq_max_neg, EReal.coe_neg, EReal.coe_strictMono.monotone.map_max, EReal.coe_neg]
  rw [e, exp_coe, show (1 : EReal) = ((1 : ℝ) : EReal) from rfl, ← EReal.coe_add, log_pos (by linarith [Real.exp_pos (-|r|)])]
  rfl

theorem lsn_coe (r : ℝ) : lsn (r : EReal) = ((min (-r) 0 - lr r : ℝ) : EReal) := by
  unfold lsn
  rw [zero_sub, zero_sub, log_one_add_exp, EReal.coe_sub, EReal.coe_strictMono.monotone.map_min, EReal.coe_neg, EReal.coe_zero]
theorem lsn_top : lsn ⊤ = ⊥ := by
  unfold lsn; rw [zero_sub, zero_sub, EReal.neg_top, max_eq_left bot_le, EReal.neg_top, exp_bot, log_one_add_zero, min_eq_left bot_le, sub_zero]
theorem lsn_bot : lsn ⊥ = 0 := by
  unfold lsn; rw [zero_sub, zero_sub, EReal.neg_bot, max_eq_right bot_le, EReal.neg_top, exp_bot, log_one_add_zero, min_eq_right le_top, sub_zero]
theorem lsp_coe (r : ℝ) : lsp (r : EReal) = ((min 0 r - lr r : ℝ) : EReal) := by
  unfold lsp; rw [lsn_coe, ← EReal.coe_add]
  congr 1
  rcases le_total r 0 with h | h
  · rw [min_eq_right (by linarith), min_eq_right h]; ring
  · rw [min_eq_left (by linarith), min_eq_left h]; ring
theorem lsp_top : lsp ⊤ = ⊥ := by unfold lsp; rw [lsn_top, EReal.bot_add]
theorem lsp_bot : lsp ⊥ = ⊥ := by unfold lsp; rw [EReal.add_bot]

theorem lsn_nonpos (z : EReal) : lsn z ≤ 0 := by
  induction z with
  | bot => rw [lsn_bot]
  | top => rw [lsn_top]; exact bot_le
  | coe r =>
    rw [lsn_coe]
    exact_mod_cast (by linarith [lr_pos r, min_le_right (-r) 0] : min (-r) 0 - lr r ≤ 0)
theorem lsp_nonpos (z : EReal) : lsp z ≤ 0 := by
  induction z with
  | bot => rw [lsp_bot]; exact bot_le
  | top => rw [lsp_top]; exact bot_le
  | coe r =>
    rw [lsp_coe]
    exact_mod_cast (by linarith [lr_pos r, min_le_left 0 r] : min 0 r - lr r ≤ 0)

theorem lsn_eq_bot (z : EReal) : lsn z = ⊥ ↔ z = ⊤ := by
  induction z with
  | bot => rw [lsn_bot]; simp
  | top => rw [lsn_top]; simp
  | coe r => rw [lsn_coe]; exact iff_of_false (EReal.coe_ne_bot _) (EReal.coe_ne_top _)

theorem sp_coe (r : ℝ) : sp (r : EReal) = ((max r 0 + lr r : ℝ) : EReal) := by
  unfold sp; rw [log_one_add_exp, EReal.coe_add, EReal.coe_strictMono.monotone.map_max, EReal.coe_zero]
theorem sp_top : sp ⊤ = ⊤ := by
  unfold sp; rw [EReal.neg_top, max_eq_left bot_le, EReal.neg_top, exp_bot, log_one_add_zero, add_zero, max_eq_left le_top]
theorem sp_bot : sp ⊥ = 0 := by
  unfold sp; rw [EReal.neg_bot, max_eq_right bot_le, max_eq_right bot_le, EReal.neg_top, exp_bot, log_one_add_zero, add_zero]

theorem neg_sp (z : EReal) : -sp z = lsn z := by
  induction z with
  | bot => rw [sp_bot, lsn_bot, neg_zero]
  | top => rw [sp_top, lsn_top, EReal.neg_top]
  | coe r =>
    rw [sp_coe, lsn_coe, ← EReal.coe_neg]; congr 1
    rcases le_total r 0 with h | h
    · rw [max_eq_right h, min_eq_right (by linarith)]; ring
    · rw [max_eq_left h, min_eq_left (by linarith)]; ring
theorem neg_sp_neg (z : EReal) (h : z ≠ ⊤) : -sp (-z) = lsp z := by
  induction z with
  | bot => rw [EReal.neg_bot, sp_top, lsp_bot, EReal.neg_top]
  | top => exact absurd rfl h
  | coe r =>
    rw [← EReal.coe_neg, sp_coe, lsp_coe, ← EReal.coe_neg]; congr 1
    have : lr (-r) = lr r := by unfold lr; rw [abs_neg]
    rw [this]
    rcases le_total r 0 with h | h
    · rw [max_eq_left (by linarith), min_eq_right h]; ring
    · rw [max_eq_right (by linarith), min_eq_left h]; ring

theorem ri_coe (r : ℝ) : ri (r : EReal) = r := if_neg (EReal.coe_ne_top r)
theorem ri_top : ri ⊤ = 0 := if_pos rfl
theorem ri_bot : ri ⊥ = ⊥ := if_neg (by simp)
theorem ri_zero : ri 0 = 0 := if_neg (by simp)

theorem dsp_neg (z : EReal) : dsp (-z) = Ideal.exp (lsn z) := by
  unfold dsp
  induction z with
  | bot => rw [EReal.neg_bot, sp_top, ri_top, sub_zero, lsn_bot]
  | top => rw [EReal.neg_top, sp_bot, ri_bot, ri_zero, sub_zero, lsn_top]
  | coe r =>
    rw [← EReal.coe_neg, sp_coe, ri_coe, ri_coe, lsn_coe, ← EReal.coe_sub]; congr 2
    have : lr (-r) = lr r := by unfold lr; rw [abs_neg]
    rw [this]
    rcases le_total r 0 with h | h
    · rw [max_eq_left (by linarith), min_eq_right (by linarith)]; ring
    · rw [max_eq_right (by linarith), min_eq_left (by linarith)]; ring
theorem dsp_of_ne_top (z : EReal) (h : z ≠ ⊤) : dsp z = Ideal.exp (lsp z) := by
  unfold dsp
  induction z with
  | bot => rw [sp_bot, ri_bot, ri_zero, sub_zero, lsp_bot]
  | top => exact absurd rfl h
  | coe r =>
    rw [sp_coe, ri_coe, ri_coe, lsp_coe, ← EReal.coe_sub]; congr 2
    rcases le_total r 0 with h | h
    · rw [max_eq_right h, min_eq_right h]; ring
    · rw [max_eq_left h, min_eq_left h]; ring
theorem dsp_top : dsp ⊤ = 1 := by
  unfold dsp; rw [sp_top, ri_top, sub_zero, show (0 : EReal) = ((0 : ℝ) : EReal) from rfl, exp_coe, Real.exp_zero]; rfl

/-- The exponential of what is not positive is a real. -/
theorem exp_nonpos {x : EReal} (h : x ≤ 0) : Ideal.exp x = (expR x : EReal) := by
  unfold expR
  induction x with
  | bot => rw [exp_bot]; rfl
  | top => exact absurd h (by simp)
  | coe r => rw [exp_coe, EReal.toReal_coe]
theorem expR_bot : expR ⊥ = 0 := by unfold expR; rw [exp_bot]; rfl

/-- A sum of reals is real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
/-- A sum of what is not positive is minus infinity when one term is. -/
theorem sum_eq_bot {ι : Type*} (s : Finset ι) (f : ι → EReal) (i : ι) (hi : i ∈ s) (h : f i = ⊥) : ∑ j ∈ s, f j = ⊥ := by
  classical
  rw [← Finset.insert_erase hi, Finset.sum_insert (Finset.notMem_erase i s), h, EReal.bot_add]

/-- What the two parts of a split add up to where the multiplier is zero or one. -/
theorem split_two {L : EReal} (h : L ≤ 0) (p : Prop) [Decidable p] : L * (if p then 1 else 0) + (L - L) * (if p then 1 else 0) = if p then L else 0 := by
  split
  · rw [mul_one, mul_one]
    induction L with
    | bot => rw [EReal.bot_add]
    | top => exact absurd h (by simp)
    | coe r => rw [← EReal.coe_sub, sub_self, EReal.coe_zero, add_zero]
  · rw [mul_zero, mul_zero, add_zero]

/-- The sum to the right of a term and the term, less the term. -/
theorem add_sub_self {L S : EReal} (hL : L ≤ 0) (hS : S ≤ 0) (hb : L ≠ ⊥) : L + S - L = S := by
  induction L with
  | bot => exact absurd rfl hb
  | top => exact absurd hL (by simp)
  | coe r =>
    induction S with
    | bot => rw [EReal.add_bot]; rfl
    | top => exact absurd hS (by simp)
    | coe q => rw [← EReal.coe_add, ← EReal.coe_sub, add_sub_cancel_left]

end Cert.Stick
end
-- ==== Proof.Heads.lean ====
/-
  One head of the attention and of its gradient, as sums over rows and columns numbered by the naturals. The queries and
  the keys are any extended reals; the values and the cotangent of the result are reals.
-/
module

public import proofs.«01_k».proof.Proof.Scalars
public import Mathlib.Algebra.BigOperators.Intervals

@[expose] public section

set_option maxRecDepth 16384

noncomputable section

namespace Cert.Stick

open Idealize.ShloMosaic Finset

/-- The scale of the scores. -/
def scE : EReal := Ideal.ofBits .f32 0x3DB504F3#32
/-- It is a real. -/
def scR : ℝ := scE.toReal
theorem scE_eq : scE = (scR : EReal) := by
  unfold scR scE
  have : Ideal.ofBits .f32 0x3DB504F3#32 ≠ ⊤ ∧ Ideal.ofBits .f32 0x3DB504F3#32 ≠ ⊥ := by
    constructor <;> simp [Ideal.ofBits, Ideal.ieee, -EReal.coe_mul]
  exact (EReal.coe_toReal this.1 this.2).symm

variable (Q K : ℕ → ℕ → EReal) (W D : ℕ → ℕ → ℝ)

/-- The scores. -/
def mZ (t s : ℕ) : EReal := (∑ c : Fin 128, Q t c * K s c) * scE
/-- The logarithm of what an earlier key leaves. -/
def mL (t s : ℕ) : EReal := if s < t then lsn (mZ Q K t s) else 0
/-- What the keys between leave. -/
def mLat (t s : ℕ) : EReal := ∑ j ∈ Ico (s + 1) 2048, mL Q K t j
/-- The weights. -/
def mA (t s : ℕ) : ℝ := if s < t then expR (lsp (mZ Q K t s) + mLat Q K t s) else 0
/-- The weights' cotangents. -/
def mDa (t s : ℕ) : ℝ := ∑ c : Fin 128, D t c * W s c
/-- The weights' cotangents times the weights. -/
def mDl (t s : ℕ) : ℝ := mDa W D t s * mA Q K t s
/-- Their sum over the keys before. -/
def mBef (t s : ℕ) : ℝ := ∑ j ∈ range s, mDl Q K W D t j
/-- The scores' cotangents. -/
def mDz (t s : ℕ) : ℝ := if s < t then (mDl Q K W D t s * expR (lsn (mZ Q K t s)) - expR (lsp (mZ Q K t s)) * mBef Q K W D t s) * scR else 0
/-- The result. -/
def mO (t c : ℕ) : ℝ := ∑ s ∈ range 2048, mA Q K t s * W s c
/-- The three gradients. -/
def mDq (t c : ℕ) : EReal := ∑ s ∈ range 2048, (mDz Q K W D t s : EReal) * K s c
def mDk (s c : ℕ) : EReal := ∑ t ∈ range 2048, (mDz Q K W D t s : EReal) * Q t c
def mDv (s c : ℕ) : EReal := ∑ t ∈ range 2048, (mA Q K t s : EReal) * (D t c : EReal)

theorem mL_nonpos (t s : ℕ) : mL Q K t s ≤ 0 := by unfold mL; split; exacts [lsn_nonpos _, le_refl _]
theorem mL_of_le {t s : ℕ} (h : t ≤ s) : mL Q K t s = 0 := if_neg (not_lt.mpr h)
theorem sum_mL_nonpos (t : ℕ) (S : Finset ℕ) : ∑ j ∈ S, mL Q K t j ≤ 0 := Finset.sum_nonpos fun j _ => mL_nonpos Q K t j
theorem mLat_nonpos (t s : ℕ) : mLat Q K t s ≤ 0 := sum_mL_nonpos Q K t _
theorem mA_of_le {t s : ℕ} (h : t ≤ s) : mA Q K t s = 0 := if_neg (not_lt.mpr h)
theorem mDl_of_le {t s : ℕ} (h : t ≤ s) : mDl Q K W D t s = 0 := by unfold mDl; rw [mA_of_le Q K h, mul_zero]
theorem mDz_of_le {t s : ℕ} (h : t ≤ s) : mDz Q K W D t s = 0 := if_neg (not_lt.mpr h)

/-- The exponential the weights are. -/
theorem exp_mA (t s : ℕ) : Ideal.exp (lsp (mZ Q K t s) + mLat Q K t s) = (expR (lsp (mZ Q K t s) + mLat Q K t s) : EReal) :=
  exp_nonpos (add_nonpos (lsp_nonpos _) (mLat_nonpos Q K t s))

/-- A score of infinity takes all that is left: every weight before it is zero. -/
theorem mA_eq_zero {t s j : ℕ} (ht : t ≤ 2048) (hs : s < t) (h : mZ Q K t s = ⊤) (hj : j < s) : mA Q K t j = 0 := by
  unfold mA
  rw [if_pos (by omega)]
  have : mLat Q K t j = ⊥ := by
    refine sum_eq_bot _ _ s (mem_Ico.mpr ⟨hj, by omega⟩) ?_
    unfold mL; rw [if_pos hs, h, lsn_top]
  rw [this, EReal.add_bot, expR_bot]
theorem mBef_eq_zero {t s : ℕ} (ht : t ≤ 2048) (hs : s < t) (h : mZ Q K t s = ⊤) : mBef Q K W D t s = 0 :=
  Finset.sum_eq_zero fun j hj => by unfold mDl; rw [mA_eq_zero Q K ht hs h (mem_range.mp hj), mul_zero]

/-- The row sum of the cotangent times the result is the row sum of the weights' cotangents times the weights. -/
theorem dtot_eq (t : ℕ) : ∑ c : Fin 128, D t c * mO Q K W t c = ∑ s ∈ range 2048, mDl Q K W D t s := by
  unfold mO mDl mDa
  simp only [mul_sum, sum_mul]
  rw [sum_comm]
  exact sum_congr rfl fun s _ => sum_congr rfl fun c _ => by ring
/-- What is left of it after the keys from `s` on. -/
theorem before_eq {t s : ℕ} (hs : s ≤ 2048) : ∑ c : Fin 128, D t c * mO Q K W t c - ∑ j ∈ Ico s 2048, mDl Q K W D t j = mBef Q K W D t s := by
  rw [dtot_eq, range_eq_Ico, ← sum_Ico_consecutive _ (Nat.zero_le s) hs, add_sub_cancel_right]
  unfold mBef; rw [range_eq_Ico]

/-- The reference's weight: the logarithm is added to the sum and taken off again. -/
theorem ref_weight {t s : ℕ} (hs : s < t) (ht : t ≤ 2048) :
    Ideal.exp (-sp (-(mZ Q K t s)) + (∑ j ∈ Ico s 2048, mL Q K t j - mL Q K t s)) = (mA Q K t s : EReal) := by
  rw [sum_eq_sum_Ico_succ_bot (by omega : s < 2048)]
  have e : mL Q K t s = lsn (mZ Q K t s) := if_pos hs
  unfold mA
  rw [if_pos hs]
  by_cases h : mZ Q K t s = ⊤
  · rw [e, h, lsn_top, EReal.bot_add, lsp_top, EReal.bot_add, expR_bot]
    rw [show (⊥ : EReal) - ⊥ = ⊥ from rfl, EReal.add_bot, exp_bot]; rfl
  · rw [add_sub_self (mL_nonpos Q K t s) (sum_mL_nonpos Q K t _) (by rw [e]; exact fun h' => h ((lsn_eq_bot _).mp h')), neg_sp_neg _ h]
    exact exp_mA Q K t s

/-- The reference's cotangent of a score. -/
theorem ref_dz {t s : ℕ} (hs : s < t) (ht : t ≤ 2048) :
    ((mDl Q K W D t s : EReal) * dsp (-(mZ Q K t s)) - (mBef Q K W D t s : EReal) * dsp (mZ Q K t s)) * scE = (mDz Q K W D t s : EReal) := by
  have e : (mBef Q K W D t s : EReal) * dsp (mZ Q K t s) = (expR (lsp (mZ Q K t s)) * mBef Q K W D t s : ℝ) := by
    by_cases h : mZ Q K t s = ⊤
    · rw [mBef_eq_zero Q K W D ht hs h, mul_zero, EReal.coe_zero, zero_mul]
    · rw [dsp_of_ne_top _ h, exp_nonpos (lsp_nonpos _), ← EReal.coe_mul, mul_comm]
  unfold mDz
  rw [if_pos hs, e, dsp_neg, exp_nonpos (lsn_nonpos _), ← EReal.coe_mul, ← EReal.coe_sub, scE_eq, ← EReal.coe_mul]

/-- A sum over the positions of a block is the sum over its columns. -/
theorem sum_block {M : Type*} [AddCommMonoid M] (b n : ℕ) (f : ℕ → M) : ∑ j : Fin n, f (b + j.val) = ∑ j ∈ Ico b (b + n), f j := by
  rw [sum_Ico_eq_sum_range, Nat.add_sub_cancel_left, ← Fin.sum_univ_eq_sum_range (fun j => f (b + j)) n]
/-- The part of it after a position. -/
theorem sum_block_gt {M : Type*} [AddCommMonoid M] (b n s : ℕ) (hs : s < n) (f : ℕ → M) :
    ∑ j : Fin n, (if s < j.val then f (b + j.val) else 0) = ∑ j ∈ Ico (b + s + 1) (b + n), f j := by
  have e : ∀ j : Fin n, (if s < j.val then f (b + j.val) else 0) = (fun i => if b + s < i then f i else 0) (b + j.val) := fun j => by
    dsimp only; congr 1; exact propext ⟨fun h => by omega, fun h => by omega⟩
  rw [sum_congr rfl fun j _ => e j, sum_block b n (fun i => if b + s < i then f i else 0), ← sum_filter]
  refine sum_congr (ext fun i => ?_) fun _ _ => rfl
  simp only [mem_filter, mem_Ico]; omega
/-- The part of it from a position on. -/
theorem sum_block_ge {M : Type*} [AddCommMonoid M] (b n s : ℕ) (hs : s < n) (f : ℕ → M) :
    ∑ j : Fin n, (if s ≤ j.val then f (b + j.val) else 0) = ∑ j ∈ Ico (b + s) (b + n), f j := by
  have e : ∀ j : Fin n, (if s ≤ j.val then f (b + j.val) else 0) = (fun i => if b + s ≤ i then f i else 0) (b + j.val) := fun j => by
    dsimp only; congr 1; exact propext ⟨fun h => by omega, fun h => by omega⟩
  rw [sum_congr rfl fun j _ => e j, sum_block b n (fun i => if b + s ≤ i then f i else 0), ← sum_filter]
  refine sum_congr (ext fun i => ?_) fun _ _ => rfl
  simp only [mem_filter, mem_Ico]; omega

end Cert.Stick
end
-- ==== Proof.Pay.lean ====
/-
  The values the body computes, read at an index over the extended reals.
-/
module

public import proofs.«01_k».proof.Proof.Model
public import proofs.«01_k».proof.Proof.Heads
public import Idealize.ShloMosaic.Lib.MatmulPlain
public import Idealize.ShloMosaic.Lib.WordCmp
public import Idealize.ShloMosaic.Lib.IdealHost
public import Idealize.ShloMosaic.Lib.Pipeline.Value

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.ValueIdx Idealize.ShloMosaic.WordCmp

theorem zero_f32 : Ideal.ofBits .f32 0x00000000#32 = 0 := Ideal.ofBits_zero_f32
theorem one_f32 : Ideal.ofBits .f32 0x3F800000#32 = 1 := Ideal.ofBits_one_f32

/-- A product of the columns of two blocks: over the rows. -/
theorem dot_tn {φ₁ φ₂ : FTy} (lhs : FVec Ideal S512x256 φ₁) (rhs : FVec Ideal S512x128 φ₂) (acc : FVec Ideal S256x128 .f32) (s : Fin 256) (c : Fin 128) :
    FloatOps.matmul dot_S512x256_S512x128_S256x128_0_0_1_1_n_n none lhs rhs acc (ix2 s c) = acc (ix2 s c) + ∑ r : Fin 512, lhs (ix2 r s) * rhs (ix2 r c) := by
  have hr : dot_S512x256_S512x128_S256x128_0_0_1_1_n_n.contr.rank = 1 := rfl
  have hs : dot_S512x256_S512x128_S256x128_0_0_1_1_n_n.contr.size ⟨0, by omega⟩ = 512 := rfl
  rw [Ideal.matmul_apply, ← Equiv.sum_comp (contrEquiv1 _ 512 hr hs).symm]
  refine congrArg (acc (ix2 s c) + ·) (Finset.sum_congr rfl fun k _ => ?_)
  have hk := contrEquiv1_symm_val _ 512 hr hs k
  have el : dot_S512x256_S512x128_S256x128_0_0_1_1_n_n.lhsIdx (ix2 s c) ((contrEquiv1 _ 512 hr hs).symm k) = ix2 k s := by
    funext a; apply Fin.ext
    match a with
    | ⟨0, _⟩ => exact hk
    | ⟨1, _⟩ => rfl
  have er : dot_S512x256_S512x128_S256x128_0_0_1_1_n_n.rhsIdx (ix2 s c) ((contrEquiv1 _ 512 hr hs).symm k) = ix2 k c := by
    funext a; apply Fin.ext
    match a with
    | ⟨0, _⟩ => exact hk
    | ⟨1, _⟩ => rfl
  rw [el, er]
/-- A product of the rows of two blocks. -/
theorem dot_nt {φ₁ φ₂ : FTy} (lhs : FVec Ideal S512x128 φ₁) (rhs : FVec Ideal S256x128 φ₂) (acc : FVec Ideal S512x256 .f32) (r : Fin 512) (s : Fin 256) :
    FloatOps.matmul dot_S512x128_S256x128_S512x256_1_1_0_0_n_n none lhs rhs acc (ix2 r s) = acc (ix2 r s) + ∑ c : Fin 128, lhs (ix2 r c) * rhs (ix2 s c) :=
  Ideal.matmul_transposedRhs_apply none lhs rhs acc r s
/-- A plain product. -/
theorem dot_tri {φ₁ φ₂ : FTy} (lhs : FVec Ideal S512x256 φ₁) (rhs : FVec Ideal S256x256 φ₂) (acc : FVec Ideal S512x256 .f32) (r : Fin 512) (s : Fin 256) :
    FloatOps.matmul dot_S512x256_S256x256_S512x256_1_0_0_1_n_n none lhs rhs acc (ix2 r s) = acc (ix2 r s) + ∑ j : Fin 256, lhs (ix2 r j) * rhs (ix2 j s) :=
  Ideal.matmul_plain_apply none lhs rhs acc r s
theorem dot_nn {φ₁ φ₂ : FTy} (lhs : FVec Ideal S512x256 φ₁) (rhs : FVec Ideal S256x128 φ₂) (acc : FVec Ideal S512x128 .f32) (r : Fin 512) (c : Fin 128) :
    FloatOps.matmul dot_S512x256_S256x128_S512x128_1_0_0_1_n_n none lhs rhs acc (ix2 r c) = acc (ix2 r c) + ∑ j : Fin 256, lhs (ix2 r j) * rhs (ix2 j c) :=
  Ideal.matmul_plain_apply none lhs rhs acc r c

theorem pay5_apply (q : FVec Ideal S512x128 .bf16) (k : FVec Ideal S256x128 .bf16) (r : Fin 512) (s : Fin 256) :
    k0_pay5 (F := Ideal) q k (ix2 r s) = (∑ c : Fin 128, q (ix2 r c) * k (ix2 s c)) * scE := by
  refine (congrArg (· * scE) (dot_nt q k (constant S512x256 .f32 0x00000000#32) r s)).trans ?_
  rw [constant_apply, zero_f32, zero_add]
theorem pay6_apply (q : FVec Ideal S512x128 .bf16) (k : FVec Ideal S256x128 .bf16) (r : Fin 512) (s : Fin 256) :
    k0_pay6 (F := Ideal) q k (ix2 r s) = ∑ c : Fin 128, q (ix2 r c) * k (ix2 s c) := by
  refine (dot_nt q k (constant S512x256 .f32 0x00000000#32) r s).trans ?_
  rw [constant_apply, zero_f32, zero_add]
theorem pay19_eq : k0_pay19 (F := Ideal) = k0_pay5 := rfl
theorem pay20_eq : k0_pay20 (F := Ideal) = k0_pay6 := rfl

theorem pay8_apply (q : FVec Ideal S512x128 .bf16) (dz : FVec Ideal S512x256 .bf16) (g : FVec Ideal S256x128 .f32) (s : Fin 256) (c : Fin 128) :
    k0_pay8 (F := Ideal) q dz g (ix2 s c) = g (ix2 s c) + ∑ r : Fin 512, dz (ix2 r s) * q (ix2 r c) := by
  unfold k0_pay8
  rw [shapeCast_self]
  refine (congrArg (g (ix2 s c) + ·) (dot_tn dz q (constant S256x128 .f32 0x00000000#32) s c)).trans ?_
  rw [constant_apply, zero_f32, zero_add]
theorem pay11_apply (acc : FVec Ideal S512x128 .f32) (k : FVec Ideal S256x128 .bf16) (dz : FVec Ideal S512x256 .bf16) (r : Fin 512) (c : Fin 128) :
    k0_pay11 (F := Ideal) acc k dz (ix2 r c) = acc (ix2 r c) + ∑ j : Fin 256, dz (ix2 r j) * k (ix2 j c) := by
  refine (congrArg (acc (ix2 r c) + ·) (dot_nn dz k (constant S512x128 .f32 0x00000000#32) r c)).trans ?_
  rw [constant_apply, zero_f32, zero_add]

/-- A vector of 512 as a column. -/
theorem col_apply (x : S512.Idx → EReal) (r : Fin 512) : shapeCast S512x1 x shapeCasts_S512_S512x1 (ix2 r 0) = x (ix1 r) :=
  shapeCast_apply x shapeCasts_S512_S512x1 _ _ (by rw [Shape.rowMajor_val_one, Shape.rowMajor_val_two]; show r.val = r.val * 1 + 0; omega)
theorem pay9_apply (a : FVec Ideal S512x1 .f32) (x : FVec Ideal S512x256 .f32) (r : Fin 512) :
    k0_pay9 (F := Ideal) a x (ix2 r 0) = a (ix2 r 0) + ∑ s : Fin 256, x (ix2 r s) := by
  refine congrArg (a (ix2 r 0) + ·) ((col_apply _ r).trans ((Ideal.multiReduction_add_single x _ _ _ _ _).trans ?_))
  refine Finset.sum_congr rfl fun k _ => congrArg x (funext fun a => Fin.ext ?_)
  match a with
  | ⟨0, _⟩ => rfl
  | ⟨1, _⟩ => rfl
theorem pay10_eq : k0_pay10 (F := Ideal) = k0_pay9 := rfl
theorem pay47_apply (d : FVec Ideal S512x128 .bf16) (o : FVec Ideal S512x128 .f32) (r : Fin 512) :
    k0_pay47 (F := Ideal) d o (ix2 r 0) = ∑ c : Fin 128, d (ix2 r c) * o (ix2 r c) := by
  unfold k0_pay47
  rw [shapeCast_self]
  refine ((col_apply _ r).trans ((Ideal.multiReduction_add_single _ _ _ _ _ _).trans ?_))
  refine Finset.sum_congr rfl fun k _ => congrArg (fun j => d j * o j) (funext fun a => Fin.ext ?_)
  match a with
  | ⟨0, _⟩ => rfl
  | ⟨1, _⟩ => rfl

/-- A choice by a comparison's bit. -/
theorem select_iff {α : Type} {b : BitVec 1} {p : Prop} [Decidable p] (h : b = 1#1 ↔ p) (x y : α) : Scalar.select b x y = if p then x else y := by
  show (if b = 1#1 then x else y) = _
  exact if_congr h rfl rfl

/-- The two triangles. -/
theorem pay3_apply (i j : Fin 256) : k0_pay3 (F := Ideal) (ix2 i j) = if j.val < i.val then 1 else 0 := by
  have e : IntOp.cmpi .sgt (BitVec.ofNat 32 i.val) (BitVec.ofNat 32 j.val) = 1#1 ↔ j.val < i.val := cmpi_sgt_ofNat_eq_one_iff (by omega) (by omega)
  show Scalar.select (IntOp.cmpi .sgt (iota .tc S256x256 32 [0] iota_S256x256_d0_w32 (ix2 i j)) (iota .tc S256x256 32 [1] iota_S256x256_d1_w32 (ix2 i j))) (Ideal.ofBits .f32 0x3F800000#32) (Ideal.ofBits .f32 0x00000000#32) = _
  rw [iota_single_apply, iota_single_apply, one_f32, zero_f32]
  exact select_iff e _ _
theorem pay4_apply (i j : Fin 256) : k0_pay4 (F := Ideal) (ix2 i j) = if j.val ≤ i.val then 1 else 0 := by
  have e : IntOp.cmpi .sge (BitVec.ofNat 32 i.val) (BitVec.ofNat 32 j.val) = 1#1 ↔ j.val ≤ i.val := cmpi_sge_ofNat_eq_one_iff (by omega) (by omega)
  show Scalar.select (IntOp.cmpi .sge (iota .tc S256x256 32 [0] iota_S256x256_d0_w32 (ix2 i j)) (iota .tc S256x256 32 [1] iota_S256x256_d1_w32 (ix2 i j))) (Ideal.ofBits .f32 0x3F800000#32) (Ideal.ofBits .f32 0x00000000#32) = _
  rw [iota_single_apply, iota_single_apply, one_f32, zero_f32]
  exact select_iff e _ _

/-- The logarithms of the two sigmoids. -/
theorem pay22_apply (z : FVec Ideal S512x256 .f32) (i : S512x256.Idx) : k0_pay22 (F := Ideal) z i = lsn (z i) := by
  show min (Ideal.ofBits .f32 0x00000000#32 - z i) (Ideal.ofBits .f32 0x00000000#32) - Ideal.log (Ideal.ofBits .f32 0x3F800000#32 + Ideal.exp (Ideal.ofBits .f32 0x00000000#32 - max (z i) (-(z i)))) = _
  rw [one_f32, zero_f32]; rfl
theorem pay23_apply (z : FVec Ideal S512x256 .f32) (i : S512x256.Idx) : k0_pay23 (F := Ideal) z i = lsp (z i) := by
  show k0_pay22 (F := Ideal) z i + z i = _
  rw [pay22_apply]; rfl

/-- A column along the rows. -/
theorem bcol_apply (x : S512x1.Idx → EReal) (r : Fin 512) (s : Fin 256) : broadcastTo S512x256 x broadcasts_S512x1_S512x256 (ix2 r s) = x (ix2 r 0) :=
  broadcastTo_apply x broadcasts_S512x1_S512x256 _ _ fun a => match a with
    | ⟨0, _⟩ => rfl
    | ⟨1, _⟩ => rfl

/-- The weights of a block. -/
theorem pay29_apply (later : FVec Ideal S512x1 .f32) (mask : IVec S512x256 1) (p : FVec Ideal S512x256 .f32) (hi lo : FVec Ideal S512x256 .bf16) (r : Fin 512) (s : Fin 256)
    (h0 : ∀ j : Fin 256, hi (ix2 r j) ≤ 0) (h1 : ∀ j : Fin 256, lo (ix2 r j) = hi (ix2 r j) - hi (ix2 r j)) :
    k0_pay29 (F := Ideal) k0_pay3 later mask p hi lo (ix2 r s)
      = Scalar.select (mask (ix2 r s)) (Ideal.exp (p (ix2 r s) + ((∑ j : Fin 256, if s.val < j.val then hi (ix2 r j) else 0) + later (ix2 r 0)))) 0 := by
  have e1 := dot_tri hi (k0_pay3 (F := Ideal)) (constant S512x256 .f32 0x00000000#32) r s
  have e2 := dot_tri lo (k0_pay3 (F := Ideal)) (constant S512x256 .f32 0x00000000#32) r s
  rw [constant_apply, zero_f32, zero_add] at e1 e2
  have e3 : (∑ j : Fin 256, hi (ix2 r j) * k0_pay3 (F := Ideal) (ix2 j s)) + (∑ j : Fin 256, lo (ix2 r j) * k0_pay3 (F := Ideal) (ix2 j s)) = ∑ j : Fin 256, if s.val < j.val then hi (ix2 r j) else 0 := by
    rw [← Finset.sum_add_distrib]
    refine Finset.sum_congr rfl fun j _ => ?_
    rw [h1, pay3_apply]
    exact split_two (h0 j) _
  rw [← e3, ← e1, ← e2, ← bcol_apply later r s, ← zero_f32]
  rfl

/-- The scores' cotangents of a block. -/
theorem pay31_apply (dtot : FVec Ideal S512x1 .f32) (da : FVec Ideal S512x256 .f32) (later suf : FVec Ideal S512x1 .f32) (mask : IVec S512x256 1) (n p : FVec Ideal S512x256 .f32) (hi lo : FVec Ideal S512x256 .bf16)
    (r : Fin 512) (s : Fin 256) (dl : Fin 256 → ℝ) (h : ∀ j : Fin 256, k0_pay30 (F := Ideal) k0_pay3 da later mask p hi lo (ix2 r j) = (dl j : EReal)) :
    k0_pay31 (F := Ideal) k0_pay3 k0_pay4 dtot da later suf mask n p hi lo (ix2 r s)
      = Scalar.select (mask (ix2 r s)) (((dl s : EReal) * Ideal.exp (n (ix2 r s)) - Ideal.exp (p (ix2 r s)) * (dtot (ix2 r 0) - (suf (ix2 r 0) + ((∑ j : Fin 256, if s.val ≤ j.val then dl j else 0 : ℝ) : EReal)))) * scE) 0 := by
  generalize hx : k0_pay30 (F := Ideal) k0_pay3 da later mask p hi lo = x at h
  have hy : ∀ j : Fin 256, x (ix2 r j) - x (ix2 r j) = 0 := fun j => by rw [h, ← EReal.coe_sub, sub_self]; rfl
  have e1 := dot_tri (φ₁ := .bf16) x (k0_pay4 (F := Ideal)) (constant S512x256 .f32 0x00000000#32) r s
  have e2 := dot_tri (φ₁ := .bf16) (fun i => x i - x i : FVec Ideal S512x256 .bf16) (k0_pay4 (F := Ideal)) (constant S512x256 .f32 0x00000000#32) r s
  have e3 := dot_tri (φ₁ := .bf16) (fun i => (x i - x i) - (x i - x i) : FVec Ideal S512x256 .bf16) (k0_pay4 (F := Ideal)) (constant S512x256 .f32 0x00000000#32) r s
  rw [constant_apply, zero_f32, zero_add] at e1 e2 e3
  have f1 : (∑ j : Fin 256, x (ix2 r j) * k0_pay4 (F := Ideal) (ix2 j s)) = ((∑ j : Fin 256, if s.val ≤ j.val then dl j else 0 : ℝ) : EReal) := by
    rw [coe_sum]
    refine Finset.sum_congr rfl fun j _ => ?_
    rw [h, pay4_apply]; split
    · rw [mul_one]
    · rw [mul_zero]; rfl
  have f2 : (∑ j : Fin 256, (x (ix2 r j) - x (ix2 r j)) * k0_pay4 (F := Ideal) (ix2 j s)) = 0 :=
    Finset.sum_eq_zero fun j _ => by rw [hy, zero_mul]
  have f3 : (∑ j : Fin 256, ((x (ix2 r j) - x (ix2 r j)) - (x (ix2 r j) - x (ix2 r j))) * k0_pay4 (F := Ideal) (ix2 j s)) = 0 :=
    Finset.sum_eq_zero fun j _ => by rw [hy, sub_zero, zero_mul]
  have g : FloatOps.matmul (F := Ideal) (φ₁ := .bf16) (φ₂ := .bf16) dot_S512x256_S256x256_S512x256_1_0_0_1_n_n none x k0_pay4 (constant S512x256 .f32 0x00000000#32) (ix2 r s)
      + FloatOps.matmul (F := Ideal) (φ₁ := .bf16) (φ₂ := .bf16) dot_S512x256_S256x256_S512x256_1_0_0_1_n_n none (fun i => x i - x i) k0_pay4 (constant S512x256 .f32 0x00000000#32) (ix2 r s)
      + FloatOps.matmul (F := Ideal) (φ₁ := .bf16) (φ₂ := .bf16) dot_S512x256_S256x256_S512x256_1_0_0_1_n_n none (fun i => (x i - x i) - (x i - x i)) k0_pay4 (constant S512x256 .f32 0x00000000#32) (ix2 r s)
      = ((∑ j : Fin 256, if s.val ≤ j.val then dl j else 0 : ℝ) : EReal) := by
    rw [e1, e2, e3, f1, f2, f3, add_zero, add_zero]
  rw [← g, ← h s, ← bcol_apply suf r s, ← bcol_apply dtot r s, ← zero_f32, ← hx]
  rfl

/-- What a trip adds to the values' gradient. -/
theorem pay32_apply (d : FVec Ideal S512x128 .bf16) (later : FVec Ideal S512x1 .f32) (mask : IVec S512x256 1) (p : FVec Ideal S512x256 .f32) (hi lo : FVec Ideal S512x256 .bf16) (g : FVec Ideal S256x128 .f32) (s : Fin 256) (c : Fin 128) :
    k0_pay32 (F := Ideal) k0_pay3 d later mask p hi lo g (ix2 s c)
      = g (ix2 s c) + ∑ r : Fin 512, k0_pay29 (F := Ideal) k0_pay3 later mask p hi lo (ix2 r s) * d (ix2 r c) := by
  unfold k0_pay32
  rw [shapeCast_self]
  refine (congrArg (g (ix2 s c) + ·) (dot_tn (φ₁ := .bf16) (k0_pay29 (F := Ideal) k0_pay3 later mask p hi lo) d (constant S256x128 .f32 0x00000000#32) s c)).trans ?_
  rw [constant_apply, zero_f32, zero_add]

/-- The numbers of a block's rows and columns in words. -/
theorem mask_words : ∀ (k : Fin k0_t1_loop.trips) (n : Fin (k0_t2_loop k).trips),
    Scalar.muli (Scalar.subi (Scalar.subi (nkb k) 1#32) (Scf.iv 0#32 1#32 n)) 256#32 = BitVec.ofNat 32 (256 * (2 * (k.val + 1) - 1 - n.val))
      ∧ Scalar.muli (Scf.iv 0#32 1#32 k) 512#32 = BitVec.ofNat 32 (512 * k.val) := by decide +kernel

/-- The mask of the strictly earlier keys. -/
theorem mask_iff (k : Fin k0_t1_loop.trips) (n : Fin (k0_t2_loop k).trips) (r : Fin 512) (s : Fin 256) :
    maskP (iota Kind.tc S512x256 32 [0] iota_S512x256_d0_w32) (iota Kind.tc S512x256 32 [1] iota_S512x256_d1_w32) k n (ix2 r s) = 1#1
      ↔ 256 * (2 * (k.val + 1) - 1 - n.val) + s.val < 512 * k.val + r.val := by
  show IntOp.cmpi .slt (IntOp.addi (Scalar.muli (Scalar.subi (Scalar.subi (nkb k) 1#32) (Scf.iv 0#32 1#32 n)) 256#32) (iota Kind.tc S512x256 32 [1] iota_S512x256_d1_w32 (ix2 r s)))
      (IntOp.addi (Scalar.muli (Scf.iv 0#32 1#32 k) 512#32) (iota Kind.tc S512x256 32 [0] iota_S512x256_d0_w32 (ix2 r s))) = 1#1 ↔ _
  have hk : k.val < 4 := k.isLt
  rw [(mask_words k n).1, (mask_words k n).2, iota_single_apply, iota_single_apply]
  show IntOp.cmpi .slt (IntOp.addi _ (BitVec.ofNat 32 s.val)) (IntOp.addi _ (BitVec.ofNat 32 r.val)) = 1#1 ↔ _
  rw [addi_ofNat, addi_ofNat]
  exact cmpi_slt_ofNat_eq_one_iff (by omega) (by omega)

end Cert.KernelIdeal.Hand
end
-- ==== Proof.Loop.lean ====
/-
  The inner and the outer loop's values at every trip: running sums of one head's gradient.
-/
module

public import proofs.«01_k».proof.Proof.Pay
public import proofs.«01_k».proof.Proof.Out

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.ValueIdx Idealize.ShloMosaic.WordCmp
open Finset

/-- Rows of a block, at an index. -/
theorem window_rows {α : Type} (N b : ℕ) (x : S2048x128.Idx → α) (off : Fin 2 → ℕ) (inb : ∀ a, off a + (![N, 128] : Fin 2 → ℕ) a ≤ S2048x128.size a) (h : off = ![b, 0])
    (r : Fin N) (c : Fin 128) (hb : b + r.val < 2048) :
    VecWindow.window x off ![N, 128] inb (ix2 r c : (⟨2, ![N, 128]⟩ : Shape).Idx) = x (ix2 ⟨b + r.val, hb⟩ c) := by
  subst h
  refine congrArg x (funext fun a => Fin.ext ?_)
  match a with
  | ⟨0, _⟩ => show b + 1 * r.val = b + r.val; omega
  | ⟨1, _⟩ => show 0 + 1 * c.val = c.val; omega
/-- Rows written over a block, at an index inside them, -/
theorem put_in {α : Type} (N b : ℕ) (x : S2048x128.Idx → α) (off : Fin 2 → ℕ) (h : off = ![b, 0]) (w : (⟨2, ![N, 128]⟩ : Shape).Idx → α)
    (s : Fin 2048) (c : Fin 128) (h1 : b ≤ s.val) (h2 : s.val - b < N) :
    VecWindow.put x off ![N, 128] w (ix2 s c) = w (ix2 ⟨s.val - b, h2⟩ c) := by
  subst h
  have hm : ∀ a : Fin 2, (![b, 0] : Fin 2 → ℕ) a ≤ ((ix2 s c : S2048x128.Idx) a).val ∧ ((ix2 s c : S2048x128.Idx) a).val < (![b, 0] : Fin 2 → ℕ) a + (![N, 128] : Fin 2 → ℕ) a :=
    Fin.forall_fin_two.mpr ⟨⟨h1, show s.val < b + N by omega⟩, ⟨Nat.zero_le _, show c.val < 0 + 128 by omega⟩⟩
  refine (dif_pos hm).trans (congrArg w (funext fun a => Fin.ext ?_))
  match a with
  | ⟨0, _⟩ => rfl
  | ⟨1, _⟩ => rfl
/-- and outside them. -/
theorem put_out {α : Type} (N b : ℕ) (x : S2048x128.Idx → α) (off : Fin 2 → ℕ) (h : off = ![b, 0]) (w : (⟨2, ![N, 128]⟩ : Shape).Idx → α)
    (s : Fin 2048) (c : Fin 128) (h1 : ¬(b ≤ s.val ∧ s.val < b + N)) :
    VecWindow.put x off ![N, 128] w (ix2 s c) = x (ix2 s c) := by
  subst h
  exact dif_neg fun hm => h1 (hm 0)

theorem off1_at : ∀ k : Fin k0_t1_loop.trips, k0_off1 k = ![512 * k.val, 0] := by decide +kernel
theorem off2_at : ∀ k : Fin k0_t1_loop.trips, k0_off2 k = ![256 * (2 * (k.val + 1) - 1), 0] := by decide +kernel
theorem off3_at : ∀ (k : Fin k0_t1_loop.trips) (n : Fin (k0_t2_loop k).trips), k0_off3 k n = ![256 * (2 * (k.val + 1) - 1 - (n.val + 1)), 0] := by decide +kernel
theorem off4_at : ∀ (k : Fin k0_t1_loop.trips) (n : Fin (k0_t2_loop k).trips), k0_off4 k n = ![256 * (2 * (k.val + 1) - 1 - n.val), 0] := by decide +kernel

variable (Q K : ℕ → ℕ → EReal) (W D : ℕ → ℕ → ℝ)

/-- The five blocks hold one head. -/
structure Holds (q kk v : Blk Ideal .bf16) (o : Blk Ideal .f32) (d : Blk Ideal .bf16) : Prop where
  q : ∀ (t : Fin 2048) (c : Fin 128), q (ix2 t c) = Q t c
  k : ∀ (t : Fin 2048) (c : Fin 128), kk (ix2 t c) = K t c
  v : ∀ (t : Fin 2048) (c : Fin 128), v (ix2 t c) = (W t c : EReal)
  o : ∀ (t : Fin 2048) (c : Fin 128), o (ix2 t c) = (mO Q K W t c : EReal)
  d : ∀ (t : Fin 2048) (c : Fin 128), d (ix2 t c) = (D t c : EReal)

/-- What the inner loop carries before its trip `n`. -/
structure Inv (k n : ℕ) (a : Car Ideal) : Prop where
  z : ∀ (r : Fin 512) (s : Fin 256), a.1 (ix2 r s) = mZ Q K (512 * k + r) (256 * (2 * (k + 1) - 1 - n) + s)
  da : ∀ (r : Fin 512) (s : Fin 256), a.2.1 (ix2 r s) = (mDa W D (512 * k + r) (256 * (2 * (k + 1) - 1 - n) + s) : EReal)
  later : ∀ r : Fin 512, a.2.2.1 (ix2 r 0) = ∑ j ∈ Ico (256 * (2 * (k + 1) - n)) 2048, mL Q K (512 * k + r) j
  suf : ∀ r : Fin 512, a.2.2.2.1 (ix2 r 0) = ((∑ j ∈ Ico (256 * (2 * (k + 1) - n)) 2048, mDl Q K W D (512 * k + r) j : ℝ) : EReal)
  dq : ∀ (r : Fin 512) (c : Fin 128), a.2.2.2.2 (ix2 r c) = ∑ j ∈ Ico (256 * (2 * (k + 1) - n)) 2048, (mDz Q K W D (512 * k + r) j : EReal) * K j c

section
variable {Q K W D} {q kk v : Blk Ideal .bf16} {o : Blk Ideal .f32} {d : Blk Ideal .bf16} (H : Holds Q K W D q kk v o d)
include H

theorem scores_at (k b : ℕ) (x y : FVec Ideal S512x128 .bf16) (u : FVec Ideal S256x128 .bf16) (hb : b + 256 ≤ 2048) (hk : 512 * k + 512 ≤ 2048)
    (hx : ∀ (r : Fin 512) (c : Fin 128), x (ix2 r c) = Q (512 * k + r) c) (hu : ∀ (s : Fin 256) (c : Fin 128), u (ix2 s c) = K (b + s) c) (r : Fin 512) (s : Fin 256) :
    k0_pay5 (F := Ideal) x u (ix2 r s) = mZ Q K (512 * k + r) (b + s) := by
  rw [pay5_apply]
  exact congrArg (· * scE) (sum_congr rfl fun c _ => by rw [hx, hu])
theorem das_at (k b : ℕ) (x : FVec Ideal S512x128 .bf16) (u : FVec Ideal S256x128 .bf16)
    (hx : ∀ (r : Fin 512) (c : Fin 128), x (ix2 r c) = (D (512 * k + r) c : EReal)) (hu : ∀ (s : Fin 256) (c : Fin 128), u (ix2 s c) = (W (b + s) c : EReal)) (r : Fin 512) (s : Fin 256) :
    k0_pay6 (F := Ideal) x u (ix2 r s) = (mDa W D (512 * k + r) (b + s) : EReal) := by
  rw [pay6_apply]
  unfold mDa
  rw [coe_sum]
  exact sum_congr rfl fun c _ => by rw [hx, hu, EReal.coe_mul]

variable (k : Fin k0_t1_loop.trips)

theorem rows_at {e : EltTy} (x : Blk Ideal e) (r : Fin 512) (c : Fin 128) (h : 512 * k.val + r.val < 2048) : rowsP x k (ix2 r c) = x (ix2 ⟨512 * k.val + r.val, h⟩ c) :=
  window_rows 512 (512 * k.val) x _ _ (off1_at k) r c h
theorem rows_q (r : Fin 512) (c : Fin 128) : rowsP q k (ix2 r c) = Q (512 * k + r) c := by
  have hk : k.val < 4 := k.isLt
  rw [rows_at H k q r c (by omega)]; exact H.q _ _
theorem rows_d (r : Fin 512) (c : Fin 128) : rowsP d k (ix2 r c) = (D (512 * k + r) c : EReal) := by
  have hk : k.val < 4 := k.isLt
  rw [rows_at H k d r c (by omega)]; exact H.d _ _
theorem dtot_at (r : Fin 512) : dtotP o d k (ix2 r 0) = ((∑ c : Fin 128, D (512 * k + r) c * mO Q K W (512 * k + r) c : ℝ) : EReal) := by
  have hk : k.val < 4 := k.isLt
  unfold dtotP
  rw [pay47_apply, coe_sum]
  refine sum_congr rfl fun c _ => ?_
  rw [rows_d H k, rows_at H k o r c (by omega), EReal.coe_mul]
  exact congrArg _ (H.o _ _)

/-- Before the first trip. -/
theorem inv_zero : Inv Q K W D k.val 0 (initP q kk v d k) := by
  have hk : k.val < 4 := k.isLt
  refine ⟨fun r s => ?_, fun r s => ?_, fun r => ?_, fun r => ?_, fun r c => ?_⟩
  · refine scores_at H k.val (256 * (2 * (k.val + 1) - 1)) (rowsP q k) (rowsP q k) _ (by omega) (by omega) (rows_q H k) (fun s c => ?_) r s
    exact (window_rows 256 _ kk _ _ (off2_at k) s c (by omega)).trans (H.k _ _)
  · refine das_at H k.val (256 * (2 * (k.val + 1) - 1)) _ _ (rows_d H k) (fun s c => ?_) r s
    exact (window_rows 256 _ v _ _ (off2_at k) s c (by omega)).trans (H.v _ _)
  · refine zero_f32.trans (Eq.symm (sum_eq_zero fun j hj => mL_of_le Q K ?_))
    have := (mem_Ico.mp hj).1; omega
  · refine zero_f32.trans (Eq.symm ?_)
    rw [sum_eq_zero fun j hj => mDl_of_le Q K W D ?_]; · rfl
    have := (mem_Ico.mp hj).1; omega
  · refine zero_f32.trans (Eq.symm (sum_eq_zero fun j hj => ?_))
    rw [mDz_of_le Q K W D (by have := (mem_Ico.mp hj).1; omega), EReal.coe_zero, zero_mul]

variable (n : Fin (k0_t2_loop k).trips)

variable {a : Car Ideal} (I : Inv Q K W D k.val n.val a)
include I

theorem log_at (r : Fin 512) (s : Fin 256) : logP rowC colC k n a.1 (ix2 r s) = mL Q K (512 * k + r) (256 * (2 * (k.val + 1) - 1 - n.val) + s) := by
  show Scalar.select (maskP rowC colC k n (ix2 r s)) (k0_pay22 (F := Ideal) a.1 (ix2 r s)) (Ideal.ofBits .f32 0x00000000#32) = _
  rw [select_iff (mask_iff k n r s), pay22_apply, I.z, zero_f32]
  rfl

theorem n_lt : n.val < 2 * (k.val + 1) := lt_of_lt_of_eq n.isLt (trips2 k)

/-- The block's weights. -/
theorem A_at (r : Fin 512) (s : Fin 256) :
    k0_pay29 (F := Ideal) k0_pay3 a.2.2.1 (maskP rowC colC k n) (k0_pay23 a.1) (hiP rowC colC k n a.1) (loP rowC colC k n a.1) (ix2 r s)
      = (mA Q K (512 * k + r) (256 * (2 * (k.val + 1) - 1 - n.val) + s) : EReal) := by
  have hn := n_lt H k n I
  have hk : k.val < 4 := k.isLt
  have hhi : ∀ j : Fin 256, hiP rowC colC k n a.1 (ix2 r j) = mL Q K (512 * k + r) (256 * (2 * (k.val + 1) - 1 - n.val) + j) := log_at H k n I r
  rw [pay29_apply _ _ _ _ _ r s (fun j => by rw [hhi]; exact mL_nonpos Q K _ _) (fun j => rfl), select_iff (mask_iff k n r s), pay23_apply, I.z, I.later]
  rw [sum_congr rfl fun j _ => by rw [hhi j], sum_block_gt (256 * (2 * (k.val + 1) - 1 - n.val)) 256 s.val s.isLt (fun j => mL Q K (512 * k + r) j)]
  rw [show 256 * (2 * (k.val + 1) - 1 - n.val) + 256 = 256 * (2 * (k.val + 1) - n.val) by omega, sum_Ico_consecutive _ (by omega) (by omega)]
  unfold mA
  split
  · exact exp_mA Q K _ _
  · rfl

theorem dl_at (r : Fin 512) (s : Fin 256) : dlP rowC colC k n a (ix2 r s) = (mDl Q K W D (512 * k + r) (256 * (2 * (k.val + 1) - 1 - n.val) + s) : EReal) := by
  refine (congrArg₂ (· * ·) (I.da r s) (A_at H k n I r s)).trans ?_
  rw [← EReal.coe_mul]; rfl

/-- The block's cotangents. -/
theorem dz_at (r : Fin 512) (s : Fin 256) : dzP rowC colC o d k n a (ix2 r s) = (mDz Q K W D (512 * k + r) (256 * (2 * (k.val + 1) - 1 - n.val) + s) : EReal) := by
  have hn := n_lt H k n I
  have hk : k.val < 4 := k.isLt
  refine (pay31_apply _ _ _ _ _ _ _ _ _ r s (fun j => mDl Q K W D (512 * k + r) (256 * (2 * (k.val + 1) - 1 - n.val) + j)) (fun j => dl_at H k n I r j)).trans ?_
  rw [select_iff (mask_iff k n r s), pay22_apply, pay23_apply, I.z, I.suf, dtot_at H k r]
  rw [sum_block_ge (256 * (2 * (k.val + 1) - 1 - n.val)) 256 s.val s.isLt (fun j => mDl Q K W D (512 * k + r) j)]
  rw [exp_nonpos (lsn_nonpos _), exp_nonpos (lsp_nonpos _), scE_eq]
  simp only [← EReal.coe_mul, ← EReal.coe_add, ← EReal.coe_sub]
  rw [show 256 * (2 * (k.val + 1) - 1 - n.val) + 256 = 256 * (2 * (k.val + 1) - n.val) by omega, add_comm (∑ j ∈ Ico (256 * (2 * (k.val + 1) - n.val)) 2048, _),
    sum_Ico_consecutive _ (by omega) (by omega), before_eq Q K W D (by omega)]
  unfold mDz
  split
  · rfl
  · rfl

/-- After a trip. -/
theorem inv_succ : Inv Q K W D k.val (n.val + 1) (carP rowC colC q kk v o d k n a) := by
  have hn := n_lt H k n I
  have hk : k.val < 4 := k.isLt
  have e : 256 * (2 * (k.val + 1) - (n.val + 1)) = 256 * (2 * (k.val + 1) - 1 - n.val) := by omega
  have e' : 256 * (2 * (k.val + 1) - n.val) = 256 * (2 * (k.val + 1) - 1 - n.val) + 256 := by omega
  refine ⟨fun r s => ?_, fun r s => ?_, fun r => ?_, fun r => ?_, fun r c => ?_⟩
  · show k0_pay19 (F := Ideal) _ _ _ = _
    rw [pay19_eq]
    refine scores_at H k.val (256 * (2 * (k.val + 1) - 1 - (n.val + 1))) (rowsP q k) (rowsP q k) _ (by omega) (by omega) (rows_q H k) (fun s c => ?_) r s
    exact (window_rows 256 _ kk _ _ (off3_at k n) s c (by omega)).trans (H.k _ _)
  · show k0_pay20 (F := Ideal) _ _ _ = _
    rw [pay20_eq]
    refine das_at H k.val (256 * (2 * (k.val + 1) - 1 - (n.val + 1))) _ _ (rows_d H k) (fun s c => ?_) r s
    exact (window_rows 256 _ v _ _ (off3_at k n) s c (by omega)).trans (H.v _ _)
  · show k0_pay9 (F := Ideal) _ _ _ = _
    rw [pay9_apply, I.later, sum_congr rfl fun s _ => log_at H k n I r s, sum_block _ 256 (fun j => mL Q K (512 * k + r) j), e, e', add_comm,
      sum_Ico_consecutive _ (by omega) (by omega)]
  · show k0_pay10 (F := Ideal) _ _ _ = _
    rw [pay10_eq, pay9_apply, I.suf, sum_congr rfl fun s _ => dl_at H k n I r s, ← coe_sum, sum_block _ 256 (fun j => mDl Q K W D (512 * k + r) j), e, e', add_comm,
      ← EReal.coe_add, sum_Ico_consecutive _ (by omega) (by omega)]
  · show k0_pay11 (F := Ideal) _ _ _ _ = _
    have hc : ∀ s : Fin 256, curP kk k n (ix2 s c) = K (256 * (2 * (k.val + 1) - 1 - n.val) + s) c := fun s =>
      (window_rows 256 _ kk _ _ (off4_at k n) s c (by omega)).trans (H.k _ _)
    have hd : ∑ s : Fin 256, dzP rowC colC o d k n a (ix2 r s) * curP kk k n (ix2 s c)
        = ∑ s : Fin 256, (mDz Q K W D (512 * k + r) (256 * (2 * (k.val + 1) - 1 - n.val) + s) : EReal) * K (256 * (2 * (k.val + 1) - 1 - n.val) + s) c :=
      sum_congr rfl fun s _ => by rw [dz_at H k n I r s, hc s]
    rw [pay11_apply, I.dq, hd,
      sum_block _ 256 (fun j => (mDz Q K W D (512 * k + r) j : EReal) * K j c), e, e', add_comm, sum_Ico_consecutive _ (by omega) (by omega)]

/-- What a trip leaves of the keys' and of the values' gradients. -/
theorem dk_at (g : Blk Ideal .f32) (s : Fin 2048) (c : Fin 128) :
    dkP rowC colC q o d k n a g (ix2 s c) = g (ix2 s c)
      + if 256 * (2 * (k.val + 1) - 1 - n.val) ≤ s.val ∧ s.val < 256 * (2 * (k.val + 1) - 1 - n.val) + 256 then ∑ r : Fin 512, (mDz Q K W D (512 * k + r) s : EReal) * Q (512 * k + r) c else 0 := by
  have hn := n_lt H k n I
  have hk : k.val < 4 := k.isLt
  unfold dkP
  split
  · next h =>
    refine (put_in 256 _ g _ (off4_at k n) _ s c h.1 (by omega)).trans ?_
    rw [pay8_apply]
    have e : 256 * (2 * (k.val + 1) - 1 - n.val) + (s.val - 256 * (2 * (k.val + 1) - 1 - n.val)) = s.val := by omega
    refine congrArg₂ (· + ·) ?_ (sum_congr rfl fun r _ => ?_)
    · refine (window_rows 256 _ g _ _ (off4_at k n) _ c (by dsimp only; omega)).trans (congrArg (fun i => g (ix2 i c)) (Fin.ext ?_))
      exact e
    · rw [dz_at H k n I, rows_q H k]; dsimp only; rw [e]
  · next h => rw [add_zero]; exact put_out 256 _ g _ (off4_at k n) _ s c h
theorem dv_at (g : Blk Ideal .f32) (s : Fin 2048) (c : Fin 128) :
    dvP rowC colC d k n a g (ix2 s c) = g (ix2 s c)
      + if 256 * (2 * (k.val + 1) - 1 - n.val) ≤ s.val ∧ s.val < 256 * (2 * (k.val + 1) - 1 - n.val) + 256 then ∑ r : Fin 512, (mA Q K (512 * k + r) s : EReal) * (D (512 * k + r) c : EReal) else 0 := by
  have hn := n_lt H k n I
  have hk : k.val < 4 := k.isLt
  unfold dvP
  split
  · next h =>
    refine (put_in 256 _ g _ (off4_at k n) _ s c h.1 (by omega)).trans ?_
    rw [pay32_apply]
    have e : 256 * (2 * (k.val + 1) - 1 - n.val) + (s.val - 256 * (2 * (k.val + 1) - 1 - n.val)) = s.val := by omega
    refine congrArg₂ (· + ·) ?_ (sum_congr rfl fun r _ => ?_)
    · refine (window_rows 256 _ g _ _ (off4_at k n) _ c (by dsimp only; omega)).trans (congrArg (fun i => g (ix2 i c)) (Fin.ext ?_))
      exact e
    · rw [A_at H k n I, rows_d H k]; dsimp only; rw [e]
  · next h => rw [add_zero]; exact put_out 256 _ g _ (off4_at k n) _ s c h

omit I
/-- The inner loop before its trip `n`. -/
theorem inner_at (gk gv : Blk Ideal .f32) : ∀ n : ℕ, n ≤ 2 * (k.val + 1) →
    Inv Q K W D k.val n (innerP rowC colC q kk v o d k gk gv n).1
      ∧ (∀ (s : Fin 2048) (c : Fin 128), (innerP rowC colC q kk v o d k gk gv n).2.1 (ix2 s c) = gk (ix2 s c)
          + if 256 * (2 * (k.val + 1) - n) ≤ s.val then ∑ r : Fin 512, (mDz Q K W D (512 * k + r) s : EReal) * Q (512 * k + r) c else 0)
      ∧ (∀ (s : Fin 2048) (c : Fin 128), (innerP rowC colC q kk v o d k gk gv n).2.2 (ix2 s c) = gv (ix2 s c)
          + if 256 * (2 * (k.val + 1) - n) ≤ s.val then ∑ r : Fin 512, (mA Q K (512 * k + r) s : EReal) * (D (512 * k + r) c : EReal) else 0)
  | 0, _ => by
    refine ⟨inv_zero H k, fun s c => ?_, fun s c => ?_⟩
    · have : (if 256 * (2 * (k.val + 1) - 0) ≤ s.val then ∑ r : Fin 512, (mDz Q K W D (512 * k + r) s : EReal) * Q (512 * k + r) c else 0) = 0 := by
        split
        · exact sum_eq_zero fun r _ => by rw [mDz_of_le Q K W D (by omega), EReal.coe_zero, zero_mul]
        · rfl
      rw [this, add_zero]; rfl
    · have : (if 256 * (2 * (k.val + 1) - 0) ≤ s.val then ∑ r : Fin 512, (mA Q K (512 * k + r) s : EReal) * (D (512 * k + r) c : EReal) else 0) = 0 := by
        split
        · exact sum_eq_zero fun r _ => by rw [mA_of_le Q K (by omega), EReal.coe_zero, zero_mul]
        · rfl
      rw [this, add_zero]; rfl
  | n + 1, hn => by
    have ih := inner_at gk gv n (by omega)
    have h : n < (k0_t2_loop k).trips := by rw [trips2 k]; omega
    have e : innerP rowC colC q kk v o d k gk gv (n + 1) = _ := dif_pos h
    rw [e]
    refine ⟨inv_succ H k ⟨n, h⟩ ih.1, fun s c => ?_, fun s c => ?_⟩
    · refine (dk_at H k ⟨n, h⟩ ih.1 _ s c).trans ?_
      rw [ih.2.1 s c, add_assoc]
      refine congrArg (gk (ix2 s c) + ·) ?_
      dsimp only
      by_cases h1 : 256 * (2 * (k.val + 1) - n) ≤ s.val
      · rw [if_pos h1, if_neg (by omega), if_pos (by omega), add_zero]
      · rw [if_neg h1, zero_add]
        exact if_congr (by omega) rfl rfl
    · refine (dv_at H k ⟨n, h⟩ ih.1 _ s c).trans ?_
      rw [ih.2.2 s c, add_assoc]
      refine congrArg (gv (ix2 s c) + ·) ?_
      dsimp only
      by_cases h1 : 256 * (2 * (k.val + 1) - n) ≤ s.val
      · rw [if_pos h1, if_neg (by omega), if_pos (by omega), add_zero]
      · rw [if_neg h1, zero_add]
        exact if_congr (by omega) rfl rfl

/-- The outer loop before its trip `k`. -/
theorem outer_at (g gk gv : Blk Ideal .bf16) : ∀ k : ℕ, k ≤ 4 →
    (∀ (t : Fin 2048) (c : Fin 128), t.val < 512 * k → (outerP rowC colC q kk v o d g (k0_pay1 (F := Ideal)) (k0_pay2 (F := Ideal)) k).1 (ix2 t c) = mDq Q K W D t c)
      ∧ (∀ (s : Fin 2048) (c : Fin 128), (outerP rowC colC q kk v o d g (k0_pay1 (F := Ideal)) (k0_pay2 (F := Ideal)) k).2.1 (ix2 s c) = ∑ t ∈ range (512 * k), (mDz Q K W D t s : EReal) * Q t c)
      ∧ (∀ (s : Fin 2048) (c : Fin 128), (outerP rowC colC q kk v o d g (k0_pay1 (F := Ideal)) (k0_pay2 (F := Ideal)) k).2.2 (ix2 s c) = ∑ t ∈ range (512 * k), (mA Q K t s : EReal) * (D t c : EReal))
  | 0, _ => by
    refine ⟨fun t c h => absurd h (by omega), fun s c => ?_, fun s c => ?_⟩
    · rw [mul_zero, range_zero, sum_empty]; exact zero_f32
    · rw [mul_zero, range_zero, sum_empty]; exact zero_f32
  | k + 1, hk => by
    have ih := outer_at g gk gv k (by omega)
    have h : k < k0_t1_loop.trips := by rw [trips1]; omega
    have hi := inner_at H ⟨k, h⟩ (outerP rowC colC q kk v o d g (k0_pay1 (F := Ideal)) (k0_pay2 (F := Ideal)) k).2.1 (outerP rowC colC q kk v o d g (k0_pay1 (F := Ideal)) (k0_pay2 (F := Ideal)) k).2.2 (2 * (k + 1)) (le_refl _)
    have e : outerP rowC colC q kk v o d g (k0_pay1 (F := Ideal)) (k0_pay2 (F := Ideal)) (k + 1) = _ := dif_pos h
    rw [e]
    have es : range (512 * (k + 1)) = Ico 0 (512 * k + 512) := by rw [range_eq_Ico, mul_add, mul_one]
    refine ⟨fun t c ht => ?_, fun s c => ?_, fun s c => ?_⟩
    · dsimp only
      by_cases h1 : 512 * k ≤ t.val
      · refine (put_in 512 (512 * k) _ _ (off1_at ⟨k, h⟩) _ t c h1 (by omega)).trans ?_
        refine (hi.1.dq ⟨t.val - 512 * k, by omega⟩ c).trans ?_
        have et : 512 * k + (t.val - 512 * k) = t.val := by omega
        dsimp only
        rw [et, Nat.sub_self, mul_zero, ← range_eq_Ico]; rfl
      · refine (put_out 512 (512 * k) _ _ (off1_at ⟨k, h⟩) _ t c (by omega)).trans ?_
        exact ih.1 t c (by omega)
    · refine (hi.2.1 s c).trans ?_
      rw [if_pos (by dsimp only; omega), ih.2.1 s c, es, ← sum_Ico_consecutive _ (Nat.zero_le (512 * k)) (by omega), ← range_eq_Ico]
      exact congrArg (_ + ·) (sum_block (512 * k) 512 (fun t => (mDz Q K W D t s : EReal) * Q t c))
    · refine (hi.2.2 s c).trans ?_
      rw [if_pos (by dsimp only; omega), ih.2.2 s c, es, ← sum_Ico_consecutive _ (Nat.zero_le (512 * k)) (by omega), ← range_eq_Ico]
      exact congrArg (_ + ·) (sum_block (512 * k) 512 (fun t => (mA Q K t s : EReal) * (D t c : EReal)))

/-- The three blocks the body leaves are the head's three gradients. -/
theorem outQ_at (t : Fin 2048) (c : Fin 128) : outQ q kk v o d (ix2 t c) = mDq Q K W D t c := (outer_at H q q q 4 (le_refl _)).1 t c t.isLt
theorem outK_at (s : Fin 2048) (c : Fin 128) : outK q kk v o d (ix2 s c) = mDk Q K W D s c := (outer_at H q q q 4 (le_refl _)).2.1 s c
theorem outV_at (s : Fin 2048) (c : Fin 128) : outV q kk v o d (ix2 s c) = mDv Q K D s c := (outer_at H q q q 4 (le_refl _)).2.2 s c

end

end Cert.KernelIdeal.Hand
end
-- ==== Proof.Window.lean ====
/-
  The two running sums along the last axis: a window of the whole length over the operand padded above (what follows) or
  below (what precedes).
-/
module

public import Idealize.ShloMosaic.Lib.ValueIdx
public import Idealize.ShloMosaic.PureOps.Ideal.Laws
public import Mathlib.Algebra.BigOperators.Intervals

@[expose] public section

set_option maxRecDepth 16384

noncomputable section

namespace Cert.Stick

open Idealize.ShloMosaic Idealize.ShloMosaic.ValueIdx Finset

/-- A left fold that adds is the sum. -/
theorem foldl_add_sum {M : Type*} [AddCommMonoid M] {α : Type*} (l : List α) (g : α → M) (a : M) : l.foldl (fun r i => r + g i) a = a + (l.map g).sum := by
  induction l generalizing a with
  | nil => simp
  | cons x l ih => rw [List.foldl_cons, ih, List.map_cons, List.sum_cons, add_assoc]

/-- The positions of a window along the last axis. -/
def winEquiv (N : ℕ) : Fin N ≃ (⟨4, ![1, 1, 1, N]⟩ : Shape).Idx where
  toFun k := ix4 (0 : Fin 1) (0 : Fin 1) (0 : Fin 1) k
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A window sum is the sum over the window's positions. -/
theorem window_sum {A B C N : ℕ} (lo hi : Fin 4 → ℕ) (x : (⟨4, ![A, B, C, N]⟩ : Shape).Idx → EReal) {u : Shape} (init : u.Idx → EReal)
    (h : (⟨4, ![A, B, C, N]⟩ : Shape).ReduceWindows (![1, 1, 1, N] : Fin 4 → ℕ) ![1, 1, 1, 1] lo hi (⟨4, ![A, B, C, N]⟩ : Shape)) (hu : 0 < u.numel)
    (j : (⟨4, ![A, B, C, N]⟩ : Shape).Idx) (g : Fin N → EReal)
    (hg : ∀ k : Fin N, (if hin : ∀ a : Fin 4, lo a ≤ (j a).val * (![1, 1, 1, 1] : Fin 4 → ℕ) a + (winEquiv N k a).val ∧ (j a).val * (![1, 1, 1, 1] : Fin 4 → ℕ) a + (winEquiv N k a).val - lo a < (⟨4, ![A, B, C, N]⟩ : Shape).size a
      then x (fun a => ⟨(j a).val * (![1, 1, 1, 1] : Fin 4 → ℕ) a + (winEquiv N k a).val - lo a, (hin a).2⟩) else init (Shape.Idx.first hu)) = g k) :
    Host.reduceWindow (· + ·) (![1, 1, 1, N] : Fin 4 → ℕ) ![1, 1, 1, 1] lo hi x init h hu j = init (Shape.Idx.first hu) + ∑ k, g k := by
  unfold Host.reduceWindow
  dsimp only
  refine (foldl_add_sum _ _ _).trans (congrArg (init (Shape.Idx.first hu) + ·) ?_)
  rw [← Fin.sum_univ_def]
  refine ((Equiv.sum_comp (Shape.rowMajor (⟨4, ![1, 1, 1, N]⟩ : Shape)).symm (fun w => if hin : ∀ a : Fin 4, lo a ≤ (j a).val * (![1, 1, 1, 1] : Fin 4 → ℕ) a + (w a).val ∧ (j a).val * (![1, 1, 1, 1] : Fin 4 → ℕ) a + (w a).val - lo a < (⟨4, ![A, B, C, N]⟩ : Shape).size a
      then x (fun a => ⟨(j a).val * (![1, 1, 1, 1] : Fin 4 → ℕ) a + (w a).val - lo a, (hin a).2⟩) else init (Shape.Idx.first hu)))).trans ?_
  rw [← Equiv.sum_comp (winEquiv N)]
  exact sum_congr rfl fun k _ => hg k

/-- Padded above: the sum of what follows, the position itself included. -/
theorem window_suffix {A B C M : ℕ} (x : (⟨4, ![A, B, C, M + 1]⟩ : Shape).Idx → EReal) {u : Shape} (init : u.Idx → EReal)
    (h : (⟨4, ![A, B, C, M + 1]⟩ : Shape).ReduceWindows (![1, 1, 1, M + 1] : Fin 4 → ℕ) ![1, 1, 1, 1] ![0, 0, 0, 0] ![0, 0, 0, M] (⟨4, ![A, B, C, M + 1]⟩ : Shape)) (hu : 0 < u.numel)
    (hi : init (Shape.Idx.first hu) = 0) (a : Fin A) (b : Fin B) (c : Fin C) (s : Fin (M + 1)) (f : ℕ → EReal) (hf : ∀ k : Fin (M + 1), x (ix4 a b c k) = f k.val) :
    Host.reduceWindow (· + ·) (![1, 1, 1, M + 1] : Fin 4 → ℕ) ![1, 1, 1, 1] ![0, 0, 0, 0] ![0, 0, 0, M] x init h hu (ix4 a b c s) = ∑ k ∈ Ico s.val (M + 1), f k := by
  have hs := s.isLt
  rw [window_sum _ _ x init h hu (ix4 a b c s) (fun k => if s.val + k.val < M + 1 then f (s.val + k.val) else 0) (fun k => ?_), hi, zero_add]
  · rw [Fin.sum_univ_eq_sum_range (fun k => if s.val + k < M + 1 then f (s.val + k) else 0), ← sum_filter, sum_Ico_eq_sum_range]
    refine sum_congr (ext fun i => ?_) fun _ _ => rfl
    simp only [mem_filter, mem_range]; omega
  · split
    · next hin =>
      have h3 : s.val * 1 + k.val - 0 < M + 1 := (hin 3).2
      rw [if_pos (by omega)]
      refine (congrArg x (funext fun d => Fin.ext ?_)).trans (hf ⟨s.val + k.val, by omega⟩)
      match d with
      | ⟨0, _⟩ => show a.val * 1 + 0 - 0 = a.val; omega
      | ⟨1, _⟩ => show b.val * 1 + 0 - 0 = b.val; omega
      | ⟨2, _⟩ => show c.val * 1 + 0 - 0 = c.val; omega
      | ⟨3, _⟩ => show s.val * 1 + k.val - 0 = s.val + k.val; omega
    · next hin =>
      rw [if_neg fun hlt => hin fun d => ?_]
      · exact hi
      · match d with
        | ⟨0, _⟩ => show 0 ≤ a.val * 1 + 0 ∧ a.val * 1 + 0 - 0 < A; omega
        | ⟨1, _⟩ => show 0 ≤ b.val * 1 + 0 ∧ b.val * 1 + 0 - 0 < B; omega
        | ⟨2, _⟩ => show 0 ≤ c.val * 1 + 0 ∧ c.val * 1 + 0 - 0 < C; omega
        | ⟨3, _⟩ => show 0 ≤ s.val * 1 + k.val ∧ s.val * 1 + k.val - 0 < M + 1; omega

/-- Padded below: the sum of what precedes, the position itself included. -/
theorem window_prefix {A B C M : ℕ} (x : (⟨4, ![A, B, C, M + 1]⟩ : Shape).Idx → EReal) {u : Shape} (init : u.Idx → EReal)
    (h : (⟨4, ![A, B, C, M + 1]⟩ : Shape).ReduceWindows (![1, 1, 1, M + 1] : Fin 4 → ℕ) ![1, 1, 1, 1] ![0, 0, 0, M] ![0, 0, 0, 0] (⟨4, ![A, B, C, M + 1]⟩ : Shape)) (hu : 0 < u.numel)
    (hi : init (Shape.Idx.first hu) = 0) (a : Fin A) (b : Fin B) (c : Fin C) (s : Fin (M + 1)) (f : ℕ → EReal) (hf : ∀ k : Fin (M + 1), x (ix4 a b c k) = f k.val) :
    Host.reduceWindow (· + ·) (![1, 1, 1, M + 1] : Fin 4 → ℕ) ![1, 1, 1, 1] ![0, 0, 0, M] ![0, 0, 0, 0] x init h hu (ix4 a b c s) = ∑ k ∈ range (s.val + 1), f k := by
  have hs := s.isLt
  rw [window_sum _ _ x init h hu (ix4 a b c s) (fun k => if M ≤ s.val + k.val then f (s.val + k.val - M) else 0) (fun k => ?_), hi, zero_add]
  · rw [Fin.sum_univ_eq_sum_range (fun k => if M ≤ s.val + k then f (s.val + k - M) else 0), ← sum_filter]
    have e : filter (fun k => M ≤ s.val + k) (range (M + 1)) = Ico (M - s.val) (M + 1) := ext fun i => by
      simp only [mem_filter, mem_range, mem_Ico]; omega
    rw [e, sum_Ico_eq_sum_range, show M + 1 - (M - s.val) = s.val + 1 by omega]
    exact sum_congr rfl fun i _ => congrArg f (by omega)
  · have hk := k.isLt
    split
    · next hin =>
      have h3 : M ≤ s.val * 1 + k.val ∧ s.val * 1 + k.val - M < M + 1 := hin 3
      rw [if_pos (by omega)]
      refine (congrArg x (funext fun d => Fin.ext ?_)).trans (hf ⟨s.val + k.val - M, by omega⟩)
      match d with
      | ⟨0, _⟩ => show a.val * 1 + 0 - 0 = a.val; omega
      | ⟨1, _⟩ => show b.val * 1 + 0 - 0 = b.val; omega
      | ⟨2, _⟩ => show c.val * 1 + 0 - 0 = c.val; omega
      | ⟨3, _⟩ => show s.val * 1 + k.val - M = s.val + k.val - M; omega
    · next hin =>
      rw [if_neg fun hlt => hin fun d => ?_]
      · exact hi
      · match d with
        | ⟨0, _⟩ => show 0 ≤ a.val * 1 + 0 ∧ a.val * 1 + 0 - 0 < A; omega
        | ⟨1, _⟩ => show 0 ≤ b.val * 1 + 0 ∧ b.val * 1 + 0 - 0 < B; omega
        | ⟨2, _⟩ => show 0 ≤ c.val * 1 + 0 ∧ c.val * 1 + 0 - 0 < C; omega
        | ⟨3, _⟩ => show M ≤ s.val * 1 + k.val ∧ s.val * 1 + k.val - M < M + 1; omega

/-- The float window sum over the extended reals, padded above and below. -/
theorem suffix_apply {A B C M : ℕ} (x : FVec Ideal (⟨4, ![A, B, C, M + 1]⟩ : Shape) .f32) {u : Shape} (init : FVec Ideal u .f32)
    (h : (⟨4, ![A, B, C, M + 1]⟩ : Shape).ReduceWindows (![1, 1, 1, M + 1] : Fin 4 → ℕ) ![1, 1, 1, 1] ![0, 0, 0, 0] ![0, 0, 0, M] (⟨4, ![A, B, C, M + 1]⟩ : Shape)) (hu : 0 < u.numel)
    (hi : init (Shape.Idx.first hu) = (0 : EReal)) (a : Fin A) (b : Fin B) (c : Fin C) (s : Fin (M + 1)) (f : ℕ → EReal) (hf : ∀ k : Fin (M + 1), x (ix4 a b c k) = f k.val) :
    Host.reduceWindowAdd (F := Ideal) (![1, 1, 1, M + 1] : Fin 4 → ℕ) ![1, 1, 1, 1] ![0, 0, 0, 0] ![0, 0, 0, M] x init h hu (ix4 a b c s) = ∑ k ∈ Ico s.val (M + 1), f k :=
  window_suffix x (fun _ : (⟨0, ![]⟩ : Shape).Idx => init (Shape.Idx.first hu)) h (by decide) hi a b c s f hf
theorem prefix_apply {A B C M : ℕ} (x : FVec Ideal (⟨4, ![A, B, C, M + 1]⟩ : Shape) .f32) {u : Shape} (init : FVec Ideal u .f32)
    (h : (⟨4, ![A, B, C, M + 1]⟩ : Shape).ReduceWindows (![1, 1, 1, M + 1] : Fin 4 → ℕ) ![1, 1, 1, 1] ![0, 0, 0, M] ![0, 0, 0, 0] (⟨4, ![A, B, C, M + 1]⟩ : Shape)) (hu : 0 < u.numel)
    (hi : init (Shape.Idx.first hu) = (0 : EReal)) (a : Fin A) (b : Fin B) (c : Fin C) (s : Fin (M + 1)) (f : ℕ → EReal) (hf : ∀ k : Fin (M + 1), x (ix4 a b c k) = f k.val) :
    Host.reduceWindowAdd (F := Ideal) (![1, 1, 1, M + 1] : Fin 4 → ℕ) ![1, 1, 1, 1] ![0, 0, 0, M] ![0, 0, 0, 0] x init h hu (ix4 a b c s) = ∑ k ∈ range (s.val + 1), f k :=
  window_prefix x (fun _ : (⟨0, ![]⟩ : Shape).Idx => init (Shape.Idx.first hu)) h (by decide) hi a b c s f hf

end Cert.Stick
end
-- ==== Proof.RefForward.lean ====
/-
  The reference's forward values, read at an index: the heads of the queries, keys and values, the scores, the
  logarithms of the two sigmoids, the weights and the result.
-/
module

public import proofs.«01_k».proof.Proof.Heads
public import proofs.«01_k».proof.Proof.Window
public import proofs.«01_k».proof.Proof.Gen.ReferenceIdeal.Read
public import Idealize.ShloMosaic.Lib.WordCmp
public import Idealize.ShloMosaic.Lib.IdealHost

@[expose] public section

set_option maxRecDepth 16384

noncomputable section

namespace Cert.ReferenceIdeal.Hand

open Cert.ReferenceIdeal Cert.ReferenceIdeal.Gen Cert.ReferenceIdeal.Read Cert.Stick
open Idealize.ShloMosaic Idealize.ShloMosaic.TcCoe Idealize.ShloMosaic.ValueIdx Idealize.ShloMosaic.WordCmp

/-- The index of an element of a head. -/
abbrev at4 (h : Fin 16) (t : Fin 2048) (c : Fin 128) : S1x16x2048x128.Idx := ix4 (0 : Fin 1) h t c
abbrev atZ (h : Fin 16) (t s : Fin 2048) : S1x16x2048x2048.Idx := ix4 (0 : Fin 1) h t s
/-- The column of part `j`, head `h`, place `c`. -/
abbrev pcol (j : Fin 3) (h : Fin 16) (c : Fin 128) : Fin 6144 := ⟨(j.val * 16 + h.val) * 128 + c.val, by omega⟩
abbrev hcol (h : Fin 16) (c : Fin 128) : Fin 2048 := ⟨h.val * 128 + c.val, by omega⟩

/-- One part of one head, its rows and columns numbered by the naturals. -/
def part (x : S2048x6144.Idx → EReal) (j : Fin 3) (h : Fin 16) (t c : ℕ) : EReal :=
  if H : t < 2048 ∧ c < 128 then x (ix2 ⟨t, H.1⟩ (pcol j h ⟨c, H.2⟩)) else 0
def cot (x : S2048x2048.Idx → EReal) (h : Fin 16) (t c : ℕ) : EReal :=
  if H : t < 2048 ∧ c < 128 then x (ix2 ⟨t, H.1⟩ (hcol h ⟨c, H.2⟩)) else 0
theorem part_apply (x : S2048x6144.Idx → EReal) (j : Fin 3) (h : Fin 16) (t : Fin 2048) (c : Fin 128) : part x j h t.val c.val = x (ix2 t (pcol j h c)) :=
  dif_pos ⟨t.isLt, c.isLt⟩
theorem cot_apply (x : S2048x2048.Idx → EReal) (h : Fin 16) (t : Fin 2048) (c : Fin 128) : cot x h t.val c.val = x (ix2 t (hcol h c)) :=
  dif_pos ⟨t.isLt, c.isLt⟩

variable (x0 : (⟨S2048x6144, .bf16⟩ : BufTy).Contents (Elt Ideal)) (x1 : (⟨S2048x2048, .bf16⟩ : BufTy).Contents (Elt Ideal)) (h : Fin 16)

/-- Queries, keys, values and cotangents of a head. -/
def hQ : ℕ → ℕ → EReal := part x0 0 h
def hK : ℕ → ℕ → EReal := part x0 1 h
def hW (t c : ℕ) : ℝ := (part x0 2 h t c).toReal
def hD (t c : ℕ) : ℝ := (cot x1 h t c).toReal

/-- The three parts, before they are taken apart. -/
theorem v3_at (j : Fin 3) (t : Fin 2048) (c : Fin 128) : val_main_v3 (F := Ideal) x0 (ix5 j (0 : Fin 1) h t c) = part x0 j h t.val c.val := by
  have e3 : idx_main_v3 (ix5 j (0 : Fin 1) h t c) = ix5 (0 : Fin 1) t j h c := by
    funext a; match a with | ⟨0, _⟩ => rfl | ⟨1, _⟩ => rfl | ⟨2, _⟩ => rfl | ⟨3, _⟩ => rfl | ⟨4, _⟩ => rfl
  have e2 : idx_main_v2 (ix5 (0 : Fin 1) t j h c) = ix3 (0 : Fin 1) t (pcol j h c) := by
    funext a; apply Fin.ext
    match a with
    | ⟨0, _⟩ => rfl
    | ⟨1, _⟩ => show ((((0 * 2048 + t.val) * 3 + j.val) * 16 + h.val) * 128 + c.val) / 6144 % 2048 = t.val; omega
    | ⟨2, _⟩ => show ((((0 * 2048 + t.val) * 3 + j.val) * 16 + h.val) * 128 + c.val) % 6144 = (j.val * 16 + h.val) * 128 + c.val; omega
  have e1 : idx_main_v1 (ix3 (0 : Fin 1) t (pcol j h c)) = ix2 t (pcol j h c) := by
    funext a; match a with | ⟨0, _⟩ => rfl | ⟨1, _⟩ => rfl
  rw [val_main_v3_apply, e3, val_main_v2_apply, e2, val_main_v1_apply, e1, part_apply]
  rfl

theorem idx5_at (t : Fin 2048) (c : Fin 128) : idx_main_v5 (at4 h t c) = ix5 (0 : Fin 1) (0 : Fin 1) h t c := by
  funext a; apply Fin.ext
  match a with
  | ⟨0, _⟩ => rfl
  | ⟨1, _⟩ => rfl
  | ⟨2, _⟩ => show (((0 * 16 + h.val) * 2048 + t.val) * 128 + c.val) / 262144 % 16 = h.val; omega
  | ⟨3, _⟩ => show (((0 * 16 + h.val) * 2048 + t.val) * 128 + c.val) / 128 % 2048 = t.val; omega
  | ⟨4, _⟩ => show (((0 * 16 + h.val) * 2048 + t.val) * 128 + c.val) % 128 = c.val; omega

theorem v5_at (t : Fin 2048) (c : Fin 128) : val_main_v5 (F := Ideal) x0 (at4 h t c) = hQ x0 h t.val c.val := by
  have e : idx_main_v4 (ix5 (0 : Fin 1) (0 : Fin 1) h t c) = ix5 (0 : Fin 3) (0 : Fin 1) h t c := by
    funext a; match a with | ⟨0, _⟩ => rfl | ⟨1, _⟩ => rfl | ⟨2, _⟩ => rfl | ⟨3, _⟩ => rfl | ⟨4, _⟩ => rfl
  rw [val_main_v5_apply, idx5_at, val_main_v4_apply, e]
  exact v3_at x0 h 0 t c
theorem v7_at (t : Fin 2048) (c : Fin 128) : val_main_v7 (F := Ideal) x0 (at4 h t c) = hK x0 h t.val c.val := by
  have e : idx_main_v6 (ix5 (0 : Fin 1) (0 : Fin 1) h t c) = ix5 (1 : Fin 3) (0 : Fin 1) h t c := by
    funext a; match a with | ⟨0, _⟩ => rfl | ⟨1, _⟩ => rfl | ⟨2, _⟩ => rfl | ⟨3, _⟩ => rfl | ⟨4, _⟩ => rfl
  have e7 : idx_main_v7 (at4 h t c) = ix5 (0 : Fin 1) (0 : Fin 1) h t c := idx5_at h t c
  rw [val_main_v7_apply, e7, val_main_v6_apply, e]
  exact v3_at x0 h 1 t c
theorem v9_at (t : Fin 2048) (c : Fin 128) : val_main_v9 (F := Ideal) x0 (at4 h t c) = part x0 2 h t.val c.val := by
  have e : idx_main_v8 (ix5 (0 : Fin 1) (0 : Fin 1) h t c) = ix5 (2 : Fin 3) (0 : Fin 1) h t c := by
    funext a; match a with | ⟨0, _⟩ => rfl | ⟨1, _⟩ => rfl | ⟨2, _⟩ => rfl | ⟨3, _⟩ => rfl | ⟨4, _⟩ => rfl
  have e9 : idx_main_v9 (at4 h t c) = ix5 (0 : Fin 1) (0 : Fin 1) h t c := idx5_at h t c
  rw [val_main_v9_apply, e9, val_main_v8_apply, e]
  exact v3_at x0 h 2 t c

/-- The scores. -/
theorem v12_at (t s : Fin 2048) : val_main_v12 (F := Ideal) x0 (atZ h t s) = mZ (hQ x0 h) (hK x0 h) t.val s.val := by
  have el : ∀ k, lidx_main_v10 (atZ h t s) k = at4 h t k := fun k => by
    funext a; match a with | ⟨0, _⟩ => rfl | ⟨1, _⟩ => rfl | ⟨2, _⟩ => rfl | ⟨3, _⟩ => rfl
  have er : ∀ k, ridx_main_v10 (atZ h t s) k = at4 h s k := fun k => by
    funext a; match a with | ⟨0, _⟩ => rfl | ⟨1, _⟩ => rfl | ⟨2, _⟩ => rfl | ⟨3, _⟩ => rfl
  rw [val_main_v12_apply, val_main_v11_apply, val_main_cst_apply, val_main_v10_apply]
  simp only [el, er, v5_at, v7_at]
  rfl

/-- The mask: the keys before the row. -/
theorem v24_1_at (t s : Fin 2048) : val_main_v24_1 (F := Ideal) (atZ h t s) = 1#1 ↔ s.val < t.val := by
  have e : idx_main_v24_1 (atZ h t s) = ix2 t s := by
    funext a; match a with | ⟨0, _⟩ => rfl | ⟨1, _⟩ => rfl
  rw [val_main_v24_1_apply, e, val_main_v21_apply, val_main_v19_apply, val_main_v14_apply, val_main_v13_apply, val_main_v20_apply, val_main_v18_apply,
    val_main_v17_apply, val_main_v16_apply, val_main_c_apply, val_main_v15_apply]
  show IntOp.cmpi .slt (BitVec.ofNat 32 s.val) (IntOp.addi 0#32 (BitVec.ofNat 32 t.val)) = 1#1 ↔ _
  rw [show IntOp.addi 0#32 (BitVec.ofNat 32 t.val) = BitVec.ofNat 32 t.val from BitVec.zero_add _]
  exact cmpi_slt_ofNat_eq_one_iff (by omega) (by omega)

/-- A choice by a bit that says whether a statement holds. -/
theorem sel_iff {α : Type} {b : BitVec 1} {p : Prop} [Decidable p] (h : b = 1#1 ↔ p) (x y : α) : Scalar.select b x y = if p then x else y := by
  show (if b = 1#1 then x else y) = _
  exact if_congr h rfl rfl
theorem ofBool_iff (p : Prop) [Decidable p] : BitVec.ofBool (decide p) = 1#1 ↔ p := by by_cases h : p <;> simp [h]
theorem zero32 : Ideal.ofBits .f32 0x00000000#32 = 0 := Ideal.ofBits_zero_f32
theorem top32 : Ideal.ofBits .f32 0x7F800000#32 = ⊤ := by simp [Ideal.ofBits, Ideal.ieee]

/-- The softplus, as it is written with its guard against what is not a number. -/
theorem sp_of (u z : EReal) (hz : z = 0) : Scalar.select (BitVec.ofBool (decide (u - z ≠ u - z))) (u + z) (max u z + Ideal.log (1 + Ideal.exp (-(max (u - z) (-(u - z)))))) = sp u := by
  subst hz
  rw [sel_iff (ofBool_iff _), if_neg (not_not.mpr rfl), sub_zero]
  rfl
/-- What is kept of a number in its derivative. -/
theorem ri_of (u z w : EReal) (hz : z = 0) (hw : w = ⊤) : Scalar.select (BitVec.ofBool (decide (u = w))) z u = ri u := by
  subst hz hw
  exact sel_iff (ofBool_iff _) _ _

/-- The softplus of a score, and the exponential kept for its derivative. -/
theorem c0_sp (i : S1x16x2048x2048.Idx) : val_main_call0_v1_0 (F := Ideal) x0 i = sp (val_main_call0_v0 (F := Ideal) x0 i) := by
  rw [val_main_call0_v1_0_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply]
  exact sp_of _ _ zero32
theorem c3_sp (i : S1x16x2048x2048.Idx) : val_main_call3_v1_0 (F := Ideal) x0 i = sp (val_main_call3_v0 (F := Ideal) x0 i) := by
  rw [val_main_call3_v1_0_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply]
  exact sp_of _ _ zero32
theorem c0_dsp (i : S1x16x2048x2048.Idx) : val_main_v23_1 (F := Ideal) x0 i = dsp (val_main_call0_v0 (F := Ideal) x0 i) := by
  rw [val_main_v23_1_apply, val_main_call0_call0_v21_apply, val_main_call0_call0_v16_apply, val_main_call0_call0_v20_apply, val_main_call0_call0_v14_apply,
    val_main_call0_call0_v18_apply, c0_sp, val_main_call0_call0_v13_apply, val_main_call0_call0_v15_apply, val_main_call0_call0_v17_apply,
    val_main_call0_call0_v19_apply, val_main_call0_call0_cst_0_apply, val_main_call0_call0_cst_1_apply, val_main_call0_call0_cst_2_apply, val_main_call0_call0_cst_3_apply]
  exact congrArg Ideal.exp (congrArg₂ (fun a b : EReal => a - b) (ri_of _ _ _ zero32 top32) (ri_of _ _ _ zero32 top32))
theorem c3_dsp (i : S1x16x2048x2048.Idx) : val_main_v27_1 (F := Ideal) x0 i = dsp (val_main_call3_v0 (F := Ideal) x0 i) := by
  rw [val_main_v27_1_apply, val_main_call3_call0_v21_apply, val_main_call3_call0_v16_apply, val_main_call3_call0_v20_apply, val_main_call3_call0_v14_apply,
    val_main_call3_call0_v18_apply, c3_sp, val_main_call3_call0_v13_apply, val_main_call3_call0_v15_apply, val_main_call3_call0_v17_apply,
    val_main_call3_call0_v19_apply, val_main_call3_call0_cst_0_apply, val_main_call3_call0_cst_1_apply, val_main_call3_call0_cst_2_apply, val_main_call3_call0_cst_3_apply]
  exact congrArg Ideal.exp (congrArg₂ (fun a b : EReal => a - b) (ri_of _ _ _ zero32 top32) (ri_of _ _ _ zero32 top32))

/-- What the first is taken of is the score, the second its negative. -/
theorem c0_v0_at (t s : Fin 2048) : val_main_call0_v0 (F := Ideal) x0 (atZ h t s) = mZ (hQ x0 h) (hK x0 h) t.val s.val := by
  rw [val_main_call0_v0_apply, val_main_v22_apply, v12_at]
  exact neg_neg (mZ (hQ x0 h) (hK x0 h) t.val s.val)
theorem c3_v0_at (t s : Fin 2048) : val_main_call3_v0 (F := Ideal) x0 (atZ h t s) = -mZ (hQ x0 h) (hK x0 h) t.val s.val := by
  rw [val_main_call3_v0_apply, v12_at]
  rfl

/-- The logarithm of what an earlier key leaves. -/
theorem v24_at (t s : Fin 2048) : val_main_v24_0 (F := Ideal) x0 (atZ h t s) = mL (hQ x0 h) (hK x0 h) t.val s.val := by
  rw [val_main_v24_0_apply, sel_iff (v24_1_at h t s), val_main_v23_0_apply, c0_sp, c0_v0_at, val_main_call1_v2_apply, val_main_call1_v0_apply, val_main_cst_0_apply]
  unfold mL
  refine if_congr Iff.rfl (neg_sp _) zero32
/-- Its sum over a key and the keys after it. -/
theorem v25_at (t s : Fin 2048) : val_main_v25 (F := Ideal) x0 (atZ h t s) = ∑ j ∈ Finset.Ico s.val 2048, mL (hQ x0 h) (hK x0 h) t.val j := by
  have hf := fun k => v24_at x0 h t k
  have hi : val_main_call2_v0 (F := Ideal) (Shape.Idx.first h_S_) = (0 : EReal) := (val_main_call2_v0_apply _).trans zero32
  unfold val_main_v25
  generalize val_main_v24_0 (F := Ideal) x0 = y at hf ⊢
  generalize val_main_call2_v0 (F := Ideal) = z at hi ⊢
  generalize mL (hQ x0 h) (hK x0 h) t.val = f at hf ⊢
  exact suffix_apply (M := 2047) y z _ h_S_ hi (0 : Fin 1) h t s f hf

/-- The weight before the mask. -/
theorem v29_at (t s : Fin 2048) (hs : s.val < t.val) : val_main_v29 (F := Ideal) x0 (atZ h t s) = (mA (hQ x0 h) (hK x0 h) t.val s.val : EReal) := by
  rw [val_main_v29_apply, val_main_v28_apply, val_main_v27_0_apply, c3_sp, c3_v0_at, val_main_v26_apply, v25_at, v24_at]
  exact ref_weight (hQ x0 h) (hK x0 h) hs (by omega)
/-- The weight. -/
theorem v30_at (t s : Fin 2048) : val_main_v30_0 (F := Ideal) x0 (atZ h t s) = (mA (hQ x0 h) (hK x0 h) t.val s.val : EReal) := by
  rw [val_main_v30_0_apply]
  refine (sel_iff (v24_1_at h t s) _ _).trans ?_
  split
  · next hs => exact v29_at x0 h t s hs
  · next hs => rw [mA_of_le _ _ (by omega)]; exact (val_main_call4_v2_apply _).trans zero32

end Cert.ReferenceIdeal.Hand
end
-- ==== Proof.RefBackward.lean ====
/-
  The reference's gradients, read at an index: the heads' three gradients where the values and the cotangents are reals.
-/
module

public import proofs.«01_k».proof.Proof.RefForward

@[expose] public section

set_option maxRecDepth 16384

noncomputable section

namespace Cert.ReferenceIdeal.Hand

open Cert.ReferenceIdeal Cert.ReferenceIdeal.Gen Cert.ReferenceIdeal.Read Cert.Stick
open Idealize.ShloMosaic Idealize.ShloMosaic.TcCoe Idealize.ShloMosaic.ValueIdx Idealize.ShloMosaic.WordCmp

variable (x0 : (⟨S2048x6144, .bf16⟩ : BufTy).Contents (Elt Ideal)) (x1 : (⟨S2048x2048, .bf16⟩ : BufTy).Contents (Elt Ideal)) (h : Fin 16)

/-- The values and the cotangents of a head are reals. -/
structure Reals : Prop where
  w : ∀ t c, part x0 2 h t c = (hW x0 h t c : EReal)
  d : ∀ t c, cot x1 h t c = (hD x1 h t c : EReal)

variable {x0 x1 h} (H : Reals x0 x1 h)
include H

/-- The result. -/
theorem v31_at (t : Fin 2048) (c : Fin 128) : val_main_v31 (F := Ideal) x0 (at4 h t c) = (mO (hQ x0 h) (hK x0 h) (hW x0 h) t.val c.val : EReal) := by
  have el : ∀ k, lidx_main_v31 (at4 h t c) k = atZ h t k := fun k => by
    funext a; match a with | ⟨0, _⟩ => rfl | ⟨1, _⟩ => rfl | ⟨2, _⟩ => rfl | ⟨3, _⟩ => rfl
  have er : ∀ k, ridx_main_v31 (at4 h t c) k = at4 h k c := fun k => by
    funext a; match a with | ⟨0, _⟩ => rfl | ⟨1, _⟩ => rfl | ⟨2, _⟩ => rfl | ⟨3, _⟩ => rfl
  rw [val_main_v31_apply]
  unfold mO
  rw [coe_sum, ← Fin.sum_univ_eq_sum_range (fun s => ((mA (hQ x0 h) (hK x0 h) t.val s * hW x0 h s c.val : ℝ) : EReal)) 2048]
  refine Finset.sum_congr rfl fun k _ => ?_
  rw [el, er, v30_at, v9_at, H.w, EReal.coe_mul]
theorem v34_at (t : Fin 2048) (c : Fin 128) : val_main_v34 (F := Ideal) x0 (ix2 t (hcol h c)) = (mO (hQ x0 h) (hK x0 h) (hW x0 h) t.val c.val : EReal) := by
  have e34 : idx_main_v34 (ix2 t (hcol h c)) = ix3 (0 : Fin 1) t (hcol h c) := by
    funext a; apply Fin.ext
    match a with
    | ⟨0, _⟩ => rfl
    | ⟨1, _⟩ => show (t.val * 2048 + (h.val * 128 + c.val)) / 2048 % 2048 = t.val; omega
    | ⟨2, _⟩ => show (t.val * 2048 + (h.val * 128 + c.val)) % 2048 = h.val * 128 + c.val; omega
  have e33 : idx_main_v33 (ix3 (0 : Fin 1) t (hcol h c)) = ix4 (0 : Fin 1) t h c := by
    funext a; apply Fin.ext
    match a with
    | ⟨0, _⟩ => rfl
    | ⟨1, _⟩ => show ((0 * 2048 + t.val) * 2048 + (h.val * 128 + c.val)) / 2048 % 2048 = t.val; omega
    | ⟨2, _⟩ => show ((0 * 2048 + t.val) * 2048 + (h.val * 128 + c.val)) / 128 % 16 = h.val; omega
    | ⟨3, _⟩ => show ((0 * 2048 + t.val) * 2048 + (h.val * 128 + c.val)) % 128 = c.val; omega
  have e32 : idx_main_v32 (ix4 (0 : Fin 1) t h c) = at4 h t c := by
    funext a; match a with | ⟨0, _⟩ => rfl | ⟨1, _⟩ => rfl | ⟨2, _⟩ => rfl | ⟨3, _⟩ => rfl
  rw [val_main_v34_apply, e34, val_main_v33_apply, e33, val_main_v32_apply, e32, v31_at H]

/-- The cotangents of a head. -/
theorem v38_at (t : Fin 2048) (c : Fin 128) : val_main_v38 (F := Ideal) x1 (at4 h t c) = (hD x1 h t.val c.val : EReal) := by
  have e38 : idx_main_v38 (at4 h t c) = ix4 (0 : Fin 1) t h c := by
    funext a; match a with | ⟨0, _⟩ => rfl | ⟨1, _⟩ => rfl | ⟨2, _⟩ => rfl | ⟨3, _⟩ => rfl
  have e37 : idx_main_v37 (ix4 (0 : Fin 1) t h c) = ix3 (0 : Fin 1) t (hcol h c) := by
    funext a; apply Fin.ext
    match a with
    | ⟨0, _⟩ => rfl
    | ⟨1, _⟩ => show (((0 * 2048 + t.val) * 16 + h.val) * 128 + c.val) / 2048 % 2048 = t.val; omega
    | ⟨2, _⟩ => show (((0 * 2048 + t.val) * 16 + h.val) * 128 + c.val) % 2048 = h.val * 128 + c.val; omega
  have e36 : idx_main_v36 (ix3 (0 : Fin 1) t (hcol h c)) = ix2 t (hcol h c) := by
    funext a; match a with | ⟨0, _⟩ => rfl | ⟨1, _⟩ => rfl
  rw [val_main_v38_apply, e38, val_main_v37_apply, e37, val_main_v36_apply, e36, val_main_v35_apply, ← H.d, cot_apply]
  rfl

/-- The values' gradient. -/
theorem v40_at (s : Fin 2048) (c : Fin 128) : val_main_v40 (F := Ideal) x0 x1 (at4 h s c) = mDv (hQ x0 h) (hK x0 h) (hD x1 h) s.val c.val := by
  have e40 : idx_main_v40 (at4 h s c) = ix4 (0 : Fin 1) h c s := by
    funext a; match a with | ⟨0, _⟩ => rfl | ⟨1, _⟩ => rfl | ⟨2, _⟩ => rfl | ⟨3, _⟩ => rfl
  have el : ∀ k, lidx_main_v39 (ix4 (0 : Fin 1) h c s) k = at4 h k c := fun k => by
    funext a; match a with | ⟨0, _⟩ => rfl | ⟨1, _⟩ => rfl | ⟨2, _⟩ => rfl | ⟨3, _⟩ => rfl
  have er : ∀ k, ridx_main_v39 (ix4 (0 : Fin 1) h c s) k = atZ h k s := fun k => by
    funext a; match a with | ⟨0, _⟩ => rfl | ⟨1, _⟩ => rfl | ⟨2, _⟩ => rfl | ⟨3, _⟩ => rfl
  rw [val_main_v40_apply, e40, val_main_v39_apply]
  unfold mDv
  rw [← Fin.sum_univ_eq_sum_range (fun t => (mA (hQ x0 h) (hK x0 h) t s.val : EReal) * (hD x1 h t c.val : EReal)) 2048]
  refine Finset.sum_congr rfl fun k _ => ?_
  rw [el, er, v38_at H, v30_at, mul_comm]

/-- The weights' cotangents. -/
theorem v41_at (t s : Fin 2048) : val_main_v41 (F := Ideal) x0 x1 (atZ h t s) = (mDa (hW x0 h) (hD x1 h) t.val s.val : EReal) := by
  have el : ∀ k, lidx_main_v41 (atZ h t s) k = at4 h t k := fun k => by
    funext a; match a with | ⟨0, _⟩ => rfl | ⟨1, _⟩ => rfl | ⟨2, _⟩ => rfl | ⟨3, _⟩ => rfl
  have er : ∀ k, ridx_main_v41 (atZ h t s) k = at4 h s k := fun k => by
    funext a; match a with | ⟨0, _⟩ => rfl | ⟨1, _⟩ => rfl | ⟨2, _⟩ => rfl | ⟨3, _⟩ => rfl
  rw [val_main_v41_apply]
  unfold mDa
  rw [coe_sum]
  refine Finset.sum_congr rfl fun k _ => ?_
  rw [el, er, v38_at H, v9_at, H.w, EReal.coe_mul]
/-- Their products with the weights. -/
theorem v43_at (t s : Fin 2048) : val_main_v43 (F := Ideal) x0 x1 (atZ h t s) = (mDl (hQ x0 h) (hK x0 h) (hW x0 h) (hD x1 h) t.val s.val : EReal) := by
  have e42 : val_main_v42 (F := Ideal) x0 x1 (atZ h t s) = if s.val < t.val then (mDa (hW x0 h) (hD x1 h) t.val s.val : EReal) else 0 := by
    rw [val_main_v42_apply]
    refine (sel_iff (v24_1_at h t s) _ _).trans (if_congr Iff.rfl (v41_at H t s) ?_)
    exact (val_main_call5_v0_apply _).trans zero32
  rw [val_main_v43_apply, e42]
  by_cases hs : s.val < t.val
  · rw [if_pos hs, v29_at x0 h t s hs]
    exact (EReal.coe_mul _ _).symm
  · rw [if_neg hs, mDl_of_le _ _ _ _ (by omega)]
    exact zero_mul (val_main_v29 (F := Ideal) x0 (atZ h t s) : EReal)
/-- Their sums over the keys up to one. -/
theorem v46_at (t s : Fin 2048) : val_main_v46 (F := Ideal) x0 x1 (atZ h t s) = ∑ j ∈ Finset.range (s.val + 1), (mDl (hQ x0 h) (hK x0 h) (hW x0 h) (hD x1 h) t.val j : EReal) := by
  have hf := fun k => v43_at H t k
  have hi : val_main_call7_v0 (F := Ideal) (Shape.Idx.first h_S_) = (0 : EReal) := (val_main_call7_v0_apply _).trans zero32
  unfold val_main_v46
  generalize val_main_v43 (F := Ideal) x0 x1 = y at hf ⊢
  generalize val_main_call7_v0 (F := Ideal) = z at hi ⊢
  generalize mDl (hQ x0 h) (hK x0 h) (hW x0 h) (hD x1 h) t.val = f at hf ⊢
  exact prefix_apply (M := 2047) y z _ h_S_ hi (0 : Fin 1) h t s (fun j => (f j : EReal)) hf
/-- The sum over the keys before. -/
theorem v47_at (t s : Fin 2048) : val_main_v47 (F := Ideal) x0 x1 (atZ h t s) = (mBef (hQ x0 h) (hK x0 h) (hW x0 h) (hD x1 h) t.val s.val : EReal) := by
  rw [val_main_v47_apply, val_main_v45_apply, v43_at H, v46_at H, ← coe_sum, Finset.sum_range_succ]
  refine (congrArg₂ (fun a b : EReal => a + b) (EReal.coe_neg _).symm rfl).trans ((EReal.coe_add _ _).symm.trans (congrArg _ ?_))
  unfold mBef
  ring

/-- The scores' cotangents. -/
theorem v53_at (t s : Fin 2048) : val_main_v53 (F := Ideal) x0 x1 (atZ h t s) = (mDz (hQ x0 h) (hK x0 h) (hW x0 h) (hD x1 h) t.val s.val : EReal) := by
  have e48 : val_main_v48 (F := Ideal) x0 x1 (atZ h t s) = if s.val < t.val then (mBef (hQ x0 h) (hK x0 h) (hW x0 h) (hD x1 h) t.val s.val : EReal) else 0 := by
    rw [val_main_v48_apply]
    refine (sel_iff (v24_1_at h t s) _ _).trans (if_congr Iff.rfl (v47_at H t s) ?_)
    exact (val_main_call8_v0_apply _).trans zero32
  rw [val_main_v53_apply, val_main_v52_apply, val_main_cst_2_apply, val_main_v51_apply, val_main_v44_apply, val_main_call6_v1_apply, val_main_call6_v0_apply,
    val_main_v50_apply, val_main_v49_apply, val_main_call9_v1_apply, val_main_call9_v0_apply, e48, v43_at H, c0_dsp, c3_dsp, c0_v0_at, c3_v0_at]
  show (-(-(mDl (hQ x0 h) (hK x0 h) (hW x0 h) (hD x1 h) t.val s.val : EReal) * dsp (-mZ (hQ x0 h) (hK x0 h) t.val s.val))
      + -(-(-(if s.val < t.val then (mBef (hQ x0 h) (hK x0 h) (hW x0 h) (hD x1 h) t.val s.val : EReal) else 0) * dsp (mZ (hQ x0 h) (hK x0 h) t.val s.val)))) * scE = _
  rw [neg_mul, neg_neg, neg_neg, neg_mul, ← sub_eq_add_neg]
  by_cases hs : s.val < t.val
  · rw [if_pos hs]
    exact ref_dz (hQ x0 h) (hK x0 h) (hW x0 h) (hD x1 h) hs (by omega)
  · rw [if_neg hs, mDl_of_le _ _ _ _ (by omega), mDz_of_le _ _ _ _ (by omega), EReal.coe_zero, zero_mul, zero_mul, sub_zero, zero_mul]

/-- The keys' gradient and the queries'. -/
theorem v54_at (s : Fin 2048) (c : Fin 128) : val_main_v54 (F := Ideal) x0 x1 (at4 h s c) = mDk (hQ x0 h) (hK x0 h) (hW x0 h) (hD x1 h) s.val c.val := by
  have el : ∀ k, lidx_main_v54 (at4 h s c) k = atZ h k s := fun k => by
    funext a; match a with | ⟨0, _⟩ => rfl | ⟨1, _⟩ => rfl | ⟨2, _⟩ => rfl | ⟨3, _⟩ => rfl
  have er : ∀ k, ridx_main_v54 (at4 h s c) k = at4 h k c := fun k => by
    funext a; match a with | ⟨0, _⟩ => rfl | ⟨1, _⟩ => rfl | ⟨2, _⟩ => rfl | ⟨3, _⟩ => rfl
  rw [val_main_v54_apply]
  unfold mDk
  rw [← Fin.sum_univ_eq_sum_range (fun t => (mDz (hQ x0 h) (hK x0 h) (hW x0 h) (hD x1 h) t s.val : EReal) * hQ x0 h t c.val) 2048]
  refine Finset.sum_congr rfl fun k _ => ?_
  rw [el, er, v53_at H, v5_at]
theorem v55_at (t : Fin 2048) (c : Fin 128) : val_main_v55 (F := Ideal) x0 x1 (at4 h t c) = mDq (hQ x0 h) (hK x0 h) (hW x0 h) (hD x1 h) t.val c.val := by
  have el : ∀ k, lidx_main_v55 (at4 h t c) k = atZ h t k := fun k => by
    funext a; match a with | ⟨0, _⟩ => rfl | ⟨1, _⟩ => rfl | ⟨2, _⟩ => rfl | ⟨3, _⟩ => rfl
  have er : ∀ k, ridx_main_v55 (at4 h t c) k = at4 h k c := fun k => by
    funext a; match a with | ⟨0, _⟩ => rfl | ⟨1, _⟩ => rfl | ⟨2, _⟩ => rfl | ⟨3, _⟩ => rfl
  rw [val_main_v55_apply]
  unfold mDq
  rw [← Fin.sum_univ_eq_sum_range (fun s => (mDz (hQ x0 h) (hK x0 h) (hW x0 h) (hD x1 h) t.val s : EReal) * hK x0 h s c.val) 2048]
  refine Finset.sum_congr rfl fun k _ => ?_
  rw [el, er, v53_at H, v7_at]

end Cert.ReferenceIdeal.Hand
end
-- ==== Proof.RefOut.lean ====
/-
  The reference's three results, read at an index: the heads' gradients placed side by side and taken apart again.
-/
module

public import proofs.«01_k».proof.Proof.RefBackward
public import Idealize.ShloMosaic.Lib.KernelVsHost

@[expose] public section

set_option maxRecDepth 16384

noncomputable section

namespace Cert.ReferenceIdeal.Hand

open Cert.ReferenceIdeal Cert.ReferenceIdeal.Gen Cert.ReferenceIdeal.Read Cert.Stick
open Idealize.ShloMosaic Idealize.ShloMosaic.TcCoe Idealize.ShloMosaic.ValueIdx Idealize.ShloMosaic.WordCmp

/-- A part placed among three of zeros. -/
theorem pad_part (l g : ℕ) (y : S1x1x16x2048x128.Idx → EReal) (z : S_.Idx → EReal) (hz : z (Shape.Idx.first h_S_) = 0)
    (hp : S1x1x16x2048x128.Pads ![l, 0, 0, 0, 0] ![g, 0, 0, 0, 0] ![0, 0, 0, 0, 0] S3x1x16x2048x128) (j : Fin 3) (h : Fin 16) (t : Fin 2048) (c : Fin 128) :
    pad S3x1x16x2048x128 ![l, 0, 0, 0, 0] ![g, 0, 0, 0, 0] ![0, 0, 0, 0, 0] y z hp h_S_ (ix5 j (0 : Fin 1) h t c)
      = if j.val = l then y (ix5 (0 : Fin 1) (0 : Fin 1) h t c) else 0 := by
  by_cases hj : j.val = l
  · rw [if_pos hj]
    refine pad_apply_of_inside _ _ _ y z hp h_S_ _ (ix5 (0 : Fin 1) (0 : Fin 1) h t c) fun a => ?_
    match a with
    | ⟨0, _⟩ => show j.val = l + 0 * (0 + 1); omega
    | ⟨1, _⟩ => show 0 = 0 + 0 * (0 + 1); omega
    | ⟨2, _⟩ => show h.val = 0 + h.val * (0 + 1); omega
    | ⟨3, _⟩ => show t.val = 0 + t.val * (0 + 1); omega
    | ⟨4, _⟩ => show c.val = 0 + c.val * (0 + 1); omega
  · rw [if_neg hj, ← hz]
    refine pad_apply_of_not_inside _ _ _ y z hp h_S_ _ (0 : Fin 5) fun hin => hj ?_
    have h1 : l ≤ j.val := hin.1
    have h2 : (j.val - l) / (0 + 1) < 1 := hin.2.2
    rw [Nat.div_one] at h2
    omega

variable {x0 : (⟨S2048x6144, .bf16⟩ : BufTy).Contents (Elt Ideal)} {x1 : (⟨S2048x2048, .bf16⟩ : BufTy).Contents (Elt Ideal)} {h : Fin 16} (H : Reals x0 x1 h)
include H

/-- The three placed parts. -/
theorem v57_at (j : Fin 3) (t : Fin 2048) (c : Fin 128) : val_main_v57 (F := Ideal) x0 x1 (ix5 j (0 : Fin 1) h t c) = if j.val = 2 then mDv (hQ x0 h) (hK x0 h) (hD x1 h) t.val c.val else 0 := by
  refine (pad_part 2 0 (val_main_v56 (F := Ideal) x0 x1) (val_main_cst_3 (F := Ideal)) zero32 pads_S1x1x16x2048x128_S3x1x16x2048x128_200_000_000_000_000 j h t c).trans (if_congr Iff.rfl ?_ rfl)
  have e : idx_main_v56 (ix5 (0 : Fin 1) (0 : Fin 1) h t c) = at4 h t c := by
    funext a; match a with | ⟨0, _⟩ => rfl | ⟨1, _⟩ => rfl | ⟨2, _⟩ => rfl | ⟨3, _⟩ => rfl
  rw [val_main_v56_apply, e, v40_at H]
theorem v59_at (j : Fin 3) (t : Fin 2048) (c : Fin 128) : val_main_v59 (F := Ideal) x0 x1 (ix5 j (0 : Fin 1) h t c) = if j.val = 1 then mDk (hQ x0 h) (hK x0 h) (hW x0 h) (hD x1 h) t.val c.val else 0 := by
  refine (pad_part 1 1 (val_main_v58 (F := Ideal) x0 x1) (val_main_cst_4 (F := Ideal)) zero32 pads_S1x1x16x2048x128_S3x1x16x2048x128_110_000_000_000_000 j h t c).trans (if_congr Iff.rfl ?_ rfl)
  have e : idx_main_v58 (ix5 (0 : Fin 1) (0 : Fin 1) h t c) = at4 h t c := by
    funext a; match a with | ⟨0, _⟩ => rfl | ⟨1, _⟩ => rfl | ⟨2, _⟩ => rfl | ⟨3, _⟩ => rfl
  rw [val_main_v58_apply, e, v54_at H]
theorem v62_at (j : Fin 3) (t : Fin 2048) (c : Fin 128) : val_main_v62 (F := Ideal) x0 x1 (ix5 j (0 : Fin 1) h t c) = if j.val = 0 then mDq (hQ x0 h) (hK x0 h) (hW x0 h) (hD x1 h) t.val c.val else 0 := by
  refine (pad_part 0 2 (val_main_v61 (F := Ideal) x0 x1) (val_main_cst_5 (F := Ideal)) zero32 pads_S1x1x16x2048x128_S3x1x16x2048x128_020_000_000_000_000 j h t c).trans (if_congr Iff.rfl ?_ rfl)
  have e : idx_main_v61 (ix5 (0 : Fin 1) (0 : Fin 1) h t c) = at4 h t c := by
    funext a; match a with | ⟨0, _⟩ => rfl | ⟨1, _⟩ => rfl | ⟨2, _⟩ => rfl | ⟨3, _⟩ => rfl
  rw [val_main_v61_apply, e, v55_at H]

/-- The gradient of the three parts side by side. -/
theorem v67_at (j : Fin 3) (t : Fin 2048) (c : Fin 128) :
    val_main_v67 (F := Ideal) x0 x1 (ix2 t (pcol j h c))
      = ((if j.val = 2 then mDv (hQ x0 h) (hK x0 h) (hD x1 h) t.val c.val else 0) + (if j.val = 1 then mDk (hQ x0 h) (hK x0 h) (hW x0 h) (hD x1 h) t.val c.val else 0))
        + (if j.val = 0 then mDq (hQ x0 h) (hK x0 h) (hW x0 h) (hD x1 h) t.val c.val else 0) := by
  have e66 : ∀ k, idx_main_v66 (ix2 t (pcol j h c)) k = ix3 (0 : Fin 1) t (pcol j h c) := fun k => by
    funext a
    match a with
    | ⟨0, _⟩ => exact Subsingleton.elim (α := Fin 1) _ _
    | ⟨1, _⟩ => rfl
    | ⟨2, _⟩ => rfl
  have e65 : idx_main_v65 (ix3 (0 : Fin 1) t (pcol j h c)) = ix5 (0 : Fin 1) t j h c := by
    funext a; apply Fin.ext
    match a with
    | ⟨0, _⟩ => rfl
    | ⟨1, _⟩ => show ((0 * 2048 + t.val) * 6144 + ((j.val * 16 + h.val) * 128 + c.val)) / 6144 % 2048 = t.val; omega
    | ⟨2, _⟩ => show ((0 * 2048 + t.val) * 6144 + ((j.val * 16 + h.val) * 128 + c.val)) / 2048 % 3 = j.val; omega
    | ⟨3, _⟩ => show ((0 * 2048 + t.val) * 6144 + ((j.val * 16 + h.val) * 128 + c.val)) / 128 % 16 = h.val; omega
    | ⟨4, _⟩ => show ((0 * 2048 + t.val) * 6144 + ((j.val * 16 + h.val) * 128 + c.val)) % 128 = c.val; omega
  have e64 : idx_main_v64 (ix5 (0 : Fin 1) t j h c) = ix5 j (0 : Fin 1) h t c := by
    funext a; match a with | ⟨0, _⟩ => rfl | ⟨1, _⟩ => rfl | ⟨2, _⟩ => rfl | ⟨3, _⟩ => rfl | ⟨4, _⟩ => rfl
  rw [val_main_v67_apply, val_main_v66_apply, Fin.sum_univ_one, e66, val_main_v65_apply, e65, val_main_v64_apply, e64, val_main_v63_apply, val_main_v60_apply,
    v57_at H, v59_at H, v62_at H]
  refine (congrArg (fun z : EReal => z + _) zero32).trans ?_
  exact zero_add _

theorem v68_at (t : Fin 2048) (c : Fin 128) : val_main_v68 (F := Ideal) x0 x1 (ix2 t (hcol h c)) = mDq (hQ x0 h) (hK x0 h) (hW x0 h) (hD x1 h) t.val c.val := by
  have e : idx_main_v68 (ix2 t (hcol h c)) = ix2 t (pcol 0 h c) := by
    funext a; apply Fin.ext
    match a with
    | ⟨0, _⟩ => rfl
    | ⟨1, _⟩ => show h.val * 128 + c.val = (0 * 16 + h.val) * 128 + c.val; omega
  rw [val_main_v68_apply, e, v67_at H, if_neg (by decide), if_neg (by decide), if_pos (by decide), zero_add, zero_add]
theorem v69_at (t : Fin 2048) (c : Fin 128) : val_main_v69 (F := Ideal) x0 x1 (ix2 t (hcol h c)) = mDk (hQ x0 h) (hK x0 h) (hW x0 h) (hD x1 h) t.val c.val := by
  have e : idx_main_v69 (ix2 t (hcol h c)) = ix2 t (pcol 1 h c) := by
    funext a; apply Fin.ext
    match a with
    | ⟨0, _⟩ => rfl
    | ⟨1, _⟩ => show 2048 + (h.val * 128 + c.val) = (1 * 16 + h.val) * 128 + c.val; omega
  rw [val_main_v69_apply, e, v67_at H, if_neg (by decide), if_pos (by decide), if_neg (by decide), zero_add, add_zero]
theorem v70_at (t : Fin 2048) (c : Fin 128) : val_main_v70 (F := Ideal) x0 x1 (ix2 t (hcol h c)) = mDv (hQ x0 h) (hK x0 h) (hD x1 h) t.val c.val := by
  have e : idx_main_v70 (ix2 t (hcol h c)) = ix2 t (pcol 2 h c) := by
    funext a; apply Fin.ext
    match a with
    | ⟨0, _⟩ => rfl
    | ⟨1, _⟩ => show 4096 + (h.val * 128 + c.val) = (2 * 16 + h.val) * 128 + c.val; omega
  rw [val_main_v70_apply, e, v67_at H, if_pos (by decide), if_neg (by decide), if_neg (by decide), add_zero, add_zero]

end Cert.ReferenceIdeal.Hand
end
-- ==== Proof.Final.lean ====
/-
  The kernel's three result arrays: at the reals, head by head, the reference's three gradients.
-/
module

public import proofs.«01_k».proof.Proof.Host
public import proofs.«01_k».proof.Proof.Run
public import proofs.«01_k».proof.Proof.Loop
public import proofs.«01_k».proof.Proof.RefOut
public import proofs.«01_k».proof.Pre_finite_values
public import Idealize.ShloMosaic.Lib.Pipeline.ValueKit

@[expose] public section

set_option maxRecDepth 16384

noncomputable section

namespace Cert.KernelIdeal.Hand

open Cert.KernelIdeal Cert.KernelIdeal.Gen Cert.Stick
open Idealize.ShloMosaic hiding ix2 eq_ix2
open Idealize.SL.Sem
open Idealize.ShloMosaic.TcCoe Idealize.ShloMosaic.ValueIdx Idealize.ShloMosaic.Pipeline
open Cert.ReferenceIdeal.Hand (pcol hcol part cot part_apply cot_apply hQ hK hW hD Reals v34_at v68_at v69_at v70_at sel_iff ofBool_iff top32)
open Cert.ReferenceIdeal.Read (val_main_v34 val_main_v68 val_main_v69 val_main_v70)

/-- Where each window's block begins, in blocks. -/
theorem at_0 : ∀ t : Fin cfg0.N, win0_0.index t = ![0, t.val] := (by decide +kernel : ∀ t : Fin grid0.N, win0_0.index t = ![0, t.val])
theorem at_1 : ∀ t : Fin cfg0.N, win0_1.index t = ![0, 16 + t.val] := (by decide +kernel : ∀ t : Fin grid0.N, win0_1.index t = ![0, 16 + t.val])
theorem at_2 : ∀ t : Fin cfg0.N, win0_2.index t = ![0, 32 + t.val] := (by decide +kernel : ∀ t : Fin grid0.N, win0_2.index t = ![0, 32 + t.val])
theorem at_3 : ∀ t : Fin cfg0.N, win0_3.index t = ![0, t.val] := (by decide +kernel : ∀ t : Fin grid0.N, win0_3.index t = ![0, t.val])
theorem at_4 : ∀ t : Fin cfg0.N, win0_4.index t = ![0, t.val] := (by decide +kernel : ∀ t : Fin grid0.N, win0_4.index t = ![0, t.val])
theorem at_5 : ∀ t : Fin cfg0.N, win0_5.index t = ![0, t.val] := (by decide +kernel : ∀ t : Fin grid0.N, win0_5.index t = ![0, t.val])
theorem at_6 : ∀ t : Fin cfg0.N, win0_6.index t = ![0, t.val] := (by decide +kernel : ∀ t : Fin grid0.N, win0_6.index t = ![0, t.val])
theorem at_7 : ∀ t : Fin cfg0.N, win0_7.index t = ![0, t.val] := (by decide +kernel : ∀ t : Fin grid0.N, win0_7.index t = ![0, t.val])

/-- The head of a point. -/
abbrev hd (t : Fin cfg0.N) : Fin 16 := ⟨t.val, lt_of_lt_of_eq t.isLt (by decide +kernel : grid0.N = 16)⟩

section
variable (m : (ℓ : Loc nD τ sig) → Buf (Elt Ideal) ℓ) (c : Dev nD) (t : Fin cfg0.N)

theorem blk_0 (r : Fin 2048) (j : Fin 128) : iblk m c 0 t (ix2 r j : S2048x128.Idx) = m ((c : Thread nD τ).loc main_arg0) (ix2 r (pcol 0 (hd t) j)) := by
  blk_simp [iblk]
  rw [show V m c main_arg0 = _ from V_main_arg0 m c]
  generalize m ((c : Thread nD τ).loc main_arg0) = x
  refine congrArg x (funext fun a => Fin.ext ?_)
  match a with
  | ⟨0, _⟩ => blk_simp [at_0]
  | ⟨1, _⟩ => blk_simp [at_0]; show t.val * 128 + j.val = (0 * 16 + t.val) * 128 + j.val; omega
theorem blk_1 (r : Fin 2048) (j : Fin 128) : iblk m c 1 t (ix2 r j : S2048x128.Idx) = m ((c : Thread nD τ).loc main_arg0) (ix2 r (pcol 1 (hd t) j)) := by
  blk_simp [iblk]
  rw [show V m c main_arg0 = _ from V_main_arg0 m c]
  generalize m ((c : Thread nD τ).loc main_arg0) = x
  refine congrArg x (funext fun a => Fin.ext ?_)
  match a with
  | ⟨0, _⟩ => blk_simp [at_1]
  | ⟨1, _⟩ => blk_simp [at_1]; show (16 + t.val) * 128 + j.val = (1 * 16 + t.val) * 128 + j.val; omega
theorem blk_2 (r : Fin 2048) (j : Fin 128) : iblk m c 2 t (ix2 r j : S2048x128.Idx) = m ((c : Thread nD τ).loc main_arg0) (ix2 r (pcol 2 (hd t) j)) := by
  blk_simp [iblk]
  rw [show V m c main_arg0 = _ from V_main_arg0 m c]
  generalize m ((c : Thread nD τ).loc main_arg0) = x
  refine congrArg x (funext fun a => Fin.ext ?_)
  match a with
  | ⟨0, _⟩ => blk_simp [at_2]
  | ⟨1, _⟩ => blk_simp [at_2]; show (32 + t.val) * 128 + j.val = (2 * 16 + t.val) * 128 + j.val; omega
theorem read_3 (X : Buf (Elt Ideal) ((c : Thread nD τ).loc main_v34)) (r : Fin 2048) (j : Fin 128) :
    ((cfg0.win 3).blk t).view.read (Elt Ideal) X (ix2 r j : S2048x128.Idx) = X (ix2 r (hcol (hd t) j)) := by
  blk_simp
  refine congrArg X (funext fun a => Fin.ext ?_)
  match a with
  | ⟨0, _⟩ => blk_simp [at_3]
  | ⟨1, _⟩ => blk_simp [at_3]
theorem blk_3 (r : Fin 2048) (j : Fin 128) : iblk m c 3 t (ix2 r j : S2048x128.Idx) = val_main_v34 (F := Ideal) (m ((c : Thread nD τ).loc main_arg0)) (ix2 r (hcol (hd t) j)) :=
  (read_3 c t (V m c main_v34) r j).trans (congrFun (V_main_v34 m c) (ix2 r (hcol (hd t) j)))
theorem blk_4 (r : Fin 2048) (j : Fin 128) : iblk m c 4 t (ix2 r j : S2048x128.Idx) = m ((c : Thread nD τ).loc main_arg1) (ix2 r (hcol (hd t) j)) := by
  blk_simp [iblk]
  rw [show V m c main_arg1 = _ from V_main_arg1 m c]
  generalize m ((c : Thread nD τ).loc main_arg1) = x
  refine congrArg x (funext fun a => Fin.ext ?_)
  match a with
  | ⟨0, _⟩ => blk_simp [at_4]
  | ⟨1, _⟩ => blk_simp [at_4]; skip

/-- The five blocks of a point hold its head. -/
theorem holds (H : Reals (m ((c : Thread nD τ).loc main_arg0)) (m ((c : Thread nD τ).loc main_arg1)) (hd t)) :
    Holds (hQ (m ((c : Thread nD τ).loc main_arg0)) (hd t)) (hK (m ((c : Thread nD τ).loc main_arg0)) (hd t)) (hW (m ((c : Thread nD τ).loc main_arg0)) (hd t)) (hD (m ((c : Thread nD τ).loc main_arg1)) (hd t))
      (iblk m c 0 t) (iblk m c 1 t) (iblk m c 2 t) (iblk m c 3 t) (iblk m c 4 t) where
  q r j := (blk_0 m c t r j).trans (part_apply _ 0 (hd t) r j).symm
  k r j := (blk_1 m c t r j).trans (part_apply _ 1 (hd t) r j).symm
  v r j := (blk_2 m c t r j).trans ((part_apply _ 2 (hd t) r j).symm.trans (H.w r j))
  o r j := (blk_3 m c t r j).trans (v34_at H r j)
  d r j := (blk_4 m c t r j).trans ((cot_apply _ (hd t) r j).symm.trans (H.d r j))

/-- The result array of window 5. -/
theorem arr_5 (H : ∀ h, Reals (m ((c : Thread nD τ).loc main_arg0)) (m ((c : Thread nD τ).loc main_arg1)) h) :
    (dats m 0 c).arrAt 5 cfg0.N = val_main_v68 (F := Ideal) (m ((c : Thread nD τ).loc main_arg0)) (m ((c : Thread nD τ).loc main_arg1)) := by
  refine (dats m 0 c).arrAt_eq_of_covers 5 _ (by decide +kernel) fun t hf y => ?_
  blk_simp
  rw [after_5]
  obtain ⟨r, j, rfl⟩ : ∃ (r : Fin 2048) (j : Fin 128), y = ix2 r j := ⟨y 0, y 1, eq_ix2 y⟩
  refine (outQ_at (holds m c t (H (hd t))) r j).trans ((v68_at (H (hd t)) r j).symm.trans ?_)
  generalize val_main_v68 (F := Ideal) (m ((c : Thread nD τ).loc main_arg0)) (m ((c : Thread nD τ).loc main_arg1)) = x
  refine congrArg x (funext fun a => Fin.ext ?_)
  match a with
  | ⟨0, _⟩ => blk_simp [at_5]
  | ⟨1, _⟩ => blk_simp [at_5]

/-- The result array of window 6. -/
theorem arr_6 (H : ∀ h, Reals (m ((c : Thread nD τ).loc main_arg0)) (m ((c : Thread nD τ).loc main_arg1)) h) :
    (dats m 0 c).arrAt 6 cfg0.N = val_main_v69 (F := Ideal) (m ((c : Thread nD τ).loc main_arg0)) (m ((c : Thread nD τ).loc main_arg1)) := by
  refine (dats m 0 c).arrAt_eq_of_covers 6 _ (by decide +kernel) fun t hf y => ?_
  blk_simp
  rw [after_6]
  obtain ⟨r, j, rfl⟩ : ∃ (r : Fin 2048) (j : Fin 128), y = ix2 r j := ⟨y 0, y 1, eq_ix2 y⟩
  refine (outK_at (holds m c t (H (hd t))) r j).trans ((v69_at (H (hd t)) r j).symm.trans ?_)
  generalize val_main_v69 (F := Ideal) (m ((c : Thread nD τ).loc main_arg0)) (m ((c : Thread nD τ).loc main_arg1)) = x
  refine congrArg x (funext fun a => Fin.ext ?_)
  match a with
  | ⟨0, _⟩ => blk_simp [at_6]
  | ⟨1, _⟩ => blk_simp [at_6]

/-- The result array of window 7. -/
theorem arr_7 (H : ∀ h, Reals (m ((c : Thread nD τ).loc main_arg0)) (m ((c : Thread nD τ).loc main_arg1)) h) :
    (dats m 0 c).arrAt 7 cfg0.N = val_main_v70 (F := Ideal) (m ((c : Thread nD τ).loc main_arg0)) (m ((c : Thread nD τ).loc main_arg1)) := by
  refine (dats m 0 c).arrAt_eq_of_covers 7 _ (by decide +kernel) fun t hf y => ?_
  blk_simp
  rw [after_7]
  obtain ⟨r, j, rfl⟩ : ∃ (r : Fin 2048) (j : Fin 128), y = ix2 r j := ⟨y 0, y 1, eq_ix2 y⟩
  refine (outV_at (holds m c t (H (hd t))) r j).trans ((v70_at (H (hd t)) r j).symm.trans ?_)
  generalize val_main_v70 (F := Ideal) (m ((c : Thread nD τ).loc main_arg0)) (m ((c : Thread nD τ).loc main_arg1)) = x
  refine congrArg x (funext fun a => Fin.ext ?_)
  match a with
  | ⟨0, _⟩ => blk_simp [at_7]
  | ⟨1, _⟩ => blk_simp [at_7]

end

/-- The precondition says that the values and the cotangents of every head are reals. -/
theorem reals_of [Cert.Pre_finite_values.Facts] (x0 : FVec Ideal S2048x6144 .bf16) (x1 : FVec Ideal S2048x2048 .bf16)
    (hp : (Cert.Pre_finite_values.fn (F := Ideal) x0 x1).1 = (fun _ => 1#1) ∧ (Cert.Pre_finite_values.fn (F := Ideal) x0 x1).2 = (fun _ => 1#1)) (h : Fin 16) : Reals x0 x1 h := by
  have fin : ∀ u : EReal, BitVec.ofBool (decide (max u (-u) < Ideal.ofBits .f32 0x7F800000#32)) = 1#1 → u = (u.toReal : EReal) := fun u hu => by
    rw [ofBool_iff, top32] at hu
    refine (EReal.coe_toReal (fun e => ?_) (fun e => ?_)).symm <;> subst e <;> simp at hu
  refine ⟨fun t j => ?_, fun t j => ?_⟩
  · by_cases ht : t < 2048 ∧ j < 128
    · show part x0 2 h t j = ((part x0 2 h t j).toReal : EReal)
      refine fin _ ?_
      refine Eq.trans ?_ (congrFun hp.1 (ix2 ⟨t, ht.1⟩ (hcol h ⟨j, ht.2⟩)))
      refine congrArg (fun u : EReal => BitVec.ofBool (decide (max u (-u) < Ideal.ofBits .f32 0x7F800000#32))) ?_
      refine (dif_pos ht).trans (congrArg x0 (funext fun a => Fin.ext ?_))
      match a with
      | ⟨0, _⟩ => show t = 0 + t; omega
      | ⟨1, _⟩ => show (2 * 16 + h.val) * 128 + j = 4096 + (h.val * 128 + j); omega
    · show part x0 2 h t j = ((part x0 2 h t j).toReal : EReal)
      rw [show part x0 2 h t j = 0 from dif_neg ht]; rfl
  · by_cases ht : t < 2048 ∧ j < 128
    · show cot x1 h t j = ((cot x1 h t j).toReal : EReal)
      refine fin _ ?_
      refine Eq.trans ?_ (congrFun hp.2 (ix2 ⟨t, ht.1⟩ (hcol h ⟨j, ht.2⟩)))
      exact congrArg (fun u : EReal => BitVec.ofBool (decide (max u (-u) < Ideal.ofBits .f32 0x7F800000#32))) (dif_pos ht)
    · show cot x1 h t j = ((cot x1 h t j).toReal : EReal)
      rw [show cot x1 h t j = 0 from dif_neg ht]; rfl

/-- The run of the whole program at the reals: the results are the reference's gradients, the arguments as they began. -/
theorem run_values (m : (ℓ : Loc nD τ sig) → Buf (Elt Ideal) ℓ) (ρ : Dev nD → PrngReg)
    (H : ∀ c : Dev nD, ∀ h, Reals (m ((c : Thread nD τ).loc main_arg0)) (m ((c : Thread nD τ).loc main_arg1)) h) :
    θ_run defs (onTc (τ := τ) (main (F := Ideal))) ⟨m, fun _ => 0, ρ⟩ (fun r => ∀ c : Dev nD,
      r.2.mem ((c.tc : Thread nD τ).loc main_v35_0) = val_main_v68 (F := Ideal) (m ((c : Thread nD τ).loc main_arg0)) (m ((c : Thread nD τ).loc main_arg1))
      ∧ r.2.mem ((c.tc : Thread nD τ).loc main_v35_1) = val_main_v69 (F := Ideal) (m ((c : Thread nD τ).loc main_arg0)) (m ((c : Thread nD τ).loc main_arg1))
      ∧ r.2.mem ((c.tc : Thread nD τ).loc main_v35_2) = val_main_v70 (F := Ideal) (m ((c : Thread nD τ).loc main_arg0)) (m ((c : Thread nD τ).loc main_arg1))
      ∧ r.2.mem ((c.tc : Thread nD τ).loc main_arg0) = m ((c : Thread nD τ).loc main_arg0)
      ∧ r.2.mem ((c.tc : Thread nD τ).loc main_arg1) = m ((c : Thread nD τ).loc main_arg1)) :=
  (θ_run defs _ _).mono (fun r h c => ⟨((h.1 c).1 5).trans (arr_5 m c (H c)), ((h.1 c).1 6).trans (arr_6 m c (H c)), ((h.1 c).1 7).trans (arr_7 m c (H c)),
      ((h.1 c).1 2).trans (((dats m 0 c).arrAt_in 2 rfl _).trans ((A_eq m c 2).trans (V_main_arg0 m c))),
      ((h.1 c).1 4).trans (((dats m 0 c).arrAt_in 4 rfl _).trans ((A_eq m c 4).trans (V_main_arg1 m c)))⟩) (run_main m ρ)

end Cert.KernelIdeal.Hand

end
-- ==== Proof.Same.lean ====
/-
  The printed kernel and its idealization have one text; each part of it is equal to the other's.
-/
module
public import proofs.«01_k».proof.Defs
public import proofs.«01_k».proof.Proof.Gen.Kernel
public import proofs.«01_k».proof.Proof.Gen.KernelIdeal
@[expose] public section
noncomputable section
namespace Cert.Proof
open Idealize.ShloMosaic Idealize.SL.Sem
variable {F : FTy → Type} [FloatOps F]
set_option maxHeartbeats 4000000
/-- The table of the kernel's bodies. -/
theorem bodies_same : (Cert.Kernel.defs₀ (F := F)) = (Cert.KernelIdeal.defs₀ (F := F)) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))
/-- The table with the pipelines' bodies. -/
theorem defs_same : (Cert.Kernel.defs (F := F)) = (Cert.KernelIdeal.defs (F := F)) :=
  congrArg (Pipeline.defs Cert.KernelIdeal.pcfgs) bodies_same
/-- The host program. -/
theorem main_same : (Cert.Kernel.main (F := F)) = (Cert.KernelIdeal.main (F := F)) := rfl
end Cert.Proof
end
-- ==== Proof.SameOne.lean ====
/-
  Programs with one call: their tables of bodies have one label.
-/
module
public import proofs.«01_k».proof.Defs
@[expose] public section
namespace Cert.Proof

/-- Two families over one label are equal when they are at that label. -/
theorem eq_of_zero.{u, v} {A : Fin 1 → Type u} {B : Fin 1 → Type v} {f g : (l : Fin 1) → A l → B l} (h : ∀ a, f 0 a = g 0 a) : f = g := by
  funext l a
  match l, a with
  | 0, a => exact h a
end Cert.Proof
-- ==== Proof.SameMlp.lean ====
/-
  Of the products of the MLP, the printed programs and their idealizations have one text; each part of it is equal to the other's.
-/
module
public import proofs.«01_k».proof.Proof.SameOne
public import proofs.«01_k».proof.Proof.Gen.MlpDu
public import proofs.«01_k».proof.Proof.Gen.MlpDuIdeal
public import proofs.«01_k».proof.Proof.Gen.MlpDh
public import proofs.«01_k».proof.Proof.Gen.MlpDhIdeal
public import proofs.«01_k».proof.Proof.Gen.MlpDwOne
public import proofs.«01_k».proof.Proof.Gen.MlpDwOneIdeal
public import proofs.«01_k».proof.Proof.Gen.MlpDwTwo
public import proofs.«01_k».proof.Proof.Gen.MlpDwTwoIdeal
public import proofs.«01_k».proof.Proof.Gen.MlpUp
public import proofs.«01_k».proof.Proof.Gen.MlpUpIdeal
public import proofs.«01_k».proof.Proof.Gen.MlpDown
public import proofs.«01_k».proof.Proof.Gen.MlpDownIdeal
@[expose] public section
noncomputable section
namespace Cert.Proof
open Idealize.ShloMosaic Idealize.SL.Sem
variable {F : FTy → Type} [FloatOps F]
set_option maxHeartbeats 4000000

theorem mlpDu_defs : (Cert.MlpDu.defs (F := F)) = (Cert.MlpDuIdeal.defs (F := F)) :=
  congrArg (fun D => Pipeline.defs Cert.MlpDuIdeal.pcfgs (Defs.onTc D)) (eq_of_zero fun _ => rfl)
theorem mlpDu_main : (Cert.MlpDu.main (F := F)) = (Cert.MlpDuIdeal.main (F := F)) := rfl

theorem mlpDh_defs : (Cert.MlpDh.defs (F := F)) = (Cert.MlpDhIdeal.defs (F := F)) :=
  congrArg (fun D => Pipeline.defs Cert.MlpDhIdeal.pcfgs (Defs.onTc D)) (eq_of_zero fun _ => rfl)
theorem mlpDh_main : (Cert.MlpDh.main (F := F)) = (Cert.MlpDhIdeal.main (F := F)) := rfl

theorem mlpDwOne_defs : (Cert.MlpDwOne.defs (F := F)) = (Cert.MlpDwOneIdeal.defs (F := F)) :=
  congrArg (fun D => Pipeline.defs Cert.MlpDwOneIdeal.pcfgs (Defs.onTc D)) (eq_of_zero fun _ => rfl)
theorem mlpDwOne_main : (Cert.MlpDwOne.main (F := F)) = (Cert.MlpDwOneIdeal.main (F := F)) := rfl

theorem mlpDwTwo_defs : (Cert.MlpDwTwo.defs (F := F)) = (Cert.MlpDwTwoIdeal.defs (F := F)) :=
  congrArg (fun D => Pipeline.defs Cert.MlpDwTwoIdeal.pcfgs (Defs.onTc D)) (eq_of_zero fun _ => rfl)
theorem mlpDwTwo_main : (Cert.MlpDwTwo.main (F := F)) = (Cert.MlpDwTwoIdeal.main (F := F)) := rfl

theorem mlpUp_defs : (Cert.MlpUp.defs (F := F)) = (Cert.MlpUpIdeal.defs (F := F)) :=
  congrArg (fun D => Pipeline.defs Cert.MlpUpIdeal.pcfgs (Defs.onTc D)) (eq_of_zero fun _ => rfl)
theorem mlpUp_main : (Cert.MlpUp.main (F := F)) = (Cert.MlpUpIdeal.main (F := F)) := rfl

theorem mlpDown_defs : (Cert.MlpDown.defs (F := F)) = (Cert.MlpDownIdeal.defs (F := F)) :=
  congrArg (fun D => Pipeline.defs Cert.MlpDownIdeal.pcfgs (Defs.onTc D)) (eq_of_zero fun _ => rfl)
theorem mlpDown_main : (Cert.MlpDown.main (F := F)) = (Cert.MlpDownIdeal.main (F := F)) := rfl
end Cert.Proof
end
-- ==== Proof.ValDu.lean ====
/-
  The gradient of the hidden layer: the array the run leaves is the reference's, element by element.
-/
module
public import proofs.«01_k».proof.Proof.Gen.MlpDuIdeal.Value
public import proofs.«01_k».proof.Proof.Gen.MlpDuReferenceIdeal.Run
public import proofs.«01_k».proof.Proof.Gen.MlpDuReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.MlpDuIdeal.Hand
open Cert.MlpDuIdeal Cert.MlpDuIdeal.Gen
variable (m : (ℓ : Loc nD τ sig) → Buf (Elt Ideal) ℓ)

theorem idx : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

/-- Twice the positive part of `u` times `S`, against the derivative of the square of that positive part. -/
theorem twice (S u : EReal) : S * (2 * max u 0) = if 0 < u then max u 0 * S + S * max u 0 else 0 := by
  split_ifs with h
  · rw [max_eq_left h.le, mul_comm u S, ← EReal.left_distrib_of_nonneg h.le h.le, ← one_add_one_eq_two, EReal.right_distrib_of_nonneg zero_le_one zero_le_one, one_mul]
  · rw [max_eq_right (not_lt.1 h), mul_zero, mul_zero]

/-- The third operand of the call: the positive part of the first argument. -/
theorem V_relu (c : Dev nD) (i : S2048x8192.Idx) : (show EReal from V m c main_v0 i) = max (show EReal from m ((c : Thread nD τ).loc main_arg0) i) 0 := by
  show V m c main_v0 i = _
  entry_read
  show max (show EReal from m ((c : Thread nD τ).loc main_arg0) i) (Ideal.ofBits .bf16 0x0000#16) = _
  rw [Ideal.ofBits_zero_bf16]

theorem final (c : Dev nD) : (dats m 0 c).arrAt 3 cfg0.N
    = Cert.MlpDuReferenceIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  pointwise [k0_pay3, k0_pay2, k0_pay1, Cert.MlpDuReferenceIdeal.Read.val_main_v14, Cert.MlpDuReferenceIdeal.Read.val_main_v13, Cert.MlpDuReferenceIdeal.Read.val_main_v12, Cert.MlpDuReferenceIdeal.Read.val_main_v11, Cert.MlpDuReferenceIdeal.Read.val_main_v10, Cert.MlpDuReferenceIdeal.Read.val_main_v9, Cert.MlpDuReferenceIdeal.Read.val_main_v8, Cert.MlpDuReferenceIdeal.Read.val_main_v7, Cert.MlpDuReferenceIdeal.Read.val_main_v3, Cert.MlpDuReferenceIdeal.Read.val_main_v2, Cert.MlpDuReferenceIdeal.Read.val_main_v1, Cert.MlpDuReferenceIdeal.Read.val_main_v0, Cert.MlpDuReferenceIdeal.Read.val_main_call0_v0, Cert.MlpDuReferenceIdeal.Read.val_main_call0_cst, Cert.MlpDuReferenceIdeal.Read.val_main_cst, Cert.MlpDuReferenceIdeal.Read.val_main_cst_1]
  have two : Ideal.ofBits .f32 1073741824#32 = 2 := by
    simp [Ideal.ofBits, Ideal.ieee, -EReal.coe_mul]
    rw [show (8388608 * ((2 : ℝ) ^ 22)⁻¹) = 2 by norm_num]; rfl
  rw [two]
  refine Eq.trans ?_ (twice _ _)
  blk_point [iblk, V, idx t]
  refine congrArg (fun u : EReal => 2 * u) ((V_relu m c _).trans (congrArg (fun u : EReal => max u 0) ?_))
  blk_ext! [idx t]

end Cert.MlpDuIdeal.Hand
end
-- ==== Proof.ValDh.lean ====
/-
  The gradient of the input of the first product: the array the run leaves is the reference's, element by element.
-/
module
public import proofs.«01_k».proof.Proof.Gen.MlpDhIdeal.Value
public import proofs.«01_k».proof.Proof.Gen.MlpDhReferenceIdeal.Run
public import proofs.«01_k».proof.Proof.Gen.MlpDhReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.MlpDhIdeal.Hand
open Cert.MlpDhIdeal Cert.MlpDhIdeal.Gen
variable (m : (ℓ : Loc nD τ sig) → Buf (Elt Ideal) ℓ)

theorem idx : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

/-- The second operand of the call: the weight cut into four slabs of columns. -/
theorem V_slabs (c : Dev nD) (s : Fin 4) (i : Fin 2048) (k : Fin 2048) :
    V m c main_v1 (ix3 s i k) = m ((c : Thread nD τ).loc main_arg1) (ix2 i ⟨s.val * 2048 + k.val, by omega⟩) := by
  entry_read
  pointwise

theorem zero_at (j) : (k0_pay1 (F := Ideal) j : EReal) = 0 := by pointwise [k0_pay1]
theorem step_at (acc a b j) : (k0_pay2 (F := Ideal) acc a b j : EReal) = acc j + ∑ k : Fin 2048, a (ix2 (j 0) k) * b (ix3 0 (j 1) k) := by
  pointwise [k0_pay2]

/-- At the last step of a block the output is what has been added up. -/
theorem last (c : Dev nD) (t : Fin cfg0.N) (h : t.val % 4 = 3) : (outsAt0 m c t.val t.isLt).1 = (outsAt0 m c t.val t.isLt).2 := by
  rw [outsAt0_C m c t (by omega) h]; frame_out

/-- … which is the sum of the products of the four pairs of blocks. -/
theorem total (c : Dev nD) (t : Fin cfg0.N) (h : t.val % 4 = 3) (j) : (show EReal from (outsAt0 m c t.val t.isLt).2 j)
    = ∑ s : Fin 4, ∑ k : Fin 2048, (show EReal from iblk m c 0 ⟨4 * (t.val / 4) + s.val, Pipeline.run_point_lt_of_flush t h s⟩ (ix2 (j 0) k)) * (iblk m c 1 ⟨4 * (t.val / 4) + s.val, Pipeline.run_point_lt_of_flush t h s⟩ (ix3 0 (j 1) k)) := by
  have again : ∀ f : Vec Ideal S1024x1024 .f32, View.read (Elt Ideal) scM0_0.view ((Memref.isWhole_whole cc0_scratch0).unread f) = f := fun f => (Memref.isWhole_whole cc0_scratch0).read_unread f
  show (outsAt0 m c t.val t.isLt).2 j = _
  rw [Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h3 : t.val % 4 = 3
      · rw [outsAt0_C m c t h h3]; frame_out; rw [step_at, again]
      · rw [outsAt0_B m c t h h3]; frame_out; rw [step_at, again])
    t h j, zero_add]

theorem final (c : Dev nD) : (dats m 0 c).arrAt 2 cfg0.N
    = Cert.MlpDhReferenceIdeal.Read.val_main_v4 (F := Ideal) (m ((c : Thread nD τ).loc main_arg1)) (m ((c : Thread nD τ).loc main_arg2)) := by
  refine (dats m 0 c).arrAt_eq_of_covers 2 _ (by decide +kernel) fun t hf y => ?_
  have h3 := (flush0_2 t).mp hf
  blk_simp
  rw [after0_2, last m c t h3]
  refine (total m c t h3 _).trans ?_
  pointwise [Cert.MlpDhReferenceIdeal.Read.val_main_v4]
  refine Fin.sum_mul_add_congr fun s k hl => ?_
  blk_point [iblk, V, idx t, idx ⟨_, Pipeline.run_point_lt_of_flush t h3 s⟩]
end Cert.MlpDhIdeal.Hand
end
-- ==== Proof.ValDw.lean ====
/-
  The gradients of the MLP's weights: the arrays the runs leave are the reference's, element by element.
-/
module
public import proofs.«01_k».proof.Proof.Gen.MlpDwOneIdeal.Value
public import proofs.«01_k».proof.Proof.Gen.MlpDwOneReferenceIdeal.Run
public import proofs.«01_k».proof.Proof.Gen.MlpDwOneReferenceIdeal.Read
public import proofs.«01_k».proof.Proof.Gen.MlpDwTwoIdeal.Value
public import proofs.«01_k».proof.Proof.Gen.MlpDwTwoReferenceIdeal.Run
public import proofs.«01_k».proof.Proof.Gen.MlpDwTwoReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.MlpDwOneIdeal.Hand
open Cert.MlpDwOneIdeal Cert.MlpDwOneIdeal.Gen Cert.MlpDwOneReferenceIdeal.Read
variable (m : (ℓ : Loc nD τ sig) → Buf (Elt Ideal) ℓ)

theorem idx : ∀ t : Fin cfg0.N, win0_0.index t = ![0, t.val / 8] ∧ win0_1.index t = ![0, t.val % 8] ∧ win0_2.index t = ![t.val % 8 / 2, t.val / 8, t.val % 2] :=
  (by decide +kernel : ∀ t : Fin grid0.N, _)

/-- The gradient of the first weight, in the four slabs of its columns. -/
theorem final (c : Dev nD) : (dats m 0 c).arrAt 2 cfg0.N = val_main_v8 (F := Ideal) (m ((c : Thread nD τ).loc main_arg0)) (m ((c : Thread nD τ).loc main_arg2)) := by
  refine (dats m 0 c).arrAt_eq_of_covers 2 _ (by decide +kernel) fun t _ y => ?_
  blk_simp
  rw [after0_2]; unfold outsAt0; frame_out
  pointwise [k0_pay3, k0_pay2, k0_pay1, val_main_v8, val_main_v7, val_main_v6, val_main_v5, val_main_v4, val_main_v3, val_main_v1]
  refine Fin.sum_fin_congr fun k => (EReal.mul_comm _ _).trans (congrArg₂ (fun a b : EReal => a * b) ?_ ?_) <;> blk_ext! [iblk, V, idx t]
end Cert.MlpDwOneIdeal.Hand

namespace Cert.MlpDwTwoIdeal.Hand
open Cert.MlpDwTwoIdeal Cert.MlpDwTwoIdeal.Gen Cert.MlpDwTwoReferenceIdeal.Read
variable (m : (ℓ : Loc nD τ sig) → Buf (Elt Ideal) ℓ)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The gradient of the second weight. -/
theorem final (c : Dev nD) : (dats m 0 c).arrAt 2 cfg0.N = val_main_v6 (F := Ideal) (m ((c : Thread nD τ).loc main_arg0)) (m ((c : Thread nD τ).loc main_arg2)) := by
  refine (dats m 0 c).arrAt_eq_of_covers 2 _ (by decide +kernel) fun t _ y => ?_
  blk_simp
  rw [after0_2]; unfold outsAt0; frame_out
  pointwise [k0_pay3, k0_pay2, k0_pay1, val_main_v6, val_main_v5, val_main_v4, val_main_v3, val_main_v1]
  refine Fin.sum_fin_congr fun k => (EReal.mul_comm _ _).trans (congrArg₂ (fun a b : EReal => a * b) ?_ ?_) <;> blk_ext! [iblk, V, idx t]
end Cert.MlpDwTwoIdeal.Hand
end
-- ==== Proof.ValUp.lean ====
/-
  The first product of the MLP, with its activation.
-/
module
public import proofs.«01_k».proof.Proof.Gen.MlpUpIdeal.Value
public import proofs.«01_k».proof.Proof.Gen.MlpUpReferenceIdeal.Run
public import proofs.«01_k».proof.Proof.Gen.MlpUpReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.MlpUpIdeal.Hand
open Cert.MlpUpIdeal Cert.MlpUpIdeal.Gen Cert.MlpUpReferenceIdeal.Read
variable (m : (ℓ : Loc nD τ sig) → Buf (Elt Ideal) ℓ)

theorem idx : ∀ t : Fin cfg0.N, win0_0.index t = ![t.val / 8, 0] ∧ win0_1.index t = ![t.val % 8 / 2, 0, t.val % 2] ∧ win0_2.index t = ![t.val / 8, t.val % 8] ∧ win0_3.index t = ![t.val / 8, t.val % 8] :=
  (by decide +kernel : ∀ t : Fin grid0.N, _)

/-- The square of the hidden layer's positive part. -/
theorem final_square (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay5, k0_pay4, k0_pay3, k0_pay2, k0_pay1, val_main_v5, val_main_v4, val_main_v3, val_main_v2, val_main_v1, val_main_v0, val_main_call0_v0, val_main_call0_cst]
  blk_point [iblk, V, idx t]

/-- The hidden layer's positive part. -/
theorem final_part (c : Dev nD) : (dats m 0 c).arrAt 3 cfg0.N = val_main_v6 (F := Ideal) (m ((c : Thread nD τ).loc main_arg0)) (m ((c : Thread nD τ).loc main_arg1)) := by
  refine (dats m 0 c).arrAt_eq_of_covers 3 _ (by decide +kernel) fun t _ y => ?_
  blk_simp
  rw [after0_3]; unfold outsAt0; frame_out
  pointwise [k0_pay5, k0_pay4, k0_pay3, k0_pay2, k0_pay1, val_main_v6, val_main_v3, val_main_v2, val_main_v1, val_main_v0, val_main_call0_v0, val_main_call0_cst]
  blk_point [iblk, V, idx t]
end Cert.MlpUpIdeal.Hand
end
-- ==== Proof.ValDown.lean ====
/-
  The second product of the MLP, added to the layer's value: the array the run leaves is the reference's, element by element.
-/
module
public import proofs.«01_k».proof.Proof.Gen.MlpDownIdeal.Value
public import proofs.«01_k».proof.Proof.Gen.MlpDownReferenceIdeal.Run
public import proofs.«01_k».proof.Proof.Gen.MlpDownReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.MlpDownIdeal.Hand
open Cert.MlpDownIdeal Cert.MlpDownIdeal.Gen
variable (m : (ℓ : Loc nD τ sig) → Buf (Elt Ideal) ℓ)

theorem idx : ∀ t : Fin cfg0.N, win0_0.index t = ![t.val / 8, t.val % 4] ∧ win0_1.index t = ![t.val % 4, t.val / 4 % 2] ∧ win0_2.index t = ![t.val / 8, t.val / 4 % 2] ∧ win0_3.index t = ![t.val / 8, t.val / 4 % 2] :=
  (by decide +kernel : ∀ t : Fin grid0.N, _)

theorem zero_at (j) : (k0_pay1 (F := Ideal) j : EReal) = 0 := by pointwise [k0_pay1]
theorem step_at (acc a b j) : (k0_pay2 (F := Ideal) acc a b j : EReal) = acc j + ∑ k : Fin 2048, a (ix2 (j 0) k) * b (ix2 k (j 1)) := by
  pointwise [k0_pay2]

/-- At the last step of a block the output is what has been added up and the block of the layer's value. -/
theorem last (c : Dev nD) (t : Fin cfg0.N) (h : t.val % 4 = 3) : (outsAt0 m c t.val t.isLt).1 = k0_pay3 (outsAt0 m c t.val t.isLt).2 (iblk m c 2 t) := by
  rw [outsAt0_C m c t (by omega) h]; frame_out

/-- What has been added up is the sum of the products of the four pairs of blocks. -/
theorem total (c : Dev nD) (t : Fin cfg0.N) (h : t.val % 4 = 3) (j) : (show EReal from (outsAt0 m c t.val t.isLt).2 j)
    = ∑ s : Fin 4, ∑ k : Fin 2048, (show EReal from iblk m c 0 ⟨4 * (t.val / 4) + s.val, Pipeline.run_point_lt_of_flush t h s⟩ (ix2 (j 0) k)) * (iblk m c 1 ⟨4 * (t.val / 4) + s.val, Pipeline.run_point_lt_of_flush t h s⟩ (ix2 k (j 1))) := by
  have again : ∀ f : Vec Ideal S1024x1024 .f32, View.read (Elt Ideal) scM0_0.view ((Memref.isWhole_whole cc0_scratch0).unread f) = f := fun f => (Memref.isWhole_whole cc0_scratch0).read_unread f
  show (outsAt0 m c t.val t.isLt).2 j = _
  rw [Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h3 : t.val % 4 = 3
      · rw [outsAt0_C m c t h h3]; frame_out; rw [step_at, again]
      · rw [outsAt0_B m c t h h3]; frame_out; rw [step_at, again])
    t h j, zero_add]

theorem final (c : Dev nD) : (dats m 0 c).arrAt 3 cfg0.N
    = Cert.MlpDownReferenceIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  blk_simp
  rw [after0_3, last m c t h3]
  have e := total m c t h3 y
  generalize (outsAt0 m c t.val t.isLt).2 = acc at e ⊢
  pointwise [k0_pay3, Cert.MlpDownReferenceIdeal.Read.val_main_v3, Cert.MlpDownReferenceIdeal.Read.val_main_v2, Cert.MlpDownReferenceIdeal.Read.val_main_v1, Cert.MlpDownReferenceIdeal.Read.val_main_v0]
  refine (add_comm (G := EReal) _ _).trans (congrArg₂ (fun a b : EReal => a + b) ?_ (e.trans ?_))
  · blk_ext! [iblk, V, idx t]
  refine Fin.sum_mul_add_congr fun s k hl => ?_
  refine congrArg₂ (fun a b : EReal => a * b) ?_ ?_ <;> blk_ext! [iblk, V, idx t, idx ⟨_, Pipeline.run_point_lt_of_flush t h3 s⟩]
end Cert.MlpDownIdeal.Hand
end
-- ==== Proof.ClaimMlp.lean ====
/-
  The claims of the products of the MLP: each program and its idealization leave their arguments as they were, and so does the
  reference; the idealization and the reference end with equal results.
-/
module
public import proofs.«01_k».proof.Proof.SameMlp
public import proofs.«01_k».proof.Proof.ValDu
public import proofs.«01_k».proof.Proof.ValDh
public import proofs.«01_k».proof.Proof.ValDw
public import proofs.«01_k».proof.Proof.ValUp
public import proofs.«01_k».proof.Proof.ValDown
@[expose] public section
set_option maxRecDepth 16384
noncomputable section
open Idealize.ShloMosaic Idealize.ShloMosaic.TcCoe Idealize.SL.Sem

namespace Cert.Proof.MlpDu
theorem frame_kernel : Cert.quiescent_MlpDu := fun m ρ _ => by
  rw [show (onTc (τ := Cert.MlpDu.τ) (Cert.MlpDu.main (F := Bits))) = onTc (τ := Cert.MlpDuIdeal.τ) (Cert.MlpDuIdeal.main (F := Bits)) from
    congrArg (onTc (τ := Cert.MlpDuIdeal.τ)) mlpDu_main, mlpDu_defs]
  exact Cert.MlpDuIdeal.Gen.frame (F := Bits) m ρ

theorem frame_ideal : Cert.quiescent_MlpDuIdeal := fun m ρ _ => Cert.MlpDuIdeal.Gen.frame (F := Ideal) m ρ

theorem frame_reference : Cert.quiescent_MlpDuReferenceIdeal := fun m ρ _ =>
  (θ_run Cert.MlpDuReferenceIdeal.defs _ _).mono (fun r h => ⟨fun c => (h c).2, sem_eq_zero_of_no_sems (by decide) r.2⟩)
    (Cert.MlpDuReferenceIdeal.Value.run (F := Ideal) m ρ)

theorem values : Cert.algebraic_MlpDuIdeal_MlpDuReferenceIdeal := by
  intro m g m' g' _ hagree
  refine ⟨_, (θ_run Cert.MlpDuIdeal.defs _ _).mono (fun r h c => ⟨(h c).1.trans (Cert.MlpDuIdeal.Hand.final m c), (h c).2⟩) (Cert.MlpDuIdeal.Value.run_blocks m g), ?_⟩
  refine (θ_run Cert.MlpDuReferenceIdeal.defs _ _).mono (fun r h c => ⟨(h c).1.trans ?_, (h c).2⟩) (Cert.MlpDuReferenceIdeal.Value.run (F := Ideal) m' g')
  refine (Cert.MlpDuReferenceIdeal.Read.val_main_v14_eq _ _ _).trans ?_
  rw [(hagree c).1, (hagree c).2.1, (hagree c).2.2]
end Cert.Proof.MlpDu

namespace Cert.Proof.MlpDh
theorem frame_kernel : Cert.quiescent_MlpDh := fun m ρ _ => by
  rw [show (onTc (τ := Cert.MlpDh.τ) (Cert.MlpDh.main (F := Bits))) = onTc (τ := Cert.MlpDhIdeal.τ) (Cert.MlpDhIdeal.main (F := Bits)) from
    congrArg (onTc (τ := Cert.MlpDhIdeal.τ)) mlpDh_main, mlpDh_defs]
  exact Cert.MlpDhIdeal.Gen.frame (F := Bits) m ρ

theorem frame_ideal : Cert.quiescent_MlpDhIdeal := fun m ρ _ => Cert.MlpDhIdeal.Gen.frame (F := Ideal) m ρ

theorem frame_reference : Cert.quiescent_MlpDhReferenceIdeal := fun m ρ _ =>
  (θ_run Cert.MlpDhReferenceIdeal.defs _ _).mono (fun r h => ⟨fun c => (h c).2, sem_eq_zero_of_no_sems (by decide) r.2⟩)
    (Cert.MlpDhReferenceIdeal.Value.run (F := Ideal) m ρ)

theorem values : Cert.algebraic_MlpDhIdeal_MlpDhReferenceIdeal := by
  intro m g m' g' _ hagree
  refine ⟨_, (θ_run Cert.MlpDhIdeal.defs _ _).mono (fun r h c => ⟨(h c).1.trans (Cert.MlpDhIdeal.Hand.final m c), (h c).2⟩) (Cert.MlpDhIdeal.Value.run_blocks m g), ?_⟩
  refine (θ_run Cert.MlpDhReferenceIdeal.defs _ _).mono (fun r h c => ⟨(h c).1.trans ?_, (h c).2⟩) (Cert.MlpDhReferenceIdeal.Value.run (F := Ideal) m' g')
  refine (Cert.MlpDhReferenceIdeal.Read.val_main_v4_eq _ _).trans ?_
  rw [(hagree c).2.1, (hagree c).2.2]
end Cert.Proof.MlpDh

namespace Cert.Proof.MlpDwOne
theorem frame_kernel : Cert.quiescent_MlpDwOne := fun m ρ _ => by
  rw [show (onTc (τ := Cert.MlpDwOne.τ) (Cert.MlpDwOne.main (F := Bits))) = onTc (τ := Cert.MlpDwOneIdeal.τ) (Cert.MlpDwOneIdeal.main (F := Bits)) from
    congrArg (onTc (τ := Cert.MlpDwOneIdeal.τ)) mlpDwOne_main, mlpDwOne_defs]
  exact Cert.MlpDwOneIdeal.Gen.frame (F := Bits) m ρ

theorem frame_ideal : Cert.quiescent_MlpDwOneIdeal := fun m ρ _ => Cert.MlpDwOneIdeal.Gen.frame (F := Ideal) m ρ

theorem frame_reference : Cert.quiescent_MlpDwOneReferenceIdeal := fun m ρ _ =>
  (θ_run Cert.MlpDwOneReferenceIdeal.defs _ _).mono (fun r h => ⟨fun c => (h c).2, sem_eq_zero_of_no_sems (by decide) r.2⟩)
    (Cert.MlpDwOneReferenceIdeal.Value.run (F := Ideal) m ρ)

theorem values : Cert.algebraic_MlpDwOneIdeal_MlpDwOneReferenceIdeal := by
  intro m g m' g' _ hagree
  refine ⟨_, (θ_run Cert.MlpDwOneIdeal.defs _ _).mono (fun r h c => ⟨(h c).1.trans (Cert.MlpDwOneIdeal.Hand.final m c), (h c).2⟩) (Cert.MlpDwOneIdeal.Value.run_blocks m g), ?_⟩
  refine (θ_run Cert.MlpDwOneReferenceIdeal.defs _ _).mono (fun r h c => ⟨(h c).1.trans ?_, (h c).2⟩) (Cert.MlpDwOneReferenceIdeal.Value.run (F := Ideal) m' g')
  refine (Cert.MlpDwOneReferenceIdeal.Read.val_main_v8_eq _ _).trans ?_
  rw [(hagree c).1, (hagree c).2.2]
end Cert.Proof.MlpDwOne

namespace Cert.Proof.MlpDwTwo
theorem frame_kernel : Cert.quiescent_MlpDwTwo := fun m ρ _ => by
  rw [show (onTc (τ := Cert.MlpDwTwo.τ) (Cert.MlpDwTwo.main (F := Bits))) = onTc (τ := Cert.MlpDwTwoIdeal.τ) (Cert.MlpDwTwoIdeal.main (F := Bits)) from
    congrArg (onTc (τ := Cert.MlpDwTwoIdeal.τ)) mlpDwTwo_main, mlpDwTwo_defs]
  exact Cert.MlpDwTwoIdeal.Gen.frame (F := Bits) m ρ

theorem frame_ideal : Cert.quiescent_MlpDwTwoIdeal := fun m ρ _ => Cert.MlpDwTwoIdeal.Gen.frame (F := Ideal) m ρ

theorem frame_reference : Cert.quiescent_MlpDwTwoReferenceIdeal := fun m ρ _ =>
  (θ_run Cert.MlpDwTwoReferenceIdeal.defs _ _).mono (fun r h => ⟨fun c => (h c).2, sem_eq_zero_of_no_sems (by decide) r.2⟩)
    (Cert.MlpDwTwoReferenceIdeal.Value.run (F := Ideal) m ρ)

theorem values : Cert.algebraic_MlpDwTwoIdeal_MlpDwTwoReferenceIdeal := by
  intro m g m' g' _ hagree
  refine ⟨_, (θ_run Cert.MlpDwTwoIdeal.defs _ _).mono (fun r h c => ⟨(h c).1.trans (Cert.MlpDwTwoIdeal.Hand.final m c), (h c).2⟩) (Cert.MlpDwTwoIdeal.Value.run_blocks m g), ?_⟩
  refine (θ_run Cert.MlpDwTwoReferenceIdeal.defs _ _).mono (fun r h c => ⟨(h c).1.trans ?_, (h c).2⟩) (Cert.MlpDwTwoReferenceIdeal.Value.run (F := Ideal) m' g')
  refine (Cert.MlpDwTwoReferenceIdeal.Read.val_main_v6_eq _ _).trans ?_
  rw [(hagree c).1, (hagree c).2.2]
end Cert.Proof.MlpDwTwo

namespace Cert.Proof.MlpUp
theorem frame_kernel : Cert.quiescent_MlpUp := fun m ρ _ => by
  rw [show (onTc (τ := Cert.MlpUp.τ) (Cert.MlpUp.main (F := Bits))) = onTc (τ := Cert.MlpUpIdeal.τ) (Cert.MlpUpIdeal.main (F := Bits)) from
    congrArg (onTc (τ := Cert.MlpUpIdeal.τ)) mlpUp_main, mlpUp_defs]
  exact Cert.MlpUpIdeal.Gen.frame (F := Bits) m ρ

theorem frame_ideal : Cert.quiescent_MlpUpIdeal := fun m ρ _ => Cert.MlpUpIdeal.Gen.frame (F := Ideal) m ρ

theorem frame_reference : Cert.quiescent_MlpUpReferenceIdeal := fun m ρ _ =>
  (θ_run Cert.MlpUpReferenceIdeal.defs _ _).mono (fun r h => ⟨fun c => (h c).2.2, sem_eq_zero_of_no_sems (by decide) r.2⟩)
    (Cert.MlpUpReferenceIdeal.Value.run (F := Ideal) m ρ)

theorem values : Cert.algebraic_MlpUpIdeal_MlpUpReferenceIdeal := by
  intro m g m' g' _ hagree
  refine ⟨_, _, (θ_run Cert.MlpUpIdeal.defs _ _).mono (fun r h c => ⟨(h c).1.trans (Cert.MlpUpIdeal.Hand.final_square m c), (h c).2.1.trans (Cert.MlpUpIdeal.Hand.final_part m c), (h c).2.2⟩) (Cert.MlpUpIdeal.Value.run_blocks m g), ?_⟩
  refine (θ_run Cert.MlpUpReferenceIdeal.defs _ _).mono (fun r h c => ⟨(h c).1.trans ?_, (h c).2.1.trans ?_, (h c).2.2⟩) (Cert.MlpUpReferenceIdeal.Value.run (F := Ideal) m' g')
  · refine (Cert.MlpUpReferenceIdeal.Read.val_main_v5_eq _ _).trans ?_
    rw [(hagree c).1, (hagree c).2]
  · refine (Cert.MlpUpReferenceIdeal.Read.val_main_v6_eq _ _).trans ?_
    rw [(hagree c).1, (hagree c).2]
end Cert.Proof.MlpUp

namespace Cert.Proof.MlpDown
theorem frame_kernel : Cert.quiescent_MlpDown := fun m ρ _ => by
  rw [show (onTc (τ := Cert.MlpDown.τ) (Cert.MlpDown.main (F := Bits))) = onTc (τ := Cert.MlpDownIdeal.τ) (Cert.MlpDownIdeal.main (F := Bits)) from
    congrArg (onTc (τ := Cert.MlpDownIdeal.τ)) mlpDown_main, mlpDown_defs]
  exact Cert.MlpDownIdeal.Gen.frame (F := Bits) m ρ

theorem frame_ideal : Cert.quiescent_MlpDownIdeal := fun m ρ _ => Cert.MlpDownIdeal.Gen.frame (F := Ideal) m ρ

theorem frame_reference : Cert.quiescent_MlpDownReferenceIdeal := fun m ρ _ =>
  (θ_run Cert.MlpDownReferenceIdeal.defs _ _).mono (fun r h => ⟨fun c => (h c).2, sem_eq_zero_of_no_sems (by decide) r.2⟩)
    (Cert.MlpDownReferenceIdeal.Value.run (F := Ideal) m ρ)

theorem values : Cert.algebraic_MlpDownIdeal_MlpDownReferenceIdeal := by
  intro m g m' g' _ hagree
  refine ⟨_, (θ_run Cert.MlpDownIdeal.defs _ _).mono (fun r h c => ⟨(h c).1.trans (Cert.MlpDownIdeal.Hand.final m c), (h c).2⟩) (Cert.MlpDownIdeal.Value.run_blocks m g), ?_⟩
  refine (θ_run Cert.MlpDownReferenceIdeal.defs _ _).mono (fun r h c => ⟨(h c).1.trans ?_, (h c).2⟩) (Cert.MlpDownReferenceIdeal.Value.run (F := Ideal) m' g')
  refine (Cert.MlpDownReferenceIdeal.Read.val_main_v3_eq _ _ _).trans ?_
  rw [(hagree c).1, (hagree c).2.1, (hagree c).2.2]
end Cert.Proof.MlpDown
end
-- ==== Proof.SameMix.lean ====
/-
  Of the products after the attention, the printed programs and their idealizations have one text; each part of it is equal to the other's.
-/
module
public import proofs.«01_k».proof.Proof.SameOne
public import proofs.«01_k».proof.Proof.Gen.MixDo
public import proofs.«01_k».proof.Proof.Gen.MixDoIdeal
public import proofs.«01_k».proof.Proof.Gen.MixDwOut
public import proofs.«01_k».proof.Proof.Gen.MixDwOutIdeal
public import proofs.«01_k».proof.Proof.Gen.MixOut
public import proofs.«01_k».proof.Proof.Gen.MixOutIdeal
@[expose] public section
noncomputable section
namespace Cert.Proof
open Idealize.ShloMosaic Idealize.SL.Sem
variable {F : FTy → Type} [FloatOps F]
set_option maxHeartbeats 4000000

theorem mixDo_defs : (Cert.MixDo.defs (F := F)) = (Cert.MixDoIdeal.defs (F := F)) :=
  congrArg (fun D => Pipeline.defs Cert.MixDoIdeal.pcfgs (Defs.onTc D)) (eq_of_zero fun _ => rfl)
theorem mixDo_main : (Cert.MixDo.main (F := F)) = (Cert.MixDoIdeal.main (F := F)) := rfl

theorem mixDwOut_defs : (Cert.MixDwOut.defs (F := F)) = (Cert.MixDwOutIdeal.defs (F := F)) :=
  congrArg (fun D => Pipeline.defs Cert.MixDwOutIdeal.pcfgs (Defs.onTc D)) (eq_of_zero fun _ => rfl)
theorem mixDwOut_main : (Cert.MixDwOut.main (F := F)) = (Cert.MixDwOutIdeal.main (F := F)) := rfl

theorem mixOut_defs : (Cert.MixOut.defs (F := F)) = (Cert.MixOutIdeal.defs (F := F)) :=
  congrArg (fun D => Pipeline.defs Cert.MixOutIdeal.pcfgs (Defs.onTc D)) (eq_of_zero fun _ => rfl)
theorem mixOut_main : (Cert.MixOut.main (F := F)) = (Cert.MixOutIdeal.main (F := F)) := rfl
end Cert.Proof
end
-- ==== Proof.ValMix.lean ====
/-
  The product behind a mixer and its two gradients.
-/
module
public import proofs.«01_k».proof.Proof.Gen.MixDoIdeal.Value
public import proofs.«01_k».proof.Proof.Gen.MixDoReferenceIdeal.Run
public import proofs.«01_k».proof.Proof.Gen.MixDoReferenceIdeal.Read
public import proofs.«01_k».proof.Proof.Gen.MixDwOutIdeal.Value
public import proofs.«01_k».proof.Proof.Gen.MixDwOutReferenceIdeal.Run
public import proofs.«01_k».proof.Proof.Gen.MixDwOutReferenceIdeal.Read
public import proofs.«01_k».proof.Proof.Gen.MixOutIdeal.Value
public import proofs.«01_k».proof.Proof.Gen.MixOutReferenceIdeal.Run
public import proofs.«01_k».proof.Proof.Gen.MixOutReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.MixDoIdeal.Hand
open Cert.MixDoIdeal Cert.MixDoIdeal.Gen Cert.MixDoReferenceIdeal.Read
variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The gradient of the mixer's output. -/
theorem final (c : Dev nD) : (dats m 0 c).arrAt 2 cfg0.N = val_main_v5 (F := Ideal) (m ((c : Thread nD τ).loc main_arg1)) (m ((c : Thread nD τ).loc main_arg2)) := by
  refine (dats m 0 c).arrAt_eq_of_covers 2 _ (by decide +kernel) fun t _ y => ?_
  blk_simp
  rw [after0_2]; unfold outsAt0; frame_out
  pointwise [k0_pay3, k0_pay2, k0_pay1, val_main_v5, val_main_v4, val_main_v3, val_main_v1]
  blk_point [iblk, V, idx t]
end Cert.MixDoIdeal.Hand

namespace Cert.MixDwOutIdeal.Hand
open Cert.MixDwOutIdeal Cert.MixDwOutIdeal.Gen Cert.MixDwOutReferenceIdeal.Read
variable (m : (ℓ : Loc nD τ sig) → Buf (Elt Ideal) ℓ)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The gradient of the mixer's last weight. -/
theorem final (c : Dev nD) : (dats m 0 c).arrAt 2 cfg0.N = val_main_v6 (F := Ideal) (m ((c : Thread nD τ).loc main_arg0)) (m ((c : Thread nD τ).loc main_arg2)) := by
  refine (dats m 0 c).arrAt_eq_of_covers 2 _ (by decide +kernel) fun t _ y => ?_
  blk_simp
  rw [after0_2]; unfold outsAt0; frame_out
  pointwise [k0_pay3, k0_pay2, k0_pay1, val_main_v6, val_main_v5, val_main_v4, val_main_v3, val_main_v1]
  refine Fin.sum_fin_congr fun k => (EReal.mul_comm _ _).trans (congrArg₂ (fun a b : EReal => a * b) ?_ ?_) <;> blk_ext! [iblk, V, idx t]
end Cert.MixDwOutIdeal.Hand

namespace Cert.MixOutIdeal.Hand
open Cert.MixOutIdeal Cert.MixOutIdeal.Gen Cert.MixOutReferenceIdeal.Read
variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The layer's value with the mixer's output added. -/
theorem final (c : Dev nD) : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  pointwise [k0_pay3, k0_pay2, k0_pay1, val_main_v3, val_main_v2, val_main_v1, val_main_v0]
  blk_point [iblk, V, idx t]
end Cert.MixOutIdeal.Hand
end
-- ==== Proof.ClaimMix.lean ====
/-
  The claims of the products after the attention: each program and its idealization leave their arguments as they were, and so does the
  reference; the idealization and the reference end with equal results.
-/
module
public import proofs.«01_k».proof.Proof.SameMix
public import proofs.«01_k».proof.Proof.ValMix
@[expose] public section
set_option maxRecDepth 16384
noncomputable section
open Idealize.ShloMosaic Idealize.ShloMosaic.TcCoe Idealize.SL.Sem

namespace Cert.Proof.MixDo
theorem frame_kernel : Cert.quiescent_MixDo := fun m ρ _ => by
  rw [show (onTc (τ := Cert.MixDo.τ) (Cert.MixDo.main (F := Bits))) = onTc (τ := Cert.MixDoIdeal.τ) (Cert.MixDoIdeal.main (F := Bits)) from
    congrArg (onTc (τ := Cert.MixDoIdeal.τ)) mixDo_main, mixDo_defs]
  exact Cert.MixDoIdeal.Gen.frame (F := Bits) m ρ

theorem frame_ideal : Cert.quiescent_MixDoIdeal := fun m ρ _ => Cert.MixDoIdeal.Gen.frame (F := Ideal) m ρ

theorem frame_reference : Cert.quiescent_MixDoReferenceIdeal := fun m ρ _ =>
  (θ_run Cert.MixDoReferenceIdeal.defs _ _).mono (fun r h => ⟨fun c => (h c).2, sem_eq_zero_of_no_sems (by decide) r.2⟩)
    (Cert.MixDoReferenceIdeal.Value.run (F := Ideal) m ρ)

theorem values : Cert.algebraic_MixDoIdeal_MixDoReferenceIdeal := by
  intro m g m' g' _ hagree
  refine ⟨_, (θ_run Cert.MixDoIdeal.defs _ _).mono (fun r h c => ⟨(h c).1.trans (Cert.MixDoIdeal.Hand.final m c), (h c).2⟩) (Cert.MixDoIdeal.Value.run_blocks m g), ?_⟩
  refine (θ_run Cert.MixDoReferenceIdeal.defs _ _).mono (fun r h c => ⟨(h c).1.trans ?_, (h c).2⟩) (Cert.MixDoReferenceIdeal.Value.run (F := Ideal) m' g')
  refine (Cert.MixDoReferenceIdeal.Read.val_main_v5_eq _ _).trans ?_
  rw [(hagree c).2.1, (hagree c).2.2]
end Cert.Proof.MixDo

namespace Cert.Proof.MixDwOut
theorem frame_kernel : Cert.quiescent_MixDwOut := fun m ρ _ => by
  rw [show (onTc (τ := Cert.MixDwOut.τ) (Cert.MixDwOut.main (F := Bits))) = onTc (τ := Cert.MixDwOutIdeal.τ) (Cert.MixDwOutIdeal.main (F := Bits)) from
    congrArg (onTc (τ := Cert.MixDwOutIdeal.τ)) mixDwOut_main, mixDwOut_defs]
  exact Cert.MixDwOutIdeal.Gen.frame (F := Bits) m ρ

theorem frame_ideal : Cert.quiescent_MixDwOutIdeal := fun m ρ _ => Cert.MixDwOutIdeal.Gen.frame (F := Ideal) m ρ

theorem frame_reference : Cert.quiescent_MixDwOutReferenceIdeal := fun m ρ _ =>
  (θ_run Cert.MixDwOutReferenceIdeal.defs _ _).mono (fun r h => ⟨fun c => (h c).2, sem_eq_zero_of_no_sems (by decide) r.2⟩)
    (Cert.MixDwOutReferenceIdeal.Value.run (F := Ideal) m ρ)

theorem values : Cert.algebraic_MixDwOutIdeal_MixDwOutReferenceIdeal := by
  intro m g m' g' _ hagree
  refine ⟨_, (θ_run Cert.MixDwOutIdeal.defs _ _).mono (fun r h c => ⟨(h c).1.trans (Cert.MixDwOutIdeal.Hand.final m c), (h c).2⟩) (Cert.MixDwOutIdeal.Value.run_blocks m g), ?_⟩
  refine (θ_run Cert.MixDwOutReferenceIdeal.defs _ _).mono (fun r h c => ⟨(h c).1.trans ?_, (h c).2⟩) (Cert.MixDwOutReferenceIdeal.Value.run (F := Ideal) m' g')
  refine (Cert.MixDwOutReferenceIdeal.Read.val_main_v6_eq _ _).trans ?_
  rw [(hagree c).1, (hagree c).2.2]
end Cert.Proof.MixDwOut

namespace Cert.Proof.MixOut
theorem frame_kernel : Cert.quiescent_MixOut := fun m ρ _ => by
  rw [show (onTc (τ := Cert.MixOut.τ) (Cert.MixOut.main (F := Bits))) = onTc (τ := Cert.MixOutIdeal.τ) (Cert.MixOutIdeal.main (F := Bits)) from
    congrArg (onTc (τ := Cert.MixOutIdeal.τ)) mixOut_main, mixOut_defs]
  exact Cert.MixOutIdeal.Gen.frame (F := Bits) m ρ

theorem frame_ideal : Cert.quiescent_MixOutIdeal := fun m ρ _ => Cert.MixOutIdeal.Gen.frame (F := Ideal) m ρ

theorem frame_reference : Cert.quiescent_MixOutReferenceIdeal := fun m ρ _ =>
  (θ_run Cert.MixOutReferenceIdeal.defs _ _).mono (fun r h => ⟨fun c => (h c).2, sem_eq_zero_of_no_sems (by decide) r.2⟩)
    (Cert.MixOutReferenceIdeal.Value.run (F := Ideal) m ρ)

theorem values : Cert.algebraic_MixOutIdeal_MixOutReferenceIdeal := by
  intro m g m' g' _ hagree
  refine ⟨_, (θ_run Cert.MixOutIdeal.defs _ _).mono (fun r h c => ⟨(h c).1.trans (Cert.MixOutIdeal.Hand.final m c), (h c).2⟩) (Cert.MixOutIdeal.Value.run_blocks m g), ?_⟩
  refine (θ_run Cert.MixOutReferenceIdeal.defs _ _).mono (fun r h c => ⟨(h c).1.trans ?_, (h c).2⟩) (Cert.MixOutReferenceIdeal.Value.run (F := Ideal) m' g')
  refine (Cert.MixOutReferenceIdeal.Read.val_main_v3_eq _ _ _).trans ?_
  rw [(hagree c).1, (hagree c).2.1, (hagree c).2.2]
end Cert.Proof.MixOut
end
-- ==== Proof.SameAtt.lean ====
/-
  Of the products before the attention, the printed programs and their idealizations have one text; each part of it is equal to the other's.
-/
module
public import proofs.«01_k».proof.Proof.SameOne
public import proofs.«01_k».proof.Proof.Gen.SbDh
public import proofs.«01_k».proof.Proof.Gen.SbDhIdeal
public import proofs.«01_k».proof.Proof.Gen.SbDwIn
public import proofs.«01_k».proof.Proof.Gen.SbDwInIdeal
public import proofs.«01_k».proof.Proof.Gen.SbProj
public import proofs.«01_k».proof.Proof.Gen.SbProjIdeal
public import proofs.«01_k».proof.Proof.Gen.FoxDh
public import proofs.«01_k».proof.Proof.Gen.FoxDhIdeal
public import proofs.«01_k».proof.Proof.Gen.FoxDwIn
public import proofs.«01_k».proof.Proof.Gen.FoxDwInIdeal
public import proofs.«01_k».proof.Proof.Gen.FoxProj
public import proofs.«01_k».proof.Proof.Gen.FoxProjIdeal
@[expose] public section
noncomputable section
namespace Cert.Proof
open Idealize.ShloMosaic Idealize.SL.Sem
variable {F : FTy → Type} [FloatOps F]
set_option maxHeartbeats 4000000

theorem sbDh_defs : (Cert.SbDh.defs (F := F)) = (Cert.SbDhIdeal.defs (F := F)) :=
  congrArg (fun D => Pipeline.defs Cert.SbDhIdeal.pcfgs (Defs.onTc D)) (eq_of_zero fun _ => rfl)
theorem sbDh_main : (Cert.SbDh.main (F := F)) = (Cert.SbDhIdeal.main (F := F)) := rfl

theorem sbDwIn_defs : (Cert.SbDwIn.defs (F := F)) = (Cert.SbDwInIdeal.defs (F := F)) :=
  congrArg (fun D => Pipeline.defs Cert.SbDwInIdeal.pcfgs (Defs.onTc D)) (eq_of_zero fun _ => rfl)
theorem sbDwIn_main : (Cert.SbDwIn.main (F := F)) = (Cert.SbDwInIdeal.main (F := F)) := rfl

theorem sbProj_defs : (Cert.SbProj.defs (F := F)) = (Cert.SbProjIdeal.defs (F := F)) :=
  congrArg (fun D => Pipeline.defs Cert.SbProjIdeal.pcfgs (Defs.onTc D)) (eq_of_zero fun _ => rfl)
theorem sbProj_main : (Cert.SbProj.main (F := F)) = (Cert.SbProjIdeal.main (F := F)) := rfl

theorem foxDh_defs : (Cert.FoxDh.defs (F := F)) = (Cert.FoxDhIdeal.defs (F := F)) :=
  congrArg (fun D => Pipeline.defs Cert.FoxDhIdeal.pcfgs (Defs.onTc D)) (eq_of_zero fun _ => rfl)
theorem foxDh_main : (Cert.FoxDh.main (F := F)) = (Cert.FoxDhIdeal.main (F := F)) := rfl

theorem foxDwIn_defs : (Cert.FoxDwIn.defs (F := F)) = (Cert.FoxDwInIdeal.defs (F := F)) :=
  congrArg (fun D => Pipeline.defs Cert.FoxDwInIdeal.pcfgs (Defs.onTc D)) (eq_of_zero fun _ => rfl)
theorem foxDwIn_main : (Cert.FoxDwIn.main (F := F)) = (Cert.FoxDwInIdeal.main (F := F)) := rfl

theorem foxProj_defs : (Cert.FoxProj.defs (F := F)) = (Cert.FoxProjIdeal.defs (F := F)) :=
  congrArg (fun D => Pipeline.defs Cert.FoxProjIdeal.pcfgs (Defs.onTc D)) (eq_of_zero fun _ => rfl)
theorem foxProj_main : (Cert.FoxProj.main (F := F)) = (Cert.FoxProjIdeal.main (F := F)) := rfl
end Cert.Proof
end
-- ==== Proof.ValSb.lean ====
/-
  The product before the stick-breaking attention and the gradient of its weight.
-/
module
public import proofs.«01_k».proof.Proof.Gen.SbDwInIdeal.Value
public import proofs.«01_k».proof.Proof.Gen.SbDwInReferenceIdeal.Run
public import proofs.«01_k».proof.Proof.Gen.SbDwInReferenceIdeal.Read
public import proofs.«01_k».proof.Proof.Gen.SbProjIdeal.Value
public import proofs.«01_k».proof.Proof.Gen.SbProjReferenceIdeal.Run
public import proofs.«01_k».proof.Proof.Gen.SbProjReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.SbDwInIdeal.Hand
open Cert.SbDwInIdeal Cert.SbDwInIdeal.Gen Cert.SbDwInReferenceIdeal.Read
variable (m : (ℓ : Loc nD τ sig) → Buf (Elt Ideal) ℓ)

theorem idx : ∀ t : Fin cfg0.N, win0_0.index t = ![0, t.val / 8] ∧ win0_1.index t = ![0, t.val % 8] ∧ win0_2.index t = ![t.val % 8 / 2, t.val / 8, t.val % 2] :=
  (by decide +kernel : ∀ t : Fin grid0.N, _)

/-- The gradient of the weight, in the four slabs of its columns. -/
theorem final (c : Dev nD) : (dats m 0 c).arrAt 2 cfg0.N = val_main_v8 (F := Ideal) (m ((c : Thread nD τ).loc main_arg0)) (m ((c : Thread nD τ).loc main_arg2)) := by
  refine (dats m 0 c).arrAt_eq_of_covers 2 _ (by decide +kernel) fun t _ y => ?_
  blk_simp
  rw [after0_2]; unfold outsAt0; frame_out
  pointwise [k0_pay3, k0_pay2, k0_pay1, val_main_v8, val_main_v7, val_main_v6, val_main_v5, val_main_v4, val_main_v3, val_main_v1]
  refine Fin.sum_fin_congr fun k => (EReal.mul_comm _ _).trans (congrArg₂ (fun a b : EReal => a * b) ?_ ?_) <;> blk_ext! [iblk, V, idx t]
end Cert.SbDwInIdeal.Hand

namespace Cert.SbProjIdeal.Hand
open Cert.SbProjIdeal Cert.SbProjIdeal.Gen Cert.SbProjReferenceIdeal.Read
variable (m : (ℓ : Loc nD τ sig) → Buf (Elt Ideal) ℓ)

theorem idx : ∀ t : Fin cfg0.N, win0_0.index t = ![t.val / 8, 0] ∧ win0_1.index t = ![t.val % 8 / 2, 0, t.val % 2] ∧ win0_2.index t = ![t.val / 8, t.val % 8] :=
  (by decide +kernel : ∀ t : Fin grid0.N, _)

/-- Queries, keys and values of all heads. -/
theorem final (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay3, k0_pay2, k0_pay1, val_main_v3, val_main_v2, val_main_v1, val_main_v0]
  blk_point [iblk, V, idx t]
end Cert.SbProjIdeal.Hand
end
-- ==== Proof.ValSbDh.lean ====
/-
  The gradient of the input of the product before the stick-breaking attention: the array the run leaves is the reference's, element by element.
-/
module
public import proofs.«01_k».proof.Proof.Gen.SbDhIdeal.Value
public import proofs.«01_k».proof.Proof.Gen.SbDhReferenceIdeal.Run
public import proofs.«01_k».proof.Proof.Gen.SbDhReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.SbDhIdeal.Hand
open Cert.SbDhIdeal Cert.SbDhIdeal.Gen
variable (m : (ℓ : Loc nD τ sig) → Buf (Elt Ideal) ℓ)

theorem idx : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

/-- The second operand of the call: the weight cut into four slabs of columns. -/
theorem V_slabs (c : Dev nD) (s : Fin 4) (i : Fin 2048) (k : Fin 1536) :
    V m c main_v1 (ix3 s i k) = m ((c : Thread nD τ).loc main_arg1) (ix2 i ⟨s.val * 1536 + k.val, by omega⟩) := by
  entry_read
  pointwise

theorem zero_at (j) : (k0_pay1 (F := Ideal) j : EReal) = 0 := by pointwise [k0_pay1]
theorem step_at (acc a b j) : (k0_pay2 (F := Ideal) acc a b j : EReal) = acc j + ∑ k : Fin 1536, a (ix2 (j 0) k) * b (ix3 0 (j 1) k) := by
  pointwise [k0_pay2]

/-- At the last step of a block the output is what has been added up. -/
theorem last (c : Dev nD) (t : Fin cfg0.N) (h : t.val % 4 = 3) : (outsAt0 m c t.val t.isLt).1 = (outsAt0 m c t.val t.isLt).2 := by
  rw [outsAt0_C m c t (by omega) h]; frame_out

/-- … which is the sum of the products of the four pairs of blocks. -/
theorem total (c : Dev nD) (t : Fin cfg0.N) (h : t.val % 4 = 3) (j) : (show EReal from (outsAt0 m c t.val t.isLt).2 j)
    = ∑ s : Fin 4, ∑ k : Fin 1536, (show EReal from iblk m c 0 ⟨4 * (t.val / 4) + s.val, Pipeline.run_point_lt_of_flush t h s⟩ (ix2 (j 0) k)) * (iblk m c 1 ⟨4 * (t.val / 4) + s.val, Pipeline.run_point_lt_of_flush t h s⟩ (ix3 0 (j 1) k)) := by
  have again : ∀ f : Vec Ideal S1024x1024 .f32, View.read (Elt Ideal) scM0_0.view ((Memref.isWhole_whole cc0_scratch0).unread f) = f := fun f => (Memref.isWhole_whole cc0_scratch0).read_unread f
  show (outsAt0 m c t.val t.isLt).2 j = _
  rw [Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h3 : t.val % 4 = 3
      · rw [outsAt0_C m c t h h3]; frame_out; rw [step_at, again]
      · rw [outsAt0_B m c t h h3]; frame_out; rw [step_at, again])
    t h j, zero_add]

theorem final (c : Dev nD) : (dats m 0 c).arrAt 2 cfg0.N
    = Cert.SbDhReferenceIdeal.Read.val_main_v4 (F := Ideal) (m ((c : Thread nD τ).loc main_arg1)) (m ((c : Thread nD τ).loc main_arg2)) := by
  refine (dats m 0 c).arrAt_eq_of_covers 2 _ (by decide +kernel) fun t hf y => ?_
  have h3 := (flush0_2 t).mp hf
  blk_simp
  rw [after0_2, last m c t h3]
  refine (total m c t h3 _).trans ?_
  pointwise [Cert.SbDhReferenceIdeal.Read.val_main_v4]
  refine Fin.sum_mul_add_congr fun s k hl => ?_
  blk_point [iblk, V, idx t, idx ⟨_, Pipeline.run_point_lt_of_flush t h3 s⟩]
end Cert.SbDhIdeal.Hand
end
-- ==== Proof.ValFox.lean ====
/-
  The product before the forgetting attention and the gradient of its weight.
-/
module
public import proofs.«01_k».proof.Proof.Gen.FoxDwInIdeal.Value
public import proofs.«01_k».proof.Proof.Gen.FoxDwInReferenceIdeal.Run
public import proofs.«01_k».proof.Proof.Gen.FoxDwInReferenceIdeal.Read
public import proofs.«01_k».proof.Proof.Gen.FoxProjIdeal.Value
public import proofs.«01_k».proof.Proof.Gen.FoxProjReferenceIdeal.Run
public import proofs.«01_k».proof.Proof.Gen.FoxProjReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.FoxDwInIdeal.Hand
open Cert.FoxDwInIdeal Cert.FoxDwInIdeal.Gen Cert.FoxDwInReferenceIdeal.Read
variable (m : (ℓ : Loc nD τ sig) → Buf (Elt Ideal) ℓ)

theorem idx : ∀ t : Fin cfg0.N, win0_0.index t = ![0, t.val / 7] ∧ win0_1.index t = ![0, t.val % 7] ∧ win0_2.index t = ![t.val / 7, t.val % 7] :=
  (by decide +kernel : ∀ t : Fin grid0.N, _)

/-- The gradient of the weight. -/
theorem final (c : Dev nD) : (dats m 0 c).arrAt 2 cfg0.N = val_main_v6 (F := Ideal) (m ((c : Thread nD τ).loc main_arg0)) (m ((c : Thread nD τ).loc main_arg2)) := by
  refine (dats m 0 c).arrAt_eq_of_covers 2 _ (by decide +kernel) fun t _ y => ?_
  blk_simp
  rw [after0_2]; unfold outsAt0; frame_out
  pointwise [k0_pay3, k0_pay2, k0_pay1, val_main_v6, val_main_v5, val_main_v4, val_main_v3, val_main_v1]
  refine Fin.sum_fin_congr fun k => (EReal.mul_comm _ _).trans (congrArg₂ (fun a b : EReal => a * b) ?_ ?_) <;> blk_ext! [iblk, V, idx t]
end Cert.FoxDwInIdeal.Hand

namespace Cert.FoxProjIdeal.Hand
open Cert.FoxProjIdeal Cert.FoxProjIdeal.Gen Cert.FoxProjReferenceIdeal.Read
variable (m : (ℓ : Loc nD τ sig) → Buf (Elt Ideal) ℓ)

theorem idx : ∀ t : Fin cfg0.N, win0_0.index t = ![t.val / 7, 0] ∧ win0_1.index t = ![0, t.val % 7] ∧ win0_2.index t = ![t.val / 7, t.val % 7] :=
  (by decide +kernel : ∀ t : Fin grid0.N, _)

/-- Queries, keys, values and gates of all heads. -/
theorem final (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay2, k0_pay1, val_main_v2, val_main_v1, val_main_v0]
  blk_point [iblk, V, idx t]
end Cert.FoxProjIdeal.Hand
end
-- ==== Proof.ValFoxDh.lean ====
/-
  The gradient of the input of the product before the forgetting attention: the array the run leaves is the reference's, element by element.
-/
module
public import proofs.«01_k».proof.Proof.Gen.FoxDhIdeal.Value
public import proofs.«01_k».proof.Proof.Gen.FoxDhReferenceIdeal.Run
public import proofs.«01_k».proof.Proof.Gen.FoxDhReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.FoxDhIdeal.Hand
open Cert.FoxDhIdeal Cert.FoxDhIdeal.Gen
variable (m : (ℓ : Loc nD τ sig) → Buf (Elt Ideal) ℓ)

theorem idx : ∀ t : Fin cfg0.N, win0_0.index t = ![t.val / 14, t.val % 7] ∧ win0_1.index t = ![t.val / 7 % 2, t.val % 7] ∧ win0_2.index t = ![t.val / 14, t.val / 7 % 2] :=
  (by decide +kernel : ∀ t : Fin grid0.N, _)

theorem zero_at (j) : (k0_pay1 (F := Ideal) j : EReal) = 0 := by pointwise [k0_pay1]
theorem step_at (acc a b j) : (k0_pay2 (F := Ideal) acc a b j : EReal) = acc j + ∑ k : Fin 896, a (ix2 (j 0) k) * b (ix2 (j 1) k) := by
  pointwise [k0_pay2]

/-- At the last step of a block the output is what has been added up. -/
theorem last (c : Dev nD) (t : Fin cfg0.N) (h : t.val % 7 = 6) : (outsAt0 m c t.val t.isLt).1 = (outsAt0 m c t.val t.isLt).2 := by
  rw [outsAt0_C m c t (by omega) h]; frame_out

/-- … which is the sum of the products of the seven pairs of blocks. -/
theorem total (c : Dev nD) (t : Fin cfg0.N) (h : t.val % 7 = 6) (j) : (show EReal from (outsAt0 m c t.val t.isLt).2 j)
    = ∑ s : Fin 7, ∑ k : Fin 896, (show EReal from iblk m c 0 ⟨7 * (t.val / 7) + s.val, Pipeline.run_point_lt_of_flush t h s⟩ (ix2 (j 0) k)) * (iblk m c 1 ⟨7 * (t.val / 7) + s.val, Pipeline.run_point_lt_of_flush t h s⟩ (ix2 (j 1) k)) := by
  have again : ∀ f : Vec Ideal S1024x1024 .f32, View.read (Elt Ideal) scM0_0.view ((Memref.isWhole_whole cc0_scratch0).unread f) = f := fun f => (Memref.isWhole_whole cc0_scratch0).read_unread f
  show (outsAt0 m c t.val t.isLt).2 j = _
  rw [Pipeline.eq_sum_fin_of_reset_step_apply_of_flush (fun n h => (outsAt0 m c n h).2) 7 (fun _ => 0) _
    (fun t h j => by rw [outsAt0_A m c t h (by omega)]; frame_out; rw [step_at, zero_at])
    (fun t h j => by
      by_cases h6 : t.val % 7 = 6
      · rw [outsAt0_C m c t h h6]; frame_out; rw [step_at, again]
      · rw [outsAt0_B m c t h h6]; frame_out; rw [step_at, again])
    t h j, zero_add]

theorem final (c : Dev nD) : (dats m 0 c).arrAt 2 cfg0.N
    = Cert.FoxDhReferenceIdeal.Read.val_main_v4 (F := Ideal) (m ((c : Thread nD τ).loc main_arg1)) (m ((c : Thread nD τ).loc main_arg2)) := by
  refine (dats m 0 c).arrAt_eq_of_covers 2 _ (by decide +kernel) fun t hf y => ?_
  have h6 := (flush0_2 t).mp hf
  blk_simp
  rw [after0_2, last m c t h6]
  refine (total m c t h6 _).trans ?_
  pointwise [Cert.FoxDhReferenceIdeal.Read.val_main_v4]
  refine Fin.sum_mul_add_congr fun s k hl => ?_
  blk_point [iblk, V, idx t, idx ⟨_, Pipeline.run_point_lt_of_flush t h6 s⟩]
end Cert.FoxDhIdeal.Hand
end
-- ==== Proof.ClaimAtt.lean ====
/-
  The claims of the products before the attention: each program and its idealization leave their arguments as they were, and so does the
  reference; the idealization and the reference end with equal results.
-/
module
public import proofs.«01_k».proof.Proof.SameAtt
public import proofs.«01_k».proof.Proof.ValSb
public import proofs.«01_k».proof.Proof.ValSbDh
public import proofs.«01_k».proof.Proof.ValFox
public import proofs.«01_k».proof.Proof.ValFoxDh
@[expose] public section
set_option maxRecDepth 16384
noncomputable section
open Idealize.ShloMosaic Idealize.ShloMosaic.TcCoe Idealize.SL.Sem

namespace Cert.Proof.SbDh
theorem frame_kernel : Cert.quiescent_SbDh := fun m ρ _ => by
  rw [show (onTc (τ := Cert.SbDh.τ) (Cert.SbDh.main (F := Bits))) = onTc (τ := Cert.SbDhIdeal.τ) (Cert.SbDhIdeal.main (F := Bits)) from
    congrArg (onTc (τ := Cert.SbDhIdeal.τ)) sbDh_main, sbDh_defs]
  exact Cert.SbDhIdeal.Gen.frame (F := Bits) m ρ

theorem frame_ideal : Cert.quiescent_SbDhIdeal := fun m ρ _ => Cert.SbDhIdeal.Gen.frame (F := Ideal) m ρ

theorem frame_reference : Cert.quiescent_SbDhReferenceIdeal := fun m ρ _ =>
  (θ_run Cert.SbDhReferenceIdeal.defs _ _).mono (fun r h => ⟨fun c => (h c).2, sem_eq_zero_of_no_sems (by decide) r.2⟩)
    (Cert.SbDhReferenceIdeal.Value.run (F := Ideal) m ρ)

theorem values : Cert.algebraic_SbDhIdeal_SbDhReferenceIdeal := by
  intro m g m' g' _ hagree
  refine ⟨_, (θ_run Cert.SbDhIdeal.defs _ _).mono (fun r h c => ⟨(h c).1.trans (Cert.SbDhIdeal.Hand.final m c), (h c).2⟩) (Cert.SbDhIdeal.Value.run_blocks m g), ?_⟩
  refine (θ_run Cert.SbDhReferenceIdeal.defs _ _).mono (fun r h c => ⟨(h c).1.trans ?_, (h c).2⟩) (Cert.SbDhReferenceIdeal.Value.run (F := Ideal) m' g')
  refine (Cert.SbDhReferenceIdeal.Read.val_main_v4_eq _ _).trans ?_
  rw [(hagree c).2.1, (hagree c).2.2]
end Cert.Proof.SbDh

namespace Cert.Proof.SbDwIn
theorem frame_kernel : Cert.quiescent_SbDwIn := fun m ρ _ => by
  rw [show (onTc (τ := Cert.SbDwIn.τ) (Cert.SbDwIn.main (F := Bits))) = onTc (τ := Cert.SbDwInIdeal.τ) (Cert.SbDwInIdeal.main (F := Bits)) from
    congrArg (onTc (τ := Cert.SbDwInIdeal.τ)) sbDwIn_main, sbDwIn_defs]
  exact Cert.SbDwInIdeal.Gen.frame (F := Bits) m ρ

theorem frame_ideal : Cert.quiescent_SbDwInIdeal := fun m ρ _ => Cert.SbDwInIdeal.Gen.frame (F := Ideal) m ρ

theorem frame_reference : Cert.quiescent_SbDwInReferenceIdeal := fun m ρ _ =>
  (θ_run Cert.SbDwInReferenceIdeal.defs _ _).mono (fun r h => ⟨fun c => (h c).2, sem_eq_zero_of_no_sems (by decide) r.2⟩)
    (Cert.SbDwInReferenceIdeal.Value.run (F := Ideal) m ρ)

theorem values : Cert.algebraic_SbDwInIdeal_SbDwInReferenceIdeal := by
  intro m g m' g' _ hagree
  refine ⟨_, (θ_run Cert.SbDwInIdeal.defs _ _).mono (fun r h c => ⟨(h c).1.trans (Cert.SbDwInIdeal.Hand.final m c), (h c).2⟩) (Cert.SbDwInIdeal.Value.run_blocks m g), ?_⟩
  refine (θ_run Cert.SbDwInReferenceIdeal.defs _ _).mono (fun r h c => ⟨(h c).1.trans ?_, (h c).2⟩) (Cert.SbDwInReferenceIdeal.Value.run (F := Ideal) m' g')
  refine (Cert.SbDwInReferenceIdeal.Read.val_main_v8_eq _ _).trans ?_
  rw [(hagree c).1, (hagree c).2.2]
end Cert.Proof.SbDwIn

namespace Cert.Proof.SbProj
theorem frame_kernel : Cert.quiescent_SbProj := fun m ρ _ => by
  rw [show (onTc (τ := Cert.SbProj.τ) (Cert.SbProj.main (F := Bits))) = onTc (τ := Cert.SbProjIdeal.τ) (Cert.SbProjIdeal.main (F := Bits)) from
    congrArg (onTc (τ := Cert.SbProjIdeal.τ)) sbProj_main, sbProj_defs]
  exact Cert.SbProjIdeal.Gen.frame (F := Bits) m ρ

theorem frame_ideal : Cert.quiescent_SbProjIdeal := fun m ρ _ => Cert.SbProjIdeal.Gen.frame (F := Ideal) m ρ

theorem frame_reference : Cert.quiescent_SbProjReferenceIdeal := fun m ρ _ =>
  (θ_run Cert.SbProjReferenceIdeal.defs _ _).mono (fun r h => ⟨fun c => (h c).2, sem_eq_zero_of_no_sems (by decide) r.2⟩)
    (Cert.SbProjReferenceIdeal.Value.run (F := Ideal) m ρ)

theorem values : Cert.algebraic_SbProjIdeal_SbProjReferenceIdeal := by
  intro m g m' g' _ hagree
  refine ⟨_, (θ_run Cert.SbProjIdeal.defs _ _).mono (fun r h c => ⟨(h c).1.trans (Cert.SbProjIdeal.Hand.final m c), (h c).2⟩) (Cert.SbProjIdeal.Value.run_blocks m g), ?_⟩
  refine (θ_run Cert.SbProjReferenceIdeal.defs _ _).mono (fun r h c => ⟨(h c).1.trans ?_, (h c).2⟩) (Cert.SbProjReferenceIdeal.Value.run (F := Ideal) m' g')
  refine (Cert.SbProjReferenceIdeal.Read.val_main_v3_eq _ _).trans ?_
  rw [(hagree c).1, (hagree c).2]
end Cert.Proof.SbProj

namespace Cert.Proof.FoxDh
theorem frame_kernel : Cert.quiescent_FoxDh := fun m ρ _ => by
  rw [show (onTc (τ := Cert.FoxDh.τ) (Cert.FoxDh.main (F := Bits))) = onTc (τ := Cert.FoxDhIdeal.τ) (Cert.FoxDhIdeal.main (F := Bits)) from
    congrArg (onTc (τ := Cert.FoxDhIdeal.τ)) foxDh_main, foxDh_defs]
  exact Cert.FoxDhIdeal.Gen.frame (F := Bits) m ρ

theorem frame_ideal : Cert.quiescent_FoxDhIdeal := fun m ρ _ => Cert.FoxDhIdeal.Gen.frame (F := Ideal) m ρ

theorem frame_reference : Cert.quiescent_FoxDhReferenceIdeal := fun m ρ _ =>
  (θ_run Cert.FoxDhReferenceIdeal.defs _ _).mono (fun r h => ⟨fun c => (h c).2, sem_eq_zero_of_no_sems (by decide) r.2⟩)
    (Cert.FoxDhReferenceIdeal.Value.run (F := Ideal) m ρ)

theorem values : Cert.algebraic_FoxDhIdeal_FoxDhReferenceIdeal := by
  intro m g m' g' _ hagree
  refine ⟨_, (θ_run Cert.FoxDhIdeal.defs _ _).mono (fun r h c => ⟨(h c).1.trans (Cert.FoxDhIdeal.Hand.final m c), (h c).2⟩) (Cert.FoxDhIdeal.Value.run_blocks m g), ?_⟩
  refine (θ_run Cert.FoxDhReferenceIdeal.defs _ _).mono (fun r h c => ⟨(h c).1.trans ?_, (h c).2⟩) (Cert.FoxDhReferenceIdeal.Value.run (F := Ideal) m' g')
  refine (Cert.FoxDhReferenceIdeal.Read.val_main_v4_eq _ _).trans ?_
  rw [(hagree c).2.1, (hagree c).2.2]
end Cert.Proof.FoxDh

namespace Cert.Proof.FoxDwIn
theorem frame_kernel : Cert.quiescent_FoxDwIn := fun m ρ _ => by
  rw [show (onTc (τ := Cert.FoxDwIn.τ) (Cert.FoxDwIn.main (F := Bits))) = onTc (τ := Cert.FoxDwInIdeal.τ) (Cert.FoxDwInIdeal.main (F := Bits)) from
    congrArg (onTc (τ := Cert.FoxDwInIdeal.τ)) foxDwIn_main, foxDwIn_defs]
  exact Cert.FoxDwInIdeal.Gen.frame (F := Bits) m ρ

theorem frame_ideal : Cert.quiescent_FoxDwInIdeal := fun m ρ _ => Cert.FoxDwInIdeal.Gen.frame (F := Ideal) m ρ

theorem frame_reference : Cert.quiescent_FoxDwInReferenceIdeal := fun m ρ _ =>
  (θ_run Cert.FoxDwInReferenceIdeal.defs _ _).mono (fun r h => ⟨fun c => (h c).2, sem_eq_zero_of_no_sems (by decide) r.2⟩)
    (Cert.FoxDwInReferenceIdeal.Value.run (F := Ideal) m ρ)

theorem values : Cert.algebraic_FoxDwInIdeal_FoxDwInReferenceIdeal := by
  intro m g m' g' _ hagree
  refine ⟨_, (θ_run Cert.FoxDwInIdeal.defs _ _).mono (fun r h c => ⟨(h c).1.trans (Cert.FoxDwInIdeal.Hand.final m c), (h c).2⟩) (Cert.FoxDwInIdeal.Value.run_blocks m g), ?_⟩
  refine (θ_run Cert.FoxDwInReferenceIdeal.defs _ _).mono (fun r h c => ⟨(h c).1.trans ?_, (h c).2⟩) (Cert.FoxDwInReferenceIdeal.Value.run (F := Ideal) m' g')
  refine (Cert.FoxDwInReferenceIdeal.Read.val_main_v6_eq _ _).trans ?_
  rw [(hagree c).1, (hagree c).2.2]
end Cert.Proof.FoxDwIn

namespace Cert.Proof.FoxProj
theorem frame_kernel : Cert.quiescent_FoxProj := fun m ρ _ => by
  rw [show (onTc (τ := Cert.FoxProj.τ) (Cert.FoxProj.main (F := Bits))) = onTc (τ := Cert.FoxProjIdeal.τ) (Cert.FoxProjIdeal.main (F := Bits)) from
    congrArg (onTc (τ := Cert.FoxProjIdeal.τ)) foxProj_main, foxProj_defs]
  exact Cert.FoxProjIdeal.Gen.frame (F := Bits) m ρ

theorem frame_ideal : Cert.quiescent_FoxProjIdeal := fun m ρ _ => Cert.FoxProjIdeal.Gen.frame (F := Ideal) m ρ

theorem frame_reference : Cert.quiescent_FoxProjReferenceIdeal := fun m ρ _ =>
  (θ_run Cert.FoxProjReferenceIdeal.defs _ _).mono (fun r h => ⟨fun c => (h c).2, sem_eq_zero_of_no_sems (by decide) r.2⟩)
    (Cert.FoxProjReferenceIdeal.Value.run (F := Ideal) m ρ)

theorem values : Cert.algebraic_FoxProjIdeal_FoxProjReferenceIdeal := by
  intro m g m' g' _ hagree
  refine ⟨_, (θ_run Cert.FoxProjIdeal.defs _ _).mono (fun r h c => ⟨(h c).1.trans (Cert.FoxProjIdeal.Hand.final m c), (h c).2⟩) (Cert.FoxProjIdeal.Value.run_blocks m g), ?_⟩
  refine (θ_run Cert.FoxProjReferenceIdeal.defs _ _).mono (fun r h c => ⟨(h c).1.trans ?_, (h c).2⟩) (Cert.FoxProjReferenceIdeal.Value.run (F := Ideal) m' g')
  refine (Cert.FoxProjReferenceIdeal.Read.val_main_v2_eq _ _).trans ?_
  rw [(hagree c).1, (hagree c).2]
end Cert.Proof.FoxProj
end
-- ==== Proof.SameMla.lean ====
/-
  Of the products of the latent attention, the printed programs and their idealizations have one text; each part of it is equal to the other's.
-/
module
public import proofs.«01_k».proof.Proof.SameOne
public import proofs.«01_k».proof.Proof.Gen.MlaDh
public import proofs.«01_k».proof.Proof.Gen.MlaDhIdeal
public import proofs.«01_k».proof.Proof.Gen.MlaDwIn
public import proofs.«01_k».proof.Proof.Gen.MlaDwInIdeal
public import proofs.«01_k».proof.Proof.Gen.MlaDown
public import proofs.«01_k».proof.Proof.Gen.MlaDownIdeal
public import proofs.«01_k».proof.Proof.Gen.MlaDcQ
public import proofs.«01_k».proof.Proof.Gen.MlaDcQIdeal
public import proofs.«01_k».proof.Proof.Gen.MlaDwUq
public import proofs.«01_k».proof.Proof.Gen.MlaDwUqIdeal
public import proofs.«01_k».proof.Proof.Gen.MlaUq
public import proofs.«01_k».proof.Proof.Gen.MlaUqIdeal
public import proofs.«01_k».proof.Proof.Gen.MlaDcKv
public import proofs.«01_k».proof.Proof.Gen.MlaDcKvIdeal
public import proofs.«01_k».proof.Proof.Gen.MlaDwUkv
public import proofs.«01_k».proof.Proof.Gen.MlaDwUkvIdeal
public import proofs.«01_k».proof.Proof.Gen.MlaUkv
public import proofs.«01_k».proof.Proof.Gen.MlaUkvIdeal
@[expose] public section
noncomputable section
namespace Cert.Proof
open Idealize.ShloMosaic Idealize.SL.Sem
variable {F : FTy → Type} [FloatOps F]
set_option maxHeartbeats 4000000

theorem mlaDh_defs : (Cert.MlaDh.defs (F := F)) = (Cert.MlaDhIdeal.defs (F := F)) :=
  congrArg (fun D => Pipeline.defs Cert.MlaDhIdeal.pcfgs (Defs.onTc D)) (eq_of_zero fun _ => rfl)
theorem mlaDh_main : (Cert.MlaDh.main (F := F)) = (Cert.MlaDhIdeal.main (F := F)) := rfl

theorem mlaDwIn_defs : (Cert.MlaDwIn.defs (F := F)) = (Cert.MlaDwInIdeal.defs (F := F)) :=
  congrArg (fun D => Pipeline.defs Cert.MlaDwInIdeal.pcfgs (Defs.onTc D)) (eq_of_zero fun _ => rfl)
theorem mlaDwIn_main : (Cert.MlaDwIn.main (F := F)) = (Cert.MlaDwInIdeal.main (F := F)) := rfl

theorem mlaDown_defs : (Cert.MlaDown.defs (F := F)) = (Cert.MlaDownIdeal.defs (F := F)) :=
  congrArg (fun D => Pipeline.defs Cert.MlaDownIdeal.pcfgs (Defs.onTc D)) (eq_of_zero fun _ => rfl)
theorem mlaDown_main : (Cert.MlaDown.main (F := F)) = (Cert.MlaDownIdeal.main (F := F)) := rfl

theorem mlaDcQ_defs : (Cert.MlaDcQ.defs (F := F)) = (Cert.MlaDcQIdeal.defs (F := F)) :=
  congrArg (fun D => Pipeline.defs Cert.MlaDcQIdeal.pcfgs (Defs.onTc D)) (eq_of_zero fun _ => rfl)
theorem mlaDcQ_main : (Cert.MlaDcQ.main (F := F)) = (Cert.MlaDcQIdeal.main (F := F)) := rfl

theorem mlaDwUq_defs : (Cert.MlaDwUq.defs (F := F)) = (Cert.MlaDwUqIdeal.defs (F := F)) :=
  congrArg (fun D => Pipeline.defs Cert.MlaDwUqIdeal.pcfgs (Defs.onTc D)) (eq_of_zero fun _ => rfl)
theorem mlaDwUq_main : (Cert.MlaDwUq.main (F := F)) = (Cert.MlaDwUqIdeal.main (F := F)) := rfl

theorem mlaUq_defs : (Cert.MlaUq.defs (F := F)) = (Cert.MlaUqIdeal.defs (F := F)) :=
  congrArg (fun D => Pipeline.defs Cert.MlaUqIdeal.pcfgs (Defs.onTc D)) (eq_of_zero fun _ => rfl)
theorem mlaUq_main : (Cert.MlaUq.main (F := F)) = (Cert.MlaUqIdeal.main (F := F)) := rfl

theorem mlaDcKv_defs : (Cert.MlaDcKv.defs (F := F)) = (Cert.MlaDcKvIdeal.defs (F := F)) :=
  congrArg (fun D => Pipeline.defs Cert.MlaDcKvIdeal.pcfgs (Defs.onTc D)) (eq_of_zero fun _ => rfl)
theorem mlaDcKv_main : (Cert.MlaDcKv.main (F := F)) = (Cert.MlaDcKvIdeal.main (F := F)) := rfl

theorem mlaDwUkv_defs : (Cert.MlaDwUkv.defs (F := F)) = (Cert.MlaDwUkvIdeal.defs (F := F)) :=
  congrArg (fun D => Pipeline.defs Cert.MlaDwUkvIdeal.pcfgs (Defs.onTc D)) (eq_of_zero fun _ => rfl)
theorem mlaDwUkv_main : (Cert.MlaDwUkv.main (F := F)) = (Cert.MlaDwUkvIdeal.main (F := F)) := rfl

theorem mlaUkv_defs : (Cert.MlaUkv.defs (F := F)) = (Cert.MlaUkvIdeal.defs (F := F)) :=
  congrArg (fun D => Pipeline.defs Cert.MlaUkvIdeal.pcfgs (Defs.onTc D)) (eq_of_zero fun _ => rfl)
theorem mlaUkv_main : (Cert.MlaUkv.main (F := F)) = (Cert.MlaUkvIdeal.main (F := F)) := rfl
end Cert.Proof
end
-- ==== Proof.ValMla.lean ====
/-
  The product by which the latent attention goes down to its ranks, and its two gradients.
-/
module
public import proofs.«01_k».proof.Proof.Gen.MlaDownIdeal.Value
public import proofs.«01_k».proof.Proof.Gen.MlaDownReferenceIdeal.Run
public import proofs.«01_k».proof.Proof.Gen.MlaDownReferenceIdeal.Read
public import proofs.«01_k».proof.Proof.Gen.MlaDhIdeal.Value
public import proofs.«01_k».proof.Proof.Gen.MlaDhReferenceIdeal.Run
public import proofs.«01_k».proof.Proof.Gen.MlaDhReferenceIdeal.Read
public import proofs.«01_k».proof.Proof.Gen.MlaDwInIdeal.Value
public import proofs.«01_k».proof.Proof.Gen.MlaDwInReferenceIdeal.Run
public import proofs.«01_k».proof.Proof.Gen.MlaDwInReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.MlaDownIdeal.Hand
open Cert.MlaDownIdeal Cert.MlaDownIdeal.Gen Cert.MlaDownReferenceIdeal.Read
variable (m : (ℓ : Loc nD τ sig) → Buf (Elt Ideal) ℓ)

theorem idx : ∀ t : Fin cfg0.N, win0_0.index t = ![t.val / 11, 0] ∧ win0_1.index t = ![0, t.val % 11] ∧ win0_2.index t = ![t.val / 11, t.val % 11] :=
  (by decide +kernel : ∀ t : Fin grid0.N, _)

/-- What the queries, keys, values and the rotated part are made of. -/
theorem final (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay2, k0_pay1, val_main_v2, val_main_v1, val_main_v0]
  blk_point [iblk, V, idx t]
end Cert.MlaDownIdeal.Hand

namespace Cert.MlaDhIdeal.Hand
open Cert.MlaDhIdeal Cert.MlaDhIdeal.Gen Cert.MlaDhReferenceIdeal.Read
variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The gradient of the input. -/
theorem final (c : Dev nD) : (dats m 0 c).arrAt 2 cfg0.N = val_main_v4 (F := Ideal) (m ((c : Thread nD τ).loc main_arg1)) (m ((c : Thread nD τ).loc main_arg2)) := by
  refine (dats m 0 c).arrAt_eq_of_covers 2 _ (by decide +kernel) fun t _ y => ?_
  blk_simp
  rw [after0_2]; unfold outsAt0; frame_out
  pointwise [k0_pay2, k0_pay1, val_main_v4, val_main_v3, val_main_v1]
  blk_point [iblk, V, idx t]
end Cert.MlaDhIdeal.Hand

namespace Cert.MlaDwInIdeal.Hand
open Cert.MlaDwInIdeal Cert.MlaDwInIdeal.Gen Cert.MlaDwInReferenceIdeal.Read
variable (m : (ℓ : Loc nD τ sig) → Buf (Elt Ideal) ℓ)

theorem idx : ∀ t : Fin cfg0.N, win0_0.index t = ![0, t.val / 11] ∧ win0_1.index t = ![0, t.val % 11] ∧ win0_2.index t = ![t.val / 11, t.val % 11] :=
  (by decide +kernel : ∀ t : Fin grid0.N, _)

/-- The gradient of the weight. -/
theorem final (c : Dev nD) : (dats m 0 c).arrAt 2 cfg0.N = val_main_v6 (F := Ideal) (m ((c : Thread nD τ).loc main_arg0)) (m ((c : Thread nD τ).loc main_arg2)) := by
  refine (dats m 0 c).arrAt_eq_of_covers 2 _ (by decide +kernel) fun t _ y => ?_
  blk_simp
  rw [after0_2]; unfold outsAt0; frame_out
  pointwise [k0_pay3, k0_pay2, k0_pay1, val_main_v6, val_main_v5, val_main_v4, val_main_v3, val_main_v1]
  refine Fin.sum_fin_congr fun k => (EReal.mul_comm _ _).trans (congrArg₂ (fun a b : EReal => a * b) ?_ ?_) <;> blk_ext! [iblk, V, idx t]
end Cert.MlaDwInIdeal.Hand
end
-- ==== Proof.ValMlaQ.lean ====
/-
  The product that makes the latent attention's queries of all heads, and the gradient of its weight.
-/
module
public import proofs.«01_k».proof.Proof.Gen.MlaUqIdeal.Value
public import proofs.«01_k».proof.Proof.Gen.MlaUqReferenceIdeal.Run
public import proofs.«01_k».proof.Proof.Gen.MlaUqReferenceIdeal.Read
public import proofs.«01_k».proof.Proof.Gen.MlaDwUqIdeal.Value
public import proofs.«01_k».proof.Proof.Gen.MlaDwUqReferenceIdeal.Run
public import proofs.«01_k».proof.Proof.Gen.MlaDwUqReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.MlaUqIdeal.Hand
open Cert.MlaUqIdeal Cert.MlaUqIdeal.Gen Cert.MlaUqReferenceIdeal.Read
variable (m : (ℓ : Loc nD τ sig) → Buf (Elt Ideal) ℓ)

theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The queries of all heads. -/
theorem final (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay2, k0_pay1, val_main_v2, val_main_v1, val_main_v0]
  blk_point [iblk, V, idx t]
end Cert.MlaUqIdeal.Hand

namespace Cert.MlaDwUqIdeal.Hand
open Cert.MlaDwUqIdeal Cert.MlaDwUqIdeal.Gen Cert.MlaDwUqReferenceIdeal.Read
variable (m : (ℓ : Loc nD τ sig) → Buf (Elt Ideal) ℓ)

theorem idx : ∀ t : Fin cfg0.N, win0_0.index t = ![0, 0] ∧ win0_1.index t = ![0, t.val] ∧ win0_2.index t = ![t.val, 0, 0] :=
  (by decide +kernel : ∀ t : Fin grid0.N, _)

/-- The gradient of the weight, in the four slabs of its columns. -/
theorem final (c : Dev nD) : (dats m 0 c).arrAt 2 cfg0.N = val_main_v8 (F := Ideal) (m ((c : Thread nD τ).loc main_arg0)) (m ((c : Thread nD τ).loc main_arg2)) := by
  refine (dats m 0 c).arrAt_eq_of_covers 2 _ (by decide +kernel) fun t _ y => ?_
  blk_simp
  rw [after0_2]; unfold outsAt0; frame_out
  pointwise [k0_pay3, k0_pay2, k0_pay1, val_main_v8, val_main_v7, val_main_v6, val_main_v5, val_main_v4, val_main_v3, val_main_v1]
  refine Fin.sum_fin_congr fun k => (EReal.mul_comm _ _).trans (congrArg₂ (fun a b : EReal => a * b) ?_ ?_) <;> blk_ext! [iblk, V, idx t]
end Cert.MlaDwUqIdeal.Hand
end
-- ==== Proof.ValMlaKv.lean ====
/-
  The product that makes the latent attention's keys and values of all heads, and the gradient of its weight.
-/
module
public import proofs.«01_k».proof.Proof.Gen.MlaUkvIdeal.Value
public import proofs.«01_k».proof.Proof.Gen.MlaUkvReferenceIdeal.Run
public import proofs.«01_k».proof.Proof.Gen.MlaUkvReferenceIdeal.Read
public import proofs.«01_k».proof.Proof.Gen.MlaDwUkvIdeal.Value
public import proofs.«01_k».proof.Proof.Gen.MlaDwUkvReferenceIdeal.Run
public import proofs.«01_k».proof.Proof.Gen.MlaDwUkvReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.MlaUkvIdeal.Hand
open Cert.MlaUkvIdeal Cert.MlaUkvIdeal.Gen Cert.MlaUkvReferenceIdeal.Read
variable (m : (ℓ : Loc nD τ sig) → Buf (Elt Ideal) ℓ)

theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The keys and values of all heads. -/
theorem final (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay2, k0_pay1, val_main_v2, val_main_v1, val_main_v0]
  blk_point [iblk, V, idx t]
end Cert.MlaUkvIdeal.Hand

namespace Cert.MlaDwUkvIdeal.Hand
open Cert.MlaDwUkvIdeal Cert.MlaDwUkvIdeal.Gen Cert.MlaDwUkvReferenceIdeal.Read
variable (m : (ℓ : Loc nD τ sig) → Buf (Elt Ideal) ℓ)

theorem idx : ∀ t : Fin cfg0.N, win0_0.index t = ![0, 0] ∧ win0_1.index t = ![0, t.val] ∧ win0_2.index t = ![t.val, 0, 0] :=
  (by decide +kernel : ∀ t : Fin grid0.N, _)

/-- The gradient of the weight, in the four slabs of its columns. -/
theorem final (c : Dev nD) : (dats m 0 c).arrAt 2 cfg0.N = val_main_v8 (F := Ideal) (m ((c : Thread nD τ).loc main_arg0)) (m ((c : Thread nD τ).loc main_arg2)) := by
  refine (dats m 0 c).arrAt_eq_of_covers 2 _ (by decide +kernel) fun t _ y => ?_
  blk_simp
  rw [after0_2]; unfold outsAt0; frame_out
  pointwise [k0_pay3, k0_pay2, k0_pay1, val_main_v8, val_main_v7, val_main_v6, val_main_v5, val_main_v4, val_main_v3, val_main_v1]
  refine Fin.sum_fin_congr fun k => (EReal.mul_comm _ _).trans (congrArg₂ (fun a b : EReal => a * b) ?_ ?_) <;> blk_ext! [iblk, V, idx t]
end Cert.MlaDwUkvIdeal.Hand
end
-- ==== Proof.ValMlaDcQ.lean ====
/-
  The gradient of the input of the product that makes the latent attention's queries: the array the run leaves is the reference's, element by element.
-/
module
public import proofs.«01_k».proof.Proof.Gen.MlaDcQIdeal.Value
public import proofs.«01_k».proof.Proof.Gen.MlaDcQReferenceIdeal.Run
public import proofs.«01_k».proof.Proof.Gen.MlaDcQReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.MlaDcQIdeal.Hand
open Cert.MlaDcQIdeal Cert.MlaDcQIdeal.Gen
variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- The second operand of the call: the weight cut into four slabs of columns. -/
theorem V_slabs (c : Dev nD) (s : Fin 4) (i : Fin 768) (k : Fin 768) :
    V m c main_v1 (ix3 s i k) = m ((c : Thread nD τ).loc main_arg1) (ix2 i ⟨s.val * 768 + k.val, by omega⟩) := by
  entry_read
  pointwise

theorem zero_at (j) : (k0_pay1 (F := Ideal) j : EReal) = 0 := by pointwise [k0_pay1]
theorem step_at (acc a b j) : (k0_pay2 (F := Ideal) acc a b j : EReal) = acc j + ∑ k : Fin 768, a (ix2 (j 0) k) * b (ix3 0 (j 1) k) := by
  pointwise [k0_pay2]

/-- At the last step of a block the output is what has been added up. -/
theorem last (c : Dev nD) (t : Fin cfg0.N) (h : t.val % 4 = 3) : (outsAt0 m c t.val t.isLt).1 = (outsAt0 m c t.val t.isLt).2 := by
  rw [outsAt0_C m c t (by omega) h]; frame_out

/-- … which is the sum of the products of the four pairs of blocks. -/
theorem total (c : Dev nD) (t : Fin cfg0.N) (h : t.val % 4 = 3) (j) : (show EReal from (outsAt0 m c t.val t.isLt).2 j)
    = ∑ s : Fin 4, ∑ k : Fin 768, (show EReal from iblk m c 0 ⟨4 * (t.val / 4) + s.val, Pipeline.run_point_lt_of_flush t h s⟩ (ix2 (j 0) k)) * (iblk m c 1 ⟨4 * (t.val / 4) + s.val, Pipeline.run_point_lt_of_flush t h s⟩ (ix3 0 (j 1) k)) := by
  have again : ∀ f : Vec Ideal S1024x768 .f32, View.read (Elt Ideal) scM0_0.view ((Memref.isWhole_whole cc0_scratch0).unread f) = f := fun f => (Memref.isWhole_whole cc0_scratch0).read_unread f
  show (outsAt0 m c t.val t.isLt).2 j = _
  rw [Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h3 : t.val % 4 = 3
      · rw [outsAt0_C m c t h h3]; frame_out; rw [step_at, again]
      · rw [outsAt0_B m c t h h3]; frame_out; rw [step_at, again])
    t h j, zero_add]

theorem final (c : Dev nD) : (dats m 0 c).arrAt 2 cfg0.N
    = Cert.MlaDcQReferenceIdeal.Read.val_main_v4 (F := Ideal) (m ((c : Thread nD τ).loc main_arg1)) (m ((c : Thread nD τ).loc main_arg2)) := by
  refine (dats m 0 c).arrAt_eq_of_covers 2 _ (by decide +kernel) fun t hf y => ?_
  have h3 := (flush0_2 t).mp hf
  blk_simp
  rw [after0_2, last m c t h3]
  refine (total m c t h3 _).trans ?_
  pointwise [Cert.MlaDcQReferenceIdeal.Read.val_main_v4]
  refine Fin.sum_mul_add_congr fun s k hl => ?_
  blk_point [iblk, V, idx t, idx ⟨_, Pipeline.run_point_lt_of_flush t h3 s⟩]
end Cert.MlaDcQIdeal.Hand
end
-- ==== Proof.ValMlaDcKv.lean ====
/-
  The gradient of the input of the product that makes the latent attention's keys and values: the array the run leaves is the reference's, element by element.
-/
module
public import proofs.«01_k».proof.Proof.Gen.MlaDcKvIdeal.Value
public import proofs.«01_k».proof.Proof.Gen.MlaDcKvReferenceIdeal.Run
public import proofs.«01_k».proof.Proof.Gen.MlaDcKvReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.MlaDcKvIdeal.Hand
open Cert.MlaDcKvIdeal Cert.MlaDcKvIdeal.Gen
variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- The second operand of the call: the weight cut into four slabs of columns. -/
theorem V_slabs (c : Dev nD) (s : Fin 4) (i : Fin 512) (k : Fin 1024) :
    V m c main_v1 (ix3 s i k) = m ((c : Thread nD τ).loc main_arg1) (ix2 i ⟨s.val * 1024 + k.val, by omega⟩) := by
  entry_read
  pointwise

theorem zero_at (j) : (k0_pay1 (F := Ideal) j : EReal) = 0 := by pointwise [k0_pay1]
theorem step_at (acc a b j) : (k0_pay2 (F := Ideal) acc a b j : EReal) = acc j + ∑ k : Fin 1024, a (ix2 (j 0) k) * b (ix3 0 (j 1) k) := by
  pointwise [k0_pay2]

/-- At the last step of a block the output is what has been added up. -/
theorem last (c : Dev nD) (t : Fin cfg0.N) (h : t.val % 4 = 3) : (outsAt0 m c t.val t.isLt).1 = (outsAt0 m c t.val t.isLt).2 := by
  rw [outsAt0_C m c t (by omega) h]; frame_out

/-- … which is the sum of the products of the four pairs of blocks. -/
theorem total (c : Dev nD) (t : Fin cfg0.N) (h : t.val % 4 = 3) (j) : (show EReal from (outsAt0 m c t.val t.isLt).2 j)
    = ∑ s : Fin 4, ∑ k : Fin 1024, (show EReal from iblk m c 0 ⟨4 * (t.val / 4) + s.val, Pipeline.run_point_lt_of_flush t h s⟩ (ix2 (j 0) k)) * (iblk m c 1 ⟨4 * (t.val / 4) + s.val, Pipeline.run_point_lt_of_flush t h s⟩ (ix3 0 (j 1) k)) := by
  have again : ∀ f : Vec Ideal S1024x512 .f32, View.read (Elt Ideal) scM0_0.view ((Memref.isWhole_whole cc0_scratch0).unread f) = f := fun f => (Memref.isWhole_whole cc0_scratch0).read_unread f
  show (outsAt0 m c t.val t.isLt).2 j = _
  rw [Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h3 : t.val % 4 = 3
      · rw [outsAt0_C m c t h h3]; frame_out; rw [step_at, again]
      · rw [outsAt0_B m c t h h3]; frame_out; rw [step_at, again])
    t h j, zero_add]

theorem final (c : Dev nD) : (dats m 0 c).arrAt 2 cfg0.N
    = Cert.MlaDcKvReferenceIdeal.Read.val_main_v4 (F := Ideal) (m ((c : Thread nD τ).loc main_arg1)) (m ((c : Thread nD τ).loc main_arg2)) := by
  refine (dats m 0 c).arrAt_eq_of_covers 2 _ (by decide +kernel) fun t hf y => ?_
  have h3 := (flush0_2 t).mp hf
  blk_simp
  rw [after0_2, last m c t h3]
  refine (total m c t h3 _).trans ?_
  pointwise [Cert.MlaDcKvReferenceIdeal.Read.val_main_v4]
  refine Fin.sum_mul_add_congr fun s k hl => ?_
  blk_point [iblk, V, idx t, idx ⟨_, Pipeline.run_point_lt_of_flush t h3 s⟩]
end Cert.MlaDcKvIdeal.Hand
end
-- ==== Proof.ClaimMla.lean ====
/-
  The claims of the products of the latent attention: each program and its idealization leave their arguments as they were, and so does the
  reference; the idealization and the reference end with equal results.
-/
module
public import proofs.«01_k».proof.Proof.SameMla
public import proofs.«01_k».proof.Proof.ValMla
public import proofs.«01_k».proof.Proof.ValMlaQ
public import proofs.«01_k».proof.Proof.ValMlaKv
public import proofs.«01_k».proof.Proof.ValMlaDcQ
public import proofs.«01_k».proof.Proof.ValMlaDcKv
@[expose] public section
set_option maxRecDepth 16384
noncomputable section
open Idealize.ShloMosaic Idealize.ShloMosaic.TcCoe Idealize.SL.Sem

namespace Cert.Proof.MlaDh
theorem frame_kernel : Cert.quiescent_MlaDh := fun m ρ _ => by
  rw [show (onTc (τ := Cert.MlaDh.τ) (Cert.MlaDh.main (F := Bits))) = onTc (τ := Cert.MlaDhIdeal.τ) (Cert.MlaDhIdeal.main (F := Bits)) from
    congrArg (onTc (τ := Cert.MlaDhIdeal.τ)) mlaDh_main, mlaDh_defs]
  exact Cert.MlaDhIdeal.Gen.frame (F := Bits) m ρ

theorem frame_ideal : Cert.quiescent_MlaDhIdeal := fun m ρ _ => Cert.MlaDhIdeal.Gen.frame (F := Ideal) m ρ

theorem frame_reference : Cert.quiescent_MlaDhReferenceIdeal := fun m ρ _ =>
  (θ_run Cert.MlaDhReferenceIdeal.defs _ _).mono (fun r h => ⟨fun c => (h c).2, sem_eq_zero_of_no_sems (by decide) r.2⟩)
    (Cert.MlaDhReferenceIdeal.Value.run (F := Ideal) m ρ)

theorem values : Cert.algebraic_MlaDhIdeal_MlaDhReferenceIdeal := by
  intro m g m' g' _ hagree
  refine ⟨_, (θ_run Cert.MlaDhIdeal.defs _ _).mono (fun r h c => ⟨(h c).1.trans (Cert.MlaDhIdeal.Hand.final m c), (h c).2⟩) (Cert.MlaDhIdeal.Value.run_blocks m g), ?_⟩
  refine (θ_run Cert.MlaDhReferenceIdeal.defs _ _).mono (fun r h c => ⟨(h c).1.trans ?_, (h c).2⟩) (Cert.MlaDhReferenceIdeal.Value.run (F := Ideal) m' g')
  refine (Cert.MlaDhReferenceIdeal.Read.val_main_v4_eq _ _).trans ?_
  rw [(hagree c).2.1, (hagree c).2.2]
end Cert.Proof.MlaDh

namespace Cert.Proof.MlaDwIn
theorem frame_kernel : Cert.quiescent_MlaDwIn := fun m ρ _ => by
  rw [show (onTc (τ := Cert.MlaDwIn.τ) (Cert.MlaDwIn.main (F := Bits))) = onTc (τ := Cert.MlaDwInIdeal.τ) (Cert.MlaDwInIdeal.main (F := Bits)) from
    congrArg (onTc (τ := Cert.MlaDwInIdeal.τ)) mlaDwIn_main, mlaDwIn_defs]
  exact Cert.MlaDwInIdeal.Gen.frame (F := Bits) m ρ

theorem frame_ideal : Cert.quiescent_MlaDwInIdeal := fun m ρ _ => Cert.MlaDwInIdeal.Gen.frame (F := Ideal) m ρ

theorem frame_reference : Cert.quiescent_MlaDwInReferenceIdeal := fun m ρ _ =>
  (θ_run Cert.MlaDwInReferenceIdeal.defs _ _).mono (fun r h => ⟨fun c => (h c).2, sem_eq_zero_of_no_sems (by decide) r.2⟩)
    (Cert.MlaDwInReferenceIdeal.Value.run (F := Ideal) m ρ)

theorem values : Cert.algebraic_MlaDwInIdeal_MlaDwInReferenceIdeal := by
  intro m g m' g' _ hagree
  refine ⟨_, (θ_run Cert.MlaDwInIdeal.defs _ _).mono (fun r h c => ⟨(h c).1.trans (Cert.MlaDwInIdeal.Hand.final m c), (h c).2⟩) (Cert.MlaDwInIdeal.Value.run_blocks m g), ?_⟩
  refine (θ_run Cert.MlaDwInReferenceIdeal.defs _ _).mono (fun r h c => ⟨(h c).1.trans ?_, (h c).2⟩) (Cert.MlaDwInReferenceIdeal.Value.run (F := Ideal) m' g')
  refine (Cert.MlaDwInReferenceIdeal.Read.val_main_v6_eq _ _).trans ?_
  rw [(hagree c).1, (hagree c).2.2]
end Cert.Proof.MlaDwIn

namespace Cert.Proof.MlaDown
theorem frame_kernel : Cert.quiescent_MlaDown := fun m ρ _ => by
  rw [show (onTc (τ := Cert.MlaDown.τ) (Cert.MlaDown.main (F := Bits))) = onTc (τ := Cert.MlaDownIdeal.τ) (Cert.MlaDownIdeal.main (F := Bits)) from
    congrArg (onTc (τ := Cert.MlaDownIdeal.τ)) mlaDown_main, mlaDown_defs]
  exact Cert.MlaDownIdeal.Gen.frame (F := Bits) m ρ

theorem frame_ideal : Cert.quiescent_MlaDownIdeal := fun m ρ _ => Cert.MlaDownIdeal.Gen.frame (F := Ideal) m ρ

theorem frame_reference : Cert.quiescent_MlaDownReferenceIdeal := fun m ρ _ =>
  (θ_run Cert.MlaDownReferenceIdeal.defs _ _).mono (fun r h => ⟨fun c => (h c).2, sem_eq_zero_of_no_sems (by decide) r.2⟩)
    (Cert.MlaDownReferenceIdeal.Value.run (F := Ideal) m ρ)

theorem values : Cert.algebraic_MlaDownIdeal_MlaDownReferenceIdeal := by
  intro m g m' g' _ hagree
  refine ⟨_, (θ_run Cert.MlaDownIdeal.defs _ _).mono (fun r h c => ⟨(h c).1.trans (Cert.MlaDownIdeal.Hand.final m c), (h c).2⟩) (Cert.MlaDownIdeal.Value.run_blocks m g), ?_⟩
  refine (θ_run Cert.MlaDownReferenceIdeal.defs _ _).mono (fun r h c => ⟨(h c).1.trans ?_, (h c).2⟩) (Cert.MlaDownReferenceIdeal.Value.run (F := Ideal) m' g')
  refine (Cert.MlaDownReferenceIdeal.Read.val_main_v2_eq _ _).trans ?_
  rw [(hagree c).1, (hagree c).2]
end Cert.Proof.MlaDown

namespace Cert.Proof.MlaDcQ
theorem frame_kernel : Cert.quiescent_MlaDcQ := fun m ρ _ => by
  rw [show (onTc (τ := Cert.MlaDcQ.τ) (Cert.MlaDcQ.main (F := Bits))) = onTc (τ := Cert.MlaDcQIdeal.τ) (Cert.MlaDcQIdeal.main (F := Bits)) from
    congrArg (onTc (τ := Cert.MlaDcQIdeal.τ)) mlaDcQ_main, mlaDcQ_defs]
  exact Cert.MlaDcQIdeal.Gen.frame (F := Bits) m ρ

theorem frame_ideal : Cert.quiescent_MlaDcQIdeal := fun m ρ _ => Cert.MlaDcQIdeal.Gen.frame (F := Ideal) m ρ

theorem frame_reference : Cert.quiescent_MlaDcQReferenceIdeal := fun m ρ _ =>
  (θ_run Cert.MlaDcQReferenceIdeal.defs _ _).mono (fun r h => ⟨fun c => (h c).2, sem_eq_zero_of_no_sems (by decide) r.2⟩)
    (Cert.MlaDcQReferenceIdeal.Value.run (F := Ideal) m ρ)

theorem values : Cert.algebraic_MlaDcQIdeal_MlaDcQReferenceIdeal := by
  intro m g m' g' _ hagree
  refine ⟨_, (θ_run Cert.MlaDcQIdeal.defs _ _).mono (fun r h c => ⟨(h c).1.trans (Cert.MlaDcQIdeal.Hand.final m c), (h c).2⟩) (Cert.MlaDcQIdeal.Value.run_blocks m g), ?_⟩
  refine (θ_run Cert.MlaDcQReferenceIdeal.defs _ _).mono (fun r h c => ⟨(h c).1.trans ?_, (h c).2⟩) (Cert.MlaDcQReferenceIdeal.Value.run (F := Ideal) m' g')
  refine (Cert.MlaDcQReferenceIdeal.Read.val_main_v4_eq _ _).trans ?_
  rw [(hagree c).2.1, (hagree c).2.2]
end Cert.Proof.MlaDcQ

namespace Cert.Proof.MlaDwUq
theorem frame_kernel : Cert.quiescent_MlaDwUq := fun m ρ _ => by
  rw [show (onTc (τ := Cert.MlaDwUq.τ) (Cert.MlaDwUq.main (F := Bits))) = onTc (τ := Cert.MlaDwUqIdeal.τ) (Cert.MlaDwUqIdeal.main (F := Bits)) from
    congrArg (onTc (τ := Cert.MlaDwUqIdeal.τ)) mlaDwUq_main, mlaDwUq_defs]
  exact Cert.MlaDwUqIdeal.Gen.frame (F := Bits) m ρ

theorem frame_ideal : Cert.quiescent_MlaDwUqIdeal := fun m ρ _ => Cert.MlaDwUqIdeal.Gen.frame (F := Ideal) m ρ

theorem frame_reference : Cert.quiescent_MlaDwUqReferenceIdeal := fun m ρ _ =>
  (θ_run Cert.MlaDwUqReferenceIdeal.defs _ _).mono (fun r h => ⟨fun c => (h c).2, sem_eq_zero_of_no_sems (by decide) r.2⟩)
    (Cert.MlaDwUqReferenceIdeal.Value.run (F := Ideal) m ρ)

theorem values : Cert.algebraic_MlaDwUqIdeal_MlaDwUqReferenceIdeal := by
  intro m g m' g' _ hagree
  refine ⟨_, (θ_run Cert.MlaDwUqIdeal.defs _ _).mono (fun r h c => ⟨(h c).1.trans (Cert.MlaDwUqIdeal.Hand.final m c), (h c).2⟩) (Cert.MlaDwUqIdeal.Value.run_blocks m g), ?_⟩
  refine (θ_run Cert.MlaDwUqReferenceIdeal.defs _ _).mono (fun r h c => ⟨(h c).1.trans ?_, (h c).2⟩) (Cert.MlaDwUqReferenceIdeal.Value.run (F := Ideal) m' g')
  refine (Cert.MlaDwUqReferenceIdeal.Read.val_main_v8_eq _ _).trans ?_
  rw [(hagree c).1, (hagree c).2.2]
end Cert.Proof.MlaDwUq

namespace Cert.Proof.MlaUq
theorem frame_kernel : Cert.quiescent_MlaUq := fun m ρ _ => by
  rw [show (onTc (τ := Cert.MlaUq.τ) (Cert.MlaUq.main (F := Bits))) = onTc (τ := Cert.MlaUqIdeal.τ) (Cert.MlaUqIdeal.main (F := Bits)) from
    congrArg (onTc (τ := Cert.MlaUqIdeal.τ)) mlaUq_main, mlaUq_defs]
  exact Cert.MlaUqIdeal.Gen.frame (F := Bits) m ρ

theorem frame_ideal : Cert.quiescent_MlaUqIdeal := fun m ρ _ => Cert.MlaUqIdeal.Gen.frame (F := Ideal) m ρ

theorem frame_reference : Cert.quiescent_MlaUqReferenceIdeal := fun m ρ _ =>
  (θ_run Cert.MlaUqReferenceIdeal.defs _ _).mono (fun r h => ⟨fun c => (h c).2, sem_eq_zero_of_no_sems (by decide) r.2⟩)
    (Cert.MlaUqReferenceIdeal.Value.run (F := Ideal) m ρ)

theorem values : Cert.algebraic_MlaUqIdeal_MlaUqReferenceIdeal := by
  intro m g m' g' _ hagree
  refine ⟨_, (θ_run Cert.MlaUqIdeal.defs _ _).mono (fun r h c => ⟨(h c).1.trans (Cert.MlaUqIdeal.Hand.final m c), (h c).2⟩) (Cert.MlaUqIdeal.Value.run_blocks m g), ?_⟩
  refine (θ_run Cert.MlaUqReferenceIdeal.defs _ _).mono (fun r h c => ⟨(h c).1.trans ?_, (h c).2⟩) (Cert.MlaUqReferenceIdeal.Value.run (F := Ideal) m' g')
  refine (Cert.MlaUqReferenceIdeal.Read.val_main_v2_eq _ _).trans ?_
  rw [(hagree c).1, (hagree c).2]
end Cert.Proof.MlaUq

namespace Cert.Proof.MlaDcKv
theorem frame_kernel : Cert.quiescent_MlaDcKv := fun m ρ _ => by
  rw [show (onTc (τ := Cert.MlaDcKv.τ) (Cert.MlaDcKv.main (F := Bits))) = onTc (τ := Cert.MlaDcKvIdeal.τ) (Cert.MlaDcKvIdeal.main (F := Bits)) from
    congrArg (onTc (τ := Cert.MlaDcKvIdeal.τ)) mlaDcKv_main, mlaDcKv_defs]
  exact Cert.MlaDcKvIdeal.Gen.frame (F := Bits) m ρ

theorem frame_ideal : Cert.quiescent_MlaDcKvIdeal := fun m ρ _ => Cert.MlaDcKvIdeal.Gen.frame (F := Ideal) m ρ

theorem frame_reference : Cert.quiescent_MlaDcKvReferenceIdeal := fun m ρ _ =>
  (θ_run Cert.MlaDcKvReferenceIdeal.defs _ _).mono (fun r h => ⟨fun c => (h c).2, sem_eq_zero_of_no_sems (by decide) r.2⟩)
    (Cert.MlaDcKvReferenceIdeal.Value.run (F := Ideal) m ρ)

theorem values : Cert.algebraic_MlaDcKvIdeal_MlaDcKvReferenceIdeal := by
  intro m g m' g' _ hagree
  refine ⟨_, (θ_run Cert.MlaDcKvIdeal.defs _ _).mono (fun r h c => ⟨(h c).1.trans (Cert.MlaDcKvIdeal.Hand.final m c), (h c).2⟩) (Cert.MlaDcKvIdeal.Value.run_blocks m g), ?_⟩
  refine (θ_run Cert.MlaDcKvReferenceIdeal.defs _ _).mono (fun r h c => ⟨(h c).1.trans ?_, (h c).2⟩) (Cert.MlaDcKvReferenceIdeal.Value.run (F := Ideal) m' g')
  refine (Cert.MlaDcKvReferenceIdeal.Read.val_main_v4_eq _ _).trans ?_
  rw [(hagree c).2.1, (hagree c).2.2]
end Cert.Proof.MlaDcKv

namespace Cert.Proof.MlaDwUkv
theorem frame_kernel : Cert.quiescent_MlaDwUkv := fun m ρ _ => by
  rw [show (onTc (τ := Cert.MlaDwUkv.τ) (Cert.MlaDwUkv.main (F := Bits))) = onTc (τ := Cert.MlaDwUkvIdeal.τ) (Cert.MlaDwUkvIdeal.main (F := Bits)) from
    congrArg (onTc (τ := Cert.MlaDwUkvIdeal.τ)) mlaDwUkv_main, mlaDwUkv_defs]
  exact Cert.MlaDwUkvIdeal.Gen.frame (F := Bits) m ρ

theorem frame_ideal : Cert.quiescent_MlaDwUkvIdeal := fun m ρ _ => Cert.MlaDwUkvIdeal.Gen.frame (F := Ideal) m ρ

theorem frame_reference : Cert.quiescent_MlaDwUkvReferenceIdeal := fun m ρ _ =>
  (θ_run Cert.MlaDwUkvReferenceIdeal.defs _ _).mono (fun r h => ⟨fun c => (h c).2, sem_eq_zero_of_no_sems (by decide) r.2⟩)
    (Cert.MlaDwUkvReferenceIdeal.Value.run (F := Ideal) m ρ)

theorem values : Cert.algebraic_MlaDwUkvIdeal_MlaDwUkvReferenceIdeal := by
  intro m g m' g' _ hagree
  refine ⟨_, (θ_run Cert.MlaDwUkvIdeal.defs _ _).mono (fun r h c => ⟨(h c).1.trans (Cert.MlaDwUkvIdeal.Hand.final m c), (h c).2⟩) (Cert.MlaDwUkvIdeal.Value.run_blocks m g), ?_⟩
  refine (θ_run Cert.MlaDwUkvReferenceIdeal.defs _ _).mono (fun r h c => ⟨(h c).1.trans ?_, (h c).2⟩) (Cert.MlaDwUkvReferenceIdeal.Value.run (F := Ideal) m' g')
  refine (Cert.MlaDwUkvReferenceIdeal.Read.val_main_v8_eq _ _).trans ?_
  rw [(hagree c).1, (hagree c).2.2]
end Cert.Proof.MlaDwUkv

namespace Cert.Proof.MlaUkv
theorem frame_kernel : Cert.quiescent_MlaUkv := fun m ρ _ => by
  rw [show (onTc (τ := Cert.MlaUkv.τ) (Cert.MlaUkv.main (F := Bits))) = onTc (τ := Cert.MlaUkvIdeal.τ) (Cert.MlaUkvIdeal.main (F := Bits)) from
    congrArg (onTc (τ := Cert.MlaUkvIdeal.τ)) mlaUkv_main, mlaUkv_defs]
  exact Cert.MlaUkvIdeal.Gen.frame (F := Bits) m ρ

theorem frame_ideal : Cert.quiescent_MlaUkvIdeal := fun m ρ _ => Cert.MlaUkvIdeal.Gen.frame (F := Ideal) m ρ

theorem frame_reference : Cert.quiescent_MlaUkvReferenceIdeal := fun m ρ _ =>
  (θ_run Cert.MlaUkvReferenceIdeal.defs _ _).mono (fun r h => ⟨fun c => (h c).2, sem_eq_zero_of_no_sems (by decide) r.2⟩)
    (Cert.MlaUkvReferenceIdeal.Value.run (F := Ideal) m ρ)

theorem values : Cert.algebraic_MlaUkvIdeal_MlaUkvReferenceIdeal := by
  intro m g m' g' _ hagree
  refine ⟨_, (θ_run Cert.MlaUkvIdeal.defs _ _).mono (fun r h c => ⟨(h c).1.trans (Cert.MlaUkvIdeal.Hand.final m c), (h c).2⟩) (Cert.MlaUkvIdeal.Value.run_blocks m g), ?_⟩
  refine (θ_run Cert.MlaUkvReferenceIdeal.defs _ _).mono (fun r h c => ⟨(h c).1.trans ?_, (h c).2⟩) (Cert.MlaUkvReferenceIdeal.Value.run (F := Ideal) m' g')
  refine (Cert.MlaUkvReferenceIdeal.Read.val_main_v2_eq _ _).trans ?_
  rw [(hagree c).1, (hagree c).2]
end Cert.Proof.MlaUkv
end
-- ==== Proof.SameStep.lean ====
/-
  Of the AdamW steps of the small parameters, the printed programs and their idealizations have one text; each part of it is equal to the other's.
-/
module
public import proofs.«01_k».proof.Proof.SameOne
public import proofs.«01_k».proof.Proof.Gen.StepNorm
public import proofs.«01_k».proof.Proof.Gen.StepNormIdeal
public import proofs.«01_k».proof.Proof.Gen.StepBias
public import proofs.«01_k».proof.Proof.Gen.StepBiasIdeal
public import proofs.«01_k».proof.Proof.Gen.StepGain
public import proofs.«01_k».proof.Proof.Gen.StepGainIdeal
public import proofs.«01_k».proof.Proof.Gen.StepRank
public import proofs.«01_k».proof.Proof.Gen.StepRankIdeal
@[expose] public section
noncomputable section
namespace Cert.Proof
open Idealize.ShloMosaic Idealize.SL.Sem
variable {F : FTy → Type} [FloatOps F]
set_option maxHeartbeats 4000000

theorem stepNorm_defs : (Cert.StepNorm.defs (F := F)) = (Cert.StepNormIdeal.defs (F := F)) :=
  congrArg (fun D => Pipeline.defs Cert.StepNormIdeal.pcfgs (Defs.onTc D)) (eq_of_zero fun _ => rfl)
theorem stepNorm_main : (Cert.StepNorm.main (F := F)) = (Cert.StepNormIdeal.main (F := F)) := rfl

theorem stepBias_defs : (Cert.StepBias.defs (F := F)) = (Cert.StepBiasIdeal.defs (F := F)) :=
  congrArg (fun D => Pipeline.defs Cert.StepBiasIdeal.pcfgs (Defs.onTc D)) (eq_of_zero fun _ => rfl)
theorem stepBias_main : (Cert.StepBias.main (F := F)) = (Cert.StepBiasIdeal.main (F := F)) := rfl

theorem stepGain_defs : (Cert.StepGain.defs (F := F)) = (Cert.StepGainIdeal.defs (F := F)) :=
  congrArg (fun D => Pipeline.defs Cert.StepGainIdeal.pcfgs (Defs.onTc D)) (eq_of_zero fun _ => rfl)
theorem stepGain_main : (Cert.StepGain.main (F := F)) = (Cert.StepGainIdeal.main (F := F)) := rfl

theorem stepRank_defs : (Cert.StepRank.defs (F := F)) = (Cert.StepRankIdeal.defs (F := F)) :=
  congrArg (fun D => Pipeline.defs Cert.StepRankIdeal.pcfgs (Defs.onTc D)) (eq_of_zero fun _ => rfl)
theorem stepRank_main : (Cert.StepRank.main (F := F)) = (Cert.StepRankIdeal.main (F := F)) := rfl
end Cert.Proof
end
-- ==== Proof.ValStep.lean ====
/-
  The AdamW step of the norms and of the gains of the latent attention.
-/
module
public import proofs.«01_k».proof.Proof.Gen.StepNormIdeal.Value
public import proofs.«01_k».proof.Proof.Gen.StepNormReferenceIdeal.Run
public import proofs.«01_k».proof.Proof.Gen.StepNormReferenceIdeal.Read
public import proofs.«01_k».proof.Proof.Gen.StepRankIdeal.Value
public import proofs.«01_k».proof.Proof.Gen.StepRankReferenceIdeal.Run
public import proofs.«01_k».proof.Proof.Gen.StepRankReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.StepNormIdeal.Hand
open Cert.StepNormIdeal Cert.StepNormIdeal.Gen Cert.StepNormReferenceIdeal.Read
variable (m : (ℓ : Loc nD τ sig) → Buf (Elt Ideal) ℓ)

/-- The new mean of the gradient, of the norms before the mixers and the MLPs. -/
theorem final_mean (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, val_main_v0, val_main_v1, val_main_v2, val_main_v3, val_main_v4, val_main_cst, val_main_cst_0]
  blk_point [iblk, V] <;> rfl

/-- The new mean of the gradient's square. -/
theorem final_square (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, val_main_v5, val_main_v6, val_main_v7, val_main_v8, val_main_v9, val_main_v10, val_main_cst_1, val_main_cst_2]
  blk_point [iblk, V] <;> rfl

/-- The step. -/
theorem final_step (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v0, val_main_v1, val_main_v2, val_main_v3, val_main_v4, val_main_v5, val_main_v6, val_main_v7,
    val_main_v8, val_main_v9, val_main_v10, val_main_v11, val_main_v12, val_main_v13, val_main_v14, val_main_v15, val_main_v16, val_main_v17,
    val_main_v18, val_main_v19, val_main_v20, val_main_v21, val_main_v22, val_main_v23, val_main_cst, val_main_cst_0, val_main_cst_1,
    val_main_cst_2, val_main_cst_3, val_main_cst_4, val_main_cst_5, val_main_cst_6, val_main_cst_7]
  blk_point [iblk, V] <;> rfl
end Cert.StepNormIdeal.Hand

namespace Cert.StepRankIdeal.Hand
open Cert.StepRankIdeal Cert.StepRankIdeal.Gen Cert.StepRankReferenceIdeal.Read
variable (m : (ℓ : Loc nD τ sig) → Buf (Elt Ideal) ℓ)

/-- The new mean of the gradient, of the gains of the ranks. -/
theorem final_mean (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, val_main_v0, val_main_v1, val_main_v2, val_main_v3, val_main_v4, val_main_cst, val_main_cst_0]
  blk_point [iblk, V] <;> rfl

/-- The new mean of the gradient's square. -/
theorem final_square (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, val_main_v5, val_main_v6, val_main_v7, val_main_v8, val_main_v9, val_main_v10, val_main_cst_1, val_main_cst_2]
  blk_point [iblk, V] <;> rfl

/-- The step. -/
theorem final_step (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v0, val_main_v1, val_main_v2, val_main_v3, val_main_v4, val_main_v5, val_main_v6, val_main_v7,
    val_main_v8, val_main_v9, val_main_v10, val_main_v11, val_main_v12, val_main_v13, val_main_v14, val_main_v15, val_main_v16, val_main_v17,
    val_main_v18, val_main_v19, val_main_v20, val_main_v21, val_main_v22, val_main_v23, val_main_cst, val_main_cst_0, val_main_cst_1,
    val_main_cst_2, val_main_cst_3, val_main_cst_4, val_main_cst_5, val_main_cst_6, val_main_cst_7]
  blk_point [iblk, V] <;> rfl
end Cert.StepRankIdeal.Hand
end
-- ==== Proof.ValStepFox.lean ====
/-
  The AdamW step of the bias and of the gains of the forgetting attention.
-/
module
public import proofs.«01_k».proof.Proof.Gen.StepBiasIdeal.Value
public import proofs.«01_k».proof.Proof.Gen.StepBiasReferenceIdeal.Run
public import proofs.«01_k».proof.Proof.Gen.StepBiasReferenceIdeal.Read
public import proofs.«01_k».proof.Proof.Gen.StepGainIdeal.Value
public import proofs.«01_k».proof.Proof.Gen.StepGainReferenceIdeal.Run
public import proofs.«01_k».proof.Proof.Gen.StepGainReferenceIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.StepBiasIdeal.Hand
open Cert.StepBiasIdeal Cert.StepBiasIdeal.Gen Cert.StepBiasReferenceIdeal.Read
variable (m : (ℓ : Loc nD τ sig) → Buf (Elt Ideal) ℓ)

/-- The new mean of the gradient, of the forgetting attention's bias. -/
theorem final_mean (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, val_main_v0, val_main_v1, val_main_v2, val_main_v3, val_main_v4, val_main_cst, val_main_cst_0]
  blk_point [iblk, V] <;> rfl

/-- The new mean of the gradient's square. -/
theorem final_square (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, val_main_v5, val_main_v6, val_main_v7, val_main_v8, val_main_v9, val_main_v10, val_main_cst_1, val_main_cst_2]
  blk_point [iblk, V] <;> rfl

/-- The step. -/
theorem final_step (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v0, val_main_v1, val_main_v2, val_main_v3, val_main_v4, val_main_v5, val_main_v6, val_main_v7,
    val_main_v8, val_main_v9, val_main_v10, val_main_v11, val_main_v12, val_main_v13, val_main_v14, val_main_v15, val_main_v16, val_main_v17,
    val_main_v18, val_main_v19, val_main_v20, val_main_v21, val_main_v22, val_main_v23, val_main_cst, val_main_cst_0, val_main_cst_1,
    val_main_cst_2, val_main_cst_3, val_main_cst_4, val_main_cst_5, val_main_cst_6, val_main_cst_7]
  blk_point [iblk, V] <;> rfl
end Cert.StepBiasIdeal.Hand

namespace Cert.StepGainIdeal.Hand
open Cert.StepGainIdeal Cert.StepGainIdeal.Gen Cert.StepGainReferenceIdeal.Read
variable (m : (ℓ : Loc nD τ sig) → Buf (Elt Ideal) ℓ)

/-- The new mean of the gradient, of the forgetting attention's gains. -/
theorem final_mean (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, val_main_v0, val_main_v1, val_main_v2, val_main_v3, val_main_v4, val_main_cst, val_main_cst_0]
  blk_point [iblk, V] <;> rfl

/-- The new mean of the gradient's square. -/
theorem final_square (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, val_main_v5, val_main_v6, val_main_v7, val_main_v8, val_main_v9, val_main_v10, val_main_cst_1, val_main_cst_2]
  blk_point [iblk, V] <;> rfl

/-- The step. -/
theorem final_step (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_v0, val_main_v1, val_main_v2, val_main_v3, val_main_v4, val_main_v5, val_main_v6, val_main_v7,
    val_main_v8, val_main_v9, val_main_v10, val_main_v11, val_main_v12, val_main_v13, val_main_v14, val_main_v15, val_main_v16, val_main_v17,
    val_main_v18, val_main_v19, val_main_v20, val_main_v21, val_main_v22, val_main_v23, val_main_cst, val_main_cst_0, val_main_cst_1,
    val_main_cst_2, val_main_cst_3, val_main_cst_4, val_main_cst_5, val_main_cst_6, val_main_cst_7]
  blk_point [iblk, V] <;> rfl
end Cert.StepGainIdeal.Hand
end
-- ==== Proof.ClaimStep.lean ====
/-
  The claims of the AdamW steps of the small parameters: each program and its idealization leave their arguments as they were, and so does the
  reference; the idealization and the reference end with equal results.
-/
module
public import proofs.«01_k».proof.Proof.SameStep
public import proofs.«01_k».proof.Proof.ValStep
public import proofs.«01_k».proof.Proof.ValStepFox
@[expose] public section
set_option maxRecDepth 16384
noncomputable section
open Idealize.ShloMosaic Idealize.ShloMosaic.TcCoe Idealize.SL.Sem

namespace Cert.Proof.StepNorm
theorem frame_kernel : Cert.quiescent_StepNorm := fun m ρ _ => by
  rw [show (onTc (τ := Cert.StepNorm.τ) (Cert.StepNorm.main (F := Bits))) = onTc (τ := Cert.StepNormIdeal.τ) (Cert.StepNormIdeal.main (F := Bits)) from
    congrArg (onTc (τ := Cert.StepNormIdeal.τ)) stepNorm_main, stepNorm_defs]
  exact Cert.StepNormIdeal.Gen.frame (F := Bits) m ρ

theorem frame_ideal : Cert.quiescent_StepNormIdeal := fun m ρ _ => Cert.StepNormIdeal.Gen.frame (F := Ideal) m ρ

theorem frame_reference : Cert.quiescent_StepNormReferenceIdeal := fun m ρ _ =>
  (θ_run Cert.StepNormReferenceIdeal.defs _ _).mono (fun r h => ⟨fun c => (h c).2.2.2, sem_eq_zero_of_no_sems (by decide) r.2⟩)
    (Cert.StepNormReferenceIdeal.Value.run (F := Ideal) m ρ)

theorem values : Cert.algebraic_StepNormIdeal_StepNormReferenceIdeal := by
  intro m g m' g' _ hagree
  refine ⟨_, _, _, (θ_run Cert.StepNormIdeal.defs _ _).mono (fun r h c => ⟨(h c).1.trans (Cert.StepNormIdeal.Hand.final_step m c), (h c).2.1.trans (Cert.StepNormIdeal.Hand.final_mean m c), (h c).2.2.1.trans (Cert.StepNormIdeal.Hand.final_square m c), (h c).2.2.2⟩) (Cert.StepNormIdeal.Value.run_blocks m g), ?_⟩
  refine (θ_run Cert.StepNormReferenceIdeal.defs _ _).mono (fun r h c => ⟨(h c).1.trans ?_, (h c).2.1.trans ?_, (h c).2.2.1.trans ?_, (h c).2.2.2⟩) (Cert.StepNormReferenceIdeal.Value.run (F := Ideal) m' g')
  · refine (Cert.StepNormReferenceIdeal.Read.val_main_v23_eq _ _ _ _).trans ?_
    rw [(hagree c).1, (hagree c).2.1, (hagree c).2.2.1, (hagree c).2.2.2]
  · refine (Cert.StepNormReferenceIdeal.Read.val_main_v4_eq _ _).trans ?_
    rw [(hagree c).2.1, (hagree c).2.2.1]
  · refine (Cert.StepNormReferenceIdeal.Read.val_main_v10_eq _ _).trans ?_
    rw [(hagree c).2.1, (hagree c).2.2.2]
end Cert.Proof.StepNorm

namespace Cert.Proof.StepBias
theorem frame_kernel : Cert.quiescent_StepBias := fun m ρ _ => by
  rw [show (onTc (τ := Cert.StepBias.τ) (Cert.StepBias.main (F := Bits))) = onTc (τ := Cert.StepBiasIdeal.τ) (Cert.StepBiasIdeal.main (F := Bits)) from
    congrArg (onTc (τ := Cert.StepBiasIdeal.τ)) stepBias_main, stepBias_defs]
  exact Cert.StepBiasIdeal.Gen.frame (F := Bits) m ρ

theorem frame_ideal : Cert.quiescent_StepBiasIdeal := fun m ρ _ => Cert.StepBiasIdeal.Gen.frame (F := Ideal) m ρ

theorem frame_reference : Cert.quiescent_StepBiasReferenceIdeal := fun m ρ _ =>
  (θ_run Cert.StepBiasReferenceIdeal.defs _ _).mono (fun r h => ⟨fun c => (h c).2.2.2, sem_eq_zero_of_no_sems (by decide) r.2⟩)
    (Cert.StepBiasReferenceIdeal.Value.run (F := Ideal) m ρ)

theorem values : Cert.algebraic_StepBiasIdeal_StepBiasReferenceIdeal := by
  intro m g m' g' _ hagree
  refine ⟨_, _, _, (θ_run Cert.StepBiasIdeal.defs _ _).mono (fun r h c => ⟨(h c).1.trans (Cert.StepBiasIdeal.Hand.final_step m c), (h c).2.1.trans (Cert.StepBiasIdeal.Hand.final_mean m c), (h c).2.2.1.trans (Cert.StepBiasIdeal.Hand.final_square m c), (h c).2.2.2⟩) (Cert.StepBiasIdeal.Value.run_blocks m g), ?_⟩
  refine (θ_run Cert.StepBiasReferenceIdeal.defs _ _).mono (fun r h c => ⟨(h c).1.trans ?_, (h c).2.1.trans ?_, (h c).2.2.1.trans ?_, (h c).2.2.2⟩) (Cert.StepBiasReferenceIdeal.Value.run (F := Ideal) m' g')
  · refine (Cert.StepBiasReferenceIdeal.Read.val_main_v23_eq _ _ _ _).trans ?_
    rw [(hagree c).1, (hagree c).2.1, (hagree c).2.2.1, (hagree c).2.2.2]
  · refine (Cert.StepBiasReferenceIdeal.Read.val_main_v4_eq _ _).trans ?_
    rw [(hagree c).2.1, (hagree c).2.2.1]
  · refine (Cert.StepBiasReferenceIdeal.Read.val_main_v10_eq _ _).trans ?_
    rw [(hagree c).2.1, (hagree c).2.2.2]
end Cert.Proof.StepBias

namespace Cert.Proof.StepGain
theorem frame_kernel : Cert.quiescent_StepGain := fun m ρ _ => by
  rw [show (onTc (τ := Cert.StepGain.τ) (Cert.StepGain.main (F := Bits))) = onTc (τ := Cert.StepGainIdeal.τ) (Cert.StepGainIdeal.main (F := Bits)) from
    congrArg (onTc (τ := Cert.StepGainIdeal.τ)) stepGain_main, stepGain_defs]
  exact Cert.StepGainIdeal.Gen.frame (F := Bits) m ρ

theorem frame_ideal : Cert.quiescent_StepGainIdeal := fun m ρ _ => Cert.StepGainIdeal.Gen.frame (F := Ideal) m ρ

theorem frame_reference : Cert.quiescent_StepGainReferenceIdeal := fun m ρ _ =>
  (θ_run Cert.StepGainReferenceIdeal.defs _ _).mono (fun r h => ⟨fun c => (h c).2.2.2, sem_eq_zero_of_no_sems (by decide) r.2⟩)
    (Cert.StepGainReferenceIdeal.Value.run (F := Ideal) m ρ)

theorem values : Cert.algebraic_StepGainIdeal_StepGainReferenceIdeal := by
  intro m g m' g' _ hagree
  refine ⟨_, _, _, (θ_run Cert.StepGainIdeal.defs _ _).mono (fun r h c => ⟨(h c).1.trans (Cert.StepGainIdeal.Hand.final_step m c), (h c).2.1.trans (Cert.StepGainIdeal.Hand.final_mean m c), (h c).2.2.1.trans (Cert.StepGainIdeal.Hand.final_square m c), (h c).2.2.2⟩) (Cert.StepGainIdeal.Value.run_blocks m g), ?_⟩
  refine (θ_run Cert.StepGainReferenceIdeal.defs _ _).mono (fun r h c => ⟨(h c).1.trans ?_, (h c).2.1.trans ?_, (h c).2.2.1.trans ?_, (h c).2.2.2⟩) (Cert.StepGainReferenceIdeal.Value.run (F := Ideal) m' g')
  · refine (Cert.StepGainReferenceIdeal.Read.val_main_v23_eq _ _ _ _).trans ?_
    rw [(hagree c).1, (hagree c).2.1, (hagree c).2.2.1, (hagree c).2.2.2]
  · refine (Cert.StepGainReferenceIdeal.Read.val_main_v4_eq _ _).trans ?_
    rw [(hagree c).2.1, (hagree c).2.2.1]
  · refine (Cert.StepGainReferenceIdeal.Read.val_main_v10_eq _ _).trans ?_
    rw [(hagree c).2.1, (hagree c).2.2.2]
end Cert.Proof.StepGain

namespace Cert.Proof.StepRank
theorem frame_kernel : Cert.quiescent_StepRank := fun m ρ _ => by
  rw [show (onTc (τ := Cert.StepRank.τ) (Cert.StepRank.main (F := Bits))) = onTc (τ := Cert.StepRankIdeal.τ) (Cert.StepRankIdeal.main (F := Bits)) from
    congrArg (onTc (τ := Cert.StepRankIdeal.τ)) stepRank_main, stepRank_defs]
  exact Cert.StepRankIdeal.Gen.frame (F := Bits) m ρ

theorem frame_ideal : Cert.quiescent_StepRankIdeal := fun m ρ _ => Cert.StepRankIdeal.Gen.frame (F := Ideal) m ρ

theorem frame_reference : Cert.quiescent_StepRankReferenceIdeal := fun m ρ _ =>
  (θ_run Cert.StepRankReferenceIdeal.defs _ _).mono (fun r h => ⟨fun c => (h c).2.2.2, sem_eq_zero_of_no_sems (by decide) r.2⟩)
    (Cert.StepRankReferenceIdeal.Value.run (F := Ideal) m ρ)

theorem values : Cert.algebraic_StepRankIdeal_StepRankReferenceIdeal := by
  intro m g m' g' _ hagree
  refine ⟨_, _, _, (θ_run Cert.StepRankIdeal.defs _ _).mono (fun r h c => ⟨(h c).1.trans (Cert.StepRankIdeal.Hand.final_step m c), (h c).2.1.trans (Cert.StepRankIdeal.Hand.final_mean m c), (h c).2.2.1.trans (Cert.StepRankIdeal.Hand.final_square m c), (h c).2.2.2⟩) (Cert.StepRankIdeal.Value.run_blocks m g), ?_⟩
  refine (θ_run Cert.StepRankReferenceIdeal.defs _ _).mono (fun r h c => ⟨(h c).1.trans ?_, (h c).2.1.trans ?_, (h c).2.2.1.trans ?_, (h c).2.2.2⟩) (Cert.StepRankReferenceIdeal.Value.run (F := Ideal) m' g')
  · refine (Cert.StepRankReferenceIdeal.Read.val_main_v23_eq _ _ _ _).trans ?_
    rw [(hagree c).1, (hagree c).2.1, (hagree c).2.2.1, (hagree c).2.2.2]
  · refine (Cert.StepRankReferenceIdeal.Read.val_main_v4_eq _ _).trans ?_
    rw [(hagree c).2.1, (hagree c).2.2.1]
  · refine (Cert.StepRankReferenceIdeal.Read.val_main_v10_eq _ _).trans ?_
    rw [(hagree c).2.1, (hagree c).2.2.2]
end Cert.Proof.StepRank
end
-- ==== Proof.SameHalves.lean ====
/-
  Of the AdamW steps of the weights of one layer, the printed programs and their idealizations have one text; each part of it is equal to the
  other's.
-/
module
public import proofs.«01_k».proof.Proof.SameOne
public import proofs.«01_k».proof.Proof.Gen.StepOut
public import proofs.«01_k».proof.Proof.Gen.StepOutIdeal
public import proofs.«01_k».proof.Proof.Gen.StepIn
public import proofs.«01_k».proof.Proof.Gen.StepInIdeal
public import proofs.«01_k».proof.Proof.Gen.StepUq
public import proofs.«01_k».proof.Proof.Gen.StepUqIdeal
public import proofs.«01_k».proof.Proof.Gen.StepUkv
public import proofs.«01_k».proof.Proof.Gen.StepUkvIdeal
public import proofs.«01_k».proof.Proof.Gen.StepFox
public import proofs.«01_k».proof.Proof.Gen.StepFoxIdeal
@[expose] public section
noncomputable section
namespace Cert.Proof
open Idealize.ShloMosaic Idealize.SL.Sem
variable {F : FTy → Type} [FloatOps F]
set_option maxHeartbeats 4000000

theorem stepOut_defs : (Cert.StepOut.defs (F := F)) = (Cert.StepOutIdeal.defs (F := F)) :=
  congrArg (fun D => Pipeline.defs Cert.StepOutIdeal.pcfgs (Defs.onTc D)) (eq_of_zero fun _ => rfl)
theorem stepOut_main : (Cert.StepOut.main (F := F)) = (Cert.StepOutIdeal.main (F := F)) := rfl

theorem stepIn_defs : (Cert.StepIn.defs (F := F)) = (Cert.StepInIdeal.defs (F := F)) :=
  congrArg (fun D => Pipeline.defs Cert.StepInIdeal.pcfgs (Defs.onTc D)) (eq_of_zero fun _ => rfl)
theorem stepIn_main : (Cert.StepIn.main (F := F)) = (Cert.StepInIdeal.main (F := F)) := rfl

theorem stepUq_defs : (Cert.StepUq.defs (F := F)) = (Cert.StepUqIdeal.defs (F := F)) :=
  congrArg (fun D => Pipeline.defs Cert.StepUqIdeal.pcfgs (Defs.onTc D)) (eq_of_zero fun _ => rfl)
theorem stepUq_main : (Cert.StepUq.main (F := F)) = (Cert.StepUqIdeal.main (F := F)) := rfl

theorem stepUkv_defs : (Cert.StepUkv.defs (F := F)) = (Cert.StepUkvIdeal.defs (F := F)) :=
  congrArg (fun D => Pipeline.defs Cert.StepUkvIdeal.pcfgs (Defs.onTc D)) (eq_of_zero fun _ => rfl)
theorem stepUkv_main : (Cert.StepUkv.main (F := F)) = (Cert.StepUkvIdeal.main (F := F)) := rfl

theorem stepFox_defs : (Cert.StepFox.defs (F := F)) = (Cert.StepFoxIdeal.defs (F := F)) :=
  congrArg (fun D => Pipeline.defs Cert.StepFoxIdeal.pcfgs (Defs.onTc D)) (eq_of_zero fun _ => rfl)
theorem stepFox_main : (Cert.StepFox.main (F := F)) = (Cert.StepFoxIdeal.main (F := F)) := rfl
end Cert.Proof
end
-- ==== Proof.Choice.lean ====
/-
  The two facts about words that the choice between the halves of a gradient needs.
-/
module
public import Idealize.ShloMosaic.Lib.WordCmp
public import Idealize.ShloMosaic.Lib.Pipeline.ValueKit
@[expose] public section
namespace Cert.Proof
open Idealize.ShloMosaic

/-- A choice by whether two words are equal. -/
theorem select_eq {α : Type} (a b : BitVec 32) (x y : α) : Scalar.select (Scalar.cmpi .eq a b) x y = if a = b then x else y := by
  refine (congrArg (Scalar.select · x y) (WordCmp.cmpi_eq_eq a b)).trans ((WordCmp.select_ofBool _ x y).trans ?_)
  by_cases h : a = b <;> simp [h]

theorem select_eq' {α : Type} (a b : BitVec 32) (x y : α) : Scalar.select (IntOp.cmpi .eq a b) x y = if a = b then x else y := select_eq a b x y

/-- A choice by which of two halves is the device's own, at step `k` of two, is the choice of that half's rows. -/
theorem choose {ι α : Type} {w : BitVec 32} {k : ℕ} {P : Prop} [Decidable P] (hp : P → k = 0) (hn : ¬ P → k = 1) {x y : ι → α} {i : ι} {f g : P → α} {f' g' : ¬ P → α}
    (hx : BitVec.ofNat 32 k = w → (∀ h, x i = f h) ∧ ∀ h, x i = f' h) (hy : ¬ BitVec.ofNat 32 k = w → (∀ h, y i = g h) ∧ ∀ h, y i = g' h) :
    (if BitVec.ofNat 32 k = w then x else y) i = if h : P then (if w = 0#32 then f h else g h) else (if w = 1#32 then f' h else g' h) := by
  by_cases h : P
  · rw [dif_pos h]
    have e : BitVec.ofNat 32 k = 0#32 := by rw [hp h]
    by_cases hw : w = 0#32
    · rw [if_pos (e.trans hw.symm), if_pos hw]; exact (hx (e.trans hw.symm)).1 h
    · have n : ¬ BitVec.ofNat 32 k = w := fun q => hw (q.symm.trans e)
      rw [if_neg n, if_neg hw]; exact (hy n).1 h
  · rw [dif_neg h]
    have e : BitVec.ofNat 32 k = 1#32 := by rw [hn h]
    by_cases hw : w = 1#32
    · rw [if_pos (e.trans hw.symm), if_pos hw]; exact (hx (e.trans hw.symm)).2 h
    · have n : ¬ BitVec.ofNat 32 k = w := fun q => hw (q.symm.trans e)
      rw [if_neg n, if_neg hw]; exact (hy n).2 h
/-- A choice by whether an index lies in a layer. -/
theorem keep {α : Type} (k l : ℕ) (x y : α) (hk : k < 4) (hl : l < 4) : (if k / 1 = l then x else y) = Scalar.select (IntOp.cmpi .eq (BitVec.ofNat 32 k) (BitVec.ofNat 32 l)) x y := by
  rw [select_eq', Nat.div_one]
  refine if_congr ⟨fun h => h ▸ rfl, fun h => ?_⟩ rfl rfl
  have e := congrArg BitVec.toNat h
  simp only [BitVec.toNat_ofNat] at e
  omega
end Cert.Proof
-- ==== Proof.ValHalves.lean ====
/-
  What the AdamW step of the output weights and of Fox's input weights writes: the gradient that it puts together from the
  device's own half and the other, the step, and the two new means.
-/
module
public import proofs.«01_k».proof.Proof.Choice
public import proofs.«01_k».proof.Proof.Gen.StepOutIdeal.Frame
public import proofs.«01_k».proof.Proof.Gen.StepOutReferenceIdeal.Run
public import proofs.«01_k».proof.Proof.Gen.StepOutReferenceIdeal.Read
public import proofs.«01_k».proof.Proof.Gen.StepFoxIdeal.Frame
public import proofs.«01_k».proof.Proof.Gen.StepFoxReferenceIdeal.Run
public import proofs.«01_k».proof.Proof.Gen.StepFoxReferenceIdeal.Read
@[expose] public section
set_option maxRecDepth 16384
noncomputable section
open Idealize.ShloMosaic Idealize.ShloMosaic.TcCoe Idealize.SL.Sem
open Idealize.ShloMosaic.Pipeline (Dat)

namespace Cert.StepOutIdeal.Hand
open Cert.StepOutIdeal Cert.StepOutIdeal.Gen Cert.StepOutReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x2048.size a ≤ S256x2048.size a := by decide
  have h0 : ∀ a, (![0, 0] a + 1) * S256x2048.size a ≤ S256x2048.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover each result. -/
theorem covers (a : (pcfg0 (F := Ideal)).Adm) : ((cfg0 a).win 5).Covers ∧ ((cfg0 a).win 6).Covers ∧ ((cfg0 a).win 7).Covers ∧ ((cfg0 a).win 8).Covers := by
  have h : ((cfg0 (F := Ideal) ⟨zeros, ok _⟩).win 5).Covers := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![0, t.val, 0] ∧ ((grid0.coords t) 0).val = t.val ∧ ((grid0.coords t) 1).val = t.val % 1 ∧ t.val < 2 := by decide +kernel

/-- The blocks of the weight, the two moments and the four results at a step. -/
theorem idx (hO : Ok m) (t : Fin (cfgM m hO).N) : ((cfgM m hO).win 0).index t = ![0, t.val, 0] ∧ ((cfgM m hO).win 1).index t = ![0, t.val, 0] ∧ ((cfgM m hO).win 2).index t = ![0, t.val, 0]
    ∧ ((cfgM m hO).win 5).index t = ![0, t.val, 0] ∧ ((cfgM m hO).win 6).index t = ![0, t.val, 0] ∧ ((cfgM m hO).win 7).index t = ![0, t.val, 0] ∧ ((cfgM m hO).win 8).index t = ![0, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val) = word (tbl m) then t.val % 1 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val) = word (tbl m) then 0 else t.val % 1, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val) = word (tbl m)) (p : Fin 256) (q : Fin 2048) (k : S256x2048.Idx)
    (h0 : (k 0).val = t.val % 1 * 256 + p.val) (h1 : (k 1).val = q.val) : iblk m hO c 3 t (ix2 p q) = m ((c : Thread nD τ).loc main_arg3) k := by
  have hi := idx_mine m hO t
  rw [if_pos h] at hi
  blk_point [iblk, V, hi]

/-- The loaded block of the other half, at a step in it. -/
theorem other_at (hO : Ok m) (c : Dev nD) (t : Fin (cfgM m hO).N) (h : ¬ BitVec.ofNat 32 (t.val) = word (tbl m)) (p : Fin 256) (q : Fin 2048) (k : S256x2048.Idx)
    (h0 : (k 0).val = t.val % 1 * 256 + p.val) (h1 : (k 1).val = q.val) : iblk m hO c 4 t (ix2 p q) = m ((c : Thread nD τ).loc main_arg4) k := by
  have hi := idx_other m hO t
  rw [if_neg h] at hi
  blk_point [iblk, V, hi]

/-- The block of the gradient that a step chooses is the block of the two halves put together. -/
theorem gradient_at (hO : Ok m) (c : Dev nD) (t : Fin (cfgM m hO).N) (p : Fin 256) (q : Fin 2048) (j : S1x512x2048.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val) (P := (j 1).val < 256) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 256, by omega⟩ (j 2))) (g' := fun h => m ((c : Thread nD τ).loc main_arg4) (ix2 ⟨(j 1).val - 256, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 256 = _ by omega) h2⟩
  · exact ⟨fun h => other_at m hO c t hw p q _ (show (j 1).val = _ by omega) h2, fun h => other_at m hO c t hw p q _ (show (j 1).val - 256 = _ by omega) h2⟩

/-- The same at an index of a stored block. -/
theorem gradient_block (hO : Ok m) (c : Dev nD) (t : Fin (cfgM m hO).N) (y : S1x256x2048.Idx) (j : S1x512x2048.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order. -/
theorem final_gradient (hO : Ok m) (c : Dev nD) : (dats m hO 0 c).arrAt 5 (cfgM m hO).N = val_main_v7 (F := Ideal) (m ((c : Thread nD τ).loc main_arg3)) (m ((c : Thread nD τ).loc main_arg4)) (m ((c : Thread nD τ).loc main_arg5)) := by
  refine (dats m hO 0 c).arrAt_eq_of_covers 5 _ (covers _).1 fun t _ y => ?_
  blk_simp
  rw [after0_5]; unfold outsAt0
  frame_out
  pointwise [k0_pay5, Memref.IsWhole.read_unread]
  have hi : (pcfg0.win (adm m hO) 5).index t = ![0, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient. -/
theorem final_mean (hO : Ok m) (c : Dev nD) : (dats m hO 0 c).arrAt 7 (cfgM m hO).N = val_main_v12 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers _).2.2.1 fun t _ y => ?_
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![0, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square. -/
theorem final_square (hO : Ok m) (c : Dev nD) : (dats m hO 0 c).arrAt 8 (cfgM m hO).N = val_main_v18 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers _).2.2.2 fun t _ y => ?_
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![0, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step. -/
theorem final_step (hO : Ok m) (c : Dev nD) : (dats m hO 0 c).arrAt 6 (cfgM m hO).N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers _).2.1 fun t _ y => ?_
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![0, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)
end Cert.StepOutIdeal.Hand

namespace Cert.StepFoxIdeal.Hand
open Cert.StepFoxIdeal Cert.StepFoxIdeal.Gen Cert.StepFoxReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x1540.size a ≤ S1024x1540.size a := by decide
  have h0 : ∀ a, (![0, 0] a + 1) * S256x1540.size a ≤ S1024x1540.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover each result. -/
theorem covers (a : (pcfg0 (F := Ideal)).Adm) : ((cfg0 a).win 5).Covers ∧ ((cfg0 a).win 6).Covers ∧ ((cfg0 a).win 7).Covers ∧ ((cfg0 a).win 8).Covers := by
  have h : ((cfg0 (F := Ideal) ⟨zeros, ok _⟩).win 5).Covers := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![0, t.val, 0] ∧ ((grid0.coords t) 0).val = t.val / 4 ∧ ((grid0.coords t) 1).val = t.val % 4 ∧ t.val < 8 := by decide +kernel

/-- The blocks of the weight, the two moments and the four results at a step. -/
theorem idx (hO : Ok m) (t : Fin (cfgM m hO).N) : ((cfgM m hO).win 0).index t = ![0, t.val, 0] ∧ ((cfgM m hO).win 1).index t = ![0, t.val, 0] ∧ ((cfgM m hO).win 2).index t = ![0, t.val, 0]
    ∧ ((cfgM m hO).win 5).index t = ![0, t.val, 0] ∧ ((cfgM m hO).win 6).index t = ![0, t.val, 0] ∧ ((cfgM m hO).win 7).index t = ![0, t.val, 0] ∧ ((cfgM m hO).win 8).index t = ![0, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val / 4) = word (tbl m) then t.val % 4 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val / 4) = word (tbl m) then 0 else t.val % 4, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val / 4) = word (tbl m)) (p : Fin 256) (q : Fin 1540) (k : S1024x1540.Idx)
    (h0 : (k 0).val = t.val % 4 * 256 + p.val) (h1 : (k 1).val = q.val) : iblk m hO c 3 t (ix2 p q) = m ((c : Thread nD τ).loc main_arg3) k := by
  have hi := idx_mine m hO t
  rw [if_pos h] at hi
  blk_point [iblk, V, hi]

/-- The loaded block of the other half, at a step in it. -/
theorem other_at (hO : Ok m) (c : Dev nD) (t : Fin (cfgM m hO).N) (h : ¬ BitVec.ofNat 32 (t.val / 4) = word (tbl m)) (p : Fin 256) (q : Fin 1540) (k : S1024x1540.Idx)
    (h0 : (k 0).val = t.val % 4 * 256 + p.val) (h1 : (k 1).val = q.val) : iblk m hO c 4 t (ix2 p q) = m ((c : Thread nD τ).loc main_arg4) k := by
  have hi := idx_other m hO t
  rw [if_neg h] at hi
  blk_point [iblk, V, hi]

/-- The block of the gradient that a step chooses is the block of the two halves put together. -/
theorem gradient_at (hO : Ok m) (c : Dev nD) (t : Fin (cfgM m hO).N) (p : Fin 256) (q : Fin 1540) (j : S1x2048x1540.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val / 4) (P := (j 1).val < 1024) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 1024, by omega⟩ (j 2))) (g' := fun h => m ((c : Thread nD τ).loc main_arg4) (ix2 ⟨(j 1).val - 1024, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 1024 = _ by omega) h2⟩
  · exact ⟨fun h => other_at m hO c t hw p q _ (show (j 1).val = _ by omega) h2, fun h => other_at m hO c t hw p q _ (show (j 1).val - 1024 = _ by omega) h2⟩

/-- The same at an index of a stored block. -/
theorem gradient_block (hO : Ok m) (c : Dev nD) (t : Fin (cfgM m hO).N) (y : S1x256x1540.Idx) (j : S1x2048x1540.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order. -/
theorem final_gradient (hO : Ok m) (c : Dev nD) : (dats m hO 0 c).arrAt 5 (cfgM m hO).N = val_main_v7 (F := Ideal) (m ((c : Thread nD τ).loc main_arg3)) (m ((c : Thread nD τ).loc main_arg4)) (m ((c : Thread nD τ).loc main_arg5)) := by
  refine (dats m hO 0 c).arrAt_eq_of_covers 5 _ (covers _).1 fun t _ y => ?_
  blk_simp
  rw [after0_5]; unfold outsAt0
  frame_out
  pointwise [k0_pay5, Memref.IsWhole.read_unread]
  have hi : (pcfg0.win (adm m hO) 5).index t = ![0, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient. -/
theorem final_mean (hO : Ok m) (c : Dev nD) : (dats m hO 0 c).arrAt 7 (cfgM m hO).N = val_main_v12 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers _).2.2.1 fun t _ y => ?_
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![0, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square. -/
theorem final_square (hO : Ok m) (c : Dev nD) : (dats m hO 0 c).arrAt 8 (cfgM m hO).N = val_main_v18 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers _).2.2.2 fun t _ y => ?_
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![0, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step. -/
theorem final_step (hO : Ok m) (c : Dev nD) : (dats m hO 0 c).arrAt 6 (cfgM m hO).N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers _).2.1 fun t _ y => ?_
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![0, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)
end Cert.StepFoxIdeal.Hand
end
-- ==== Proof.ValHalvesMla.lean ====
/-
  What the AdamW step of the input weights and the two up-projections of MLA writes: the gradient that it puts together from the
  device's own half and the other, the step, and the two new means.
-/
module
public import proofs.«01_k».proof.Proof.Choice
public import proofs.«01_k».proof.Proof.Gen.StepInIdeal.Frame
public import proofs.«01_k».proof.Proof.Gen.StepInReferenceIdeal.Run
public import proofs.«01_k».proof.Proof.Gen.StepInReferenceIdeal.Read
public import proofs.«01_k».proof.Proof.Gen.StepUqIdeal.Frame
public import proofs.«01_k».proof.Proof.Gen.StepUqReferenceIdeal.Run
public import proofs.«01_k».proof.Proof.Gen.StepUqReferenceIdeal.Read
public import proofs.«01_k».proof.Proof.Gen.StepUkvIdeal.Frame
public import proofs.«01_k».proof.Proof.Gen.StepUkvReferenceIdeal.Run
public import proofs.«01_k».proof.Proof.Gen.StepUkvReferenceIdeal.Read
@[expose] public section
set_option maxRecDepth 16384
noncomputable section
open Idealize.ShloMosaic Idealize.ShloMosaic.TcCoe Idealize.SL.Sem
open Idealize.ShloMosaic.Pipeline (Dat)

namespace Cert.StepInIdeal.Hand
open Cert.StepInIdeal Cert.StepInIdeal.Gen Cert.StepInReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x1344.size a ≤ S256x1344.size a := by decide
  have h0 : ∀ a, (![0, 0] a + 1) * S256x1344.size a ≤ S256x1344.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover each result. -/
theorem covers (a : (pcfg0 (F := Ideal)).Adm) : ((cfg0 a).win 5).Covers ∧ ((cfg0 a).win 6).Covers ∧ ((cfg0 a).win 7).Covers ∧ ((cfg0 a).win 8).Covers := by
  have h : ((cfg0 (F := Ideal) ⟨zeros, ok _⟩).win 5).Covers := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![0, t.val, 0] ∧ ((grid0.coords t) 0).val = t.val ∧ ((grid0.coords t) 1).val = t.val % 1 ∧ t.val < 2 := by decide +kernel

/-- The blocks of the weight, the two moments and the four results at a step. -/
theorem idx (hO : Ok m) (t : Fin (cfgM m hO).N) : ((cfgM m hO).win 0).index t = ![0, t.val, 0] ∧ ((cfgM m hO).win 1).index t = ![0, t.val, 0] ∧ ((cfgM m hO).win 2).index t = ![0, t.val, 0]
    ∧ ((cfgM m hO).win 5).index t = ![0, t.val, 0] ∧ ((cfgM m hO).win 6).index t = ![0, t.val, 0] ∧ ((cfgM m hO).win 7).index t = ![0, t.val, 0] ∧ ((cfgM m hO).win 8).index t = ![0, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val) = word (tbl m) then t.val % 1 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val) = word (tbl m) then 0 else t.val % 1, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val) = word (tbl m)) (p : Fin 256) (q : Fin 1344) (k : S256x1344.Idx)
    (h0 : (k 0).val = t.val % 1 * 256 + p.val) (h1 : (k 1).val = q.val) : iblk m hO c 3 t (ix2 p q) = m ((c : Thread nD τ).loc main_arg3) k := by
  have hi := idx_mine m hO t
  rw [if_pos h] at hi
  blk_point [iblk, V, hi]

/-- The loaded block of the other half, at a step in it. -/
theorem other_at (hO : Ok m) (c : Dev nD) (t : Fin (cfgM m hO).N) (h : ¬ BitVec.ofNat 32 (t.val) = word (tbl m)) (p : Fin 256) (q : Fin 1344) (k : S256x1344.Idx)
    (h0 : (k 0).val = t.val % 1 * 256 + p.val) (h1 : (k 1).val = q.val) : iblk m hO c 4 t (ix2 p q) = m ((c : Thread nD τ).loc main_arg4) k := by
  have hi := idx_other m hO t
  rw [if_neg h] at hi
  blk_point [iblk, V, hi]

/-- The block of the gradient that a step chooses is the block of the two halves put together. -/
theorem gradient_at (hO : Ok m) (c : Dev nD) (t : Fin (cfgM m hO).N) (p : Fin 256) (q : Fin 1344) (j : S1x512x1344.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val) (P := (j 1).val < 256) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 256, by omega⟩ (j 2))) (g' := fun h => m ((c : Thread nD τ).loc main_arg4) (ix2 ⟨(j 1).val - 256, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 256 = _ by omega) h2⟩
  · exact ⟨fun h => other_at m hO c t hw p q _ (show (j 1).val = _ by omega) h2, fun h => other_at m hO c t hw p q _ (show (j 1).val - 256 = _ by omega) h2⟩

/-- The same at an index of a stored block. -/
theorem gradient_block (hO : Ok m) (c : Dev nD) (t : Fin (cfgM m hO).N) (y : S1x256x1344.Idx) (j : S1x512x1344.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order. -/
theorem final_gradient (hO : Ok m) (c : Dev nD) : (dats m hO 0 c).arrAt 5 (cfgM m hO).N = val_main_v7 (F := Ideal) (m ((c : Thread nD τ).loc main_arg3)) (m ((c : Thread nD τ).loc main_arg4)) (m ((c : Thread nD τ).loc main_arg5)) := by
  refine (dats m hO 0 c).arrAt_eq_of_covers 5 _ (covers _).1 fun t _ y => ?_
  blk_simp
  rw [after0_5]; unfold outsAt0
  frame_out
  pointwise [k0_pay5, Memref.IsWhole.read_unread]
  have hi : (pcfg0.win (adm m hO) 5).index t = ![0, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient. -/
theorem final_mean (hO : Ok m) (c : Dev nD) : (dats m hO 0 c).arrAt 7 (cfgM m hO).N = val_main_v12 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers _).2.2.1 fun t _ y => ?_
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![0, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square. -/
theorem final_square (hO : Ok m) (c : Dev nD) : (dats m hO 0 c).arrAt 8 (cfgM m hO).N = val_main_v18 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers _).2.2.2 fun t _ y => ?_
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![0, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step. -/
theorem final_step (hO : Ok m) (c : Dev nD) : (dats m hO 0 c).arrAt 6 (cfgM m hO).N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers _).2.1 fun t _ y => ?_
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![0, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)
end Cert.StepInIdeal.Hand

namespace Cert.StepUqIdeal.Hand
open Cert.StepUqIdeal Cert.StepUqIdeal.Gen Cert.StepUqReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S192x768.size a ≤ S384x768.size a := by decide
  have h0 : ∀ a, (![0, 0] a + 1) * S192x768.size a ≤ S384x768.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover each result. -/
theorem covers (a : (pcfg0 (F := Ideal)).Adm) : ((cfg0 a).win 5).Covers ∧ ((cfg0 a).win 6).Covers ∧ ((cfg0 a).win 7).Covers ∧ ((cfg0 a).win 8).Covers := by
  have h : ((cfg0 (F := Ideal) ⟨zeros, ok _⟩).win 5).Covers := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![0, t.val, 0] ∧ ((grid0.coords t) 0).val = t.val / 2 ∧ ((grid0.coords t) 1).val = t.val % 2 ∧ t.val < 4 := by decide +kernel

/-- The blocks of the weight, the two moments and the four results at a step. -/
theorem idx (hO : Ok m) (t : Fin (cfgM m hO).N) : ((cfgM m hO).win 0).index t = ![0, t.val, 0] ∧ ((cfgM m hO).win 1).index t = ![0, t.val, 0] ∧ ((cfgM m hO).win 2).index t = ![0, t.val, 0]
    ∧ ((cfgM m hO).win 5).index t = ![0, t.val, 0] ∧ ((cfgM m hO).win 6).index t = ![0, t.val, 0] ∧ ((cfgM m hO).win 7).index t = ![0, t.val, 0] ∧ ((cfgM m hO).win 8).index t = ![0, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val / 2) = word (tbl m) then t.val % 2 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val / 2) = word (tbl m) then 0 else t.val % 2, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val / 2) = word (tbl m)) (p : Fin 192) (q : Fin 768) (k : S384x768.Idx)
    (h0 : (k 0).val = t.val % 2 * 192 + p.val) (h1 : (k 1).val = q.val) : iblk m hO c 3 t (ix2 p q) = m ((c : Thread nD τ).loc main_arg3) k := by
  have hi := idx_mine m hO t
  rw [if_pos h] at hi
  blk_point [iblk, V, hi]

/-- The loaded block of the other half, at a step in it. -/
theorem other_at (hO : Ok m) (c : Dev nD) (t : Fin (cfgM m hO).N) (h : ¬ BitVec.ofNat 32 (t.val / 2) = word (tbl m)) (p : Fin 192) (q : Fin 768) (k : S384x768.Idx)
    (h0 : (k 0).val = t.val % 2 * 192 + p.val) (h1 : (k 1).val = q.val) : iblk m hO c 4 t (ix2 p q) = m ((c : Thread nD τ).loc main_arg4) k := by
  have hi := idx_other m hO t
  rw [if_neg h] at hi
  blk_point [iblk, V, hi]

/-- The block of the gradient that a step chooses is the block of the two halves put together. -/
theorem gradient_at (hO : Ok m) (c : Dev nD) (t : Fin (cfgM m hO).N) (p : Fin 192) (q : Fin 768) (j : S1x768x768.Idx) (hj : (j 1).val = t.val * 192 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val / 2) (P := (j 1).val < 384) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 384, by omega⟩ (j 2))) (g' := fun h => m ((c : Thread nD τ).loc main_arg4) (ix2 ⟨(j 1).val - 384, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 384 = _ by omega) h2⟩
  · exact ⟨fun h => other_at m hO c t hw p q _ (show (j 1).val = _ by omega) h2, fun h => other_at m hO c t hw p q _ (show (j 1).val - 384 = _ by omega) h2⟩

/-- The same at an index of a stored block. -/
theorem gradient_block (hO : Ok m) (c : Dev nD) (t : Fin (cfgM m hO).N) (y : S1x192x768.Idx) (j : S1x768x768.Idx) (hj : (j 1).val = t.val * 192 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order. -/
theorem final_gradient (hO : Ok m) (c : Dev nD) : (dats m hO 0 c).arrAt 5 (cfgM m hO).N = val_main_v7 (F := Ideal) (m ((c : Thread nD τ).loc main_arg3)) (m ((c : Thread nD τ).loc main_arg4)) (m ((c : Thread nD τ).loc main_arg5)) := by
  refine (dats m hO 0 c).arrAt_eq_of_covers 5 _ (covers _).1 fun t _ y => ?_
  blk_simp
  rw [after0_5]; unfold outsAt0
  frame_out
  pointwise [k0_pay5, Memref.IsWhole.read_unread]
  have hi : (pcfg0.win (adm m hO) 5).index t = ![0, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient. -/
theorem final_mean (hO : Ok m) (c : Dev nD) : (dats m hO 0 c).arrAt 7 (cfgM m hO).N = val_main_v12 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers _).2.2.1 fun t _ y => ?_
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![0, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square. -/
theorem final_square (hO : Ok m) (c : Dev nD) : (dats m hO 0 c).arrAt 8 (cfgM m hO).N = val_main_v18 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers _).2.2.2 fun t _ y => ?_
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![0, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step. -/
theorem final_step (hO : Ok m) (c : Dev nD) : (dats m hO 0 c).arrAt 6 (cfgM m hO).N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers _).2.1 fun t _ y => ?_
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![0, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)
end Cert.StepUqIdeal.Hand

namespace Cert.StepUkvIdeal.Hand
open Cert.StepUkvIdeal Cert.StepUkvIdeal.Gen Cert.StepUkvReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x1024.size a ≤ S256x1024.size a := by decide
  have h0 : ∀ a, (![0, 0] a + 1) * S256x1024.size a ≤ S256x1024.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover each result. -/
theorem covers (a : (pcfg0 (F := Ideal)).Adm) : ((cfg0 a).win 5).Covers ∧ ((cfg0 a).win 6).Covers ∧ ((cfg0 a).win 7).Covers ∧ ((cfg0 a).win 8).Covers := by
  have h : ((cfg0 (F := Ideal) ⟨zeros, ok _⟩).win 5).Covers := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![0, t.val, 0] ∧ ((grid0.coords t) 0).val = t.val ∧ ((grid0.coords t) 1).val = t.val % 1 ∧ t.val < 2 := by decide +kernel

/-- The blocks of the weight, the two moments and the four results at a step. -/
theorem idx (hO : Ok m) (t : Fin (cfgM m hO).N) : ((cfgM m hO).win 0).index t = ![0, t.val, 0] ∧ ((cfgM m hO).win 1).index t = ![0, t.val, 0] ∧ ((cfgM m hO).win 2).index t = ![0, t.val, 0]
    ∧ ((cfgM m hO).win 5).index t = ![0, t.val, 0] ∧ ((cfgM m hO).win 6).index t = ![0, t.val, 0] ∧ ((cfgM m hO).win 7).index t = ![0, t.val, 0] ∧ ((cfgM m hO).win 8).index t = ![0, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val) = word (tbl m) then t.val % 1 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val) = word (tbl m) then 0 else t.val % 1, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val) = word (tbl m)) (p : Fin 256) (q : Fin 1024) (k : S256x1024.Idx)
    (h0 : (k 0).val = t.val % 1 * 256 + p.val) (h1 : (k 1).val = q.val) : iblk m hO c 3 t (ix2 p q) = m ((c : Thread nD τ).loc main_arg3) k := by
  have hi := idx_mine m hO t
  rw [if_pos h] at hi
  blk_point [iblk, V, hi]

/-- The loaded block of the other half, at a step in it. -/
theorem other_at (hO : Ok m) (c : Dev nD) (t : Fin (cfgM m hO).N) (h : ¬ BitVec.ofNat 32 (t.val) = word (tbl m)) (p : Fin 256) (q : Fin 1024) (k : S256x1024.Idx)
    (h0 : (k 0).val = t.val % 1 * 256 + p.val) (h1 : (k 1).val = q.val) : iblk m hO c 4 t (ix2 p q) = m ((c : Thread nD τ).loc main_arg4) k := by
  have hi := idx_other m hO t
  rw [if_neg h] at hi
  blk_point [iblk, V, hi]

/-- The block of the gradient that a step chooses is the block of the two halves put together. -/
theorem gradient_at (hO : Ok m) (c : Dev nD) (t : Fin (cfgM m hO).N) (p : Fin 256) (q : Fin 1024) (j : S1x512x1024.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val) (P := (j 1).val < 256) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 256, by omega⟩ (j 2))) (g' := fun h => m ((c : Thread nD τ).loc main_arg4) (ix2 ⟨(j 1).val - 256, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 256 = _ by omega) h2⟩
  · exact ⟨fun h => other_at m hO c t hw p q _ (show (j 1).val = _ by omega) h2, fun h => other_at m hO c t hw p q _ (show (j 1).val - 256 = _ by omega) h2⟩

/-- The same at an index of a stored block. -/
theorem gradient_block (hO : Ok m) (c : Dev nD) (t : Fin (cfgM m hO).N) (y : S1x256x1024.Idx) (j : S1x512x1024.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order. -/
theorem final_gradient (hO : Ok m) (c : Dev nD) : (dats m hO 0 c).arrAt 5 (cfgM m hO).N = val_main_v7 (F := Ideal) (m ((c : Thread nD τ).loc main_arg3)) (m ((c : Thread nD τ).loc main_arg4)) (m ((c : Thread nD τ).loc main_arg5)) := by
  refine (dats m hO 0 c).arrAt_eq_of_covers 5 _ (covers _).1 fun t _ y => ?_
  blk_simp
  rw [after0_5]; unfold outsAt0
  frame_out
  pointwise [k0_pay5, Memref.IsWhole.read_unread]
  have hi : (pcfg0.win (adm m hO) 5).index t = ![0, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient. -/
theorem final_mean (hO : Ok m) (c : Dev nD) : (dats m hO 0 c).arrAt 7 (cfgM m hO).N = val_main_v12 (F := Ideal) (m ((c : Thread nD τ).loc main_arg1)) (m ((c : Thread nD τ).loc main_arg3)) (m ((c : Thread nD τ).loc main_arg4)) (m ((c : Thread nD τ).loc main_arg5)) := by
  refine (dats m hO 0 c).arrAt_eq_of_covers 7 _ (covers _).2.2.1 fun t _ y => ?_
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![0, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square. -/
theorem final_square (hO : Ok m) (c : Dev nD) : (dats m hO 0 c).arrAt 8 (cfgM m hO).N = val_main_v18 (F := Ideal) (m ((c : Thread nD τ).loc main_arg2)) (m ((c : Thread nD τ).loc main_arg3)) (m ((c : Thread nD τ).loc main_arg4)) (m ((c : Thread nD τ).loc main_arg5)) := by
  refine (dats m hO 0 c).arrAt_eq_of_covers 8 _ (covers _).2.2.2 fun t _ y => ?_
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![0, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step. -/
theorem final_step (hO : Ok m) (c : Dev nD) : (dats m hO 0 c).arrAt 6 (cfgM m hO).N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers _).2.1 fun t _ y => ?_
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![0, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)
end Cert.StepUkvIdeal.Hand
end
-- ==== Proof.ClaimHalves.lean ====
/-
  The claims of the AdamW steps of the weights of one layer: each program and its idealization leave their arguments as they were, and so does
  the reference; the idealization and the reference end with equal results.
-/
module
public import proofs.«01_k».proof.Proof.SameHalves
public import proofs.«01_k».proof.Proof.ValHalves
public import proofs.«01_k».proof.Proof.ValHalvesMla
@[expose] public section
set_option maxRecDepth 16384
noncomputable section
open Idealize.ShloMosaic Idealize.ShloMosaic.TcCoe Idealize.SL.Sem

namespace Cert.Proof.StepOut
theorem frame_kernel : Cert.quiescent_StepOut := fun m ρ _ => by
  rw [show (onTc (τ := Cert.StepOut.τ) (Cert.StepOut.main (F := Bits))) = onTc (τ := Cert.StepOutIdeal.τ) (Cert.StepOutIdeal.main (F := Bits)) from
    congrArg (onTc (τ := Cert.StepOutIdeal.τ)) stepOut_main, stepOut_defs]
  exact Cert.StepOutIdeal.Gen.frame (F := Bits) m ρ (Cert.StepOutIdeal.Hand.ok _)

theorem frame_ideal : Cert.quiescent_StepOutIdeal := fun m ρ _ => Cert.StepOutIdeal.Gen.frame (F := Ideal) m ρ (Cert.StepOutIdeal.Hand.ok _)

theorem frame_reference : Cert.quiescent_StepOutReferenceIdeal := fun m ρ _ =>
  (θ_run Cert.StepOutReferenceIdeal.defs _ _).mono (fun r h => ⟨fun c => (h c).2.2.2.2, sem_eq_zero_of_no_sems (by decide) r.2⟩)
    (Cert.StepOutReferenceIdeal.Value.run (F := Ideal) m ρ)

theorem values : Cert.algebraic_StepOutIdeal_StepOutReferenceIdeal := by
  intro m g m' g' _ hagree
  have ok := Cert.StepOutIdeal.Hand.ok (Cert.StepOutIdeal.Gen.tbl m)
  refine ⟨_, _, _, _, (θ_run Cert.StepOutIdeal.defs _ _).mono (fun r h c => ⟨((h.1 c).1 5).trans (Cert.StepOutIdeal.Hand.final_gradient m ok c), ((h.1 c).1 6).trans (Cert.StepOutIdeal.Hand.final_step m ok c),
    ((h.1 c).1 7).trans (Cert.StepOutIdeal.Hand.final_mean m ok c), ((h.1 c).1 8).trans (Cert.StepOutIdeal.Hand.final_square m ok c), h.2 c⟩)
    (θ_run_and (Cert.StepOutIdeal.Gen.run_main m g ok) (Cert.StepOutIdeal.Gen.unchanged m g ok)), ?_⟩
  refine (θ_run Cert.StepOutReferenceIdeal.defs _ _).mono (fun r h c => ⟨(h c).1.trans ?_, (h c).2.1.trans ?_, (h c).2.2.1.trans ?_, (h c).2.2.2.1.trans ?_, (h c).2.2.2.2⟩) (Cert.StepOutReferenceIdeal.Value.run (F := Ideal) m' g')
  · refine (Cert.StepOutReferenceIdeal.Read.val_main_v7_eq _ _ _).trans ?_
    rw [(hagree c).2.2.2.1, (hagree c).2.2.2.2.1, (hagree c).2.2.2.2.2]
  · refine (Cert.StepOutReferenceIdeal.Read.val_main_v31_eq _ _ _ _ _ _).trans ?_
    rw [(hagree c).1, (hagree c).2.1, (hagree c).2.2.1, (hagree c).2.2.2.1, (hagree c).2.2.2.2.1, (hagree c).2.2.2.2.2]
  · refine (Cert.StepOutReferenceIdeal.Read.val_main_v12_eq _ _ _ _).trans ?_
    rw [(hagree c).2.1, (hagree c).2.2.2.1, (hagree c).2.2.2.2.1, (hagree c).2.2.2.2.2]
  · refine (Cert.StepOutReferenceIdeal.Read.val_main_v18_eq _ _ _ _).trans ?_
    rw [(hagree c).2.2.1, (hagree c).2.2.2.1, (hagree c).2.2.2.2.1, (hagree c).2.2.2.2.2]
end Cert.Proof.StepOut

namespace Cert.Proof.StepIn
theorem frame_kernel : Cert.quiescent_StepIn := fun m ρ _ => by
  rw [show (onTc (τ := Cert.StepIn.τ) (Cert.StepIn.main (F := Bits))) = onTc (τ := Cert.StepInIdeal.τ) (Cert.StepInIdeal.main (F := Bits)) from
    congrArg (onTc (τ := Cert.StepInIdeal.τ)) stepIn_main, stepIn_defs]
  exact Cert.StepInIdeal.Gen.frame (F := Bits) m ρ (Cert.StepInIdeal.Hand.ok _)

theorem frame_ideal : Cert.quiescent_StepInIdeal := fun m ρ _ => Cert.StepInIdeal.Gen.frame (F := Ideal) m ρ (Cert.StepInIdeal.Hand.ok _)

theorem frame_reference : Cert.quiescent_StepInReferenceIdeal := fun m ρ _ =>
  (θ_run Cert.StepInReferenceIdeal.defs _ _).mono (fun r h => ⟨fun c => (h c).2.2.2.2, sem_eq_zero_of_no_sems (by decide) r.2⟩)
    (Cert.StepInReferenceIdeal.Value.run (F := Ideal) m ρ)

theorem values : Cert.algebraic_StepInIdeal_StepInReferenceIdeal := by
  intro m g m' g' _ hagree
  have ok := Cert.StepInIdeal.Hand.ok (Cert.StepInIdeal.Gen.tbl m)
  refine ⟨_, _, _, _, (θ_run Cert.StepInIdeal.defs _ _).mono (fun r h c => ⟨((h.1 c).1 5).trans (Cert.StepInIdeal.Hand.final_gradient m ok c), ((h.1 c).1 6).trans (Cert.StepInIdeal.Hand.final_step m ok c),
    ((h.1 c).1 7).trans (Cert.StepInIdeal.Hand.final_mean m ok c), ((h.1 c).1 8).trans (Cert.StepInIdeal.Hand.final_square m ok c), h.2 c⟩)
    (θ_run_and (Cert.StepInIdeal.Gen.run_main m g ok) (Cert.StepInIdeal.Gen.unchanged m g ok)), ?_⟩
  refine (θ_run Cert.StepInReferenceIdeal.defs _ _).mono (fun r h c => ⟨(h c).1.trans ?_, (h c).2.1.trans ?_, (h c).2.2.1.trans ?_, (h c).2.2.2.1.trans ?_, (h c).2.2.2.2⟩) (Cert.StepInReferenceIdeal.Value.run (F := Ideal) m' g')
  · refine (Cert.StepInReferenceIdeal.Read.val_main_v7_eq _ _ _).trans ?_
    rw [(hagree c).2.2.2.1, (hagree c).2.2.2.2.1, (hagree c).2.2.2.2.2]
  · refine (Cert.StepInReferenceIdeal.Read.val_main_v31_eq _ _ _ _ _ _).trans ?_
    rw [(hagree c).1, (hagree c).2.1, (hagree c).2.2.1, (hagree c).2.2.2.1, (hagree c).2.2.2.2.1, (hagree c).2.2.2.2.2]
  · refine (Cert.StepInReferenceIdeal.Read.val_main_v12_eq _ _ _ _).trans ?_
    rw [(hagree c).2.1, (hagree c).2.2.2.1, (hagree c).2.2.2.2.1, (hagree c).2.2.2.2.2]
  · refine (Cert.StepInReferenceIdeal.Read.val_main_v18_eq _ _ _ _).trans ?_
    rw [(hagree c).2.2.1, (hagree c).2.2.2.1, (hagree c).2.2.2.2.1, (hagree c).2.2.2.2.2]
end Cert.Proof.StepIn

namespace Cert.Proof.StepUq
theorem frame_kernel : Cert.quiescent_StepUq := fun m ρ _ => by
  rw [show (onTc (τ := Cert.StepUq.τ) (Cert.StepUq.main (F := Bits))) = onTc (τ := Cert.StepUqIdeal.τ) (Cert.StepUqIdeal.main (F := Bits)) from
    congrArg (onTc (τ := Cert.StepUqIdeal.τ)) stepUq_main, stepUq_defs]
  exact Cert.StepUqIdeal.Gen.frame (F := Bits) m ρ (Cert.StepUqIdeal.Hand.ok _)

theorem frame_ideal : Cert.quiescent_StepUqIdeal := fun m ρ _ => Cert.StepUqIdeal.Gen.frame (F := Ideal) m ρ (Cert.StepUqIdeal.Hand.ok _)

theorem frame_reference : Cert.quiescent_StepUqReferenceIdeal := fun m ρ _ =>
  (θ_run Cert.StepUqReferenceIdeal.defs _ _).mono (fun r h => ⟨fun c => (h c).2.2.2.2, sem_eq_zero_of_no_sems (by decide) r.2⟩)
    (Cert.StepUqReferenceIdeal.Value.run (F := Ideal) m ρ)

theorem values : Cert.algebraic_StepUqIdeal_StepUqReferenceIdeal := by
  intro m g m' g' _ hagree
  have ok := Cert.StepUqIdeal.Hand.ok (Cert.StepUqIdeal.Gen.tbl m)
  refine ⟨_, _, _, _, (θ_run Cert.StepUqIdeal.defs _ _).mono (fun r h c => ⟨((h.1 c).1 5).trans (Cert.StepUqIdeal.Hand.final_gradient m ok c), ((h.1 c).1 6).trans (Cert.StepUqIdeal.Hand.final_step m ok c),
    ((h.1 c).1 7).trans (Cert.StepUqIdeal.Hand.final_mean m ok c), ((h.1 c).1 8).trans (Cert.StepUqIdeal.Hand.final_square m ok c), h.2 c⟩)
    (θ_run_and (Cert.StepUqIdeal.Gen.run_main m g ok) (Cert.StepUqIdeal.Gen.unchanged m g ok)), ?_⟩
  refine (θ_run Cert.StepUqReferenceIdeal.defs _ _).mono (fun r h c => ⟨(h c).1.trans ?_, (h c).2.1.trans ?_, (h c).2.2.1.trans ?_, (h c).2.2.2.1.trans ?_, (h c).2.2.2.2⟩) (Cert.StepUqReferenceIdeal.Value.run (F := Ideal) m' g')
  · refine (Cert.StepUqReferenceIdeal.Read.val_main_v7_eq _ _ _).trans ?_
    rw [(hagree c).2.2.2.1, (hagree c).2.2.2.2.1, (hagree c).2.2.2.2.2]
  · refine (Cert.StepUqReferenceIdeal.Read.val_main_v31_eq _ _ _ _ _ _).trans ?_
    rw [(hagree c).1, (hagree c).2.1, (hagree c).2.2.1, (hagree c).2.2.2.1, (hagree c).2.2.2.2.1, (hagree c).2.2.2.2.2]
  · refine (Cert.StepUqReferenceIdeal.Read.val_main_v12_eq _ _ _ _).trans ?_
    rw [(hagree c).2.1, (hagree c).2.2.2.1, (hagree c).2.2.2.2.1, (hagree c).2.2.2.2.2]
  · refine (Cert.StepUqReferenceIdeal.Read.val_main_v18_eq _ _ _ _).trans ?_
    rw [(hagree c).2.2.1, (hagree c).2.2.2.1, (hagree c).2.2.2.2.1, (hagree c).2.2.2.2.2]
end Cert.Proof.StepUq

namespace Cert.Proof.StepUkv
theorem frame_kernel : Cert.quiescent_StepUkv := fun m ρ _ => by
  rw [show (onTc (τ := Cert.StepUkv.τ) (Cert.StepUkv.main (F := Bits))) = onTc (τ := Cert.StepUkvIdeal.τ) (Cert.StepUkvIdeal.main (F := Bits)) from
    congrArg (onTc (τ := Cert.StepUkvIdeal.τ)) stepUkv_main, stepUkv_defs]
  exact Cert.StepUkvIdeal.Gen.frame (F := Bits) m ρ (Cert.StepUkvIdeal.Hand.ok _)

theorem frame_ideal : Cert.quiescent_StepUkvIdeal := fun m ρ _ => Cert.StepUkvIdeal.Gen.frame (F := Ideal) m ρ (Cert.StepUkvIdeal.Hand.ok _)

theorem frame_reference : Cert.quiescent_StepUkvReferenceIdeal := fun m ρ _ =>
  (θ_run Cert.StepUkvReferenceIdeal.defs _ _).mono (fun r h => ⟨fun c => (h c).2.2.2.2, sem_eq_zero_of_no_sems (by decide) r.2⟩)
    (Cert.StepUkvReferenceIdeal.Value.run (F := Ideal) m ρ)

theorem values : Cert.algebraic_StepUkvIdeal_StepUkvReferenceIdeal := by
  intro m g m' g' _ hagree
  have ok := Cert.StepUkvIdeal.Hand.ok (Cert.StepUkvIdeal.Gen.tbl m)
  refine ⟨_, _, _, _, (θ_run Cert.StepUkvIdeal.defs _ _).mono (fun r h c => ⟨((h.1 c).1 5).trans (Cert.StepUkvIdeal.Hand.final_gradient m ok c), ((h.1 c).1 6).trans (Cert.StepUkvIdeal.Hand.final_step m ok c),
    ((h.1 c).1 7).trans (Cert.StepUkvIdeal.Hand.final_mean m ok c), ((h.1 c).1 8).trans (Cert.StepUkvIdeal.Hand.final_square m ok c), h.2 c⟩)
    (θ_run_and (Cert.StepUkvIdeal.Gen.run_main m g ok) (Cert.StepUkvIdeal.Gen.unchanged m g ok)), ?_⟩
  refine (θ_run Cert.StepUkvReferenceIdeal.defs _ _).mono (fun r h c => ⟨(h c).1.trans ?_, (h c).2.1.trans ?_, (h c).2.2.1.trans ?_, (h c).2.2.2.1.trans ?_, (h c).2.2.2.2⟩) (Cert.StepUkvReferenceIdeal.Value.run (F := Ideal) m' g')
  · refine (Cert.StepUkvReferenceIdeal.Read.val_main_v7_eq _ _ _).trans ?_
    rw [(hagree c).2.2.2.1, (hagree c).2.2.2.2.1, (hagree c).2.2.2.2.2]
  · refine (Cert.StepUkvReferenceIdeal.Read.val_main_v31_eq _ _ _ _ _ _).trans ?_
    rw [(hagree c).1, (hagree c).2.1, (hagree c).2.2.1, (hagree c).2.2.2.1, (hagree c).2.2.2.2.1, (hagree c).2.2.2.2.2]
  · refine (Cert.StepUkvReferenceIdeal.Read.val_main_v12_eq _ _ _ _).trans ?_
    rw [(hagree c).2.1, (hagree c).2.2.2.1, (hagree c).2.2.2.2.1, (hagree c).2.2.2.2.2]
  · refine (Cert.StepUkvReferenceIdeal.Read.val_main_v18_eq _ _ _ _).trans ?_
    rw [(hagree c).2.2.1, (hagree c).2.2.2.1, (hagree c).2.2.2.2.1, (hagree c).2.2.2.2.2]
end Cert.Proof.StepUkv

namespace Cert.Proof.StepFox
theorem frame_kernel : Cert.quiescent_StepFox := fun m ρ _ => by
  rw [show (onTc (τ := Cert.StepFox.τ) (Cert.StepFox.main (F := Bits))) = onTc (τ := Cert.StepFoxIdeal.τ) (Cert.StepFoxIdeal.main (F := Bits)) from
    congrArg (onTc (τ := Cert.StepFoxIdeal.τ)) stepFox_main, stepFox_defs]
  exact Cert.StepFoxIdeal.Gen.frame (F := Bits) m ρ (Cert.StepFoxIdeal.Hand.ok _)

theorem frame_ideal : Cert.quiescent_StepFoxIdeal := fun m ρ _ => Cert.StepFoxIdeal.Gen.frame (F := Ideal) m ρ (Cert.StepFoxIdeal.Hand.ok _)

theorem frame_reference : Cert.quiescent_StepFoxReferenceIdeal := fun m ρ _ =>
  (θ_run Cert.StepFoxReferenceIdeal.defs _ _).mono (fun r h => ⟨fun c => (h c).2.2.2.2, sem_eq_zero_of_no_sems (by decide) r.2⟩)
    (Cert.StepFoxReferenceIdeal.Value.run (F := Ideal) m ρ)

theorem values : Cert.algebraic_StepFoxIdeal_StepFoxReferenceIdeal := by
  intro m g m' g' _ hagree
  have ok := Cert.StepFoxIdeal.Hand.ok (Cert.StepFoxIdeal.Gen.tbl m)
  refine ⟨_, _, _, _, (θ_run Cert.StepFoxIdeal.defs _ _).mono (fun r h c => ⟨((h.1 c).1 5).trans (Cert.StepFoxIdeal.Hand.final_gradient m ok c), ((h.1 c).1 6).trans (Cert.StepFoxIdeal.Hand.final_step m ok c),
    ((h.1 c).1 7).trans (Cert.StepFoxIdeal.Hand.final_mean m ok c), ((h.1 c).1 8).trans (Cert.StepFoxIdeal.Hand.final_square m ok c), h.2 c⟩)
    (θ_run_and (Cert.StepFoxIdeal.Gen.run_main m g ok) (Cert.StepFoxIdeal.Gen.unchanged m g ok)), ?_⟩
  refine (θ_run Cert.StepFoxReferenceIdeal.defs _ _).mono (fun r h c => ⟨(h c).1.trans ?_, (h c).2.1.trans ?_, (h c).2.2.1.trans ?_, (h c).2.2.2.1.trans ?_, (h c).2.2.2.2⟩) (Cert.StepFoxReferenceIdeal.Value.run (F := Ideal) m' g')
  · refine (Cert.StepFoxReferenceIdeal.Read.val_main_v7_eq _ _ _).trans ?_
    rw [(hagree c).2.2.2.1, (hagree c).2.2.2.2.1, (hagree c).2.2.2.2.2]
  · refine (Cert.StepFoxReferenceIdeal.Read.val_main_v31_eq _ _ _ _ _ _).trans ?_
    rw [(hagree c).1, (hagree c).2.1, (hagree c).2.2.1, (hagree c).2.2.2.1, (hagree c).2.2.2.2.1, (hagree c).2.2.2.2.2]
  · refine (Cert.StepFoxReferenceIdeal.Read.val_main_v12_eq _ _ _ _).trans ?_
    rw [(hagree c).2.1, (hagree c).2.2.2.1, (hagree c).2.2.2.2.1, (hagree c).2.2.2.2.2]
  · refine (Cert.StepFoxReferenceIdeal.Read.val_main_v18_eq _ _ _ _).trans ?_
    rw [(hagree c).2.2.1, (hagree c).2.2.2.1, (hagree c).2.2.2.2.1, (hagree c).2.2.2.2.2]
end Cert.Proof.StepFox
end
-- ==== Proof.SameLayers.lean ====
/-
  Of the AdamW steps of one layer among several, the printed programs and their idealizations have one text; each part of it is equal to the
  other's.
-/
module
public import proofs.«01_k».proof.Proof.SameOne
public import proofs.«01_k».proof.Proof.Gen.StepSbInLast
public import proofs.«01_k».proof.Proof.Gen.StepSbInLastIdeal
public import proofs.«01_k».proof.Proof.Gen.StepSbInFirst
public import proofs.«01_k».proof.Proof.Gen.StepSbInFirstIdeal
public import proofs.«01_k».proof.Proof.Gen.StepSbOutLast
public import proofs.«01_k».proof.Proof.Gen.StepSbOutLastIdeal
public import proofs.«01_k».proof.Proof.Gen.StepSbOutFirst
public import proofs.«01_k».proof.Proof.Gen.StepSbOutFirstIdeal
public import proofs.«01_k».proof.Proof.Gen.StepMlpLast
public import proofs.«01_k».proof.Proof.Gen.StepMlpLastIdeal
public import proofs.«01_k».proof.Proof.Gen.StepMlpThird
public import proofs.«01_k».proof.Proof.Gen.StepMlpThirdIdeal
public import proofs.«01_k».proof.Proof.Gen.StepMlpSecond
public import proofs.«01_k».proof.Proof.Gen.StepMlpSecondIdeal
public import proofs.«01_k».proof.Proof.Gen.StepMlpFirst
public import proofs.«01_k».proof.Proof.Gen.StepMlpFirstIdeal
@[expose] public section
noncomputable section
namespace Cert.Proof
open Idealize.ShloMosaic Idealize.SL.Sem
variable {F : FTy → Type} [FloatOps F]
set_option maxHeartbeats 4000000

theorem stepSbInLast_defs : (Cert.StepSbInLast.defs (F := F)) = (Cert.StepSbInLastIdeal.defs (F := F)) :=
  congrArg (fun D => Pipeline.defs Cert.StepSbInLastIdeal.pcfgs (Defs.onTc D)) (eq_of_zero fun _ => rfl)
theorem stepSbInLast_main : (Cert.StepSbInLast.main (F := F)) = (Cert.StepSbInLastIdeal.main (F := F)) := rfl

theorem stepSbInFirst_defs : (Cert.StepSbInFirst.defs (F := F)) = (Cert.StepSbInFirstIdeal.defs (F := F)) :=
  congrArg (fun D => Pipeline.defs Cert.StepSbInFirstIdeal.pcfgs (Defs.onTc D)) (eq_of_zero fun _ => rfl)
theorem stepSbInFirst_main : (Cert.StepSbInFirst.main (F := F)) = (Cert.StepSbInFirstIdeal.main (F := F)) := rfl

theorem stepSbOutLast_defs : (Cert.StepSbOutLast.defs (F := F)) = (Cert.StepSbOutLastIdeal.defs (F := F)) :=
  congrArg (fun D => Pipeline.defs Cert.StepSbOutLastIdeal.pcfgs (Defs.onTc D)) (eq_of_zero fun _ => rfl)
theorem stepSbOutLast_main : (Cert.StepSbOutLast.main (F := F)) = (Cert.StepSbOutLastIdeal.main (F := F)) := rfl

theorem stepSbOutFirst_defs : (Cert.StepSbOutFirst.defs (F := F)) = (Cert.StepSbOutFirstIdeal.defs (F := F)) :=
  congrArg (fun D => Pipeline.defs Cert.StepSbOutFirstIdeal.pcfgs (Defs.onTc D)) (eq_of_zero fun _ => rfl)
theorem stepSbOutFirst_main : (Cert.StepSbOutFirst.main (F := F)) = (Cert.StepSbOutFirstIdeal.main (F := F)) := rfl

theorem stepMlpLast_defs : (Cert.StepMlpLast.defs (F := F)) = (Cert.StepMlpLastIdeal.defs (F := F)) :=
  congrArg (fun D => Pipeline.defs Cert.StepMlpLastIdeal.pcfgs (Defs.onTc D)) (eq_of_zero fun _ => rfl)
theorem stepMlpLast_main : (Cert.StepMlpLast.main (F := F)) = (Cert.StepMlpLastIdeal.main (F := F)) := rfl

theorem stepMlpThird_defs : (Cert.StepMlpThird.defs (F := F)) = (Cert.StepMlpThirdIdeal.defs (F := F)) :=
  congrArg (fun D => Pipeline.defs Cert.StepMlpThirdIdeal.pcfgs (Defs.onTc D)) (eq_of_zero fun _ => rfl)
theorem stepMlpThird_main : (Cert.StepMlpThird.main (F := F)) = (Cert.StepMlpThirdIdeal.main (F := F)) := rfl

theorem stepMlpSecond_defs : (Cert.StepMlpSecond.defs (F := F)) = (Cert.StepMlpSecondIdeal.defs (F := F)) :=
  congrArg (fun D => Pipeline.defs Cert.StepMlpSecondIdeal.pcfgs (Defs.onTc D)) (eq_of_zero fun _ => rfl)
theorem stepMlpSecond_main : (Cert.StepMlpSecond.main (F := F)) = (Cert.StepMlpSecondIdeal.main (F := F)) := rfl

theorem stepMlpFirst_defs : (Cert.StepMlpFirst.defs (F := F)) = (Cert.StepMlpFirstIdeal.defs (F := F)) :=
  congrArg (fun D => Pipeline.defs Cert.StepMlpFirstIdeal.pcfgs (Defs.onTc D)) (eq_of_zero fun _ => rfl)
theorem stepMlpFirst_main : (Cert.StepMlpFirst.main (F := F)) = (Cert.StepMlpFirstIdeal.main (F := F)) := rfl
end Cert.Proof
end
-- ==== Proof.ValLayersSbIn.lean ====
/-
  What the AdamW step of one layer of the input weights of the short branch writes: in that layer the
  gradient that it puts together from the device's own half and the other, the step, and the two new means; elsewhere what was there.
-/
module
public import proofs.«01_k».proof.Proof.Choice
public import proofs.«01_k».proof.Proof.Gen.StepSbInLastIdeal.Frame
public import proofs.«01_k».proof.Proof.Gen.StepSbInLastReferenceIdeal.Run
public import proofs.«01_k».proof.Proof.Gen.StepSbInLastReferenceIdeal.Read
public import proofs.«01_k».proof.Proof.Gen.StepSbInFirstIdeal.Frame
public import proofs.«01_k».proof.Proof.Gen.StepSbInFirstReferenceIdeal.Run
public import proofs.«01_k».proof.Proof.Gen.StepSbInFirstReferenceIdeal.Read
@[expose] public section
set_option maxRecDepth 16384
noncomputable section
open Idealize.ShloMosaic Idealize.ShloMosaic.TcCoe Idealize.SL.Sem
open Idealize.ShloMosaic.Pipeline (Dat)

namespace Cert.StepSbInLastIdeal.Hand
open Cert.StepSbInLastIdeal Cert.StepSbInLastIdeal.Gen Cert.StepSbInLastReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x1536.size a ≤ S1024x1536.size a := by decide
  have h0 : ∀ a, (![0, 0] a + 1) * S256x1536.size a ≤ S1024x1536.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover the layer in each result. -/
theorem covers (a : (pcfg0 (F := Ideal)).Adm) : ((cfg0 a).win 5).CoversWhere (fun β => β (0 : Fin 3) = 1) ∧ ((cfg0 a).win 6).CoversWhere (fun β => β (0 : Fin 3) = 1)
    ∧ ((cfg0 a).win 7).CoversWhere (fun β => β (0 : Fin 3) = 1) ∧ ((cfg0 a).win 8).CoversWhere (fun β => β (0 : Fin 3) = 1) := by
  have h : ((cfg0 (F := Ideal) ⟨zeros, ok _⟩).win 5).CoversWhere (fun β => β (0 : Fin 3) = 1) := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![1, t.val, 0] ∧ ((grid0.coords t) 0).val = t.val / 4 ∧ ((grid0.coords t) 1).val = t.val % 4 ∧ t.val < 8 := by decide +kernel

/-- The blocks of the weight, the two moments and the four results at a step. -/
theorem idx (hO : Ok m) (t : Fin (cfgM m hO).N) : ((cfgM m hO).win 0).index t = ![1, t.val, 0] ∧ ((cfgM m hO).win 1).index t = ![1, t.val, 0] ∧ ((cfgM m hO).win 2).index t = ![1, t.val, 0]
    ∧ ((cfgM m hO).win 5).index t = ![1, t.val, 0] ∧ ((cfgM m hO).win 6).index t = ![1, t.val, 0] ∧ ((cfgM m hO).win 7).index t = ![1, t.val, 0] ∧ ((cfgM m hO).win 8).index t = ![1, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val / 4) = word (tbl m) then t.val % 4 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val / 4) = word (tbl m) then 0 else t.val % 4, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val / 4) = word (tbl m)) (p : Fin 256) (q : Fin 1536) (k : S1024x1536.Idx)
    (h0 : (k 0).val = t.val % 4 * 256 + p.val) (h1 : (k 1).val = q.val) : iblk m hO c 3 t (ix2 p q) = m ((c : Thread nD τ).loc main_arg3) k := by
  have hi := idx_mine m hO t
  rw [if_pos h] at hi
  blk_point [iblk, V, hi]

/-- The loaded block of the other half, at a step in it. -/
theorem other_at (hO : Ok m) (c : Dev nD) (t : Fin (cfgM m hO).N) (h : ¬ BitVec.ofNat 32 (t.val / 4) = word (tbl m)) (p : Fin 256) (q : Fin 1536) (k : S1024x1536.Idx)
    (h0 : (k 0).val = t.val % 4 * 256 + p.val) (h1 : (k 1).val = q.val) : iblk m hO c 4 t (ix2 p q) = m ((c : Thread nD τ).loc main_arg4) k := by
  have hi := idx_other m hO t
  rw [if_neg h] at hi
  blk_point [iblk, V, hi]

/-- The block of the gradient that a step chooses is the block of the two halves put together. -/
theorem gradient_at (hO : Ok m) (c : Dev nD) (t : Fin (cfgM m hO).N) (p : Fin 256) (q : Fin 1536) (j : S2x2048x1536.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val / 4) (P := (j 1).val < 1024) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 1024, by omega⟩ (j 2))) (g' := fun h => m ((c : Thread nD τ).loc main_arg4) (ix2 ⟨(j 1).val - 1024, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 1024 = _ by omega) h2⟩
  · exact ⟨fun h => other_at m hO c t hw p q _ (show (j 1).val = _ by omega) h2, fun h => other_at m hO c t hw p q _ (show (j 1).val - 1024 = _ by omega) h2⟩

/-- The same at an index of a stored block. -/
theorem gradient_block (hO : Ok m) (c : Dev nD) (t : Fin (cfgM m hO).N) (y : S1x256x1536.Idx) (j : S2x2048x1536.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order, in the layer. -/
theorem stored_gradient (hO : Ok m) (c : Dev nD) : (dats m hO 0 c).arrAt 5 (cfgM m hO).N = fun i => if (i 0 : ℕ) / 1 = 1 then val_main_v7 (F := Ideal) (m ((c : Thread nD τ).loc main_arg3)) (m ((c : Thread nD τ).loc main_arg4)) (m ((c : Thread nD τ).loc main_arg5)) i else (dats m hO 0 c).A 5 i := by
  refine (dats m hO 0 c).arrAt_eq_of_coversWhere 5 _ _ (covers _).1 (fun t _ y => ?_) (fun j => Iff.rfl)
  blk_simp
  rw [after0_5]; unfold outsAt0
  frame_out
  pointwise [k0_pay5, Memref.IsWhole.read_unread]
  have hi : (pcfg0.win (adm m hO) 5).index t = ![1, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient, in the layer. -/
theorem stored_mean (hO : Ok m) (c : Dev nD) : (dats m hO 0 c).arrAt 7 (cfgM m hO).N = fun i => if (i 0 : ℕ) / 1 = 1 then val_main_v12 (F := Ideal) (m ((c : Thread nD τ).loc main_arg1)) (m ((c : Thread nD τ).loc main_arg3)) (m ((c : Thread nD τ).loc main_arg4)) (m ((c : Thread nD τ).loc main_arg5)) i else (dats m hO 0 c).A 7 i := by
  refine (dats m hO 0 c).arrAt_eq_of_coversWhere 7 _ _ (covers _).2.2.1 (fun t _ y => ?_) (fun j => Iff.rfl)
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![1, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square, in the layer. -/
theorem stored_square (hO : Ok m) (c : Dev nD) : (dats m hO 0 c).arrAt 8 (cfgM m hO).N = fun i => if (i 0 : ℕ) / 1 = 1 then val_main_v18 (F := Ideal) (m ((c : Thread nD τ).loc main_arg2)) (m ((c : Thread nD τ).loc main_arg3)) (m ((c : Thread nD τ).loc main_arg4)) (m ((c : Thread nD τ).loc main_arg5)) i else (dats m hO 0 c).A 8 i := by
  refine (dats m hO 0 c).arrAt_eq_of_coversWhere 8 _ _ (covers _).2.2.2 (fun t _ y => ?_) (fun j => Iff.rfl)
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![1, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step, in the layer. -/
theorem stored_step (hO : Ok m) (c : Dev nD) : (dats m hO 0 c).arrAt 6 (cfgM m hO).N = fun i => if (i 0 : ℕ) / 1 = 1 then val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i else (dats m hO 0 c).A 6 i := by
  refine (dats m hO 0 c).arrAt_eq_of_coversWhere 6 _ _ (covers _).2.1 (fun t _ y => ?_) (fun j => Iff.rfl)
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![1, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)

/-- The layer of a result. -/
abbrev layer (y : (⟨S2x2048x1536, .f32⟩ : BufTy).Contents (Elt Ideal)) : (⟨S1x2048x1536, .f32⟩ : BufTy).Contents (Elt Ideal) := extractStridedSlice S1x2048x1536 ![1, 0, 0] y slices_S2x2048x1536_S1x2048x1536_1_0_0

theorem final_gradient (hO : Ok m) (c : Dev nD) : Pipeline.afterTail pcfgs (fun _ => adm m hO) (dats m hO) 0 (V0 m) [hostOps1] c main_v1 = val_main_v32 (F := Ideal) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v1 = layer ((dats m hO 0 c).arrAt 5 (cfgM m hO).N) := by
    have e : ∀ U : Valuation τ sig (Elt Ideal), StableHlo.after ([hostOps1] : List (List (HloOp τ sig (Elt Ideal)))).flatten U (Proc.devRef .tc main_v1) = layer (U (Proc.devRef .tc main_v0_0)) := fun U => by
      show StableHlo.after hostOps1 U (Proc.devRef .tc main_v1) = _
      first | after_results_simp | after_results_steps
      try rfl
    exact (e _).trans (congrArg layer (Pipeline.withArrays_arr spec0 (by decide) c (V0 m c) _ 5))
  rw [h, stored_gradient]
  funext i
  refine (extractStridedSlice_apply ![1, 0, 0] _ _ i (idx_main_v32 i) (fun a => match a with | ⟨0, _⟩ => rfl | ⟨1, _⟩ => (Nat.zero_add _).symm | ⟨2, _⟩ => (Nat.zero_add _).symm)).trans ?_
  rw [val_main_v32_apply]
  have h0 : (i 0).val < 1 := (i 0).isLt
  exact if_pos (by show (1 + (i 0).val) / 1 = 1; omega)

theorem final_step (hO : Ok m) (c : Dev nD) : Pipeline.afterTail pcfgs (fun _ => adm m hO) (dats m hO) 0 (V0 m) [hostOps1] c main_v2 = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v2 = layer ((dats m hO 0 c).arrAt 6 (cfgM m hO).N) := by
    have e : ∀ U : Valuation τ sig (Elt Ideal), StableHlo.after ([hostOps1] : List (List (HloOp τ sig (Elt Ideal)))).flatten U (Proc.devRef .tc main_v2) = layer (U (Proc.devRef .tc main_v0_1)) := fun U => by
      show StableHlo.after hostOps1 U (Proc.devRef .tc main_v2) = _
      first | after_results_simp | after_results_steps
      try rfl
    exact (e _).trans (congrArg layer (Pipeline.withArrays_arr spec0 (by decide) c (V0 m c) _ 6))
  rw [h, stored_step]
  funext i
  refine (extractStridedSlice_apply ![1, 0, 0] _ _ i (idx_main_v33 i) (fun a => match a with | ⟨0, _⟩ => rfl | ⟨1, _⟩ => (Nat.zero_add _).symm | ⟨2, _⟩ => (Nat.zero_add _).symm)).trans ?_
  rw [val_main_v33_apply]
  have h0 : (i 0).val < 1 := (i 0).isLt
  exact if_pos (by show (1 + (i 0).val) / 1 = 1; omega)

theorem final_mean (hO : Ok m) (c : Dev nD) : Pipeline.afterTail pcfgs (fun _ => adm m hO) (dats m hO) 0 (V0 m) [hostOps1] c main_v3 = val_main_v34 (F := Ideal) (m ((c : Thread nD τ).loc main_arg1)) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v3 = layer ((dats m hO 0 c).arrAt 7 (cfgM m hO).N) := by
    have e : ∀ U : Valuation τ sig (Elt Ideal), StableHlo.after ([hostOps1] : List (List (HloOp τ sig (Elt Ideal)))).flatten U (Proc.devRef .tc main_v3) = layer (U (Proc.devRef .tc main_v0_2)) := fun U => by
      show StableHlo.after hostOps1 U (Proc.devRef .tc main_v3) = _
      first | after_results_simp | after_results_steps
      try rfl
    exact (e _).trans (congrArg layer (Pipeline.withArrays_arr spec0 (by decide) c (V0 m c) _ 7))
  rw [h, stored_mean]
  funext i
  refine (extractStridedSlice_apply ![1, 0, 0] _ _ i (idx_main_v34 i) (fun a => match a with | ⟨0, _⟩ => rfl | ⟨1, _⟩ => (Nat.zero_add _).symm | ⟨2, _⟩ => (Nat.zero_add _).symm)).trans ?_
  rw [val_main_v34_apply]
  have h0 : (i 0).val < 1 := (i 0).isLt
  exact if_pos (by show (1 + (i 0).val) / 1 = 1; omega)

theorem final_square (hO : Ok m) (c : Dev nD) : Pipeline.afterTail pcfgs (fun _ => adm m hO) (dats m hO) 0 (V0 m) [hostOps1] c main_v4 = val_main_v35 (F := Ideal) (m ((c : Thread nD τ).loc main_arg2)) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v4 = layer ((dats m hO 0 c).arrAt 8 (cfgM m hO).N) := by
    have e : ∀ U : Valuation τ sig (Elt Ideal), StableHlo.after ([hostOps1] : List (List (HloOp τ sig (Elt Ideal)))).flatten U (Proc.devRef .tc main_v4) = layer (U (Proc.devRef .tc main_v0_3)) := fun U => by
      show StableHlo.after hostOps1 U (Proc.devRef .tc main_v4) = _
      first | after_results_simp | after_results_steps
      try rfl
    exact (e _).trans (congrArg layer (Pipeline.withArrays_arr spec0 (by decide) c (V0 m c) _ 8))
  rw [h, stored_square]
  funext i
  refine (extractStridedSlice_apply ![1, 0, 0] _ _ i (idx_main_v35 i) (fun a => match a with | ⟨0, _⟩ => rfl | ⟨1, _⟩ => (Nat.zero_add _).symm | ⟨2, _⟩ => (Nat.zero_add _).symm)).trans ?_
  rw [val_main_v35_apply]
  have h0 : (i 0).val < 1 := (i 0).isLt
  exact if_pos (by show (1 + (i 0).val) / 1 = 1; omega)
end Cert.StepSbInLastIdeal.Hand

namespace Cert.StepSbInFirstIdeal.Hand
open Cert.StepSbInFirstIdeal Cert.StepSbInFirstIdeal.Gen Cert.StepSbInFirstReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x1536.size a ≤ S1024x1536.size a := by decide
  have h0 : ∀ a, (![0, 0] a + 1) * S256x1536.size a ≤ S1024x1536.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover the layer in each result. -/
theorem covers (a : (pcfg0 (F := Ideal)).Adm) : ((cfg0 a).win 5).CoversWhere (fun β => β (0 : Fin 3) = 0) ∧ ((cfg0 a).win 6).CoversWhere (fun β => β (0 : Fin 3) = 0)
    ∧ ((cfg0 a).win 7).CoversWhere (fun β => β (0 : Fin 3) = 0) ∧ ((cfg0 a).win 8).CoversWhere (fun β => β (0 : Fin 3) = 0) := by
  have h : ((cfg0 (F := Ideal) ⟨zeros, ok _⟩).win 5).CoversWhere (fun β => β (0 : Fin 3) = 0) := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![0, t.val, 0] ∧ ((grid0.coords t) 0).val = t.val / 4 ∧ ((grid0.coords t) 1).val = t.val % 4 ∧ t.val < 8 := by decide +kernel

/-- The blocks of the weight, the two moments and the four results at a step. -/
theorem idx (hO : Ok m) (t : Fin (cfgM m hO).N) : ((cfgM m hO).win 0).index t = ![0, t.val, 0] ∧ ((cfgM m hO).win 1).index t = ![0, t.val, 0] ∧ ((cfgM m hO).win 2).index t = ![0, t.val, 0]
    ∧ ((cfgM m hO).win 5).index t = ![0, t.val, 0] ∧ ((cfgM m hO).win 6).index t = ![0, t.val, 0] ∧ ((cfgM m hO).win 7).index t = ![0, t.val, 0] ∧ ((cfgM m hO).win 8).index t = ![0, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val / 4) = word (tbl m) then t.val % 4 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val / 4) = word (tbl m) then 0 else t.val % 4, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val / 4) = word (tbl m)) (p : Fin 256) (q : Fin 1536) (k : S1024x1536.Idx)
    (h0 : (k 0).val = t.val % 4 * 256 + p.val) (h1 : (k 1).val = q.val) : iblk m hO c 3 t (ix2 p q) = m ((c : Thread nD τ).loc main_arg3) k := by
  have hi := idx_mine m hO t
  rw [if_pos h] at hi
  blk_point [iblk, V_main_arg3 m c, V_main_arg4 m c, hi]

/-- The loaded block of the other half, at a step in it. -/
theorem other_at (hO : Ok m) (c : Dev nD) (t : Fin (cfgM m hO).N) (h : ¬ BitVec.ofNat 32 (t.val / 4) = word (tbl m)) (p : Fin 256) (q : Fin 1536) (k : S1024x1536.Idx)
    (h0 : (k 0).val = t.val % 4 * 256 + p.val) (h1 : (k 1).val = q.val) : iblk m hO c 4 t (ix2 p q) = m ((c : Thread nD τ).loc main_arg4) k := by
  have hi := idx_other m hO t
  rw [if_neg h] at hi
  blk_point [iblk, V_main_arg3 m c, V_main_arg4 m c, hi]

/-- The block of the gradient that a step chooses is the block of the two halves put together. -/
theorem gradient_at (hO : Ok m) (c : Dev nD) (t : Fin (cfgM m hO).N) (p : Fin 256) (q : Fin 1536) (j : S2x2048x1536.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val / 4) (P := (j 1).val < 1024) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 1024, by omega⟩ (j 2))) (g' := fun h => m ((c : Thread nD τ).loc main_arg4) (ix2 ⟨(j 1).val - 1024, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 1024 = _ by omega) h2⟩
  · exact ⟨fun h => other_at m hO c t hw p q _ (show (j 1).val = _ by omega) h2, fun h => other_at m hO c t hw p q _ (show (j 1).val - 1024 = _ by omega) h2⟩

/-- The same at an index of a stored block. -/
theorem gradient_block (hO : Ok m) (c : Dev nD) (t : Fin (cfgM m hO).N) (y : S1x256x1536.Idx) (j : S2x2048x1536.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order, in the layer. -/
theorem stored_gradient (hO : Ok m) (c : Dev nD) : (dats m hO 0 c).arrAt 5 (cfgM m hO).N = fun i => if (i 0 : ℕ) / 1 = 0 then val_main_v7 (F := Ideal) (m ((c : Thread nD τ).loc main_arg3)) (m ((c : Thread nD τ).loc main_arg4)) (m ((c : Thread nD τ).loc main_arg5)) i else (dats m hO 0 c).A 5 i := by
  refine (dats m hO 0 c).arrAt_eq_of_coversWhere 5 _ _ (covers _).1 (fun t _ y => ?_) (fun j => Iff.rfl)
  blk_simp
  rw [after0_5]; unfold outsAt0
  frame_out
  pointwise [k0_pay5, Memref.IsWhole.read_unread]
  have hi : (pcfg0.win (adm m hO) 5).index t = ![0, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient, in the layer. -/
theorem stored_mean (hO : Ok m) (c : Dev nD) : (dats m hO 0 c).arrAt 7 (cfgM m hO).N = fun i => if (i 0 : ℕ) / 1 = 0 then val_main_v12 (F := Ideal) (m ((c : Thread nD τ).loc main_arg1)) (m ((c : Thread nD τ).loc main_arg3)) (m ((c : Thread nD τ).loc main_arg4)) (m ((c : Thread nD τ).loc main_arg5)) i else (dats m hO 0 c).A 7 i := by
  refine (dats m hO 0 c).arrAt_eq_of_coversWhere 7 _ _ (covers _).2.2.1 (fun t _ y => ?_) (fun j => Iff.rfl)
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![0, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square, in the layer. -/
theorem stored_square (hO : Ok m) (c : Dev nD) : (dats m hO 0 c).arrAt 8 (cfgM m hO).N = fun i => if (i 0 : ℕ) / 1 = 0 then val_main_v18 (F := Ideal) (m ((c : Thread nD τ).loc main_arg2)) (m ((c : Thread nD τ).loc main_arg3)) (m ((c : Thread nD τ).loc main_arg4)) (m ((c : Thread nD τ).loc main_arg5)) i else (dats m hO 0 c).A 8 i := by
  refine (dats m hO 0 c).arrAt_eq_of_coversWhere 8 _ _ (covers _).2.2.2 (fun t _ y => ?_) (fun j => Iff.rfl)
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![0, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step, in the layer. -/
theorem stored_step (hO : Ok m) (c : Dev nD) : (dats m hO 0 c).arrAt 6 (cfgM m hO).N = fun i => if (i 0 : ℕ) / 1 = 0 then val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i else (dats m hO 0 c).A 6 i := by
  refine (dats m hO 0 c).arrAt_eq_of_coversWhere 6 _ _ (covers _).2.1 (fun t _ y => ?_) (fun j => Iff.rfl)
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![0, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)

theorem final_gradient (hO : Ok m) (c : Dev nD) : (dats m hO 0 c).arrAt 5 (cfgM m hO).N = val_main_v35 (F := Ideal) (m ((c : Thread nD τ).loc main_arg3)) (m ((c : Thread nD τ).loc main_arg4)) (m ((c : Thread nD τ).loc main_arg5)) (m ((c : Thread nD τ).loc main_arg6)) := by
  rw [stored_gradient]
  have h : (dats m hO 0 c).A 5 = m ((c : Thread nD τ).loc main_arg6) := by
    refine (A_eq m hO c 5).trans ?_
    show V m c main_v0_0 = _
    unfold V
    after_results
    rfl
  rw [h]
  funext i
  exact keep (i 0).val 0 _ _ (show (i 0).val < 4 from Nat.lt_of_lt_of_le (i 0).isLt (by decide)) (by decide)

theorem final_step (hO : Ok m) (c : Dev nD) : (dats m hO 0 c).arrAt 6 (cfgM m hO).N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  rw [stored_step]
  have h : (dats m hO 0 c).A 6 = m ((c : Thread nD τ).loc main_arg7) := by
    refine (A_eq m hO c 6).trans ?_
    show V m c main_v0_1 = _
    unfold V
    after_results
    rfl
  rw [h]
  funext i
  exact keep (i 0).val 0 _ _ (show (i 0).val < 4 from Nat.lt_of_lt_of_le (i 0).isLt (by decide)) (by decide)

theorem final_mean (hO : Ok m) (c : Dev nD) : (dats m hO 0 c).arrAt 7 (cfgM m hO).N = val_main_v37 (F := Ideal) (m ((c : Thread nD τ).loc main_arg1)) (m ((c : Thread nD τ).loc main_arg3)) (m ((c : Thread nD τ).loc main_arg4)) (m ((c : Thread nD τ).loc main_arg5)) (m ((c : Thread nD τ).loc main_arg8)) := by
  rw [stored_mean]
  have h : (dats m hO 0 c).A 7 = m ((c : Thread nD τ).loc main_arg8) := by
    refine (A_eq m hO c 7).trans ?_
    show V m c main_v0_2 = _
    unfold V
    after_results
    rfl
  rw [h]
  funext i
  exact keep (i 0).val 0 _ _ (show (i 0).val < 4 from Nat.lt_of_lt_of_le (i 0).isLt (by decide)) (by decide)

theorem final_square (hO : Ok m) (c : Dev nD) : (dats m hO 0 c).arrAt 8 (cfgM m hO).N = val_main_v38 (F := Ideal) (m ((c : Thread nD τ).loc main_arg2)) (m ((c : Thread nD τ).loc main_arg3)) (m ((c : Thread nD τ).loc main_arg4)) (m ((c : Thread nD τ).loc main_arg5)) (m ((c : Thread nD τ).loc main_arg9)) := by
  rw [stored_square]
  have h : (dats m hO 0 c).A 8 = m ((c : Thread nD τ).loc main_arg9) := by
    refine (A_eq m hO c 8).trans ?_
    show V m c main_v0_3 = _
    unfold V
    after_results
    rfl
  rw [h]
  funext i
  exact keep (i 0).val 0 _ _ (show (i 0).val < 4 from Nat.lt_of_lt_of_le (i 0).isLt (by decide)) (by decide)
end Cert.StepSbInFirstIdeal.Hand
end
-- ==== Proof.ValLayersSbOut.lean ====
/-
  What the AdamW step of one layer of the output weights of the short branch writes.
-/
module
public import proofs.«01_k».proof.Proof.Choice
public import proofs.«01_k».proof.Proof.Gen.StepSbOutLastIdeal.Frame
public import proofs.«01_k».proof.Proof.Gen.StepSbOutLastReferenceIdeal.Run
public import proofs.«01_k».proof.Proof.Gen.StepSbOutLastReferenceIdeal.Read
public import proofs.«01_k».proof.Proof.Gen.StepSbOutFirstIdeal.Frame
public import proofs.«01_k».proof.Proof.Gen.StepSbOutFirstReferenceIdeal.Run
public import proofs.«01_k».proof.Proof.Gen.StepSbOutFirstReferenceIdeal.Read
@[expose] public section
set_option maxRecDepth 16384
noncomputable section
open Idealize.ShloMosaic Idealize.ShloMosaic.TcCoe Idealize.SL.Sem
open Idealize.ShloMosaic.Pipeline (Dat)

namespace Cert.StepSbOutLastIdeal.Hand
open Cert.StepSbOutLastIdeal Cert.StepSbOutLastIdeal.Gen Cert.StepSbOutLastReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x2048.size a ≤ S256x2048.size a := by decide
  have h0 : ∀ a, (![0, 0] a + 1) * S256x2048.size a ≤ S256x2048.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover the layer in each result. -/
theorem covers (a : (pcfg0 (F := Ideal)).Adm) : ((cfg0 a).win 5).CoversWhere (fun β => β (0 : Fin 3) = 1) ∧ ((cfg0 a).win 6).CoversWhere (fun β => β (0 : Fin 3) = 1)
    ∧ ((cfg0 a).win 7).CoversWhere (fun β => β (0 : Fin 3) = 1) ∧ ((cfg0 a).win 8).CoversWhere (fun β => β (0 : Fin 3) = 1) := by
  have h : ((cfg0 (F := Ideal) ⟨zeros, ok _⟩).win 5).CoversWhere (fun β => β (0 : Fin 3) = 1) := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![1, t.val, 0] ∧ ((grid0.coords t) 0).val = t.val ∧ ((grid0.coords t) 1).val = t.val % 1 ∧ t.val < 2 := by decide +kernel

/-- The blocks of the weight, the two moments and the four results at a step. -/
theorem idx (hO : Ok m) (t : Fin (cfgM m hO).N) : ((cfgM m hO).win 0).index t = ![1, t.val, 0] ∧ ((cfgM m hO).win 1).index t = ![1, t.val, 0] ∧ ((cfgM m hO).win 2).index t = ![1, t.val, 0]
    ∧ ((cfgM m hO).win 5).index t = ![1, t.val, 0] ∧ ((cfgM m hO).win 6).index t = ![1, t.val, 0] ∧ ((cfgM m hO).win 7).index t = ![1, t.val, 0] ∧ ((cfgM m hO).win 8).index t = ![1, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val) = word (tbl m) then t.val % 1 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val) = word (tbl m) then 0 else t.val % 1, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val) = word (tbl m)) (p : Fin 256) (q : Fin 2048) (k : S256x2048.Idx)
    (h0 : (k 0).val = t.val % 1 * 256 + p.val) (h1 : (k 1).val = q.val) : iblk m hO c 3 t (ix2 p q) = m ((c : Thread nD τ).loc main_arg3) k := by
  have hi := idx_mine m hO t
  rw [if_pos h] at hi
  blk_point [iblk, V, hi]

/-- The loaded block of the other half, at a step in it. -/
theorem other_at (hO : Ok m) (c : Dev nD) (t : Fin (cfgM m hO).N) (h : ¬ BitVec.ofNat 32 (t.val) = word (tbl m)) (p : Fin 256) (q : Fin 2048) (k : S256x2048.Idx)
    (h0 : (k 0).val = t.val % 1 * 256 + p.val) (h1 : (k 1).val = q.val) : iblk m hO c 4 t (ix2 p q) = m ((c : Thread nD τ).loc main_arg4) k := by
  have hi := idx_other m hO t
  rw [if_neg h] at hi
  blk_point [iblk, V, hi]

/-- The block of the gradient that a step chooses is the block of the two halves put together. -/
theorem gradient_at (hO : Ok m) (c : Dev nD) (t : Fin (cfgM m hO).N) (p : Fin 256) (q : Fin 2048) (j : S2x512x2048.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val) (P := (j 1).val < 256) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 256, by omega⟩ (j 2))) (g' := fun h => m ((c : Thread nD τ).loc main_arg4) (ix2 ⟨(j 1).val - 256, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 256 = _ by omega) h2⟩
  · exact ⟨fun h => other_at m hO c t hw p q _ (show (j 1).val = _ by omega) h2, fun h => other_at m hO c t hw p q _ (show (j 1).val - 256 = _ by omega) h2⟩

/-- The same at an index of a stored block. -/
theorem gradient_block (hO : Ok m) (c : Dev nD) (t : Fin (cfgM m hO).N) (y : S1x256x2048.Idx) (j : S2x512x2048.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order, in the layer. -/
theorem stored_gradient (hO : Ok m) (c : Dev nD) : (dats m hO 0 c).arrAt 5 (cfgM m hO).N = fun i => if (i 0 : ℕ) / 1 = 1 then val_main_v7 (F := Ideal) (m ((c : Thread nD τ).loc main_arg3)) (m ((c : Thread nD τ).loc main_arg4)) (m ((c : Thread nD τ).loc main_arg5)) i else (dats m hO 0 c).A 5 i := by
  refine (dats m hO 0 c).arrAt_eq_of_coversWhere 5 _ _ (covers _).1 (fun t _ y => ?_) (fun j => Iff.rfl)
  blk_simp
  rw [after0_5]; unfold outsAt0
  frame_out
  pointwise [k0_pay5, Memref.IsWhole.read_unread]
  have hi : (pcfg0.win (adm m hO) 5).index t = ![1, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient, in the layer. -/
theorem stored_mean (hO : Ok m) (c : Dev nD) : (dats m hO 0 c).arrAt 7 (cfgM m hO).N = fun i => if (i 0 : ℕ) / 1 = 1 then val_main_v12 (F := Ideal) (m ((c : Thread nD τ).loc main_arg1)) (m ((c : Thread nD τ).loc main_arg3)) (m ((c : Thread nD τ).loc main_arg4)) (m ((c : Thread nD τ).loc main_arg5)) i else (dats m hO 0 c).A 7 i := by
  refine (dats m hO 0 c).arrAt_eq_of_coversWhere 7 _ _ (covers _).2.2.1 (fun t _ y => ?_) (fun j => Iff.rfl)
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![1, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square, in the layer. -/
theorem stored_square (hO : Ok m) (c : Dev nD) : (dats m hO 0 c).arrAt 8 (cfgM m hO).N = fun i => if (i 0 : ℕ) / 1 = 1 then val_main_v18 (F := Ideal) (m ((c : Thread nD τ).loc main_arg2)) (m ((c : Thread nD τ).loc main_arg3)) (m ((c : Thread nD τ).loc main_arg4)) (m ((c : Thread nD τ).loc main_arg5)) i else (dats m hO 0 c).A 8 i := by
  refine (dats m hO 0 c).arrAt_eq_of_coversWhere 8 _ _ (covers _).2.2.2 (fun t _ y => ?_) (fun j => Iff.rfl)
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![1, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step, in the layer. -/
theorem stored_step (hO : Ok m) (c : Dev nD) : (dats m hO 0 c).arrAt 6 (cfgM m hO).N = fun i => if (i 0 : ℕ) / 1 = 1 then val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i else (dats m hO 0 c).A 6 i := by
  refine (dats m hO 0 c).arrAt_eq_of_coversWhere 6 _ _ (covers _).2.1 (fun t _ y => ?_) (fun j => Iff.rfl)
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![1, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)

/-- The layer of a result. -/
abbrev layer (y : (⟨S2x512x2048, .f32⟩ : BufTy).Contents (Elt Ideal)) : (⟨S1x512x2048, .f32⟩ : BufTy).Contents (Elt Ideal) := extractStridedSlice S1x512x2048 ![1, 0, 0] y slices_S2x512x2048_S1x512x2048_1_0_0

theorem final_gradient (hO : Ok m) (c : Dev nD) : Pipeline.afterTail pcfgs (fun _ => adm m hO) (dats m hO) 0 (V0 m) [hostOps1] c main_v1 = val_main_v32 (F := Ideal) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v1 = layer ((dats m hO 0 c).arrAt 5 (cfgM m hO).N) := by
    have e : ∀ U : Valuation τ sig (Elt Ideal), StableHlo.after ([hostOps1] : List (List (HloOp τ sig (Elt Ideal)))).flatten U (Proc.devRef .tc main_v1) = layer (U (Proc.devRef .tc main_v0_0)) := fun U => by
      show StableHlo.after hostOps1 U (Proc.devRef .tc main_v1) = _
      first | after_results_simp | after_results_steps
      try rfl
    exact (e _).trans (congrArg layer (Pipeline.withArrays_arr spec0 (by decide) c (V0 m c) _ 5))
  rw [h, stored_gradient]
  funext i
  refine (extractStridedSlice_apply ![1, 0, 0] _ _ i (idx_main_v32 i) (fun a => match a with | ⟨0, _⟩ => rfl | ⟨1, _⟩ => (Nat.zero_add _).symm | ⟨2, _⟩ => (Nat.zero_add _).symm)).trans ?_
  rw [val_main_v32_apply]
  have h0 : (i 0).val < 1 := (i 0).isLt
  exact if_pos (by show (1 + (i 0).val) / 1 = 1; omega)

theorem final_step (hO : Ok m) (c : Dev nD) : Pipeline.afterTail pcfgs (fun _ => adm m hO) (dats m hO) 0 (V0 m) [hostOps1] c main_v2 = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v2 = layer ((dats m hO 0 c).arrAt 6 (cfgM m hO).N) := by
    have e : ∀ U : Valuation τ sig (Elt Ideal), StableHlo.after ([hostOps1] : List (List (HloOp τ sig (Elt Ideal)))).flatten U (Proc.devRef .tc main_v2) = layer (U (Proc.devRef .tc main_v0_1)) := fun U => by
      show StableHlo.after hostOps1 U (Proc.devRef .tc main_v2) = _
      first | after_results_simp | after_results_steps
      try rfl
    exact (e _).trans (congrArg layer (Pipeline.withArrays_arr spec0 (by decide) c (V0 m c) _ 6))
  rw [h, stored_step]
  funext i
  refine (extractStridedSlice_apply ![1, 0, 0] _ _ i (idx_main_v33 i) (fun a => match a with | ⟨0, _⟩ => rfl | ⟨1, _⟩ => (Nat.zero_add _).symm | ⟨2, _⟩ => (Nat.zero_add _).symm)).trans ?_
  rw [val_main_v33_apply]
  have h0 : (i 0).val < 1 := (i 0).isLt
  exact if_pos (by show (1 + (i 0).val) / 1 = 1; omega)

theorem final_mean (hO : Ok m) (c : Dev nD) : Pipeline.afterTail pcfgs (fun _ => adm m hO) (dats m hO) 0 (V0 m) [hostOps1] c main_v3 = val_main_v34 (F := Ideal) (m ((c : Thread nD τ).loc main_arg1)) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v3 = layer ((dats m hO 0 c).arrAt 7 (cfgM m hO).N) := by
    have e : ∀ U : Valuation τ sig (Elt Ideal), StableHlo.after ([hostOps1] : List (List (HloOp τ sig (Elt Ideal)))).flatten U (Proc.devRef .tc main_v3) = layer (U (Proc.devRef .tc main_v0_2)) := fun U => by
      show StableHlo.after hostOps1 U (Proc.devRef .tc main_v3) = _
      first | after_results_simp | after_results_steps
      try rfl
    exact (e _).trans (congrArg layer (Pipeline.withArrays_arr spec0 (by decide) c (V0 m c) _ 7))
  rw [h, stored_mean]
  funext i
  refine (extractStridedSlice_apply ![1, 0, 0] _ _ i (idx_main_v34 i) (fun a => match a with | ⟨0, _⟩ => rfl | ⟨1, _⟩ => (Nat.zero_add _).symm | ⟨2, _⟩ => (Nat.zero_add _).symm)).trans ?_
  rw [val_main_v34_apply]
  have h0 : (i 0).val < 1 := (i 0).isLt
  exact if_pos (by show (1 + (i 0).val) / 1 = 1; omega)

theorem final_square (hO : Ok m) (c : Dev nD) : Pipeline.afterTail pcfgs (fun _ => adm m hO) (dats m hO) 0 (V0 m) [hostOps1] c main_v4 = val_main_v35 (F := Ideal) (m ((c : Thread nD τ).loc main_arg2)) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v4 = layer ((dats m hO 0 c).arrAt 8 (cfgM m hO).N) := by
    have e : ∀ U : Valuation τ sig (Elt Ideal), StableHlo.after ([hostOps1] : List (List (HloOp τ sig (Elt Ideal)))).flatten U (Proc.devRef .tc main_v4) = layer (U (Proc.devRef .tc main_v0_3)) := fun U => by
      show StableHlo.after hostOps1 U (Proc.devRef .tc main_v4) = _
      first | after_results_simp | after_results_steps
      try rfl
    exact (e _).trans (congrArg layer (Pipeline.withArrays_arr spec0 (by decide) c (V0 m c) _ 8))
  rw [h, stored_square]
  funext i
  refine (extractStridedSlice_apply ![1, 0, 0] _ _ i (idx_main_v35 i) (fun a => match a with | ⟨0, _⟩ => rfl | ⟨1, _⟩ => (Nat.zero_add _).symm | ⟨2, _⟩ => (Nat.zero_add _).symm)).trans ?_
  rw [val_main_v35_apply]
  have h0 : (i 0).val < 1 := (i 0).isLt
  exact if_pos (by show (1 + (i 0).val) / 1 = 1; omega)
end Cert.StepSbOutLastIdeal.Hand

namespace Cert.StepSbOutFirstIdeal.Hand
open Cert.StepSbOutFirstIdeal Cert.StepSbOutFirstIdeal.Gen Cert.StepSbOutFirstReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x2048.size a ≤ S256x2048.size a := by decide
  have h0 : ∀ a, (![0, 0] a + 1) * S256x2048.size a ≤ S256x2048.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover the layer in each result. -/
theorem covers (a : (pcfg0 (F := Ideal)).Adm) : ((cfg0 a).win 5).CoversWhere (fun β => β (0 : Fin 3) = 0) ∧ ((cfg0 a).win 6).CoversWhere (fun β => β (0 : Fin 3) = 0)
    ∧ ((cfg0 a).win 7).CoversWhere (fun β => β (0 : Fin 3) = 0) ∧ ((cfg0 a).win 8).CoversWhere (fun β => β (0 : Fin 3) = 0) := by
  have h : ((cfg0 (F := Ideal) ⟨zeros, ok _⟩).win 5).CoversWhere (fun β => β (0 : Fin 3) = 0) := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![0, t.val, 0] ∧ ((grid0.coords t) 0).val = t.val ∧ ((grid0.coords t) 1).val = t.val % 1 ∧ t.val < 2 := by decide +kernel

/-- The blocks of the weight, the two moments and the four results at a step. -/
theorem idx (hO : Ok m) (t : Fin (cfgM m hO).N) : ((cfgM m hO).win 0).index t = ![0, t.val, 0] ∧ ((cfgM m hO).win 1).index t = ![0, t.val, 0] ∧ ((cfgM m hO).win 2).index t = ![0, t.val, 0]
    ∧ ((cfgM m hO).win 5).index t = ![0, t.val, 0] ∧ ((cfgM m hO).win 6).index t = ![0, t.val, 0] ∧ ((cfgM m hO).win 7).index t = ![0, t.val, 0] ∧ ((cfgM m hO).win 8).index t = ![0, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val) = word (tbl m) then t.val % 1 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val) = word (tbl m) then 0 else t.val % 1, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val) = word (tbl m)) (p : Fin 256) (q : Fin 2048) (k : S256x2048.Idx)
    (h0 : (k 0).val = t.val % 1 * 256 + p.val) (h1 : (k 1).val = q.val) : iblk m hO c 3 t (ix2 p q) = m ((c : Thread nD τ).loc main_arg3) k := by
  have hi := idx_mine m hO t
  rw [if_pos h] at hi
  blk_point [iblk, V_main_arg3 m c, V_main_arg4 m c, hi]

/-- The loaded block of the other half, at a step in it. -/
theorem other_at (hO : Ok m) (c : Dev nD) (t : Fin (cfgM m hO).N) (h : ¬ BitVec.ofNat 32 (t.val) = word (tbl m)) (p : Fin 256) (q : Fin 2048) (k : S256x2048.Idx)
    (h0 : (k 0).val = t.val % 1 * 256 + p.val) (h1 : (k 1).val = q.val) : iblk m hO c 4 t (ix2 p q) = m ((c : Thread nD τ).loc main_arg4) k := by
  have hi := idx_other m hO t
  rw [if_neg h] at hi
  blk_point [iblk, V_main_arg3 m c, V_main_arg4 m c, hi]

/-- The block of the gradient that a step chooses is the block of the two halves put together. -/
theorem gradient_at (hO : Ok m) (c : Dev nD) (t : Fin (cfgM m hO).N) (p : Fin 256) (q : Fin 2048) (j : S2x512x2048.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val) (P := (j 1).val < 256) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 256, by omega⟩ (j 2))) (g' := fun h => m ((c : Thread nD τ).loc main_arg4) (ix2 ⟨(j 1).val - 256, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 256 = _ by omega) h2⟩
  · exact ⟨fun h => other_at m hO c t hw p q _ (show (j 1).val = _ by omega) h2, fun h => other_at m hO c t hw p q _ (show (j 1).val - 256 = _ by omega) h2⟩

/-- The same at an index of a stored block. -/
theorem gradient_block (hO : Ok m) (c : Dev nD) (t : Fin (cfgM m hO).N) (y : S1x256x2048.Idx) (j : S2x512x2048.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order, in the layer. -/
theorem stored_gradient (hO : Ok m) (c : Dev nD) : (dats m hO 0 c).arrAt 5 (cfgM m hO).N = fun i => if (i 0 : ℕ) / 1 = 0 then val_main_v7 (F := Ideal) (m ((c : Thread nD τ).loc main_arg3)) (m ((c : Thread nD τ).loc main_arg4)) (m ((c : Thread nD τ).loc main_arg5)) i else (dats m hO 0 c).A 5 i := by
  refine (dats m hO 0 c).arrAt_eq_of_coversWhere 5 _ _ (covers _).1 (fun t _ y => ?_) (fun j => Iff.rfl)
  blk_simp
  rw [after0_5]; unfold outsAt0
  frame_out
  pointwise [k0_pay5, Memref.IsWhole.read_unread]
  have hi : (pcfg0.win (adm m hO) 5).index t = ![0, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient, in the layer. -/
theorem stored_mean (hO : Ok m) (c : Dev nD) : (dats m hO 0 c).arrAt 7 (cfgM m hO).N = fun i => if (i 0 : ℕ) / 1 = 0 then val_main_v12 (F := Ideal) (m ((c : Thread nD τ).loc main_arg1)) (m ((c : Thread nD τ).loc main_arg3)) (m ((c : Thread nD τ).loc main_arg4)) (m ((c : Thread nD τ).loc main_arg5)) i else (dats m hO 0 c).A 7 i := by
  refine (dats m hO 0 c).arrAt_eq_of_coversWhere 7 _ _ (covers _).2.2.1 (fun t _ y => ?_) (fun j => Iff.rfl)
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![0, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square, in the layer. -/
theorem stored_square (hO : Ok m) (c : Dev nD) : (dats m hO 0 c).arrAt 8 (cfgM m hO).N = fun i => if (i 0 : ℕ) / 1 = 0 then val_main_v18 (F := Ideal) (m ((c : Thread nD τ).loc main_arg2)) (m ((c : Thread nD τ).loc main_arg3)) (m ((c : Thread nD τ).loc main_arg4)) (m ((c : Thread nD τ).loc main_arg5)) i else (dats m hO 0 c).A 8 i := by
  refine (dats m hO 0 c).arrAt_eq_of_coversWhere 8 _ _ (covers _).2.2.2 (fun t _ y => ?_) (fun j => Iff.rfl)
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![0, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step, in the layer. -/
theorem stored_step (hO : Ok m) (c : Dev nD) : (dats m hO 0 c).arrAt 6 (cfgM m hO).N = fun i => if (i 0 : ℕ) / 1 = 0 then val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i else (dats m hO 0 c).A 6 i := by
  refine (dats m hO 0 c).arrAt_eq_of_coversWhere 6 _ _ (covers _).2.1 (fun t _ y => ?_) (fun j => Iff.rfl)
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![0, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)

theorem final_gradient (hO : Ok m) (c : Dev nD) : (dats m hO 0 c).arrAt 5 (cfgM m hO).N = val_main_v35 (F := Ideal) (m ((c : Thread nD τ).loc main_arg3)) (m ((c : Thread nD τ).loc main_arg4)) (m ((c : Thread nD τ).loc main_arg5)) (m ((c : Thread nD τ).loc main_arg6)) := by
  rw [stored_gradient]
  have h : (dats m hO 0 c).A 5 = m ((c : Thread nD τ).loc main_arg6) := by
    refine (A_eq m hO c 5).trans ?_
    show V m c main_v0_0 = _
    unfold V
    after_results
    rfl
  rw [h]
  funext i
  exact keep (i 0).val 0 _ _ (show (i 0).val < 4 from Nat.lt_of_lt_of_le (i 0).isLt (by decide)) (by decide)

theorem final_step (hO : Ok m) (c : Dev nD) : (dats m hO 0 c).arrAt 6 (cfgM m hO).N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  rw [stored_step]
  have h : (dats m hO 0 c).A 6 = m ((c : Thread nD τ).loc main_arg7) := by
    refine (A_eq m hO c 6).trans ?_
    show V m c main_v0_1 = _
    unfold V
    after_results
    rfl
  rw [h]
  funext i
  exact keep (i 0).val 0 _ _ (show (i 0).val < 4 from Nat.lt_of_lt_of_le (i 0).isLt (by decide)) (by decide)

theorem final_mean (hO : Ok m) (c : Dev nD) : (dats m hO 0 c).arrAt 7 (cfgM m hO).N = val_main_v37 (F := Ideal) (m ((c : Thread nD τ).loc main_arg1)) (m ((c : Thread nD τ).loc main_arg3)) (m ((c : Thread nD τ).loc main_arg4)) (m ((c : Thread nD τ).loc main_arg5)) (m ((c : Thread nD τ).loc main_arg8)) := by
  rw [stored_mean]
  have h : (dats m hO 0 c).A 7 = m ((c : Thread nD τ).loc main_arg8) := by
    refine (A_eq m hO c 7).trans ?_
    show V m c main_v0_2 = _
    unfold V
    after_results
    rfl
  rw [h]
  funext i
  exact keep (i 0).val 0 _ _ (show (i 0).val < 4 from Nat.lt_of_lt_of_le (i 0).isLt (by decide)) (by decide)

theorem final_square (hO : Ok m) (c : Dev nD) : (dats m hO 0 c).arrAt 8 (cfgM m hO).N = val_main_v38 (F := Ideal) (m ((c : Thread nD τ).loc main_arg2)) (m ((c : Thread nD τ).loc main_arg3)) (m ((c : Thread nD τ).loc main_arg4)) (m ((c : Thread nD τ).loc main_arg5)) (m ((c : Thread nD τ).loc main_arg9)) := by
  rw [stored_square]
  have h : (dats m hO 0 c).A 8 = m ((c : Thread nD τ).loc main_arg9) := by
    refine (A_eq m hO c 8).trans ?_
    show V m c main_v0_3 = _
    unfold V
    after_results
    rfl
  rw [h]
  funext i
  exact keep (i 0).val 0 _ _ (show (i 0).val < 4 from Nat.lt_of_lt_of_le (i 0).isLt (by decide)) (by decide)
end Cert.StepSbOutFirstIdeal.Hand
end
-- ==== Proof.ValLayersMlp.lean ====
/-
  What the AdamW steps of the last two layers of the weights of the perceptron write.
-/
module
public import proofs.«01_k».proof.Proof.Choice
public import proofs.«01_k».proof.Proof.Gen.StepMlpLastIdeal.Frame
public import proofs.«01_k».proof.Proof.Gen.StepMlpLastReferenceIdeal.Run
public import proofs.«01_k».proof.Proof.Gen.StepMlpLastReferenceIdeal.Read
public import proofs.«01_k».proof.Proof.Gen.StepMlpThirdIdeal.Frame
public import proofs.«01_k».proof.Proof.Gen.StepMlpThirdReferenceIdeal.Run
public import proofs.«01_k».proof.Proof.Gen.StepMlpThirdReferenceIdeal.Read
@[expose] public section
set_option maxRecDepth 16384
noncomputable section
open Idealize.ShloMosaic Idealize.ShloMosaic.TcCoe Idealize.SL.Sem
open Idealize.ShloMosaic.Pipeline (Dat)

namespace Cert.StepMlpLastIdeal.Hand
open Cert.StepMlpLastIdeal Cert.StepMlpLastIdeal.Gen Cert.StepMlpLastReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x2048.size a ≤ S1024x2048.size a := by decide
  have h0 : ∀ a, (![0, 0] a + 1) * S256x2048.size a ≤ S1024x2048.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover the layer in each result. -/
theorem covers (a : (pcfg0 (F := Ideal)).Adm) : ((cfg0 a).win 5).CoversWhere (fun β => β (0 : Fin 3) = 3) ∧ ((cfg0 a).win 6).CoversWhere (fun β => β (0 : Fin 3) = 3)
    ∧ ((cfg0 a).win 7).CoversWhere (fun β => β (0 : Fin 3) = 3) ∧ ((cfg0 a).win 8).CoversWhere (fun β => β (0 : Fin 3) = 3) := by
  have h : ((cfg0 (F := Ideal) ⟨zeros, ok _⟩).win 5).CoversWhere (fun β => β (0 : Fin 3) = 3) := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![3, t.val, 0] ∧ ((grid0.coords t) 0).val = t.val / 4 ∧ ((grid0.coords t) 1).val = t.val % 4 ∧ t.val < 8 := by decide +kernel

/-- The blocks of the weight, the two moments and the four results at a step. -/
theorem idx (hO : Ok m) (t : Fin (cfgM m hO).N) : ((cfgM m hO).win 0).index t = ![3, t.val, 0] ∧ ((cfgM m hO).win 1).index t = ![3, t.val, 0] ∧ ((cfgM m hO).win 2).index t = ![3, t.val, 0]
    ∧ ((cfgM m hO).win 5).index t = ![3, t.val, 0] ∧ ((cfgM m hO).win 6).index t = ![3, t.val, 0] ∧ ((cfgM m hO).win 7).index t = ![3, t.val, 0] ∧ ((cfgM m hO).win 8).index t = ![3, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val / 4) = word (tbl m) then t.val % 4 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val / 4) = word (tbl m) then 0 else t.val % 4, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val / 4) = word (tbl m)) (p : Fin 256) (q : Fin 2048) (k : S1024x2048.Idx)
    (h0 : (k 0).val = t.val % 4 * 256 + p.val) (h1 : (k 1).val = q.val) : iblk m hO c 3 t (ix2 p q) = m ((c : Thread nD τ).loc main_arg3) k := by
  have hi := idx_mine m hO t
  rw [if_pos h] at hi
  blk_point [iblk, V, hi]

/-- The loaded block of the other half, at a step in it. -/
theorem other_at (hO : Ok m) (c : Dev nD) (t : Fin (cfgM m hO).N) (h : ¬ BitVec.ofNat 32 (t.val / 4) = word (tbl m)) (p : Fin 256) (q : Fin 2048) (k : S1024x2048.Idx)
    (h0 : (k 0).val = t.val % 4 * 256 + p.val) (h1 : (k 1).val = q.val) : iblk m hO c 4 t (ix2 p q) = m ((c : Thread nD τ).loc main_arg4) k := by
  have hi := idx_other m hO t
  rw [if_neg h] at hi
  blk_point [iblk, V, hi]

/-- The block of the gradient that a step chooses is the block of the two halves put together. -/
theorem gradient_at (hO : Ok m) (c : Dev nD) (t : Fin (cfgM m hO).N) (p : Fin 256) (q : Fin 2048) (j : S4x2048x2048.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val / 4) (P := (j 1).val < 1024) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 1024, by omega⟩ (j 2))) (g' := fun h => m ((c : Thread nD τ).loc main_arg4) (ix2 ⟨(j 1).val - 1024, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 1024 = _ by omega) h2⟩
  · exact ⟨fun h => other_at m hO c t hw p q _ (show (j 1).val = _ by omega) h2, fun h => other_at m hO c t hw p q _ (show (j 1).val - 1024 = _ by omega) h2⟩

/-- The same at an index of a stored block. -/
theorem gradient_block (hO : Ok m) (c : Dev nD) (t : Fin (cfgM m hO).N) (y : S1x256x2048.Idx) (j : S4x2048x2048.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order, in the layer. -/
theorem stored_gradient (hO : Ok m) (c : Dev nD) : (dats m hO 0 c).arrAt 5 (cfgM m hO).N = fun i => if (i 0 : ℕ) / 1 = 3 then val_main_v7 (F := Ideal) (m ((c : Thread nD τ).loc main_arg3)) (m ((c : Thread nD τ).loc main_arg4)) (m ((c : Thread nD τ).loc main_arg5)) i else (dats m hO 0 c).A 5 i := by
  refine (dats m hO 0 c).arrAt_eq_of_coversWhere 5 _ _ (covers _).1 (fun t _ y => ?_) (fun j => Iff.rfl)
  blk_simp
  rw [after0_5]; unfold outsAt0
  frame_out
  pointwise [k0_pay5, Memref.IsWhole.read_unread]
  have hi : (pcfg0.win (adm m hO) 5).index t = ![3, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient, in the layer. -/
theorem stored_mean (hO : Ok m) (c : Dev nD) : (dats m hO 0 c).arrAt 7 (cfgM m hO).N = fun i => if (i 0 : ℕ) / 1 = 3 then val_main_v12 (F := Ideal) (m ((c : Thread nD τ).loc main_arg1)) (m ((c : Thread nD τ).loc main_arg3)) (m ((c : Thread nD τ).loc main_arg4)) (m ((c : Thread nD τ).loc main_arg5)) i else (dats m hO 0 c).A 7 i := by
  refine (dats m hO 0 c).arrAt_eq_of_coversWhere 7 _ _ (covers _).2.2.1 (fun t _ y => ?_) (fun j => Iff.rfl)
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![3, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square, in the layer. -/
theorem stored_square (hO : Ok m) (c : Dev nD) : (dats m hO 0 c).arrAt 8 (cfgM m hO).N = fun i => if (i 0 : ℕ) / 1 = 3 then val_main_v18 (F := Ideal) (m ((c : Thread nD τ).loc main_arg2)) (m ((c : Thread nD τ).loc main_arg3)) (m ((c : Thread nD τ).loc main_arg4)) (m ((c : Thread nD τ).loc main_arg5)) i else (dats m hO 0 c).A 8 i := by
  refine (dats m hO 0 c).arrAt_eq_of_coversWhere 8 _ _ (covers _).2.2.2 (fun t _ y => ?_) (fun j => Iff.rfl)
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![3, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step, in the layer. -/
theorem stored_step (hO : Ok m) (c : Dev nD) : (dats m hO 0 c).arrAt 6 (cfgM m hO).N = fun i => if (i 0 : ℕ) / 1 = 3 then val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i else (dats m hO 0 c).A 6 i := by
  refine (dats m hO 0 c).arrAt_eq_of_coversWhere 6 _ _ (covers _).2.1 (fun t _ y => ?_) (fun j => Iff.rfl)
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![3, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)

/-- The layer of a result. -/
abbrev layer (y : (⟨S4x2048x2048, .f32⟩ : BufTy).Contents (Elt Ideal)) : (⟨S1x2048x2048, .f32⟩ : BufTy).Contents (Elt Ideal) := extractStridedSlice S1x2048x2048 ![3, 0, 0] y slices_S4x2048x2048_S1x2048x2048_3_0_0

theorem final_gradient (hO : Ok m) (c : Dev nD) : Pipeline.afterTail pcfgs (fun _ => adm m hO) (dats m hO) 0 (V0 m) [hostOps1] c main_v1 = val_main_v32 (F := Ideal) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v1 = layer ((dats m hO 0 c).arrAt 5 (cfgM m hO).N) := by
    have e : ∀ U : Valuation τ sig (Elt Ideal), StableHlo.after ([hostOps1] : List (List (HloOp τ sig (Elt Ideal)))).flatten U (Proc.devRef .tc main_v1) = layer (U (Proc.devRef .tc main_v0_0)) := fun U => by
      show StableHlo.after hostOps1 U (Proc.devRef .tc main_v1) = _
      first | after_results_simp | after_results_steps
      try rfl
    exact (e _).trans (congrArg layer (Pipeline.withArrays_arr spec0 (by decide) c (V0 m c) _ 5))
  rw [h, stored_gradient]
  funext i
  refine (extractStridedSlice_apply ![3, 0, 0] _ _ i (idx_main_v32 i) (fun a => match a with | ⟨0, _⟩ => rfl | ⟨1, _⟩ => (Nat.zero_add _).symm | ⟨2, _⟩ => (Nat.zero_add _).symm)).trans ?_
  rw [val_main_v32_apply]
  have h0 : (i 0).val < 1 := (i 0).isLt
  exact if_pos (by show (3 + (i 0).val) / 1 = 3; omega)

theorem final_step (hO : Ok m) (c : Dev nD) : Pipeline.afterTail pcfgs (fun _ => adm m hO) (dats m hO) 0 (V0 m) [hostOps1] c main_v2 = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v2 = layer ((dats m hO 0 c).arrAt 6 (cfgM m hO).N) := by
    have e : ∀ U : Valuation τ sig (Elt Ideal), StableHlo.after ([hostOps1] : List (List (HloOp τ sig (Elt Ideal)))).flatten U (Proc.devRef .tc main_v2) = layer (U (Proc.devRef .tc main_v0_1)) := fun U => by
      show StableHlo.after hostOps1 U (Proc.devRef .tc main_v2) = _
      first | after_results_simp | after_results_steps
      try rfl
    exact (e _).trans (congrArg layer (Pipeline.withArrays_arr spec0 (by decide) c (V0 m c) _ 6))
  rw [h, stored_step]
  funext i
  refine (extractStridedSlice_apply ![3, 0, 0] _ _ i (idx_main_v33 i) (fun a => match a with | ⟨0, _⟩ => rfl | ⟨1, _⟩ => (Nat.zero_add _).symm | ⟨2, _⟩ => (Nat.zero_add _).symm)).trans ?_
  rw [val_main_v33_apply]
  have h0 : (i 0).val < 1 := (i 0).isLt
  exact if_pos (by show (3 + (i 0).val) / 1 = 3; omega)

theorem final_mean (hO : Ok m) (c : Dev nD) : Pipeline.afterTail pcfgs (fun _ => adm m hO) (dats m hO) 0 (V0 m) [hostOps1] c main_v3 = val_main_v34 (F := Ideal) (m ((c : Thread nD τ).loc main_arg1)) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v3 = layer ((dats m hO 0 c).arrAt 7 (cfgM m hO).N) := by
    have e : ∀ U : Valuation τ sig (Elt Ideal), StableHlo.after ([hostOps1] : List (List (HloOp τ sig (Elt Ideal)))).flatten U (Proc.devRef .tc main_v3) = layer (U (Proc.devRef .tc main_v0_2)) := fun U => by
      show StableHlo.after hostOps1 U (Proc.devRef .tc main_v3) = _
      first | after_results_simp | after_results_steps
      try rfl
    exact (e _).trans (congrArg layer (Pipeline.withArrays_arr spec0 (by decide) c (V0 m c) _ 7))
  rw [h, stored_mean]
  funext i
  refine (extractStridedSlice_apply ![3, 0, 0] _ _ i (idx_main_v34 i) (fun a => match a with | ⟨0, _⟩ => rfl | ⟨1, _⟩ => (Nat.zero_add _).symm | ⟨2, _⟩ => (Nat.zero_add _).symm)).trans ?_
  rw [val_main_v34_apply]
  have h0 : (i 0).val < 1 := (i 0).isLt
  exact if_pos (by show (3 + (i 0).val) / 1 = 3; omega)

theorem final_square (hO : Ok m) (c : Dev nD) : Pipeline.afterTail pcfgs (fun _ => adm m hO) (dats m hO) 0 (V0 m) [hostOps1] c main_v4 = val_main_v35 (F := Ideal) (m ((c : Thread nD τ).loc main_arg2)) (m ((c : Thread nD τ).loc main_arg3)) (m ((c : Thread nD τ).loc main_arg4)) (m ((c : Thread nD τ).loc main_arg5)) := by
  have h : Pipeline.afterTail pcfgs (fun _ => adm m hO) (dats m hO) 0 (V0 m) [hostOps1] c main_v4 = layer ((dats m hO 0 c).arrAt 8 (cfgM m hO).N) := by
    have e : ∀ U : Valuation τ sig (Elt Ideal), StableHlo.after ([hostOps1] : List (List (HloOp τ sig (Elt Ideal)))).flatten U (Proc.devRef .tc main_v4) = layer (U (Proc.devRef .tc main_v0_3)) := fun U => by
      show StableHlo.after hostOps1 U (Proc.devRef .tc main_v4) = _
      first | after_results_simp | after_results_steps
      try rfl
    exact (e _).trans (congrArg layer (Pipeline.withArrays_arr spec0 (by decide) c (V0 m c) _ 8))
  rw [h, stored_square]
  funext i
  refine (extractStridedSlice_apply ![3, 0, 0] _ _ i (idx_main_v35 i) (fun a => match a with | ⟨0, _⟩ => rfl | ⟨1, _⟩ => (Nat.zero_add _).symm | ⟨2, _⟩ => (Nat.zero_add _).symm)).trans ?_
  rw [val_main_v35_apply]
  have h0 : (i 0).val < 1 := (i 0).isLt
  exact if_pos (by show (3 + (i 0).val) / 1 = 3; omega)
end Cert.StepMlpLastIdeal.Hand

namespace Cert.StepMlpThirdIdeal.Hand
open Cert.StepMlpThirdIdeal Cert.StepMlpThirdIdeal.Gen Cert.StepMlpThirdReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x2048.size a ≤ S1024x2048.size a := by decide
  have h0 : ∀ a, (![0, 0] a + 1) * S256x2048.size a ≤ S1024x2048.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover the layer in each result. -/
theorem covers (a : (pcfg0 (F := Ideal)).Adm) : ((cfg0 a).win 5).CoversWhere (fun β => β (0 : Fin 3) = 2) ∧ ((cfg0 a).win 6).CoversWhere (fun β => β (0 : Fin 3) = 2)
    ∧ ((cfg0 a).win 7).CoversWhere (fun β => β (0 : Fin 3) = 2) ∧ ((cfg0 a).win 8).CoversWhere (fun β => β (0 : Fin 3) = 2) := by
  have h : ((cfg0 (F := Ideal) ⟨zeros, ok _⟩).win 5).CoversWhere (fun β => β (0 : Fin 3) = 2) := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![2, t.val, 0] ∧ ((grid0.coords t) 0).val = t.val / 4 ∧ ((grid0.coords t) 1).val = t.val % 4 ∧ t.val < 8 := by decide +kernel

/-- The blocks of the weight, the two moments and the four results at a step. -/
theorem idx (hO : Ok m) (t : Fin (cfgM m hO).N) : ((cfgM m hO).win 0).index t = ![2, t.val, 0] ∧ ((cfgM m hO).win 1).index t = ![2, t.val, 0] ∧ ((cfgM m hO).win 2).index t = ![2, t.val, 0]
    ∧ ((cfgM m hO).win 5).index t = ![2, t.val, 0] ∧ ((cfgM m hO).win 6).index t = ![2, t.val, 0] ∧ ((cfgM m hO).win 7).index t = ![2, t.val, 0] ∧ ((cfgM m hO).win 8).index t = ![2, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val / 4) = word (tbl m) then t.val % 4 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val / 4) = word (tbl m) then 0 else t.val % 4, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val / 4) = word (tbl m)) (p : Fin 256) (q : Fin 2048) (k : S1024x2048.Idx)
    (h0 : (k 0).val = t.val % 4 * 256 + p.val) (h1 : (k 1).val = q.val) : iblk m hO c 3 t (ix2 p q) = m ((c : Thread nD τ).loc main_arg3) k := by
  have hi := idx_mine m hO t
  rw [if_pos h] at hi
  blk_point [iblk, V_main_arg3 m c, V_main_arg4 m c, hi]

/-- The loaded block of the other half, at a step in it. -/
theorem other_at (hO : Ok m) (c : Dev nD) (t : Fin (cfgM m hO).N) (h : ¬ BitVec.ofNat 32 (t.val / 4) = word (tbl m)) (p : Fin 256) (q : Fin 2048) (k : S1024x2048.Idx)
    (h0 : (k 0).val = t.val % 4 * 256 + p.val) (h1 : (k 1).val = q.val) : iblk m hO c 4 t (ix2 p q) = m ((c : Thread nD τ).loc main_arg4) k := by
  have hi := idx_other m hO t
  rw [if_neg h] at hi
  blk_point [iblk, V_main_arg3 m c, V_main_arg4 m c, hi]

/-- The block of the gradient that a step chooses is the block of the two halves put together. -/
theorem gradient_at (hO : Ok m) (c : Dev nD) (t : Fin (cfgM m hO).N) (p : Fin 256) (q : Fin 2048) (j : S4x2048x2048.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val / 4) (P := (j 1).val < 1024) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 1024, by omega⟩ (j 2))) (g' := fun h => m ((c : Thread nD τ).loc main_arg4) (ix2 ⟨(j 1).val - 1024, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 1024 = _ by omega) h2⟩
  · exact ⟨fun h => other_at m hO c t hw p q _ (show (j 1).val = _ by omega) h2, fun h => other_at m hO c t hw p q _ (show (j 1).val - 1024 = _ by omega) h2⟩

/-- The same at an index of a stored block. -/
theorem gradient_block (hO : Ok m) (c : Dev nD) (t : Fin (cfgM m hO).N) (y : S1x256x2048.Idx) (j : S4x2048x2048.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order, in the layer. -/
theorem stored_gradient (hO : Ok m) (c : Dev nD) : (dats m hO 0 c).arrAt 5 (cfgM m hO).N = fun i => if (i 0 : ℕ) / 1 = 2 then val_main_v7 (F := Ideal) (m ((c : Thread nD τ).loc main_arg3)) (m ((c : Thread nD τ).loc main_arg4)) (m ((c : Thread nD τ).loc main_arg5)) i else (dats m hO 0 c).A 5 i := by
  refine (dats m hO 0 c).arrAt_eq_of_coversWhere 5 _ _ (covers _).1 (fun t _ y => ?_) (fun j => Iff.rfl)
  blk_simp
  rw [after0_5]; unfold outsAt0
  frame_out
  pointwise [k0_pay5, Memref.IsWhole.read_unread]
  have hi : (pcfg0.win (adm m hO) 5).index t = ![2, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient, in the layer. -/
theorem stored_mean (hO : Ok m) (c : Dev nD) : (dats m hO 0 c).arrAt 7 (cfgM m hO).N = fun i => if (i 0 : ℕ) / 1 = 2 then val_main_v12 (F := Ideal) (m ((c : Thread nD τ).loc main_arg1)) (m ((c : Thread nD τ).loc main_arg3)) (m ((c : Thread nD τ).loc main_arg4)) (m ((c : Thread nD τ).loc main_arg5)) i else (dats m hO 0 c).A 7 i := by
  refine (dats m hO 0 c).arrAt_eq_of_coversWhere 7 _ _ (covers _).2.2.1 (fun t _ y => ?_) (fun j => Iff.rfl)
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![2, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square, in the layer. -/
theorem stored_square (hO : Ok m) (c : Dev nD) : (dats m hO 0 c).arrAt 8 (cfgM m hO).N = fun i => if (i 0 : ℕ) / 1 = 2 then val_main_v18 (F := Ideal) (m ((c : Thread nD τ).loc main_arg2)) (m ((c : Thread nD τ).loc main_arg3)) (m ((c : Thread nD τ).loc main_arg4)) (m ((c : Thread nD τ).loc main_arg5)) i else (dats m hO 0 c).A 8 i := by
  refine (dats m hO 0 c).arrAt_eq_of_coversWhere 8 _ _ (covers _).2.2.2 (fun t _ y => ?_) (fun j => Iff.rfl)
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![2, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step, in the layer. -/
theorem stored_step (hO : Ok m) (c : Dev nD) : (dats m hO 0 c).arrAt 6 (cfgM m hO).N = fun i => if (i 0 : ℕ) / 1 = 2 then val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i else (dats m hO 0 c).A 6 i := by
  refine (dats m hO 0 c).arrAt_eq_of_coversWhere 6 _ _ (covers _).2.1 (fun t _ y => ?_) (fun j => Iff.rfl)
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![2, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)

theorem final_gradient (hO : Ok m) (c : Dev nD) : (dats m hO 0 c).arrAt 5 (cfgM m hO).N = val_main_v35 (F := Ideal) (m ((c : Thread nD τ).loc main_arg3)) (m ((c : Thread nD τ).loc main_arg4)) (m ((c : Thread nD τ).loc main_arg5)) (m ((c : Thread nD τ).loc main_arg6)) := by
  rw [stored_gradient]
  have h : (dats m hO 0 c).A 5 = m ((c : Thread nD τ).loc main_arg6) := by
    refine (A_eq m hO c 5).trans ?_
    show V m c main_v0_0 = _
    unfold V
    after_results
    rfl
  rw [h]
  funext i
  exact keep (i 0).val 2 _ _ (show (i 0).val < 4 from Nat.lt_of_lt_of_le (i 0).isLt (by decide)) (by decide)

theorem final_step (hO : Ok m) (c : Dev nD) : (dats m hO 0 c).arrAt 6 (cfgM m hO).N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  rw [stored_step]
  have h : (dats m hO 0 c).A 6 = m ((c : Thread nD τ).loc main_arg7) := by
    refine (A_eq m hO c 6).trans ?_
    show V m c main_v0_1 = _
    unfold V
    after_results
    rfl
  rw [h]
  funext i
  exact keep (i 0).val 2 _ _ (show (i 0).val < 4 from Nat.lt_of_lt_of_le (i 0).isLt (by decide)) (by decide)

theorem final_mean (hO : Ok m) (c : Dev nD) : (dats m hO 0 c).arrAt 7 (cfgM m hO).N = val_main_v37 (F := Ideal) (m ((c : Thread nD τ).loc main_arg1)) (m ((c : Thread nD τ).loc main_arg3)) (m ((c : Thread nD τ).loc main_arg4)) (m ((c : Thread nD τ).loc main_arg5)) (m ((c : Thread nD τ).loc main_arg8)) := by
  rw [stored_mean]
  have h : (dats m hO 0 c).A 7 = m ((c : Thread nD τ).loc main_arg8) := by
    refine (A_eq m hO c 7).trans ?_
    show V m c main_v0_2 = _
    unfold V
    after_results
    rfl
  rw [h]
  funext i
  exact keep (i 0).val 2 _ _ (show (i 0).val < 4 from Nat.lt_of_lt_of_le (i 0).isLt (by decide)) (by decide)

theorem final_square (hO : Ok m) (c : Dev nD) : (dats m hO 0 c).arrAt 8 (cfgM m hO).N = val_main_v38 (F := Ideal) (m ((c : Thread nD τ).loc main_arg2)) (m ((c : Thread nD τ).loc main_arg3)) (m ((c : Thread nD τ).loc main_arg4)) (m ((c : Thread nD τ).loc main_arg5)) (m ((c : Thread nD τ).loc main_arg9)) := by
  rw [stored_square]
  have h : (dats m hO 0 c).A 8 = m ((c : Thread nD τ).loc main_arg9) := by
    refine (A_eq m hO c 8).trans ?_
    show V m c main_v0_3 = _
    unfold V
    after_results
    rfl
  rw [h]
  funext i
  exact keep (i 0).val 2 _ _ (show (i 0).val < 4 from Nat.lt_of_lt_of_le (i 0).isLt (by decide)) (by decide)
end Cert.StepMlpThirdIdeal.Hand
end
-- ==== Proof.ValLayersMlpEarly.lean ====
/-
  What the AdamW steps of the first two layers of the weights of the perceptron write.
-/
module
public import proofs.«01_k».proof.Proof.Choice
public import proofs.«01_k».proof.Proof.Gen.StepMlpSecondIdeal.Frame
public import proofs.«01_k».proof.Proof.Gen.StepMlpSecondReferenceIdeal.Run
public import proofs.«01_k».proof.Proof.Gen.StepMlpSecondReferenceIdeal.Read
public import proofs.«01_k».proof.Proof.Gen.StepMlpFirstIdeal.Frame
public import proofs.«01_k».proof.Proof.Gen.StepMlpFirstReferenceIdeal.Run
public import proofs.«01_k».proof.Proof.Gen.StepMlpFirstReferenceIdeal.Read
@[expose] public section
set_option maxRecDepth 16384
noncomputable section
open Idealize.ShloMosaic Idealize.ShloMosaic.TcCoe Idealize.SL.Sem
open Idealize.ShloMosaic.Pipeline (Dat)

namespace Cert.StepMlpSecondIdeal.Hand
open Cert.StepMlpSecondIdeal Cert.StepMlpSecondIdeal.Gen Cert.StepMlpSecondReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x2048.size a ≤ S1024x2048.size a := by decide
  have h0 : ∀ a, (![0, 0] a + 1) * S256x2048.size a ≤ S1024x2048.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover the layer in each result. -/
theorem covers (a : (pcfg0 (F := Ideal)).Adm) : ((cfg0 a).win 5).CoversWhere (fun β => β (0 : Fin 3) = 1) ∧ ((cfg0 a).win 6).CoversWhere (fun β => β (0 : Fin 3) = 1)
    ∧ ((cfg0 a).win 7).CoversWhere (fun β => β (0 : Fin 3) = 1) ∧ ((cfg0 a).win 8).CoversWhere (fun β => β (0 : Fin 3) = 1) := by
  have h : ((cfg0 (F := Ideal) ⟨zeros, ok _⟩).win 5).CoversWhere (fun β => β (0 : Fin 3) = 1) := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![1, t.val, 0] ∧ ((grid0.coords t) 0).val = t.val / 4 ∧ ((grid0.coords t) 1).val = t.val % 4 ∧ t.val < 8 := by decide +kernel

/-- The blocks of the weight, the two moments and the four results at a step. -/
theorem idx (hO : Ok m) (t : Fin (cfgM m hO).N) : ((cfgM m hO).win 0).index t = ![1, t.val, 0] ∧ ((cfgM m hO).win 1).index t = ![1, t.val, 0] ∧ ((cfgM m hO).win 2).index t = ![1, t.val, 0]
    ∧ ((cfgM m hO).win 5).index t = ![1, t.val, 0] ∧ ((cfgM m hO).win 6).index t = ![1, t.val, 0] ∧ ((cfgM m hO).win 7).index t = ![1, t.val, 0] ∧ ((cfgM m hO).win 8).index t = ![1, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val / 4) = word (tbl m) then t.val % 4 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val / 4) = word (tbl m) then 0 else t.val % 4, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val / 4) = word (tbl m)) (p : Fin 256) (q : Fin 2048) (k : S1024x2048.Idx)
    (h0 : (k 0).val = t.val % 4 * 256 + p.val) (h1 : (k 1).val = q.val) : iblk m hO c 3 t (ix2 p q) = m ((c : Thread nD τ).loc main_arg3) k := by
  have hi := idx_mine m hO t
  rw [if_pos h] at hi
  blk_point [iblk, V_main_arg3 m c, V_main_arg4 m c, hi]

/-- The loaded block of the other half, at a step in it. -/
theorem other_at (hO : Ok m) (c : Dev nD) (t : Fin (cfgM m hO).N) (h : ¬ BitVec.ofNat 32 (t.val / 4) = word (tbl m)) (p : Fin 256) (q : Fin 2048) (k : S1024x2048.Idx)
    (h0 : (k 0).val = t.val % 4 * 256 + p.val) (h1 : (k 1).val = q.val) : iblk m hO c 4 t (ix2 p q) = m ((c : Thread nD τ).loc main_arg4) k := by
  have hi := idx_other m hO t
  rw [if_neg h] at hi
  blk_point [iblk, V_main_arg3 m c, V_main_arg4 m c, hi]

/-- The block of the gradient that a step chooses is the block of the two halves put together. -/
theorem gradient_at (hO : Ok m) (c : Dev nD) (t : Fin (cfgM m hO).N) (p : Fin 256) (q : Fin 2048) (j : S4x2048x2048.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val / 4) (P := (j 1).val < 1024) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 1024, by omega⟩ (j 2))) (g' := fun h => m ((c : Thread nD τ).loc main_arg4) (ix2 ⟨(j 1).val - 1024, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 1024 = _ by omega) h2⟩
  · exact ⟨fun h => other_at m hO c t hw p q _ (show (j 1).val = _ by omega) h2, fun h => other_at m hO c t hw p q _ (show (j 1).val - 1024 = _ by omega) h2⟩

/-- The same at an index of a stored block. -/
theorem gradient_block (hO : Ok m) (c : Dev nD) (t : Fin (cfgM m hO).N) (y : S1x256x2048.Idx) (j : S4x2048x2048.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order, in the layer. -/
theorem stored_gradient (hO : Ok m) (c : Dev nD) : (dats m hO 0 c).arrAt 5 (cfgM m hO).N = fun i => if (i 0 : ℕ) / 1 = 1 then val_main_v7 (F := Ideal) (m ((c : Thread nD τ).loc main_arg3)) (m ((c : Thread nD τ).loc main_arg4)) (m ((c : Thread nD τ).loc main_arg5)) i else (dats m hO 0 c).A 5 i := by
  refine (dats m hO 0 c).arrAt_eq_of_coversWhere 5 _ _ (covers _).1 (fun t _ y => ?_) (fun j => Iff.rfl)
  blk_simp
  rw [after0_5]; unfold outsAt0
  frame_out
  pointwise [k0_pay5, Memref.IsWhole.read_unread]
  have hi : (pcfg0.win (adm m hO) 5).index t = ![1, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient, in the layer. -/
theorem stored_mean (hO : Ok m) (c : Dev nD) : (dats m hO 0 c).arrAt 7 (cfgM m hO).N = fun i => if (i 0 : ℕ) / 1 = 1 then val_main_v12 (F := Ideal) (m ((c : Thread nD τ).loc main_arg1)) (m ((c : Thread nD τ).loc main_arg3)) (m ((c : Thread nD τ).loc main_arg4)) (m ((c : Thread nD τ).loc main_arg5)) i else (dats m hO 0 c).A 7 i := by
  refine (dats m hO 0 c).arrAt_eq_of_coversWhere 7 _ _ (covers _).2.2.1 (fun t _ y => ?_) (fun j => Iff.rfl)
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![1, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square, in the layer. -/
theorem stored_square (hO : Ok m) (c : Dev nD) : (dats m hO 0 c).arrAt 8 (cfgM m hO).N = fun i => if (i 0 : ℕ) / 1 = 1 then val_main_v18 (F := Ideal) (m ((c : Thread nD τ).loc main_arg2)) (m ((c : Thread nD τ).loc main_arg3)) (m ((c : Thread nD τ).loc main_arg4)) (m ((c : Thread nD τ).loc main_arg5)) i else (dats m hO 0 c).A 8 i := by
  refine (dats m hO 0 c).arrAt_eq_of_coversWhere 8 _ _ (covers _).2.2.2 (fun t _ y => ?_) (fun j => Iff.rfl)
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![1, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step, in the layer. -/
theorem stored_step (hO : Ok m) (c : Dev nD) : (dats m hO 0 c).arrAt 6 (cfgM m hO).N = fun i => if (i 0 : ℕ) / 1 = 1 then val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i else (dats m hO 0 c).A 6 i := by
  refine (dats m hO 0 c).arrAt_eq_of_coversWhere 6 _ _ (covers _).2.1 (fun t _ y => ?_) (fun j => Iff.rfl)
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![1, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)

theorem final_gradient (hO : Ok m) (c : Dev nD) : (dats m hO 0 c).arrAt 5 (cfgM m hO).N = val_main_v35 (F := Ideal) (m ((c : Thread nD τ).loc main_arg3)) (m ((c : Thread nD τ).loc main_arg4)) (m ((c : Thread nD τ).loc main_arg5)) (m ((c : Thread nD τ).loc main_arg6)) := by
  rw [stored_gradient]
  have h : (dats m hO 0 c).A 5 = m ((c : Thread nD τ).loc main_arg6) := by
    refine (A_eq m hO c 5).trans ?_
    show V m c main_v0_0 = _
    unfold V
    after_results
    rfl
  rw [h]
  funext i
  exact keep (i 0).val 1 _ _ (show (i 0).val < 4 from Nat.lt_of_lt_of_le (i 0).isLt (by decide)) (by decide)

theorem final_step (hO : Ok m) (c : Dev nD) : (dats m hO 0 c).arrAt 6 (cfgM m hO).N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  rw [stored_step]
  have h : (dats m hO 0 c).A 6 = m ((c : Thread nD τ).loc main_arg7) := by
    refine (A_eq m hO c 6).trans ?_
    show V m c main_v0_1 = _
    unfold V
    after_results
    rfl
  rw [h]
  funext i
  exact keep (i 0).val 1 _ _ (show (i 0).val < 4 from Nat.lt_of_lt_of_le (i 0).isLt (by decide)) (by decide)

theorem final_mean (hO : Ok m) (c : Dev nD) : (dats m hO 0 c).arrAt 7 (cfgM m hO).N = val_main_v37 (F := Ideal) (m ((c : Thread nD τ).loc main_arg1)) (m ((c : Thread nD τ).loc main_arg3)) (m ((c : Thread nD τ).loc main_arg4)) (m ((c : Thread nD τ).loc main_arg5)) (m ((c : Thread nD τ).loc main_arg8)) := by
  rw [stored_mean]
  have h : (dats m hO 0 c).A 7 = m ((c : Thread nD τ).loc main_arg8) := by
    refine (A_eq m hO c 7).trans ?_
    show V m c main_v0_2 = _
    unfold V
    after_results
    rfl
  rw [h]
  funext i
  exact keep (i 0).val 1 _ _ (show (i 0).val < 4 from Nat.lt_of_lt_of_le (i 0).isLt (by decide)) (by decide)

theorem final_square (hO : Ok m) (c : Dev nD) : (dats m hO 0 c).arrAt 8 (cfgM m hO).N = val_main_v38 (F := Ideal) (m ((c : Thread nD τ).loc main_arg2)) (m ((c : Thread nD τ).loc main_arg3)) (m ((c : Thread nD τ).loc main_arg4)) (m ((c : Thread nD τ).loc main_arg5)) (m ((c : Thread nD τ).loc main_arg9)) := by
  rw [stored_square]
  have h : (dats m hO 0 c).A 8 = m ((c : Thread nD τ).loc main_arg9) := by
    refine (A_eq m hO c 8).trans ?_
    show V m c main_v0_3 = _
    unfold V
    after_results
    rfl
  rw [h]
  funext i
  exact keep (i 0).val 1 _ _ (show (i 0).val < 4 from Nat.lt_of_lt_of_le (i 0).isLt (by decide)) (by decide)
end Cert.StepMlpSecondIdeal.Hand

namespace Cert.StepMlpFirstIdeal.Hand
open Cert.StepMlpFirstIdeal Cert.StepMlpFirstIdeal.Gen Cert.StepMlpFirstReferenceIdeal.Read Cert.Proof

/-- The word that says which half is the device's own. -/
abbrev word {F : FTy → Type} [FloatOps F] (pf : pre0.Contents (Elt F)) : BitVec 32 := pf.at 0 (Rect.unit (s := S1) ![0] S1.size inb_S1_S1_0) numel1_S1

/-- The block of the device's own half that a step loads: its own when the step is in that half, else the first. -/
theorem map_mine {F : FTy → Type} [FloatOps F] (pf : pre0.Contents (Elt F)) (i : grid0.Coords) : cc0_transform_3 inb_S1_S1_0 numel1_S1 pf i = ![if BitVec.ofNat 32 (i 0).val = word pf then (i 1).val else 0, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (BitVec.ofNat 32 (i 1).val) (0#32))).trans ?_
  split <;> simp [h]

/-- The block of the other half that a step loads. -/
theorem map_other {F : FTy → Type} [FloatOps F] (pf : pre0.Contents (Elt F)) (i : grid0.Coords) : cc0_transform_4 inb_S1_S1_0 numel1_S1 pf i = ![if BitVec.ofNat 32 (i 0).val = word pf then 0 else (i 1).val, 0] := by
  have h : ∀ (i : grid0.Coords), (BitVec.ofNat 32 (i 1).val).toNat = (i 1).val := by decide
  refine (congrArg (fun x : BitVec 32 => ![x.toNat, 0]) (select_eq (BitVec.ofNat 32 (i 0).val) (word pf) (0#32) (BitVec.ofNat 32 (i 1).val))).trans ?_
  split <;> simp [h]

/-- Whatever the word is, the blocks of the halves are inside them. -/
theorem ok {F : FTy → Type} [FloatOps F] (pf : pre0.Contents (Elt F)) : ok0 pf := by
  have h : ∀ (i : grid0.Coords) a, (![(i 1).val, 0] a + 1) * S256x2048.size a ≤ S1024x2048.size a := by decide
  have h0 : ∀ a, (![0, 0] a + 1) * S256x2048.size a ≤ S1024x2048.size a := by decide
  refine ⟨fun i => ⟨fun a => ?_, .inl rfl⟩, fun i => ⟨fun a => ?_, .inl rfl⟩⟩
  · rw [map_mine]; split
    · exact h i a
    · exact h0 a
  · rw [map_other]; split
    · exact h0 a
    · exact h i a

/-- Contents of the table to count the blocks at: which blocks a step stores does not depend on them. -/
def zeros : pre0.Contents (Elt Ideal) := fun j => match j with | 0 => fun _ => (0#32 : BitVec 32)

/-- The stored blocks cover the layer in each result. -/
theorem covers (a : (pcfg0 (F := Ideal)).Adm) : ((cfg0 a).win 5).CoversWhere (fun β => β (0 : Fin 3) = 0) ∧ ((cfg0 a).win 6).CoversWhere (fun β => β (0 : Fin 3) = 0)
    ∧ ((cfg0 a).win 7).CoversWhere (fun β => β (0 : Fin 3) = 0) ∧ ((cfg0 a).win 8).CoversWhere (fun β => β (0 : Fin 3) = 0) := by
  have h : ((cfg0 (F := Ideal) ⟨zeros, ok _⟩).win 5).CoversWhere (fun β => β (0 : Fin 3) = 0) := by decide +kernel
  exact ⟨h, h, h, h⟩

variable (m : (ℓ : Loc nD τ sig) → Buf (Elt Ideal) ℓ)

/-- Step `t` stores block `t`; its first coordinate says the half, its second the block in it. -/
theorem place : ∀ t : Fin grid0.N, cc0_transform_0 (grid0.coords t) = ![0, t.val, 0] ∧ ((grid0.coords t) 0).val = t.val / 4 ∧ ((grid0.coords t) 1).val = t.val % 4 ∧ t.val < 8 := by decide +kernel

/-- The blocks of the weight, the two moments and the four results at a step. -/
theorem idx (hO : Ok m) (t : Fin (cfgM m hO).N) : ((cfgM m hO).win 0).index t = ![0, t.val, 0] ∧ ((cfgM m hO).win 1).index t = ![0, t.val, 0] ∧ ((cfgM m hO).win 2).index t = ![0, t.val, 0]
    ∧ ((cfgM m hO).win 5).index t = ![0, t.val, 0] ∧ ((cfgM m hO).win 6).index t = ![0, t.val, 0] ∧ ((cfgM m hO).win 7).index t = ![0, t.val, 0] ∧ ((cfgM m hO).win 8).index t = ![0, t.val, 0] :=
  have h := (place t).1
  ⟨h, h, h, h, h, h, h⟩

/-- The block of the device's own half at a step. -/
theorem idx_mine (hO : Ok m) (t : Fin (cfgM m hO).N) : ((cfgM m hO).win 3).index t = ![if BitVec.ofNat 32 (t.val / 4) = word (tbl m) then t.val % 4 else 0, 0] :=
  (map_mine (tbl m) (grid0.coords t)).trans (by rw [(place t).2.1, (place t).2.2.1])

/-- The block of the other half at a step. -/
theorem idx_other (hO : Ok m) (t : Fin (cfgM m hO).N) : ((cfgM m hO).win 4).index t = ![if BitVec.ofNat 32 (t.val / 4) = word (tbl m) then 0 else t.val % 4, 0] :=
  (map_other (tbl m) (grid0.coords t)).trans (by rw [(place t).2.1, (place t).2.2.1])

/-- The word as the reference reads it. -/
theorem word_eq (c : Dev nD) : (m ((c : Thread nD τ).loc main_arg5) (ix1 0) : BitVec 32) = word (tbl m) := by
  obtain rfl : c = 0 := Subsingleton.elim _ _
  exact congrArg (m (((0 : Dev nD) : Thread nD τ).loc main_arg5)) (funext fun a => match a with | ⟨0, _⟩ => rfl)

/-- The loaded block of the device's own half, at a step in that half. -/
theorem mine_at (hO : Ok m) (c : Dev nD) (t : Fin (cfgM m hO).N) (h : BitVec.ofNat 32 (t.val / 4) = word (tbl m)) (p : Fin 256) (q : Fin 2048) (k : S1024x2048.Idx)
    (h0 : (k 0).val = t.val % 4 * 256 + p.val) (h1 : (k 1).val = q.val) : iblk m hO c 3 t (ix2 p q) = m ((c : Thread nD τ).loc main_arg3) k := by
  have hi := idx_mine m hO t
  rw [if_pos h] at hi
  blk_point [iblk, V_main_arg3 m c, V_main_arg4 m c, hi]

/-- The loaded block of the other half, at a step in it. -/
theorem other_at (hO : Ok m) (c : Dev nD) (t : Fin (cfgM m hO).N) (h : ¬ BitVec.ofNat 32 (t.val / 4) = word (tbl m)) (p : Fin 256) (q : Fin 2048) (k : S1024x2048.Idx)
    (h0 : (k 0).val = t.val % 4 * 256 + p.val) (h1 : (k 1).val = q.val) : iblk m hO c 4 t (ix2 p q) = m ((c : Thread nD τ).loc main_arg4) k := by
  have hi := idx_other m hO t
  rw [if_neg h] at hi
  blk_point [iblk, V_main_arg3 m c, V_main_arg4 m c, hi]

/-- The block of the gradient that a step chooses is the block of the two halves put together. -/
theorem gradient_at (hO : Ok m) (c : Dev nD) (t : Fin (cfgM m hO).N) (p : Fin 256) (q : Fin 2048) (j : S4x2048x2048.Idx) (hj : (j 1).val = t.val * 256 + p.val ∧ (j 2).val = q.val) :
    k0_pay4 (F := Ideal) (grid0.coords t) (word (tbl m)) (iblk m hO c 3 t) (iblk m hO c 4 t) (ix2 p q)
      = val_main_v7 (F := Ideal) (m ((c : Thread nD τ).loc main_arg3)) (m ((c : Thread nD τ).loc main_arg4)) (m ((c : Thread nD τ).loc main_arg5)) j := by
  obtain ⟨h1, h2⟩ := hj
  obtain ⟨-, e0, e1, e2⟩ := place t
  pointwise [k0_pay4, val_main_v7, val_main_v6, val_main_v5, val_main_v4, val_main_v3, val_main_v2, val_main_v1, val_main_v0, val_main_c, val_main_c_0, select_eq, select_eq', word_eq, e0]
  have hp := p.isLt
  refine choose (k := t.val / 4) (P := (j 1).val < 1024) (f := fun h => m ((c : Thread nD τ).loc main_arg3) (ix2 ⟨(j 1).val, h⟩ (j 2))) (g := fun h => m ((c : Thread nD τ).loc main_arg4) (ix2 ⟨(j 1).val, h⟩ (j 2)))
    (f' := fun h => m ((c : Thread nD τ).loc main_arg3) (ix2 ⟨(j 1).val - 1024, by omega⟩ (j 2))) (g' := fun h => m ((c : Thread nD τ).loc main_arg4) (ix2 ⟨(j 1).val - 1024, by omega⟩ (j 2)))
    (fun h => by omega) (fun h => by omega) (fun hw => ?_) fun hw => ?_
  · exact ⟨fun h => mine_at m hO c t hw p q _ (show (j 1).val = _ by omega) h2, fun h => mine_at m hO c t hw p q _ (show (j 1).val - 1024 = _ by omega) h2⟩
  · exact ⟨fun h => other_at m hO c t hw p q _ (show (j 1).val = _ by omega) h2, fun h => other_at m hO c t hw p q _ (show (j 1).val - 1024 = _ by omega) h2⟩

/-- The same at an index of a stored block. -/
theorem gradient_block (hO : Ok m) (c : Dev nD) (t : Fin (cfgM m hO).N) (y : S1x256x2048.Idx) (j : S4x2048x2048.Idx) (hj : (j 1).val = t.val * 256 + (y 1).val ∧ (j 2).val = (y 2).val) :
    k0_pay4 (F := Ideal) (grid0.coords t) (word (tbl m)) (iblk m hO c 3 t) (iblk m hO c 4 t) (ix2 (y 1) (y 2)) = val_main_v7 (F := Ideal) (m ((c : Thread nD τ).loc main_arg3)) (m ((c : Thread nD τ).loc main_arg4)) (m ((c : Thread nD τ).loc main_arg5)) j :=
  gradient_at m hO c t (y 1) (y 2) j hj

/-- The gradient, its halves in order, in the layer. -/
theorem stored_gradient (hO : Ok m) (c : Dev nD) : (dats m hO 0 c).arrAt 5 (cfgM m hO).N = fun i => if (i 0 : ℕ) / 1 = 0 then val_main_v7 (F := Ideal) (m ((c : Thread nD τ).loc main_arg3)) (m ((c : Thread nD τ).loc main_arg4)) (m ((c : Thread nD τ).loc main_arg5)) i else (dats m hO 0 c).A 5 i := by
  refine (dats m hO 0 c).arrAt_eq_of_coversWhere 5 _ _ (covers _).1 (fun t _ y => ?_) (fun j => Iff.rfl)
  blk_simp
  rw [after0_5]; unfold outsAt0
  frame_out
  pointwise [k0_pay5, Memref.IsWhole.read_unread]
  have hi : (pcfg0.win (adm m hO) 5).index t = ![0, t.val, 0] := (place t).1
  have hg := gradient_block m hO c t y (((spec0 5).arr.view.slice ((pcfg0.win (adm m hO) 5).rect t)).emb y) ⟨by blk_simp; rw [hi]; rfl, by blk_simp; rw [hi]; simp⟩
  exact hg

/-- The new mean of the gradient, in the layer. -/
theorem stored_mean (hO : Ok m) (c : Dev nD) : (dats m hO 0 c).arrAt 7 (cfgM m hO).N = fun i => if (i 0 : ℕ) / 1 = 0 then val_main_v12 (F := Ideal) (m ((c : Thread nD τ).loc main_arg1)) (m ((c : Thread nD τ).loc main_arg3)) (m ((c : Thread nD τ).loc main_arg4)) (m ((c : Thread nD τ).loc main_arg5)) i else (dats m hO 0 c).A 7 i := by
  refine (dats m hO 0 c).arrAt_eq_of_coversWhere 7 _ _ (covers _).2.2.1 (fun t _ y => ?_) (fun j => Iff.rfl)
  blk_simp
  rw [after0_7]; unfold outsAt0
  frame_out
  pointwise [k0_pay2, k0_pay7, Memref.IsWhole.read_unread, val_main_v8, val_main_v9, val_main_v10, val_main_v11, val_main_v12, val_main_cst, val_main_cst_1]
  have hi : (pcfg0.win (adm m hO) 7).index t = ![0, t.val, 0] := (place t).1
  have hg := gradient_block m hO c t y (((spec0 7).arr.view.slice ((pcfg0.win (adm m hO) 7).rect t)).emb y) ⟨by blk_simp; rw [hi]; rfl, by blk_simp; rw [hi]; simp⟩
  exact congrArg₂ (· + ·) rfl (congrArg (_ * ·) hg)

/-- The new mean of the gradient's square, in the layer. -/
theorem stored_square (hO : Ok m) (c : Dev nD) : (dats m hO 0 c).arrAt 8 (cfgM m hO).N = fun i => if (i 0 : ℕ) / 1 = 0 then val_main_v18 (F := Ideal) (m ((c : Thread nD τ).loc main_arg2)) (m ((c : Thread nD τ).loc main_arg3)) (m ((c : Thread nD τ).loc main_arg4)) (m ((c : Thread nD τ).loc main_arg5)) i else (dats m hO 0 c).A 8 i := by
  refine (dats m hO 0 c).arrAt_eq_of_coversWhere 8 _ _ (covers _).2.2.2 (fun t _ y => ?_) (fun j => Iff.rfl)
  blk_simp
  rw [after0_8]; unfold outsAt0
  frame_out
  pointwise [k0_pay3, k0_pay8, Memref.IsWhole.read_unread, val_main_v13, val_main_v14, val_main_v15, val_main_v16, val_main_v17, val_main_v18, val_main_cst_2, val_main_cst_3]
  have hi : (pcfg0.win (adm m hO) 8).index t = ![0, t.val, 0] := (place t).1
  have hg := gradient_block m hO c t y (((spec0 8).arr.view.slice ((pcfg0.win (adm m hO) 8).rect t)).emb y) ⟨by blk_simp; rw [hi]; rfl, by blk_simp; rw [hi]; simp⟩
  exact congrArg₂ (· + ·) rfl (congrArg (fun x => _ * (x * x)) hg)

/-- The step, in the layer. -/
theorem stored_step (hO : Ok m) (c : Dev nD) : (dats m hO 0 c).arrAt 6 (cfgM m hO).N = fun i => if (i 0 : ℕ) / 1 = 0 then val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i else (dats m hO 0 c).A 6 i := by
  refine (dats m hO 0 c).arrAt_eq_of_coversWhere 6 _ _ (covers _).2.1 (fun t _ y => ?_) (fun j => Iff.rfl)
  blk_simp
  rw [after0_6]; unfold outsAt0
  frame_out
  pointwise [k0_pay1, k0_pay6, k0_pay9, k0_pay7, k0_pay8, Memref.IsWhole.read_unread, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_1, val_main_cst_2, val_main_cst_3, val_main_cst_4, val_main_cst_5, val_main_cst_6, val_main_cst_7, val_main_cst_8]
  have hi : (pcfg0.win (adm m hO) 6).index t = ![0, t.val, 0] := (place t).1
  have hg := gradient_block m hO c t y (((spec0 6).arr.view.slice ((pcfg0.win (adm m hO) 6).rect t)).emb y) ⟨by blk_simp; rw [hi]; rfl, by blk_simp; rw [hi]; simp⟩
  refine congrArg (_ * ·) (congrArg₂ (· + ·) (congrArg₂ Ideal.div (congrArg (Ideal.div · _) ?_) (congrArg (fun x => Ideal.sqrt (Ideal.div x _) + _) ?_)) (congrArg (_ * ·) rfl))
  · exact congrArg₂ (· + ·) rfl (congrArg (_ * ·) hg)
  · exact congrArg₂ (· + ·) rfl (congrArg (fun x => _ * (x * x)) hg)

theorem final_gradient (hO : Ok m) (c : Dev nD) : (dats m hO 0 c).arrAt 5 (cfgM m hO).N = val_main_v35 (F := Ideal) (m ((c : Thread nD τ).loc main_arg3)) (m ((c : Thread nD τ).loc main_arg4)) (m ((c : Thread nD τ).loc main_arg5)) (m ((c : Thread nD τ).loc main_arg6)) := by
  rw [stored_gradient]
  have h : (dats m hO 0 c).A 5 = m ((c : Thread nD τ).loc main_arg6) := by
    refine (A_eq m hO c 5).trans ?_
    show V m c main_v0_0 = _
    unfold V
    after_results
    rfl
  rw [h]
  funext i
  exact keep (i 0).val 0 _ _ (show (i 0).val < 4 from Nat.lt_of_lt_of_le (i 0).isLt (by decide)) (by decide)

theorem final_step (hO : Ok m) (c : Dev nD) : (dats m hO 0 c).arrAt 6 (cfgM m hO).N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  rw [stored_step]
  have h : (dats m hO 0 c).A 6 = m ((c : Thread nD τ).loc main_arg7) := by
    refine (A_eq m hO c 6).trans ?_
    show V m c main_v0_1 = _
    unfold V
    after_results
    rfl
  rw [h]
  funext i
  exact keep (i 0).val 0 _ _ (show (i 0).val < 4 from Nat.lt_of_lt_of_le (i 0).isLt (by decide)) (by decide)

theorem final_mean (hO : Ok m) (c : Dev nD) : (dats m hO 0 c).arrAt 7 (cfgM m hO).N = val_main_v37 (F := Ideal) (m ((c : Thread nD τ).loc main_arg1)) (m ((c : Thread nD τ).loc main_arg3)) (m ((c : Thread nD τ).loc main_arg4)) (m ((c : Thread nD τ).loc main_arg5)) (m ((c : Thread nD τ).loc main_arg8)) := by
  rw [stored_mean]
  have h : (dats m hO 0 c).A 7 = m ((c : Thread nD τ).loc main_arg8) := by
    refine (A_eq m hO c 7).trans ?_
    show V m c main_v0_2 = _
    unfold V
    after_results
    rfl
  rw [h]
  funext i
  exact keep (i 0).val 0 _ _ (show (i 0).val < 4 from Nat.lt_of_lt_of_le (i 0).isLt (by decide)) (by decide)

theorem final_square (hO : Ok m) (c : Dev nD) : (dats m hO 0 c).arrAt 8 (cfgM m hO).N = val_main_v38 (F := Ideal) (m ((c : Thread nD τ).loc main_arg2)) (m ((c : Thread nD τ).loc main_arg3)) (m ((c : Thread nD τ).loc main_arg4)) (m ((c : Thread nD τ).loc main_arg5)) (m ((c : Thread nD τ).loc main_arg9)) := by
  rw [stored_square]
  have h : (dats m hO 0 c).A 8 = m ((c : Thread nD τ).loc main_arg9) := by
    refine (A_eq m hO c 8).trans ?_
    show V m c main_v0_3 = _
    unfold V
    after_results
    rfl
  rw [h]
  funext i
  exact keep (i 0).val 0 _ _ (show (i 0).val < 4 from Nat.lt_of_lt_of_le (i 0).isLt (by decide)) (by decide)
end Cert.StepMlpFirstIdeal.Hand
end
-- ==== Proof.ClaimLayers.lean ====
/-
  The claims of the AdamW steps of one layer among several: each program and its idealization leave their arguments as they were, and so does
  the reference; the idealization and the reference end with equal results.
-/
module
public import proofs.«01_k».proof.Proof.SameLayers
public import proofs.«01_k».proof.Proof.ValLayersSbIn
public import proofs.«01_k».proof.Proof.ValLayersSbOut
public import proofs.«01_k».proof.Proof.ValLayersMlp
public import proofs.«01_k».proof.Proof.ValLayersMlpEarly
@[expose] public section
set_option maxRecDepth 16384
noncomputable section
open Idealize.ShloMosaic Idealize.ShloMosaic.TcCoe Idealize.SL.Sem

namespace Cert.Proof.StepSbInLast
theorem frame_kernel : Cert.quiescent_StepSbInLast := fun m ρ _ => by
  rw [show (onTc (τ := Cert.StepSbInLast.τ) (Cert.StepSbInLast.main (F := Bits))) = onTc (τ := Cert.StepSbInLastIdeal.τ) (Cert.StepSbInLastIdeal.main (F := Bits)) from
    congrArg (onTc (τ := Cert.StepSbInLastIdeal.τ)) stepSbInLast_main, stepSbInLast_defs]
  exact Cert.StepSbInLastIdeal.Gen.frame (F := Bits) m ρ (Cert.StepSbInLastIdeal.Hand.ok _)

theorem frame_ideal : Cert.quiescent_StepSbInLastIdeal := fun m ρ _ => Cert.StepSbInLastIdeal.Gen.frame (F := Ideal) m ρ (Cert.StepSbInLastIdeal.Hand.ok _)

theorem frame_reference : Cert.quiescent_StepSbInLastReferenceIdeal := fun m ρ _ =>
  (θ_run Cert.StepSbInLastReferenceIdeal.defs _ _).mono (fun r h => ⟨fun c => (h c).2.2.2.2, sem_eq_zero_of_no_sems (by decide) r.2⟩)
    (Cert.StepSbInLastReferenceIdeal.Value.run (F := Ideal) m ρ)

theorem values : Cert.algebraic_StepSbInLastIdeal_StepSbInLastReferenceIdeal := by
  intro m g m' g' _ hagree
  have ok := Cert.StepSbInLastIdeal.Hand.ok (Cert.StepSbInLastIdeal.Gen.tbl m)
  refine ⟨_, _, _, _, (θ_run Cert.StepSbInLastIdeal.defs _ _).mono (fun r h c => ⟨((h.1 c).2 Cert.StepSbInLastIdeal.main_v1 (by decide : Cert.StepSbInLastIdeal.main_v1 ∈ Pipeline.restRefs Cert.StepSbInLastIdeal.sig Cert.StepSbInLastIdeal.spec0)).trans (Cert.StepSbInLastIdeal.Hand.final_gradient m ok c), ((h.1 c).2 Cert.StepSbInLastIdeal.main_v2 (by decide : Cert.StepSbInLastIdeal.main_v2 ∈ Pipeline.restRefs Cert.StepSbInLastIdeal.sig Cert.StepSbInLastIdeal.spec0)).trans (Cert.StepSbInLastIdeal.Hand.final_step m ok c), ((h.1 c).2 Cert.StepSbInLastIdeal.main_v3 (by decide : Cert.StepSbInLastIdeal.main_v3 ∈ Pipeline.restRefs Cert.StepSbInLastIdeal.sig Cert.StepSbInLastIdeal.spec0)).trans (Cert.StepSbInLastIdeal.Hand.final_mean m ok c), ((h.1 c).2 Cert.StepSbInLastIdeal.main_v4 (by decide : Cert.StepSbInLastIdeal.main_v4 ∈ Pipeline.restRefs Cert.StepSbInLastIdeal.sig Cert.StepSbInLastIdeal.spec0)).trans (Cert.StepSbInLastIdeal.Hand.final_square m ok c), h.2 c⟩)
    (θ_run_and (Cert.StepSbInLastIdeal.Gen.run_main m g ok) (Cert.StepSbInLastIdeal.Gen.unchanged m g ok)), ?_⟩
  refine (θ_run Cert.StepSbInLastReferenceIdeal.defs _ _).mono (fun r h c => ⟨(h c).1.trans ?_, (h c).2.1.trans ?_, (h c).2.2.1.trans ?_, (h c).2.2.2.1.trans ?_, (h c).2.2.2.2⟩) (Cert.StepSbInLastReferenceIdeal.Value.run (F := Ideal) m' g')
  · refine (Cert.StepSbInLastReferenceIdeal.Read.val_main_v32_eq _ _ _).trans ?_
    rw [(hagree c).2.2.2.1, (hagree c).2.2.2.2.1, (hagree c).2.2.2.2.2]
  · refine (Cert.StepSbInLastReferenceIdeal.Read.val_main_v33_eq _ _ _ _ _ _).trans ?_
    rw [(hagree c).1, (hagree c).2.1, (hagree c).2.2.1, (hagree c).2.2.2.1, (hagree c).2.2.2.2.1, (hagree c).2.2.2.2.2]
  · refine (Cert.StepSbInLastReferenceIdeal.Read.val_main_v34_eq _ _ _ _).trans ?_
    rw [(hagree c).2.1, (hagree c).2.2.2.1, (hagree c).2.2.2.2.1, (hagree c).2.2.2.2.2]
  · refine (Cert.StepSbInLastReferenceIdeal.Read.val_main_v35_eq _ _ _ _).trans ?_
    rw [(hagree c).2.2.1, (hagree c).2.2.2.1, (hagree c).2.2.2.2.1, (hagree c).2.2.2.2.2]
end Cert.Proof.StepSbInLast

namespace Cert.Proof.StepSbInFirst
theorem frame_kernel : Cert.quiescent_StepSbInFirst := fun m ρ _ => by
  rw [show (onTc (τ := Cert.StepSbInFirst.τ) (Cert.StepSbInFirst.main (F := Bits))) = onTc (τ := Cert.StepSbInFirstIdeal.τ) (Cert.StepSbInFirstIdeal.main (F := Bits)) from
    congrArg (onTc (τ := Cert.StepSbInFirstIdeal.τ)) stepSbInFirst_main, stepSbInFirst_defs]
  exact Cert.StepSbInFirstIdeal.Gen.frame (F := Bits) m ρ (Cert.StepSbInFirstIdeal.Hand.ok _)

theorem frame_ideal : Cert.quiescent_StepSbInFirstIdeal := fun m ρ _ => Cert.StepSbInFirstIdeal.Gen.frame (F := Ideal) m ρ (Cert.StepSbInFirstIdeal.Hand.ok _)

theorem frame_reference : Cert.quiescent_StepSbInFirstReferenceIdeal := fun m ρ _ =>
  (θ_run Cert.StepSbInFirstReferenceIdeal.defs _ _).mono (fun r h => ⟨fun c => (h c).2.2.2.2, sem_eq_zero_of_no_sems (by decide) r.2⟩)
    (Cert.StepSbInFirstReferenceIdeal.Value.run (F := Ideal) m ρ)

theorem values : Cert.algebraic_StepSbInFirstIdeal_StepSbInFirstReferenceIdeal := by
  intro m g m' g' _ hagree
  have ok := Cert.StepSbInFirstIdeal.Hand.ok (Cert.StepSbInFirstIdeal.Gen.tbl m)
  refine ⟨_, _, _, _, (θ_run Cert.StepSbInFirstIdeal.defs _ _).mono (fun r h c => ⟨((h.1 c).1 5).trans (Cert.StepSbInFirstIdeal.Hand.final_gradient m ok c), ((h.1 c).1 6).trans (Cert.StepSbInFirstIdeal.Hand.final_step m ok c), ((h.1 c).1 7).trans (Cert.StepSbInFirstIdeal.Hand.final_mean m ok c), ((h.1 c).1 8).trans (Cert.StepSbInFirstIdeal.Hand.final_square m ok c), h.2 c⟩)
    (θ_run_and (Cert.StepSbInFirstIdeal.Gen.run_main m g ok) (Cert.StepSbInFirstIdeal.Gen.unchanged m g ok)), ?_⟩
  refine (θ_run Cert.StepSbInFirstReferenceIdeal.defs _ _).mono (fun r h c => ⟨(h c).1.trans ?_, (h c).2.1.trans ?_, (h c).2.2.1.trans ?_, (h c).2.2.2.1.trans ?_, (h c).2.2.2.2⟩) (Cert.StepSbInFirstReferenceIdeal.Value.run (F := Ideal) m' g')
  · refine (Cert.StepSbInFirstReferenceIdeal.Read.val_main_v35_eq _ _ _ _).trans ?_
    rw [(hagree c).2.2.2.1, (hagree c).2.2.2.2.1, (hagree c).2.2.2.2.2.1, (hagree c).2.2.2.2.2.2.1]
  · refine (Cert.StepSbInFirstReferenceIdeal.Read.val_main_v36_eq _ _ _ _ _ _ _).trans ?_
    rw [(hagree c).1, (hagree c).2.1, (hagree c).2.2.1, (hagree c).2.2.2.1, (hagree c).2.2.2.2.1, (hagree c).2.2.2.2.2.1, (hagree c).2.2.2.2.2.2.2.1]
  · refine (Cert.StepSbInFirstReferenceIdeal.Read.val_main_v37_eq _ _ _ _ _).trans ?_
    rw [(hagree c).2.1, (hagree c).2.2.2.1, (hagree c).2.2.2.2.1, (hagree c).2.2.2.2.2.1, (hagree c).2.2.2.2.2.2.2.2.1]
  · refine (Cert.StepSbInFirstReferenceIdeal.Read.val_main_v38_eq _ _ _ _ _).trans ?_
    rw [(hagree c).2.2.1, (hagree c).2.2.2.1, (hagree c).2.2.2.2.1, (hagree c).2.2.2.2.2.1, (hagree c).2.2.2.2.2.2.2.2.2]
end Cert.Proof.StepSbInFirst

namespace Cert.Proof.StepSbOutLast
theorem frame_kernel : Cert.quiescent_StepSbOutLast := fun m ρ _ => by
  rw [show (onTc (τ := Cert.StepSbOutLast.τ) (Cert.StepSbOutLast.main (F := Bits))) = onTc (τ := Cert.StepSbOutLastIdeal.τ) (Cert.StepSbOutLastIdeal.main (F := Bits)) from
    congrArg (onTc (τ := Cert.StepSbOutLastIdeal.τ)) stepSbOutLast_main, stepSbOutLast_defs]
  exact Cert.StepSbOutLastIdeal.Gen.frame (F := Bits) m ρ (Cert.StepSbOutLastIdeal.Hand.ok _)

theorem frame_ideal : Cert.quiescent_StepSbOutLastIdeal := fun m ρ _ => Cert.StepSbOutLastIdeal.Gen.frame (F := Ideal) m ρ (Cert.StepSbOutLastIdeal.Hand.ok _)

theorem frame_reference : Cert.quiescent_StepSbOutLastReferenceIdeal := fun m ρ _ =>
  (θ_run Cert.StepSbOutLastReferenceIdeal.defs _ _).mono (fun r h => ⟨fun c => (h c).2.2.2.2, sem_eq_zero_of_no_sems (by decide) r.2⟩)
    (Cert.StepSbOutLastReferenceIdeal.Value.run (F := Ideal) m ρ)

theorem values : Cert.algebraic_StepSbOutLastIdeal_StepSbOutLastReferenceIdeal := by
  intro m g m' g' _ hagree
  have ok := Cert.StepSbOutLastIdeal.Hand.ok (Cert.StepSbOutLastIdeal.Gen.tbl m)
  refine ⟨_, _, _, _, (θ_run Cert.StepSbOutLastIdeal.defs _ _).mono (fun r h c => ⟨((h.1 c).2 Cert.StepSbOutLastIdeal.main_v1 (by decide : Cert.StepSbOutLastIdeal.main_v1 ∈ Pipeline.restRefs Cert.StepSbOutLastIdeal.sig Cert.StepSbOutLastIdeal.spec0)).trans (Cert.StepSbOutLastIdeal.Hand.final_gradient m ok c), ((h.1 c).2 Cert.StepSbOutLastIdeal.main_v2 (by decide : Cert.StepSbOutLastIdeal.main_v2 ∈ Pipeline.restRefs Cert.StepSbOutLastIdeal.sig Cert.StepSbOutLastIdeal.spec0)).trans (Cert.StepSbOutLastIdeal.Hand.final_step m ok c), ((h.1 c).2 Cert.StepSbOutLastIdeal.main_v3 (by decide : Cert.StepSbOutLastIdeal.main_v3 ∈ Pipeline.restRefs Cert.StepSbOutLastIdeal.sig Cert.StepSbOutLastIdeal.spec0)).trans (Cert.StepSbOutLastIdeal.Hand.final_mean m ok c), ((h.1 c).2 Cert.StepSbOutLastIdeal.main_v4 (by decide : Cert.StepSbOutLastIdeal.main_v4 ∈ Pipeline.restRefs Cert.StepSbOutLastIdeal.sig Cert.StepSbOutLastIdeal.spec0)).trans (Cert.StepSbOutLastIdeal.Hand.final_square m ok c), h.2 c⟩)
    (θ_run_and (Cert.StepSbOutLastIdeal.Gen.run_main m g ok) (Cert.StepSbOutLastIdeal.Gen.unchanged m g ok)), ?_⟩
  refine (θ_run Cert.StepSbOutLastReferenceIdeal.defs _ _).mono (fun r h c => ⟨(h c).1.trans ?_, (h c).2.1.trans ?_, (h c).2.2.1.trans ?_, (h c).2.2.2.1.trans ?_, (h c).2.2.2.2⟩) (Cert.StepSbOutLastReferenceIdeal.Value.run (F := Ideal) m' g')
  · refine (Cert.StepSbOutLastReferenceIdeal.Read.val_main_v32_eq _ _ _).trans ?_
    rw [(hagree c).2.2.2.1, (hagree c).2.2.2.2.1, (hagree c).2.2.2.2.2]
  · refine (Cert.StepSbOutLastReferenceIdeal.Read.val_main_v33_eq _ _ _ _ _ _).trans ?_
    rw [(hagree c).1, (hagree c).2.1, (hagree c).2.2.1, (hagree c).2.2.2.1, (hagree c).2.2.2.2.1, (hagree c).2.2.2.2.2]
  · refine (Cert.StepSbOutLastReferenceIdeal.Read.val_main_v34_eq _ _ _ _).trans ?_
    rw [(hagree c).2.1, (hagree c).2.2.2.1, (hagree c).2.2.2.2.1, (hagree c).2.2.2.2.2]
  · refine (Cert.StepSbOutLastReferenceIdeal.Read.val_main_v35_eq _ _ _ _).trans ?_
    rw [(hagree c).2.2.1, (hagree c).2.2.2.1, (hagree c).2.2.2.2.1, (hagree c).2.2.2.2.2]
end Cert.Proof.StepSbOutLast

namespace Cert.Proof.StepSbOutFirst
theorem frame_kernel : Cert.quiescent_StepSbOutFirst := fun m ρ _ => by
  rw [show (onTc (τ := Cert.StepSbOutFirst.τ) (Cert.StepSbOutFirst.main (F := Bits))) = onTc (τ := Cert.StepSbOutFirstIdeal.τ) (Cert.StepSbOutFirstIdeal.main (F := Bits)) from
    congrArg (onTc (τ := Cert.StepSbOutFirstIdeal.τ)) stepSbOutFirst_main, stepSbOutFirst_defs]
  exact Cert.StepSbOutFirstIdeal.Gen.frame (F := Bits) m ρ (Cert.StepSbOutFirstIdeal.Hand.ok _)

theorem frame_ideal : Cert.quiescent_StepSbOutFirstIdeal := fun m ρ _ => Cert.StepSbOutFirstIdeal.Gen.frame (F := Ideal) m ρ (Cert.StepSbOutFirstIdeal.Hand.ok _)

theorem frame_reference : Cert.quiescent_StepSbOutFirstReferenceIdeal := fun m ρ _ =>
  (θ_run Cert.StepSbOutFirstReferenceIdeal.defs _ _).mono (fun r h => ⟨fun c => (h c).2.2.2.2, sem_eq_zero_of_no_sems (by decide) r.2⟩)
    (Cert.StepSbOutFirstReferenceIdeal.Value.run (F := Ideal) m ρ)

theorem values : Cert.algebraic_StepSbOutFirstIdeal_StepSbOutFirstReferenceIdeal := by
  intro m g m' g' _ hagree
  have ok := Cert.StepSbOutFirstIdeal.Hand.ok (Cert.StepSbOutFirstIdeal.Gen.tbl m)
  refine ⟨_, _, _, _, (θ_run Cert.StepSbOutFirstIdeal.defs _ _).mono (fun r h c => ⟨((h.1 c).1 5).trans (Cert.StepSbOutFirstIdeal.Hand.final_gradient m ok c), ((h.1 c).1 6).trans (Cert.StepSbOutFirstIdeal.Hand.final_step m ok c), ((h.1 c).1 7).trans (Cert.StepSbOutFirstIdeal.Hand.final_mean m ok c), ((h.1 c).1 8).trans (Cert.StepSbOutFirstIdeal.Hand.final_square m ok c), h.2 c⟩)
    (θ_run_and (Cert.StepSbOutFirstIdeal.Gen.run_main m g ok) (Cert.StepSbOutFirstIdeal.Gen.unchanged m g ok)), ?_⟩
  refine (θ_run Cert.StepSbOutFirstReferenceIdeal.defs _ _).mono (fun r h c => ⟨(h c).1.trans ?_, (h c).2.1.trans ?_, (h c).2.2.1.trans ?_, (h c).2.2.2.1.trans ?_, (h c).2.2.2.2⟩) (Cert.StepSbOutFirstReferenceIdeal.Value.run (F := Ideal) m' g')
  · refine (Cert.StepSbOutFirstReferenceIdeal.Read.val_main_v35_eq _ _ _ _).trans ?_
    rw [(hagree c).2.2.2.1, (hagree c).2.2.2.2.1, (hagree c).2.2.2.2.2.1, (hagree c).2.2.2.2.2.2.1]
  · refine (Cert.StepSbOutFirstReferenceIdeal.Read.val_main_v36_eq _ _ _ _ _ _ _).trans ?_
    rw [(hagree c).1, (hagree c).2.1, (hagree c).2.2.1, (hagree c).2.2.2.1, (hagree c).2.2.2.2.1, (hagree c).2.2.2.2.2.1, (hagree c).2.2.2.2.2.2.2.1]
  · refine (Cert.StepSbOutFirstReferenceIdeal.Read.val_main_v37_eq _ _ _ _ _).trans ?_
    rw [(hagree c).2.1, (hagree c).2.2.2.1, (hagree c).2.2.2.2.1, (hagree c).2.2.2.2.2.1, (hagree c).2.2.2.2.2.2.2.2.1]
  · refine (Cert.StepSbOutFirstReferenceIdeal.Read.val_main_v38_eq _ _ _ _ _).trans ?_
    rw [(hagree c).2.2.1, (hagree c).2.2.2.1, (hagree c).2.2.2.2.1, (hagree c).2.2.2.2.2.1, (hagree c).2.2.2.2.2.2.2.2.2]
end Cert.Proof.StepSbOutFirst

namespace Cert.Proof.StepMlpLast
theorem frame_kernel : Cert.quiescent_StepMlpLast := fun m ρ _ => by
  rw [show (onTc (τ := Cert.StepMlpLast.τ) (Cert.StepMlpLast.main (F := Bits))) = onTc (τ := Cert.StepMlpLastIdeal.τ) (Cert.StepMlpLastIdeal.main (F := Bits)) from
    congrArg (onTc (τ := Cert.StepMlpLastIdeal.τ)) stepMlpLast_main, stepMlpLast_defs]
  exact Cert.StepMlpLastIdeal.Gen.frame (F := Bits) m ρ (Cert.StepMlpLastIdeal.Hand.ok _)

theorem frame_ideal : Cert.quiescent_StepMlpLastIdeal := fun m ρ _ => Cert.StepMlpLastIdeal.Gen.frame (F := Ideal) m ρ (Cert.StepMlpLastIdeal.Hand.ok _)

theorem frame_reference : Cert.quiescent_StepMlpLastReferenceIdeal := fun m ρ _ =>
  (θ_run Cert.StepMlpLastReferenceIdeal.defs _ _).mono (fun r h => ⟨fun c => (h c).2.2.2.2, sem_eq_zero_of_no_sems (by decide) r.2⟩)
    (Cert.StepMlpLastReferenceIdeal.Value.run (F := Ideal) m ρ)

theorem values : Cert.algebraic_StepMlpLastIdeal_StepMlpLastReferenceIdeal := by
  intro m g m' g' _ hagree
  have ok := Cert.StepMlpLastIdeal.Hand.ok (Cert.StepMlpLastIdeal.Gen.tbl m)
  refine ⟨_, _, _, _, (θ_run Cert.StepMlpLastIdeal.defs _ _).mono (fun r h c => ⟨((h.1 c).2 Cert.StepMlpLastIdeal.main_v1 (by decide : Cert.StepMlpLastIdeal.main_v1 ∈ Pipeline.restRefs Cert.StepMlpLastIdeal.sig Cert.StepMlpLastIdeal.spec0)).trans (Cert.StepMlpLastIdeal.Hand.final_gradient m ok c), ((h.1 c).2 Cert.StepMlpLastIdeal.main_v2 (by decide : Cert.StepMlpLastIdeal.main_v2 ∈ Pipeline.restRefs Cert.StepMlpLastIdeal.sig Cert.StepMlpLastIdeal.spec0)).trans (Cert.StepMlpLastIdeal.Hand.final_step m ok c), ((h.1 c).2 Cert.StepMlpLastIdeal.main_v3 (by decide : Cert.StepMlpLastIdeal.main_v3 ∈ Pipeline.restRefs Cert.StepMlpLastIdeal.sig Cert.StepMlpLastIdeal.spec0)).trans (Cert.StepMlpLastIdeal.Hand.final_mean m ok c), ((h.1 c).2 Cert.StepMlpLastIdeal.main_v4 (by decide : Cert.StepMlpLastIdeal.main_v4 ∈ Pipeline.restRefs Cert.StepMlpLastIdeal.sig Cert.StepMlpLastIdeal.spec0)).trans (Cert.StepMlpLastIdeal.Hand.final_square m ok c), h.2 c⟩)
    (θ_run_and (Cert.StepMlpLastIdeal.Gen.run_main m g ok) (Cert.StepMlpLastIdeal.Gen.unchanged m g ok)), ?_⟩
  refine (θ_run Cert.StepMlpLastReferenceIdeal.defs _ _).mono (fun r h c => ⟨(h c).1.trans ?_, (h c).2.1.trans ?_, (h c).2.2.1.trans ?_, (h c).2.2.2.1.trans ?_, (h c).2.2.2.2⟩) (Cert.StepMlpLastReferenceIdeal.Value.run (F := Ideal) m' g')
  · refine (Cert.StepMlpLastReferenceIdeal.Read.val_main_v32_eq _ _ _).trans ?_
    rw [(hagree c).2.2.2.1, (hagree c).2.2.2.2.1, (hagree c).2.2.2.2.2]
  · refine (Cert.StepMlpLastReferenceIdeal.Read.val_main_v33_eq _ _ _ _ _ _).trans ?_
    rw [(hagree c).1, (hagree c).2.1, (hagree c).2.2.1, (hagree c).2.2.2.1, (hagree c).2.2.2.2.1, (hagree c).2.2.2.2.2]
  · refine (Cert.StepMlpLastReferenceIdeal.Read.val_main_v34_eq _ _ _ _).trans ?_
    rw [(hagree c).2.1, (hagree c).2.2.2.1, (hagree c).2.2.2.2.1, (hagree c).2.2.2.2.2]
  · refine (Cert.StepMlpLastReferenceIdeal.Read.val_main_v35_eq _ _ _ _).trans ?_
    rw [(hagree c).2.2.1, (hagree c).2.2.2.1, (hagree c).2.2.2.2.1, (hagree c).2.2.2.2.2]
end Cert.Proof.StepMlpLast

namespace Cert.Proof.StepMlpThird
theorem frame_kernel : Cert.quiescent_StepMlpThird := fun m ρ _ => by
  rw [show (onTc (τ := Cert.StepMlpThird.τ) (Cert.StepMlpThird.main (F := Bits))) = onTc (τ := Cert.StepMlpThirdIdeal.τ) (Cert.StepMlpThirdIdeal.main (F := Bits)) from
    congrArg (onTc (τ := Cert.StepMlpThirdIdeal.τ)) stepMlpThird_main, stepMlpThird_defs]
  exact Cert.StepMlpThirdIdeal.Gen.frame (F := Bits) m ρ (Cert.StepMlpThirdIdeal.Hand.ok _)

theorem frame_ideal : Cert.quiescent_StepMlpThirdIdeal := fun m ρ _ => Cert.StepMlpThirdIdeal.Gen.frame (F := Ideal) m ρ (Cert.StepMlpThirdIdeal.Hand.ok _)

theorem frame_reference : Cert.quiescent_StepMlpThirdReferenceIdeal := fun m ρ _ =>
  (θ_run Cert.StepMlpThirdReferenceIdeal.defs _ _).mono (fun r h => ⟨fun c => (h c).2.2.2.2, sem_eq_zero_of_no_sems (by decide) r.2⟩)
    (Cert.StepMlpThirdReferenceIdeal.Value.run (F := Ideal) m ρ)

theorem values : Cert.algebraic_StepMlpThirdIdeal_StepMlpThirdReferenceIdeal := by
  intro m g m' g' _ hagree
  have ok := Cert.StepMlpThirdIdeal.Hand.ok (Cert.StepMlpThirdIdeal.Gen.tbl m)
  refine ⟨_, _, _, _, (θ_run Cert.StepMlpThirdIdeal.defs _ _).mono (fun r h c => ⟨((h.1 c).1 5).trans (Cert.StepMlpThirdIdeal.Hand.final_gradient m ok c), ((h.1 c).1 6).trans (Cert.StepMlpThirdIdeal.Hand.final_step m ok c), ((h.1 c).1 7).trans (Cert.StepMlpThirdIdeal.Hand.final_mean m ok c), ((h.1 c).1 8).trans (Cert.StepMlpThirdIdeal.Hand.final_square m ok c), h.2 c⟩)
    (θ_run_and (Cert.StepMlpThirdIdeal.Gen.run_main m g ok) (Cert.StepMlpThirdIdeal.Gen.unchanged m g ok)), ?_⟩
  refine (θ_run Cert.StepMlpThirdReferenceIdeal.defs _ _).mono (fun r h c => ⟨(h c).1.trans ?_, (h c).2.1.trans ?_, (h c).2.2.1.trans ?_, (h c).2.2.2.1.trans ?_, (h c).2.2.2.2⟩) (Cert.StepMlpThirdReferenceIdeal.Value.run (F := Ideal) m' g')
  · refine (Cert.StepMlpThirdReferenceIdeal.Read.val_main_v35_eq _ _ _ _).trans ?_
    rw [(hagree c).2.2.2.1, (hagree c).2.2.2.2.1, (hagree c).2.2.2.2.2.1, (hagree c).2.2.2.2.2.2.1]
  · refine (Cert.StepMlpThirdReferenceIdeal.Read.val_main_v36_eq _ _ _ _ _ _ _).trans ?_
    rw [(hagree c).1, (hagree c).2.1, (hagree c).2.2.1, (hagree c).2.2.2.1, (hagree c).2.2.2.2.1, (hagree c).2.2.2.2.2.1, (hagree c).2.2.2.2.2.2.2.1]
  · refine (Cert.StepMlpThirdReferenceIdeal.Read.val_main_v37_eq _ _ _ _ _).trans ?_
    rw [(hagree c).2.1, (hagree c).2.2.2.1, (hagree c).2.2.2.2.1, (hagree c).2.2.2.2.2.1, (hagree c).2.2.2.2.2.2.2.2.1]
  · refine (Cert.StepMlpThirdReferenceIdeal.Read.val_main_v38_eq _ _ _ _ _).trans ?_
    rw [(hagree c).2.2.1, (hagree c).2.2.2.1, (hagree c).2.2.2.2.1, (hagree c).2.2.2.2.2.1, (hagree c).2.2.2.2.2.2.2.2.2]
end Cert.Proof.StepMlpThird

namespace Cert.Proof.StepMlpSecond
theorem frame_kernel : Cert.quiescent_StepMlpSecond := fun m ρ _ => by
  rw [show (onTc (τ := Cert.StepMlpSecond.τ) (Cert.StepMlpSecond.main (F := Bits))) = onTc (τ := Cert.StepMlpSecondIdeal.τ) (Cert.StepMlpSecondIdeal.main (F := Bits)) from
    congrArg (onTc (τ := Cert.StepMlpSecondIdeal.τ)) stepMlpSecond_main, stepMlpSecond_defs]
  exact Cert.StepMlpSecondIdeal.Gen.frame (F := Bits) m ρ (Cert.StepMlpSecondIdeal.Hand.ok _)

theorem frame_ideal : Cert.quiescent_StepMlpSecondIdeal := fun m ρ _ => Cert.StepMlpSecondIdeal.Gen.frame (F := Ideal) m ρ (Cert.StepMlpSecondIdeal.Hand.ok _)

theorem frame_reference : Cert.quiescent_StepMlpSecondReferenceIdeal := fun m ρ _ =>
  (θ_run Cert.StepMlpSecondReferenceIdeal.defs _ _).mono (fun r h => ⟨fun c => (h c).2.2.2.2, sem_eq_zero_of_no_sems (by decide) r.2⟩)
    (Cert.StepMlpSecondReferenceIdeal.Value.run (F := Ideal) m ρ)

theorem values : Cert.algebraic_StepMlpSecondIdeal_StepMlpSecondReferenceIdeal := by
  intro m g m' g' _ hagree
  have ok := Cert.StepMlpSecondIdeal.Hand.ok (Cert.StepMlpSecondIdeal.Gen.tbl m)
  refine ⟨_, _, _, _, (θ_run Cert.StepMlpSecondIdeal.defs _ _).mono (fun r h c => ⟨((h.1 c).1 5).trans (Cert.StepMlpSecondIdeal.Hand.final_gradient m ok c), ((h.1 c).1 6).trans (Cert.StepMlpSecondIdeal.Hand.final_step m ok c), ((h.1 c).1 7).trans (Cert.StepMlpSecondIdeal.Hand.final_mean m ok c), ((h.1 c).1 8).trans (Cert.StepMlpSecondIdeal.Hand.final_square m ok c), h.2 c⟩)
    (θ_run_and (Cert.StepMlpSecondIdeal.Gen.run_main m g ok) (Cert.StepMlpSecondIdeal.Gen.unchanged m g ok)), ?_⟩
  refine (θ_run Cert.StepMlpSecondReferenceIdeal.defs _ _).mono (fun r h c => ⟨(h c).1.trans ?_, (h c).2.1.trans ?_, (h c).2.2.1.trans ?_, (h c).2.2.2.1.trans ?_, (h c).2.2.2.2⟩) (Cert.StepMlpSecondReferenceIdeal.Value.run (F := Ideal) m' g')
  · refine (Cert.StepMlpSecondReferenceIdeal.Read.val_main_v35_eq _ _ _ _).trans ?_
    rw [(hagree c).2.2.2.1, (hagree c).2.2.2.2.1, (hagree c).2.2.2.2.2.1, (hagree c).2.2.2.2.2.2.1]
  · refine (Cert.StepMlpSecondReferenceIdeal.Read.val_main_v36_eq _ _ _ _ _ _ _).trans ?_
    rw [(hagree c).1, (hagree c).2.1, (hagree c).2.2.1, (hagree c).2.2.2.1, (hagree c).2.2.2.2.1, (hagree c).2.2.2.2.2.1, (hagree c).2.2.2.2.2.2.2.1]
  · refine (Cert.StepMlpSecondReferenceIdeal.Read.val_main_v37_eq _ _ _ _ _).trans ?_
    rw [(hagree c).2.1, (hagree c).2.2.2.1, (hagree c).2.2.2.2.1, (hagree c).2.2.2.2.2.1, (hagree c).2.2.2.2.2.2.2.2.1]
  · refine (Cert.StepMlpSecondReferenceIdeal.Read.val_main_v38_eq _ _ _ _ _).trans ?_
    rw [(hagree c).2.2.1, (hagree c).2.2.2.1, (hagree c).2.2.2.2.1, (hagree c).2.2.2.2.2.1, (hagree c).2.2.2.2.2.2.2.2.2]
end Cert.Proof.StepMlpSecond

namespace Cert.Proof.StepMlpFirst
theorem frame_kernel : Cert.quiescent_StepMlpFirst := fun m ρ _ => by
  rw [show (onTc (τ := Cert.StepMlpFirst.τ) (Cert.StepMlpFirst.main (F := Bits))) = onTc (τ := Cert.StepMlpFirstIdeal.τ) (Cert.StepMlpFirstIdeal.main (F := Bits)) from
    congrArg (onTc (τ := Cert.StepMlpFirstIdeal.τ)) stepMlpFirst_main, stepMlpFirst_defs]
  exact Cert.StepMlpFirstIdeal.Gen.frame (F := Bits) m ρ (Cert.StepMlpFirstIdeal.Hand.ok _)

theorem frame_ideal : Cert.quiescent_StepMlpFirstIdeal := fun m ρ _ => Cert.StepMlpFirstIdeal.Gen.frame (F := Ideal) m ρ (Cert.StepMlpFirstIdeal.Hand.ok _)

theorem frame_reference : Cert.quiescent_StepMlpFirstReferenceIdeal := fun m ρ _ =>
  (θ_run Cert.StepMlpFirstReferenceIdeal.defs _ _).mono (fun r h => ⟨fun c => (h c).2.2.2.2, sem_eq_zero_of_no_sems (by decide) r.2⟩)
    (Cert.StepMlpFirstReferenceIdeal.Value.run (F := Ideal) m ρ)

theorem values : Cert.algebraic_StepMlpFirstIdeal_StepMlpFirstReferenceIdeal := by
  intro m g m' g' _ hagree
  have ok := Cert.StepMlpFirstIdeal.Hand.ok (Cert.StepMlpFirstIdeal.Gen.tbl m)
  refine ⟨_, _, _, _, (θ_run Cert.StepMlpFirstIdeal.defs _ _).mono (fun r h c => ⟨((h.1 c).1 5).trans (Cert.StepMlpFirstIdeal.Hand.final_gradient m ok c), ((h.1 c).1 6).trans (Cert.StepMlpFirstIdeal.Hand.final_step m ok c), ((h.1 c).1 7).trans (Cert.StepMlpFirstIdeal.Hand.final_mean m ok c), ((h.1 c).1 8).trans (Cert.StepMlpFirstIdeal.Hand.final_square m ok c), h.2 c⟩)
    (θ_run_and (Cert.StepMlpFirstIdeal.Gen.run_main m g ok) (Cert.StepMlpFirstIdeal.Gen.unchanged m g ok)), ?_⟩
  refine (θ_run Cert.StepMlpFirstReferenceIdeal.defs _ _).mono (fun r h c => ⟨(h c).1.trans ?_, (h c).2.1.trans ?_, (h c).2.2.1.trans ?_, (h c).2.2.2.1.trans ?_, (h c).2.2.2.2⟩) (Cert.StepMlpFirstReferenceIdeal.Value.run (F := Ideal) m' g')
  · refine (Cert.StepMlpFirstReferenceIdeal.Read.val_main_v35_eq _ _ _ _).trans ?_
    rw [(hagree c).2.2.2.1, (hagree c).2.2.2.2.1, (hagree c).2.2.2.2.2.1, (hagree c).2.2.2.2.2.2.1]
  · refine (Cert.StepMlpFirstReferenceIdeal.Read.val_main_v36_eq _ _ _ _ _ _ _).trans ?_
    rw [(hagree c).1, (hagree c).2.1, (hagree c).2.2.1, (hagree c).2.2.2.1, (hagree c).2.2.2.2.1, (hagree c).2.2.2.2.2.1, (hagree c).2.2.2.2.2.2.2.1]
  · refine (Cert.StepMlpFirstReferenceIdeal.Read.val_main_v37_eq _ _ _ _ _).trans ?_
    rw [(hagree c).2.1, (hagree c).2.2.2.1, (hagree c).2.2.2.2.1, (hagree c).2.2.2.2.2.1, (hagree c).2.2.2.2.2.2.2.2.1]
  · refine (Cert.StepMlpFirstReferenceIdeal.Read.val_main_v38_eq _ _ _ _ _).trans ?_
    rw [(hagree c).2.2.1, (hagree c).2.2.2.1, (hagree c).2.2.2.2.1, (hagree c).2.2.2.2.2.1, (hagree c).2.2.2.2.2.2.2.2.2]
end Cert.Proof.StepMlpFirst
end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_values
public import proofs.«01_k».proof.Proof.Gen.MlpDu
public import proofs.«01_k».proof.Proof.Gen.MlpDuIdeal
public import proofs.«01_k».proof.Proof.Gen.MlpDuIdeal.Value
public import proofs.«01_k».proof.Proof.Gen.MlpDuReferenceIdeal
public import proofs.«01_k».proof.Proof.Gen.MlpDuReferenceIdeal.Run
public import proofs.«01_k».proof.Proof.Gen.MlpDuReferenceIdeal.Read
public import proofs.«01_k».proof.Proof.Gen.MlpDh
public import proofs.«01_k».proof.Proof.Gen.MlpDhIdeal
public import proofs.«01_k».proof.Proof.Gen.MlpDhIdeal.Value
public import proofs.«01_k».proof.Proof.Gen.MlpDhReferenceIdeal
public import proofs.«01_k».proof.Proof.Gen.MlpDhReferenceIdeal.Run
public import proofs.«01_k».proof.Proof.Gen.MlpDhReferenceIdeal.Read
public import proofs.«01_k».proof.Proof.Gen.MlpDwOne
public import proofs.«01_k».proof.Proof.Gen.MlpDwOneIdeal
public import proofs.«01_k».proof.Proof.Gen.MlpDwOneIdeal.Value
public import proofs.«01_k».proof.Proof.Gen.MlpDwOneReferenceIdeal
public import proofs.«01_k».proof.Proof.Gen.MlpDwOneReferenceIdeal.Run
public import proofs.«01_k».proof.Proof.Gen.MlpDwOneReferenceIdeal.Read
public import proofs.«01_k».proof.Proof.Gen.MlpDwTwo
public import proofs.«01_k».proof.Proof.Gen.MlpDwTwoIdeal
public import proofs.«01_k».proof.Proof.Gen.MlpDwTwoIdeal.Value
public import proofs.«01_k».proof.Proof.Gen.MlpDwTwoReferenceIdeal
public import proofs.«01_k».proof.Proof.Gen.MlpDwTwoReferenceIdeal.Run
public import proofs.«01_k».proof.Proof.Gen.MlpDwTwoReferenceIdeal.Read
public import proofs.«01_k».proof.Proof.Gen.MlpUp
public import proofs.«01_k».proof.Proof.Gen.MlpUpIdeal
public import proofs.«01_k».proof.Proof.Gen.MlpUpIdeal.Value
public import proofs.«01_k».proof.Proof.Gen.MlpUpReferenceIdeal
public import proofs.«01_k».proof.Proof.Gen.MlpUpReferenceIdeal.Run
public import proofs.«01_k».proof.Proof.Gen.MlpUpReferenceIdeal.Read
public import proofs.«01_k».proof.Proof.Gen.MlpDown
public import proofs.«01_k».proof.Proof.Gen.MlpDownIdeal
public import proofs.«01_k».proof.Proof.Gen.MlpDownIdeal.Value
public import proofs.«01_k».proof.Proof.Gen.MlpDownReferenceIdeal
public import proofs.«01_k».proof.Proof.Gen.MlpDownReferenceIdeal.Run
public import proofs.«01_k».proof.Proof.Gen.MlpDownReferenceIdeal.Read
public import proofs.«01_k».proof.Proof.Gen.MixDo
public import proofs.«01_k».proof.Proof.Gen.MixDoIdeal
public import proofs.«01_k».proof.Proof.Gen.MixDoIdeal.Value
public import proofs.«01_k».proof.Proof.Gen.MixDoReferenceIdeal
public import proofs.«01_k».proof.Proof.Gen.MixDoReferenceIdeal.Run
public import proofs.«01_k».proof.Proof.Gen.MixDoReferenceIdeal.Read
public import proofs.«01_k».proof.Proof.Gen.MixDwOut
public import proofs.«01_k».proof.Proof.Gen.MixDwOutIdeal
public import proofs.«01_k».proof.Proof.Gen.MixDwOutIdeal.Value
public import proofs.«01_k».proof.Proof.Gen.MixDwOutReferenceIdeal
public import proofs.«01_k».proof.Proof.Gen.MixDwOutReferenceIdeal.Run
public import proofs.«01_k».proof.Proof.Gen.MixDwOutReferenceIdeal.Read
public import proofs.«01_k».proof.Proof.Gen.MixOut
public import proofs.«01_k».proof.Proof.Gen.MixOutIdeal
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.SbDh
public import proofs.«01_k».proof.Proof.Gen.SbDhIdeal
public import proofs.«01_k».proof.Proof.Gen.SbDhIdeal.Value
public import proofs.«01_k».proof.Proof.Gen.SbDhReferenceIdeal
public import proofs.«01_k».proof.Proof.Gen.SbDhReferenceIdeal.Run
public import proofs.«01_k».proof.Proof.Gen.SbDhReferenceIdeal.Read
public import proofs.«01_k».proof.Proof.Gen.SbDwIn
public import proofs.«01_k».proof.Proof.Gen.SbDwInIdeal
public import proofs.«01_k».proof.Proof.Gen.SbDwInIdeal.Value
public import proofs.«01_k».proof.Proof.Gen.SbDwInReferenceIdeal
public import proofs.«01_k».proof.Proof.Gen.SbDwInReferenceIdeal.Run
public import proofs.«01_k».proof.Proof.Gen.SbDwInReferenceIdeal.Read
public import proofs.«01_k».proof.Proof.Gen.SbProj
public import proofs.«01_k».proof.Proof.Gen.SbProjIdeal
public import proofs.«01_k».proof.Proof.Gen.SbProjIdeal.Value
public import proofs.«01_k».proof.Proof.Gen.SbProjReferenceIdeal
public import proofs.«01_k».proof.Proof.Gen.SbProjReferenceIdeal.Run
public import proofs.«01_k».proof.Proof.Gen.SbProjReferenceIdeal.Read
public import proofs.«01_k».proof.Proof.Gen.FoxDh
public import proofs.«01_k».proof.Proof.Gen.FoxDhIdeal
public import proofs.«01_k».proof.Proof.Gen.FoxDhIdeal.Value
public import proofs.«01_k».proof.Proof.Gen.FoxDhReferenceIdeal
public import proofs.«01_k».proof.Proof.Gen.FoxDhReferenceIdeal.Run
public import proofs.«01_k».proof.Proof.Gen.FoxDhReferenceIdeal.Read
public import proofs.«01_k».proof.Proof.Gen.FoxDwIn
public import proofs.«01_k».proof.Proof.Gen.FoxDwInIdeal
public import proofs.«01_k».proof.Proof.Gen.FoxDwInIdeal.Value
public import proofs.«01_k».proof.Proof.Gen.FoxDwInReferenceIdeal
public import proofs.«01_k».proof.Proof.Gen.FoxDwInReferenceIdeal.Run
public import proofs.«01_k».proof.Proof.Gen.FoxDwInReferenceIdeal.Read
public import proofs.«01_k».proof.Proof.Gen.FoxProj
public import proofs.«01_k».proof.Proof.Gen.FoxProjIdeal
public import proofs.«01_k».proof.Proof.Gen.FoxProjIdeal.Value
public import proofs.«01_k».proof.Proof.Gen.FoxProjReferenceIdeal
public import proofs.«01_k».proof.Proof.Gen.FoxProjReferenceIdeal.Run
public import proofs.«01_k».proof.Proof.Gen.FoxProjReferenceIdeal.Read
public import proofs.«01_k».proof.Proof.Gen.MlaDh
public import proofs.«01_k».proof.Proof.Gen.MlaDhIdeal
public import proofs.«01_k».proof.Proof.Gen.MlaDhIdeal.Value
public import proofs.«01_k».proof.Proof.Gen.MlaDhReferenceIdeal
public import proofs.«01_k».proof.Proof.Gen.MlaDhReferenceIdeal.Run
public import proofs.«01_k».proof.Proof.Gen.MlaDhReferenceIdeal.Read
public import proofs.«01_k».proof.Proof.Gen.MlaDwIn
public import proofs.«01_k».proof.Proof.Gen.MlaDwInIdeal
public import proofs.«01_k».proof.Proof.Gen.MlaDwInIdeal.Value
public import proofs.«01_k».proof.Proof.Gen.MlaDwInReferenceIdeal
public import proofs.«01_k».proof.Proof.Gen.MlaDwInReferenceIdeal.Run
public import proofs.«01_k».proof.Proof.Gen.MlaDwInReferenceIdeal.Read
public import proofs.«01_k».proof.Proof.Gen.MlaDown
public import proofs.«01_k».proof.Proof.Gen.MlaDownIdeal
public import proofs.«01_k».proof.Proof.Gen.MlaDownIdeal.Value
public import proofs.«01_k».proof.Proof.Gen.MlaDownReferenceIdeal
public import proofs.«01_k».proof.Proof.Gen.MlaDownReferenceIdeal.Run
public import proofs.«01_k».proof.Proof.Gen.MlaDownReferenceIdeal.Read
public import proofs.«01_k».proof.Proof.Gen.MlaDcQ
public import proofs.«01_k».proof.Proof.Gen.MlaDcQIdeal
public import proofs.«01_k».proof.Proof.Gen.MlaDcQIdeal.Value
public import proofs.«01_k».proof.Proof.Gen.MlaDcQReferenceIdeal
public import proofs.«01_k».proof.Proof.Gen.MlaDcQReferenceIdeal.Run
public import proofs.«01_k».proof.Proof.Gen.MlaDcQReferenceIdeal.Read
public import proofs.«01_k».proof.Proof.Gen.MlaDwUq
public import proofs.«01_k».proof.Proof.Gen.MlaDwUqIdeal
public import proofs.«01_k».proof.Proof.Gen.MlaDwUqIdeal.Value
public import proofs.«01_k».proof.Proof.Gen.MlaDwUqReferenceIdeal
public import proofs.«01_k».proof.Proof.Gen.MlaDwUqReferenceIdeal.Run
public import proofs.«01_k».proof.Proof.Gen.MlaDwUqReferenceIdeal.Read
public import proofs.«01_k».proof.Proof.Gen.MlaUq
public import proofs.«01_k».proof.Proof.Gen.MlaUqIdeal
public import proofs.«01_k».proof.Proof.Gen.MlaUqIdeal.Value
public import proofs.«01_k».proof.Proof.Gen.MlaUqReferenceIdeal
public import proofs.«01_k».proof.Proof.Gen.MlaUqReferenceIdeal.Run
public import proofs.«01_k».proof.Proof.Gen.MlaUqReferenceIdeal.Read
public import proofs.«01_k».proof.Proof.Gen.MlaDcKv
public import proofs.«01_k».proof.Proof.Gen.MlaDcKvIdeal
public import proofs.«01_k».proof.Proof.Gen.MlaDcKvIdeal.Value
public import proofs.«01_k».proof.Proof.Gen.MlaDcKvReferenceIdeal
public import proofs.«01_k».proof.Proof.Gen.MlaDcKvReferenceIdeal.Run
public import proofs.«01_k».proof.Proof.Gen.MlaDcKvReferenceIdeal.Read
public import proofs.«01_k».proof.Proof.Gen.MlaDwUkv
public import proofs.«01_k».proof.Proof.Gen.MlaDwUkvIdeal
public import proofs.«01_k».proof.Proof.Gen.MlaDwUkvIdeal.Value
public import proofs.«01_k».proof.Proof.Gen.MlaDwUkvReferenceIdeal
public import proofs.«01_k».proof.Proof.Gen.MlaDwUkvReferenceIdeal.Run
public import proofs.«01_k».proof.Proof.Gen.MlaDwUkvReferenceIdeal.Read
public import proofs.«01_k».proof.Proof.Gen.MlaUkv
public import proofs.«01_k».proof.Proof.Gen.MlaUkvIdeal
public import proofs.«01_k».proof.Proof.Gen.MlaUkvIdeal.Value
public import proofs.«01_k».proof.Proof.Gen.MlaUkvReferenceIdeal
public import proofs.«01_k».proof.Proof.Gen.MlaUkvReferenceIdeal.Run
public import proofs.«01_k».proof.Proof.Gen.MlaUkvReferenceIdeal.Read
public import proofs.«01_k».proof.Proof.Gen.StepNorm
public import proofs.«01_k».proof.Proof.Gen.StepNormIdeal
public import proofs.«01_k».proof.Proof.Gen.StepNormIdeal.Value
public import proofs.«01_k».proof.Proof.Gen.StepNormReferenceIdeal
public import proofs.«01_k».proof.Proof.Gen.StepNormReferenceIdeal.Run
public import proofs.«01_k».proof.Proof.Gen.StepNormReferenceIdeal.Read
public import proofs.«01_k».proof.Proof.Gen.StepBias
public import proofs.«01_k».proof.Proof.Gen.StepBiasIdeal
public import proofs.«01_k».proof.Proof.Gen.StepBiasIdeal.Value
public import proofs.«01_k».proof.Proof.Gen.StepBiasReferenceIdeal
public import proofs.«01_k».proof.Proof.Gen.StepBiasReferenceIdeal.Run
public import proofs.«01_k».proof.Proof.Gen.StepBiasReferenceIdeal.Read
public import proofs.«01_k».proof.Proof.Gen.StepGain
public import proofs.«01_k».proof.Proof.Gen.StepGainIdeal
public import proofs.«01_k».proof.Proof.Gen.StepGainIdeal.Value
public import proofs.«01_k».proof.Proof.Gen.StepGainReferenceIdeal
public import proofs.«01_k».proof.Proof.Gen.StepGainReferenceIdeal.Run
public import proofs.«01_k».proof.Proof.Gen.StepGainReferenceIdeal.Read
public import proofs.«01_k».proof.Proof.Gen.StepRank
public import proofs.«01_k».proof.Proof.Gen.StepRankIdeal
public import proofs.«01_k».proof.Proof.Gen.StepRankIdeal.Value
public import proofs.«01_k».proof.Proof.Gen.StepRankReferenceIdeal
public import proofs.«01_k».proof.Proof.Gen.StepRankReferenceIdeal.Run
public import proofs.«01_k».proof.Proof.Gen.StepRankReferenceIdeal.Read
public import proofs.«01_k».proof.Proof.Gen.StepOut
public import proofs.«01_k».proof.Proof.Gen.StepOutIdeal
public import proofs.«01_k».proof.Proof.Gen.StepOutReferenceIdeal
public import proofs.«01_k».proof.Proof.Gen.StepOutIdeal.Frame
public import proofs.«01_k».proof.Proof.Gen.StepOutReferenceIdeal.Run
public import proofs.«01_k».proof.Proof.Gen.StepOutReferenceIdeal.Read
public import proofs.«01_k».proof.Proof.Gen.StepIn
public import proofs.«01_k».proof.Proof.Gen.StepInIdeal
public import proofs.«01_k».proof.Proof.Gen.StepInReferenceIdeal
public import proofs.«01_k».proof.Proof.Gen.StepInIdeal.Frame
public import proofs.«01_k».proof.Proof.Gen.StepInReferenceIdeal.Run
public import proofs.«01_k».proof.Proof.Gen.StepInReferenceIdeal.Read
public import proofs.«01_k».proof.Proof.Gen.StepUq
public import proofs.«01_k».proof.Proof.Gen.StepUqIdeal
public import proofs.«01_k».proof.Proof.Gen.StepUqReferenceIdeal
public import proofs.«01_k».proof.Proof.Gen.StepUqIdeal.Frame
public import proofs.«01_k».proof.Proof.Gen.StepUqReferenceIdeal.Run
public import proofs.«01_k».proof.Proof.Gen.StepUqReferenceIdeal.Read
public import proofs.«01_k».proof.Proof.Gen.StepUkv
public import proofs.«01_k».proof.Proof.Gen.StepUkvIdeal
public import proofs.«01_k».proof.Proof.Gen.StepUkvReferenceIdeal
public import proofs.«01_k».proof.Proof.Gen.StepUkvIdeal.Frame
public import proofs.«01_k».proof.Proof.Gen.StepUkvReferenceIdeal.Run
public import proofs.«01_k».proof.Proof.Gen.StepUkvReferenceIdeal.Read
public import proofs.«01_k».proof.Proof.Gen.StepFox
public import proofs.«01_k».proof.Proof.Gen.StepFoxIdeal
public import proofs.«01_k».proof.Proof.Gen.StepFoxReferenceIdeal
public import proofs.«01_k».proof.Proof.Gen.StepFoxIdeal.Frame
public import proofs.«01_k».proof.Proof.Gen.StepFoxReferenceIdeal.Run
public import proofs.«01_k».proof.Proof.Gen.StepFoxReferenceIdeal.Read
public import proofs.«01_k».proof.Proof.Gen.StepSbInLast
public import proofs.«01_k».proof.Proof.Gen.StepSbInLastIdeal
public import proofs.«01_k».proof.Proof.Gen.StepSbInLastReferenceIdeal
public import proofs.«01_k».proof.Proof.Gen.StepSbInLastIdeal.Frame
public import proofs.«01_k».proof.Proof.Gen.StepSbInLastReferenceIdeal.Run
public import proofs.«01_k».proof.Proof.Gen.StepSbInLastReferenceIdeal.Read
public import proofs.«01_k».proof.Proof.Gen.StepSbInFirst
public import proofs.«01_k».proof.Proof.Gen.StepSbInFirstIdeal
public import proofs.«01_k».proof.Proof.Gen.StepSbInFirstReferenceIdeal
public import proofs.«01_k».proof.Proof.Gen.StepSbInFirstIdeal.Frame
public import proofs.«01_k».proof.Proof.Gen.StepSbInFirstReferenceIdeal.Run
public import proofs.«01_k».proof.Proof.Gen.StepSbInFirstReferenceIdeal.Read
public import proofs.«01_k».proof.Proof.Gen.StepSbOutLast
public import proofs.«01_k».proof.Proof.Gen.StepSbOutLastIdeal
public import proofs.«01_k».proof.Proof.Gen.StepSbOutLastReferenceIdeal
public import proofs.«01_k».proof.Proof.Gen.StepSbOutLastIdeal.Frame
public import proofs.«01_k».proof.Proof.Gen.StepSbOutLastReferenceIdeal.Run
public import proofs.«01_k».proof.Proof.Gen.StepSbOutLastReferenceIdeal.Read
public import proofs.«01_k».proof.Proof.Gen.StepSbOutFirst
public import proofs.«01_k».proof.Proof.Gen.StepSbOutFirstIdeal
public import proofs.«01_k».proof.Proof.Gen.StepSbOutFirstReferenceIdeal
public import proofs.«01_k».proof.Proof.Gen.StepSbOutFirstIdeal.Frame
public import proofs.«01_k».proof.Proof.Gen.StepSbOutFirstReferenceIdeal.Run
public import proofs.«01_k».proof.Proof.Gen.StepSbOutFirstReferenceIdeal.Read
public import proofs.«01_k».proof.Proof.Gen.StepMlpLast
public import proofs.«01_k».proof.Proof.Gen.StepMlpLastIdeal
public import proofs.«01_k».proof.Proof.Gen.StepMlpLastReferenceIdeal
public import proofs.«01_k».proof.Proof.Gen.StepMlpLastIdeal.Frame
public import proofs.«01_k».proof.Proof.Gen.StepMlpLastReferenceIdeal.Run
public import proofs.«01_k».proof.Proof.Gen.StepMlpLastReferenceIdeal.Read
public import proofs.«01_k».proof.Proof.Gen.StepMlpThird
public import proofs.«01_k».proof.Proof.Gen.StepMlpThirdIdeal
public import proofs.«01_k».proof.Proof.Gen.StepMlpThirdReferenceIdeal
public import proofs.«01_k».proof.Proof.Gen.StepMlpThirdIdeal.Frame
public import proofs.«01_k».proof.Proof.Gen.StepMlpThirdReferenceIdeal.Run
public import proofs.«01_k».proof.Proof.Gen.StepMlpThirdReferenceIdeal.Read
public import proofs.«01_k».proof.Proof.Gen.StepMlpSecond
public import proofs.«01_k».proof.Proof.Gen.StepMlpSecondIdeal
public import proofs.«01_k».proof.Proof.Gen.StepMlpSecondReferenceIdeal
public import proofs.«01_k».proof.Proof.Gen.StepMlpSecondIdeal.Frame
public import proofs.«01_k».proof.Proof.Gen.StepMlpSecondReferenceIdeal.Run
public import proofs.«01_k».proof.Proof.Gen.StepMlpSecondReferenceIdeal.Read
public import proofs.«01_k».proof.Proof.Gen.StepMlpFirst
public import proofs.«01_k».proof.Proof.Gen.StepMlpFirstIdeal
public import proofs.«01_k».proof.Proof.Gen.StepMlpFirstReferenceIdeal
public import proofs.«01_k».proof.Proof.Gen.StepMlpFirstIdeal.Frame
public import proofs.«01_k».proof.Proof.Gen.StepMlpFirstReferenceIdeal.Run
public import proofs.«01_k».proof.Proof.Gen.StepMlpFirstReferenceIdeal.Read
public import proofs.«01_k».proof.Proof.Run
public import proofs.«01_k».proof.Proof.Final
public import proofs.«01_k».proof.Proof.Same
public import proofs.«01_k».proof.Proof.ClaimMlp
public import proofs.«01_k».proof.Proof.ClaimMix
public import proofs.«01_k».proof.Proof.ClaimAtt
public import proofs.«01_k».proof.Proof.ClaimMla
public import proofs.«01_k».proof.Proof.ClaimStep
public import proofs.«01_k».proof.Proof.ClaimHalves
public import proofs.«01_k».proof.Proof.ClaimLayers
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The printed kernel's text is its idealization's: one run serves both. -/
theorem frame_kernel : Cert.quiescent_Kernel := fun m ρ _ => by
  rw [show (onTc (τ := Cert.Kernel.τ) (Cert.Kernel.main (F := Bits))) = onTc (τ := Cert.KernelIdeal.τ) (Cert.KernelIdeal.main (F := Bits)) from
    congrArg (onTc (τ := Cert.KernelIdeal.τ)) main_same, defs_same]
  exact Cert.KernelIdeal.Hand.frame (F := Bits) m ρ

theorem frame_ideal : Cert.quiescent_KernelIdeal := fun m ρ _ => Cert.KernelIdeal.Hand.frame (F := Ideal) m ρ

/-- The reference's frame: its run gives the arguments, and it has no semaphores. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference's run with its results named by the stages of its text. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v68) = Cert.ReferenceIdeal.Read.val_main_v68 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v69) = Cert.ReferenceIdeal.Read.val_main_v69 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v70) = Cert.ReferenceIdeal.Read.val_main_v70 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun r h c => ⟨(h c).1.trans (Cert.ReferenceIdeal.Read.val_main_v68_eq (StableHlo.launchContents m c)),
    (h c).2.1.trans (Cert.ReferenceIdeal.Read.val_main_v69_eq (StableHlo.launchContents m c)), (h c).2.2.1.trans (Cert.ReferenceIdeal.Read.val_main_v70_eq (StableHlo.launchContents m c)), (h c).2.2.2⟩)
    (Cert.ReferenceIdeal.Value.run (F := Ideal) m g)

/-- The three gradients: on finite values and cotangents the kernel's results are the reference's. -/
theorem values : Cert.algebraic_KernelIdeal_ReferenceIdeal_pre_finite_values := by
  intro m g m' g' hpre hagree
  refine ⟨_, _, _, Cert.KernelIdeal.Hand.run_values m g (fun c => Cert.KernelIdeal.Hand.reals_of _ _ (hpre c)), ?_⟩
  refine (θ_run Cert.ReferenceIdeal.defs _ _).mono (fun r h c => ?_) (run_reference m' g')
  have hc := h c
  have h0 := (hagree c).1
  have h1 := (hagree c).2
  rw [h0, h1] at hc
  exact ⟨hc.1, hc.2.1, hc.2.2.1, hc.2.2.2.1.trans h0.symm, hc.2.2.2.2.trans h1.symm⟩

theorem claim : Cert.Claim := ⟨Cert.Kernel.Gen.facts, Cert.KernelIdeal.Gen.facts, Cert.ReferenceIdeal.Gen.facts,
  Cert.MlpDu.Gen.facts, Cert.MlpDuIdeal.Gen.facts, Cert.MlpDuReferenceIdeal.Gen.facts,
  Cert.MlpDh.Gen.facts, Cert.MlpDhIdeal.Gen.facts, Cert.MlpDhReferenceIdeal.Gen.facts,
  Cert.MlpDwOne.Gen.facts, Cert.MlpDwOneIdeal.Gen.facts, Cert.MlpDwOneReferenceIdeal.Gen.facts,
  Cert.MlpDwTwo.Gen.facts, Cert.MlpDwTwoIdeal.Gen.facts, Cert.MlpDwTwoReferenceIdeal.Gen.facts,
  Cert.MlpUp.Gen.facts, Cert.MlpUpIdeal.Gen.facts, Cert.MlpUpReferenceIdeal.Gen.facts,
  Cert.MlpDown.Gen.facts, Cert.MlpDownIdeal.Gen.facts, Cert.MlpDownReferenceIdeal.Gen.facts,
  Cert.MixDo.Gen.facts, Cert.MixDoIdeal.Gen.facts, Cert.MixDoReferenceIdeal.Gen.facts,
  Cert.MixDwOut.Gen.facts, Cert.MixDwOutIdeal.Gen.facts, Cert.MixDwOutReferenceIdeal.Gen.facts,
  Cert.MixOut.Gen.facts, Cert.MixOutIdeal.Gen.facts, Cert.MixOutReferenceIdeal.Gen.facts,
  Cert.SbDh.Gen.facts, Cert.SbDhIdeal.Gen.facts, Cert.SbDhReferenceIdeal.Gen.facts,
  Cert.SbDwIn.Gen.facts, Cert.SbDwInIdeal.Gen.facts, Cert.SbDwInReferenceIdeal.Gen.facts,
  Cert.SbProj.Gen.facts, Cert.SbProjIdeal.Gen.facts, Cert.SbProjReferenceIdeal.Gen.facts,
  Cert.FoxDh.Gen.facts, Cert.FoxDhIdeal.Gen.facts, Cert.FoxDhReferenceIdeal.Gen.facts,
  Cert.FoxDwIn.Gen.facts, Cert.FoxDwInIdeal.Gen.facts, Cert.FoxDwInReferenceIdeal.Gen.facts,
  Cert.FoxProj.Gen.facts, Cert.FoxProjIdeal.Gen.facts, Cert.FoxProjReferenceIdeal.Gen.facts,
  Cert.MlaDh.Gen.facts, Cert.MlaDhIdeal.Gen.facts, Cert.MlaDhReferenceIdeal.Gen.facts,
  Cert.MlaDwIn.Gen.facts, Cert.MlaDwInIdeal.Gen.facts, Cert.MlaDwInReferenceIdeal.Gen.facts,
  Cert.MlaDown.Gen.facts, Cert.MlaDownIdeal.Gen.facts, Cert.MlaDownReferenceIdeal.Gen.facts,
  Cert.MlaDcQ.Gen.facts, Cert.MlaDcQIdeal.Gen.facts, Cert.MlaDcQReferenceIdeal.Gen.facts,
  Cert.MlaDwUq.Gen.facts, Cert.MlaDwUqIdeal.Gen.facts, Cert.MlaDwUqReferenceIdeal.Gen.facts,
  Cert.MlaUq.Gen.facts, Cert.MlaUqIdeal.Gen.facts, Cert.MlaUqReferenceIdeal.Gen.facts,
  Cert.MlaDcKv.Gen.facts, Cert.MlaDcKvIdeal.Gen.facts, Cert.MlaDcKvReferenceIdeal.Gen.facts,
  Cert.MlaDwUkv.Gen.facts, Cert.MlaDwUkvIdeal.Gen.facts, Cert.MlaDwUkvReferenceIdeal.Gen.facts,
  Cert.MlaUkv.Gen.facts, Cert.MlaUkvIdeal.Gen.facts, Cert.MlaUkvReferenceIdeal.Gen.facts,
  Cert.StepNorm.Gen.facts, Cert.StepNormIdeal.Gen.facts, Cert.StepNormReferenceIdeal.Gen.facts,
  Cert.StepBias.Gen.facts, Cert.StepBiasIdeal.Gen.facts, Cert.StepBiasReferenceIdeal.Gen.facts,
  Cert.StepGain.Gen.facts, Cert.StepGainIdeal.Gen.facts, Cert.StepGainReferenceIdeal.Gen.facts,
  Cert.StepRank.Gen.facts, Cert.StepRankIdeal.Gen.facts, Cert.StepRankReferenceIdeal.Gen.facts,
  Cert.StepOut.Gen.facts, Cert.StepOutIdeal.Gen.facts, Cert.StepOutReferenceIdeal.Gen.facts,
  Cert.StepIn.Gen.facts, Cert.StepInIdeal.Gen.facts, Cert.StepInReferenceIdeal.Gen.facts,
  Cert.StepUq.Gen.facts, Cert.StepUqIdeal.Gen.facts, Cert.StepUqReferenceIdeal.Gen.facts,
  Cert.StepUkv.Gen.facts, Cert.StepUkvIdeal.Gen.facts, Cert.StepUkvReferenceIdeal.Gen.facts,
  Cert.StepFox.Gen.facts, Cert.StepFoxIdeal.Gen.facts, Cert.StepFoxReferenceIdeal.Gen.facts,
  Cert.StepSbInLast.Gen.facts, Cert.StepSbInLastIdeal.Gen.facts, Cert.StepSbInLastReferenceIdeal.Gen.facts,
  Cert.StepSbInFirst.Gen.facts, Cert.StepSbInFirstIdeal.Gen.facts, Cert.StepSbInFirstReferenceIdeal.Gen.facts,
  Cert.StepSbOutLast.Gen.facts, Cert.StepSbOutLastIdeal.Gen.facts, Cert.StepSbOutLastReferenceIdeal.Gen.facts,
  Cert.StepSbOutFirst.Gen.facts, Cert.StepSbOutFirstIdeal.Gen.facts, Cert.StepSbOutFirstReferenceIdeal.Gen.facts,
  Cert.StepMlpLast.Gen.facts, Cert.StepMlpLastIdeal.Gen.facts, Cert.StepMlpLastReferenceIdeal.Gen.facts,
  Cert.StepMlpThird.Gen.facts, Cert.StepMlpThirdIdeal.Gen.facts, Cert.StepMlpThirdReferenceIdeal.Gen.facts,
  Cert.StepMlpSecond.Gen.facts, Cert.StepMlpSecondIdeal.Gen.facts, Cert.StepMlpSecondReferenceIdeal.Gen.facts,
  Cert.StepMlpFirst.Gen.facts, Cert.StepMlpFirstIdeal.Gen.facts, Cert.StepMlpFirstReferenceIdeal.Gen.facts,
  Cert.Pre_finite_values.Gen.facts,
  frame_kernel, frame_ideal, fun m g _ => frame_ideal m g trivial, frame_reference, fun m g _ => frame_reference m g trivial,
  MlpDu.frame_kernel, MlpDu.frame_ideal, MlpDu.frame_reference,
  MlpDh.frame_kernel, MlpDh.frame_ideal, MlpDh.frame_reference,
  MlpDwOne.frame_kernel, MlpDwOne.frame_ideal, MlpDwOne.frame_reference,
  MlpDwTwo.frame_kernel, MlpDwTwo.frame_ideal, MlpDwTwo.frame_reference,
  MlpUp.frame_kernel, MlpUp.frame_ideal, MlpUp.frame_reference,
  MlpDown.frame_kernel, MlpDown.frame_ideal, MlpDown.frame_reference,
  MixDo.frame_kernel, MixDo.frame_ideal, MixDo.frame_reference,
  MixDwOut.frame_kernel, MixDwOut.frame_ideal, MixDwOut.frame_reference,
  MixOut.frame_kernel, MixOut.frame_ideal, MixOut.frame_reference,
  SbDh.frame_kernel, SbDh.frame_ideal, SbDh.frame_reference,
  SbDwIn.frame_kernel, SbDwIn.frame_ideal, SbDwIn.frame_reference,
  SbProj.frame_kernel, SbProj.frame_ideal, SbProj.frame_reference,
  FoxDh.frame_kernel, FoxDh.frame_ideal, FoxDh.frame_reference,
  FoxDwIn.frame_kernel, FoxDwIn.frame_ideal, FoxDwIn.frame_reference,
  FoxProj.frame_kernel, FoxProj.frame_ideal, FoxProj.frame_reference,
  MlaDh.frame_kernel, MlaDh.frame_ideal, MlaDh.frame_reference,
  MlaDwIn.frame_kernel, MlaDwIn.frame_ideal, MlaDwIn.frame_reference,
  MlaDown.frame_kernel, MlaDown.frame_ideal, MlaDown.frame_reference,
  MlaDcQ.frame_kernel, MlaDcQ.frame_ideal, MlaDcQ.frame_reference,
  MlaDwUq.frame_kernel, MlaDwUq.frame_ideal, MlaDwUq.frame_reference,
  MlaUq.frame_kernel, MlaUq.frame_ideal, MlaUq.frame_reference,
  MlaDcKv.frame_kernel, MlaDcKv.frame_ideal, MlaDcKv.frame_reference,
  MlaDwUkv.frame_kernel, MlaDwUkv.frame_ideal, MlaDwUkv.frame_reference,
  MlaUkv.frame_kernel, MlaUkv.frame_ideal, MlaUkv.frame_reference,
  StepNorm.frame_kernel, StepNorm.frame_ideal, StepNorm.frame_reference,
  StepBias.frame_kernel, StepBias.frame_ideal, StepBias.frame_reference,
  StepGain.frame_kernel, StepGain.frame_ideal, StepGain.frame_reference,
  StepRank.frame_kernel, StepRank.frame_ideal, StepRank.frame_reference,
  StepOut.frame_kernel, StepOut.frame_ideal, StepOut.frame_reference,
  StepIn.frame_kernel, StepIn.frame_ideal, StepIn.frame_reference,
  StepUq.frame_kernel, StepUq.frame_ideal, StepUq.frame_reference,
  StepUkv.frame_kernel, StepUkv.frame_ideal, StepUkv.frame_reference,
  StepFox.frame_kernel, StepFox.frame_ideal, StepFox.frame_reference,
  StepSbInLast.frame_kernel, StepSbInLast.frame_ideal, StepSbInLast.frame_reference,
  StepSbInFirst.frame_kernel, StepSbInFirst.frame_ideal, StepSbInFirst.frame_reference,
  StepSbOutLast.frame_kernel, StepSbOutLast.frame_ideal, StepSbOutLast.frame_reference,
  StepSbOutFirst.frame_kernel, StepSbOutFirst.frame_ideal, StepSbOutFirst.frame_reference,
  StepMlpLast.frame_kernel, StepMlpLast.frame_ideal, StepMlpLast.frame_reference,
  StepMlpThird.frame_kernel, StepMlpThird.frame_ideal, StepMlpThird.frame_reference,
  StepMlpSecond.frame_kernel, StepMlpSecond.frame_ideal, StepMlpSecond.frame_reference,
  StepMlpFirst.frame_kernel, StepMlpFirst.frame_ideal, StepMlpFirst.frame_reference,
  trivial, values,
  trivial, MlpDu.values,
  trivial, MlpDh.values,
  trivial, MlpDwOne.values,
  trivial, MlpDwTwo.values,
  trivial, MlpUp.values,
  trivial, MlpDown.values,
  trivial, MixDo.values,
  trivial, MixDwOut.values,
  trivial, MixOut.values,
  trivial, SbDh.values,
  trivial, SbDwIn.values,
  trivial, SbProj.values,
  trivial, FoxDh.values,
  trivial, FoxDwIn.values,
  trivial, FoxProj.values,
  trivial, MlaDh.values,
  trivial, MlaDwIn.values,
  trivial, MlaDown.values,
  trivial, MlaDcQ.values,
  trivial, MlaDwUq.values,
  trivial, MlaUq.values,
  trivial, MlaDcKv.values,
  trivial, MlaDwUkv.values,
  trivial, MlaUkv.values,
  trivial, StepNorm.values,
  trivial, StepBias.values,
  trivial, StepGain.values,
  trivial, StepRank.values,
  trivial, StepOut.values,
  trivial, StepIn.values,
  trivial, StepUq.values,
  trivial, StepUkv.values,
  trivial, StepFox.values,
  trivial, StepSbInLast.values,
  trivial, StepSbInFirst.values,
  trivial, StepSbOutLast.values,
  trivial, StepSbOutFirst.values,
  trivial, StepMlpLast.values,
  trivial, StepMlpThird.values,
  trivial, StepMlpSecond.values,
  trivial, StepMlpFirst.values⟩

end Cert.Proof

end
